-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2.2 = (fun _ => 1#1)

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInIdeal_nonneg [hPre_nonneg : Cert.Pre_nonneg.Facts] (m : (ℓ : Loc Cert.FfnInIdeal.nD Cert.FfnInIdeal.τ Cert.FfnInIdeal.sig) → Buf (Elt Ideal) ℓ) : Prop :=
  ∀ c : Dev Cert.FfnInIdeal.nD,
    (Cert.Pre_nonneg.fn (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) (m ((c.tc : Thread Cert.FfnInIdeal.nD Cert.FfnInIdeal.τ).loc Cert.FfnInIdeal.main_arg5))) = (fun _ => 1#1)

def Pre_FfnInRefIdeal (m : (ℓ : Loc Cert.FfnInRefIdeal.nD Cert.FfnInRefIdeal.τ Cert.FfnInRefIdeal.sig) → Buf (Elt Ideal) ℓ) : Prop :=
  True

def Pre_FfnInRefIdeal_nonneg [hPre_nonneg : Cert.Pre_nonneg.Facts] (m : (ℓ : Loc Cert.FfnInRefIdeal.nD Cert.FfnInRefIdeal.τ Cert.FfnInRefIdeal.sig) → Buf (Elt Ideal) ℓ) : Prop :=
  ∀ c : Dev Cert.FfnInRefIdeal.nD,
    (Cert.Pre_nonneg.fn (F := Ideal) (m ((c.tc : Thread Cert.FfnInRefIdeal.nD Cert.FfnInRefIdeal.τ).loc Cert.FfnInRefIdeal.main_arg0)) (m ((c.tc : Thread Cert.FfnInRefIdeal.nD Cert.FfnInRefIdeal.τ).loc Cert.FfnInRefIdeal.main_arg1)) (m ((c.tc : Thread Cert.FfnInRefIdeal.nD Cert.FfnInRefIdeal.τ).loc Cert.FfnInRefIdeal.main_arg2)) (m ((c.tc : Thread Cert.FfnInRefIdeal.nD Cert.FfnInRefIdeal.τ).loc Cert.FfnInRefIdeal.main_arg3)) (m ((c.tc : Thread Cert.FfnInRefIdeal.nD Cert.FfnInRefIdeal.τ).loc Cert.FfnInRefIdeal.main_arg4)) (m ((c.tc : Thread Cert.FfnInRefIdeal.nD Cert.FfnInRefIdeal.τ).loc Cert.FfnInRefIdeal.main_arg5))) = (fun _ => 1#1)

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjIdeal_nonneg_in [hPre_nonneg_in : Cert.Pre_nonneg_in.Facts] (m : (ℓ : Loc Cert.InProjIdeal.nD Cert.InProjIdeal.τ Cert.InProjIdeal.sig) → Buf (Elt Ideal) ℓ) : Prop :=
  ∀ c : Dev Cert.InProjIdeal.nD,
    (Cert.Pre_nonneg_in.fn (F := Ideal) (m ((c.tc : Thread Cert.InProjIdeal.nD Cert.InProjIdeal.τ).loc Cert.InProjIdeal.main_arg0)) (m ((c.tc : Thread Cert.InProjIdeal.nD Cert.InProjIdeal.τ).loc Cert.InProjIdeal.main_arg1)) (m ((c.tc : Thread Cert.InProjIdeal.nD Cert.InProjIdeal.τ).loc Cert.InProjIdeal.main_arg2)) (m ((c.tc : Thread Cert.InProjIdeal.nD Cert.InProjIdeal.τ).loc Cert.InProjIdeal.main_arg3))) = (fun _ => 1#1)

def Pre_InProjRefIdeal (m : (ℓ : Loc Cert.InProjRefIdeal.nD Cert.InProjRefIdeal.τ Cert.InProjRefIdeal.sig) → Buf (Elt Ideal) ℓ) : Prop :=
  True

def Pre_InProjRefIdeal_nonneg_in [hPre_nonneg_in : Cert.Pre_nonneg_in.Facts] (m : (ℓ : Loc Cert.InProjRefIdeal.nD Cert.InProjRefIdeal.τ Cert.InProjRefIdeal.sig) → Buf (Elt Ideal) ℓ) : Prop :=
  ∀ c : Dev Cert.InProjRefIdeal.nD,
    (Cert.Pre_nonneg_in.fn (F := Ideal) (m ((c.tc : Thread Cert.InProjRefIdeal.nD Cert.InProjRefIdeal.τ).loc Cert.InProjRefIdeal.main_arg0)) (m ((c.tc : Thread Cert.InProjRefIdeal.nD Cert.InProjRefIdeal.τ).loc Cert.InProjRefIdeal.main_arg1)) (m ((c.tc : Thread Cert.InProjRefIdeal.nD Cert.InProjRefIdeal.τ).loc Cert.InProjRefIdeal.main_arg2)) (m ((c.tc : Thread Cert.InProjRefIdeal.nD Cert.InProjRefIdeal.τ).loc Cert.InProjRefIdeal.main_arg3))) = (fun _ => 1#1)

def Pre_MixOut (m : (ℓ : Loc Cert.MixOut.nD Cert.MixOut.τ Cert.MixOut.sig) → Buf (Elt Bits) ℓ) : Prop :=
  True

def Pre_MixOutIdeal (m : (ℓ : Loc Cert.MixOutIdeal.nD Cert.MixOutIdeal.τ Cert.MixOutIdeal.sig) → Buf (Elt Ideal) ℓ) : Prop :=
  True

def Pre_MixOutRefIdeal (m : (ℓ : Loc Cert.MixOutRefIdeal.nD Cert.MixOutRefIdeal.τ Cert.MixOutRefIdeal.sig) → Buf (Elt Ideal) ℓ) : Prop :=
  True

def Pre_FinalNorm (m : (ℓ : Loc Cert.FinalNorm.nD Cert.FinalNorm.τ Cert.FinalNorm.sig) → Buf (Elt Bits) ℓ) : Prop :=
  True

def Pre_FinalNormIdeal (m : (ℓ : Loc Cert.FinalNormIdeal.nD Cert.FinalNormIdeal.τ Cert.FinalNormIdeal.sig) → Buf (Elt Ideal) ℓ) : Prop :=
  True

def Pre_FinalNormRefIdeal (m : (ℓ : Loc Cert.FinalNormRefIdeal.nD Cert.FinalNormRefIdeal.τ Cert.FinalNormRefIdeal.sig) → Buf (Elt Ideal) ℓ) : Prop :=
  True

def Pre_ResPrep (m : (ℓ : Loc Cert.ResPrep.nD Cert.ResPrep.τ Cert.ResPrep.sig) → Buf (Elt Bits) ℓ) : Prop :=
  True

def Pre_ResPrepIdeal (m : (ℓ : Loc Cert.ResPrepIdeal.nD Cert.ResPrepIdeal.τ Cert.ResPrepIdeal.sig) → Buf (Elt Ideal) ℓ) : Prop :=
  True

def Pre_ResPrepRefIdeal (m : (ℓ : Loc Cert.ResPrepRefIdeal.nD Cert.ResPrepRefIdeal.τ Cert.ResPrepRefIdeal.sig) → Buf (Elt Ideal) ℓ) : Prop :=
  True

def Pre_FfnPrep (m : (ℓ : Loc Cert.FfnPrep.nD Cert.FfnPrep.τ Cert.FfnPrep.sig) → Buf (Elt Bits) ℓ) : Prop :=
  True

def Pre_FfnPrepIdeal (m : (ℓ : Loc Cert.FfnPrepIdeal.nD Cert.FfnPrepIdeal.τ Cert.FfnPrepIdeal.sig) → Buf (Elt Ideal) ℓ) : Prop :=
  True

def Pre_FfnPrepRefIdeal (m : (ℓ : Loc Cert.FfnPrepRefIdeal.nD Cert.FfnPrepRefIdeal.τ Cert.FfnPrepRefIdeal.sig) → Buf (Elt Ideal) ℓ) : Prop :=
  True

def Pre_InPrep (m : (ℓ : Loc Cert.InPrep.nD Cert.InPrep.τ Cert.InPrep.sig) → Buf (Elt Bits) ℓ) : Prop :=
  True

def Pre_InPrepIdeal (m : (ℓ : Loc Cert.InPrepIdeal.nD Cert.InPrepIdeal.τ Cert.InPrepIdeal.sig) → Buf (Elt Ideal) ℓ) : Prop :=
  True

def Pre_InPrepRefIdeal (m : (ℓ : Loc Cert.InPrepRefIdeal.nD Cert.InPrepRefIdeal.τ Cert.InPrepRefIdeal.sig) → Buf (Elt Ideal) ℓ) : Prop :=
  True

def Pre_Conf (m : (ℓ : Loc Cert.Conf.nD Cert.Conf.τ Cert.Conf.sig) → Buf (Elt Bits) ℓ) : Prop :=
  True

def Pre_ConfIdeal (m : (ℓ : Loc Cert.ConfIdeal.nD Cert.ConfIdeal.τ Cert.ConfIdeal.sig) → Buf (Elt Ideal) ℓ) : Prop :=
  True

def Pre_ConfRefIdeal (m : (ℓ : Loc Cert.ConfRefIdeal.nD Cert.ConfRefIdeal.τ Cert.ConfRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1)
      ∧ r.2.mem ((c.tc : Thread Cert.FfnIn.nD Cert.FfnIn.τ).loc Cert.FfnIn.main_arg2) = m ((c.tc : Thread Cert.FfnIn.nD Cert.FfnIn.τ).loc Cert.FfnIn.main_arg2)
      ∧ r.2.mem ((c.tc : Thread Cert.FfnIn.nD Cert.FfnIn.τ).loc Cert.FfnIn.main_arg3) = m ((c.tc : Thread Cert.FfnIn.nD Cert.FfnIn.τ).loc Cert.FfnIn.main_arg3)
      ∧ r.2.mem ((c.tc : Thread Cert.FfnIn.nD Cert.FfnIn.τ).loc Cert.FfnIn.main_arg4) = m ((c.tc : Thread Cert.FfnIn.nD Cert.FfnIn.τ).loc Cert.FfnIn.main_arg4)
      ∧ r.2.mem ((c.tc : Thread Cert.FfnIn.nD Cert.FfnIn.τ).loc Cert.FfnIn.main_arg5) = m ((c.tc : Thread Cert.FfnIn.nD Cert.FfnIn.τ).loc Cert.FfnIn.main_arg5))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5))
      ∧ r.2.sem = fun _ => 0)

def quiescent_FfnInIdeal_pre_nonneg [hFfnInIdeal : Cert.FfnInIdeal.Facts] [hPre_nonneg : Cert.Pre_nonneg.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal_nonneg m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
      ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
      ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
      ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
      ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5))
      ∧ r.2.sem = fun _ => 0)

def quiescent_FfnInRefIdeal_pre_nonneg [hFfnInRefIdeal : Cert.FfnInRefIdeal.Facts] [hPre_nonneg : Cert.Pre_nonneg.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal_nonneg m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1)
      ∧ r.2.mem ((c.tc : Thread Cert.FfnInRefIdeal.nD Cert.FfnInRefIdeal.τ).loc Cert.FfnInRefIdeal.main_arg2) = m ((c.tc : Thread Cert.FfnInRefIdeal.nD Cert.FfnInRefIdeal.τ).loc Cert.FfnInRefIdeal.main_arg2)
      ∧ r.2.mem ((c.tc : Thread Cert.FfnInRefIdeal.nD Cert.FfnInRefIdeal.τ).loc Cert.FfnInRefIdeal.main_arg3) = m ((c.tc : Thread Cert.FfnInRefIdeal.nD Cert.FfnInRefIdeal.τ).loc Cert.FfnInRefIdeal.main_arg3)
      ∧ r.2.mem ((c.tc : Thread Cert.FfnInRefIdeal.nD Cert.FfnInRefIdeal.τ).loc Cert.FfnInRefIdeal.main_arg4) = m ((c.tc : Thread Cert.FfnInRefIdeal.nD Cert.FfnInRefIdeal.τ).loc Cert.FfnInRefIdeal.main_arg4)
      ∧ r.2.mem ((c.tc : Thread Cert.FfnInRefIdeal.nD Cert.FfnInRefIdeal.τ).loc Cert.FfnInRefIdeal.main_arg5) = m ((c.tc : Thread Cert.FfnInRefIdeal.nD Cert.FfnInRefIdeal.τ).loc Cert.FfnInRefIdeal.main_arg5))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1)
      ∧ r.2.mem ((c.tc : Thread Cert.FfnOut.nD Cert.FfnOut.τ).loc Cert.FfnOut.main_arg2) = m ((c.tc : Thread Cert.FfnOut.nD Cert.FfnOut.τ).loc Cert.FfnOut.main_arg2))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
      ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1)
      ∧ r.2.mem ((c.tc : Thread Cert.FfnOutRefIdeal.nD Cert.FfnOutRefIdeal.τ).loc Cert.FfnOutRefIdeal.main_arg2) = m ((c.tc : Thread Cert.FfnOutRefIdeal.nD Cert.FfnOutRefIdeal.τ).loc Cert.FfnOutRefIdeal.main_arg2))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjIdeal_pre_nonneg_in [hInProjIdeal : Cert.InProjIdeal.Facts] [hPre_nonneg_in : Cert.Pre_nonneg_in.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal_nonneg_in m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_InProjRefIdeal_pre_nonneg_in [hInProjRefIdeal : Cert.InProjRefIdeal.Facts] [hPre_nonneg_in : Cert.Pre_nonneg_in.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal_nonneg_in m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3))
      ∧ r.2.sem = fun _ => 0)

def quiescent_MixOut [hMixOut : Cert.MixOut.Facts] : Prop :=
  ∀ (m : (ℓ : Loc Cert.MixOut.nD Cert.MixOut.τ Cert.MixOut.sig) → Buf (Elt Bits) ℓ) (g : Dev Cert.MixOut.nD → PrngReg), Pre_MixOut m →
    θ_run (Cert.MixOut.defs (F := Bits)) (onTc (τ := Cert.MixOut.τ) (Cert.MixOut.main (F := Bits))) ⟨m, fun _ => 0, g⟩ (fun r => (∀ c : Dev Cert.MixOut.nD,
      r.2.mem ((c.tc : Thread Cert.MixOut.nD Cert.MixOut.τ).loc Cert.MixOut.main_arg0) = m ((c.tc : Thread Cert.MixOut.nD Cert.MixOut.τ).loc Cert.MixOut.main_arg0)
      ∧ r.2.mem ((c.tc : Thread Cert.MixOut.nD Cert.MixOut.τ).loc Cert.MixOut.main_arg1) = m ((c.tc : Thread Cert.MixOut.nD Cert.MixOut.τ).loc Cert.MixOut.main_arg1)
      ∧ r.2.mem ((c.tc : Thread Cert.MixOut.nD Cert.MixOut.τ).loc Cert.MixOut.main_arg2) = m ((c.tc : Thread Cert.MixOut.nD Cert.MixOut.τ).loc Cert.MixOut.main_arg2)
      ∧ r.2.mem ((c.tc : Thread Cert.MixOut.nD Cert.MixOut.τ).loc Cert.MixOut.main_arg3) = m ((c.tc : Thread Cert.MixOut.nD Cert.MixOut.τ).loc Cert.MixOut.main_arg3)
      ∧ r.2.mem ((c.tc : Thread Cert.MixOut.nD Cert.MixOut.τ).loc Cert.MixOut.main_arg4) = m ((c.tc : Thread Cert.MixOut.nD Cert.MixOut.τ).loc Cert.MixOut.main_arg4))
      ∧ r.2.sem = fun _ => 0)

def quiescent_MixOutIdeal [hMixOutIdeal : Cert.MixOutIdeal.Facts] : Prop :=
  ∀ (m : (ℓ : Loc Cert.MixOutIdeal.nD Cert.MixOutIdeal.τ Cert.MixOutIdeal.sig) → Buf (Elt Ideal) ℓ) (g : Dev Cert.MixOutIdeal.nD → PrngReg), Pre_MixOutIdeal m →
    θ_run (Cert.MixOutIdeal.defs (F := Ideal)) (onTc (τ := Cert.MixOutIdeal.τ) (Cert.MixOutIdeal.main (F := Ideal))) ⟨m, fun _ => 0, g⟩ (fun r => (∀ c : Dev Cert.MixOutIdeal.nD,
      r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
      ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
      ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
      ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
      ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ r.2.sem = fun _ => 0)

def quiescent_MixOutRefIdeal [hMixOutRefIdeal : Cert.MixOutRefIdeal.Facts] : Prop :=
  ∀ (m : (ℓ : Loc Cert.MixOutRefIdeal.nD Cert.MixOutRefIdeal.τ Cert.MixOutRefIdeal.sig) → Buf (Elt Ideal) ℓ) (g : Dev Cert.MixOutRefIdeal.nD → PrngReg), Pre_MixOutRefIdeal m →
    θ_run (Cert.MixOutRefIdeal.defs (F := Ideal)) (onTc (τ := Cert.MixOutRefIdeal.τ) (Cert.MixOutRefIdeal.main (F := Ideal))) ⟨m, fun _ => 0, g⟩ (fun r => (∀ c : Dev Cert.MixOutRefIdeal.nD,
      r.2.mem ((c.tc : Thread Cert.MixOutRefIdeal.nD Cert.MixOutRefIdeal.τ).loc Cert.MixOutRefIdeal.main_arg0) = m ((c.tc : Thread Cert.MixOutRefIdeal.nD Cert.MixOutRefIdeal.τ).loc Cert.MixOutRefIdeal.main_arg0)
      ∧ r.2.mem ((c.tc : Thread Cert.MixOutRefIdeal.nD Cert.MixOutRefIdeal.τ).loc Cert.MixOutRefIdeal.main_arg1) = m ((c.tc : Thread Cert.MixOutRefIdeal.nD Cert.MixOutRefIdeal.τ).loc Cert.MixOutRefIdeal.main_arg1)
      ∧ r.2.mem ((c.tc : Thread Cert.MixOutRefIdeal.nD Cert.MixOutRefIdeal.τ).loc Cert.MixOutRefIdeal.main_arg2) = m ((c.tc : Thread Cert.MixOutRefIdeal.nD Cert.MixOutRefIdeal.τ).loc Cert.MixOutRefIdeal.main_arg2)
      ∧ r.2.mem ((c.tc : Thread Cert.MixOutRefIdeal.nD Cert.MixOutRefIdeal.τ).loc Cert.MixOutRefIdeal.main_arg3) = m ((c.tc : Thread Cert.MixOutRefIdeal.nD Cert.MixOutRefIdeal.τ).loc Cert.MixOutRefIdeal.main_arg3)
      ∧ r.2.mem ((c.tc : Thread Cert.MixOutRefIdeal.nD Cert.MixOutRefIdeal.τ).loc Cert.MixOutRefIdeal.main_arg4) = m ((c.tc : Thread Cert.MixOutRefIdeal.nD Cert.MixOutRefIdeal.τ).loc Cert.MixOutRefIdeal.main_arg4))
      ∧ r.2.sem = fun _ => 0)

def quiescent_FinalNorm [hFinalNorm : Cert.FinalNorm.Facts] : Prop :=
  ∀ (m : (ℓ : Loc Cert.FinalNorm.nD Cert.FinalNorm.τ Cert.FinalNorm.sig) → Buf (Elt Bits) ℓ) (g : Dev Cert.FinalNorm.nD → PrngReg), Pre_FinalNorm m →
    θ_run (Cert.FinalNorm.defs (F := Bits)) (onTc (τ := Cert.FinalNorm.τ) (Cert.FinalNorm.main (F := Bits))) ⟨m, fun _ => 0, g⟩ (fun r => (∀ c : Dev Cert.FinalNorm.nD,
      r.2.mem ((c.tc : Thread Cert.FinalNorm.nD Cert.FinalNorm.τ).loc Cert.FinalNorm.main_arg0) = m ((c.tc : Thread Cert.FinalNorm.nD Cert.FinalNorm.τ).loc Cert.FinalNorm.main_arg0)
      ∧ r.2.mem ((c.tc : Thread Cert.FinalNorm.nD Cert.FinalNorm.τ).loc Cert.FinalNorm.main_arg1) = m ((c.tc : Thread Cert.FinalNorm.nD Cert.FinalNorm.τ).loc Cert.FinalNorm.main_arg1))
      ∧ r.2.sem = fun _ => 0)

def quiescent_FinalNormIdeal [hFinalNormIdeal : Cert.FinalNormIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg), Pre_FinalNormIdeal m →
    θ_run (Cert.FinalNormIdeal.defs (F := Ideal)) (onTc (τ := Cert.FinalNormIdeal.τ) (Cert.FinalNormIdeal.main (F := Ideal))) ⟨m, fun _ => 0, g⟩ (fun r => (∀ c : Dev Cert.FinalNormIdeal.nD,
      r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
      ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ r.2.sem = fun _ => 0)

def quiescent_FinalNormRefIdeal [hFinalNormRefIdeal : Cert.FinalNormRefIdeal.Facts] : Prop :=
  ∀ (m : (ℓ : Loc Cert.FinalNormRefIdeal.nD Cert.FinalNormRefIdeal.τ Cert.FinalNormRefIdeal.sig) → Buf (Elt Ideal) ℓ) (g : Dev Cert.FinalNormRefIdeal.nD → PrngReg), Pre_FinalNormRefIdeal m →
    θ_run (Cert.FinalNormRefIdeal.defs (F := Ideal)) (onTc (τ := Cert.FinalNormRefIdeal.τ) (Cert.FinalNormRefIdeal.main (F := Ideal))) ⟨m, fun _ => 0, g⟩ (fun r => (∀ c : Dev Cert.FinalNormRefIdeal.nD,
      r.2.mem ((c.tc : Thread Cert.FinalNormRefIdeal.nD Cert.FinalNormRefIdeal.τ).loc Cert.FinalNormRefIdeal.main_arg0) = m ((c.tc : Thread Cert.FinalNormRefIdeal.nD Cert.FinalNormRefIdeal.τ).loc Cert.FinalNormRefIdeal.main_arg0)
      ∧ r.2.mem ((c.tc : Thread Cert.FinalNormRefIdeal.nD Cert.FinalNormRefIdeal.τ).loc Cert.FinalNormRefIdeal.main_arg1) = m ((c.tc : Thread Cert.FinalNormRefIdeal.nD Cert.FinalNormRefIdeal.τ).loc Cert.FinalNormRefIdeal.main_arg1))
      ∧ r.2.sem = fun _ => 0)

def quiescent_ResPrep [hResPrep : Cert.ResPrep.Facts] : Prop :=
  ∀ (m : (ℓ : Loc Cert.ResPrep.nD Cert.ResPrep.τ Cert.ResPrep.sig) → Buf (Elt Bits) ℓ) (g : Dev Cert.ResPrep.nD → PrngReg), Pre_ResPrep m →
    θ_run (Cert.ResPrep.defs (F := Bits)) (onTc (τ := Cert.ResPrep.τ) (Cert.ResPrep.main (F := Bits))) ⟨m, fun _ => 0, g⟩ (fun r => (∀ c : Dev Cert.ResPrep.nD,
      r.2.mem ((c.tc : Thread Cert.ResPrep.nD Cert.ResPrep.τ).loc Cert.ResPrep.main_arg0) = m ((c.tc : Thread Cert.ResPrep.nD Cert.ResPrep.τ).loc Cert.ResPrep.main_arg0))
      ∧ r.2.sem = fun _ => 0)

def quiescent_ResPrepIdeal [hResPrepIdeal : Cert.ResPrepIdeal.Facts] : Prop :=
  ∀ (m : (ℓ : Loc Cert.ResPrepIdeal.nD Cert.ResPrepIdeal.τ Cert.ResPrepIdeal.sig) → Buf (Elt Ideal) ℓ) (g : Dev Cert.ResPrepIdeal.nD → PrngReg), Pre_ResPrepIdeal m →
    θ_run (Cert.ResPrepIdeal.defs (F := Ideal)) (onTc (τ := Cert.ResPrepIdeal.τ) (Cert.ResPrepIdeal.main (F := Ideal))) ⟨m, fun _ => 0, g⟩ (fun r => (∀ c : Dev Cert.ResPrepIdeal.nD,
      r.2.mem ((c.tc : Thread Cert.ResPrepIdeal.nD Cert.ResPrepIdeal.τ).loc Cert.ResPrepIdeal.main_arg0) = m ((c.tc : Thread Cert.ResPrepIdeal.nD Cert.ResPrepIdeal.τ).loc Cert.ResPrepIdeal.main_arg0))
      ∧ r.2.sem = fun _ => 0)

def quiescent_ResPrepRefIdeal [hResPrepRefIdeal : Cert.ResPrepRefIdeal.Facts] : Prop :=
  ∀ (m : (ℓ : Loc Cert.ResPrepRefIdeal.nD Cert.ResPrepRefIdeal.τ Cert.ResPrepRefIdeal.sig) → Buf (Elt Ideal) ℓ) (g : Dev Cert.ResPrepRefIdeal.nD → PrngReg), Pre_ResPrepRefIdeal m →
    θ_run (Cert.ResPrepRefIdeal.defs (F := Ideal)) (onTc (τ := Cert.ResPrepRefIdeal.τ) (Cert.ResPrepRefIdeal.main (F := Ideal))) ⟨m, fun _ => 0, g⟩ (fun r => (∀ c : Dev Cert.ResPrepRefIdeal.nD,
      r.2.mem ((c.tc : Thread Cert.ResPrepRefIdeal.nD Cert.ResPrepRefIdeal.τ).loc Cert.ResPrepRefIdeal.main_arg0) = m ((c.tc : Thread Cert.ResPrepRefIdeal.nD Cert.ResPrepRefIdeal.τ).loc Cert.ResPrepRefIdeal.main_arg0))
      ∧ r.2.sem = fun _ => 0)

def quiescent_FfnPrep [hFfnPrep : Cert.FfnPrep.Facts] : Prop :=
  ∀ (m : (ℓ : Loc Cert.FfnPrep.nD Cert.FfnPrep.τ Cert.FfnPrep.sig) → Buf (Elt Bits) ℓ) (g : Dev Cert.FfnPrep.nD → PrngReg), Pre_FfnPrep m →
    θ_run (Cert.FfnPrep.defs (F := Bits)) (onTc (τ := Cert.FfnPrep.τ) (Cert.FfnPrep.main (F := Bits))) ⟨m, fun _ => 0, g⟩ (fun r => (∀ c : Dev Cert.FfnPrep.nD,
      r.2.mem ((c.tc : Thread Cert.FfnPrep.nD Cert.FfnPrep.τ).loc Cert.FfnPrep.main_arg0) = m ((c.tc : Thread Cert.FfnPrep.nD Cert.FfnPrep.τ).loc Cert.FfnPrep.main_arg0)
      ∧ r.2.mem ((c.tc : Thread Cert.FfnPrep.nD Cert.FfnPrep.τ).loc Cert.FfnPrep.main_arg1) = m ((c.tc : Thread Cert.FfnPrep.nD Cert.FfnPrep.τ).loc Cert.FfnPrep.main_arg1))
      ∧ r.2.sem = fun _ => 0)

def quiescent_FfnPrepIdeal [hFfnPrepIdeal : Cert.FfnPrepIdeal.Facts] : Prop :=
  ∀ (m : (ℓ : Loc Cert.FfnPrepIdeal.nD Cert.FfnPrepIdeal.τ Cert.FfnPrepIdeal.sig) → Buf (Elt Ideal) ℓ) (g : Dev Cert.FfnPrepIdeal.nD → PrngReg), Pre_FfnPrepIdeal m →
    θ_run (Cert.FfnPrepIdeal.defs (F := Ideal)) (onTc (τ := Cert.FfnPrepIdeal.τ) (Cert.FfnPrepIdeal.main (F := Ideal))) ⟨m, fun _ => 0, g⟩ (fun r => (∀ c : Dev Cert.FfnPrepIdeal.nD,
      r.2.mem ((c.tc : Thread Cert.FfnPrepIdeal.nD Cert.FfnPrepIdeal.τ).loc Cert.FfnPrepIdeal.main_arg0) = m ((c.tc : Thread Cert.FfnPrepIdeal.nD Cert.FfnPrepIdeal.τ).loc Cert.FfnPrepIdeal.main_arg0)
      ∧ r.2.mem ((c.tc : Thread Cert.FfnPrepIdeal.nD Cert.FfnPrepIdeal.τ).loc Cert.FfnPrepIdeal.main_arg1) = m ((c.tc : Thread Cert.FfnPrepIdeal.nD Cert.FfnPrepIdeal.τ).loc Cert.FfnPrepIdeal.main_arg1))
      ∧ r.2.sem = fun _ => 0)

def quiescent_FfnPrepRefIdeal [hFfnPrepRefIdeal : Cert.FfnPrepRefIdeal.Facts] : Prop :=
  ∀ (m : (ℓ : Loc Cert.FfnPrepRefIdeal.nD Cert.FfnPrepRefIdeal.τ Cert.FfnPrepRefIdeal.sig) → Buf (Elt Ideal) ℓ) (g : Dev Cert.FfnPrepRefIdeal.nD → PrngReg), Pre_FfnPrepRefIdeal m →
    θ_run (Cert.FfnPrepRefIdeal.defs (F := Ideal)) (onTc (τ := Cert.FfnPrepRefIdeal.τ) (Cert.FfnPrepRefIdeal.main (F := Ideal))) ⟨m, fun _ => 0, g⟩ (fun r => (∀ c : Dev Cert.FfnPrepRefIdeal.nD,
      r.2.mem ((c.tc : Thread Cert.FfnPrepRefIdeal.nD Cert.FfnPrepRefIdeal.τ).loc Cert.FfnPrepRefIdeal.main_arg0) = m ((c.tc : Thread Cert.FfnPrepRefIdeal.nD Cert.FfnPrepRefIdeal.τ).loc Cert.FfnPrepRefIdeal.main_arg0)
      ∧ r.2.mem ((c.tc : Thread Cert.FfnPrepRefIdeal.nD Cert.FfnPrepRefIdeal.τ).loc Cert.FfnPrepRefIdeal.main_arg1) = m ((c.tc : Thread Cert.FfnPrepRefIdeal.nD Cert.FfnPrepRefIdeal.τ).loc Cert.FfnPrepRefIdeal.main_arg1))
      ∧ r.2.sem = fun _ => 0)

def quiescent_InPrep [hInPrep : Cert.InPrep.Facts] : Prop :=
  ∀ (m : (ℓ : Loc Cert.InPrep.nD Cert.InPrep.τ Cert.InPrep.sig) → Buf (Elt Bits) ℓ) (g : Dev Cert.InPrep.nD → PrngReg), Pre_InPrep m →
    θ_run (Cert.InPrep.defs (F := Bits)) (onTc (τ := Cert.InPrep.τ) (Cert.InPrep.main (F := Bits))) ⟨m, fun _ => 0, g⟩ (fun r => (∀ c : Dev Cert.InPrep.nD,
      r.2.mem ((c.tc : Thread Cert.InPrep.nD Cert.InPrep.τ).loc Cert.InPrep.main_arg0) = m ((c.tc : Thread Cert.InPrep.nD Cert.InPrep.τ).loc Cert.InPrep.main_arg0)
      ∧ r.2.mem ((c.tc : Thread Cert.InPrep.nD Cert.InPrep.τ).loc Cert.InPrep.main_arg1) = m ((c.tc : Thread Cert.InPrep.nD Cert.InPrep.τ).loc Cert.InPrep.main_arg1))
      ∧ r.2.sem = fun _ => 0)

def quiescent_InPrepIdeal [hInPrepIdeal : Cert.InPrepIdeal.Facts] : Prop :=
  ∀ (m : (ℓ : Loc Cert.InPrepIdeal.nD Cert.InPrepIdeal.τ Cert.InPrepIdeal.sig) → Buf (Elt Ideal) ℓ) (g : Dev Cert.InPrepIdeal.nD → PrngReg), Pre_InPrepIdeal m →
    θ_run (Cert.InPrepIdeal.defs (F := Ideal)) (onTc (τ := Cert.InPrepIdeal.τ) (Cert.InPrepIdeal.main (F := Ideal))) ⟨m, fun _ => 0, g⟩ (fun r => (∀ c : Dev Cert.InPrepIdeal.nD,
      r.2.mem ((c.tc : Thread Cert.InPrepIdeal.nD Cert.InPrepIdeal.τ).loc Cert.InPrepIdeal.main_arg0) = m ((c.tc : Thread Cert.InPrepIdeal.nD Cert.InPrepIdeal.τ).loc Cert.InPrepIdeal.main_arg0)
      ∧ r.2.mem ((c.tc : Thread Cert.InPrepIdeal.nD Cert.InPrepIdeal.τ).loc Cert.InPrepIdeal.main_arg1) = m ((c.tc : Thread Cert.InPrepIdeal.nD Cert.InPrepIdeal.τ).loc Cert.InPrepIdeal.main_arg1))
      ∧ r.2.sem = fun _ => 0)

def quiescent_InPrepRefIdeal [hInPrepRefIdeal : Cert.InPrepRefIdeal.Facts] : Prop :=
  ∀ (m : (ℓ : Loc Cert.InPrepRefIdeal.nD Cert.InPrepRefIdeal.τ Cert.InPrepRefIdeal.sig) → Buf (Elt Ideal) ℓ) (g : Dev Cert.InPrepRefIdeal.nD → PrngReg), Pre_InPrepRefIdeal m →
    θ_run (Cert.InPrepRefIdeal.defs (F := Ideal)) (onTc (τ := Cert.InPrepRefIdeal.τ) (Cert.InPrepRefIdeal.main (F := Ideal))) ⟨m, fun _ => 0, g⟩ (fun r => (∀ c : Dev Cert.InPrepRefIdeal.nD,
      r.2.mem ((c.tc : Thread Cert.InPrepRefIdeal.nD Cert.InPrepRefIdeal.τ).loc Cert.InPrepRefIdeal.main_arg0) = m ((c.tc : Thread Cert.InPrepRefIdeal.nD Cert.InPrepRefIdeal.τ).loc Cert.InPrepRefIdeal.main_arg0)
      ∧ r.2.mem ((c.tc : Thread Cert.InPrepRefIdeal.nD Cert.InPrepRefIdeal.τ).loc Cert.InPrepRefIdeal.main_arg1) = m ((c.tc : Thread Cert.InPrepRefIdeal.nD Cert.InPrepRefIdeal.τ).loc Cert.InPrepRefIdeal.main_arg1))
      ∧ r.2.sem = fun _ => 0)

def quiescent_Conf [hConf : Cert.Conf.Facts] : Prop :=
  ∀ (m : (ℓ : Loc Cert.Conf.nD Cert.Conf.τ Cert.Conf.sig) → Buf (Elt Bits) ℓ) (g : Dev Cert.Conf.nD → PrngReg), Pre_Conf m →
    θ_run (Cert.Conf.defs (F := Bits)) (onTc (τ := Cert.Conf.τ) (Cert.Conf.main (F := Bits))) ⟨m, fun _ => 0, g⟩ (fun r => (∀ c : Dev Cert.Conf.nD,
      r.2.mem ((c.tc : Thread Cert.Conf.nD Cert.Conf.τ).loc Cert.Conf.main_arg0) = m ((c.tc : Thread Cert.Conf.nD Cert.Conf.τ).loc Cert.Conf.main_arg0)
      ∧ r.2.mem ((c.tc : Thread Cert.Conf.nD Cert.Conf.τ).loc Cert.Conf.main_arg1) = m ((c.tc : Thread Cert.Conf.nD Cert.Conf.τ).loc Cert.Conf.main_arg1)
      ∧ r.2.mem ((c.tc : Thread Cert.Conf.nD Cert.Conf.τ).loc Cert.Conf.main_arg2) = m ((c.tc : Thread Cert.Conf.nD Cert.Conf.τ).loc Cert.Conf.main_arg2)
      ∧ r.2.mem ((c.tc : Thread Cert.Conf.nD Cert.Conf.τ).loc Cert.Conf.main_arg3) = m ((c.tc : Thread Cert.Conf.nD Cert.Conf.τ).loc Cert.Conf.main_arg3)
      ∧ r.2.mem ((c.tc : Thread Cert.Conf.nD Cert.Conf.τ).loc Cert.Conf.main_arg4) = m ((c.tc : Thread Cert.Conf.nD Cert.Conf.τ).loc Cert.Conf.main_arg4)
      ∧ r.2.mem ((c.tc : Thread Cert.Conf.nD Cert.Conf.τ).loc Cert.Conf.main_arg5) = m ((c.tc : Thread Cert.Conf.nD Cert.Conf.τ).loc Cert.Conf.main_arg5)
      ∧ r.2.mem ((c.tc : Thread Cert.Conf.nD Cert.Conf.τ).loc Cert.Conf.main_arg6) = m ((c.tc : Thread Cert.Conf.nD Cert.Conf.τ).loc Cert.Conf.main_arg6))
      ∧ r.2.sem = fun _ => 0)

def quiescent_ConfIdeal [hConfIdeal : Cert.ConfIdeal.Facts] : Prop :=
  ∀ (m : (ℓ : Loc Cert.ConfIdeal.nD Cert.ConfIdeal.τ Cert.ConfIdeal.sig) → Buf (Elt Ideal) ℓ) (g : Dev Cert.ConfIdeal.nD → PrngReg), Pre_ConfIdeal m →
    θ_run (Cert.ConfIdeal.defs (F := Ideal)) (onTc (τ := Cert.ConfIdeal.τ) (Cert.ConfIdeal.main (F := Ideal))) ⟨m, fun _ => 0, g⟩ (fun r => (∀ c : Dev Cert.ConfIdeal.nD,
      r.2.mem ((c.tc : Thread Cert.ConfIdeal.nD Cert.ConfIdeal.τ).loc Cert.ConfIdeal.main_arg0) = m ((c.tc : Thread Cert.ConfIdeal.nD Cert.ConfIdeal.τ).loc Cert.ConfIdeal.main_arg0)
      ∧ r.2.mem ((c.tc : Thread Cert.ConfIdeal.nD Cert.ConfIdeal.τ).loc Cert.ConfIdeal.main_arg1) = m ((c.tc : Thread Cert.ConfIdeal.nD Cert.ConfIdeal.τ).loc Cert.ConfIdeal.main_arg1)
      ∧ r.2.mem ((c.tc : Thread Cert.ConfIdeal.nD Cert.ConfIdeal.τ).loc Cert.ConfIdeal.main_arg2) = m ((c.tc : Thread Cert.ConfIdeal.nD Cert.ConfIdeal.τ).loc Cert.ConfIdeal.main_arg2)
      ∧ r.2.mem ((c.tc : Thread Cert.ConfIdeal.nD Cert.ConfIdeal.τ).loc Cert.ConfIdeal.main_arg3) = m ((c.tc : Thread Cert.ConfIdeal.nD Cert.ConfIdeal.τ).loc Cert.ConfIdeal.main_arg3)
      ∧ r.2.mem ((c.tc : Thread Cert.ConfIdeal.nD Cert.ConfIdeal.τ).loc Cert.ConfIdeal.main_arg4) = m ((c.tc : Thread Cert.ConfIdeal.nD Cert.ConfIdeal.τ).loc Cert.ConfIdeal.main_arg4)
      ∧ r.2.mem ((c.tc : Thread Cert.ConfIdeal.nD Cert.ConfIdeal.τ).loc Cert.ConfIdeal.main_arg5) = m ((c.tc : Thread Cert.ConfIdeal.nD Cert.ConfIdeal.τ).loc Cert.ConfIdeal.main_arg5)
      ∧ r.2.mem ((c.tc : Thread Cert.ConfIdeal.nD Cert.ConfIdeal.τ).loc Cert.ConfIdeal.main_arg6) = m ((c.tc : Thread Cert.ConfIdeal.nD Cert.ConfIdeal.τ).loc Cert.ConfIdeal.main_arg6))
      ∧ r.2.sem = fun _ => 0)

def quiescent_ConfRefIdeal [hConfRefIdeal : Cert.ConfRefIdeal.Facts] : Prop :=
  ∀ (m : (ℓ : Loc Cert.ConfRefIdeal.nD Cert.ConfRefIdeal.τ Cert.ConfRefIdeal.sig) → Buf (Elt Ideal) ℓ) (g : Dev Cert.ConfRefIdeal.nD → PrngReg), Pre_ConfRefIdeal m →
    θ_run (Cert.ConfRefIdeal.defs (F := Ideal)) (onTc (τ := Cert.ConfRefIdeal.τ) (Cert.ConfRefIdeal.main (F := Ideal))) ⟨m, fun _ => 0, g⟩ (fun r => (∀ c : Dev Cert.ConfRefIdeal.nD,
      r.2.mem ((c.tc : Thread Cert.ConfRefIdeal.nD Cert.ConfRefIdeal.τ).loc Cert.ConfRefIdeal.main_arg0) = m ((c.tc : Thread Cert.ConfRefIdeal.nD Cert.ConfRefIdeal.τ).loc Cert.ConfRefIdeal.main_arg0)
      ∧ r.2.mem ((c.tc : Thread Cert.ConfRefIdeal.nD Cert.ConfRefIdeal.τ).loc Cert.ConfRefIdeal.main_arg1) = m ((c.tc : Thread Cert.ConfRefIdeal.nD Cert.ConfRefIdeal.τ).loc Cert.ConfRefIdeal.main_arg1)
      ∧ r.2.mem ((c.tc : Thread Cert.ConfRefIdeal.nD Cert.ConfRefIdeal.τ).loc Cert.ConfRefIdeal.main_arg2) = m ((c.tc : Thread Cert.ConfRefIdeal.nD Cert.ConfRefIdeal.τ).loc Cert.ConfRefIdeal.main_arg2)
      ∧ r.2.mem ((c.tc : Thread Cert.ConfRefIdeal.nD Cert.ConfRefIdeal.τ).loc Cert.ConfRefIdeal.main_arg3) = m ((c.tc : Thread Cert.ConfRefIdeal.nD Cert.ConfRefIdeal.τ).loc Cert.ConfRefIdeal.main_arg3)
      ∧ r.2.mem ((c.tc : Thread Cert.ConfRefIdeal.nD Cert.ConfRefIdeal.τ).loc Cert.ConfRefIdeal.main_arg4) = m ((c.tc : Thread Cert.ConfRefIdeal.nD Cert.ConfRefIdeal.τ).loc Cert.ConfRefIdeal.main_arg4)
      ∧ r.2.mem ((c.tc : Thread Cert.ConfRefIdeal.nD Cert.ConfRefIdeal.τ).loc Cert.ConfRefIdeal.main_arg5) = m ((c.tc : Thread Cert.ConfRefIdeal.nD Cert.ConfRefIdeal.τ).loc Cert.ConfRefIdeal.main_arg5)
      ∧ r.2.mem ((c.tc : Thread Cert.ConfRefIdeal.nD Cert.ConfRefIdeal.τ).loc Cert.ConfRefIdeal.main_arg6) = m ((c.tc : Thread Cert.ConfRefIdeal.nD Cert.ConfRefIdeal.τ).loc Cert.ConfRefIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_FfnIn_FfnInIdeal : Prop :=
  True

def algebraic_FfnInIdeal_FfnInRefIdeal_pre_nonneg [hFfnInIdeal : Cert.FfnInIdeal.Facts] [hFfnInRefIdeal : Cert.FfnInRefIdeal.Facts] [hPre_nonneg : Cert.Pre_nonneg.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal_nonneg m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)
      ∧ m' ((c.tc : Thread Cert.FfnInRefIdeal.nD Cert.FfnInRefIdeal.τ).loc Cert.FfnInRefIdeal.main_arg2) = m ((c.tc : Thread Cert.FfnInIdeal.nD Cert.FfnInIdeal.τ).loc Cert.FfnInIdeal.main_arg2)
      ∧ m' ((c.tc : Thread Cert.FfnInRefIdeal.nD Cert.FfnInRefIdeal.τ).loc Cert.FfnInRefIdeal.main_arg3) = m ((c.tc : Thread Cert.FfnInIdeal.nD Cert.FfnInIdeal.τ).loc Cert.FfnInIdeal.main_arg3)
      ∧ m' ((c.tc : Thread Cert.FfnInRefIdeal.nD Cert.FfnInRefIdeal.τ).loc Cert.FfnInRefIdeal.main_arg4) = m ((c.tc : Thread Cert.FfnInIdeal.nD Cert.FfnInIdeal.τ).loc Cert.FfnInIdeal.main_arg4)
      ∧ m' ((c.tc : Thread Cert.FfnInRefIdeal.nD Cert.FfnInRefIdeal.τ).loc Cert.FfnInRefIdeal.main_arg5) = m ((c.tc : Thread Cert.FfnInIdeal.nD Cert.FfnInIdeal.τ).loc Cert.FfnInIdeal.main_arg5)) →
    ∃ (v0 : (c : Dev Cert.FfnInIdeal.nD) → Buf (Elt Ideal) ((c.tc : Thread Cert.FfnInIdeal.nD Cert.FfnInIdeal.τ).loc Cert.FfnInIdeal.main_v8_0)) (v1 : (c : Dev Cert.FfnInIdeal.nD) → Buf (Elt Ideal) ((c.tc : Thread Cert.FfnInIdeal.nD Cert.FfnInIdeal.τ).loc Cert.FfnInIdeal.main_v8_1)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v8_0) = v0 c
          ∧ r.2.mem ((c.tc : Thread Cert.FfnInIdeal.nD Cert.FfnInIdeal.τ).loc Cert.FfnInIdeal.main_v8_1) = v1 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1)
          ∧ r.2.mem ((c.tc : Thread Cert.FfnInIdeal.nD Cert.FfnInIdeal.τ).loc Cert.FfnInIdeal.main_arg2) = m ((c.tc : Thread Cert.FfnInIdeal.nD Cert.FfnInIdeal.τ).loc Cert.FfnInIdeal.main_arg2)
          ∧ r.2.mem ((c.tc : Thread Cert.FfnInIdeal.nD Cert.FfnInIdeal.τ).loc Cert.FfnInIdeal.main_arg3) = m ((c.tc : Thread Cert.FfnInIdeal.nD Cert.FfnInIdeal.τ).loc Cert.FfnInIdeal.main_arg3)
          ∧ r.2.mem ((c.tc : Thread Cert.FfnInIdeal.nD Cert.FfnInIdeal.τ).loc Cert.FfnInIdeal.main_arg4) = m ((c.tc : Thread Cert.FfnInIdeal.nD Cert.FfnInIdeal.τ).loc Cert.FfnInIdeal.main_arg4)
          ∧ r.2.mem ((c.tc : Thread Cert.FfnInIdeal.nD Cert.FfnInIdeal.τ).loc Cert.FfnInIdeal.main_arg5) = m ((c.tc : Thread Cert.FfnInIdeal.nD Cert.FfnInIdeal.τ).loc Cert.FfnInIdeal.main_arg5))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v71) = v0 c
          ∧ r.2.mem ((c.tc : Thread Cert.FfnInRefIdeal.nD Cert.FfnInRefIdeal.τ).loc Cert.FfnInRefIdeal.main_v75) = v1 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1)
          ∧ r.2.mem ((c.tc : Thread Cert.FfnInRefIdeal.nD Cert.FfnInRefIdeal.τ).loc Cert.FfnInRefIdeal.main_arg2) = m' ((c.tc : Thread Cert.FfnInRefIdeal.nD Cert.FfnInRefIdeal.τ).loc Cert.FfnInRefIdeal.main_arg2)
          ∧ r.2.mem ((c.tc : Thread Cert.FfnInRefIdeal.nD Cert.FfnInRefIdeal.τ).loc Cert.FfnInRefIdeal.main_arg3) = m' ((c.tc : Thread Cert.FfnInRefIdeal.nD Cert.FfnInRefIdeal.τ).loc Cert.FfnInRefIdeal.main_arg3)
          ∧ r.2.mem ((c.tc : Thread Cert.FfnInRefIdeal.nD Cert.FfnInRefIdeal.τ).loc Cert.FfnInRefIdeal.main_arg4) = m' ((c.tc : Thread Cert.FfnInRefIdeal.nD Cert.FfnInRefIdeal.τ).loc Cert.FfnInRefIdeal.main_arg4)
          ∧ r.2.mem ((c.tc : Thread Cert.FfnInRefIdeal.nD Cert.FfnInRefIdeal.τ).loc Cert.FfnInRefIdeal.main_arg5) = m' ((c.tc : Thread Cert.FfnInRefIdeal.nD Cert.FfnInRefIdeal.τ).loc Cert.FfnInRefIdeal.main_arg5))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)
      ∧ m' ((c.tc : Thread Cert.FfnOutRefIdeal.nD Cert.FfnOutRefIdeal.τ).loc Cert.FfnOutRefIdeal.main_arg2) = m ((c.tc : Thread Cert.FfnOutIdeal.nD Cert.FfnOutIdeal.τ).loc Cert.FfnOutIdeal.main_arg2)) →
    ∃ (v0 : (c : Dev Cert.FfnOutIdeal.nD) → Buf (Elt Ideal) ((c.tc : Thread Cert.FfnOutIdeal.nD Cert.FfnOutIdeal.τ).loc Cert.FfnOutIdeal.main_v0_0)) (v1 : (c : Dev Cert.FfnOutIdeal.nD) → Buf (Elt Ideal) ((c.tc : Thread Cert.FfnOutIdeal.nD Cert.FfnOutIdeal.τ).loc Cert.FfnOutIdeal.main_v0_1)) (v2 : (c : Dev Cert.FfnOutIdeal.nD) → Buf (Elt Ideal) ((c.tc : Thread Cert.FfnOutIdeal.nD Cert.FfnOutIdeal.τ).loc Cert.FfnOutIdeal.main_v0_2)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0_0) = v0 c
          ∧ r.2.mem ((c.tc : Thread Cert.FfnOutIdeal.nD Cert.FfnOutIdeal.τ).loc Cert.FfnOutIdeal.main_v0_1) = v1 c
          ∧ r.2.mem ((c.tc : Thread Cert.FfnOutIdeal.nD Cert.FfnOutIdeal.τ).loc Cert.FfnOutIdeal.main_v0_2) = v2 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1)
          ∧ r.2.mem ((c.tc : Thread Cert.FfnOutIdeal.nD Cert.FfnOutIdeal.τ).loc Cert.FfnOutIdeal.main_arg2) = m ((c.tc : Thread Cert.FfnOutIdeal.nD Cert.FfnOutIdeal.τ).loc Cert.FfnOutIdeal.main_arg2))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v3) = v0 c
          ∧ r.2.mem ((c.tc : Thread Cert.FfnOutRefIdeal.nD Cert.FfnOutRefIdeal.τ).loc Cert.FfnOutRefIdeal.main_v4) = v1 c
          ∧ r.2.mem ((c.tc : Thread Cert.FfnOutRefIdeal.nD Cert.FfnOutRefIdeal.τ).loc Cert.FfnOutRefIdeal.main_v8) = v2 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1)
          ∧ r.2.mem ((c.tc : Thread Cert.FfnOutRefIdeal.nD Cert.FfnOutRefIdeal.τ).loc Cert.FfnOutRefIdeal.main_arg2) = m' ((c.tc : Thread Cert.FfnOutRefIdeal.nD Cert.FfnOutRefIdeal.τ).loc Cert.FfnOutRefIdeal.main_arg2))

def preserves_InProj_InProjIdeal : Prop :=
  True

def algebraic_InProjIdeal_InProjRefIdeal_pre_nonneg_in [hInProjIdeal : Cert.InProjIdeal.Facts] [hInProjRefIdeal : Cert.InProjRefIdeal.Facts] [hPre_nonneg_in : Cert.Pre_nonneg_in.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal_nonneg_in m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v14) = v0 c
          ∧ r.2.mem ((c.tc : Thread Cert.InProjRefIdeal.nD Cert.InProjRefIdeal.τ).loc Cert.InProjRefIdeal.main_v17) = v1 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3))

def preserves_MixOut_MixOutIdeal : Prop :=
  True

def algebraic_MixOutIdeal_MixOutRefIdeal [hMixOutIdeal : Cert.MixOutIdeal.Facts] [hMixOutRefIdeal : Cert.MixOutRefIdeal.Facts] : Prop :=
  ∀ (m : (ℓ : Loc Cert.MixOutIdeal.nD Cert.MixOutIdeal.τ Cert.MixOutIdeal.sig) → Buf (Elt Ideal) ℓ) (g : Dev Cert.MixOutIdeal.nD → PrngReg)
    (m' : (ℓ : Loc Cert.MixOutRefIdeal.nD Cert.MixOutRefIdeal.τ Cert.MixOutRefIdeal.sig) → Buf (Elt Ideal) ℓ) (g' : Dev Cert.MixOutRefIdeal.nD → PrngReg), Pre_MixOutIdeal m →
    (∀ c : Dev Cert.MixOutIdeal.nD,
      m' ((c.tc : Thread Cert.MixOutRefIdeal.nD Cert.MixOutRefIdeal.τ).loc Cert.MixOutRefIdeal.main_arg0) = m ((c.tc : Thread Cert.MixOutIdeal.nD Cert.MixOutIdeal.τ).loc Cert.MixOutIdeal.main_arg0)
      ∧ m' ((c.tc : Thread Cert.MixOutRefIdeal.nD Cert.MixOutRefIdeal.τ).loc Cert.MixOutRefIdeal.main_arg1) = m ((c.tc : Thread Cert.MixOutIdeal.nD Cert.MixOutIdeal.τ).loc Cert.MixOutIdeal.main_arg1)
      ∧ m' ((c.tc : Thread Cert.MixOutRefIdeal.nD Cert.MixOutRefIdeal.τ).loc Cert.MixOutRefIdeal.main_arg2) = m ((c.tc : Thread Cert.MixOutIdeal.nD Cert.MixOutIdeal.τ).loc Cert.MixOutIdeal.main_arg2)
      ∧ m' ((c.tc : Thread Cert.MixOutRefIdeal.nD Cert.MixOutRefIdeal.τ).loc Cert.MixOutRefIdeal.main_arg3) = m ((c.tc : Thread Cert.MixOutIdeal.nD Cert.MixOutIdeal.τ).loc Cert.MixOutIdeal.main_arg3)
      ∧ m' ((c.tc : Thread Cert.MixOutRefIdeal.nD Cert.MixOutRefIdeal.τ).loc Cert.MixOutRefIdeal.main_arg4) = m ((c.tc : Thread Cert.MixOutIdeal.nD Cert.MixOutIdeal.τ).loc Cert.MixOutIdeal.main_arg4)) →
    ∃ (v0 : (c : Dev Cert.MixOutIdeal.nD) → Buf (Elt Ideal) ((c.tc : Thread Cert.MixOutIdeal.nD Cert.MixOutIdeal.τ).loc Cert.MixOutIdeal.main_v0_0)) (v1 : (c : Dev Cert.MixOutIdeal.nD) → Buf (Elt Ideal) ((c.tc : Thread Cert.MixOutIdeal.nD Cert.MixOutIdeal.τ).loc Cert.MixOutIdeal.main_v0_1)) (v2 : (c : Dev Cert.MixOutIdeal.nD) → Buf (Elt Ideal) ((c.tc : Thread Cert.MixOutIdeal.nD Cert.MixOutIdeal.τ).loc Cert.MixOutIdeal.main_v0_2)),
      θ_run (Cert.MixOutIdeal.defs (F := Ideal)) (onTc (τ := Cert.MixOutIdeal.τ) (Cert.MixOutIdeal.main (F := Ideal))) ⟨m, fun _ => 0, g⟩ (fun r => ∀ c : Dev Cert.MixOutIdeal.nD,
          r.2.mem ((c.tc : Thread Cert.MixOutIdeal.nD Cert.MixOutIdeal.τ).loc Cert.MixOutIdeal.main_v0_0) = v0 c
          ∧ r.2.mem ((c.tc : Thread Cert.MixOutIdeal.nD Cert.MixOutIdeal.τ).loc Cert.MixOutIdeal.main_v0_1) = v1 c
          ∧ r.2.mem ((c.tc : Thread Cert.MixOutIdeal.nD Cert.MixOutIdeal.τ).loc Cert.MixOutIdeal.main_v0_2) = v2 c
          ∧ r.2.mem ((c.tc : Thread Cert.MixOutIdeal.nD Cert.MixOutIdeal.τ).loc Cert.MixOutIdeal.main_arg0) = m ((c.tc : Thread Cert.MixOutIdeal.nD Cert.MixOutIdeal.τ).loc Cert.MixOutIdeal.main_arg0)
          ∧ r.2.mem ((c.tc : Thread Cert.MixOutIdeal.nD Cert.MixOutIdeal.τ).loc Cert.MixOutIdeal.main_arg1) = m ((c.tc : Thread Cert.MixOutIdeal.nD Cert.MixOutIdeal.τ).loc Cert.MixOutIdeal.main_arg1)
          ∧ r.2.mem ((c.tc : Thread Cert.MixOutIdeal.nD Cert.MixOutIdeal.τ).loc Cert.MixOutIdeal.main_arg2) = m ((c.tc : Thread Cert.MixOutIdeal.nD Cert.MixOutIdeal.τ).loc Cert.MixOutIdeal.main_arg2)
          ∧ r.2.mem ((c.tc : Thread Cert.MixOutIdeal.nD Cert.MixOutIdeal.τ).loc Cert.MixOutIdeal.main_arg3) = m ((c.tc : Thread Cert.MixOutIdeal.nD Cert.MixOutIdeal.τ).loc Cert.MixOutIdeal.main_arg3)
          ∧ r.2.mem ((c.tc : Thread Cert.MixOutIdeal.nD Cert.MixOutIdeal.τ).loc Cert.MixOutIdeal.main_arg4) = m ((c.tc : Thread Cert.MixOutIdeal.nD Cert.MixOutIdeal.τ).loc Cert.MixOutIdeal.main_arg4))
      ∧ θ_run (Cert.MixOutRefIdeal.defs (F := Ideal)) (onTc (τ := Cert.MixOutRefIdeal.τ) (Cert.MixOutRefIdeal.main (F := Ideal))) ⟨m', fun _ => 0, g'⟩ (fun r => ∀ c : Dev Cert.MixOutRefIdeal.nD,
          r.2.mem ((c.tc : Thread Cert.MixOutRefIdeal.nD Cert.MixOutRefIdeal.τ).loc Cert.MixOutRefIdeal.main_v6) = v0 c
          ∧ r.2.mem ((c.tc : Thread Cert.MixOutRefIdeal.nD Cert.MixOutRefIdeal.τ).loc Cert.MixOutRefIdeal.main_v7) = v1 c
          ∧ r.2.mem ((c.tc : Thread Cert.MixOutRefIdeal.nD Cert.MixOutRefIdeal.τ).loc Cert.MixOutRefIdeal.main_v11) = v2 c
          ∧ r.2.mem ((c.tc : Thread Cert.MixOutRefIdeal.nD Cert.MixOutRefIdeal.τ).loc Cert.MixOutRefIdeal.main_arg0) = m' ((c.tc : Thread Cert.MixOutRefIdeal.nD Cert.MixOutRefIdeal.τ).loc Cert.MixOutRefIdeal.main_arg0)
          ∧ r.2.mem ((c.tc : Thread Cert.MixOutRefIdeal.nD Cert.MixOutRefIdeal.τ).loc Cert.MixOutRefIdeal.main_arg1) = m' ((c.tc : Thread Cert.MixOutRefIdeal.nD Cert.MixOutRefIdeal.τ).loc Cert.MixOutRefIdeal.main_arg1)
          ∧ r.2.mem ((c.tc : Thread Cert.MixOutRefIdeal.nD Cert.MixOutRefIdeal.τ).loc Cert.MixOutRefIdeal.main_arg2) = m' ((c.tc : Thread Cert.MixOutRefIdeal.nD Cert.MixOutRefIdeal.τ).loc Cert.MixOutRefIdeal.main_arg2)
          ∧ r.2.mem ((c.tc : Thread Cert.MixOutRefIdeal.nD Cert.MixOutRefIdeal.τ).loc Cert.MixOutRefIdeal.main_arg3) = m' ((c.tc : Thread Cert.MixOutRefIdeal.nD Cert.MixOutRefIdeal.τ).loc Cert.MixOutRefIdeal.main_arg3)
          ∧ r.2.mem ((c.tc : Thread Cert.MixOutRefIdeal.nD Cert.MixOutRefIdeal.τ).loc Cert.MixOutRefIdeal.main_arg4) = m' ((c.tc : Thread Cert.MixOutRefIdeal.nD Cert.MixOutRefIdeal.τ).loc Cert.MixOutRefIdeal.main_arg4))

def preserves_FinalNorm_FinalNormIdeal : Prop :=
  True

def algebraic_FinalNormIdeal_FinalNormRefIdeal [hFinalNormIdeal : Cert.FinalNormIdeal.Facts] [hFinalNormRefIdeal : Cert.FinalNormRefIdeal.Facts] : Prop :=
  ∀ (m : (ℓ : Loc Cert.FinalNormIdeal.nD Cert.FinalNormIdeal.τ Cert.FinalNormIdeal.sig) → Buf (Elt Ideal) ℓ) (g : Dev Cert.FinalNormIdeal.nD → PrngReg)
    (m' : (ℓ : Loc Cert.FinalNormRefIdeal.nD Cert.FinalNormRefIdeal.τ Cert.FinalNormRefIdeal.sig) → Buf (Elt Ideal) ℓ) (g' : Dev Cert.FinalNormRefIdeal.nD → PrngReg), Pre_FinalNormIdeal m →
    (∀ c : Dev Cert.FinalNormIdeal.nD,
      m' ((c.tc : Thread Cert.FinalNormRefIdeal.nD Cert.FinalNormRefIdeal.τ).loc Cert.FinalNormRefIdeal.main_arg0) = m ((c.tc : Thread Cert.FinalNormIdeal.nD Cert.FinalNormIdeal.τ).loc Cert.FinalNormIdeal.main_arg0)
      ∧ m' ((c.tc : Thread Cert.FinalNormRefIdeal.nD Cert.FinalNormRefIdeal.τ).loc Cert.FinalNormRefIdeal.main_arg1) = m ((c.tc : Thread Cert.FinalNormIdeal.nD Cert.FinalNormIdeal.τ).loc Cert.FinalNormIdeal.main_arg1)) →
    ∃ (v0 : (c : Dev Cert.FinalNormIdeal.nD) → Buf (Elt Ideal) ((c.tc : Thread Cert.FinalNormIdeal.nD Cert.FinalNormIdeal.τ).loc Cert.FinalNormIdeal.main_v1)),
      θ_run (Cert.FinalNormIdeal.defs (F := Ideal)) (onTc (τ := Cert.FinalNormIdeal.τ) (Cert.FinalNormIdeal.main (F := Ideal))) ⟨m, fun _ => 0, g⟩ (fun r => ∀ c : Dev Cert.FinalNormIdeal.nD,
          r.2.mem ((c.tc : Thread Cert.FinalNormIdeal.nD Cert.FinalNormIdeal.τ).loc Cert.FinalNormIdeal.main_v1) = v0 c
          ∧ r.2.mem ((c.tc : Thread Cert.FinalNormIdeal.nD Cert.FinalNormIdeal.τ).loc Cert.FinalNormIdeal.main_arg0) = m ((c.tc : Thread Cert.FinalNormIdeal.nD Cert.FinalNormIdeal.τ).loc Cert.FinalNormIdeal.main_arg0)
          ∧ r.2.mem ((c.tc : Thread Cert.FinalNormIdeal.nD Cert.FinalNormIdeal.τ).loc Cert.FinalNormIdeal.main_arg1) = m ((c.tc : Thread Cert.FinalNormIdeal.nD Cert.FinalNormIdeal.τ).loc Cert.FinalNormIdeal.main_arg1))
      ∧ θ_run (Cert.FinalNormRefIdeal.defs (F := Ideal)) (onTc (τ := Cert.FinalNormRefIdeal.τ) (Cert.FinalNormRefIdeal.main (F := Ideal))) ⟨m', fun _ => 0, g'⟩ (fun r => ∀ c : Dev Cert.FinalNormRefIdeal.nD,
          r.2.mem ((c.tc : Thread Cert.FinalNormRefIdeal.nD Cert.FinalNormRefIdeal.τ).loc Cert.FinalNormRefIdeal.main_v12) = v0 c
          ∧ r.2.mem ((c.tc : Thread Cert.FinalNormRefIdeal.nD Cert.FinalNormRefIdeal.τ).loc Cert.FinalNormRefIdeal.main_arg0) = m' ((c.tc : Thread Cert.FinalNormRefIdeal.nD Cert.FinalNormRefIdeal.τ).loc Cert.FinalNormRefIdeal.main_arg0)
          ∧ r.2.mem ((c.tc : Thread Cert.FinalNormRefIdeal.nD Cert.FinalNormRefIdeal.τ).loc Cert.FinalNormRefIdeal.main_arg1) = m' ((c.tc : Thread Cert.FinalNormRefIdeal.nD Cert.FinalNormRefIdeal.τ).loc Cert.FinalNormRefIdeal.main_arg1))

def preserves_ResPrep_ResPrepIdeal : Prop :=
  True

def algebraic_ResPrepIdeal_ResPrepRefIdeal [hResPrepIdeal : Cert.ResPrepIdeal.Facts] [hResPrepRefIdeal : Cert.ResPrepRefIdeal.Facts] : Prop :=
  ∀ (m : (ℓ : Loc Cert.ResPrepIdeal.nD Cert.ResPrepIdeal.τ Cert.ResPrepIdeal.sig) → Buf (Elt Ideal) ℓ) (g : Dev Cert.ResPrepIdeal.nD → PrngReg)
    (m' : (ℓ : Loc Cert.ResPrepRefIdeal.nD Cert.ResPrepRefIdeal.τ Cert.ResPrepRefIdeal.sig) → Buf (Elt Ideal) ℓ) (g' : Dev Cert.ResPrepRefIdeal.nD → PrngReg), Pre_ResPrepIdeal m →
    (∀ c : Dev Cert.ResPrepIdeal.nD,
      m' ((c.tc : Thread Cert.ResPrepRefIdeal.nD Cert.ResPrepRefIdeal.τ).loc Cert.ResPrepRefIdeal.main_arg0) = m ((c.tc : Thread Cert.ResPrepIdeal.nD Cert.ResPrepIdeal.τ).loc Cert.ResPrepIdeal.main_arg0)) →
    ∃ (v0 : (c : Dev Cert.ResPrepIdeal.nD) → Buf (Elt Ideal) ((c.tc : Thread Cert.ResPrepIdeal.nD Cert.ResPrepIdeal.τ).loc Cert.ResPrepIdeal.main_v0_0)) (v1 : (c : Dev Cert.ResPrepIdeal.nD) → Buf (Elt Ideal) ((c.tc : Thread Cert.ResPrepIdeal.nD Cert.ResPrepIdeal.τ).loc Cert.ResPrepIdeal.main_v0_1)),
      θ_run (Cert.ResPrepIdeal.defs (F := Ideal)) (onTc (τ := Cert.ResPrepIdeal.τ) (Cert.ResPrepIdeal.main (F := Ideal))) ⟨m, fun _ => 0, g⟩ (fun r => ∀ c : Dev Cert.ResPrepIdeal.nD,
          r.2.mem ((c.tc : Thread Cert.ResPrepIdeal.nD Cert.ResPrepIdeal.τ).loc Cert.ResPrepIdeal.main_v0_0) = v0 c
          ∧ r.2.mem ((c.tc : Thread Cert.ResPrepIdeal.nD Cert.ResPrepIdeal.τ).loc Cert.ResPrepIdeal.main_v0_1) = v1 c
          ∧ r.2.mem ((c.tc : Thread Cert.ResPrepIdeal.nD Cert.ResPrepIdeal.τ).loc Cert.ResPrepIdeal.main_arg0) = m ((c.tc : Thread Cert.ResPrepIdeal.nD Cert.ResPrepIdeal.τ).loc Cert.ResPrepIdeal.main_arg0))
      ∧ θ_run (Cert.ResPrepRefIdeal.defs (F := Ideal)) (onTc (τ := Cert.ResPrepRefIdeal.τ) (Cert.ResPrepRefIdeal.main (F := Ideal))) ⟨m', fun _ => 0, g'⟩ (fun r => ∀ c : Dev Cert.ResPrepRefIdeal.nD,
          r.2.mem ((c.tc : Thread Cert.ResPrepRefIdeal.nD Cert.ResPrepRefIdeal.τ).loc Cert.ResPrepRefIdeal.main_v0) = v0 c
          ∧ r.2.mem ((c.tc : Thread Cert.ResPrepRefIdeal.nD Cert.ResPrepRefIdeal.τ).loc Cert.ResPrepRefIdeal.main_v4) = v1 c
          ∧ r.2.mem ((c.tc : Thread Cert.ResPrepRefIdeal.nD Cert.ResPrepRefIdeal.τ).loc Cert.ResPrepRefIdeal.main_arg0) = m' ((c.tc : Thread Cert.ResPrepRefIdeal.nD Cert.ResPrepRefIdeal.τ).loc Cert.ResPrepRefIdeal.main_arg0))

def preserves_FfnPrep_FfnPrepIdeal : Prop :=
  True

def algebraic_FfnPrepIdeal_FfnPrepRefIdeal [hFfnPrepIdeal : Cert.FfnPrepIdeal.Facts] [hFfnPrepRefIdeal : Cert.FfnPrepRefIdeal.Facts] : Prop :=
  ∀ (m : (ℓ : Loc Cert.FfnPrepIdeal.nD Cert.FfnPrepIdeal.τ Cert.FfnPrepIdeal.sig) → Buf (Elt Ideal) ℓ) (g : Dev Cert.FfnPrepIdeal.nD → PrngReg)
    (m' : (ℓ : Loc Cert.FfnPrepRefIdeal.nD Cert.FfnPrepRefIdeal.τ Cert.FfnPrepRefIdeal.sig) → Buf (Elt Ideal) ℓ) (g' : Dev Cert.FfnPrepRefIdeal.nD → PrngReg), Pre_FfnPrepIdeal m →
    (∀ c : Dev Cert.FfnPrepIdeal.nD,
      m' ((c.tc : Thread Cert.FfnPrepRefIdeal.nD Cert.FfnPrepRefIdeal.τ).loc Cert.FfnPrepRefIdeal.main_arg0) = m ((c.tc : Thread Cert.FfnPrepIdeal.nD Cert.FfnPrepIdeal.τ).loc Cert.FfnPrepIdeal.main_arg0)
      ∧ m' ((c.tc : Thread Cert.FfnPrepRefIdeal.nD Cert.FfnPrepRefIdeal.τ).loc Cert.FfnPrepRefIdeal.main_arg1) = m ((c.tc : Thread Cert.FfnPrepIdeal.nD Cert.FfnPrepIdeal.τ).loc Cert.FfnPrepIdeal.main_arg1)) →
    ∃ (v0 : (c : Dev Cert.FfnPrepIdeal.nD) → Buf (Elt Ideal) ((c.tc : Thread Cert.FfnPrepIdeal.nD Cert.FfnPrepIdeal.τ).loc Cert.FfnPrepIdeal.main_v1)),
      θ_run (Cert.FfnPrepIdeal.defs (F := Ideal)) (onTc (τ := Cert.FfnPrepIdeal.τ) (Cert.FfnPrepIdeal.main (F := Ideal))) ⟨m, fun _ => 0, g⟩ (fun r => ∀ c : Dev Cert.FfnPrepIdeal.nD,
          r.2.mem ((c.tc : Thread Cert.FfnPrepIdeal.nD Cert.FfnPrepIdeal.τ).loc Cert.FfnPrepIdeal.main_v1) = v0 c
          ∧ r.2.mem ((c.tc : Thread Cert.FfnPrepIdeal.nD Cert.FfnPrepIdeal.τ).loc Cert.FfnPrepIdeal.main_arg0) = m ((c.tc : Thread Cert.FfnPrepIdeal.nD Cert.FfnPrepIdeal.τ).loc Cert.FfnPrepIdeal.main_arg0)
          ∧ r.2.mem ((c.tc : Thread Cert.FfnPrepIdeal.nD Cert.FfnPrepIdeal.τ).loc Cert.FfnPrepIdeal.main_arg1) = m ((c.tc : Thread Cert.FfnPrepIdeal.nD Cert.FfnPrepIdeal.τ).loc Cert.FfnPrepIdeal.main_arg1))
      ∧ θ_run (Cert.FfnPrepRefIdeal.defs (F := Ideal)) (onTc (τ := Cert.FfnPrepRefIdeal.τ) (Cert.FfnPrepRefIdeal.main (F := Ideal))) ⟨m', fun _ => 0, g'⟩ (fun r => ∀ c : Dev Cert.FfnPrepRefIdeal.nD,
          r.2.mem ((c.tc : Thread Cert.FfnPrepRefIdeal.nD Cert.FfnPrepRefIdeal.τ).loc Cert.FfnPrepRefIdeal.main_v8) = v0 c
          ∧ r.2.mem ((c.tc : Thread Cert.FfnPrepRefIdeal.nD Cert.FfnPrepRefIdeal.τ).loc Cert.FfnPrepRefIdeal.main_arg0) = m' ((c.tc : Thread Cert.FfnPrepRefIdeal.nD Cert.FfnPrepRefIdeal.τ).loc Cert.FfnPrepRefIdeal.main_arg0)
          ∧ r.2.mem ((c.tc : Thread Cert.FfnPrepRefIdeal.nD Cert.FfnPrepRefIdeal.τ).loc Cert.FfnPrepRefIdeal.main_arg1) = m' ((c.tc : Thread Cert.FfnPrepRefIdeal.nD Cert.FfnPrepRefIdeal.τ).loc Cert.FfnPrepRefIdeal.main_arg1))

def preserves_InPrep_InPrepIdeal : Prop :=
  True

def algebraic_InPrepIdeal_InPrepRefIdeal [hInPrepIdeal : Cert.InPrepIdeal.Facts] [hInPrepRefIdeal : Cert.InPrepRefIdeal.Facts] : Prop :=
  ∀ (m : (ℓ : Loc Cert.InPrepIdeal.nD Cert.InPrepIdeal.τ Cert.InPrepIdeal.sig) → Buf (Elt Ideal) ℓ) (g : Dev Cert.InPrepIdeal.nD → PrngReg)
    (m' : (ℓ : Loc Cert.InPrepRefIdeal.nD Cert.InPrepRefIdeal.τ Cert.InPrepRefIdeal.sig) → Buf (Elt Ideal) ℓ) (g' : Dev Cert.InPrepRefIdeal.nD → PrngReg), Pre_InPrepIdeal m →
    (∀ c : Dev Cert.InPrepIdeal.nD,
      m' ((c.tc : Thread Cert.InPrepRefIdeal.nD Cert.InPrepRefIdeal.τ).loc Cert.InPrepRefIdeal.main_arg0) = m ((c.tc : Thread Cert.InPrepIdeal.nD Cert.InPrepIdeal.τ).loc Cert.InPrepIdeal.main_arg0)
      ∧ m' ((c.tc : Thread Cert.InPrepRefIdeal.nD Cert.InPrepRefIdeal.τ).loc Cert.InPrepRefIdeal.main_arg1) = m ((c.tc : Thread Cert.InPrepIdeal.nD Cert.InPrepIdeal.τ).loc Cert.InPrepIdeal.main_arg1)) →
    ∃ (v0 : (c : Dev Cert.InPrepIdeal.nD) → Buf (Elt Ideal) ((c.tc : Thread Cert.InPrepIdeal.nD Cert.InPrepIdeal.τ).loc Cert.InPrepIdeal.main_v2)),
      θ_run (Cert.InPrepIdeal.defs (F := Ideal)) (onTc (τ := Cert.InPrepIdeal.τ) (Cert.InPrepIdeal.main (F := Ideal))) ⟨m, fun _ => 0, g⟩ (fun r => ∀ c : Dev Cert.InPrepIdeal.nD,
          r.2.mem ((c.tc : Thread Cert.InPrepIdeal.nD Cert.InPrepIdeal.τ).loc Cert.InPrepIdeal.main_v2) = v0 c
          ∧ r.2.mem ((c.tc : Thread Cert.InPrepIdeal.nD Cert.InPrepIdeal.τ).loc Cert.InPrepIdeal.main_arg0) = m ((c.tc : Thread Cert.InPrepIdeal.nD Cert.InPrepIdeal.τ).loc Cert.InPrepIdeal.main_arg0)
          ∧ r.2.mem ((c.tc : Thread Cert.InPrepIdeal.nD Cert.InPrepIdeal.τ).loc Cert.InPrepIdeal.main_arg1) = m ((c.tc : Thread Cert.InPrepIdeal.nD Cert.InPrepIdeal.τ).loc Cert.InPrepIdeal.main_arg1))
      ∧ θ_run (Cert.InPrepRefIdeal.defs (F := Ideal)) (onTc (τ := Cert.InPrepRefIdeal.τ) (Cert.InPrepRefIdeal.main (F := Ideal))) ⟨m', fun _ => 0, g'⟩ (fun r => ∀ c : Dev Cert.InPrepRefIdeal.nD,
          r.2.mem ((c.tc : Thread Cert.InPrepRefIdeal.nD Cert.InPrepRefIdeal.τ).loc Cert.InPrepRefIdeal.main_v10) = v0 c
          ∧ r.2.mem ((c.tc : Thread Cert.InPrepRefIdeal.nD Cert.InPrepRefIdeal.τ).loc Cert.InPrepRefIdeal.main_arg0) = m' ((c.tc : Thread Cert.InPrepRefIdeal.nD Cert.InPrepRefIdeal.τ).loc Cert.InPrepRefIdeal.main_arg0)
          ∧ r.2.mem ((c.tc : Thread Cert.InPrepRefIdeal.nD Cert.InPrepRefIdeal.τ).loc Cert.InPrepRefIdeal.main_arg1) = m' ((c.tc : Thread Cert.InPrepRefIdeal.nD Cert.InPrepRefIdeal.τ).loc Cert.InPrepRefIdeal.main_arg1))

def preserves_Conf_ConfIdeal : Prop :=
  True

def algebraic_ConfIdeal_ConfRefIdeal [hConfIdeal : Cert.ConfIdeal.Facts] [hConfRefIdeal : Cert.ConfRefIdeal.Facts] : Prop :=
  ∀ (m : (ℓ : Loc Cert.ConfIdeal.nD Cert.ConfIdeal.τ Cert.ConfIdeal.sig) → Buf (Elt Ideal) ℓ) (g : Dev Cert.ConfIdeal.nD → PrngReg)
    (m' : (ℓ : Loc Cert.ConfRefIdeal.nD Cert.ConfRefIdeal.τ Cert.ConfRefIdeal.sig) → Buf (Elt Ideal) ℓ) (g' : Dev Cert.ConfRefIdeal.nD → PrngReg), Pre_ConfIdeal m →
    (∀ c : Dev Cert.ConfIdeal.nD,
      m' ((c.tc : Thread Cert.ConfRefIdeal.nD Cert.ConfRefIdeal.τ).loc Cert.ConfRefIdeal.main_arg0) = m ((c.tc : Thread Cert.ConfIdeal.nD Cert.ConfIdeal.τ).loc Cert.ConfIdeal.main_arg0)
      ∧ m' ((c.tc : Thread Cert.ConfRefIdeal.nD Cert.ConfRefIdeal.τ).loc Cert.ConfRefIdeal.main_arg1) = m ((c.tc : Thread Cert.ConfIdeal.nD Cert.ConfIdeal.τ).loc Cert.ConfIdeal.main_arg1)
      ∧ m' ((c.tc : Thread Cert.ConfRefIdeal.nD Cert.ConfRefIdeal.τ).loc Cert.ConfRefIdeal.main_arg2) = m ((c.tc : Thread Cert.ConfIdeal.nD Cert.ConfIdeal.τ).loc Cert.ConfIdeal.main_arg2)
      ∧ m' ((c.tc : Thread Cert.ConfRefIdeal.nD Cert.ConfRefIdeal.τ).loc Cert.ConfRefIdeal.main_arg3) = m ((c.tc : Thread Cert.ConfIdeal.nD Cert.ConfIdeal.τ).loc Cert.ConfIdeal.main_arg3)
      ∧ m' ((c.tc : Thread Cert.ConfRefIdeal.nD Cert.ConfRefIdeal.τ).loc Cert.ConfRefIdeal.main_arg4) = m ((c.tc : Thread Cert.ConfIdeal.nD Cert.ConfIdeal.τ).loc Cert.ConfIdeal.main_arg4)
      ∧ m' ((c.tc : Thread Cert.ConfRefIdeal.nD Cert.ConfRefIdeal.τ).loc Cert.ConfRefIdeal.main_arg5) = m ((c.tc : Thread Cert.ConfIdeal.nD Cert.ConfIdeal.τ).loc Cert.ConfIdeal.main_arg5)
      ∧ m' ((c.tc : Thread Cert.ConfRefIdeal.nD Cert.ConfRefIdeal.τ).loc Cert.ConfRefIdeal.main_arg6) = m ((c.tc : Thread Cert.ConfIdeal.nD Cert.ConfIdeal.τ).loc Cert.ConfIdeal.main_arg6)) →
    ∃ (v0 : (c : Dev Cert.ConfIdeal.nD) → Buf (Elt Ideal) ((c.tc : Thread Cert.ConfIdeal.nD Cert.ConfIdeal.τ).loc Cert.ConfIdeal.main_v6)),
      θ_run (Cert.ConfIdeal.defs (F := Ideal)) (onTc (τ := Cert.ConfIdeal.τ) (Cert.ConfIdeal.main (F := Ideal))) ⟨m, fun _ => 0, g⟩ (fun r => ∀ c : Dev Cert.ConfIdeal.nD,
          r.2.mem ((c.tc : Thread Cert.ConfIdeal.nD Cert.ConfIdeal.τ).loc Cert.ConfIdeal.main_v6) = v0 c
          ∧ r.2.mem ((c.tc : Thread Cert.ConfIdeal.nD Cert.ConfIdeal.τ).loc Cert.ConfIdeal.main_arg0) = m ((c.tc : Thread Cert.ConfIdeal.nD Cert.ConfIdeal.τ).loc Cert.ConfIdeal.main_arg0)
          ∧ r.2.mem ((c.tc : Thread Cert.ConfIdeal.nD Cert.ConfIdeal.τ).loc Cert.ConfIdeal.main_arg1) = m ((c.tc : Thread Cert.ConfIdeal.nD Cert.ConfIdeal.τ).loc Cert.ConfIdeal.main_arg1)
          ∧ r.2.mem ((c.tc : Thread Cert.ConfIdeal.nD Cert.ConfIdeal.τ).loc Cert.ConfIdeal.main_arg2) = m ((c.tc : Thread Cert.ConfIdeal.nD Cert.ConfIdeal.τ).loc Cert.ConfIdeal.main_arg2)
          ∧ r.2.mem ((c.tc : Thread Cert.ConfIdeal.nD Cert.ConfIdeal.τ).loc Cert.ConfIdeal.main_arg3) = m ((c.tc : Thread Cert.ConfIdeal.nD Cert.ConfIdeal.τ).loc Cert.ConfIdeal.main_arg3)
          ∧ r.2.mem ((c.tc : Thread Cert.ConfIdeal.nD Cert.ConfIdeal.τ).loc Cert.ConfIdeal.main_arg4) = m ((c.tc : Thread Cert.ConfIdeal.nD Cert.ConfIdeal.τ).loc Cert.ConfIdeal.main_arg4)
          ∧ r.2.mem ((c.tc : Thread Cert.ConfIdeal.nD Cert.ConfIdeal.τ).loc Cert.ConfIdeal.main_arg5) = m ((c.tc : Thread Cert.ConfIdeal.nD Cert.ConfIdeal.τ).loc Cert.ConfIdeal.main_arg5)
          ∧ r.2.mem ((c.tc : Thread Cert.ConfIdeal.nD Cert.ConfIdeal.τ).loc Cert.ConfIdeal.main_arg6) = m ((c.tc : Thread Cert.ConfIdeal.nD Cert.ConfIdeal.τ).loc Cert.ConfIdeal.main_arg6))
      ∧ θ_run (Cert.ConfRefIdeal.defs (F := Ideal)) (onTc (τ := Cert.ConfRefIdeal.τ) (Cert.ConfRefIdeal.main (F := Ideal))) ⟨m', fun _ => 0, g'⟩ (fun r => ∀ c : Dev Cert.ConfRefIdeal.nD,
          r.2.mem ((c.tc : Thread Cert.ConfRefIdeal.nD Cert.ConfRefIdeal.τ).loc Cert.ConfRefIdeal.main_v262) = v0 c
          ∧ r.2.mem ((c.tc : Thread Cert.ConfRefIdeal.nD Cert.ConfRefIdeal.τ).loc Cert.ConfRefIdeal.main_arg0) = m' ((c.tc : Thread Cert.ConfRefIdeal.nD Cert.ConfRefIdeal.τ).loc Cert.ConfRefIdeal.main_arg0)
          ∧ r.2.mem ((c.tc : Thread Cert.ConfRefIdeal.nD Cert.ConfRefIdeal.τ).loc Cert.ConfRefIdeal.main_arg1) = m' ((c.tc : Thread Cert.ConfRefIdeal.nD Cert.ConfRefIdeal.τ).loc Cert.ConfRefIdeal.main_arg1)
          ∧ r.2.mem ((c.tc : Thread Cert.ConfRefIdeal.nD Cert.ConfRefIdeal.τ).loc Cert.ConfRefIdeal.main_arg2) = m' ((c.tc : Thread Cert.ConfRefIdeal.nD Cert.ConfRefIdeal.τ).loc Cert.ConfRefIdeal.main_arg2)
          ∧ r.2.mem ((c.tc : Thread Cert.ConfRefIdeal.nD Cert.ConfRefIdeal.τ).loc Cert.ConfRefIdeal.main_arg3) = m' ((c.tc : Thread Cert.ConfRefIdeal.nD Cert.ConfRefIdeal.τ).loc Cert.ConfRefIdeal.main_arg3)
          ∧ r.2.mem ((c.tc : Thread Cert.ConfRefIdeal.nD Cert.ConfRefIdeal.τ).loc Cert.ConfRefIdeal.main_arg4) = m' ((c.tc : Thread Cert.ConfRefIdeal.nD Cert.ConfRefIdeal.τ).loc Cert.ConfRefIdeal.main_arg4)
          ∧ r.2.mem ((c.tc : Thread Cert.ConfRefIdeal.nD Cert.ConfRefIdeal.τ).loc Cert.ConfRefIdeal.main_arg5) = m' ((c.tc : Thread Cert.ConfRefIdeal.nD Cert.ConfRefIdeal.τ).loc Cert.ConfRefIdeal.main_arg5)
          ∧ r.2.mem ((c.tc : Thread Cert.ConfRefIdeal.nD Cert.ConfRefIdeal.τ).loc Cert.ConfRefIdeal.main_arg6) = m' ((c.tc : Thread Cert.ConfRefIdeal.nD Cert.ConfRefIdeal.τ).loc Cert.ConfRefIdeal.main_arg6))

def Claim : Prop :=
  ∃ (hKernel : Cert.Kernel.Facts) (hKernelIdeal : Cert.KernelIdeal.Facts) (hReferenceIdeal : Cert.ReferenceIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hInProj : Cert.InProj.Facts) (hInProjIdeal : Cert.InProjIdeal.Facts) (hInProjRefIdeal : Cert.InProjRefIdeal.Facts) (hMixOut : Cert.MixOut.Facts) (hMixOutIdeal : Cert.MixOutIdeal.Facts) (hMixOutRefIdeal : Cert.MixOutRefIdeal.Facts) (hFinalNorm : Cert.FinalNorm.Facts) (hFinalNormIdeal : Cert.FinalNormIdeal.Facts) (hFinalNormRefIdeal : Cert.FinalNormRefIdeal.Facts) (hResPrep : Cert.ResPrep.Facts) (hResPrepIdeal : Cert.ResPrepIdeal.Facts) (hResPrepRefIdeal : Cert.ResPrepRefIdeal.Facts) (hFfnPrep : Cert.FfnPrep.Facts) (hFfnPrepIdeal : Cert.FfnPrepIdeal.Facts) (hFfnPrepRefIdeal : Cert.FfnPrepRefIdeal.Facts) (hInPrep : Cert.InPrep.Facts) (hInPrepIdeal : Cert.InPrepIdeal.Facts) (hInPrepRefIdeal : Cert.InPrepRefIdeal.Facts) (hConf : Cert.Conf.Facts) (hConfIdeal : Cert.ConfIdeal.Facts) (hConfRefIdeal : Cert.ConfRefIdeal.Facts) (hPre_finite : Cert.Pre_finite.Facts) (hPre_nonneg : Cert.Pre_nonneg.Facts) (hPre_nonneg_in : Cert.Pre_nonneg_in.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FfnIn (hFfnIn := hFfnIn)
    ∧ quiescent_FfnInIdeal (hFfnInIdeal := hFfnInIdeal)
    ∧ quiescent_FfnInIdeal_pre_nonneg (hFfnInIdeal := hFfnInIdeal) (hPre_nonneg := hPre_nonneg)
    ∧ quiescent_FfnInRefIdeal (hFfnInRefIdeal := hFfnInRefIdeal)
    ∧ quiescent_FfnInRefIdeal_pre_nonneg (hFfnInRefIdeal := hFfnInRefIdeal) (hPre_nonneg := hPre_nonneg)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_InProj (hInProj := hInProj)
    ∧ quiescent_InProjIdeal (hInProjIdeal := hInProjIdeal)
    ∧ quiescent_InProjIdeal_pre_nonneg_in (hInProjIdeal := hInProjIdeal) (hPre_nonneg_in := hPre_nonneg_in)
    ∧ quiescent_InProjRefIdeal (hInProjRefIdeal := hInProjRefIdeal)
    ∧ quiescent_InProjRefIdeal_pre_nonneg_in (hInProjRefIdeal := hInProjRefIdeal) (hPre_nonneg_in := hPre_nonneg_in)
    ∧ quiescent_MixOut (hMixOut := hMixOut)
    ∧ quiescent_MixOutIdeal (hMixOutIdeal := hMixOutIdeal)
    ∧ quiescent_MixOutRefIdeal (hMixOutRefIdeal := hMixOutRefIdeal)
    ∧ quiescent_FinalNorm (hFinalNorm := hFinalNorm)
    ∧ quiescent_FinalNormIdeal (hFinalNormIdeal := hFinalNormIdeal)
    ∧ quiescent_FinalNormRefIdeal (hFinalNormRefIdeal := hFinalNormRefIdeal)
    ∧ quiescent_ResPrep (hResPrep := hResPrep)
    ∧ quiescent_ResPrepIdeal (hResPrepIdeal := hResPrepIdeal)
    ∧ quiescent_ResPrepRefIdeal (hResPrepRefIdeal := hResPrepRefIdeal)
    ∧ quiescent_FfnPrep (hFfnPrep := hFfnPrep)
    ∧ quiescent_FfnPrepIdeal (hFfnPrepIdeal := hFfnPrepIdeal)
    ∧ quiescent_FfnPrepRefIdeal (hFfnPrepRefIdeal := hFfnPrepRefIdeal)
    ∧ quiescent_InPrep (hInPrep := hInPrep)
    ∧ quiescent_InPrepIdeal (hInPrepIdeal := hInPrepIdeal)
    ∧ quiescent_InPrepRefIdeal (hInPrepRefIdeal := hInPrepRefIdeal)
    ∧ quiescent_Conf (hConf := hConf)
    ∧ quiescent_ConfIdeal (hConfIdeal := hConfIdeal)
    ∧ quiescent_ConfRefIdeal (hConfRefIdeal := hConfRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FfnIn_FfnInIdeal
    ∧ algebraic_FfnInIdeal_FfnInRefIdeal_pre_nonneg (hFfnInIdeal := hFfnInIdeal) (hFfnInRefIdeal := hFfnInRefIdeal) (hPre_nonneg := hPre_nonneg)
    ∧ preserves_FfnOut_FfnOutIdeal
    ∧ algebraic_FfnOutIdeal_FfnOutRefIdeal (hFfnOutIdeal := hFfnOutIdeal) (hFfnOutRefIdeal := hFfnOutRefIdeal)
    ∧ preserves_InProj_InProjIdeal
    ∧ algebraic_InProjIdeal_InProjRefIdeal_pre_nonneg_in (hInProjIdeal := hInProjIdeal) (hInProjRefIdeal := hInProjRefIdeal) (hPre_nonneg_in := hPre_nonneg_in)
    ∧ preserves_MixOut_MixOutIdeal
    ∧ algebraic_MixOutIdeal_MixOutRefIdeal (hMixOutIdeal := hMixOutIdeal) (hMixOutRefIdeal := hMixOutRefIdeal)
    ∧ preserves_FinalNorm_FinalNormIdeal
    ∧ algebraic_FinalNormIdeal_FinalNormRefIdeal (hFinalNormIdeal := hFinalNormIdeal) (hFinalNormRefIdeal := hFinalNormRefIdeal)
    ∧ preserves_ResPrep_ResPrepIdeal
    ∧ algebraic_ResPrepIdeal_ResPrepRefIdeal (hResPrepIdeal := hResPrepIdeal) (hResPrepRefIdeal := hResPrepRefIdeal)
    ∧ preserves_FfnPrep_FfnPrepIdeal
    ∧ algebraic_FfnPrepIdeal_FfnPrepRefIdeal (hFfnPrepIdeal := hFfnPrepIdeal) (hFfnPrepRefIdeal := hFfnPrepRefIdeal)
    ∧ preserves_InPrep_InPrepIdeal
    ∧ algebraic_InPrepIdeal_InPrepRefIdeal (hInPrepIdeal := hInPrepIdeal) (hInPrepRefIdeal := hInPrepRefIdeal)
    ∧ preserves_Conf_ConfIdeal
    ∧ algebraic_ConfIdeal_ConfRefIdeal (hConfIdeal := hConfIdeal) (hConfRefIdeal := hConfRefIdeal)
-- ==== Pre_finite.lean ====
abbrev S16384x8192 : Shape := ⟨2, ![16384, 8192]⟩
abbrev S32x32 : Shape := ⟨2, ![32, 32]⟩
abbrev S32 : Shape := ⟨1, ![32]⟩
abbrev S16384x2048 : Shape := ⟨2, ![16384, 2048]⟩
abbrev S16384x256 : Shape := ⟨2, ![16384, 256]⟩
abbrev S_ : Shape := ⟨0, ![]⟩

class Facts : Prop where
  slices_S16384x8192_S16384x2048_0_0 : S16384x8192.Slices ![0, 0] S16384x2048
  slices_S16384x8192_S16384x256_0_7168 : S16384x8192.Slices ![0, 7168] S16384x256
  bcast_S_S16384x2048 : S_.BroadcastsInDim S16384x2048 (![] : Fin 0 → Fin S16384x2048.rank)
  bcast_S_S16384x256 : S_.BroadcastsInDim S16384x256 (![] : Fin 0 → Fin S16384x256.rank)
  bcast_S_S32x32 : S_.BroadcastsInDim S32x32 (![] : Fin 0 → Fin S32x32.rank)
  bcast_S_S32 : S_.BroadcastsInDim S32 (![] : Fin 0 → Fin S32.rank)

variable [Facts]

def fn {F : FTy → Type} [FloatOps F] (main_arg0 : FVec F S16384x8192 .bf16) (main_arg1 : FVec F S32x32 .f32) (main_arg2 : FVec F S32 .f32) : IVec S16384x2048 1 × IVec S16384x256 1 × IVec S32x32 1 × IVec S32 1 :=
  let main_v0 : FVec F S16384x2048 .bf16 := (extractStridedSlice S16384x2048 ![0, 0] · slices_S16384x8192_S16384x2048_0_0) main_arg0
  let main_v1 : FVec F S16384x256 .bf16 := (extractStridedSlice S16384x256 ![0, 7168] · slices_S16384x8192_S16384x256_0_7168) main_arg0
  let main_v2 : FVec F S16384x2048 .bf16 := Host.absf main_v0
  let main_cst : FVec F S_ .bf16 := constant S_ .bf16 0x7F80#16
  let main_v3 : FVec F S16384x2048 .bf16 := broadcastInDim S16384x2048 ![] bcast_S_S16384x2048 main_cst
  let main_v4 : IVec S16384x2048 1 := cmpf .olt main_v2 main_v3
  let main_v5 : FVec F S16384x256 .bf16 := Host.absf main_v1
  let main_cst_0 : FVec F S_ .bf16 := constant S_ .bf16 0x7F80#16
  let main_v6 : FVec F S16384x256 .bf16 := broadcastInDim S16384x256 ![] bcast_S_S16384x256 main_cst_0
  let main_v7 : IVec S16384x256 1 := cmpf .olt main_v5 main_v6
  let main_v8 : FVec F S32x32 .f32 := Host.absf main_arg1
  let main_cst_1 : FVec F S_ .f32 := constant S_ .f32 0x7F800000#32
  let main_v9 : FVec F S32x32 .f32 := broadcastInDim S32x32 ![] bcast_S_S32x32 main_cst_1
  let main_v10 : IVec S32x32 1 := cmpf .olt main_v8 main_v9
  let main_v11 : FVec F S32 .f32 := Host.absf main_arg2
  let main_cst_2 : FVec F S_ .f32 := constant S_ .f32 0x7F800000#32
  let main_v12 : FVec F S32 .f32 := broadcastInDim S32 ![] bcast_S_S32 main_cst_2
  let main_v13 : IVec S32 1 := cmpf .olt main_v11 main_v12
  (main_v4, main_v7, main_v10, main_v13)
-- ==== Pre_nonneg.lean ====
abbrev S16384x4096 : Shape := ⟨2, ![16384, 4096]⟩
abbrev S16384x128 : Shape := ⟨2, ![16384, 128]⟩
abbrev S4x4096x22528 : Shape := ⟨3, ![4, 4096, 22528]⟩
abbrev S3x22016 : Shape := ⟨2, ![3, 22016]⟩
abbrev S22016 : Shape := ⟨1, ![22016]⟩
abbrev S4x11008x4096 : Shape := ⟨3, ![4, 11008, 4096]⟩
abbrev S16384x1 : Shape := ⟨2, ![16384, 1]⟩
abbrev S_ : Shape := ⟨0, ![]⟩

class Facts : Prop where
  slices_S16384x128_S16384x1_0_0 : S16384x128.Slices ![0, 0] S16384x1
  bcast_S_S16384x1 : S_.BroadcastsInDim S16384x1 (![] : Fin 0 → Fin S16384x1.rank)

variable [Facts]

def fn {F : FTy → Type} [FloatOps F] (main_arg0 : FVec F S16384x4096 .bf16) (main_arg1 : FVec F S16384x128 .f32) (main_arg2 : FVec F S4x4096x22528 .bf16) (main_arg3 : FVec F S3x22016 .f32) (main_arg4 : FVec F S22016 .f32) (main_arg5 : FVec F S4x11008x4096 .f32) : IVec S16384x1 1 :=
  let main_v0 : FVec F S16384x1 .f32 := (extractStridedSlice S16384x1 ![0, 0] · slices_S16384x128_S16384x1_0_0) main_arg1
  let main_cst : FVec F S_ .f32 := constant S_ .f32 0x00000000#32
  let main_v1 : FVec F S16384x1 .f32 := broadcastInDim S16384x1 ![] bcast_S_S16384x1 main_cst
  let main_v2 : IVec S16384x1 1 := cmpf .oge main_v0 main_v1
  main_v2
-- ==== Pre_nonneg_in.lean ====
abbrev S16384x4096 : Shape := ⟨2, ![16384, 4096]⟩
abbrev S16384x128 : Shape := ⟨2, ![16384, 128]⟩
abbrev S4x8192x4096 : Shape := ⟨3, ![4, 8192, 4096]⟩
abbrev S4x4096x4096 : Shape := ⟨3, ![4, 4096, 4096]⟩
abbrev S16384x1 : Shape := ⟨2, ![16384, 1]⟩
abbrev S_ : Shape := ⟨0, ![]⟩

class Facts : Prop where
  slices_S16384x128_S16384x1_0_0 : S16384x128.Slices ![0, 0] S16384x1
  bcast_S_S16384x1 : S_.BroadcastsInDim S16384x1 (![] : Fin 0 → Fin S16384x1.rank)

variable [Facts]

def fn {F : FTy → Type} [FloatOps F] (main_arg0 : FVec F S16384x4096 .bf16) (main_arg1 : FVec F S16384x128 .f32) (main_arg2 : FVec F S4x8192x4096 .bf16) (main_arg3 : FVec F S4x4096x4096 .f32) : IVec S16384x1 1 :=
  let main_v0 : FVec F S16384x1 .f32 := (extractStridedSlice S16384x1 ![0, 0] · slices_S16384x128_S16384x1_0_0) main_arg1
  let main_cst : FVec F S_ .f32 := constant S_ .f32 0x00000000#32
  let main_v1 : FVec F S16384x1 .f32 := broadcastInDim S16384x1 ![] bcast_S_S16384x1 main_cst
  let main_v2 : IVec S16384x1 1 := cmpf .oge main_v0 main_v1
  main_v2
-- ==== Kernel.lean ====
abbrev S16384x8192 : Shape := ⟨2, ![16384, 8192]⟩
abbrev S32x32 : Shape := ⟨2, ![32, 32]⟩
abbrev S32 : Shape := ⟨1, ![32]⟩
abbrev S128 : Shape := ⟨1, ![128]⟩
abbrev S128x1 : Shape := ⟨2, ![128, 1]⟩
abbrev S256 : Shape := ⟨1, ![256]⟩
abbrev S1x256 : Shape := ⟨2, ![1, 256]⟩
abbrev S_ : Shape := ⟨0, ![]⟩
abbrev S128x256 : Shape := ⟨2, ![128, 256]⟩
abbrev S32x128x256 : Shape := ⟨3, ![32, 128, 256]⟩
abbrev S1x128x256 : Shape := ⟨3, ![1, 128, 256]⟩
abbrev S1x1 : Shape := ⟨2, ![1, 1]⟩
abbrev S16384x2048 : Shape := ⟨2, ![16384, 2048]⟩
abbrev S512x2048 : Shape := ⟨2, ![512, 2048]⟩
abbrev S512x256 : Shape := ⟨2, ![512, 256]⟩
abbrev S640x256 : Shape := ⟨2, ![640, 256]⟩
abbrev S128x128 : Shape := ⟨2, ![128, 128]⟩
abbrev S256x128 : Shape := ⟨2, ![256, 128]⟩
abbrev S1 : Shape := ⟨1, ![1]⟩

abbrev nBuf : Space → Nat
  | .hbm => 54
  | .vmem => 20
  | .smem => 2
  | _ => 0

abbrev bufTy : (tb : Table) → Fin (tcTables nBuf tb) → BufTy
  | .hbm, ⟨0, _⟩ => ⟨S16384x8192, .bf16⟩
  | .hbm, ⟨1, _⟩ => ⟨S32x32, .f32⟩
  | .hbm, ⟨2, _⟩ => ⟨S32, .f32⟩
  | .hbm, ⟨3, _⟩ => ⟨S128, .i32⟩
  | .hbm, ⟨4, _⟩ => ⟨S128x1, .i32⟩
  | .hbm, ⟨5, _⟩ => ⟨S256, .i32⟩
  | .hbm, ⟨6, _⟩ => ⟨S1x256, .i32⟩
  | .hbm, ⟨7, _⟩ => ⟨S_, .i32⟩
  | .hbm, ⟨8, _⟩ => ⟨S128x1, .i32⟩
  | .hbm, ⟨9, _⟩ => ⟨S128x1, .i32⟩
  | .hbm, ⟨10, _⟩ => ⟨S128x256, .i32⟩
  | .hbm, ⟨11, _⟩ => ⟨S128x256, .i32⟩
  | .hbm, ⟨12, _⟩ => ⟨S128x256, .i32⟩
  | .hbm, ⟨13, _⟩ => ⟨S_, .i32⟩
  | .hbm, ⟨14, _⟩ => ⟨S128x256, .i32⟩
  | .hbm, ⟨15, _⟩ => ⟨S128x256, .i1⟩
  | .hbm, ⟨16, _⟩ => ⟨S_, .i32⟩
  | .hbm, ⟨17, _⟩ => ⟨S128x256, .i32⟩
  | .hbm, ⟨18, _⟩ => ⟨S128x256, .i1⟩
  | .hbm, ⟨19, _⟩ => ⟨S128x256, .i1⟩
  | .hbm, ⟨20, _⟩ => ⟨S_, .i32⟩
  | .hbm, ⟨21, _⟩ => ⟨S128x256, .i32⟩
  | .hbm, ⟨22, _⟩ => ⟨S128x256, .i32⟩
  | .hbm, ⟨23, _⟩ => ⟨S_, .i32⟩
  | .hbm, ⟨24, _⟩ => ⟨S128x256, .i32⟩
  | .hbm, ⟨25, _⟩ => ⟨S128x256, .i32⟩
  | .hbm, ⟨26, _⟩ => ⟨S128x256, .f32⟩
  | .hbm, ⟨27, _⟩ => ⟨S_, .f32⟩
  | .hbm, ⟨28, _⟩ => ⟨S128x256, .f32⟩
  | .hbm, ⟨29, _⟩ => ⟨S128x256, .f32⟩
  | .hbm, ⟨30, _⟩ => ⟨S128x256, .f32⟩
  | .hbm, ⟨31, _⟩ => ⟨S_, .f32⟩
  | .hbm, ⟨32, _⟩ => ⟨S128x256, .f32⟩
  | .hbm, ⟨33, _⟩ => ⟨S128x256, .f32⟩
  | .hbm, ⟨34, _⟩ => ⟨S_, .f32⟩
  | .hbm, ⟨35, _⟩ => ⟨S128x256, .f32⟩
  | .hbm, ⟨36, _⟩ => ⟨S128x256, .f32⟩
  | .hbm, ⟨37, _⟩ => ⟨S128x256, .i32⟩
  | .hbm, ⟨38, _⟩ => ⟨S_, .i32⟩
  | .hbm, ⟨39, _⟩ => ⟨S128x256, .i32⟩
  | .hbm, ⟨40, _⟩ => ⟨S128x256, .i32⟩
  | .hbm, ⟨41, _⟩ => ⟨S_, .i32⟩
  | .hbm, ⟨42, _⟩ => ⟨S128x256, .i32⟩
  | .hbm, ⟨43, _⟩ => ⟨S128x256, .i1⟩
  | .hbm, ⟨44, _⟩ => ⟨S_, .i32⟩
  | .hbm, ⟨45, _⟩ => ⟨S128x256, .i32⟩
  | .hbm, ⟨46, _⟩ => ⟨S128x256, .i32⟩
  | .hbm, ⟨47, _⟩ => ⟨S128x256, .i32⟩
  | .hbm, ⟨48, _⟩ => ⟨S_, .i32⟩
  | .hbm, ⟨49, _⟩ => ⟨S_, .i32⟩
  | .hbm, ⟨50, _⟩ => ⟨S128x256, .i32⟩
  | .hbm, ⟨51, _⟩ => ⟨S128x256, .i32⟩
  | .hbm, ⟨52, _⟩ => ⟨S32x128x256, .f32⟩
  | .hbm, ⟨53, _⟩ => ⟨S16384x2048, .bf16⟩
  | .local _ .vmem, ⟨0, _⟩ => ⟨S128x256, .i32⟩
  | .local _ .vmem, ⟨1, _⟩ => ⟨S1x128x256, .f32⟩
  | .local _ .vmem, ⟨2, _⟩ => ⟨S1x128x256, .f32⟩
  | .local _ .vmem, ⟨3, _⟩ => ⟨S512x2048, .bf16⟩
  | .local _ .vmem, ⟨4, _⟩ => ⟨S512x2048, .bf16⟩
  | .local _ .vmem, ⟨5, _⟩ => ⟨S512x256, .bf16⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S128x256, .bf16⟩
  | .local _ .vmem, ⟨10, _⟩ => ⟨S128x256, .bf16⟩
  | .local _ .vmem, ⟨11, _⟩ => ⟨S128x256, .bf16⟩
  | .local _ .vmem, ⟨12, _⟩ => ⟨S128x256, .bf16⟩
  | .local _ .vmem, ⟨13, _⟩ => ⟨S32x128x256, .f32⟩
  | .local _ .vmem, ⟨14, _⟩ => ⟨S512x2048, .bf16⟩
  | .local _ .vmem, ⟨15, _⟩ => ⟨S512x2048, .bf16⟩
  | .local _ .vmem, ⟨16, _⟩ => ⟨S640x256, .bf16⟩
  | .local _ .vmem, ⟨17, _⟩ => ⟨S640x256, .bf16⟩
  | .local _ .vmem, ⟨18, _⟩ => ⟨S640x256, .bf16⟩
  | .local _ .vmem, ⟨19, _⟩ => ⟨S640x256, .bf16⟩
  | .local _ .smem, ⟨0, _⟩ => ⟨S32x32, .f32⟩
  | .local _ .smem, ⟨1, _⟩ => ⟨S32, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_c_2 : Ref sig .tc := ⟨.hbm, 20, rfl⟩
abbrev main_v14 : Ref sig .tc := ⟨.hbm, 21, rfl⟩
abbrev main_v15 : Ref sig .tc := ⟨.hbm, 22, rfl⟩
abbrev main_c_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_6 : Ref sig .tc := ⟨.hbm, 38, rfl⟩
abbrev main_v27 : Ref sig .tc := ⟨.hbm, 39, rfl⟩
abbrev main_v28 : Ref sig .tc := ⟨.hbm, 40, rfl⟩
abbrev main_c_7 : Ref sig .tc := ⟨.hbm, 41, rfl⟩
abbrev main_v29 : Ref sig .tc := ⟨.hbm, 42, rfl⟩
abbrev main_v30 : Ref sig .tc := ⟨.hbm, 43, rfl⟩
abbrev main_c_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_c_9 : Ref sig .tc := ⟨.hbm, 48, rfl⟩
abbrev main_call1_v0 : Ref sig .tc := ⟨.hbm, 49, rfl⟩
abbrev main_call1_v1 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev cc0_stg0_0 : Ref sig .tc := ⟨.vmem, 0, rfl⟩
abbrev cc0_stg2_0 : Ref sig .tc := ⟨.vmem, 1, rfl⟩
abbrev cc0_stg2_1 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc1_stg4_0 : Ref sig .tc := ⟨.vmem, 11, rfl⟩
abbrev cc1_stg4_1 : Ref sig .tc := ⟨.vmem, 12, rfl⟩
abbrev cc1_stg5_0 : Ref sig .tc := ⟨.vmem, 13, rfl⟩
abbrev cc1_stg7_0 : Ref sig .tc := ⟨.vmem, 14, rfl⟩
abbrev cc1_stg7_1 : Ref sig .tc := ⟨.vmem, 15, rfl⟩
abbrev cc1_scratch0 : Ref sig .tc := ⟨.vmem, 16, rfl⟩
abbrev cc1_scratch1 : Ref sig .tc := ⟨.vmem, 17, rfl⟩
abbrev cc1_scratch2 : Ref sig .tc := ⟨.vmem, 18, rfl⟩
abbrev cc1_scratch3 : Ref sig .tc := ⟨.vmem, 19, rfl⟩
abbrev cc0_stg1_0 : Ref sig .tc := ⟨.smem, 0, rfl⟩
abbrev cc1_stg6_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem4_1 : DmaSem sig := 13
abbrev cc1_sem5_0 : DmaSem sig := 14
abbrev cc1_sem6_0 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let c0_1 : Index := 0#32
  let arg0 : BitVec 32 := BitVec.ofNat 32 (i 0).val
  let v5 : Index := Scalar.indexCast arg0
  ![0, v5.toNat]
def k0_off2 (i : grid0.Coords) : Fin 2 → Nat :=
  let c1 : Index := 1#32
  let arg0 : BitVec 32 := BitVec.ofNat 32 (i 0).val
  let v11 : Index := Scalar.indexCast arg0
  ![1, v11.toNat]
def k0_off3 (i : grid0.Coords) : Fin 2 → Nat :=
  let c2 : Index := 2#32
  let arg0 : BitVec 32 := BitVec.ofNat 32 (i 0).val
  let v17 : Index := Scalar.indexCast arg0
  ![2, v17.toNat]
def k0_off4 (i : grid0.Coords) : Fin 2 → Nat :=
  let c3 : Index := 3#32
  let arg0 : BitVec 32 := BitVec.ofNat 32 (i 0).val
  let v23 : Index := Scalar.indexCast arg0
  ![3, v23.toNat]
def k0_off5 (i : grid0.Coords) : Fin 2 → Nat :=
  let c4 : Index := 4#32
  let arg0 : BitVec 32 := BitVec.ofNat 32 (i 0).val
  let v29 : Index := Scalar.indexCast arg0
  ![4, v29.toNat]
def k0_off6 (i : grid0.Coords) : Fin 2 → Nat :=
  let c5 : Index := 5#32
  let arg0 : BitVec 32 := BitVec.ofNat 32 (i 0).val
  let v35 : Index := Scalar.indexCast arg0
  ![5, v35.toNat]
def k0_off7 (i : grid0.Coords) : Fin 2 → Nat :=
  let c6 : Index := 6#32
  let arg0 : BitVec 32 := BitVec.ofNat 32 (i 0).val
  let v41 : Index := Scalar.indexCast arg0
  ![6, v41.toNat]
def k0_off8 (i : grid0.Coords) : Fin 2 → Nat :=
  let c7 : Index := 7#32
  let arg0 : BitVec 32 := BitVec.ofNat 32 (i 0).val
  let v47 : Index := Scalar.indexCast arg0
  ![7, v47.toNat]
def k0_off9 (i : grid0.Coords) : Fin 2 → Nat :=
  let c8 : Index := 8#32
  let arg0 : BitVec 32 := BitVec.ofNat 32 (i 0).val
  let v53 : Index := Scalar.indexCast arg0
  ![8, v53.toNat]
def k0_off10 (i : grid0.Coords) : Fin 2 → Nat :=
  let c9 : Index := 9#32
  let arg0 : BitVec 32 := BitVec.ofNat 32 (i 0).val
  let v59 : Index := Scalar.indexCast arg0
  ![9, v59.toNat]
def k0_off11 (i : grid0.Coords) : Fin 2 → Nat :=
  let c10 : Index := 10#32
  let arg0 : BitVec 32 := BitVec.ofNat 32 (i 0).val
  let v65 : Index := Scalar.indexCast arg0
  ![10, v65.toNat]
def k0_off12 (i : grid0.Coords) : Fin 2 → Nat :=
  let c11 : Index := 11#32
  let arg0 : BitVec 32 := BitVec.ofNat 32 (i 0).val
  let v71 : Index := Scalar.indexCast arg0
  ![11, v71.toNat]
def k0_off13 (i : grid0.Coords) : Fin 2 → Nat :=
  let c12 : Index := 12#32
  let arg0 : BitVec 32 := BitVec.ofNat 32 (i 0).val
  let v77 : Index := Scalar.indexCast arg0
  ![12, v77.toNat]
def k0_off14 (i : grid0.Coords) : Fin 2 → Nat :=
  let c13 : Index := 13#32
  let arg0 : BitVec 32 := BitVec.ofNat 32 (i 0).val
  let v83 : Index := Scalar.indexCast arg0
  ![13, v83.toNat]
def k0_off15 (i : grid0.Coords) : Fin 2 → Nat :=
  let c14 : Index := 14#32
  let arg0 : BitVec 32 := BitVec.ofNat 32 (i 0).val
  let v89 : Index := Scalar.indexCast arg0
  ![14, v89.toNat]
def k0_off16 (i : grid0.Coords) : Fin 2 → Nat :=
  let c15 : Index := 15#32
  let arg0 : BitVec 32 := BitVec.ofNat 32 (i 0).val
  let v95 : Index := Scalar.indexCast arg0
  ![15, v95.toNat]
def k0_off17 (i : grid0.Coords) : Fin 2 → Nat :=
  let c16 : Index := 16#32
  let arg0 : BitVec 32 := BitVec.ofNat 32 (i 0).val
  let v101 : Index := Scalar.indexCast arg0
  ![16, v101.toNat]
def k0_off18 (i : grid0.Coords) : Fin 2 → Nat :=
  let c17 : Index := 17#32
  let arg0 : BitVec 32 := BitVec.ofNat 32 (i 0).val
  let v107 : Index := Scalar.indexCast arg0
  ![17, v107.toNat]
def k0_off19 (i : grid0.Coords) : Fin 2 → Nat :=
  let c18 : Index := 18#32
  let arg0 : BitVec 32 := BitVec.ofNat 32 (i 0).val
  let v113 : Index := Scalar.indexCast arg0
  ![18, v113.toNat]
def k0_off20 (i : grid0.Coords) : Fin 2 → Nat :=
  let c19 : Index := 19#32
  let arg0 : BitVec 32 := BitVec.ofNat 32 (i 0).val
  let v119 : Index := Scalar.indexCast arg0
  ![19, v119.toNat]
def k0_off21 (i : grid0.Coords) : Fin 2 → Nat :=
  let c20 : Index := 20#32
  let arg0 : BitVec 32 := BitVec.ofNat 32 (i 0).val
  let v125 : Index := Scalar.indexCast arg0
  ![20, v125.toNat]
def k0_off22 (i : grid0.Coords) : Fin 2 → Nat :=
  let c21 : Index := 21#32
  let arg0 : BitVec 32 := BitVec.ofNat 32 (i 0).val
  let v131 : Index := Scalar.indexCast arg0
  ![21, v131.toNat]
def k0_off23 (i : grid0.Coords) : Fin 2 → Nat :=
  let c22 : Index := 22#32
  let arg0 : BitVec 32 := BitVec.ofNat 32 (i 0).val
  let v137 : Index := Scalar.indexCast arg0
  ![22, v137.toNat]
def k0_off24 (i : grid0.Coords) : Fin 2 → Nat :=
  let c23 : Index := 23#32
  let arg0 : BitVec 32 := BitVec.ofNat 32 (i 0).val
  let v143 : Index := Scalar.indexCast arg0
  ![23, v143.toNat]
def k0_off25 (i : grid0.Coords) : Fin 2 → Nat :=
  let c24 : Index := 24#32
  let arg0 : BitVec 32 := BitVec.ofNat 32 (i 0).val
  let v149 : Index := Scalar.indexCast arg0
  ![24, v149.toNat]
def k0_off26 (i : grid0.Coords) : Fin 2 → Nat :=
  let c25 : Index := 25#32
  let arg0 : BitVec 32 := BitVec.ofNat 32 (i 0).val
  let v155 : Index := Scalar.indexCast arg0
  ![25, v155.toNat]
def k0_off27 (i : grid0.Coords) : Fin 2 → Nat :=
  let c26 : Index := 26#32
  let arg0 : BitVec 32 := BitVec.ofNat 32 (i 0).val
  let v161 : Index := Scalar.indexCast arg0
  ![26, v161.toNat]
def k0_off28 (i : grid0.Coords) : Fin 2 → Nat :=
  let c27 : Index := 27#32
  let arg0 : BitVec 32 := BitVec.ofNat 32 (i 0).val
  let v167 : Index := Scalar.indexCast arg0
  ![27, v167.toNat]
def k0_off29 (i : grid0.Coords) : Fin 2 → Nat :=
  let c28 : Index := 28#32
  let arg0 : BitVec 32 := BitVec.ofNat 32 (i 0).val
  let v173 : Index := Scalar.indexCast arg0
  ![28, v173.toNat]
def k0_off30 (i : grid0.Coords) : Fin 2 → Nat :=
  let c29 : Index := 29#32
  let arg0 : BitVec 32 := BitVec.ofNat 32 (i 0).val
  let v179 : Index := Scalar.indexCast arg0
  ![29, v179.toNat]
def k0_off31 (i : grid0.Coords) : Fin 2 → Nat :=
  let c30 : Index := 30#32
  let arg0 : BitVec 32 := BitVec.ofNat 32 (i 0).val
  let v185 : Index := Scalar.indexCast arg0
  ![30, v185.toNat]
def k0_off32 (i : grid0.Coords) : Fin 2 → Nat :=
  let c31 : Index := 31#32
  let arg0 : BitVec 32 := BitVec.ofNat 32 (i 0).val
  let v191 : Index := Scalar.indexCast arg0
  ![31, v191.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x256 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

@[reducible] def k1_t1_loop : Scf.Loop 32 :=
  let c0_i32 : BitVec 32 := 0#32
  let c4_i32 : BitVec 32 := 4#32
  let v36 : BitVec 32 := Scalar.addi c0_i32 c4_i32
  let c1_i32 : BitVec 32 := 1#32
  ⟨c0_i32, v36, c1_i32⟩
def k1_mult1 (k1_t1 : Fin k1_t1_loop.trips) : BitVec 32 :=
  let c0_i32 : BitVec 32 := 0#32
  let c1_i32 : BitVec 32 := 1#32
  let arg13 : BitVec 32 := Scf.iv c0_i32 c1_i32 k1_t1
  let c128_i32_25 : BitVec 32 := 128#32
  let v37 : BitVec 32 := Scalar.muli arg13 c128_i32_25
  v37
def k1_off1 (k1_t1 : Fin k1_t1_loop.trips) : Fin 2 → Nat :=
  let c0_i32 : BitVec 32 := 0#32
  let c1_i32 : BitVec 32 := 1#32
  let arg13 : BitVec 32 := Scf.iv c0_i32 c1_i32 k1_t1
  let c128_i32_25 : BitVec 32 := 128#32
  let v37 : BitVec 32 := Scalar.muli arg13 c128_i32_25
  let v38 : BitVec 32 := v37
  let v44 : Index := Scalar.indexCast v38
  let c0_28 : Index := 0#32
  ![v44.toNat, 0]
def k1_off2 (k1_t1 : Fin k1_t1_loop.trips) : Fin 2 → Nat :=
  let c0_i32 : BitVec 32 := 0#32
  let c1_i32 : BitVec 32 := 1#32
  let arg13 : BitVec 32 := Scf.iv c0_i32 c1_i32 k1_t1
  let c128_i32_25 : BitVec 32 := 128#32
  let v37 : BitVec 32 := Scalar.muli arg13 c128_i32_25
  let v38 : BitVec 32 := v37
  let v50 : Index := Scalar.indexCast v38
  let c0_30 : Index := 0#32
  ![v50.toNat, 0]
def k1_off3 (k1_t1 : Fin k1_t1_loop.trips) : Fin 2 → Nat :=
  let c0_i32 : BitVec 32 := 0#32
  let c1_i32 : BitVec 32 := 1#32
  let arg13 : BitVec 32 := Scf.iv c0_i32 c1_i32 k1_t1
  let c128_i32_25 : BitVec 32 := 128#32
  let v37 : BitVec 32 := Scalar.muli arg13 c128_i32_25
  let v38 : BitVec 32 := v37
  let v113 : Index := Scalar.indexCast v38
  let c128_54 : Index := 128#32
  ![v113.toNat, 128]
def k1_off4 (k1_t1 : Fin k1_t1_loop.trips) : Fin 2 → Nat :=
  let c0_i32 : BitVec 32 := 0#32
  let c1_i32 : BitVec 32 := 1#32
  let arg13 : BitVec 32 := Scf.iv c0_i32 c1_i32 k1_t1
  let c128_i32_25 : BitVec 32 := 128#32
  let v37 : BitVec 32 := Scalar.muli arg13 c128_i32_25
  let v38 : BitVec 32 := v37
  let v182 : Index := Scalar.indexCast v38
  let c256 : Index := 256#32
  ![v182.toNat, 256]
def k1_off5 (k1_t1 : Fin k1_t1_loop.trips) : Fin 2 → Nat :=
  let c0_i32 : BitVec 32 := 0#32
  let c1_i32 : BitVec 32 := 1#32
  let arg13 : BitVec 32 := Scf.iv c0_i32 c1_i32 k1_t1
  let c128_i32_25 : BitVec 32 := 128#32
  let v37 : BitVec 32 := Scalar.muli arg13 c128_i32_25
  let v38 : BitVec 32 := v37
  let v251 : Index := Scalar.indexCast v38
  let c384 : Index := 384#32
  ![v251.toNat, 384]
def k1_off6 (k1_t1 : Fin k1_t1_loop.trips) : Fin 2 → Nat :=
  let c0_i32 : BitVec 32 := 0#32
  let c1_i32 : BitVec 32 := 1#32
  let arg13 : BitVec 32 := Scf.iv c0_i32 c1_i32 k1_t1
  let c128_i32_25 : BitVec 32 := 128#32
  let v37 : BitVec 32 := Scalar.muli arg13 c128_i32_25
  let v38 : BitVec 32 := v37
  let v320 : Index := Scalar.indexCast v38
  let c512 : Index := 512#32
  ![v320.toNat, 512]
def k1_off7 (k1_t1 : Fin k1_t1_loop.trips) : Fin 2 → Nat :=
  let c0_i32 : BitVec 32 := 0#32
  let c1_i32 : BitVec 32 := 1#32
  let arg13 : BitVec 32 := Scf.iv c0_i32 c1_i32 k1_t1
  let c128_i32_25 : BitVec 32 := 128#32
  let v37 : BitVec 32 := Scalar.muli arg13 c128_i32_25
  let v38 : BitVec 32 := v37
  let v326 : Index := Scalar.indexCast v38
  let c128_132 : Index := 128#32
  ![v326.toNat, 128]
def k1_off8 (k1_t1 : Fin k1_t1_loop.trips) : Fin 2 → Nat :=
  let c0_i32 : BitVec 32 := 0#32
  let c1_i32 : BitVec 32 := 1#32
  let arg13 : BitVec 32 := Scf.iv c0_i32 c1_i32 k1_t1
  let c128_i32_25 : BitVec 32 := 128#32
  let v37 : BitVec 32 := Scalar.muli arg13 c128_i32_25
  let v38 : BitVec 32 := v37
  let v389 : Index := Scalar.indexCast v38
  let c640 : Index := 640#32
  ![v389.toNat, 640]
def k1_off9 (k1_t1 : Fin k1_t1_loop.trips) : Fin 2 → Nat :=
  let c0_i32 : BitVec 32 := 0#32
  let c1_i32 : BitVec 32 := 1#32
  let arg13 : BitVec 32 := Scf.iv c0_i32 c1_i32 k1_t1
  let c128_i32_25 : BitVec 32 := 128#32
  let v37 : BitVec 32 := Scalar.muli arg13 c128_i32_25
  let v38 : BitVec 32 := v37
  let v458 : Index := Scalar.indexCast v38
  let c768 : Index := 768#32
  ![v458.toNat, 768]
def k1_off10 (k1_t1 : Fin k1_t1_loop.trips) : Fin 2 → Nat :=
  let c0_i32 : BitVec 32 := 0#32
  let c1_i32 : BitVec 32 := 1#32
  let arg13 : BitVec 32 := Scf.iv c0_i32 c1_i32 k1_t1
  let c128_i32_25 : BitVec 32 := 128#32
  let v37 : BitVec 32 := Scalar.muli arg13 c128_i32_25
  let v38 : BitVec 32 := v37
  let v527 : Index := Scalar.indexCast v38
  let c896 : Index := 896#32
  ![v527.toNat, 896]
def k1_off11 (k1_t1 : Fin k1_t1_loop.trips) : Fin 2 → Nat :=
  let c0_i32 : BitVec 32 := 0#32
  let c1_i32 : BitVec 32 := 1#32
  let arg13 : BitVec 32 := Scf.iv c0_i32 c1_i32 k1_t1
  let c128_i32_25 : BitVec 32 := 128#32
  let v37 : BitVec 32 := Scalar.muli arg13 c128_i32_25
  let v38 : BitVec 32 := v37
  let v596 : Index := Scalar.indexCast v38
  let c1024 : Index := 1024#32
  ![v596.toNat, 1024]
def k1_off12 (k1_t1 : Fin k1_t1_loop.trips) : Fin 2 → Nat :=
  let c0_i32 : BitVec 32 := 0#32
  let c1_i32 : BitVec 32 := 1#32
  let arg13 : BitVec 32 := Scf.iv c0_i32 c1_i32 k1_t1
  let c128_i32_25 : BitVec 32 := 128#32
  let v37 : BitVec 32 := Scalar.muli arg13 c128_i32_25
  let v38 : BitVec 32 := v37
  let v665 : Index := Scalar.indexCast v38
  let c1152 : Index := 1152#32
  ![v665.toNat, 1152]
def k1_off13 (k1_t1 : Fin k1_t1_loop.trips) : Fin 2 → Nat :=
  let c0_i32 : BitVec 32 := 0#32
  let c1_i32 : BitVec 32 := 1#32
  let arg13 : BitVec 32 := Scf.iv c0_i32 c1_i32 k1_t1
  let c128_i32_25 : BitVec 32 := 128#32
  let v37 : BitVec 32 := Scalar.muli arg13 c128_i32_25
  let v38 : BitVec 32 := v37
  let v734 : Index := Scalar.indexCast v38
  let c1280 : Index := 1280#32
  ![v734.toNat, 1280]
def k1_off14 (k1_t1 : Fin k1_t1_loop.trips) : Fin 2 → Nat :=
  let c0_i32 : BitVec 32 := 0#32
  let c1_i32 : BitVec 32 := 1#32
  let arg13 : BitVec 32 := Scf.iv c0_i32 c1_i32 k1_t1
  let c128_i32_25 : BitVec 32 := 128#32
  let v37 : BitVec 32 := Scalar.muli arg13 c128_i32_25
  let v38 : BitVec 32 := v37
  let v803 : Index := Scalar.indexCast v38
  let c1408 : Index := 1408#32
  ![v803.toNat, 1408]
def k1_off15 (k1_t1 : Fin k1_t1_loop.trips) : Fin 2 → Nat :=
  let c0_i32 : BitVec 32 := 0#32
  let c1_i32 : BitVec 32 := 1#32
  let arg13 : BitVec 32 := Scf.iv c0_i32 c1_i32 k1_t1
  let c128_i32_25 : BitVec 32 := 128#32
  let v37 : BitVec 32 := Scalar.muli arg13 c128_i32_25
  let v38 : BitVec 32 := v37
  let v872 : Index := Scalar.indexCast v38
  let c1536 : Index := 1536#32
  ![v872.toNat, 1536]
def k1_off16 (k1_t1 : Fin k1_t1_loop.trips) : Fin 2 → Nat :=
  let c0_i32 : BitVec 32 := 0#32
  let c1_i32 : BitVec 32 := 1#32
  let arg13 : BitVec 32 := Scf.iv c0_i32 c1_i32 k1_t1
  let c128_i32_25 : BitVec 32 := 128#32
  let v37 : BitVec 32 := Scalar.muli arg13 c128_i32_25
  let v38 : BitVec 32 := v37
  let v941 : Index := Scalar.indexCast v38
  let c1664 : Index := 1664#32
  ![v941.toNat, 1664]
def k1_off17 (k1_t1 : Fin k1_t1_loop.trips) : Fin 2 → Nat :=
  let c0_i32 : BitVec 32 := 0#32
  let c1_i32 : BitVec 32 := 1#32
  let arg13 : BitVec 32 := Scf.iv c0_i32 c1_i32 k1_t1
  let c128_i32_25 : BitVec 32 := 128#32
  let v37 : BitVec 32 := Scalar.muli arg13 c128_i32_25
  let v38 : BitVec 32 := v37
  let v1010 : Index := Scalar.indexCast v38
  let c1792 : Index := 1792#32
  ![v1010.toNat, 1792]
def k1_off18 (k1_t1 : Fin k1_t1_loop.trips) : Fin 2 → Nat :=
  let c0_i32 : BitVec 32 := 0#32
  let c1_i32 : BitVec 32 := 1#32
  let arg13 : BitVec 32 := Scf.iv c0_i32 c1_i32 k1_t1
  let c128_i32_25 : BitVec 32 := 128#32
  let v37 : BitVec 32 := Scalar.muli arg13 c128_i32_25
  let v38 : BitVec 32 := v37
  let v1079 : Index := Scalar.indexCast v38
  let c1920 : Index := 1920#32
  ![v1079.toNat, 1920]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c28_i32 : BitVec 32 := 28#32
  let c0_i32 : BitVec 32 := 0#32
  ![arg0.toNat, c28_i32.toNat]

def cc1_transform_2 (i : grid1.Coords) : Fin 2 → Nat :=
  let arg0 : BitVec 32 := BitVec.ofNat 32 (i 0).val
  let c29_i32 : BitVec 32 := 29#32
  let c0_i32 : BitVec 32 := 0#32
  ![arg0.toNat, c29_i32.toNat]

def cc1_transform_3 (i : grid1.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c28_i32 : BitVec 32 := 28#32
  let c0_i32_0 : BitVec 32 := 0#32
  ![v2.toNat, c28_i32.toNat]

def cc1_transform_4 (i : grid1.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.subi v0 c1_i32
  let c0_i32 : BitVec 32 := 0#32
  let v2 : BitVec 32 := Scalar.maxsi v1 c0_i32
  let c29_i32 : BitVec 32 := 29#32
  let c0_i32_0 : BitVec 32 := 0#32
  ![v2.toNat, c29_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S128x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S128x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S32x128x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .smem S32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S512x2048 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]
-- ==== ReferenceIdeal.lean ====
abbrev S16384x8192 : Shape := ⟨2, ![16384, 8192]⟩
abbrev S32x32 : Shape := ⟨2, ![32, 32]⟩
abbrev S32 : Shape := ⟨1, ![32]⟩
abbrev S16384x2048 : Shape := ⟨2, ![16384, 2048]⟩
abbrev S1x16384x32x64 : Shape := ⟨4, ![1, 16384, 32, 64]⟩
abbrev S16384x256 : Shape := ⟨2, ![16384, 256]⟩
abbrev S1x16384x4x64 : Shape := ⟨4, ![1, 16384, 4, 64]⟩
abbrev S1x128x128x4x8x64 : Shape := ⟨6, ![1, 128, 128, 4, 8, 64]⟩
abbrev S1x128x128x4x64 : Shape := ⟨5, ![1, 128, 128, 4, 64]⟩
abbrev S_ : Shape := ⟨0, ![]⟩
abbrev S1x129x128x4x64 : Shape := ⟨5, ![1, 129, 128, 4, 64]⟩
abbrev S1x128x256x4x64 : Shape := ⟨5, ![1, 128, 256, 4, 64]⟩
abbrev S1x128x4x256x128x8 : Shape := ⟨6, ![1, 128, 4, 256, 128, 8]⟩
abbrev S1x128x4x8x128x256 : Shape := ⟨6, ![1, 128, 4, 8, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S128x1x1 : Shape := ⟨3, ![128, 1, 1]⟩
abbrev S1x1x256 : Shape := ⟨3, ![1, 1, 256]⟩
abbrev S128x1x256 : Shape := ⟨3, ![128, 1, 256]⟩
abbrev S1x128x256 : Shape := ⟨3, ![1, 128, 256]⟩
abbrev S128x128x256 : Shape := ⟨3, ![128, 128, 256]⟩
abbrev S128x256x1 : Shape := ⟨3, ![128, 256, 1]⟩
abbrev S128x256x32 : Shape := ⟨3, ![128, 256, 32]⟩
abbrev S32x128x256 : Shape := ⟨3, ![32, 128, 256]⟩
abbrev S4x8x128x256 : Shape := ⟨4, ![4, 8, 128, 256]⟩
abbrev S1x128x1x1x128x256 : Shape := ⟨6, ![1, 128, 1, 1, 128, 256]⟩
abbrev S1x1x4x8x128x256 : Shape := ⟨6, ![1, 1, 4, 8, 128, 256]⟩
abbrev S4x8x1x1 : Shape := ⟨4, ![4, 8, 1, 1]⟩
abbrev S1x128x4x8x128 : Shape := ⟨5, ![1, 128, 4, 8, 128]⟩
abbrev S1x128x4x8x128x1 : Shape := ⟨6, ![1, 128, 4, 8, 128, 1]⟩
abbrev S1x1x4x8x1x1 : Shape := ⟨6, ![1, 1, 4, 8, 1, 1]⟩
abbrev S1x128x4x64x8x128 : Shape := ⟨6, ![1, 128, 4, 64, 8, 128]⟩

abbrev nBuf : Space → Nat
  | .hbm => 138
  | .vmem => 0
  | .smem => 0
  | _ => 0

abbrev hbmTy0_0 (i : Nat) : BufTy := match i % 128 with
  | 0 => ⟨S16384x8192, .bf16⟩
  | 1 => ⟨S32x32, .f32⟩
  | 2 => ⟨S32, .f32⟩
  | 3 => ⟨S16384x2048, .bf16⟩
  | 4 => ⟨S16384x2048, .f32⟩
  | 5 => ⟨S1x16384x32x64, .f32⟩
  | 6 => ⟨S16384x256, .bf16⟩
  | 7 => ⟨S16384x256, .f32⟩
  | 8 => ⟨S1x16384x4x64, .f32⟩
  | 9 => ⟨S16384x256, .bf16⟩
  | 10 => ⟨S16384x256, .f32⟩
  | 11 => ⟨S1x16384x4x64, .f32⟩
  | 12 => ⟨S1x128x128x4x8x64, .f32⟩
  | 13 => ⟨S1x128x128x4x64, .f32⟩
  | 14 => ⟨S_, .i32⟩
  | 15 => ⟨S_, .f32⟩
  | 16 => ⟨S1x129x128x4x64, .f32⟩
  | 17 => ⟨S1x128x128x4x64, .f32⟩
  | 18 => ⟨S1x128x256x4x64, .f32⟩
  | 19 => ⟨S1x128x128x4x64, .f32⟩
  | 20 => ⟨S_, .i32⟩
  | 21 => ⟨S_, .f32⟩
  | 22 => ⟨S1x129x128x4x64, .f32⟩
  | 23 => ⟨S1x128x128x4x64, .f32⟩
  | 24 => ⟨S1x128x256x4x64, .f32⟩
  | 25 => ⟨S1x128x4x256x128x8, .f32⟩
  | 26 => ⟨S1x128x4x8x128x256, .f32⟩
  | 27 => ⟨S_, .f32⟩
  | 28 => ⟨S1x128x4x8x128x256, .f32⟩
  | 29 => ⟨S1x128x4x8x128x256, .f32⟩
  | 30 => ⟨S128, .i32⟩
  | 31 => ⟨S128x1, .i32⟩
  | 32 => ⟨S256, .i32⟩
  | 33 => ⟨S1x256, .i32⟩
  | 34 => ⟨S_, .i32⟩
  | 35 => ⟨S128x1, .i32⟩
  | 36 => ⟨S128x1, .i32⟩
  | 37 => ⟨S128x256, .i32⟩
  | 38 => ⟨S128x256, .i32⟩
  | 39 => ⟨S128x256, .i32⟩
  | 40 => ⟨S_, .i32⟩
  | 41 => ⟨S128x256, .i32⟩
  | 42 => ⟨S128x256, .i1⟩
  | 43 => ⟨S_, .i32⟩
  | 44 => ⟨S128x256, .i32⟩
  | 45 => ⟨S128x256, .i1⟩
  | 46 => ⟨S128x256, .i1⟩
  | 47 => ⟨S128, .i32⟩
  | 48 => ⟨S128x1x1, .i32⟩
  | 49 => ⟨S_, .i32⟩
  | 50 => ⟨S128x1x1, .i32⟩
  | 51 => ⟨S128x1x1, .i32⟩
  | 52 => ⟨S_, .i32⟩
  | 53 => ⟨S128x1x1, .i32⟩
  | 54 => ⟨S128x1x1, .i32⟩
  | 55 => ⟨S1x1x256, .i32⟩
  | 56 => ⟨S128x1x256, .i32⟩
  | 57 => ⟨S128x1x256, .i32⟩
  | 58 => ⟨S128x1x256, .i32⟩
  | 59 => ⟨S1x128x256, .i1⟩
  | 60 => ⟨S_, .i32⟩
  | 61 => ⟨S128x1x256, .i32⟩
  | 62 => ⟨S128x1x256, .i1⟩
  | 63 => ⟨S128x128x256, .i1⟩
  | 64 => ⟨S128x128x256, .i1⟩
  | 65 => ⟨S128x128x256, .i1⟩
  | 66 => ⟨S_, .i32⟩
  | 67 => ⟨S128x256, .i32⟩
  | 68 => ⟨S128x256, .i32⟩
  | 69 => ⟨S_, .i32⟩
  | 70 => ⟨S128x256, .i32⟩
  | 71 => ⟨S128x256, .i32⟩
  | 72 => ⟨S128x256, .f32⟩
  | 73 => ⟨S_, .f32⟩
  | 74 => ⟨S128x256, .f32⟩
  | 75 => ⟨S128x256, .f32⟩
  | 76 => ⟨S128x256, .f32⟩
  | 77 => ⟨S_, .f32⟩
  | 78 => ⟨S128x256, .f32⟩
  | 79 => ⟨S128x256, .f32⟩
  | 80 => ⟨S_, .f32⟩
  | 81 => ⟨S128x256, .f32⟩
  | 82 => ⟨S128x256, .f32⟩
  | 83 => ⟨S128x256, .i32⟩
  | 84 => ⟨S_, .i32⟩
  | 85 => ⟨S128x256, .i32⟩
  | 86 => ⟨S128x256, .i32⟩
  | 87 => ⟨S_, .i32⟩
  | 88 => ⟨S128x256, .i32⟩
  | 89 => ⟨S128x256, .i1⟩
  | 90 => ⟨S_, .i32⟩
  | 91 => ⟨S128x256, .i32⟩
  | 92 => ⟨S128x256, .i32⟩
  | 93 => ⟨S128x256, .i32⟩
  | 94 => ⟨S_, .i32⟩
  | 95 => ⟨S128x256, .i32⟩
  | 96 => ⟨S128x256, .i1⟩
  | 97 => ⟨S_, .i32⟩
  | 98 => ⟨S128x256, .i32⟩
  | 99 => ⟨S128x256, .i32⟩
  | 100 => ⟨S128x256, .i32⟩
  | 101 => ⟨S128x256x1, .i32⟩
  | 102 => ⟨S128x256x32, .f32⟩
  | 103 => ⟨S32x128x256, .f32⟩
  | 104 => ⟨S4x8x128x256, .f32⟩
  | 105 => ⟨S1x128x1x1x128x256, .i1⟩
  | 106 => ⟨S1x1x4x8x128x256, .f32⟩
  | 107 => ⟨S1x128x4x8x128x256, .f32⟩
  | 108 => ⟨S1x128x4x8x128x256, .f32⟩
  | 109 => ⟨S_, .f32⟩
  | 110 => ⟨S_, .f32⟩
  | 111 => ⟨S1x128x4x8x128x256, .i1⟩
  | 112 => ⟨S1x128x4x8x128x256, .f32⟩
  | 113 => ⟨S1x128x4x8x128x256, .f32⟩
  | 114 => ⟨S4x8x1x1, .f32⟩
  | 115 => ⟨S_, .f32⟩
  | 116 => ⟨S1x128x4x8x128, .f32⟩
  | 117 => ⟨S1x128x4x8x128x1, .f32⟩
  | 118 => ⟨S1x1x4x8x1x1, .f32⟩
  | 119 => ⟨S1x128x4x8x128x1, .f32⟩
  | 120 => ⟨S1x128x4x8x128x1, .f32⟩
  | 121 => ⟨S1x128x4x8x128x256, .f32⟩
  | 122 => ⟨S1x128x4x8x128x256, .f32⟩
  | 123 => ⟨S1x128x4x8x128x256, .f32⟩
  | 124 => ⟨S_, .f32⟩
  | 125 => ⟨S1x128x4x8x128, .f32⟩
  | 126 => ⟨S1x128x4x8x128x1, .f32⟩
  | 127 => ⟨S1x1x4x8x1x1, .f32⟩
  | _ => ⟨S16384x8192, .bf16⟩

abbrev hbmTy0_1 (i : Nat) : BufTy := match i % 128 with
  | 0 => ⟨S1x128x4x8x128x1, .f32⟩
  | 1 => ⟨S1x128x4x8x128x1, .f32⟩
  | 2 => ⟨S1x128x4x8x128x1, .f32⟩
  | 3 => ⟨S1x128x4x8x128x1, .f32⟩
  | 4 => ⟨S1x128x4x8x128x256, .f32⟩
  | 5 => ⟨S1x128x4x8x128x256, .f32⟩
  | 6 => ⟨S1x128x4x64x8x128, .f32⟩
  | 7 => ⟨S1x128x128x4x8x64, .f32⟩
  | 8 => ⟨S16384x2048, .f32⟩
  | 9 => ⟨S16384x2048, .bf16⟩
  | _ => ⟨S16384x8192, .bf16⟩

abbrev hbmTy (i : Nat) : BufTy := match i / 128 with
  | 0 => hbmTy0_0 i
  | 1 => hbmTy0_1 i
  | _ => ⟨S16384x8192, .bf16⟩

abbrev bufTy : (tb : Table) → Fin (tcTables nBuf tb) → BufTy
  | .hbm, ⟨i, _⟩ => hbmTy i
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_call0_v0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_c_0 : Ref sig .tc := ⟨.hbm, 20, rfl⟩
abbrev main_call1_v0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_4 : Ref sig .tc := ⟨.hbm, 49, rfl⟩
abbrev main_v38 : Ref sig .tc := ⟨.hbm, 50, rfl⟩
abbrev main_v39 : Ref sig .tc := ⟨.hbm, 51, rfl⟩
abbrev main_c_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_c_6 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_c_7 : Ref sig .tc := ⟨.hbm, 66, rfl⟩
abbrev main_v52 : Ref sig .tc := ⟨.hbm, 67, rfl⟩
abbrev main_v53 : Ref sig .tc := ⟨.hbm, 68, rfl⟩
abbrev main_c_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_cst_9 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_cst_10 : Ref sig .tc := ⟨.hbm, 77, rfl⟩
abbrev main_v60 : Ref sig .tc := ⟨.hbm, 78, rfl⟩
abbrev main_v61 : Ref sig .tc := ⟨.hbm, 79, rfl⟩
abbrev main_cst_11 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_c_12 : Ref sig .tc := ⟨.hbm, 84, rfl⟩
abbrev main_v65 : Ref sig .tc := ⟨.hbm, 85, rfl⟩
abbrev main_v66 : Ref sig .tc := ⟨.hbm, 86, rfl⟩
abbrev main_c_13 : Ref sig .tc := ⟨.hbm, 87, rfl⟩
abbrev main_v67 : Ref sig .tc := ⟨.hbm, 88, rfl⟩
abbrev main_v68 : Ref sig .tc := ⟨.hbm, 89, rfl⟩
abbrev main_c_14 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_c_15 : Ref sig .tc := ⟨.hbm, 94, rfl⟩
abbrev main_v72 : Ref sig .tc := ⟨.hbm, 95, rfl⟩
abbrev main_v73 : Ref sig .tc := ⟨.hbm, 96, rfl⟩
abbrev main_c_16 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_cst_17 : Ref sig .tc := ⟨.hbm, 109, rfl⟩
abbrev main_call3_v0 : Ref sig .tc := ⟨.hbm, 110, rfl⟩
abbrev main_call3_v1 : Ref sig .tc := ⟨.hbm, 111, rfl⟩
abbrev main_call3_v2 : Ref sig .tc := ⟨.hbm, 112, rfl⟩
abbrev main_v85 : Ref sig .tc := ⟨.hbm, 113, rfl⟩
abbrev main_v86 : Ref sig .tc := ⟨.hbm, 114, rfl⟩
abbrev main_cst_18 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_cst_19 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩

abbrev nD : Nat := 1
abbrev τ : Topo := Topo.v7x

variable {F : FTy → Type} [FloatOps F]
-- ==== FfnIn.lean ====
abbrev S16384x4096 : Shape := ⟨2, ![16384, 4096]⟩
abbrev S16384x128 : Shape := ⟨2, ![16384, 128]⟩
abbrev S4x4096x22528 : Shape := ⟨3, ![4, 4096, 22528]⟩
abbrev S3x22016 : Shape := ⟨2, ![3, 22016]⟩
abbrev S22016 : Shape := ⟨1, ![22016]⟩
abbrev S4x11008x4096 : Shape := ⟨3, ![4, 11008, 4096]⟩
abbrev S3x2x11008 : Shape := ⟨3, ![3, 2, 11008]⟩
abbrev S_ : Shape := ⟨0, ![]⟩
abbrev S3x2x11264 : Shape := ⟨3, ![3, 2, 11264]⟩
abbrev S3x22528 : Shape := ⟨2, ![3, 22528]⟩
abbrev S2x11008 : Shape := ⟨2, ![2, 11008]⟩
abbrev S2x11264 : Shape := ⟨2, ![2, 11264]⟩
abbrev S22528 : Shape := ⟨1, ![22528]⟩
abbrev S8x22528 : Shape := ⟨2, ![8, 22528]⟩
abbrev S1x22528 : Shape := ⟨2, ![1, 22528]⟩
abbrev S16384x11264 : Shape := ⟨2, ![16384, 11264]⟩
abbrev S11264x4096 : Shape := ⟨2, ![11264, 4096]⟩
abbrev S1024x4096 : Shape := ⟨2, ![1024, 4096]⟩
abbrev S1024x128 : Shape := ⟨2, ![1024, 128]⟩
abbrev S1x4096x512 : Shape := ⟨3, ![1, 4096, 512]⟩
abbrev S8x512 : Shape := ⟨2, ![8, 512]⟩
abbrev S1x512 : Shape := ⟨2, ![1, 512]⟩
abbrev S1x32x4096 : Shape := ⟨3, ![1, 32, 4096]⟩
abbrev S1024x512 : Shape := ⟨2, ![1024, 512]⟩
abbrev S32x4096 : Shape := ⟨2, ![32, 4096]⟩
abbrev S1032x512 : Shape := ⟨2, ![1032, 512]⟩
abbrev S1024x1 : Shape := ⟨2, ![1024, 1]⟩
abbrev S4096x512 : Shape := ⟨2, ![4096, 512]⟩

abbrev nBuf : Space → Nat
  | .hbm => 22
  | .vmem => 24
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S4x4096x22528, .bf16⟩
  | .hbm, ⟨3, _⟩ => ⟨S3x22016, .f32⟩
  | .hbm, ⟨4, _⟩ => ⟨S22016, .f32⟩
  | .hbm, ⟨5, _⟩ => ⟨S4x11008x4096, .f32⟩
  | .hbm, ⟨6, _⟩ => ⟨S3x2x11008, .f32⟩
  | .hbm, ⟨7, _⟩ => ⟨S_, .i32⟩
  | .hbm, ⟨8, _⟩ => ⟨S_, .f32⟩
  | .hbm, ⟨9, _⟩ => ⟨S3x2x11264, .f32⟩
  | .hbm, ⟨10, _⟩ => ⟨S3x22528, .f32⟩
  | .hbm, ⟨11, _⟩ => ⟨S2x11008, .f32⟩
  | .hbm, ⟨12, _⟩ => ⟨S_, .i32⟩
  | .hbm, ⟨13, _⟩ => ⟨S_, .f32⟩
  | .hbm, ⟨14, _⟩ => ⟨S2x11264, .f32⟩
  | .hbm, ⟨15, _⟩ => ⟨S22528, .f32⟩
  | .hbm, ⟨16, _⟩ => ⟨S_, .i32⟩
  | .hbm, ⟨17, _⟩ => ⟨S_, .f32⟩
  | .hbm, ⟨18, _⟩ => ⟨S8x22528, .f32⟩
  | .hbm, ⟨19, _⟩ => ⟨S1x22528, .f32⟩
  | .hbm, ⟨20, _⟩ => ⟨S16384x11264, .bf16⟩
  | .hbm, ⟨21, _⟩ => ⟨S11264x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1024x128, .f32⟩
  | .local _ .vmem, ⟨3, _⟩ => ⟨S1024x128, .f32⟩
  | .local _ .vmem, ⟨4, _⟩ => ⟨S1x4096x512, .bf16⟩
  | .local _ .vmem, ⟨5, _⟩ => ⟨S1x4096x512, .bf16⟩
  | .local _ .vmem, ⟨6, _⟩ => ⟨S1x4096x512, .bf16⟩
  | .local _ .vmem, ⟨7, _⟩ => ⟨S1x4096x512, .bf16⟩
  | .local _ .vmem, ⟨8, _⟩ => ⟨S8x512, .f32⟩
  | .local _ .vmem, ⟨9, _⟩ => ⟨S8x512, .f32⟩
  | .local _ .vmem, ⟨10, _⟩ => ⟨S8x512, .f32⟩
  | .local _ .vmem, ⟨11, _⟩ => ⟨S8x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x32x4096, .f32⟩
  | .local _ .vmem, ⟨17, _⟩ => ⟨S1x32x4096, .f32⟩
  | .local _ .vmem, ⟨18, _⟩ => ⟨S1024x512, .bf16⟩
  | .local _ .vmem, ⟨19, _⟩ => ⟨S1024x512, .bf16⟩
  | .local _ .vmem, ⟨20, _⟩ => ⟨S32x4096, .bf16⟩
  | .local _ .vmem, ⟨21, _⟩ => ⟨S32x4096, .bf16⟩
  | .local _ .vmem, ⟨22, _⟩ => ⟨S1032x512, .f32⟩
  | .local _ .vmem, ⟨23, _⟩ => ⟨S1032x512, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_call1_v0 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_call2_v0 : Ref sig .tc := ⟨.hbm, 17, rfl⟩
abbrev main_v6 : Ref sig .tc := ⟨.hbm, 18, rfl⟩
abbrev main_v7 : Ref sig .tc := ⟨.hbm, 19, rfl⟩
abbrev main_v8_0 : Ref sig .tc := ⟨.hbm, 20, rfl⟩
abbrev main_v8_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![22, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_3 (i : grid0.Coords) : Fin 3 → Nat :=
  let arg0 : BitVec 32 := BitVec.ofNat 32 (i 0).val
  let arg1 : BitVec 32 := BitVec.ofNat 32 (i 1).val
  let c22_i32 : BitVec 32 := 22#32
  let v0 : BitVec 32 := Scalar.addi arg0 c22_i32
  let c0_i32 : BitVec 32 := 0#32
  let c0_i32_0 : BitVec 32 := 0#32
  let c0_i32_1 : BitVec 32 := 0#32
  ![c0_i32.toNat, c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c343_i32 : BitVec 32 := 343#32
  let v2 : BitVec 32 := Scalar.minsi v1 c343_i32
  let c0_i32 : BitVec 32 := 0#32
  let c0_i32_0 : BitVec 32 := 0#32
  let c0_i32_1 : BitVec 32 := 0#32
  ![c0_i32.toNat, v2.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x4096x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x32x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S32x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== FfnInRefIdeal.lean ====
abbrev S16384x4096 : Shape := ⟨2, ![16384, 4096]⟩
abbrev S16384x128 : Shape := ⟨2, ![16384, 128]⟩
abbrev S4x4096x22528 : Shape := ⟨3, ![4, 4096, 22528]⟩
abbrev S3x22016 : Shape := ⟨2, ![3, 22016]⟩
abbrev S22016 : Shape := ⟨1, ![22016]⟩
abbrev S4x11008x4096 : Shape := ⟨3, ![4, 11008, 4096]⟩
abbrev S16384x1 : Shape := ⟨2, ![16384, 1]⟩
abbrev S_ : Shape := ⟨0, ![]⟩
abbrev S1x4096x22528 : Shape := ⟨3, ![1, 4096, 22528]⟩
abbrev S4096x22528 : Shape := ⟨2, ![4096, 22528]⟩
abbrev S4096x11008 : Shape := ⟨2, ![4096, 11008]⟩
abbrev S16384x11008 : Shape := ⟨2, ![16384, 11008]⟩
abbrev S3x11008 : Shape := ⟨2, ![3, 11008]⟩
abbrev S11008 : Shape := ⟨1, ![11008]⟩
abbrev S16386x11008 : Shape := ⟨2, ![16386, 11008]⟩
abbrev S1x11008 : Shape := ⟨2, ![1, 11008]⟩
abbrev S16384x11264 : Shape := ⟨2, ![16384, 11264]⟩
abbrev S1x11008x4096 : Shape := ⟨3, ![1, 11008, 4096]⟩
abbrev S11008x4096 : Shape := ⟨2, ![11008, 4096]⟩
abbrev S11264x4096 : Shape := ⟨2, ![11264, 4096]⟩

abbrev nBuf : Space → Nat
  | .hbm => 100
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S4x4096x22528, .bf16⟩
  | .hbm, ⟨3, _⟩ => ⟨S3x22016, .f32⟩
  | .hbm, ⟨4, _⟩ => ⟨S22016, .f32⟩
  | .hbm, ⟨5, _⟩ => ⟨S4x11008x4096, .f32⟩
  | .hbm, ⟨6, _⟩ => ⟨S16384x4096, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S1x4096x22528, .bf16⟩
  | .hbm, ⟨18, _⟩ => ⟨S4096x22528, .bf16⟩
  | .hbm, ⟨19, _⟩ => ⟨S4096x22528, .f32⟩
  | .hbm, ⟨20, _⟩ => ⟨S4096x11008, .f32⟩
  | .hbm, ⟨21, _⟩ => ⟨S16384x11008, .f32⟩
  | .hbm, ⟨22, _⟩ => ⟨S3x11008, .f32⟩
  | .hbm, ⟨23, _⟩ => ⟨S11008, .f32⟩
  | .hbm, ⟨24, _⟩ => ⟨S_, .i32⟩
  | .hbm, ⟨25, _⟩ => ⟨S_, .f32⟩
  | .hbm, ⟨26, _⟩ => ⟨S16386x11008, .f32⟩
  | .hbm, ⟨27, _⟩ => ⟨S1x11008, .f32⟩
  | .hbm, ⟨28, _⟩ => ⟨S11008, .f32⟩
  | .hbm, ⟨29, _⟩ => ⟨S16384x11008, .f32⟩
  | .hbm, ⟨30, _⟩ => ⟨S1x11008, .f32⟩
  | .hbm, ⟨31, _⟩ => ⟨S16384x11008, .f32⟩
  | .hbm, ⟨32, _⟩ => ⟨S16384x11008, .f32⟩
  | .hbm, ⟨33, _⟩ => ⟨S1x11008, .f32⟩
  | .hbm, ⟨34, _⟩ => ⟨S11008, .f32⟩
  | .hbm, ⟨35, _⟩ => ⟨S16384x11008, .f32⟩
  | .hbm, ⟨36, _⟩ => ⟨S1x11008, .f32⟩
  | .hbm, ⟨37, _⟩ => ⟨S16384x11008, .f32⟩
  | .hbm, ⟨38, _⟩ => ⟨S16384x11008, .f32⟩
  | .hbm, ⟨39, _⟩ => ⟨S16384x11008, .f32⟩
  | .hbm, ⟨40, _⟩ => ⟨S1x11008, .f32⟩
  | .hbm, ⟨41, _⟩ => ⟨S11008, .f32⟩
  | .hbm, ⟨42, _⟩ => ⟨S16384x11008, .f32⟩
  | .hbm, ⟨43, _⟩ => ⟨S1x11008, .f32⟩
  | .hbm, ⟨44, _⟩ => ⟨S16384x11008, .f32⟩
  | .hbm, ⟨45, _⟩ => ⟨S16384x11008, .f32⟩
  | .hbm, ⟨46, _⟩ => ⟨S16384x11008, .f32⟩
  | .hbm, ⟨47, _⟩ => ⟨S1x11008, .f32⟩
  | .hbm, ⟨48, _⟩ => ⟨S16384x11008, .f32⟩
  | .hbm, ⟨49, _⟩ => ⟨S16384x11008, .f32⟩
  | .hbm, ⟨50, _⟩ => ⟨S4096x11008, .f32⟩
  | .hbm, ⟨51, _⟩ => ⟨S16384x11008, .f32⟩
  | .hbm, ⟨52, _⟩ => ⟨S3x11008, .f32⟩
  | .hbm, ⟨53, _⟩ => ⟨S11008, .f32⟩
  | .hbm, ⟨54, _⟩ => ⟨S_, .i32⟩
  | .hbm, ⟨55, _⟩ => ⟨S_, .f32⟩
  | .hbm, ⟨56, _⟩ => ⟨S16386x11008, .f32⟩
  | .hbm, ⟨57, _⟩ => ⟨S1x11008, .f32⟩
  | .hbm, ⟨58, _⟩ => ⟨S11008, .f32⟩
  | .hbm, ⟨59, _⟩ => ⟨S16384x11008, .f32⟩
  | .hbm, ⟨60, _⟩ => ⟨S1x11008, .f32⟩
  | .hbm, ⟨61, _⟩ => ⟨S16384x11008, .f32⟩
  | .hbm, ⟨62, _⟩ => ⟨S16384x11008, .f32⟩
  | .hbm, ⟨63, _⟩ => ⟨S1x11008, .f32⟩
  | .hbm, ⟨64, _⟩ => ⟨S11008, .f32⟩
  | .hbm, ⟨65, _⟩ => ⟨S16384x11008, .f32⟩
  | .hbm, ⟨66, _⟩ => ⟨S1x11008, .f32⟩
  | .hbm, ⟨67, _⟩ => ⟨S16384x11008, .f32⟩
  | .hbm, ⟨68, _⟩ => ⟨S16384x11008, .f32⟩
  | .hbm, ⟨69, _⟩ => ⟨S16384x11008, .f32⟩
  | .hbm, ⟨70, _⟩ => ⟨S1x11008, .f32⟩
  | .hbm, ⟨71, _⟩ => ⟨S11008, .f32⟩
  | .hbm, ⟨72, _⟩ => ⟨S16384x11008, .f32⟩
  | .hbm, ⟨73, _⟩ => ⟨S1x11008, .f32⟩
  | .hbm, ⟨74, _⟩ => ⟨S16384x11008, .f32⟩
  | .hbm, ⟨75, _⟩ => ⟨S16384x11008, .f32⟩
  | .hbm, ⟨76, _⟩ => ⟨S16384x11008, .f32⟩
  | .hbm, ⟨77, _⟩ => ⟨S1x11008, .f32⟩
  | .hbm, ⟨78, _⟩ => ⟨S16384x11008, .f32⟩
  | .hbm, ⟨79, _⟩ => ⟨S16384x11008, .f32⟩
  | .hbm, ⟨80, _⟩ => ⟨S16384x11008, .f32⟩
  | .hbm, ⟨81, _⟩ => ⟨S16384x11008, .f32⟩
  | .hbm, ⟨82, _⟩ => ⟨S_, .f32⟩
  | .hbm, ⟨83, _⟩ => ⟨S16384x11008, .f32⟩
  | .hbm, ⟨84, _⟩ => ⟨S16384x11008, .f32⟩
  | .hbm, ⟨85, _⟩ => ⟨S_, .f32⟩
  | .hbm, ⟨86, _⟩ => ⟨S16384x11008, .f32⟩
  | .hbm, ⟨87, _⟩ => ⟨S16384x11008, .f32⟩
  | .hbm, ⟨88, _⟩ => ⟨S16384x11008, .f32⟩
  | .hbm, ⟨89, _⟩ => ⟨S16384x11008, .f32⟩
  | .hbm, ⟨90, _⟩ => ⟨S16384x11008, .bf16⟩
  | .hbm, ⟨91, _⟩ => ⟨S_, .i32⟩
  | .hbm, ⟨92, _⟩ => ⟨S_, .bf16⟩
  | .hbm, ⟨93, _⟩ => ⟨S16384x11264, .bf16⟩
  | .hbm, ⟨94, _⟩ => ⟨S1x11008x4096, .f32⟩
  | .hbm, ⟨95, _⟩ => ⟨S11008x4096, .f32⟩
  | .hbm, ⟨96, _⟩ => ⟨S11008x4096, .bf16⟩
  | .hbm, ⟨97, _⟩ => ⟨S_, .i32⟩
  | .hbm, ⟨98, _⟩ => ⟨S_, .bf16⟩
  | .hbm, ⟨99, _⟩ => ⟨S11264x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_c : Ref sig .tc := ⟨.hbm, 24, rfl⟩
abbrev main_call0_v0 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_c_1 : Ref sig .tc := ⟨.hbm, 54, rfl⟩
abbrev main_call1_v0 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_call2_v0 : Ref sig .tc := ⟨.hbm, 80, rfl⟩
abbrev main_call2_v1 : Ref sig .tc := ⟨.hbm, 81, rfl⟩
abbrev main_call2_cst : Ref sig .tc := ⟨.hbm, 82, rfl⟩
abbrev main_call2_v2 : Ref sig .tc := ⟨.hbm, 83, rfl⟩
abbrev main_call2_v3 : Ref sig .tc := ⟨.hbm, 84, rfl⟩
abbrev main_call2_cst_0 : Ref sig .tc := ⟨.hbm, 85, rfl⟩
abbrev main_call2_v4 : Ref sig .tc := ⟨.hbm, 86, rfl⟩
abbrev main_call2_v5 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_c_2 : Ref sig .tc := ⟨.hbm, 91, rfl⟩
abbrev main_call3_v0 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_c_3 : Ref sig .tc := ⟨.hbm, 97, rfl⟩
abbrev main_call4_v0 : Ref sig .tc := ⟨.hbm, 98, rfl⟩
abbrev main_v75 : Ref sig .tc := ⟨.hbm, 99, rfl⟩

abbrev nD : Nat := 1
abbrev τ : Topo := Topo.v7x

variable {F : FTy → Type} [FloatOps F]
-- ==== FfnOut.lean ====
abbrev S16384x11264 : Shape := ⟨2, ![16384, 11264]⟩
abbrev S11264x4096 : Shape := ⟨2, ![11264, 4096]⟩
abbrev S16384x4096 : Shape := ⟨2, ![16384, 4096]⟩
abbrev S16384x128 : Shape := ⟨2, ![16384, 128]⟩
abbrev S1024x2816 : Shape := ⟨2, ![1024, 2816]⟩
abbrev S2816x1024 : Shape := ⟨2, ![2816, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 6
  | .vmem => 13
  | .smem => 0
  | _ => 0

abbrev bufTy : (tb : Table) → Fin (tcTables nBuf tb) → BufTy
  | .hbm, ⟨0, _⟩ => ⟨S16384x11264, .bf16⟩
  | .hbm, ⟨1, _⟩ => ⟨S11264x4096, .bf16⟩
  | .hbm, ⟨2, _⟩ => ⟨S16384x4096, .f32⟩
  | .hbm, ⟨3, _⟩ => ⟨S16384x4096, .f32⟩
  | .hbm, ⟨4, _⟩ => ⟨S16384x4096, .bf16⟩
  | .hbm, ⟨5, _⟩ => ⟨S16384x128, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x128, .f32⟩
  | .local _ .vmem, ⟨11, _⟩ => ⟨S1024x128, .f32⟩
  | .local _ .vmem, ⟨12, _⟩ => ⟨S1024x1024, .f32⟩
  | _, _ => ⟨S16384x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def k0_cond3 (i : grid0.Coords) : BitVec 1 :=
  let arg1 : BitVec 32 := BitVec.ofNat 32 (i 1).val
  let c0_i32_16 : BitVec 32 := 0#32
  let v23 : BitVec 1 := Scalar.cmpi .eq arg1 c0_i32_16
  let v24 : BitVec 32 := Scalar.extui v23
  let c0_i32_17 : BitVec 32 := 0#32
  let v25 : BitVec 1 := Scalar.cmpi .ne v24 c0_i32_17
  v25

def k0_cond4 (i : grid0.Coords) : BitVec 1 :=
  let arg1 : BitVec 32 := BitVec.ofNat 32 (i 1).val
  let c0_i32_18 : BitVec 32 := 0#32
  let v26 : BitVec 1 := Scalar.cmpi .sgt arg1 c0_i32_18
  let v27 : BitVec 32 := Scalar.extui v26
  let c0_i32_19 : BitVec 32 := 0#32
  let v28 : BitVec 1 := Scalar.cmpi .ne v27 c0_i32_19
  v28

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== FfnOutRefIdeal.lean ====
abbrev S16384x11264 : Shape := ⟨2, ![16384, 11264]⟩
abbrev S11264x4096 : Shape := ⟨2, ![11264, 4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S16384x128 : Shape := ⟨2, ![16384, 128]⟩

abbrev nBuf : Space → Nat
  | .hbm => 13
  | .vmem => 0
  | .smem => 0
  | _ => 0

abbrev bufTy : (tb : Table) → Fin (tcTables nBuf tb) → BufTy
  | .hbm, ⟨0, _⟩ => ⟨S16384x11264, .bf16⟩
  | .hbm, ⟨1, _⟩ => ⟨S11264x4096, .bf16⟩
  | .hbm, ⟨2, _⟩ => ⟨S16384x4096, .f32⟩
  | .hbm, ⟨3, _⟩ => ⟨S16384x11264, .f32⟩
  | .hbm, ⟨4, _⟩ => ⟨S11264x4096, .f32⟩
  | .hbm, ⟨5, _⟩ => ⟨S16384x4096, .f32⟩
  | .hbm, ⟨6, _⟩ => ⟨S16384x4096, .f32⟩
  | .hbm, ⟨7, _⟩ => ⟨S16384x4096, .bf16⟩
  | .hbm, ⟨8, _⟩ => ⟨S16384x4096, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S16384x128, .f32⟩
  | _, _ => ⟨S16384x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== InProj.lean ====
abbrev S16384x4096 : Shape := ⟨2, ![16384, 4096]⟩
abbrev S16384x128 : Shape := ⟨2, ![16384, 128]⟩
abbrev S4x8192x4096 : Shape := ⟨3, ![4, 8192, 4096]⟩
abbrev S4x4096x4096 : Shape := ⟨3, ![4, 4096, 4096]⟩
abbrev S16384x8192 : Shape := ⟨2, ![16384, 8192]⟩
abbrev S4096x4096 : Shape := ⟨2, ![4096, 4096]⟩
abbrev S1024x4096 : Shape := ⟨2, ![1024, 4096]⟩
abbrev S1x1024x4096 : Shape := ⟨3, ![1, 1024, 4096]⟩
abbrev S1024x128 : Shape := ⟨2, ![1024, 128]⟩
abbrev S1x32x4096 : Shape := ⟨3, ![1, 32, 4096]⟩
abbrev S1024x1024 : Shape := ⟨2, ![1024, 1024]⟩
abbrev S32x4096 : Shape := ⟨2, ![32, 4096]⟩
abbrev S1024x1 : Shape := ⟨2, ![1024, 1]⟩

abbrev nBuf : Space → Nat
  | .hbm => 6
  | .vmem => 12
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S4x8192x4096, .bf16⟩
  | .hbm, ⟨3, _⟩ => ⟨S4x4096x4096, .f32⟩
  | .hbm, ⟨4, _⟩ => ⟨S16384x8192, .bf16⟩
  | .hbm, ⟨5, _⟩ => ⟨S4096x4096, .bf16⟩
  | .local _ .vmem, ⟨0, _⟩ => ⟨S1024x4096, .bf16⟩
  | .local _ .vmem, ⟨1, _⟩ => ⟨S1024x4096, .bf16⟩
  | .local _ .vmem, ⟨2, _⟩ => ⟨S1x1024x4096, .bf16⟩
  | .local _ .vmem, ⟨3, _⟩ => ⟨S1x1024x4096, .bf16⟩
  | .local _ .vmem, ⟨4, _⟩ => ⟨S1024x128, .f32⟩
  | .local _ .vmem, ⟨5, _⟩ => ⟨S1024x128, .f32⟩
  | .local _ .vmem, ⟨6, _⟩ => ⟨S1x32x4096, .f32⟩
  | .local _ .vmem, ⟨7, _⟩ => ⟨S1x32x4096, .f32⟩
  | .local _ .vmem, ⟨8, _⟩ => ⟨S1024x1024, .bf16⟩
  | .local _ .vmem, ⟨9, _⟩ => ⟨S1024x1024, .bf16⟩
  | .local _ .vmem, ⟨10, _⟩ => ⟨S32x4096, .bf16⟩
  | .local _ .vmem, ⟨11, _⟩ => ⟨S32x4096, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x32x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S32x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== InProjRefIdeal.lean ====
abbrev S16384x4096 : Shape := ⟨2, ![16384, 4096]⟩
abbrev S16384x128 : Shape := ⟨2, ![16384, 128]⟩
abbrev S4x8192x4096 : Shape := ⟨3, ![4, 8192, 4096]⟩
abbrev S4x4096x4096 : Shape := ⟨3, ![4, 4096, 4096]⟩
abbrev S16384x1 : Shape := ⟨2, ![16384, 1]⟩
abbrev S_ : Shape := ⟨0, ![]⟩
abbrev S1x8192x4096 : Shape := ⟨3, ![1, 8192, 4096]⟩
abbrev S8192x4096 : Shape := ⟨2, ![8192, 4096]⟩
abbrev S4096x8192 : Shape := ⟨2, ![4096, 8192]⟩
abbrev S16384x8192 : Shape := ⟨2, ![16384, 8192]⟩
abbrev S1x4096x4096 : Shape := ⟨3, ![1, 4096, 4096]⟩
abbrev S4096x4096 : Shape := ⟨2, ![4096, 4096]⟩

abbrev nBuf : Space → Nat
  | .hbm => 24
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x128, .f32⟩
  | .hbm, ⟨2, _⟩ => ⟨S4x8192x4096, .bf16⟩
  | .hbm, ⟨3, _⟩ => ⟨S4x4096x4096, .f32⟩
  | .hbm, ⟨4, _⟩ => ⟨S16384x4096, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x8192x4096, .bf16⟩
  | .hbm, ⟨16, _⟩ => ⟨S8192x4096, .bf16⟩
  | .hbm, ⟨17, _⟩ => ⟨S8192x4096, .f32⟩
  | .hbm, ⟨18, _⟩ => ⟨S4096x8192, .f32⟩
  | .hbm, ⟨19, _⟩ => ⟨S16384x8192, .f32⟩
  | .hbm, ⟨20, _⟩ => ⟨S16384x8192, .bf16⟩
  | .hbm, ⟨21, _⟩ => ⟨S1x4096x4096, .f32⟩
  | .hbm, ⟨22, _⟩ => ⟨S4096x4096, .f32⟩
  | .hbm, ⟨23, _⟩ => ⟨S4096x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== MixOut.lean ====
abbrev S16384x1024 : Shape := ⟨2, ![16384, 1024]⟩
abbrev S16384x2048 : Shape := ⟨2, ![16384, 2048]⟩
abbrev S4096x4096 : Shape := ⟨2, ![4096, 4096]⟩
abbrev S16384x4096 : Shape := ⟨2, ![16384, 4096]⟩
abbrev S16384x128 : Shape := ⟨2, ![16384, 128]⟩
abbrev S1024x1024 : Shape := ⟨2, ![1024, 1024]⟩
abbrev S1024x2048 : Shape := ⟨2, ![1024, 2048]⟩
abbrev S1024x512 : Shape := ⟨2, ![1024, 512]⟩
abbrev S2048x512 : Shape := ⟨2, ![2048, 512]⟩
abbrev S1024x128 : Shape := ⟨2, ![1024, 128]⟩
abbrev S1024 : Shape := ⟨1, ![1024]⟩
abbrev S1024x1 : Shape := ⟨2, ![1024, 1]⟩

abbrev nBuf : Space → Nat
  | .hbm => 8
  | .vmem => 20
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .bf16⟩
  | .hbm, ⟨3, _⟩ => ⟨S4096x4096, .bf16⟩
  | .hbm, ⟨4, _⟩ => ⟨S16384x4096, .f32⟩
  | .hbm, ⟨5, _⟩ => ⟨S16384x4096, .f32⟩
  | .hbm, ⟨6, _⟩ => ⟨S16384x4096, .bf16⟩
  | .hbm, ⟨7, _⟩ => ⟨S16384x128, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S2048x512, .bf16⟩
  | .local _ .vmem, ⟨11, _⟩ => ⟨S2048x512, .bf16⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .bf16⟩
  | .local _ .vmem, ⟨17, _⟩ => ⟨S1024x512, .bf16⟩
  | .local _ .vmem, ⟨18, _⟩ => ⟨S1024x128, .f32⟩
  | .local _ .vmem, ⟨19, _⟩ => ⟨S1024x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v21 : BitVec 1 := Scalar.cmpi .eq arg1 c0_i32
  let v22 : BitVec 32 := Scalar.extui v21
  let c0_i32_20 : BitVec 32 := 0#32
  let v23 : BitVec 1 := Scalar.cmpi .ne v22 c0_i32_20
  v23

def k0_cond2 (i : grid0.Coords) : BitVec 1 :=
  let arg1 : BitVec 32 := BitVec.ofNat 32 (i 1).val
  let c0_i32_21 : BitVec 32 := 0#32
  let v24 : BitVec 1 := Scalar.cmpi .sgt arg1 c0_i32_21
  let v25 : BitVec 32 := Scalar.extui v24
  let c0_i32_22 : BitVec 32 := 0#32
  let v26 : BitVec 1 := Scalar.cmpi .ne v25 c0_i32_22
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== MixOutRefIdeal.lean ====
abbrev S16384x1024 : Shape := ⟨2, ![16384, 1024]⟩
abbrev S16384x2048 : Shape := ⟨2, ![16384, 2048]⟩
abbrev S4096x4096 : Shape := ⟨2, ![4096, 4096]⟩
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S16384x128 : Shape := ⟨2, ![16384, 128]⟩

abbrev nBuf : Space → Nat
  | .hbm => 18
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .bf16⟩
  | .hbm, ⟨3, _⟩ => ⟨S4096x4096, .bf16⟩
  | .hbm, ⟨4, _⟩ => ⟨S16384x4096, .f32⟩
  | .hbm, ⟨5, _⟩ => ⟨S16384x1024, .f32⟩
  | .hbm, ⟨6, _⟩ => ⟨S16384x1024, .f32⟩
  | .hbm, ⟨7, _⟩ => ⟨S16384x2048, .f32⟩
  | .hbm, ⟨8, _⟩ => ⟨S16384x4096, .f32⟩
  | .hbm, ⟨9, _⟩ => ⟨S4096x4096, .f32⟩
  | .hbm, ⟨10, _⟩ => ⟨S16384x4096, .f32⟩
  | .hbm, ⟨11, _⟩ => ⟨S16384x4096, .f32⟩
  | .hbm, ⟨12, _⟩ => ⟨S16384x4096, .bf16⟩
  | .hbm, ⟨13, _⟩ => ⟨S16384x4096, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S16384x128, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩

abbrev nD : Nat := 1
abbrev τ : Topo := Topo.v7x

variable {F : FTy → Type} [FloatOps F]
-- ==== FinalNorm.lean ====
abbrev S16384x4096 : Shape := ⟨2, ![16384, 4096]⟩
abbrev S4096 : Shape := ⟨1, ![4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S1x4096, .f32⟩
  | .hbm, ⟨3, _⟩ => ⟨S16384x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S512x4096, .f32⟩
  | .local _ .vmem, ⟨4, _⟩ => ⟨S512x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FinalNormRefIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ResPrep.lean ====
abbrev S16384x4096 : Shape := ⟨2, ![16384, 4096]⟩
abbrev S16384x128 : Shape := ⟨2, ![16384, 128]⟩
abbrev S512x4096 : Shape := ⟨2, ![512, 4096]⟩
abbrev S512x128 : Shape := ⟨2, ![512, 128]⟩
abbrev S512 : Shape := ⟨1, ![512]⟩
abbrev S512x1 : Shape := ⟨2, ![512, 1]⟩

abbrev nBuf : Space → Nat
  | .hbm => 3
  | .vmem => 6
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S16384x128, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S512x128, .f32⟩
  | .local _ .vmem, ⟨5, _⟩ => ⟨S512x128, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ResPrepRefIdeal.lean ====
abbrev S16384x4096 : Shape := ⟨2, ![16384, 4096]⟩
abbrev S_ : Shape := ⟨0, ![]⟩
abbrev S16384 : Shape := ⟨1, ![16384]⟩
abbrev S16384x1 : Shape := ⟨2, ![16384, 1]⟩
abbrev S16384x128 : Shape := ⟨2, ![16384, 128]⟩

abbrev nBuf : Space → Nat
  | .hbm => 7
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .bf16⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S16384x128, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnPrep.lean ====
abbrev S4x4096x22016 : Shape := ⟨3, ![4, 4096, 22016]⟩
abbrev S4x4096 : Shape := ⟨2, ![4, 4096]⟩
abbrev S4x4096x1 : Shape := ⟨3, ![4, 4096, 1]⟩
abbrev S4x4096x22528 : Shape := ⟨3, ![4, 4096, 22528]⟩
abbrev S1x256x11008 : Shape := ⟨3, ![1, 256, 11008]⟩
abbrev S1x256x1 : Shape := ⟨3, ![1, 256, 1]⟩
abbrev S1x256x11264 : Shape := ⟨3, ![1, 256, 11264]⟩
abbrev S256x11008 : Shape := ⟨2, ![256, 11008]⟩
abbrev S256x1 : Shape := ⟨2, ![256, 1]⟩
abbrev S256x256 : Shape := ⟨2, ![256, 256]⟩
abbrev S1x256x256 : Shape := ⟨3, ![1, 256, 256]⟩

abbrev nBuf : Space → Nat
  | .hbm => 4
  | .vmem => 6
  | .smem => 0
  | _ => 0

abbrev bufTy : (tb : Table) → Fin (tcTables nBuf tb) → BufTy
  | .hbm, ⟨0, _⟩ => ⟨S4x4096x22016, .f32⟩
  | .hbm, ⟨1, _⟩ => ⟨S4x4096, .f32⟩
  | .hbm, ⟨2, _⟩ => ⟨S4x4096x1, .f32⟩
  | .hbm, ⟨3, _⟩ => ⟨S4x4096x22528, .bf16⟩
  | .local _ .vmem, ⟨0, _⟩ => ⟨S1x256x11008, .f32⟩
  | .local _ .vmem, ⟨1, _⟩ => ⟨S1x256x11008, .f32⟩
  | .local _ .vmem, ⟨2, _⟩ => ⟨S1x256x1, .f32⟩
  | .local _ .vmem, ⟨3, _⟩ => ⟨S1x256x1, .f32⟩
  | .local _ .vmem, ⟨4, _⟩ => ⟨S1x256x11264, .bf16⟩
  | .local _ .vmem, ⟨5, _⟩ => ⟨S1x256x11264, .bf16⟩
  | _, _ => ⟨S4x4096x22016, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 16, 2], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x256x11008 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x256x11264 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== FfnPrepRefIdeal.lean ====
abbrev S4x4096x22016 : Shape := ⟨3, ![4, 4096, 22016]⟩
abbrev S4x4096 : Shape := ⟨2, ![4, 4096]⟩
abbrev S4x4096x1 : Shape := ⟨3, ![4, 4096, 1]⟩
abbrev S4x4096x11008 : Shape := ⟨3, ![4, 4096, 11008]⟩
abbrev S_ : Shape := ⟨0, ![]⟩
abbrev S4x4096x11264 : Shape := ⟨3, ![4, 4096, 11264]⟩
abbrev S4x4096x22528 : Shape := ⟨3, ![4, 4096, 22528]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x22016, .f32⟩
  | .hbm, ⟨1, _⟩ => ⟨S4x4096, .f32⟩
  | .hbm, ⟨2, _⟩ => ⟨S4x4096x1, .f32⟩
  | .hbm, ⟨3, _⟩ => ⟨S4x4096x22016, .f32⟩
  | .hbm, ⟨4, _⟩ => ⟨S4x4096x22016, .f32⟩
  | .hbm, ⟨5, _⟩ => ⟨S4x4096x22016, .bf16⟩
  | .hbm, ⟨6, _⟩ => ⟨S4x4096x11008, .bf16⟩
  | .hbm, ⟨7, _⟩ => ⟨S_, .i32⟩
  | .hbm, ⟨8, _⟩ => ⟨S_, .bf16⟩
  | .hbm, ⟨9, _⟩ => ⟨S4x4096x11264, .bf16⟩
  | .hbm, ⟨10, _⟩ => ⟨S4x4096x11008, .bf16⟩
  | .hbm, ⟨11, _⟩ => ⟨S_, .i32⟩
  | .hbm, ⟨12, _⟩ => ⟨S_, .bf16⟩
  | .hbm, ⟨13, _⟩ => ⟨S4x4096x11264, .bf16⟩
  | .hbm, ⟨14, _⟩ => ⟨S4x4096x22528, .bf16⟩
  | _, _ => ⟨S4x4096x22016, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== InPrep.lean ====
abbrev S4x4096x7968 : Shape := ⟨3, ![4, 4096, 7968]⟩
abbrev S4x4096 : Shape := ⟨2, ![4, 4096]⟩
abbrev S4x7968x4096 : Shape := ⟨3, ![4, 7968, 4096]⟩
abbrev S4x1x4096 : Shape := ⟨3, ![4, 1, 4096]⟩
abbrev S4x8192x4096 : Shape := ⟨3, ![4, 8192, 4096]⟩
abbrev S1x256x4096 : Shape := ⟨3, ![1, 256, 4096]⟩
abbrev S1x1x4096 : Shape := ⟨3, ![1, 1, 4096]⟩
abbrev S256x4096 : Shape := ⟨2, ![256, 4096]⟩
abbrev S1x4096 : Shape := ⟨2, ![1, 4096]⟩

abbrev nBuf : Space → Nat
  | .hbm => 5
  | .vmem => 6
  | .smem => 0
  | _ => 0

abbrev bufTy : (tb : Table) → Fin (tcTables nBuf tb) → BufTy
  | .hbm, ⟨0, _⟩ => ⟨S4x4096x7968, .f32⟩
  | .hbm, ⟨1, _⟩ => ⟨S4x4096, .f32⟩
  | .hbm, ⟨2, _⟩ => ⟨S4x7968x4096, .f32⟩
  | .hbm, ⟨3, _⟩ => ⟨S4x1x4096, .f32⟩
  | .hbm, ⟨4, _⟩ => ⟨S4x8192x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x1x4096, .f32⟩
  | .local _ .vmem, ⟨3, _⟩ => ⟨S1x1x4096, .f32⟩
  | .local _ .vmem, ⟨4, _⟩ => ⟨S1x256x4096, .bf16⟩
  | .local _ .vmem, ⟨5, _⟩ => ⟨S1x256x4096, .bf16⟩
  | _, _ => ⟨S4x4096x7968, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c31_i32 : BitVec 32 := 31#32
  let v62 : BitVec 1 := Scalar.cmpi .eq arg1 c31_i32
  let c5376_i32 : BitVec 32 := 5376#32
  let c30_i32 : BitVec 32 := 30#32
  let v60 : BitVec 1 := Scalar.cmpi .eq arg1 c30_i32
  let c5120_i32 : BitVec 32 := 5120#32
  let c29_i32 : BitVec 32 := 29#32
  let v58 : BitVec 1 := Scalar.cmpi .eq arg1 c29_i32
  let c7712_i32 : BitVec 32 := 7712#32
  let c28_i32 : BitVec 32 := 28#32
  let v56 : BitVec 1 := Scalar.cmpi .eq arg1 c28_i32
  let c7456_i32 : BitVec 32 := 7456#32
  let c27_i32 : BitVec 32 := 27#32
  let v54 : BitVec 1 := Scalar.cmpi .eq arg1 c27_i32
  let c4864_i32 : BitVec 32 := 4864#32
  let c26_i32 : BitVec 32 := 26#32
  let v52 : BitVec 1 := Scalar.cmpi .eq arg1 c26_i32
  let c4608_i32 : BitVec 32 := 4608#32
  let c25_i32 : BitVec 32 := 25#32
  let v50 : BitVec 1 := Scalar.cmpi .eq arg1 c25_i32
  let c4352_i32 : BitVec 32 := 4352#32
  let c24_i32 : BitVec 32 := 24#32
  let v48 : BitVec 1 := Scalar.cmpi .eq arg1 c24_i32
  let c4096_i32 : BitVec 32 := 4096#32
  let c23_i32 : BitVec 32 := 23#32
  let v46 : BitVec 1 := Scalar.cmpi .eq arg1 c23_i32
  let c3840_i32 : BitVec 32 := 3840#32
  let c22_i32 : BitVec 32 := 22#32
  let v44 : BitVec 1 := Scalar.cmpi .eq arg1 c22_i32
  let c3584_i32 : BitVec 32 := 3584#32
  let c21_i32 : BitVec 32 := 21#32
  let v42 : BitVec 1 := Scalar.cmpi .eq arg1 c21_i32
  let c3328_i32 : BitVec 32 := 3328#32
  let c20_i32 : BitVec 32 := 20#32
  let v40 : BitVec 1 := Scalar.cmpi .eq arg1 c20_i32
  let c3072_i32 : BitVec 32 := 3072#32
  let c19_i32 : BitVec 32 := 19#32
  let v38 : BitVec 1 := Scalar.cmpi .eq arg1 c19_i32
  let c2816_i32 : BitVec 32 := 2816#32
  let c18_i32 : BitVec 32 := 18#32
  let v36 : BitVec 1 := Scalar.cmpi .eq arg1 c18_i32
  let c2560_i32 : BitVec 32 := 2560#32
  let c17_i32 : BitVec 32 := 17#32
  let v34 : BitVec 1 := Scalar.cmpi .eq arg1 c17_i32
  let c2304_i32 : BitVec 32 := 2304#32
  let c16_i32 : BitVec 32 := 16#32
  let v32 : BitVec 1 := Scalar.cmpi .eq arg1 c16_i32
  let c2048_i32 : BitVec 32 := 2048#32
  let c15_i32 : BitVec 32 := 15#32
  let v30 : BitVec 1 := Scalar.cmpi .eq arg1 c15_i32
  let c1792_i32 : BitVec 32 := 1792#32
  let c14_i32 : BitVec 32 := 14#32
  let v28 : BitVec 1 := Scalar.cmpi .eq arg1 c14_i32
  let c1536_i32 : BitVec 32 := 1536#32
  let c13_i32 : BitVec 32 := 13#32
  let v26 : BitVec 1 := Scalar.cmpi .eq arg1 c13_i32
  let c1280_i32 : BitVec 32 := 1280#32
  let c12_i32 : BitVec 32 := 12#32
  let v24 : BitVec 1 := Scalar.cmpi .eq arg1 c12_i32
  let c1024_i32 : BitVec 32 := 1024#32
  let c11_i32 : BitVec 32 := 11#32
  let v22 : BitVec 1 := Scalar.cmpi .eq arg1 c11_i32
  let c768_i32 : BitVec 32 := 768#32
  let c10_i32 : BitVec 32 := 10#32
  let v20 : BitVec 1 := Scalar.cmpi .eq arg1 c10_i32
  let c512_i32 : BitVec 32 := 512#32
  let c9_i32 : BitVec 32 := 9#32
  let v18 : BitVec 1 := Scalar.cmpi .eq arg1 c9_i32
  let c256_i32 : BitVec 32 := 256#32
  let c8_i32 : BitVec 32 := 8#32
  let v16 : BitVec 1 := Scalar.cmpi .eq arg1 c8_i32
  let c0_i32_1 : BitVec 32 := 0#32
  let c7_i32 : BitVec 32 := 7#32
  let v14 : BitVec 1 := Scalar.cmpi .eq arg1 c7_i32
  let c7200_i32 : BitVec 32 := 7200#32
  let c6_i32 : BitVec 32 := 6#32
  let v12 : BitVec 1 := Scalar.cmpi .eq arg1 c6_i32
  let c6944_i32 : BitVec 32 := 6944#32
  let c5_i32 : BitVec 32 := 5#32
  let v10 : BitVec 1 := Scalar.cmpi .eq arg1 c5_i32
  let c6688_i32 : BitVec 32 := 6688#32
  let c4_i32 : BitVec 32 := 4#32
  let v8 : BitVec 1 := Scalar.cmpi .eq arg1 c4_i32
  let c6432_i32 : BitVec 32 := 6432#32
  let c3_i32 : BitVec 32 := 3#32
  let v6 : BitVec 1 := Scalar.cmpi .eq arg1 c3_i32
  let c6176_i32 : BitVec 32 := 6176#32
  let c2_i32 : BitVec 32 := 2#32
  let v4 : BitVec 1 := Scalar.cmpi .eq arg1 c2_i32
  let c5920_i32 : BitVec 32 := 5920#32
  let c1_i32 : BitVec 32 := 1#32
  let v2 : BitVec 1 := Scalar.cmpi .eq arg1 c1_i32
  let c5664_i32 : BitVec 32 := 5664#32
  let c0_i32 : BitVec 32 := 0#32
  let v0 : BitVec 1 := Scalar.cmpi .eq arg1 c0_i32
  let c5408_i32 : BitVec 32 := 5408#32
  let c0_i32_0 : BitVec 32 := 0#32
  let v1 : BitVec 32 := Scalar.select v0 c5408_i32 c0_i32_0
  let v3 : BitVec 32 := Scalar.select v2 c5664_i32 v1
  let v5 : BitVec 32 := Scalar.select v4 c5920_i32 v3
  let v7 : BitVec 32 := Scalar.select v6 c6176_i32 v5
  let v9 : BitVec 32 := Scalar.select v8 c6432_i32 v7
  let v11 : BitVec 32 := Scalar.select v10 c6688_i32 v9
  let v13 : BitVec 32 := Scalar.select v12 c6944_i32 v11
  let v15 : BitVec 32 := Scalar.select v14 c7200_i32 v13
  let v17 : BitVec 32 := Scalar.select v16 c0_i32_1 v15
  let v19 : BitVec 32 := Scalar.select v18 c256_i32 v17
  let v21 : BitVec 32 := Scalar.select v20 c512_i32 v19
  let v23 : BitVec 32 := Scalar.select v22 c768_i32 v21
  let v25 : BitVec 32 := Scalar.select v24 c1024_i32 v23
  let v27 : BitVec 32 := Scalar.select v26 c1280_i32 v25
  let v29 : BitVec 32 := Scalar.select v28 c1536_i32 v27
  let v31 : BitVec 32 := Scalar.select v30 c1792_i32 v29
  let v33 : BitVec 32 := Scalar.select v32 c2048_i32 v31
  let v35 : BitVec 32 := Scalar.select v34 c2304_i32 v33
  let v37 : BitVec 32 := Scalar.select v36 c2560_i32 v35
  let v39 : BitVec 32 := Scalar.select v38 c2816_i32 v37
  let v41 : BitVec 32 := Scalar.select v40 c3072_i32 v39
  let v43 : BitVec 32 := Scalar.select v42 c3328_i32 v41
  let v45 : BitVec 32 := Scalar.select v44 c3584_i32 v43
  let v47 : BitVec 32 := Scalar.select v46 c3840_i32 v45
  let v49 : BitVec 32 := Scalar.select v48 c4096_i32 v47
  let v51 : BitVec 32 := Scalar.select v50 c4352_i32 v49
  let v53 : BitVec 32 := Scalar.select v52 c4608_i32 v51
  let v55 : BitVec 32 := Scalar.select v54 c4864_i32 v53
  let v57 : BitVec 32 := Scalar.select v56 c7456_i32 v55
  let v59 : BitVec 32 := Scalar.select v58 c7712_i32 v57
  let v61 : BitVec 32 := Scalar.select v60 c5120_i32 v59
  let v63 : BitVec 32 := Scalar.select v62 c5376_i32 v61
  v63
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c5408_i32 : BitVec 32 := 5408#32
  let c0_i32_0 : BitVec 32 := 0#32
  let v1 : BitVec 32 := Scalar.select v0 c5408_i32 c0_i32_0
  let c1_i32 : BitVec 32 := 1#32
  let v2 : BitVec 1 := Scalar.cmpi .eq arg1 c1_i32
  let c5664_i32 : BitVec 32 := 5664#32
  let v3 : BitVec 32 := Scalar.select v2 c5664_i32 v1
  let c2_i32 : BitVec 32 := 2#32
  let v4 : BitVec 1 := Scalar.cmpi .eq arg1 c2_i32
  let c5920_i32 : BitVec 32 := 5920#32
  let v5 : BitVec 32 := Scalar.select v4 c5920_i32 v3
  let c3_i32 : BitVec 32 := 3#32
  let v6 : BitVec 1 := Scalar.cmpi .eq arg1 c3_i32
  let c6176_i32 : BitVec 32 := 6176#32
  let v7 : BitVec 32 := Scalar.select v6 c6176_i32 v5
  let c4_i32 : BitVec 32 := 4#32
  let v8 : BitVec 1 := Scalar.cmpi .eq arg1 c4_i32
  let c6432_i32 : BitVec 32 := 6432#32
  let v9 : BitVec 32 := Scalar.select v8 c6432_i32 v7
  let c5_i32 : BitVec 32 := 5#32
  let v10 : BitVec 1 := Scalar.cmpi .eq arg1 c5_i32
  let c6688_i32 : BitVec 32 := 6688#32
  let v11 : BitVec 32 := Scalar.select v10 c6688_i32 v9
  let c6_i32 : BitVec 32 := 6#32
  let v12 : BitVec 1 := Scalar.cmpi .eq arg1 c6_i32
  let c6944_i32 : BitVec 32 := 6944#32
  let v13 : BitVec 32 := Scalar.select v12 c6944_i32 v11
  let c7_i32 : BitVec 32 := 7#32
  let v14 : BitVec 1 := Scalar.cmpi .eq arg1 c7_i32
  let c7200_i32 : BitVec 32 := 7200#32
  let v15 : BitVec 32 := Scalar.select v14 c7200_i32 v13
  let c8_i32 : BitVec 32 := 8#32
  let v16 : BitVec 1 := Scalar.cmpi .eq arg1 c8_i32
  let c0_i32_1 : BitVec 32 := 0#32
  let v17 : BitVec 32 := Scalar.select v16 c0_i32_1 v15
  let c9_i32 : BitVec 32 := 9#32
  let v18 : BitVec 1 := Scalar.cmpi .eq arg1 c9_i32
  let c256_i32 : BitVec 32 := 256#32
  let v19 : BitVec 32 := Scalar.select v18 c256_i32 v17
  let c10_i32 : BitVec 32 := 10#32
  let v20 : BitVec 1 := Scalar.cmpi .eq arg1 c10_i32
  let c512_i32 : BitVec 32 := 512#32
  let v21 : BitVec 32 := Scalar.select v20 c512_i32 v19
  let c11_i32 : BitVec 32 := 11#32
  let v22 : BitVec 1 := Scalar.cmpi .eq arg1 c11_i32
  let c768_i32 : BitVec 32 := 768#32
  let v23 : BitVec 32 := Scalar.select v22 c768_i32 v21
  let c12_i32 : BitVec 32 := 12#32
  let v24 : BitVec 1 := Scalar.cmpi .eq arg1 c12_i32
  let c1024_i32 : BitVec 32 := 1024#32
  let v25 : BitVec 32 := Scalar.select v24 c1024_i32 v23
  let c13_i32 : BitVec 32 := 13#32
  let v26 : BitVec 1 := Scalar.cmpi .eq arg1 c13_i32
  let c1280_i32 : BitVec 32 := 1280#32
  let v27 : BitVec 32 := Scalar.select v26 c1280_i32 v25
  let c14_i32 : BitVec 32 := 14#32
  let v28 : BitVec 1 := Scalar.cmpi .eq arg1 c14_i32
  let c1536_i32 : BitVec 32 := 1536#32
  let v29 : BitVec 32 := Scalar.select v28 c1536_i32 v27
  let c15_i32 : BitVec 32 := 15#32
  let v30 : BitVec 1 := Scalar.cmpi .eq arg1 c15_i32
  let c1792_i32 : BitVec 32 := 1792#32
  let v31 : BitVec 32 := Scalar.select v30 c1792_i32 v29
  let c16_i32 : BitVec 32 := 16#32
  let v32 : BitVec 1 := Scalar.cmpi .eq arg1 c16_i32
  let c2048_i32 : BitVec 32 := 2048#32
  let v33 : BitVec 32 := Scalar.select v32 c2048_i32 v31
  let c17_i32 : BitVec 32 := 17#32
  let v34 : BitVec 1 := Scalar.cmpi .eq arg1 c17_i32
  let c2304_i32 : BitVec 32 := 2304#32
  let v35 : BitVec 32 := Scalar.select v34 c2304_i32 v33
  let c18_i32 : BitVec 32 := 18#32
  let v36 : BitVec 1 := Scalar.cmpi .eq arg1 c18_i32
  let c2560_i32 : BitVec 32 := 2560#32
  let v37 : BitVec 32 := Scalar.select v36 c2560_i32 v35
  let c19_i32 : BitVec 32 := 19#32
  let v38 : BitVec 1 := Scalar.cmpi .eq arg1 c19_i32
  let c2816_i32 : BitVec 32 := 2816#32
  let v39 : BitVec 32 := Scalar.select v38 c2816_i32 v37
  let c20_i32 : BitVec 32 := 20#32
  let v40 : BitVec 1 := Scalar.cmpi .eq arg1 c20_i32
  let c3072_i32 : BitVec 32 := 3072#32
  let v41 : BitVec 32 := Scalar.select v40 c3072_i32 v39
  let c21_i32 : BitVec 32 := 21#32
  let v42 : BitVec 1 := Scalar.cmpi .eq arg1 c21_i32
  let c3328_i32 : BitVec 32 := 3328#32
  let v43 : BitVec 32 := Scalar.select v42 c3328_i32 v41
  let c22_i32 : BitVec 32 := 22#32
  let v44 : BitVec 1 := Scalar.cmpi .eq arg1 c22_i32
  let c3584_i32 : BitVec 32 := 3584#32
  let v45 : BitVec 32 := Scalar.select v44 c3584_i32 v43
  let c23_i32 : BitVec 32 := 23#32
  let v46 : BitVec 1 := Scalar.cmpi .eq arg1 c23_i32
  let c3840_i32 : BitVec 32 := 3840#32
  let v47 : BitVec 32 := Scalar.select v46 c3840_i32 v45
  let c24_i32 : BitVec 32 := 24#32
  let v48 : BitVec 1 := Scalar.cmpi .eq arg1 c24_i32
  let c4096_i32 : BitVec 32 := 4096#32
  let v49 : BitVec 32 := Scalar.select v48 c4096_i32 v47
  let c25_i32 : BitVec 32 := 25#32
  let v50 : BitVec 1 := Scalar.cmpi .eq arg1 c25_i32
  let c4352_i32 : BitVec 32 := 4352#32
  let v51 : BitVec 32 := Scalar.select v50 c4352_i32 v49
  let c26_i32 : BitVec 32 := 26#32
  let v52 : BitVec 1 := Scalar.cmpi .eq arg1 c26_i32
  let c4608_i32 : BitVec 32 := 4608#32
  let v53 : BitVec 32 := Scalar.select v52 c4608_i32 v51
  let c27_i32 : BitVec 32 := 27#32
  let v54 : BitVec 1 := Scalar.cmpi .eq arg1 c27_i32
  let c4864_i32 : BitVec 32 := 4864#32
  let v55 : BitVec 32 := Scalar.select v54 c4864_i32 v53
  let c28_i32 : BitVec 32 := 28#32
  let v56 : BitVec 1 := Scalar.cmpi .eq arg1 c28_i32
  let c7456_i32 : BitVec 32 := 7456#32
  let v57 : BitVec 32 := Scalar.select v56 c7456_i32 v55
  let c29_i32 : BitVec 32 := 29#32
  let v58 : BitVec 1 := Scalar.cmpi .eq arg1 c29_i32
  let c7712_i32 : BitVec 32 := 7712#32
  let v59 : BitVec 32 := Scalar.select v58 c7712_i32 v57
  let c30_i32 : BitVec 32 := 30#32
  let v60 : BitVec 1 := Scalar.cmpi .eq arg1 c30_i32
  let c5120_i32 : BitVec 32 := 5120#32
  let v61 : BitVec 32 := Scalar.select v60 c5120_i32 v59
  let c31_i32 : BitVec 32 := 31#32
  let v62 : BitVec 1 := Scalar.cmpi .eq arg1 c31_i32
  let c5376_i32 : BitVec 32 := 5376#32
  let v63 : BitVec 32 := Scalar.select v62 c5376_i32 v61
  let v64 : BitVec 32 := v63
  let c0_i32_2 : BitVec 32 := 0#32
  let c0_i32_3 : BitVec 32 := 0#32
  ![arg0.toNat, v64.toNat, c0_i32_2.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InPrepRefIdeal.lean ====
abbrev S4x4096x7968 : Shape := ⟨3, ![4, 4096, 7968]⟩
abbrev S4x4096 : Shape := ⟨2, ![4, 4096]⟩
abbrev S4x4096x1 : Shape := ⟨3, ![4, 4096, 1]⟩
abbrev S4x7968x4096 : Shape := ⟨3, ![4, 7968, 4096]⟩
abbrev S4x2048x4096 : Shape := ⟨3, ![4, 2048, 4096]⟩
abbrev S4x5120x4096 : Shape := ⟨3, ![4, 5120, 4096]⟩
abbrev S4x512x4096 : Shape := ⟨3, ![4, 512, 4096]⟩
abbrev S4x288x4096 : Shape := ⟨3, ![4, 288, 4096]⟩
abbrev S_ : Shape := ⟨0, ![]⟩
abbrev S4x8192x4096 : Shape := ⟨3, ![4, 8192, 4096]⟩

abbrev nBuf : Space → Nat
  | .hbm => 15
  | .vmem => 0
  | .smem => 0
  | _ => 0

abbrev bufTy : (tb : Table) → Fin (tcTables nBuf tb) → BufTy
  | .hbm, ⟨0, _⟩ => ⟨S4x4096x7968, .f32⟩
  | .hbm, ⟨1, _⟩ => ⟨S4x4096, .f32⟩
  | .hbm, ⟨2, _⟩ => ⟨S4x4096x1, .f32⟩
  | .hbm, ⟨3, _⟩ => ⟨S4x4096x7968, .f32⟩
  | .hbm, ⟨4, _⟩ => ⟨S4x4096x7968, .f32⟩
  | .hbm, ⟨5, _⟩ => ⟨S4x4096x7968, .bf16⟩
  | .hbm, ⟨6, _⟩ => ⟨S4x7968x4096, .bf16⟩
  | .hbm, ⟨7, _⟩ => ⟨S4x2048x4096, .bf16⟩
  | .hbm, ⟨8, _⟩ => ⟨S4x5120x4096, .bf16⟩
  | .hbm, ⟨9, _⟩ => ⟨S4x512x4096, .bf16⟩
  | .hbm, ⟨10, _⟩ => ⟨S4x288x4096, .bf16⟩
  | .hbm, ⟨11, _⟩ => ⟨S4x7968x4096, .bf16⟩
  | .hbm, ⟨12, _⟩ => ⟨S_, .i32⟩
  | .hbm, ⟨13, _⟩ => ⟨S_, .bf16⟩
  | .hbm, ⟨14, _⟩ => ⟨S4x8192x4096, .bf16⟩
  | _, _ => ⟨S4x4096x7968, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_c : Ref sig .tc := ⟨.hbm, 12, rfl⟩
abbrev main_call0_v0 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Conf.lean ====
abbrev S16384x8192 : Shape := ⟨2, ![16384, 8192]⟩
abbrev S31x1024 : Shape := ⟨2, ![31, 1024]⟩
abbrev S1024 : Shape := ⟨1, ![1024]⟩
abbrev S1024x1024 : Shape := ⟨2, ![1024, 1024]⟩
abbrev S_ : Shape := ⟨0, ![]⟩
abbrev S32x1024 : Shape := ⟨2, ![32, 1024]⟩
abbrev S1x1024 : Shape := ⟨2, ![1, 1024]⟩
abbrev S16384x1024 : Shape := ⟨2, ![16384, 1024]⟩
abbrev S256x1024 : Shape := ⟨2, ![256, 1024]⟩
abbrev S288x1024 : Shape := ⟨2, ![288, 1024]⟩
abbrev S7x288x1024 : Shape := ⟨3, ![7, 288, 1024]⟩
abbrev S280x1024 : Shape := ⟨2, ![280, 1024]⟩
abbrev S1x280x1024 : Shape := ⟨3, ![1, 280, 1024]⟩
abbrev S1x512 : Shape := ⟨2, ![1, 512]⟩
abbrev S32x512 : Shape := ⟨2, ![32, 512]⟩
abbrev S1x288x1024 : Shape := ⟨3, ![1, 288, 1024]⟩
abbrev S256 : Shape := ⟨1, ![256]⟩
abbrev S256x1 : Shape := ⟨2, ![256, 1]⟩

abbrev nBuf : Space → Nat
  | .hbm => 16
  | .vmem => 19
  | .smem => 0
  | _ => 0

abbrev bufTy : (tb : Table) → Fin (tcTables nBuf tb) → BufTy
  | .hbm, ⟨0, _⟩ => ⟨S16384x8192, .bf16⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S_, .i32⟩
  | .hbm, ⟨8, _⟩ => ⟨S_, .f32⟩
  | .hbm, ⟨9, _⟩ => ⟨S32x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1024x1024, .bf16⟩
  | .hbm, ⟨14, _⟩ => ⟨S1x1024, .f32⟩
  | .hbm, ⟨15, _⟩ => ⟨S16384x1024, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S32x1024, .bf16⟩
  | .local _ .vmem, ⟨5, _⟩ => ⟨S32x1024, .bf16⟩
  | .local _ .vmem, ⟨6, _⟩ => ⟨S32x1024, .bf16⟩
  | .local _ .vmem, ⟨7, _⟩ => ⟨S32x1024, .bf16⟩
  | .local _ .vmem, ⟨8, _⟩ => ⟨S32x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .bf16⟩
  | .local _ .vmem, ⟨13, _⟩ => ⟨S1x1024, .f32⟩
  | .local _ .vmem, ⟨14, _⟩ => ⟨S256x1024, .bf16⟩
  | .local _ .vmem, ⟨15, _⟩ => ⟨S256x1024, .bf16⟩
  | .local _ .vmem, ⟨16, _⟩ => ⟨S288x1024, .f32⟩
  | .local _ .vmem, ⟨17, _⟩ => ⟨S256x1024, .f32⟩
  | .local _ .vmem, ⟨18, _⟩ => ⟨S7x288x1024, .f32⟩
  | _, _ => ⟨S16384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_3 (i : grid0.Coords) : Fin 2 → Nat :=
  let arg0 : BitVec 32 := BitVec.ofNat 32 (i 0).val
  let c8_i32 : BitVec 32 := 8#32
  let v0 : BitVec 32 := Scalar.muli arg0 c8_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ConfRefIdeal.lean ====
abbrev S16384x8192 : Shape := ⟨2, ![16384, 8192]⟩
abbrev S31x1024 : Shape := ⟨2, ![31, 1024]⟩
abbrev S1024 : Shape := ⟨1, ![1024]⟩
abbrev S1024x1024 : Shape := ⟨2, ![1024, 1024]⟩
abbrev S16384x1024 : Shape := ⟨2, ![16384, 1024]⟩
abbrev S_ : Shape := ⟨0, ![]⟩
abbrev S16414x1024 : Shape := ⟨2, ![16414, 1024]⟩
abbrev S1x1024 : Shape := ⟨2, ![1, 1024]⟩
abbrev S16384 : Shape := ⟨1, ![16384]⟩
abbrev S16384x1 : Shape := ⟨2, ![16384, 1]⟩

abbrev nBuf : Space → Nat
  | .hbm => 288
  | .vmem => 0
  | .smem => 0
  | _ => 0

abbrev hbmTy0_0 (i : Nat) : BufTy := match i % 128 with
  | 0 => ⟨S16384x8192, .bf16⟩
  | 1 => ⟨S31x1024, .f32⟩
  | 2 => ⟨S1024, .f32⟩
  | 3 => ⟨S1024, .f32⟩
  | 4 => ⟨S1024, .f32⟩
  | 5 => ⟨S1024x1024, .f32⟩
  | 6 => ⟨S1024, .f32⟩
  | 7 => ⟨S16384x1024, .bf16⟩
  | 8 => ⟨S16384x1024, .f32⟩
  | 9 => ⟨S16384x1024, .bf16⟩
  | 10 => ⟨S16384x1024, .f32⟩
  | 11 => ⟨S16384x1024, .f32⟩
  | 12 => ⟨S16384x1024, .f32⟩
  | 13 => ⟨S_, .f32⟩
  | 14 => ⟨S16384x1024, .f32⟩
  | 15 => ⟨S16384x1024, .f32⟩
  | 16 => ⟨S_, .f32⟩
  | 17 => ⟨S16384x1024, .f32⟩
  | 18 => ⟨S16384x1024, .f32⟩
  | 19 => ⟨S16384x1024, .f32⟩
  | 20 => ⟨S_, .i32⟩
  | 21 => ⟨S_, .f32⟩
  | 22 => ⟨S16414x1024, .f32⟩
  | 23 => ⟨S1x1024, .f32⟩
  | 24 => ⟨S1024, .f32⟩
  | 25 => ⟨S16384x1024, .f32⟩
  | 26 => ⟨S1x1024, .f32⟩
  | 27 => ⟨S16384x1024, .f32⟩
  | 28 => ⟨S16384x1024, .f32⟩
  | 29 => ⟨S_, .f32⟩
  | 30 => ⟨S16384x1024, .f32⟩
  | 31 => ⟨S16384x1024, .f32⟩
  | 32 => ⟨S1x1024, .f32⟩
  | 33 => ⟨S1024, .f32⟩
  | 34 => ⟨S16384x1024, .f32⟩
  | 35 => ⟨S1x1024, .f32⟩
  | 36 => ⟨S16384x1024, .f32⟩
  | 37 => ⟨S16384x1024, .f32⟩
  | 38 => ⟨S16384x1024, .f32⟩
  | 39 => ⟨S1x1024, .f32⟩
  | 40 => ⟨S1024, .f32⟩
  | 41 => ⟨S16384x1024, .f32⟩
  | 42 => ⟨S1x1024, .f32⟩
  | 43 => ⟨S16384x1024, .f32⟩
  | 44 => ⟨S16384x1024, .f32⟩
  | 45 => ⟨S16384x1024, .f32⟩
  | 46 => ⟨S1x1024, .f32⟩
  | 47 => ⟨S1024, .f32⟩
  | 48 => ⟨S16384x1024, .f32⟩
  | 49 => ⟨S1x1024, .f32⟩
  | 50 => ⟨S16384x1024, .f32⟩
  | 51 => ⟨S16384x1024, .f32⟩
  | 52 => ⟨S16384x1024, .f32⟩
  | 53 => ⟨S1x1024, .f32⟩
  | 54 => ⟨S1024, .f32⟩
  | 55 => ⟨S16384x1024, .f32⟩
  | 56 => ⟨S1x1024, .f32⟩
  | 57 => ⟨S16384x1024, .f32⟩
  | 58 => ⟨S16384x1024, .f32⟩
  | 59 => ⟨S16384x1024, .f32⟩
  | 60 => ⟨S1x1024, .f32⟩
  | 61 => ⟨S1024, .f32⟩
  | 62 => ⟨S16384x1024, .f32⟩
  | 63 => ⟨S1x1024, .f32⟩
  | 64 => ⟨S16384x1024, .f32⟩
  | 65 => ⟨S16384x1024, .f32⟩
  | 66 => ⟨S16384x1024, .f32⟩
  | 67 => ⟨S1x1024, .f32⟩
  | 68 => ⟨S1024, .f32⟩
  | 69 => ⟨S16384x1024, .f32⟩
  | 70 => ⟨S1x1024, .f32⟩
  | 71 => ⟨S16384x1024, .f32⟩
  | 72 => ⟨S16384x1024, .f32⟩
  | 73 => ⟨S16384x1024, .f32⟩
  | 74 => ⟨S1x1024, .f32⟩
  | 75 => ⟨S1024, .f32⟩
  | 76 => ⟨S16384x1024, .f32⟩
  | 77 => ⟨S1x1024, .f32⟩
  | 78 => ⟨S16384x1024, .f32⟩
  | 79 => ⟨S16384x1024, .f32⟩
  | 80 => ⟨S16384x1024, .f32⟩
  | 81 => ⟨S1x1024, .f32⟩
  | 82 => ⟨S1024, .f32⟩
  | 83 => ⟨S16384x1024, .f32⟩
  | 84 => ⟨S1x1024, .f32⟩
  | 85 => ⟨S16384x1024, .f32⟩
  | 86 => ⟨S16384x1024, .f32⟩
  | 87 => ⟨S16384x1024, .f32⟩
  | 88 => ⟨S1x1024, .f32⟩
  | 89 => ⟨S1024, .f32⟩
  | 90 => ⟨S16384x1024, .f32⟩
  | 91 => ⟨S1x1024, .f32⟩
  | 92 => ⟨S16384x1024, .f32⟩
  | 93 => ⟨S16384x1024, .f32⟩
  | 94 => ⟨S16384x1024, .f32⟩
  | 95 => ⟨S1x1024, .f32⟩
  | 96 => ⟨S1024, .f32⟩
  | 97 => ⟨S16384x1024, .f32⟩
  | 98 => ⟨S1x1024, .f32⟩
  | 99 => ⟨S16384x1024, .f32⟩
  | 100 => ⟨S16384x1024, .f32⟩
  | 101 => ⟨S16384x1024, .f32⟩
  | 102 => ⟨S1x1024, .f32⟩
  | 103 => ⟨S1024, .f32⟩
  | 104 => ⟨S16384x1024, .f32⟩
  | 105 => ⟨S1x1024, .f32⟩
  | 106 => ⟨S16384x1024, .f32⟩
  | 107 => ⟨S16384x1024, .f32⟩
  | 108 => ⟨S16384x1024, .f32⟩
  | 109 => ⟨S1x1024, .f32⟩
  | 110 => ⟨S1024, .f32⟩
  | 111 => ⟨S16384x1024, .f32⟩
  | 112 => ⟨S1x1024, .f32⟩
  | 113 => ⟨S16384x1024, .f32⟩
  | 114 => ⟨S16384x1024, .f32⟩
  | 115 => ⟨S16384x1024, .f32⟩
  | 116 => ⟨S1x1024, .f32⟩
  | 117 => ⟨S1024, .f32⟩
  | 118 => ⟨S16384x1024, .f32⟩
  | 119 => ⟨S1x1024, .f32⟩
  | 120 => ⟨S16384x1024, .f32⟩
  | 121 => ⟨S16384x1024, .f32⟩
  | 122 => ⟨S16384x1024, .f32⟩
  | 123 => ⟨S1x1024, .f32⟩
  | 124 => ⟨S1024, .f32⟩
  | 125 => ⟨S16384x1024, .f32⟩
  | 126 => ⟨S1x1024, .f32⟩
  | 127 => ⟨S16384x1024, .f32⟩
  | _ => ⟨S16384x8192, .bf16⟩

abbrev hbmTy0_1 (i : Nat) : BufTy := match i % 128 with
  | 0 => ⟨S16384x1024, .f32⟩
  | 1 => ⟨S16384x1024, .f32⟩
  | 2 => ⟨S1x1024, .f32⟩
  | 3 => ⟨S1024, .f32⟩
  | 4 => ⟨S16384x1024, .f32⟩
  | 5 => ⟨S1x1024, .f32⟩
  | 6 => ⟨S16384x1024, .f32⟩
  | 7 => ⟨S16384x1024, .f32⟩
  | 8 => ⟨S16384x1024, .f32⟩
  | 9 => ⟨S1x1024, .f32⟩
  | 10 => ⟨S1024, .f32⟩
  | 11 => ⟨S16384x1024, .f32⟩
  | 12 => ⟨S1x1024, .f32⟩
  | 13 => ⟨S16384x1024, .f32⟩
  | 14 => ⟨S16384x1024, .f32⟩
  | 15 => ⟨S16384x1024, .f32⟩
  | 16 => ⟨S1x1024, .f32⟩
  | 17 => ⟨S1024, .f32⟩
  | 18 => ⟨S16384x1024, .f32⟩
  | 19 => ⟨S1x1024, .f32⟩
  | 20 => ⟨S16384x1024, .f32⟩
  | 21 => ⟨S16384x1024, .f32⟩
  | 22 => ⟨S16384x1024, .f32⟩
  | 23 => ⟨S1x1024, .f32⟩
  | 24 => ⟨S1024, .f32⟩
  | 25 => ⟨S16384x1024, .f32⟩
  | 26 => ⟨S1x1024, .f32⟩
  | 27 => ⟨S16384x1024, .f32⟩
  | 28 => ⟨S16384x1024, .f32⟩
  | 29 => ⟨S16384x1024, .f32⟩
  | 30 => ⟨S1x1024, .f32⟩
  | 31 => ⟨S1024, .f32⟩
  | 32 => ⟨S16384x1024, .f32⟩
  | 33 => ⟨S1x1024, .f32⟩
  | 34 => ⟨S16384x1024, .f32⟩
  | 35 => ⟨S16384x1024, .f32⟩
  | 36 => ⟨S16384x1024, .f32⟩
  | 37 => ⟨S1x1024, .f32⟩
  | 38 => ⟨S1024, .f32⟩
  | 39 => ⟨S16384x1024, .f32⟩
  | 40 => ⟨S1x1024, .f32⟩
  | 41 => ⟨S16384x1024, .f32⟩
  | 42 => ⟨S16384x1024, .f32⟩
  | 43 => ⟨S16384x1024, .f32⟩
  | 44 => ⟨S1x1024, .f32⟩
  | 45 => ⟨S1024, .f32⟩
  | 46 => ⟨S16384x1024, .f32⟩
  | 47 => ⟨S1x1024, .f32⟩
  | 48 => ⟨S16384x1024, .f32⟩
  | 49 => ⟨S16384x1024, .f32⟩
  | 50 => ⟨S16384x1024, .f32⟩
  | 51 => ⟨S1x1024, .f32⟩
  | 52 => ⟨S1024, .f32⟩
  | 53 => ⟨S16384x1024, .f32⟩
  | 54 => ⟨S1x1024, .f32⟩
  | 55 => ⟨S16384x1024, .f32⟩
  | 56 => ⟨S16384x1024, .f32⟩
  | 57 => ⟨S16384x1024, .f32⟩
  | 58 => ⟨S1x1024, .f32⟩
  | 59 => ⟨S1024, .f32⟩
  | 60 => ⟨S16384x1024, .f32⟩
  | 61 => ⟨S1x1024, .f32⟩
  | 62 => ⟨S16384x1024, .f32⟩
  | 63 => ⟨S16384x1024, .f32⟩
  | 64 => ⟨S16384x1024, .f32⟩
  | 65 => ⟨S1x1024, .f32⟩
  | 66 => ⟨S1024, .f32⟩
  | 67 => ⟨S16384x1024, .f32⟩
  | 68 => ⟨S1x1024, .f32⟩
  | 69 => ⟨S16384x1024, .f32⟩
  | 70 => ⟨S16384x1024, .f32⟩
  | 71 => ⟨S16384x1024, .f32⟩
  | 72 => ⟨S1x1024, .f32⟩
  | 73 => ⟨S1024, .f32⟩
  | 74 => ⟨S16384x1024, .f32⟩
  | 75 => ⟨S1x1024, .f32⟩
  | 76 => ⟨S16384x1024, .f32⟩
  | 77 => ⟨S16384x1024, .f32⟩
  | 78 => ⟨S16384x1024, .f32⟩
  | 79 => ⟨S1x1024, .f32⟩
  | 80 => ⟨S1024, .f32⟩
  | 81 => ⟨S16384x1024, .f32⟩
  | 82 => ⟨S1x1024, .f32⟩
  | 83 => ⟨S16384x1024, .f32⟩
  | 84 => ⟨S16384x1024, .f32⟩
  | 85 => ⟨S16384x1024, .f32⟩
  | 86 => ⟨S1x1024, .f32⟩
  | 87 => ⟨S1024, .f32⟩
  | 88 => ⟨S16384x1024, .f32⟩
  | 89 => ⟨S1x1024, .f32⟩
  | 90 => ⟨S16384x1024, .f32⟩
  | 91 => ⟨S16384x1024, .f32⟩
  | 92 => ⟨S16384x1024, .f32⟩
  | 93 => ⟨S1x1024, .f32⟩
  | 94 => ⟨S1024, .f32⟩
  | 95 => ⟨S16384x1024, .f32⟩
  | 96 => ⟨S1x1024, .f32⟩
  | 97 => ⟨S16384x1024, .f32⟩
  | 98 => ⟨S16384x1024, .f32⟩
  | 99 => ⟨S16384x1024, .f32⟩
  | 100 => ⟨S1x1024, .f32⟩
  | 101 => ⟨S1024, .f32⟩
  | 102 => ⟨S16384x1024, .f32⟩
  | 103 => ⟨S1x1024, .f32⟩
  | 104 => ⟨S16384x1024, .f32⟩
  | 105 => ⟨S16384x1024, .f32⟩
  | 106 => ⟨S16384x1024, .f32⟩
  | 107 => ⟨S1x1024, .f32⟩
  | 108 => ⟨S1024, .f32⟩
  | 109 => ⟨S16384x1024, .f32⟩
  | 110 => ⟨S1x1024, .f32⟩
  | 111 => ⟨S16384x1024, .f32⟩
  | 112 => ⟨S16384x1024, .f32⟩
  | 113 => ⟨S16384x1024, .f32⟩
  | 114 => ⟨S1x1024, .f32⟩
  | 115 => ⟨S16384x1024, .f32⟩
  | 116 => ⟨S16384x1024, .f32⟩
  | 117 => ⟨S_, .f32⟩
  | 118 => ⟨S16384, .f32⟩
  | 119 => ⟨S16384x1, .f32⟩
  | 120 => ⟨S_, .f32⟩
  | 121 => ⟨S16384x1, .f32⟩
  | 122 => ⟨S16384x1, .f32⟩
  | 123 => ⟨S16384x1024, .f32⟩
  | 124 => ⟨S16384x1024, .f32⟩
  | 125 => ⟨S16384x1024, .f32⟩
  | 126 => ⟨S_, .f32⟩
  | 127 => ⟨S16384, .f32⟩
  | _ => ⟨S16384x8192, .bf16⟩

abbrev hbmTy0_2 (i : Nat) : BufTy := match i % 128 with
  | 0 => ⟨S16384x1, .f32⟩
  | 1 => ⟨S_, .f32⟩
  | 2 => ⟨S16384x1, .f32⟩
  | 3 => ⟨S16384x1, .f32⟩
  | 4 => ⟨S16384x1024, .f32⟩
  | 5 => ⟨S16384x1024, .f32⟩
  | 6 => ⟨S_, .f32⟩
  | 7 => ⟨S16384x1, .f32⟩
  | 8 => ⟨S16384x1, .f32⟩
  | 9 => ⟨S16384x1, .f32⟩
  | 10 => ⟨S16384x1024, .f32⟩
  | 11 => ⟨S16384x1024, .f32⟩
  | 12 => ⟨S1x1024, .f32⟩
  | 13 => ⟨S16384x1024, .f32⟩
  | 14 => ⟨S16384x1024, .f32⟩
  | 15 => ⟨S1x1024, .f32⟩
  | 16 => ⟨S16384x1024, .f32⟩
  | 17 => ⟨S16384x1024, .f32⟩
  | 18 => ⟨S16384x1024, .f32⟩
  | 19 => ⟨S16384x1024, .f32⟩
  | 20 => ⟨S_, .f32⟩
  | 21 => ⟨S16384x1024, .f32⟩
  | 22 => ⟨S16384x1024, .f32⟩
  | 23 => ⟨S_, .f32⟩
  | 24 => ⟨S16384x1024, .f32⟩
  | 25 => ⟨S16384x1024, .f32⟩
  | 26 => ⟨S16384x1024, .f32⟩
  | 27 => ⟨S16384x1024, .f32⟩
  | 28 => ⟨S1x1024, .f32⟩
  | 29 => ⟨S16384x1024, .f32⟩
  | 30 => ⟨S16384x1024, .f32⟩
  | 31 => ⟨S16384x1024, .bf16⟩
  | _ => ⟨S16384x8192, .bf16⟩

abbrev hbmTy (i : Nat) : BufTy := match i / 128 with
  | 0 => hbmTy0_0 i
  | 1 => hbmTy0_1 i
  | 2 => hbmTy0_2 i
  | _ => ⟨S16384x8192, .bf16⟩

abbrev bufTy : (tb : Table) → Fin (tcTables nBuf tb) → BufTy
  | .hbm, ⟨i, _⟩ => hbmTy i
  | _, _ => ⟨S16384x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_call0_v0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_1 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_v107 : Ref sig .tc := ⟨.hbm, 119, rfl⟩
abbrev main_v108 : Ref sig .tc := ⟨.hbm, 120, rfl⟩
abbrev main_v109 : Ref sig .tc := ⟨.hbm, 121, rfl⟩
abbrev main_v110 : Ref sig .tc := ⟨.hbm, 122, rfl⟩
abbrev main_v111 : Ref sig .tc := ⟨.hbm, 123, rfl⟩
abbrev main_v112 : Ref sig .tc := ⟨.hbm, 124, rfl⟩
abbrev main_v113 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_v164 : Ref sig .tc := ⟨.hbm, 176, rfl⟩
abbrev main_v165 : Ref sig .tc := ⟨.hbm, 177, rfl⟩
abbrev main_v166 : Ref sig .tc := ⟨.hbm, 178, rfl⟩
abbrev main_v167 : Ref sig .tc := ⟨.hbm, 179, rfl⟩
abbrev main_v168 : Ref sig .tc := ⟨.hbm, 180, rfl⟩
abbrev main_v169 : Ref sig .tc := ⟨.hbm, 181, rfl⟩
abbrev main_v170 : Ref sig .tc := ⟨.hbm, 182, rfl⟩
abbrev main_v171 : Ref sig .tc := ⟨.hbm, 183, rfl⟩
abbrev main_v172 : Ref sig .tc := ⟨.hbm, 184, rfl⟩
abbrev main_v173 : Ref sig .tc := ⟨.hbm, 185, rfl⟩
abbrev main_v174 : Ref sig .tc := ⟨.hbm, 186, rfl⟩
abbrev main_v175 : Ref sig .tc := ⟨.hbm, 187, rfl⟩
abbrev main_v176 : Ref sig .tc := ⟨.hbm, 188, rfl⟩
abbrev main_v177 : Ref sig .tc := ⟨.hbm, 189, rfl⟩
abbrev main_v178 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_v183 : Ref sig .tc := ⟨.hbm, 195, rfl⟩
abbrev main_v184 : Ref sig .tc := ⟨.hbm, 196, rfl⟩
abbrev main_v185 : Ref sig .tc := ⟨.hbm, 197, rfl⟩
abbrev main_v186 : Ref sig .tc := ⟨.hbm, 198, rfl⟩
abbrev main_v187 : Ref sig .tc := ⟨.hbm, 199, rfl⟩
abbrev main_v188 : Ref sig .tc := ⟨.hbm, 200, rfl⟩
abbrev main_v189 : Ref sig .tc := ⟨.hbm, 201, rfl⟩
abbrev main_v190 : Ref sig .tc := ⟨.hbm, 202, rfl⟩
abbrev main_v191 : Ref sig .tc := ⟨.hbm, 203, rfl⟩
abbrev main_v192 : Ref sig .tc := ⟨.hbm, 204, rfl⟩
abbrev main_v193 : Ref sig .tc := ⟨.hbm, 205, rfl⟩
abbrev main_v194 : Ref sig .tc := ⟨.hbm, 206, rfl⟩
abbrev main_v195 : Ref sig .tc := ⟨.hbm, 207, rfl⟩
abbrev main_v196 : Ref sig .tc := ⟨.hbm, 208, rfl⟩
abbrev main_v197 : Ref sig .tc := ⟨.hbm, 209, rfl⟩
abbrev main_v198 : Ref sig .tc := ⟨.hbm, 210, rfl⟩
abbrev main_v199 : Ref sig .tc := ⟨.hbm, 211, rfl⟩
abbrev main_v200 : Ref sig .tc := ⟨.hbm, 212, rfl⟩
abbrev main_v201 : Ref sig .tc := ⟨.hbm, 213, rfl⟩
abbrev main_v202 : Ref sig .tc := ⟨.hbm, 214, rfl⟩
abbrev main_v203 : Ref sig .tc := ⟨.hbm, 215, rfl⟩
abbrev main_v204 : Ref sig .tc := ⟨.hbm, 216, rfl⟩
abbrev main_v205 : Ref sig .tc := ⟨.hbm, 217, rfl⟩
abbrev main_v206 : Ref sig .tc := ⟨.hbm, 218, rfl⟩
abbrev main_v207 : Ref sig .tc := ⟨.hbm, 219, rfl⟩
abbrev main_v208 : Ref sig .tc := ⟨.hbm, 220, rfl⟩
abbrev main_v209 : Ref sig .tc := ⟨.hbm, 221, rfl⟩
abbrev main_v210 : Ref sig .tc := ⟨.hbm, 222, rfl⟩
abbrev main_v211 : Ref sig .tc := ⟨.hbm, 223, rfl⟩
abbrev main_v212 : Ref sig .tc := ⟨.hbm, 224, rfl⟩
abbrev main_v213 : Ref sig .tc := ⟨.hbm, 225, rfl⟩
abbrev main_v214 : Ref sig .tc := ⟨.hbm, 226, rfl⟩
abbrev main_v215 : Ref sig .tc := ⟨.hbm, 227, rfl⟩
abbrev main_v216 : Ref sig .tc := ⟨.hbm, 228, rfl⟩
abbrev main_v217 : Ref sig .tc := ⟨.hbm, 229, rfl⟩
abbrev main_v218 : Ref sig .tc := ⟨.hbm, 230, rfl⟩
abbrev main_v219 : Ref sig .tc := ⟨.hbm, 231, rfl⟩
abbrev main_v220 : Ref sig .tc := ⟨.hbm, 232, rfl⟩
abbrev main_v221 : Ref sig .tc := ⟨.hbm, 233, rfl⟩
abbrev main_v222 : Ref sig .tc := ⟨.hbm, 234, rfl⟩
abbrev main_v223 : Ref sig .tc := ⟨.hbm, 235, rfl⟩
abbrev main_v224 : Ref sig .tc := ⟨.hbm, 236, rfl⟩
abbrev main_v225 : Ref sig .tc := ⟨.hbm, 237, rfl⟩
abbrev main_v226 : Ref sig .tc := ⟨.hbm, 238, rfl⟩
abbrev main_v227 : Ref sig .tc := ⟨.hbm, 239, rfl⟩
abbrev main_v228 : Ref sig .tc := ⟨.hbm, 240, rfl⟩
abbrev main_v229 : Ref sig .tc := ⟨.hbm, 241, rfl⟩
abbrev main_v230 : Ref sig .tc := ⟨.hbm, 242, rfl⟩
abbrev main_v231 : Ref sig .tc := ⟨.hbm, 243, rfl⟩
abbrev main_v232 : Ref sig .tc := ⟨.hbm, 244, rfl⟩
abbrev main_cst_2 : Ref sig .tc := ⟨.hbm, 245, rfl⟩
abbrev main_v233 : Ref sig .tc := ⟨.hbm, 246, rfl⟩
abbrev main_v234 : Ref sig .tc := ⟨.hbm, 247, rfl⟩
abbrev main_cst_3 : Ref sig .tc := ⟨.hbm, 248, rfl⟩
abbrev main_v235 : Ref sig .tc := ⟨.hbm, 249, rfl⟩
abbrev main_v236 : Ref sig .tc := ⟨.hbm, 250, rfl⟩
abbrev main_v237 : Ref sig .tc := ⟨.hbm, 251, rfl⟩
abbrev main_v238 : Ref sig .tc := ⟨.hbm, 252, rfl⟩
abbrev main_v239 : Ref sig .tc := ⟨.hbm, 253, rfl⟩
abbrev main_cst_4 : Ref sig .tc := ⟨.hbm, 254, rfl⟩
abbrev main_v240 : Ref sig .tc := ⟨.hbm, 255, rfl⟩
abbrev main_v241 : Ref sig .tc := ⟨.hbm, 256, rfl⟩
abbrev main_cst_5 : Ref sig .tc := ⟨.hbm, 257, rfl⟩
abbrev main_v242 : Ref sig .tc := ⟨.hbm, 258, rfl⟩
abbrev main_v243 : Ref sig .tc := ⟨.hbm, 259, rfl⟩
abbrev main_v244 : Ref sig .tc := ⟨.hbm, 260, rfl⟩
abbrev main_v245 : Ref sig .tc := ⟨.hbm, 261, rfl⟩
abbrev main_cst_6 : Ref sig .tc := ⟨.hbm, 262, rfl⟩
abbrev main_v246 : Ref sig .tc := ⟨.hbm, 263, rfl⟩
abbrev main_v247 : Ref sig .tc := ⟨.hbm, 264, rfl⟩
abbrev main_v248 : Ref sig .tc := ⟨.hbm, 265, rfl⟩
abbrev main_v249 : Ref sig .tc := ⟨.hbm, 266, rfl⟩
abbrev main_v250 : Ref sig .tc := ⟨.hbm, 267, rfl⟩
abbrev main_v251 : Ref sig .tc := ⟨.hbm, 268, rfl⟩
abbrev main_v252 : Ref sig .tc := ⟨.hbm, 269, rfl⟩
abbrev main_v253 : Ref sig .tc := ⟨.hbm, 270, rfl⟩
abbrev main_v254 : Ref sig .tc := ⟨.hbm, 271, rfl⟩
abbrev main_v255 : Ref sig .tc := ⟨.hbm, 272, rfl⟩
abbrev main_v256 : Ref sig .tc := ⟨.hbm, 273, rfl⟩
abbrev main_call1_v0 : Ref sig .tc := ⟨.hbm, 274, rfl⟩
abbrev main_call1_v1 : Ref sig .tc := ⟨.hbm, 275, rfl⟩
abbrev main_call1_cst : Ref sig .tc := ⟨.hbm, 276, rfl⟩
abbrev main_call1_v2 : Ref sig .tc := ⟨.hbm, 277, rfl⟩
abbrev main_call1_v3 : Ref sig .tc := ⟨.hbm, 278, rfl⟩
abbrev main_call1_cst_0 : Ref sig .tc := ⟨.hbm, 279, rfl⟩
abbrev main_call1_v4 : Ref sig .tc := ⟨.hbm, 280, rfl⟩
abbrev main_call1_v5 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩
abbrev main_v261 : Ref sig .tc := ⟨.hbm, 286, rfl⟩
abbrev main_v262 : Ref sig .tc := ⟨.hbm, 287, rfl⟩

abbrev nD : Nat := 1
abbrev τ : Topo := Topo.v7x

variable {F : FTy → Type} [FloatOps F]
-- ==== Proof.FfnBody.lean ====
/- The feed-forward input body at one grid point: what it stores and what it carries, read at an index. -/
module

public import proofs.«01_k».proof.Proof.Gen.FfnInIdeal.Frame
public import Idealize.ShloMosaic.Lib.Pipeline.ValueKit
public import Idealize.ShloMosaic.Lib.Pointwise
public import Idealize.ShloMosaic.Lib.WritesUnit

@[expose] public section

set_option maxRecDepth 16384

noncomputable section

open Idealize.ShloMosaic Idealize.ShloMosaic.TcCoe Idealize.SL.Sem
open Idealize.ShloMosaic.Pipeline (Dat)

namespace Cert.FfnInIdeal.Ffn

open Cert.FfnInIdeal Cert.FfnInIdeal.Gen

/-- Rows `H` where the product has none, the product's from row 8 on. -/
def cat (H : ℕ → Fin 512 → EReal) (P : FVec Ideal S1024x512 .f32) (r : ℕ) (c : Fin 512) : EReal :=
  if h : 8 ≤ r ∧ r < 1032 then P (ix2 ⟨r - 8, by omega⟩ c) else H r c

/-- Three weighted rows and a bias. -/
def tap (cw : FVec Ideal S8x512 .f32) (cb : FVec Ideal S1x512 .f32) (S : ℕ → Fin 512 → EReal) (r : Fin 1024) (c : Fin 512) : EReal :=
  cw (ix2 0 c) * S (6 + r) c + cw (ix2 1 c) * S (7 + r) c + cw (ix2 2 c) * S (8 + r) c + cb (ix2 0 c)

/-- The gated product. -/
def glu (g u : EReal) : EReal := g * Ideal.logistic g * u

/-- The scaled product of a block of rows with a block of columns. -/
def prod (u : FVec Ideal S1024x4096 .bf16) (s : FVec Ideal S1024x1 .f32) (w : FVec Ideal S1x4096x512 .bf16) (r : Fin 1024) (c : Fin 512) : EReal :=
  (∑ k : Fin 4096, u (ix2 r k) * w (ix3 0 k c)) * Ideal.rsqrt (s (ix2 r 0) * Ideal.ofBits .f32 0x39800000#32 + Ideal.ofBits .f32 0x358637BD#32)

theorem pay8_at (u : FVec Ideal S1024x4096 .bf16) (s : FVec Ideal S1024x1 .f32) (w : FVec Ideal S1x4096x512 .bf16) (r : Fin 1024) (c : Fin 512) :
    (k0_pay8 (F := Ideal) u s w (ix2 r c) : EReal) = prod u s w r c := by
  unfold k0_pay8 prod
  pointwise [k0_pay7]

theorem pay10_at (u : FVec Ideal S1024x4096 .bf16) (s : FVec Ideal S1024x1 .f32) (w : FVec Ideal S1x4096x512 .bf16) (r : Fin 1024) (c : Fin 512) :
    (k0_pay10 (F := Ideal) u (k0_pay7 s) (k0_pay9 w) (constant S1024x512 FTy.f32 0#32) (ix2 r c) : EReal) = prod u s w r c := by
  unfold k0_pay10 prod
  pointwise [k0_pay7, k0_pay9]

theorem pay1_at (a0 a1 a2 b0 b1 b2 : FVec Ideal S1x512 .f32) (x0 x1 x2 y0 y1 y2 : FVec Ideal S1024x512 .f32) (ba bb : FVec Ideal S1x512 .f32) (r : Fin 1024) (c : Fin 512) :
    (k0_pay1 (F := Ideal) (k0_pay11 a0 x0 a1 x1 a2 x2 ba) (k0_pay12 b0 y0) (k0_pay13 b1) y1 b2 y2 bb (ix2 r c) : EReal)
      = glu (a0 (ix2 0 c) * x0 (ix2 r c) + a1 (ix2 0 c) * x1 (ix2 r c) + a2 (ix2 0 c) * x2 (ix2 r c) + ba (ix2 0 c))
          (b0 (ix2 0 c) * y0 (ix2 r c) + b1 (ix2 0 c) * y1 (ix2 r c) + b2 (ix2 0 c) * y2 (ix2 r c) + bb (ix2 0 c)) := by
  unfold k0_pay1 glu
  pointwise [k0_pay11, k0_pay12, k0_pay13]

abbrev Pc := View.Piece (Elt Ideal) S1032x512 .f32

theorem set_hi (r : Fin 1032) (c : Fin 512) : (ix2 r c : S1032x512.Idx) ∈ (Rect.unit (s := S1032x512) ![8, 0] ![1024, 512] inb_S1032x512_S1024x512_8_0).set ↔ 8 ≤ (r : ℕ) := by
  rw [Rect.mem_set_unit]
  constructor
  · intro h; exact (h 0).1
  · intro h a
    match a with
    | 0 => exact ⟨h, by show (r : ℕ) < 8 + 1024; omega⟩
    | 1 => exact ⟨Nat.zero_le _, by show (c : ℕ) < 0 + 512; omega⟩

theorem emb_hi (r : Fin 1024) (c : Fin 512) : (Rect.unit (s := S1032x512) ![8, 0] ![1024, 512] inb_S1032x512_S1024x512_8_0).emb (ix2 r c) = (ix2 ⟨8 + r, by omega⟩ c : S1032x512.Idx) := by
  refine funext fun a => Fin.ext ?_
  match a with
  | 0 => show 8 + 1 * (r : ℕ) = 8 + r; omega
  | 1 => show 0 + 1 * (c : ℕ) = c; omega

theorem emb_lo (r : Fin 8) (c : Fin 512) : (Rect.unit (s := S1032x512) ![0, 0] ![8, 512] inb_S1032x512_S8x512_0_0).emb (ix2 r c) = (ix2 ⟨r, by omega⟩ c : S1032x512.Idx) := by
  refine funext fun a => Fin.ext ?_
  match a with
  | 0 => show 0 + 1 * (r : ℕ) = r; omega
  | 1 => show 0 + 1 * (c : ℕ) = c; omega

theorem canon_hi (P : FVec Ideal S1024x512 .f32) (L : List Pc) (r : Fin 1024) (c : Fin 512) (k : Fin 1032) (hk : (k : ℕ) = 8 + r) :
    View.canon (Val := Elt Ideal) (e := .f32) (⟨Rect.unit (s := S1032x512) ![8, 0] ![1024, 512] inb_S1032x512_S1024x512_8_0, P⟩ :: L) (ix2 k c) = P (ix2 r c) := by
  have e : k = ⟨8 + r, by omega⟩ := Fin.ext hk
  rw [e, ← emb_hi]
  exact View.canon_cons_emb _ _ _ _

theorem canon_lo (P : FVec Ideal S1024x512 .f32) (Z : FVec Ideal S8x512 .f32) (L : List Pc) (r : Fin 8) (c : Fin 512) (k : Fin 1032) (hk : (k : ℕ) = r) :
    View.canon (Val := Elt Ideal) (e := .f32) (⟨Rect.unit (s := S1032x512) ![8, 0] ![1024, 512] inb_S1032x512_S1024x512_8_0, P⟩ ::
      ⟨Rect.unit (s := S1032x512) ![0, 0] ![8, 512] inb_S1032x512_S8x512_0_0, Z⟩ :: L) (ix2 k c) = Z (ix2 r c) := by
  have e : k = ⟨r, by omega⟩ := Fin.ext hk
  rw [e, View.canon_cons_of_not_mem _ _ (by rw [set_hi]; show ¬ 8 ≤ (r : ℕ); omega), ← emb_lo]
  exact View.canon_cons_emb _ _ _ _

theorem canon_z (Z : FVec Ideal S8x512 .f32) (L : List Pc) (r : Fin 8) (c : Fin 512) (k : Fin 1032) (hk : (k : ℕ) = r) :
    View.canon (Val := Elt Ideal) (e := .f32) (⟨Rect.unit (s := S1032x512) ![0, 0] ![8, 512] inb_S1032x512_S8x512_0_0, Z⟩ :: L) (ix2 k c) = Z (ix2 r c) := by
  have e : k = ⟨r, by omega⟩ := Fin.ext hk
  rw [e, ← emb_lo]
  exact View.canon_cons_emb _ _ _ _

theorem read_hi (v : View sig .tc .vmem S1032x512 .f32) (f : BufTy.Contents (Elt Ideal) v.ty) (P : FVec Ideal S1024x512 .f32)
    (r : Fin 1024) (c : Fin 512) (k : Fin 1032) (hk : (k : ℕ) = 8 + r) :
    v.read (Elt Ideal) (v.writes (Elt Ideal) f [⟨Rect.unit (s := S1032x512) ![8, 0] ![1024, 512] inb_S1032x512_S1024x512_8_0, P⟩]) (ix2 k c) = P (ix2 r c) :=
  View.read_writes_cons_rows_of_mem (o := 8) v f inb_S1032x512_S1024x512_8_0 P [] (ix2 k c) (ix2 r c) rfl hk rfl

theorem read_lo (v : View sig .tc .vmem S1032x512 .f32) (f : BufTy.Contents (Elt Ideal) v.ty) (P : FVec Ideal S1024x512 .f32)
    (k : Fin 1032) (c : Fin 512) (hk : (k : ℕ) < 8) :
    v.read (Elt Ideal) (v.writes (Elt Ideal) f [⟨Rect.unit (s := S1032x512) ![8, 0] ![1024, 512] inb_S1032x512_S1024x512_8_0, P⟩]) (ix2 k c) = v.read (Elt Ideal) f (ix2 k c) :=
  (View.read_writes_cons_rows_of_not_mem (o := 8) (W := 1024) v f inb_S1032x512_S1024x512_8_0 P [] (ix2 k c) rfl rfl (Or.inl hk)).trans rfl

/-- The halo a scratch holds before its rows 8 and on are written. -/
def halo (X : FVec Ideal S1032x512 .f32) (r : ℕ) (c : Fin 512) : EReal := if h : r < 1032 then X (ix2 ⟨r, h⟩ c) else 0

theorem cov_zero (v : View sig .tc .vmem S1032x512 .f32) (P : FVec Ideal S1024x512 .f32) (Z : FVec Ideal S8x512 .f32) (hZ : ∀ r c, Z (ix2 r c) = 0)
    (o : ℕ) (inb : ∀ a, ![o, 0] a + (![1024, 512] : Fin 2 → ℕ) a ≤ S1032x512.size a) (r : Fin 1024) (c : Fin 512) :
    (v.readCov (Val := Elt Ideal) [⟨Rect.unit (s := S1032x512) ![8, 0] ![1024, 512] inb_S1032x512_S1024x512_8_0, P⟩, ⟨Rect.unit (s := S1032x512) ![0, 0] ![8, 512] inb_S1032x512_S8x512_0_0, Z⟩]
      (Rect.unit (s := S1032x512) ![o, 0] ![1024, 512] inb).toLoadRect (ix2 r c) : EReal) = cat (fun _ _ => 0) P (o + r) c := by
  have ho : o + 1024 ≤ 1032 := inb 0
  rw [View.readCov_eq_canon']
  have e : (Rect.unit (s := S1032x512) ![o, 0] ![1024, 512] inb).toLoadRect.idx (ix2 r c) = ix2 ⟨o + r, by omega⟩ c := by
    refine funext fun a => Fin.ext ?_
    match a with
    | 0 => show o + 1 * (r : ℕ) = o + r; omega
    | 1 => show 0 + 1 * (c : ℕ) = c; omega
  show View.canon _ ((Rect.unit (s := S1032x512) ![o, 0] ![1024, 512] inb).toLoadRect.idx (ix2 r c)) = _
  rw [e]
  unfold cat
  by_cases h : 8 ≤ o + (r : ℕ)
  · rw [dif_pos ⟨h, by omega⟩]
    exact canon_hi P _ ⟨o + r - 8, by omega⟩ c _ (by show o + (r : ℕ) = 8 + (o + r - 8); omega)
  · rw [dif_neg (fun h' => h h'.1)]
    exact (canon_lo P Z [] ⟨o + r, by omega⟩ c _ rfl).trans (hZ _ _)

theorem cov_hi (v : View sig .tc .vmem S1032x512 .f32) (P : FVec Ideal S1024x512 .f32) (L : List Pc) (H : ℕ → Fin 512 → EReal)
    (r : Fin 1024) (c : Fin 512) :
    (v.readCov (Val := Elt Ideal) (⟨Rect.unit (s := S1032x512) ![8, 0] ![1024, 512] inb_S1032x512_S1024x512_8_0, P⟩ :: L)
      (Rect.unit (s := S1032x512) ![8, 0] ![1024, 512] inb_S1032x512_S1024x512_8_0).toLoadRect (ix2 r c) : EReal) = cat H P (8 + r) c := by
  rw [View.readCov_eq_canon']
  show View.canon _ ((Rect.unit (s := S1032x512) ![8, 0] ![1024, 512] inb_S1032x512_S1024x512_8_0).emb (ix2 r c)) = _
  rw [emb_hi]
  unfold cat
  rw [dif_pos ⟨by omega, by omega⟩]
  exact (canon_hi P _ r c _ rfl).trans (congrArg (fun k => P (ix2 k c)) (Fin.ext (by show (r : ℕ) = 8 + r - 8; omega)))

theorem cov_tail (v : View sig .tc .vmem S1032x512 .f32) (P : FVec Ideal S1024x512 .f32) (L : List Pc) (r : Fin 8) (c : Fin 512) :
    (v.readCov (Val := Elt Ideal) (⟨Rect.unit (s := S1032x512) ![8, 0] ![1024, 512] inb_S1032x512_S1024x512_8_0, P⟩ :: L)
      (Rect.unit (s := S1032x512) ![1024, 0] ![8, 512] inb_S1032x512_S8x512_1024_0).toLoadRect (ix2 r c) : EReal) = P (ix2 ⟨1016 + r, by omega⟩ c) := by
  rw [View.readCov_eq_canon']
  have e : (Rect.unit (s := S1032x512) ![1024, 0] ![8, 512] inb_S1032x512_S8x512_1024_0).toLoadRect.idx (ix2 r c) = ix2 ⟨1024 + r, by omega⟩ c := by
    refine funext fun a => Fin.ext ?_
    match a with
    | 0 => show 1024 + 1 * (r : ℕ) = 1024 + r; omega
    | 1 => show 0 + 1 * (c : ℕ) = c; omega
  show View.canon _ ((Rect.unit (s := S1032x512) ![1024, 0] ![8, 512] inb_S1032x512_S8x512_1024_0).toLoadRect.idx (ix2 r c)) = _
  rw [e]
  exact canon_hi P _ _ c _ (by show 1024 + (r : ℕ) = 8 + (1016 + r); omega)

theorem ld_read (v : View sig .tc .vmem S1032x512 .f32) (f : BufTy.Contents (Elt Ideal) v.ty) (X : FVec Ideal S1032x512 .f32) (hX : v.read (Elt Ideal) f = X)
    (P : FVec Ideal S1024x512 .f32)
    (o : ℕ) (inb : ∀ a, ![o, 0] a + (![1024, 512] : Fin 2 → ℕ) a ≤ S1032x512.size a) (r : Fin 1024) (c : Fin 512) :
    (View.ld (Val := Elt Ideal) (e' := .f32) (v.read (Elt Ideal) (v.writes (Elt Ideal) f [⟨Rect.unit (s := S1032x512) ![8, 0] ![1024, 512] inb_S1032x512_S1024x512_8_0, P⟩]))
      (Rect.unit (s := S1032x512) ![o, 0] ![1024, 512] inb) (ix2 r c) : EReal) = cat (halo X) P (o + r) c := by
  have ho : o + 1024 ≤ 1032 := inb 0
  have e : (Rect.unit (s := S1032x512) ![o, 0] ![1024, 512] inb).idx (ix2 r c) = ix2 ⟨o + r, by omega⟩ c := by
    refine funext fun a => Fin.ext ?_
    match a with
    | 0 => show o + 1 * (r : ℕ) = o + r; omega
    | 1 => show 0 + 1 * (c : ℕ) = c; omega
  rw [View.ld_apply, e]
  unfold cat
  by_cases h : 8 ≤ o + (r : ℕ)
  · rw [dif_pos ⟨h, by omega⟩]
    exact read_hi v f P ⟨o + r - 8, by omega⟩ c _ (by show o + (r : ℕ) = 8 + (o + r - 8); omega)
  · rw [dif_neg (fun h' => h h'.1), halo, dif_pos (by omega)]
    exact (read_lo v f P _ c (by show o + (r : ℕ) < 8; omega)).trans (congrFun hX _)

theorem ld_row (X : FVec Ideal S8x512 .f32) (o : ℕ) (ho : o < 8) (inb : ∀ a, ![o, 0] a + (![1, 512] : Fin 2 → ℕ) a ≤ S8x512.size a) (c : Fin 512) :
    (View.ld (Val := Elt Ideal) (e' := .f32) X (Rect.unit (s := S8x512) ![o, 0] ![1, 512] inb) (ix2 0 c) : EReal) = X (ix2 ⟨o, ho⟩ c) := by
  refine congrArg X (funext fun a => Fin.ext ?_)
  match a with
  | 0 => show o + 1 * 0 = o; omega
  | 1 => show 0 + 1 * (c : ℕ) = c; omega

theorem ld_col (X : FVec Ideal S1024x128 .f32) (r : Fin 1024) :
    (View.ld (Val := Elt Ideal) (e' := .f32) X (Rect.unit (s := S1024x128) ![0, 0] ![1024, 1] inb_S1024x128_S1024x1_0_0) (ix2 r 0) : EReal) = X (ix2 r 0) := by
  refine congrArg X (funext fun a => Fin.ext ?_)
  match a with
  | 0 => show 0 + 1 * (r : ℕ) = r; omega
  | 1 => show 0 + 1 * 0 = 0; omega

theorem pay2_eq (Z : FVec Ideal S8x512 .f32) : k0_pay2 (F := Ideal) Z = Z := by
  unfold k0_pay2; funext y; pointwise
theorem pay3_eq (Z : FVec Ideal S8x512 .f32) : k0_pay3 (F := Ideal) Z = Z := by
  unfold k0_pay3; funext y; pointwise
theorem pay5_at (r : Fin 8) (c : Fin 512) : (k0_pay5 (F := Ideal) (ix2 r c) : EReal) = 0 := by
  unfold k0_pay5; pointwise
theorem pay6_at (r : Fin 8) (c : Fin 512) : (k0_pay6 (F := Ideal) (ix2 r c) : EReal) = 0 := by
  unfold k0_pay6; pointwise

variable (m : (ℓ : Loc nD τ sig) → Buf (Elt Ideal) ℓ)

/-- The gate's product at a point. -/
def Pg (c : Dev nD) (t : Fin cfg0.N) : FVec Ideal S1024x512 .f32 :=
  k0_pay8 (F := Ideal) (iblk m c 0 t) (View.ld (Val := Elt Ideal) (e' := .f32) (iblk m c 1 t) (Rect.unit (s := S1024x128) ![0, 0] ![1024, 1] inb_S1024x128_S1024x1_0_0)) (iblk m c 2 t)
/-- The other product at a point. -/
def Pu (c : Dev nD) (t : Fin cfg0.N) : FVec Ideal S1024x512 .f32 :=
  k0_pay10 (F := Ideal) (iblk m c 0 t) (k0_pay7 (View.ld (Val := Elt Ideal) (e' := .f32) (iblk m c 1 t) (Rect.unit (s := S1024x128) ![0, 0] ![1024, 1] inb_S1024x128_S1024x1_0_0)))
    (k0_pay9 (iblk m c 3 t)) (constant S1024x512 FTy.f32 0#32)

theorem scrA0 (c : Dev nD) (t : Fin cfg0.N) (h0 : t.val % 16 = 0) (r : Fin 8) (l : Fin 512) :
    ((outsAt0 m c t.val t.isLt).2.2.1 (ix2 ⟨r, by omega⟩ l) : EReal) = Pg m c t (ix2 ⟨1016 + r, by omega⟩ l) := by
  rw [outsAt0_A m c t h0]
  unfold sout0_A_0
  frame_out
  refine (canon_z _ _ r l _ rfl).trans ?_
  rw [pay2_eq]
  exact cov_tail _ _ _ r l
theorem scrA1 (c : Dev nD) (t : Fin cfg0.N) (h0 : t.val % 16 = 0) (r : Fin 8) (l : Fin 512) :
    ((outsAt0 m c t.val t.isLt).2.2.2 (ix2 ⟨r, by omega⟩ l) : EReal) = Pu m c t (ix2 ⟨1016 + r, by omega⟩ l) := by
  rw [outsAt0_A m c t h0]
  unfold sout0_A_1
  frame_out
  refine (canon_z _ _ r l _ rfl).trans ?_
  rw [pay3_eq]
  exact cov_tail _ _ _ r l
theorem scrB0 (c : Dev nD) (t : Fin cfg0.N) (h0 : ¬ t.val % 16 = 0) (r : Fin 8) (l : Fin 512) :
    ((outsAt0 m c t.val t.isLt).2.2.1 (ix2 ⟨r, by omega⟩ l) : EReal) = Pg m c t (ix2 ⟨1016 + r, by omega⟩ l) := by
  rw [outsAt0_B m c t h0]
  unfold sout0_B_0
  frame_out
  refine (canon_z _ _ r l _ rfl).trans ?_
  rw [pay2_eq]
  exact cov_tail _ _ _ r l
theorem scrB1 (c : Dev nD) (t : Fin cfg0.N) (h0 : ¬ t.val % 16 = 0) (r : Fin 8) (l : Fin 512) :
    ((outsAt0 m c t.val t.isLt).2.2.2 (ix2 ⟨r, by omega⟩ l) : EReal) = Pu m c t (ix2 ⟨1016 + r, by omega⟩ l) := by
  rw [outsAt0_B m c t h0]
  unfold sout0_B_1
  frame_out
  refine (canon_z _ _ r l _ rfl).trans ?_
  rw [pay3_eq]
  exact cov_tail _ _ _ r l

theorem outA9 (c : Dev nD) (t : Fin cfg0.N) (h0 : t.val % 16 = 0) (r : Fin 1024) (l : Fin 512) :
    ((outsAt0 m c t.val t.isLt).1 (ix2 r l) : EReal)
      = glu (tap (iblk m c 4 t) (iblk m c 6 t) (cat (fun _ _ => 0) (Pg m c t)) r l) (tap (iblk m c 5 t) (iblk m c 7 t) (cat (fun _ _ => 0) (Pu m c t)) r l) := by
  rw [outsAt0_A m c t h0]
  unfold out0_A_9
  frame_out
  refine (pay1_at _ _ _ _ _ _ _ _ _ _ _ _ _ _ r l).trans ?_
  refine congrArg₂ glu ?_ ?_
  · unfold tap
    exact congrArg₂ (· + ·) (congrArg₂ (· + ·) (congrArg₂ (· + ·)
      (congrArg₂ (· * ·) (ld_row _ 0 (by decide) _ l) (cov_zero _ _ _ pay5_at 6 _ r l))
      (congrArg₂ (· * ·) (ld_row _ 1 (by decide) _ l) (cov_zero _ _ _ pay5_at 7 _ r l)))
      (congrArg₂ (· * ·) (ld_row _ 2 (by decide) _ l) (cov_zero _ _ _ pay5_at 8 _ r l))) rfl
  · unfold tap
    exact congrArg₂ (· + ·) (congrArg₂ (· + ·) (congrArg₂ (· + ·)
      (congrArg₂ (· * ·) (ld_row _ 0 (by decide) _ l) (cov_zero _ _ _ pay6_at 6 _ r l))
      (congrArg₂ (· * ·) (ld_row _ 1 (by decide) _ l) (cov_zero _ _ _ pay6_at 7 _ r l)))
      (congrArg₂ (· * ·) (ld_row _ 2 (by decide) _ l) (cov_zero _ _ _ pay6_at 8 _ r l))) rfl

theorem ld_s0 (X : FVec Ideal S1032x512 .f32) (P : FVec Ideal S1024x512 .f32)
    (o : ℕ) (inb : ∀ a, ![o, 0] a + (![1024, 512] : Fin 2 → ℕ) a ≤ S1032x512.size a) (r : Fin 1024) (c : Fin 512) :
    (View.ld (Val := Elt Ideal) (e' := .f32) (View.read (Elt Ideal) (View.whole cc0_scratch0) ((View.whole cc0_scratch0).writes (Elt Ideal) ((Memref.isWhole_whole cc0_scratch0).unread X)
      [⟨Rect.unit (s := S1032x512) ![8, 0] ![1024, 512] inb_S1032x512_S1024x512_8_0, P⟩]))
      (Rect.unit (s := S1032x512) ![o, 0] ![1024, 512] inb) (ix2 r c) : EReal) = cat (halo X) P (o + r) c :=
  ld_read (Memref.whole cc0_scratch0).view _ X (Memref.IsWhole.read_unread (Val := Elt Ideal) (Memref.isWhole_whole cc0_scratch0) _) P o inb r c

theorem ld_s1 (X : FVec Ideal S1032x512 .f32) (P : FVec Ideal S1024x512 .f32)
    (o : ℕ) (inb : ∀ a, ![o, 0] a + (![1024, 512] : Fin 2 → ℕ) a ≤ S1032x512.size a) (r : Fin 1024) (c : Fin 512) :
    (View.ld (Val := Elt Ideal) (e' := .f32) (View.read (Elt Ideal) (View.whole cc0_scratch1) ((View.whole cc0_scratch1).writes (Elt Ideal) ((Memref.isWhole_whole cc0_scratch1).unread X)
      [⟨Rect.unit (s := S1032x512) ![8, 0] ![1024, 512] inb_S1032x512_S1024x512_8_0, P⟩]))
      (Rect.unit (s := S1032x512) ![o, 0] ![1024, 512] inb) (ix2 r c) : EReal) = cat (halo X) P (o + r) c :=
  ld_read (Memref.whole cc0_scratch1).view _ X (Memref.IsWhole.read_unread (Val := Elt Ideal) (Memref.isWhole_whole cc0_scratch1) _) P o inb r c

theorem outB9 (c : Dev nD) (t : Fin cfg0.N) (h0 : ¬ t.val % 16 = 0) (r : Fin 1024) (l : Fin 512) :
    ((outsAt0 m c t.val t.isLt).1 (ix2 r l) : EReal)
      = glu (tap (iblk m c 4 t) (iblk m c 6 t) (cat (halo (outsAt0 m c (t.val - 1) (by omega)).2.2.1) (Pg m c t)) r l)
          (tap (iblk m c 5 t) (iblk m c 7 t) (cat (halo (outsAt0 m c (t.val - 1) (by omega)).2.2.2) (Pu m c t)) r l) := by
  rw [outsAt0_B m c t h0]
  generalize outsAt0 m c (t.val - 1) _ = prev
  unfold out0_B_9
  frame_out
  refine (pay1_at _ _ _ _ _ _ _ _ _ _ _ _ _ _ r l).trans ?_
  refine congrArg₂ glu ?_ ?_
  · unfold tap
    exact congrArg₂ (· + ·) (congrArg₂ (· + ·) (congrArg₂ (· + ·)
      (congrArg₂ (· * ·) (ld_row _ 0 (by decide) _ l) (ld_s0 prev.2.2.1 (Pg m c t) 6 inb_S1032x512_S1024x512_6_0 r l))
      (congrArg₂ (· * ·) (ld_row _ 1 (by decide) _ l) (ld_s0 prev.2.2.1 (Pg m c t) 7 inb_S1032x512_S1024x512_7_0 r l)))
      (congrArg₂ (· * ·) (ld_row _ 2 (by decide) _ l) (cov_hi _ _ _ _ r l))) rfl
  · unfold tap
    exact congrArg₂ (· + ·) (congrArg₂ (· + ·) (congrArg₂ (· + ·)
      (congrArg₂ (· * ·) (ld_row _ 0 (by decide) _ l) (ld_s1 prev.2.2.2 (Pu m c t) 6 inb_S1032x512_S1024x512_6_0 r l))
      (congrArg₂ (· * ·) (ld_row _ 1 (by decide) _ l) (ld_s1 prev.2.2.2 (Pu m c t) 7 inb_S1032x512_S1024x512_7_0 r l)))
      (congrArg₂ (· * ·) (ld_row _ 2 (by decide) _ l) (cov_hi _ _ _ _ r l))) rfl

theorem out10 (c : Dev nD) (t : Fin cfg0.N) : (outsAt0 m c t.val t.isLt).2.1 = k0_pay4 (grid0.coords t) (iblk m c 8 t) := by
  by_cases h0 : t.val % 16 = 0
  · rw [outsAt0_A m c t h0]
    unfold out0_A_10
    frame_out
  · rw [outsAt0_B m c t h0]
    unfold out0_B_10
    frame_out

theorem coords0 : ∀ t : Fin cfg0.N, ((grid0.coords t 0 : Fin _) : ℕ) = t / 16 ∧ ((grid0.coords t 1 : Fin _) : ℕ) = t % 16 :=
  (by decide +kernel : ∀ t : Fin grid0.N, _)

theorem slt_at : ∀ t : Fin 352, Scalar.cmpi .slt (Scalar.addi (Scalar.muli (BitVec.ofNat 32 (t / 16)) 16#32) (BitVec.ofNat 32 (t % 16))) 344#32 = (if (t : ℕ) < 344 then 1#1 else 0#1) := by
  decide +kernel

theorem pay4_at (t : Fin cfg0.N) (X : FVec Ideal S1x32x4096 .f32) (r : Fin 32) (l : Fin 4096) :
    (k0_pay4 (F := Ideal) (grid0.coords t) X (ix2 r l) : EReal) = if t.val < 344 then X (ix3 0 r l) else 0 := by
  unfold k0_pay4
  rw [(coords0 t).1, (coords0 t).2]
  rw [slt_at ⟨t, lt_of_lt_of_eq t.isLt N_0⟩]
  by_cases h : t.val < 344
  · simp only [if_pos h]
    pointwise
  · simp only [if_neg h]
    pointwise
end Cert.FfnInIdeal.Ffn
end
-- ==== Proof.FfnArr.lean ====
/- The arrays the feed-forward input kernel leaves. -/
module

public import proofs.«01_k».proof.Proof.FfnBody

@[expose] public section
set_option maxRecDepth 16384
noncomputable section
open Idealize.ShloMosaic Idealize.ShloMosaic.TcCoe Idealize.SL.Sem
open Idealize.ShloMosaic.Pipeline (Dat)
namespace Cert.FfnInIdeal.Ffn
open Cert.FfnInIdeal Cert.FfnInIdeal.Gen

theorem idx0 : ∀ t : Fin cfg0.N, win0_0.index t = ![t.val % 16, 0] := (by decide +kernel : ∀ t : Fin grid0.N, _)
theorem idx1 : ∀ t : Fin cfg0.N, win0_1.index t = ![t.val % 16, 0] := (by decide +kernel : ∀ t : Fin grid0.N, _)
theorem idx2 : ∀ t : Fin cfg0.N, win0_2.index t = ![0, 0, t.val / 16] := (by decide +kernel : ∀ t : Fin grid0.N, _)
theorem idx3 : ∀ t : Fin cfg0.N, win0_3.index t = ![0, 0, t.val / 16 + 22] := (by decide +kernel : ∀ t : Fin grid0.N, _)
theorem idx4 : ∀ t : Fin cfg0.N, win0_4.index t = ![0, t.val / 16] := (by decide +kernel : ∀ t : Fin grid0.N, _)
theorem idx5 : ∀ t : Fin cfg0.N, win0_5.index t = ![0, t.val / 16 + 22] := (by decide +kernel : ∀ t : Fin grid0.N, _)
theorem idx6 : ∀ t : Fin cfg0.N, win0_6.index t = ![0, t.val / 16] := (by decide +kernel : ∀ t : Fin grid0.N, _)
theorem idx7 : ∀ t : Fin cfg0.N, win0_7.index t = ![0, t.val / 16 + 22] := (by decide +kernel : ∀ t : Fin grid0.N, _)
theorem idx8 : ∀ t : Fin cfg0.N, win0_8.index t = ![0, min t.val 343, 0] := (by decide +kernel : ∀ t : Fin grid0.N, _)
theorem idx9 : ∀ t : Fin cfg0.N, win0_9.index t = ![t.val % 16, t.val / 16] := (by decide +kernel : ∀ t : Fin grid0.N, _)
theorem idx10 : ∀ t : Fin cfg0.N, win0_10.index t = ![t.val, 0] := (by decide +kernel : ∀ t : Fin grid0.N, _)

theorem tlt (t : Fin cfg0.N) : t.val < 352 := lt_of_lt_of_eq t.isLt N_0

variable (m : (ℓ : Loc nD τ sig) → Buf (Elt Ideal) ℓ)

theorem b0 (c : Dev nD) (t : Fin cfg0.N) (a : Fin 1024) (b : Fin 4096) :
    (iblk m c 0 t : FVec Ideal S1024x4096 .bf16) (ix2 a b) = (V m c main_arg0 : FVec Ideal S16384x4096 .bf16) (ix2 ⟨1024 * (t.val % 16) + a, by have := tlt t; omega⟩ b) := by
  have ht := tlt t
  blk_ext [iblk, idx0 t]
theorem b1 (c : Dev nD) (t : Fin cfg0.N) (a : Fin 1024) (b : Fin 128) :
    (iblk m c 1 t : FVec Ideal S1024x128 .f32) (ix2 a b) = (V m c main_arg1 : FVec Ideal S16384x128 .f32) (ix2 ⟨1024 * (t.val % 16) + a, by have := tlt t; omega⟩ b) := by
  have ht := tlt t
  blk_ext [iblk, idx1 t]
theorem b2 (c : Dev nD) (t : Fin cfg0.N) (a : Fin 4096) (b : Fin 512) :
    (iblk m c 2 t : FVec Ideal S1x4096x512 .bf16) (ix3 0 a b) = (V m c main_arg2 : FVec Ideal S4x4096x22528 .bf16) (ix3 0 a ⟨512 * (t.val / 16) + b, by have := tlt t; omega⟩) := by
  have ht := tlt t
  blk_ext [iblk, idx2 t]
theorem b3 (c : Dev nD) (t : Fin cfg0.N) (a : Fin 4096) (b : Fin 512) :
    (iblk m c 3 t : FVec Ideal S1x4096x512 .bf16) (ix3 0 a b) = (V m c main_arg2 : FVec Ideal S4x4096x22528 .bf16) (ix3 0 a ⟨11264 + (512 * (t.val / 16) + b), by have := tlt t; omega⟩) := by
  have ht := tlt t
  blk_ext [iblk, idx3 t]
theorem b4 (c : Dev nD) (t : Fin cfg0.N) (a : Fin 8) (b : Fin 512) :
    (iblk m c 4 t : FVec Ideal S8x512 .f32) (ix2 a b) = (V m c main_v6 : FVec Ideal S8x22528 .f32) (ix2 a ⟨512 * (t.val / 16) + b, by have := tlt t; omega⟩) := by
  have ht := tlt t
  blk_ext [iblk, idx4 t]
theorem b5 (c : Dev nD) (t : Fin cfg0.N) (a : Fin 8) (b : Fin 512) :
    (iblk m c 5 t : FVec Ideal S8x512 .f32) (ix2 a b) = (V m c main_v6 : FVec Ideal S8x22528 .f32) (ix2 a ⟨11264 + (512 * (t.val / 16) + b), by have := tlt t; omega⟩) := by
  have ht := tlt t
  blk_ext [iblk, idx5 t]
theorem b6 (c : Dev nD) (t : Fin cfg0.N) (b : Fin 512) :
    (iblk m c 6 t : FVec Ideal S1x512 .f32) (ix2 0 b) = (V m c main_v7 : FVec Ideal S1x22528 .f32) (ix2 0 ⟨512 * (t.val / 16) + b, by have := tlt t; omega⟩) := by
  have ht := tlt t
  blk_ext [iblk, idx6 t]
theorem b7 (c : Dev nD) (t : Fin cfg0.N) (b : Fin 512) :
    (iblk m c 7 t : FVec Ideal S1x512 .f32) (ix2 0 b) = (V m c main_v7 : FVec Ideal S1x22528 .f32) (ix2 0 ⟨11264 + (512 * (t.val / 16) + b), by have := tlt t; omega⟩) := by
  have ht := tlt t
  blk_ext [iblk, idx7 t]
theorem b8 (c : Dev nD) (t : Fin cfg0.N) (a : Fin 32) (b : Fin 4096) :
    (iblk m c 8 t : FVec Ideal S1x32x4096 .f32) (ix3 0 a b) = (V m c main_arg5 : FVec Ideal S4x11008x4096 .f32) (ix3 0 ⟨32 * min t.val 343 + a, by omega⟩ b) := by
  have ht := tlt t
  blk_ext [iblk, idx8 t]

end Cert.FfnInIdeal.Ffn
end
-- ==== Proof.FfnHost.lean ====
/- The values the host prepares. -/
module

public import proofs.«01_k».proof.Proof.FfnArr

@[expose] public section
set_option maxRecDepth 16384
noncomputable section
open Idealize.ShloMosaic Idealize.ShloMosaic.TcCoe Idealize.SL.Sem
open Idealize.ShloMosaic.Pipeline (Dat)
namespace Cert.FfnInIdeal.Ffn
open Cert.FfnInIdeal Cert.FfnInIdeal.Gen
variable (m : (ℓ : Loc nD τ sig) → Buf (Elt Ideal) ℓ)

/-- The arguments, as the run finds them. -/
def A0 (c : Dev nD) : FVec Ideal S16384x4096 .bf16 := V m c main_arg0
def A1 (c : Dev nD) : FVec Ideal S16384x128 .f32 := V m c main_arg1
def A2 (c : Dev nD) : FVec Ideal S4x4096x22528 .bf16 := V m c main_arg2
def A3 (c : Dev nD) : FVec Ideal S3x22016 .f32 := m ((c.tc : Thread nD τ).loc main_arg3)
def A4 (c : Dev nD) : FVec Ideal S22016 .f32 := m ((c.tc : Thread nD τ).loc main_arg4)
def A5 (c : Dev nD) : FVec Ideal S4x11008x4096 .f32 := V m c main_arg5

/-- The weights the host prepares: each half of the columns padded by zeros, rows past the third zero. -/
def cwAt (W : FVec Ideal S3x22016 .f32) (k : Fin 3) (L : Fin 22528) : EReal :=
  if h : L.val % 11264 < 11008 then W (ix2 k ⟨L.val / 11264 * 11008 + L.val % 11264, by omega⟩) else 0
/-- The biases the host prepares. -/
def cbAt (B : FVec Ideal S22016 .f32) (L : Fin 22528) : EReal :=
  if h : L.val % 11264 < 11008 then B (ix1 ⟨L.val / 11264 * 11008 + L.val % 11264, by omega⟩) else 0

theorem i2f_zero : (FloatOps.sitofp (F := Ideal) FTy.f32 0#32 : EReal) = 0 := by
  show ((((0#32 : BitVec 32).toInt : ℝ) : EReal)) = 0
  simp

theorem host_w (X : FVec Ideal S3x22016 .f32) (v : FVec Ideal S_ .f32) (hv : (v (Shape.Idx.first h_S_) : EReal) = 0) (k : Fin 8) (k' : Fin 3) (hk : k.val = k'.val) (L : Fin 22528) :
    (pad S8x22528 ![0, 0] ![5, 0] ![0, 0] (shapeCast S3x22528 (pad S3x2x11264 ![0, 0, 0] ![0, 0, 256] ![0, 0, 0] (shapeCast S3x2x11008 X shapeCasts_S3x22016_S3x2x11008) v
        pads_S3x2x11008_S3x2x11264_000_000_02560 h_S_) shapeCasts_S3x2x11264_S3x22528) v pads_S3x22528_S8x22528_050_000 h_S_ (ix2 k L) : EReal) = cwAt X k' L := by
  obtain ⟨k, hk8⟩ := k
  replace hk : k = k'.val := hk
  subst hk
  pointwise
  unfold cwAt
  by_cases h : L.val % 11264 < 11008
  · have h2 : L.val / 11264 < 2 ∧ L.val % 11264 < 11008 := ⟨by omega, h⟩
    rw [dif_pos h2, dif_pos h]
  · rw [dif_neg (fun h' => h h'.2), dif_neg h]
    exact hv

theorem v6_at (c : Dev nD) (k : Fin 8) (k' : Fin 3) (hk : k.val = k'.val) (L : Fin 22528) :
    ((V m c main_v6 : FVec Ideal S8x22528 .f32) (ix2 k L) : EReal) = cwAt (A3 m c) k' L := by
  show (StableHlo.after hostOps0_6 (StableHlo.after hostOps0_5 (StableHlo.after hostOps0_4 (StableHlo.after hostOps0_3 (StableHlo.after hostOps0_2 (StableHlo.after hostOps0_1 (StableHlo.after hostOps0 (fun b => m (c, b)))))))) main_v6 : FVec Ideal S8x22528 .f32) (ix2 k L) = _
  entry_read
  simp only [StableHlo.TRef.toBuf, StableHlo.TRef.ofBuf, cast_eq]
  exact host_w _ _ i2f_zero k k' hk L

theorem host_b (X : FVec Ideal S22016 .f32) (v : FVec Ideal S_ .f32) (hv : (v (Shape.Idx.first h_S_) : EReal) = 0) (k : Fin 1) (L : Fin 22528) :
    (shapeCast S1x22528 (shapeCast S22528 (pad S2x11264 ![0, 0] ![0, 256] ![0, 0] (shapeCast S2x11008 X shapeCasts_S22016_S2x11008) v pads_S2x11008_S2x11264_000_02560 h_S_) shapeCasts_S2x11264_S22528)
      shapeCasts_S22528_S1x22528 (ix2 k L) : EReal) = cbAt X L := by
  rw [shapeCast_comp]
  pointwise
  unfold cbAt
  by_cases h : L.val % 11264 < 11008
  · rw [dif_pos ⟨by omega, h⟩, dif_pos h]
  · rw [dif_neg (fun h' => h h'.2), dif_neg h]
    exact hv

theorem v7_at (c : Dev nD) (k : Fin 1) (L : Fin 22528) :
    ((V m c main_v7 : FVec Ideal S1x22528 .f32) (ix2 k L) : EReal) = cbAt (A4 m c) L := by
  show (StableHlo.after hostOps0_6 (StableHlo.after hostOps0_5 (StableHlo.after hostOps0_4 (StableHlo.after hostOps0_3 (StableHlo.after hostOps0_2 (StableHlo.after hostOps0_1 (StableHlo.after hostOps0 (fun b => m (c, b)))))))) main_v7 : FVec Ideal S1x22528 .f32) (ix2 k L) = _
  entry_read
  simp only [StableHlo.TRef.toBuf, StableHlo.TRef.ofBuf, cast_eq]
  exact host_b _ _ i2f_zero k L

end Cert.FfnInIdeal.Ffn
end
-- ==== Proof.FfnZp.lean ====
/- The scaled products at a point, as entries of one product. -/
module

public import proofs.«01_k».proof.Proof.FfnHost

@[expose] public section
set_option maxRecDepth 16384
noncomputable section
open Idealize.ShloMosaic Idealize.ShloMosaic.TcCoe Idealize.SL.Sem
open Idealize.ShloMosaic.Pipeline (Dat)
namespace Cert.FfnInIdeal.Ffn
open Cert.FfnInIdeal Cert.FfnInIdeal.Gen
variable (m : (ℓ : Loc nD τ sig) → Buf (Elt Ideal) ℓ)

/-- One entry of the scaled product, zero before the first row (rows counted from 8). -/
def zp (U : FVec Ideal S16384x4096 .bf16) (S : FVec Ideal S16384x128 .f32) (W : FVec Ideal S4x4096x22528 .bf16) (Q : ℕ) (L : Fin 22528) : EReal :=
  if h : 8 ≤ Q ∧ Q < 16392 then
    (∑ k : Fin 4096, U (ix2 ⟨Q - 8, by omega⟩ k) * W (ix3 0 k L)) * Ideal.rsqrt (S (ix2 ⟨Q - 8, by omega⟩ 0) * Ideal.ofBits .f32 0x39800000#32 + Ideal.ofBits .f32 0x358637BD#32)
  else 0

theorem zp_hi (U : FVec Ideal S16384x4096 .bf16) (S : FVec Ideal S16384x128 .f32) (W : FVec Ideal S4x4096x22528 .bf16) (Q : ℕ) (L : Fin 22528) (R : Fin 16384) (h : Q = R + 8) :
    zp U S W Q L = (∑ k : Fin 4096, U (ix2 R k) * W (ix3 0 k L)) * Ideal.rsqrt (S (ix2 R 0) * Ideal.ofBits .f32 0x39800000#32 + Ideal.ofBits .f32 0x358637BD#32) := by
  subst h
  unfold zp
  rw [dif_pos ⟨by omega, by omega⟩]
  rfl

theorem b0' (c : Dev nD) (t : Fin cfg0.N) (a : Fin 1024) (b : Fin 4096) :
    (iblk m c 0 t : FVec Ideal S1024x4096 .bf16) (ix2 a b) = A0 m c (ix2 ⟨1024 * (t.val % 16) + a, by have := tlt t; omega⟩ b) := b0 m c t a b
theorem b1' (c : Dev nD) (t : Fin cfg0.N) (a : Fin 1024) (b : Fin 128) :
    (iblk m c 1 t : FVec Ideal S1024x128 .f32) (ix2 a b) = A1 m c (ix2 ⟨1024 * (t.val % 16) + a, by have := tlt t; omega⟩ b) := b1 m c t a b
theorem b2' (c : Dev nD) (t : Fin cfg0.N) (a : Fin 4096) (b : Fin 512) :
    (iblk m c 2 t : FVec Ideal S1x4096x512 .bf16) (ix3 0 a b) = A2 m c (ix3 0 a ⟨512 * (t.val / 16) + b, by have := tlt t; omega⟩) := b2 m c t a b
theorem b3' (c : Dev nD) (t : Fin cfg0.N) (a : Fin 4096) (b : Fin 512) :
    (iblk m c 3 t : FVec Ideal S1x4096x512 .bf16) (ix3 0 a b) = A2 m c (ix3 0 a ⟨11264 + (512 * (t.val / 16) + b), by have := tlt t; omega⟩) := b3 m c t a b

theorem Pg_at (c : Dev nD) (t : Fin cfg0.N) (r : Fin 1024) (l : Fin 512) :
    (Pg m c t (ix2 r l) : EReal) = zp (A0 m c) (A1 m c) (A2 m c) (1024 * (t.val % 16) + r + 8) ⟨512 * (t.val / 16) + l, by have := tlt t; omega⟩ := by
  have ht := tlt t
  rw [zp_hi _ _ _ _ _ ⟨1024 * (t.val % 16) + r, by omega⟩ rfl]
  refine (pay8_at _ _ _ r l).trans ?_
  refine congrArg₂ (fun a b : EReal => a * Ideal.rsqrt (b * Ideal.ofBits .f32 0x39800000#32 + Ideal.ofBits .f32 0x358637BD#32)) ?_ ?_
  · exact Finset.sum_congr rfl fun k _ => congrArg₂ (fun a b : EReal => a * b) (b0' m c t r k) (b2' m c t k l)
  · exact (ld_col _ r).trans (b1' m c t r 0)

theorem Pu_at (c : Dev nD) (t : Fin cfg0.N) (r : Fin 1024) (l : Fin 512) :
    (Pu m c t (ix2 r l) : EReal) = zp (A0 m c) (A1 m c) (A2 m c) (1024 * (t.val % 16) + r + 8) ⟨11264 + (512 * (t.val / 16) + l), by have := tlt t; omega⟩ := by
  have ht := tlt t
  rw [zp_hi _ _ _ _ _ ⟨1024 * (t.val % 16) + r, by omega⟩ rfl]
  refine (pay10_at _ _ _ r l).trans ?_
  refine congrArg₂ (fun a b : EReal => a * Ideal.rsqrt (b * Ideal.ofBits .f32 0x39800000#32 + Ideal.ofBits .f32 0x358637BD#32)) ?_ ?_
  · exact Finset.sum_congr rfl fun k _ => congrArg₂ (fun a b : EReal => a * b) (b0' m c t r k) (b3' m c t k l)
  · exact (ld_col _ r).trans (b1' m c t r 0)

end Cert.FfnInIdeal.Ffn
end
-- ==== Proof.FfnCat.lean ====
/- A point's rows with the halo before them, as entries of one product. -/
module

public import proofs.«01_k».proof.Proof.FfnZp

@[expose] public section
set_option maxRecDepth 16384
noncomputable section
open Idealize.ShloMosaic Idealize.ShloMosaic.TcCoe Idealize.SL.Sem
open Idealize.ShloMosaic.Pipeline (Dat)
namespace Cert.FfnInIdeal.Ffn
open Cert.FfnInIdeal Cert.FfnInIdeal.Gen
variable (m : (ℓ : Loc nD τ sig) → Buf (Elt Ideal) ℓ)

theorem scr0 (c : Dev nD) (t : Fin cfg0.N) (r : Fin 8) (l : Fin 512) :
    ((outsAt0 m c t.val t.isLt).2.2.1 (ix2 ⟨r, by omega⟩ l) : EReal) = Pg m c t (ix2 ⟨1016 + r, by omega⟩ l) := by
  by_cases h0 : t.val % 16 = 0
  · exact scrA0 m c t h0 r l
  · exact scrB0 m c t h0 r l
theorem scr1 (c : Dev nD) (t : Fin cfg0.N) (r : Fin 8) (l : Fin 512) :
    ((outsAt0 m c t.val t.isLt).2.2.2 (ix2 ⟨r, by omega⟩ l) : EReal) = Pu m c t (ix2 ⟨1016 + r, by omega⟩ l) := by
  by_cases h0 : t.val % 16 = 0
  · exact scrA1 m c t h0 r l
  · exact scrB1 m c t h0 r l

theorem catA_g (c : Dev nD) (t : Fin cfg0.N) (h0 : t.val % 16 = 0) (q : ℕ) (hq : q < 1032) (l : Fin 512) :
    cat (fun _ _ => 0) (Pg m c t) q l = zp (A0 m c) (A1 m c) (A2 m c) (1024 * (t.val % 16) + q) ⟨512 * (t.val / 16) + l, by have := tlt t; omega⟩ := by
  unfold cat
  by_cases h : 8 ≤ q
  · rw [dif_pos ⟨h, hq⟩, Pg_at]
    exact congrArg (fun n => zp _ _ _ n _) (by simp only []; omega)
  · rw [dif_neg (fun h' => h h'.1), zp, dif_neg (by omega)]
theorem catA_u (c : Dev nD) (t : Fin cfg0.N) (h0 : t.val % 16 = 0) (q : ℕ) (hq : q < 1032) (l : Fin 512) :
    cat (fun _ _ => 0) (Pu m c t) q l = zp (A0 m c) (A1 m c) (A2 m c) (1024 * (t.val % 16) + q) ⟨11264 + (512 * (t.val / 16) + l), by have := tlt t; omega⟩ := by
  unfold cat
  by_cases h : 8 ≤ q
  · rw [dif_pos ⟨h, hq⟩, Pu_at]
    exact congrArg (fun n => zp _ _ _ n _) (by simp only []; omega)
  · rw [dif_neg (fun h' => h h'.1), zp, dif_neg (by omega)]

theorem catB_g (c : Dev nD) (t : Fin cfg0.N) (h0 : ¬ t.val % 16 = 0) (q : ℕ) (hq : q < 1032) (l : Fin 512) :
    cat (halo (outsAt0 m c (t.val - 1) (by omega)).2.2.1) (Pg m c t) q l
      = zp (A0 m c) (A1 m c) (A2 m c) (1024 * (t.val % 16) + q) ⟨512 * (t.val / 16) + l, by have := tlt t; omega⟩ := by
  unfold cat
  by_cases h : 8 ≤ q
  · rw [dif_pos ⟨h, hq⟩, Pg_at]
    exact congrArg (fun n => zp _ _ _ n _) (by simp only []; omega)
  · rw [dif_neg (fun h' => h h'.1), halo, dif_pos hq]
    refine (scr0 m c ⟨t.val - 1, by omega⟩ ⟨q, by omega⟩ l).trans ?_
    rw [Pg_at]
    exact congrArg₂ (zp _ _ _) (by simp only []; omega) (Fin.ext (by simp only []; omega))
theorem catB_u (c : Dev nD) (t : Fin cfg0.N) (h0 : ¬ t.val % 16 = 0) (q : ℕ) (hq : q < 1032) (l : Fin 512) :
    cat (halo (outsAt0 m c (t.val - 1) (by omega)).2.2.2) (Pu m c t) q l
      = zp (A0 m c) (A1 m c) (A2 m c) (1024 * (t.val % 16) + q) ⟨11264 + (512 * (t.val / 16) + l), by have := tlt t; omega⟩ := by
  unfold cat
  by_cases h : 8 ≤ q
  · rw [dif_pos ⟨h, hq⟩, Pu_at]
    exact congrArg (fun n => zp _ _ _ n _) (by simp only []; omega)
  · rw [dif_neg (fun h' => h h'.1), halo, dif_pos hq]
    refine (scr1 m c ⟨t.val - 1, by omega⟩ ⟨q, by omega⟩ l).trans ?_
    rw [Pu_at]
    exact congrArg₂ (zp _ _ _) (by simp only []; omega) (Fin.ext (by simp only []; omega))

end Cert.FfnInIdeal.Ffn
end
-- ==== Proof.FfnOut.lean ====
/- A point's first output block. -/
module

public import proofs.«01_k».proof.Proof.FfnCat

@[expose] public section
set_option maxRecDepth 16384
noncomputable section
open Idealize.ShloMosaic Idealize.ShloMosaic.TcCoe Idealize.SL.Sem
open Idealize.ShloMosaic.Pipeline (Dat)
namespace Cert.FfnInIdeal.Ffn
open Cert.FfnInIdeal Cert.FfnInIdeal.Gen
variable (m : (ℓ : Loc nD τ sig) → Buf (Elt Ideal) ℓ)

/-- The causal convolution of a column of the product. -/
def cv (U : FVec Ideal S16384x4096 .bf16) (S : FVec Ideal S16384x128 .f32) (W : FVec Ideal S4x4096x22528 .bf16) (CW : FVec Ideal S3x22016 .f32) (CB : FVec Ideal S22016 .f32)
    (R : ℕ) (L : Fin 22528) : EReal :=
  cwAt CW 0 L * zp U S W (R + 6) L + cwAt CW 1 L * zp U S W (R + 7) L + cwAt CW 2 L * zp U S W (R + 8) L + cbAt CB L

/-- The first result. -/
def gluArr (U : FVec Ideal S16384x4096 .bf16) (S : FVec Ideal S16384x128 .f32) (W : FVec Ideal S4x4096x22528 .bf16) (CW : FVec Ideal S3x22016 .f32) (CB : FVec Ideal S22016 .f32)
    (R : Fin 16384) (l : Fin 11264) : EReal :=
  glu (cv U S W CW CB R ⟨l, by omega⟩) (cv U S W CW CB R ⟨11264 + l, by omega⟩)

theorem out9 (c : Dev nD) (t : Fin cfg0.N) (r : Fin 1024) (l : Fin 512) :
    ((outsAt0 m c t.val t.isLt).1 (ix2 r l) : EReal)
      = gluArr (A0 m c) (A1 m c) (A2 m c) (A3 m c) (A4 m c)
          ⟨1024 * (t.val % 16) + r, by omega⟩ ⟨512 * (t.val / 16) + l, by have := tlt t; omega⟩ := by
  have ht := tlt t
  have key : ∀ (Hg Hu : ℕ → Fin 512 → EReal),
      (∀ q < 1032, cat Hg (Pg m c t) q l = zp (A0 m c) (A1 m c) (A2 m c) (1024 * (t.val % 16) + q) ⟨512 * (t.val / 16) + l, by omega⟩) →
      (∀ q < 1032, cat Hu (Pu m c t) q l = zp (A0 m c) (A1 m c) (A2 m c) (1024 * (t.val % 16) + q) ⟨11264 + (512 * (t.val / 16) + l), by omega⟩) →
      glu (tap (iblk m c 4 t) (iblk m c 6 t) (cat Hg (Pg m c t)) r l) (tap (iblk m c 5 t) (iblk m c 7 t) (cat Hu (Pu m c t)) r l)
        = gluArr (A0 m c) (A1 m c) (A2 m c) (A3 m c) (A4 m c)
          ⟨1024 * (t.val % 16) + r, by omega⟩ ⟨512 * (t.val / 16) + l, by omega⟩ := by
    intro Hg Hu hg hu
    unfold gluArr tap cv
    rw [hg _ (by omega), hg _ (by omega), hg _ (by omega), hu _ (by omega), hu _ (by omega), hu _ (by omega)]
    rw [b4, b4, b4, b5, b5, b5, b6, b7, v7_at, v7_at]
    rw [v6_at m c 0 0 rfl, v6_at m c 1 1 rfl, v6_at m c 2 2 rfl, v6_at m c 0 0 rfl, v6_at m c 1 1 rfl, v6_at m c 2 2 rfl]
    have e : ∀ k, 1024 * (t.val % 16) + (k + (r : ℕ)) = 1024 * (t.val % 16) + r + k := fun k => by omega
    simp only [e]
  by_cases h0 : t.val % 16 = 0
  · exact (outA9 m c t h0 r l).trans (key _ _ (fun q hq => catA_g m c t h0 q hq l) (fun q hq => catA_u m c t h0 q hq l))
  · exact (outB9 m c t h0 r l).trans (key _ _ (fun q hq => catB_g m c t h0 q hq l) (fun q hq => catB_u m c t h0 q hq l))

end Cert.FfnInIdeal.Ffn
end
-- ==== Proof.FfnCov.lean ====
/- The arrays the feed-forward input kernel leaves, whole. -/
module

public import proofs.«01_k».proof.Proof.FfnOut

@[expose] public section
set_option maxRecDepth 16384
noncomputable section
open Idealize.ShloMosaic Idealize.ShloMosaic.TcCoe Idealize.SL.Sem
open Idealize.ShloMosaic.Pipeline (Dat)
namespace Cert.FfnInIdeal.Ffn
open Cert.FfnInIdeal Cert.FfnInIdeal.Gen
variable (m : (ℓ : Loc nD τ sig) → Buf (Elt Ideal) ℓ)

theorem arr9 (c : Dev nD) (r : Fin 16384) (l : Fin 11264) :
    ((dats m 0 c).arrAt 9 cfg0.N : FVec Ideal S16384x11264 .bf16) (ix2 r l)
      = gluArr (A0 m c) (A1 m c) (A2 m c) (A3 m c) (A4 m c) r l := by
  refine congrFun ((dats m 0 c).arrAt_eq_of_covers 9 (fun y : S16384x11264.Idx => gluArr (A0 m c) (A1 m c) (A2 m c) (A3 m c) (A4 m c) (y 0) (y 1))
    (by decide +kernel) fun t hf y => ?_) (ix2 r l)
  rw [after0_9]
  have ht := tlt t
  obtain ⟨a, b, rfl⟩ : ∃ (a : Fin 1024) (b : Fin 512), y = ix2 a b := ⟨y 0, y 1, eq_ix2 (n0 := 1024) (n1 := 512) y⟩
  refine (out9 m c t a b).trans ?_
  refine congrArg₂ (gluArr (A0 m c) (A1 m c) (A2 m c) (A3 m c) (A4 m c)) (Fin.ext ?_) (Fin.ext ?_)
  · blk_simp [idx9 t]
    show 1024 * (t.val % 16) + (a : ℕ) = t.val % 16 * 1024 + (a : ℕ)
    omega
  · blk_simp [idx9 t]
    show 512 * (t.val / 16) + (b : ℕ) = t.val / 16 * 512 + (b : ℕ)
    omega

/-- The second result: the output weights, zero past the last row. -/
def woutArr (X : FVec Ideal S4x11008x4096 .f32) (r : Fin 11264) (l : Fin 4096) : EReal :=
  if h : r.val < 11008 then X (ix3 0 ⟨r, h⟩ l) else 0

theorem arr10 (c : Dev nD) (r : Fin 11264) (l : Fin 4096) :
    ((dats m 0 c).arrAt 10 cfg0.N : FVec Ideal S11264x4096 .bf16) (ix2 r l) = woutArr (A5 m c) r l := by
  refine congrFun ((dats m 0 c).arrAt_eq_of_covers 10 (fun y : S11264x4096.Idx => woutArr (A5 m c) (y 0) (y 1)) (by decide +kernel) fun t hf y => ?_) (ix2 r l)
  rw [after0_10, out10]
  have ht := tlt t
  obtain ⟨a, b, rfl⟩ : ∃ (a : Fin 32) (b : Fin 4096), y = ix2 a b := ⟨y 0, y 1, eq_ix2 (n0 := 32) (n1 := 4096) y⟩
  have e : (if t.val < 344 then (iblk m c 8 t : FVec Ideal S1x32x4096 .f32) (ix3 0 a b) else (0 : EReal)) = woutArr (A5 m c) ⟨32 * t.val + a, by omega⟩ b := by
    unfold woutArr
    by_cases h : t.val < 344
    · rw [if_pos h, dif_pos (by show 32 * t.val + (a : ℕ) < 11008; omega), b8]
      refine congrArg (A5 m c) (congrArg (fun k => ix3 0 k b) (Fin.ext ?_))
      show 32 * min t.val 343 + (a : ℕ) = 32 * t.val + a
      omega
    · rw [if_neg h, dif_neg (by show ¬ 32 * t.val + (a : ℕ) < 11008; omega)]
  refine ((pay4_at t _ a b).trans e).trans ?_
  refine congrArg₂ (woutArr (A5 m c)) (Fin.ext ?_) (Fin.ext ?_)
  · blk_simp [idx10 t]
    show 32 * t.val + (a : ℕ) = t.val * 32 + (a : ℕ)
    omega
  · blk_simp [idx10 t]

end Cert.FfnInIdeal.Ffn
end
-- ==== Proof.FfnRef.lean ====
/- The feed-forward input reference's entries. -/
module

public import proofs.«01_k».proof.Proof.Gen.FfnInRefIdeal.Run
public import proofs.«01_k».proof.Proof.Gen.FfnInRefIdeal.Read
public import Idealize.ShloMosaic.Lib.Pointwise
public import proofs.«01_k».proof.Proof.FfnCov
public import Idealize.ShloMosaic.Lib.KernelVsHost

@[expose] public section
set_option maxRecDepth 16384
noncomputable section
open Idealize.ShloMosaic Idealize.ShloMosaic.TcCoe Idealize.SL.Sem
namespace Cert.FfnInRefIdeal.Ffn
open Cert.FfnInIdeal.Ffn (zp cwAt cbAt cv glu gluArr woutArr i2f_zero zp_hi)
open Cert.FfnInRefIdeal Cert.FfnInRefIdeal.Gen Cert.FfnInRefIdeal.Read

abbrev T0 := (⟨S16384x4096, .bf16⟩ : BufTy).Contents (Elt Ideal)
abbrev T1 := (⟨S16384x128, .f32⟩ : BufTy).Contents (Elt Ideal)
abbrev T2 := (⟨S4x4096x22528, .bf16⟩ : BufTy).Contents (Elt Ideal)
abbrev T3 := (⟨S3x22016, .f32⟩ : BufTy).Contents (Elt Ideal)
abbrev T4 := (⟨S22016, .f32⟩ : BufTy).Contents (Elt Ideal)
abbrev T5 := (⟨S4x11008x4096, .f32⟩ : BufTy).Contents (Elt Ideal)

theorem bits_4096 : (Ideal.ofBits .f32 0x45800000#32 : EReal) = ((4096 : ℝ) : EReal) := by
  simp [Ideal.ofBits, Ideal.ieee]; rw [← EReal.coe_mul]; norm_num
theorem bits_4096' : (Ideal.ofBits .f32 0x39800000#32 : EReal) = (((4096 : ℝ)⁻¹ : ℝ) : EReal) := by
  simp [Ideal.ofBits, Ideal.ieee]; rw [← EReal.coe_mul]; norm_num
theorem bits_eps : ∃ e : ℝ, 0 < e ∧ (Ideal.ofBits .f32 0x358637BD#32 : EReal) = (e : EReal) := by
  refine ⟨_, ?_, by simp [Ideal.ofBits, Ideal.ieee]; rw [← EReal.coe_mul]⟩
  norm_num
theorem div_eq (a : EReal) : Ideal.div a (Ideal.ofBits .f32 0x45800000#32) = a * Ideal.ofBits .f32 0x39800000#32 := by
  rw [bits_4096, bits_4096', Ideal.div_coe (by norm_num), one_div]

/-- The scale of a row is a real number, not negative. -/
theorem scale_real (a : EReal) (ha : 0 ≤ a) :
    ∃ c : ℝ, 0 ≤ c ∧ Ideal.rsqrt (a * Ideal.ofBits .f32 0x39800000#32 + Ideal.ofBits .f32 0x358637BD#32) = (c : EReal) := by
  obtain ⟨e, he, hb⟩ := bits_eps
  rw [hb, bits_4096']
  induction a with
  | bot => exact absurd ha (by simp)
  | top =>
    refine ⟨0, le_rfl, ?_⟩
    rw [EReal.top_mul_coe_of_pos (by norm_num), EReal.top_add_coe]
    simp
  | coe r =>
    have hr : (0 : ℝ) ≤ r := by exact_mod_cast ha
    have hp : 0 < r * (4096 : ℝ)⁻¹ + e := by positivity
    rw [← EReal.coe_mul, ← EReal.coe_add, Ideal.rsqrt_coe]
    refine ⟨(Real.sqrt (r * (4096 : ℝ)⁻¹ + e))⁻¹, by positivity, ?_⟩
    simp [hp, not_lt.mpr hp.le, hp.ne']

theorem sum_mul_real (s : Finset (Fin 4096)) (f : Fin 4096 → EReal) (c : ℝ) (hc : 0 ≤ c) :
    (∑ n ∈ s, f n) * (c : EReal) = ∑ n ∈ s, f n * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

theorem logistic_eq (x : EReal) : Ideal.div 1 (1 + Ideal.exp (-x)) = Ideal.logistic x := rfl

theorem r8 (x0 : T0) (x1 : T1) (R : Fin 16384) (k : Fin 4096) :
    (val_main_v8 (F := Ideal) x0 x1 (ix2 R k) : EReal)
      = x0 (ix2 R k) * Ideal.rsqrt (Ideal.div (x1 (ix2 R 0)) (Ideal.ofBits .f32 0x45800000#32) + Ideal.ofBits .f32 0x358637BD#32) := by
  pointwise [val_main_v8, val_main_v0, val_main_v7, val_main_v6, val_main_v5, val_main_v4, val_main_v3, val_main_v2, val_main_v1]
  rfl
theorem r12 (x2 : T2) (k : Fin 4096) (l : Fin 11008) :
    (val_main_v12 (F := Ideal) x2 (ix2 k l) : EReal) = x2 (ix3 0 k ⟨l, by omega⟩) := by
  pointwise [val_main_v12, val_main_v11, val_main_v10, val_main_v9]
theorem r40 (x2 : T2) (k : Fin 4096) (l : Fin 11008) :
    (val_main_v40 (F := Ideal) x2 (ix2 k l) : EReal) = x2 (ix3 0 k ⟨11264 + l, by omega⟩) := by
  pointwise [val_main_v40, val_main_v11, val_main_v10, val_main_v9]

theorem prod_eq (x0 : T0) (x1 : T1) (x2 : T2) (h : ∀ R : Fin 16384, (0 : EReal) ≤ x1 (ix2 R 0)) (R : Fin 16384) (L : Fin 22528) (Q : ℕ) (hQ : Q = R + 8) :
    (∑ k : Fin 4096, (val_main_v8 (F := Ideal) x0 x1 (ix2 R k) : EReal) * x2 (ix3 0 k L)) = zp x0 x1 x2 Q L := by
  rw [zp_hi x0 x1 x2 Q L R hQ]
  obtain ⟨c, hc, e⟩ := scale_real (x1 (ix2 R 0)) (h R)
  rw [e]
  refine Eq.trans ?_ (sum_mul_real Finset.univ (fun k => x0 (ix2 R k) * x2 (ix3 0 k L)) c hc).symm
  refine Finset.sum_congr rfl fun k _ => ?_
  rw [r8, div_eq]
  refine (congrArg (fun s : EReal => x0 (ix2 R k) * s * x2 (ix3 0 k L)) e).trans ?_
  exact mul_right_comm _ _ _

theorem r13 (x0 : T0) (x1 : T1) (x2 : T2) (h : ∀ R : Fin 16384, (0 : EReal) ≤ x1 (ix2 R 0)) (R : Fin 16384) (l : Fin 11008) (Q : ℕ) (hQ : Q = R + 8) :
    (val_main_v13 (F := Ideal) x0 x1 x2 (ix2 R l) : EReal) = zp x0 x1 x2 Q ⟨l, by omega⟩ := by
  rw [← prod_eq x0 x1 x2 h R ⟨l, by omega⟩ Q hQ, val_main_v13_apply]
  exact Finset.sum_congr rfl fun k _ => congrArg₂ (fun a b : EReal => a * b) (congrArg (val_main_v8 (F := Ideal) x0 x1) (by funext a; fin_cases a <;> rfl))
    ((congrArg (val_main_v12 (F := Ideal) x2) (by funext a; fin_cases a <;> rfl)).trans (r12 x2 k l))
theorem r41 (x0 : T0) (x1 : T1) (x2 : T2) (h : ∀ R : Fin 16384, (0 : EReal) ≤ x1 (ix2 R 0)) (R : Fin 16384) (l : Fin 11008) (Q : ℕ) (hQ : Q = R + 8) :
    (val_main_v41 (F := Ideal) x0 x1 x2 (ix2 R l) : EReal) = zp x0 x1 x2 Q ⟨11264 + l, by omega⟩ := by
  rw [← prod_eq x0 x1 x2 h R ⟨11264 + l, by omega⟩ Q hQ, val_main_v41_apply]
  exact Finset.sum_congr rfl fun k _ => congrArg₂ (fun a b : EReal => a * b) (congrArg (val_main_v8 (F := Ideal) x0 x1) (by funext a; fin_cases a <;> rfl))
    ((congrArg (val_main_v40 (F := Ideal) x2) (by funext a; fin_cases a <;> rfl)).trans (r40 x2 k l))

theorem r16 (x0 : T0) (x1 : T1) (x2 : T2) (h : ∀ R : Fin 16384, (0 : EReal) ≤ x1 (ix2 R 0)) (Q : Fin 16386) (l : Fin 11008) :
    (val_main_v16 (F := Ideal) x0 x1 x2 (ix2 Q l) : EReal) = zp x0 x1 x2 (Q + 6) ⟨l, by omega⟩ := by
  have e := fun R Q hQ => r13 x0 x1 x2 h R l Q hQ
  unfold val_main_v16
  generalize val_main_v13 (F := Ideal) x0 x1 x2 = y at e ⊢
  pointwise [val_main_call0_v0]
  by_cases hq : 2 ≤ Q.val
  · have hq' : 2 ≤ Q.val ∧ Q.val - 2 < 16384 := ⟨hq, by omega⟩
    rw [dif_pos hq']
    exact e ⟨Q.val - 2, hq'.2⟩ (Q + 6) (by show Q.val + 6 = Q.val - 2 + 8; omega)
  · rw [dif_neg (fun h' => hq h'.1), zp, dif_neg (by omega)]
    exact i2f_zero
theorem r44 (x0 : T0) (x1 : T1) (x2 : T2) (h : ∀ R : Fin 16384, (0 : EReal) ≤ x1 (ix2 R 0)) (Q : Fin 16386) (l : Fin 11008) :
    (val_main_v44 (F := Ideal) x0 x1 x2 (ix2 Q l) : EReal) = zp x0 x1 x2 (Q + 6) ⟨11264 + l, by omega⟩ := by
  have e := fun R Q hQ => r41 x0 x1 x2 h R l Q hQ
  unfold val_main_v44
  generalize val_main_v41 (F := Ideal) x0 x1 x2 = y at e ⊢
  pointwise [val_main_call1_v0]
  by_cases hq : 2 ≤ Q.val
  · have hq' : 2 ≤ Q.val ∧ Q.val - 2 < 16384 := ⟨hq, by omega⟩
    rw [dif_pos hq']
    exact e ⟨Q.val - 2, hq'.2⟩ (Q + 6) (by show Q.val + 6 = Q.val - 2 + 8; omega)
  · rw [dif_neg (fun h' => hq h'.1), zp, dif_neg (by omega)]
    exact i2f_zero

theorem cw_lo (W : T3) (k : Fin 3) (l : Fin 11008) : cwAt W k ⟨l, by omega⟩ = W (ix2 k ⟨l, by omega⟩) := by
  have hl := l.isLt
  unfold cwAt
  rw [dif_pos (show l.val % 11264 < 11008 by omega)]
  exact congrArg (fun j => W (ix2 k j)) (Fin.ext (by show l.val / 11264 * 11008 + l.val % 11264 = l.val; omega))
theorem cw_hi (W : T3) (k : Fin 3) (l : Fin 11008) : cwAt W k ⟨11264 + l, by omega⟩ = W (ix2 k ⟨11008 + l, by omega⟩) := by
  have hl := l.isLt
  unfold cwAt
  rw [dif_pos (show (11264 + l.val) % 11264 < 11008 by omega)]
  exact congrArg (fun j => W (ix2 k j)) (Fin.ext (by show (11264 + l.val) / 11264 * 11008 + (11264 + l.val) % 11264 = 11008 + l.val; omega))
theorem cb_lo (B : T4) (l : Fin 11008) : cbAt B ⟨l, by omega⟩ = B (ix1 ⟨l, by omega⟩) := by
  have hl := l.isLt
  unfold cbAt
  rw [dif_pos (show l.val % 11264 < 11008 by omega)]
  exact congrArg (fun j => B (ix1 j)) (Fin.ext (by show l.val / 11264 * 11008 + l.val % 11264 = l.val; omega))
theorem cb_hi (B : T4) (l : Fin 11008) : cbAt B ⟨11264 + l, by omega⟩ = B (ix1 ⟨11008 + l, by omega⟩) := by
  have hl := l.isLt
  unfold cbAt
  rw [dif_pos (show (11264 + l.val) % 11264 < 11008 by omega)]
  exact congrArg (fun j => B (ix1 j)) (Fin.ext (by show (11264 + l.val) / 11264 * 11008 + (11264 + l.val) % 11264 = 11008 + l.val; omega))

theorem conv_congr {a b c d a' b' c' d' p q r p' q' r' : EReal} (ha : a = a') (hb : b = b') (hc : c = c') (hd : d = d') (hp : p = p') (hq : q = q') (hr : r = r') :
    a * p + b * q + c * r + d = a' * p' + b' * q' + c' * r' + d' := by
  subst ha hb hc hd hp hq hr
  rfl

theorem r39 (x0 : T0) (x1 : T1) (x2 : T2) (x3 : T3) (x4 : T4) (h : ∀ R : Fin 16384, (0 : EReal) ≤ x1 (ix2 R 0)) (R : Fin 16384) (l : Fin 11008) :
    (val_main_v39 (F := Ideal) x0 x1 x2 x3 x4 (ix2 R l) : EReal) = cv x0 x1 x2 x3 x4 R ⟨l, by omega⟩ := by
  have e := fun Q => r16 x0 x1 x2 h Q l
  simp only [val_main_v39, val_main_v36, val_main_v29, val_main_v22, val_main_v28, val_main_v35, val_main_v19, val_main_v25, val_main_v32]
  generalize val_main_v16 (F := Ideal) x0 x1 x2 = y at e ⊢
  pointwise [val_main_v38, val_main_v37, val_main_v15, val_main_v34, val_main_v33, val_main_v31, val_main_v30, val_main_v27, val_main_v26, val_main_v24, val_main_v23, val_main_v21, val_main_v20, val_main_v18, val_main_v17, val_main_v14]
  unfold cv
  exact conv_congr (cw_lo x3 0 l).symm (cw_lo x3 1 l).symm (cw_lo x3 2 l).symm (cb_lo x4 l).symm (e ⟨R, by omega⟩)
    ((e ⟨1 + R, by omega⟩).trans (congrArg (fun n => zp x0 x1 x2 n _) (by show 1 + R.val + 6 = R.val + 7; omega)))
    ((e ⟨2 + R, by omega⟩).trans (congrArg (fun n => zp x0 x1 x2 n _) (by show 2 + R.val + 6 = R.val + 8; omega)))
theorem r67 (x0 : T0) (x1 : T1) (x2 : T2) (x3 : T3) (x4 : T4) (h : ∀ R : Fin 16384, (0 : EReal) ≤ x1 (ix2 R 0)) (R : Fin 16384) (l : Fin 11008) :
    (val_main_v67 (F := Ideal) x0 x1 x2 x3 x4 (ix2 R l) : EReal) = cv x0 x1 x2 x3 x4 R ⟨11264 + l, by omega⟩ := by
  have e := fun Q => r44 x0 x1 x2 h Q l
  simp only [val_main_v67, val_main_v64, val_main_v57, val_main_v50, val_main_v56, val_main_v63, val_main_v47, val_main_v53, val_main_v60]
  generalize val_main_v44 (F := Ideal) x0 x1 x2 = y at e ⊢
  pointwise [val_main_v66, val_main_v65, val_main_v43, val_main_v62, val_main_v61, val_main_v59, val_main_v58, val_main_v55, val_main_v54, val_main_v52, val_main_v51, val_main_v49, val_main_v48, val_main_v46, val_main_v45, val_main_v42]
  unfold cv
  exact conv_congr (cw_hi x3 0 l).symm (cw_hi x3 1 l).symm (cw_hi x3 2 l).symm (cb_hi x4 l).symm (e ⟨R, by omega⟩)
    ((e ⟨1 + R, by omega⟩).trans (congrArg (fun n => zp x0 x1 x2 n _) (by show 1 + R.val + 6 = R.val + 7; omega)))
    ((e ⟨2 + R, by omega⟩).trans (congrArg (fun n => zp x0 x1 x2 n _) (by show 2 + R.val + 6 = R.val + 8; omega)))

theorem r70 (x0 : T0) (x1 : T1) (x2 : T2) (x3 : T3) (x4 : T4) (h : ∀ R : Fin 16384, (0 : EReal) ≤ x1 (ix2 R 0)) (R : Fin 16384) (l : Fin 11008) :
    (val_main_v70 (F := Ideal) x0 x1 x2 x3 x4 (ix2 R l) : EReal) = gluArr x0 x1 x2 x3 x4 R ⟨l, by omega⟩ := by
  have e := r39 x0 x1 x2 x3 x4 h R l
  have e' := r67 x0 x1 x2 x3 x4 h R l
  simp only [val_main_v70, val_main_v69, val_main_v68, val_main_call2_v5, val_main_call2_v3, val_main_call2_v1, val_main_call2_v0]
  generalize val_main_v39 (F := Ideal) x0 x1 x2 x3 x4 = y at e ⊢
  generalize val_main_v67 (F := Ideal) x0 x1 x2 x3 x4 = z at e' ⊢
  pointwise [val_main_call2_v2, val_main_call2_v4, val_main_call2_cst, val_main_call2_cst_0]
  rw [e, e']
  unfold gluArr glu
  exact congrArg (fun s : EReal => cv x0 x1 x2 x3 x4 R ⟨l, by omega⟩ * s * cv x0 x1 x2 x3 x4 R ⟨11264 + l, by omega⟩) (logistic_eq _)

theorem cv_pad (x0 : T0) (x1 : T1) (x2 : T2) (x3 : T3) (x4 : T4) (R : ℕ) (L : Fin 22528) (hL : ¬ L.val % 11264 < 11008) : cv x0 x1 x2 x3 x4 R L = 0 := by
  unfold cv cwAt cbAt
  rw [dif_neg hL, dif_neg hL, dif_neg hL, dif_neg hL]
  simp

/-- The first result's entries. -/
theorem r71 (x0 : T0) (x1 : T1) (x2 : T2) (x3 : T3) (x4 : T4) (h : ∀ R : Fin 16384, (0 : EReal) ≤ x1 (ix2 R 0)) (R : Fin 16384) (l : Fin 11264) :
    (val_main_v71 (F := Ideal) x0 x1 x2 x3 x4 (ix2 R l) : EReal) = gluArr x0 x1 x2 x3 x4 R l := by
  have e := r70 x0 x1 x2 x3 x4 h R
  unfold val_main_v71
  generalize val_main_v70 (F := Ideal) x0 x1 x2 x3 x4 = y at e ⊢
  pointwise [val_main_call3_v0]
  by_cases hl : l.val < 11008
  · rw [dif_pos hl]
    exact e ⟨l.val, hl⟩
  · rw [dif_neg hl]
    unfold gluArr glu
    rw [cv_pad x0 x1 x2 x3 x4 R ⟨l, by omega⟩ (by show ¬ l.val % 11264 < 11008; omega), zero_mul, zero_mul]
    exact i2f_zero

/-- The second result's entries. -/
theorem r75 (x5 : T5) (r : Fin 11264) (l : Fin 4096) : (val_main_v75 (F := Ideal) x5 (ix2 r l) : EReal) = woutArr x5 r l := by
  pointwise [val_main_v75, val_main_v74, val_main_v73, val_main_v72, val_main_call4_v0]
  unfold woutArr
  by_cases hr : r.val < 11008
  · rw [dif_pos hr, dif_pos hr]
  · rw [dif_neg hr, dif_neg hr]
    exact i2f_zero
end Cert.FfnInRefIdeal.Ffn
end
-- ==== Proof.FfnAlg.lean ====
/- The feed-forward input call: the kernel's results are the reference's. -/
module

public import proofs.«01_k».proof.Defs
public import proofs.«01_k».proof.Proof.FfnRef
public import Idealize.ShloMosaic.Adequacy
public import Idealize.ShloMosaic.Init

@[expose] public section
set_option maxRecDepth 16384
noncomputable section
open Idealize.ShloMosaic Idealize.ShloMosaic.TcCoe Idealize.SL.Sem
namespace Cert.Proof.Ffn
open Cert.FfnInRefIdeal.Ffn (T0 T1 T2 T3 T4 T5)

theorem factsPre : Cert.Pre_nonneg.Facts where
  slices_S16384x128_S16384x1_0_0 := by decide
  bcast_S_S16384x1 := by decide

attribute [local instance] factsPre

theorem le_of_cmp (x z : EReal) (hz : z = 0) (h : Ideal.cmp .oge x z = 1#1) : 0 ≤ x := by
  subst hz
  by_contra hn
  revert h
  simp [Ideal.cmp, hn]

theorem nonneg_at (x0 : T0) (x1 : T1) (x2 : T2) (x3 : T3) (x4 : T4) (x5 : T5) (h : Cert.Pre_nonneg.fn (F := Ideal) x0 x1 x2 x3 x4 x5 = (fun _ => 1#1)) (R : Fin 16384) :
    (0 : EReal) ≤ x1 (ix2 R 0) := by
  have e := congrFun h (ix2 R (0 : Fin 1))
  have e2 : Ideal.cmp .oge (extractStridedSlice (s := Cert.Pre_nonneg.S16384x128) Cert.Pre_nonneg.S16384x1 ![0, 0] x1 factsPre.slices_S16384x128_S16384x1_0_0 (ix2 R (0 : Fin 1)))
      (Ideal.ofBits .f32 0x00000000#32) = 1#1 := e
  rw [extractStridedSlice_apply (s := Cert.Pre_nonneg.S16384x128) ![0, 0] x1 factsPre.slices_S16384x128_S16384x1_0_0 _ (ix2 R (0 : Fin 128))
    (by intro a; fin_cases a <;> simp [ix2])] at e2
  exact le_of_cmp _ _ (by simp [Ideal.ofBits, Ideal.ieee]) e2

/-- The reference runs, its arguments end unchanged, and it has no semaphore. -/
theorem frameRef : quiescent_FfnInRefIdeal (hFfnInRefIdeal := Cert.FfnInRefIdeal.Gen.facts) := fun m g _ =>
  (θ_run (Cert.FfnInRefIdeal.defs (F := Ideal)) (onTc (τ := Cert.FfnInRefIdeal.τ) (Cert.FfnInRefIdeal.main (F := Ideal))) _).mono
    (fun r h => And.intro (fun c => (h c).2.2) (sem_eq_zero_of_no_sems (by decide) r.2)) (Cert.FfnInRefIdeal.Value.run m g)

theorem out_eq0 (m : (ℓ : Loc Cert.FfnInIdeal.nD Cert.FfnInIdeal.τ Cert.FfnInIdeal.sig) → Buf (Elt Ideal) ℓ) (h : Pre_FfnInIdeal_nonneg (hPre_nonneg := factsPre) m) (c : Dev Cert.FfnInIdeal.nD) :
    ((Cert.FfnInIdeal.Gen.dats m 0 c).arrAt 9 Cert.FfnInIdeal.cfg0.N : FVec Ideal Cert.FfnInIdeal.S16384x11264 .bf16)
      = Cert.FfnInRefIdeal.Read.val_main_v71 (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)) := by
  refine funext fun (i : (⟨2, ![16384, 11264]⟩ : Shape).Idx) => ?_
  rw [eq_ix2 i]
  refine (Cert.FfnInIdeal.Ffn.arr9 m c (i 0) (i 1)).trans ?_
  refine Eq.trans ?_ (Cert.FfnInRefIdeal.Ffn.r71 _ _ _ _ _ (nonneg_at _ _ _ _ _ _ (h c)) (i 0) (i 1)).symm
  rw [show Cert.FfnInIdeal.Ffn.A0 m c = (m ((c.tc : Thread Cert.FfnInIdeal.nD Cert.FfnInIdeal.τ).loc Cert.FfnInIdeal.main_arg0)) from Cert.FfnInIdeal.Gen.V_main_arg0 m c, show Cert.FfnInIdeal.Ffn.A1 m c = (m ((c.tc : Thread Cert.FfnInIdeal.nD Cert.FfnInIdeal.τ).loc Cert.FfnInIdeal.main_arg1)) from Cert.FfnInIdeal.Gen.V_main_arg1 m c,
    show Cert.FfnInIdeal.Ffn.A2 m c = (m ((c.tc : Thread Cert.FfnInIdeal.nD Cert.FfnInIdeal.τ).loc Cert.FfnInIdeal.main_arg2)) from Cert.FfnInIdeal.Gen.V_main_arg2 m c]
  rfl

theorem out_eq1 (m : (ℓ : Loc Cert.FfnInIdeal.nD Cert.FfnInIdeal.τ Cert.FfnInIdeal.sig) → Buf (Elt Ideal) ℓ) (c : Dev Cert.FfnInIdeal.nD) :
    ((Cert.FfnInIdeal.Gen.dats m 0 c).arrAt 10 Cert.FfnInIdeal.cfg0.N : FVec Ideal Cert.FfnInIdeal.S11264x4096 .bf16)
      = Cert.FfnInRefIdeal.Read.val_main_v75 (F := Ideal) (m ((c.tc : Thread Cert.FfnInIdeal.nD Cert.FfnInIdeal.τ).loc Cert.FfnInIdeal.main_arg5)) := by
  refine funext fun (i : (⟨2, ![11264, 4096]⟩ : Shape).Idx) => ?_
  rw [eq_ix2 i]
  refine (Cert.FfnInIdeal.Ffn.arr10 m c (i 0) (i 1)).trans ?_
  refine Eq.trans ?_ (Cert.FfnInRefIdeal.Ffn.r75 _ (i 0) (i 1)).symm
  rw [show Cert.FfnInIdeal.Ffn.A5 m c = (m ((c.tc : Thread Cert.FfnInIdeal.nD Cert.FfnInIdeal.τ).loc Cert.FfnInIdeal.main_arg5)) from Cert.FfnInIdeal.Gen.V_main_arg5 m c]

theorem algebraic : algebraic_FfnInIdeal_FfnInRefIdeal_pre_nonneg (hFfnInIdeal := Cert.FfnInIdeal.Gen.facts) (hFfnInRefIdeal := Cert.FfnInRefIdeal.Gen.facts) (hPre_nonneg := factsPre) := by
  intro m g m' g' hpre harg
  refine ⟨fun c => Cert.FfnInRefIdeal.Read.val_main_v71 (F := Ideal) (m ((c.tc : Thread Cert.FfnInIdeal.nD Cert.FfnInIdeal.τ).loc Cert.FfnInIdeal.main_arg0)) (m ((c.tc : Thread Cert.FfnInIdeal.nD Cert.FfnInIdeal.τ).loc Cert.FfnInIdeal.main_arg1)) (m ((c.tc : Thread Cert.FfnInIdeal.nD Cert.FfnInIdeal.τ).loc Cert.FfnInIdeal.main_arg2)) (m ((c.tc : Thread Cert.FfnInIdeal.nD Cert.FfnInIdeal.τ).loc Cert.FfnInIdeal.main_arg3)) (m ((c.tc : Thread Cert.FfnInIdeal.nD Cert.FfnInIdeal.τ).loc Cert.FfnInIdeal.main_arg4)),
    fun c => Cert.FfnInRefIdeal.Read.val_main_v75 (F := Ideal) (m ((c.tc : Thread Cert.FfnInIdeal.nD Cert.FfnInIdeal.τ).loc Cert.FfnInIdeal.main_arg5)), ?_, ?_⟩
  · refine (θ_run _ _ _).mono (fun r h c => ?_) (θ_run_and (Cert.FfnInIdeal.Gen.run_main m g) (Cert.FfnInIdeal.Gen.unchanged m g))
    exact ⟨((h.1 c).1 9).trans (out_eq0 m hpre c), ((h.1 c).1 10).trans (out_eq1 m c), h.2 c⟩
  · refine (θ_run _ _ _).mono (fun r h c => ?_) (Cert.FfnInRefIdeal.Value.run m' g')
    obtain ⟨h0, h1, h2, h3, h4, h5⟩ := harg c
    refine ⟨((h c).1).trans ((Cert.FfnInRefIdeal.Read.val_main_v71_eq m' c).trans ?_), ((h c).2.1).trans ((Cert.FfnInRefIdeal.Read.val_main_v75_eq _).trans ?_), (h c).2.2⟩
    · exact congr (congr (congr (congrArg₂ (Cert.FfnInRefIdeal.Read.val_main_v71 (F := Ideal)) h0 h1) h2) h3) h4
    · exact congrArg (Cert.FfnInRefIdeal.Read.val_main_v75 (F := Ideal)) h5

end Cert.Proof.Ffn
end
-- ==== Proof.FoArr.lean ====
/- The feed-forward's output projection: what the kernel leaves. -/
module

public import proofs.«01_k».proof.Proof.Gen.FfnOutIdeal.Frame
public import Idealize.ShloMosaic.Lib.Pipeline.ValueKit
public import Idealize.ShloMosaic.Lib.Pointwise
public import Idealize.ShloMosaic.Lib.WritesUnit

@[expose] public section
set_option maxRecDepth 16384
noncomputable section
open Idealize.ShloMosaic Idealize.ShloMosaic.TcCoe Idealize.SL.Sem
open Idealize.ShloMosaic.Pipeline (Dat)

namespace Cert.FfnOutIdeal.Fo
open Cert.FfnOutIdeal Cert.FfnOutIdeal.Gen

/-- The residual plus the product. -/
@[irreducible] def foAt (X : FVec Ideal S16384x11264 .bf16) (W : FVec Ideal S11264x4096 .bf16) (H : FVec Ideal S16384x4096 .f32) (r : Fin 16384) (l : Fin 4096) : EReal :=
  H (ix2 r l) + ∑ k : Fin 11264, X (ix2 r k) * W (ix2 k l)

/-- The sum of the first terms. -/
@[irreducible] def psum {N : ℕ} (f : Fin N → EReal) (n : ℕ) : EReal := ∑ k ∈ Finset.range n, if h : k < N then f ⟨k, h⟩ else 0

theorem psum_zero {N : ℕ} (f : Fin N → EReal) : psum f 0 = 0 := by unfold psum; simp
theorem psum_full {N : ℕ} (f : Fin N → EReal) : psum f N = ∑ k : Fin N, f k := by
  unfold psum
  rw [Finset.sum_range]
  exact Finset.sum_congr rfl fun k _ => dif_pos k.isLt
theorem psum_add {N : ℕ} (f : Fin N → EReal) (n w : ℕ) (h : n + w ≤ N) : psum f (n + w) = psum f n + ∑ k : Fin w, f ⟨n + k, by omega⟩ := by
  unfold psum
  rw [Finset.sum_range_add, Finset.sum_range (n := w)]
  exact congrArg _ (Finset.sum_congr rfl fun k _ => dif_pos (by omega))

theorem idx0 : ∀ t : Fin cfg0.N, win0_0.index t = ![t.val / 16, t.val % 4] := (by decide +kernel : ∀ t : Fin grid0.N, _)
theorem idx1 : ∀ t : Fin cfg0.N, win0_1.index t = ![t.val % 4, t.val / 4 % 4] := (by decide +kernel : ∀ t : Fin grid0.N, _)
theorem idx2 : ∀ t : Fin cfg0.N, win0_2.index t = ![t.val / 16, t.val / 4 % 4] := (by decide +kernel : ∀ t : Fin grid0.N, _)
theorem idx3 : ∀ t : Fin cfg0.N, win0_3.index t = ![t.val / 16, t.val / 4 % 4] := (by decide +kernel : ∀ t : Fin grid0.N, _)
theorem idx4 : ∀ t : Fin cfg0.N, win0_4.index t = ![t.val / 16, t.val / 4 % 4] := (by decide +kernel : ∀ t : Fin grid0.N, _)
theorem idx5 : ∀ t : Fin cfg0.N, win0_5.index t = ![t.val / 16, 0] := (by decide +kernel : ∀ t : Fin grid0.N, _)
theorem flush3 : ∀ t : Fin cfg0.N, (cfg0.win 3).flush t = true → t.val % 4 = 3 := (by decide +kernel : ∀ t : Fin grid0.N, (cfg0.win 3).flush t = true → _)
theorem flush4 : ∀ t : Fin cfg0.N, (cfg0.win 4).flush t = true → t.val % 4 = 3 := (by decide +kernel : ∀ t : Fin grid0.N, (cfg0.win 4).flush t = true → _)
theorem flush5 : ∀ t : Fin cfg0.N, (cfg0.win 5).flush t = true → t.val % 16 = 15 := (by decide +kernel : ∀ t : Fin grid0.N, (cfg0.win 5).flush t = true → _)
theorem tlt (t : Fin cfg0.N) : t.val < 256 := lt_of_lt_of_eq t.isLt N_0

variable (m : (ℓ : Loc nD τ sig) → Buf (Elt Ideal) ℓ)

def A0 (c : Dev nD) : FVec Ideal S16384x11264 .bf16 := V m c main_arg0
def A1 (c : Dev nD) : FVec Ideal S11264x4096 .bf16 := V m c main_arg1
def A2 (c : Dev nD) : FVec Ideal S16384x4096 .f32 := V m c main_arg2

/-- The sum at an entry. -/
def foM (c : Dev nD) (r : Fin 16384) (l : Fin 4096) : EReal := foAt (A0 m c) (A1 m c) (A2 m c) r l
/-- A term of the product. -/
@[irreducible] def gw (c : Dev nD) (r : Fin 16384) (l : Fin 4096) (k : Fin 11264) : EReal := A0 m c (ix2 r k) * A1 m c (ix2 k l)
/-- The sum so far. -/
@[irreducible] def part (c : Dev nD) (r : Fin 16384) (l : Fin 4096) (n : ℕ) : EReal := A2 m c (ix2 r l) + psum (gw m c r l) n
theorem part_full (c : Dev nD) (r : Fin 16384) (l : Fin 4096) : part m c r l 11264 = foM m c r l := by
  unfold part foM foAt
  rw [psum_full]
  unfold gw
  rfl

theorem b0 (c : Dev nD) (t : Fin cfg0.N) (a : Fin 1024) (b : Fin 2816) :
    (iblk m c 0 t : FVec Ideal S1024x2816 .bf16) (ix2 a b) = (V m c main_arg0 : FVec Ideal S16384x11264 .bf16) (ix2 ⟨1024 * (t.val / 16) + a, by have := tlt t; omega⟩ ⟨2816 * (t.val % 4) + b, by omega⟩) := by
  have ht := tlt t
  blk_ext [iblk, idx0 t]
theorem b1 (c : Dev nD) (t : Fin cfg0.N) (a : Fin 2816) (b : Fin 1024) :
    (iblk m c 1 t : FVec Ideal S2816x1024 .bf16) (ix2 a b) = (V m c main_arg1 : FVec Ideal S11264x4096 .bf16) (ix2 ⟨2816 * (t.val % 4) + a, by omega⟩ ⟨1024 * (t.val / 4 % 4) + b, by omega⟩) := by
  have ht := tlt t
  blk_ext [iblk, idx1 t]
theorem b2 (c : Dev nD) (t : Fin cfg0.N) (a b : Fin 1024) :
    (iblk m c 2 t : FVec Ideal S1024x1024 .f32) (ix2 a b) = (V m c main_arg2 : FVec Ideal S16384x4096 .f32) (ix2 ⟨1024 * (t.val / 16) + a, by have := tlt t; omega⟩ ⟨1024 * (t.val / 4 % 4) + b, by omega⟩) := by
  have ht := tlt t
  blk_ext [iblk, idx2 t]

theorem pay2_at (q : FVec Ideal S1024x1024 .f32) (x : FVec Ideal S1024x2816 .bf16) (w : FVec Ideal S2816x1024 .bf16) (r l : Fin 1024) :
    (k0_pay2 (F := Ideal) q x w (ix2 r l) : EReal) = q (ix2 r l) + ∑ k : Fin 2816, x (ix2 r k) * w (ix2 k l) := by
  unfold k0_pay2
  pointwise

theorem trunc_at (Z : FVec Ideal S1024x1024 .f32) (a b : Fin 1024) : (k0_pay3 (F := Ideal) Z (ix2 a b) : EReal) = Z (ix2 a b) := by
  unfold k0_pay3
  pointwise

theorem pay4_at (y : FVec Ideal S1024x1024 .f32) (r : Fin 1024) (l : Fin 128) : (k0_pay4 (F := Ideal) y (ix2 r l) : EReal) = ∑ k : Fin 1024, y (ix2 r k) * y (ix2 r k) := by
  unfold k0_pay4
  pointwise

theorem pay5_at (y : FVec Ideal S1024x1024 .f32) (q : FVec Ideal S1024x128 .f32) (r : Fin 1024) (l : Fin 128) :
    (k0_pay5 (F := Ideal) y q (ix2 r l) : EReal) = q (ix2 r l) + (k0_pay4 (F := Ideal) y (ix2 r l) : EReal) := by
  unfold k0_pay5
  generalize k0_pay4 (F := Ideal) y = z
  pointwise

theorem pay1_id (q : FVec Ideal S1024x1024 .f32) : k0_pay1 (F := Ideal) q = q := by
  unfold k0_pay1
  exact shapeCast_id q _

theorem scr (q : Vec Ideal S1024x1024 .f32) : View.read (Elt Ideal) (View.whole cc0_scratch0) ((Memref.isWhole_whole cc0_scratch0).unread q) = q :=
  Memref.IsWhole.read_unread (Val := Elt Ideal) (Memref.isWhole_whole cc0_scratch0) q

theorem scA (c : Dev nD) (t : Fin cfg0.N) (h0 : t.val % 4 = 0) :
    (outsAt0 m c t.val t.isLt).2.2.2 = k0_pay2 (iblk m c 2 t) (iblk m c 0 t) (iblk m c 1 t) := by
  rw [outsAt0_A m c t h0 (by omega)]
  unfold sout0_A_0
  frame_out
  rw [pay1_id]

theorem scB (c : Dev nD) (t : Fin cfg0.N) (h0 : ¬ t.val % 4 = 0) :
    (outsAt0 m c t.val t.isLt).2.2.2 = k0_pay2 (outsAt0 m c (t.val - 1) (by omega)).2.2.2 (iblk m c 0 t) (iblk m c 1 t) := by
  by_cases h1 : t.val % 4 = 3
  · by_cases h2 : t.val / 4 % 4 = 0
    · rw [outsAt0_C m c t h0 h1 h2 (by omega)]
      unfold sout0_C_0
      frame_out
      rw [scr]
    · rw [outsAt0_D m c t h0 h1 h2 (by omega)]
      unfold sout0_D_0
      frame_out
      rw [scr]
  · rw [outsAt0_B m c t h0 h1]
    unfold sout0_B_0
    frame_out
    rw [scr]

theorem out3 (c : Dev nD) (t : Fin cfg0.N) (h1 : t.val % 4 = 3) : (outsAt0 m c t.val t.isLt).1 = (outsAt0 m c t.val t.isLt).2.2.2 := by
  rw [scB m c t (by omega)]
  by_cases h2 : t.val / 4 % 4 = 0
  · rw [outsAt0_C m c t (by omega) h1 h2 (by omega)]
    unfold out0_C_3
    frame_out
    rw [scr]
  · rw [outsAt0_D m c t (by omega) h1 h2 (by omega)]
    unfold out0_D_3
    frame_out
    rw [scr]

theorem out4 (c : Dev nD) (t : Fin cfg0.N) (h1 : t.val % 4 = 3) : (outsAt0 m c t.val t.isLt).2.1 = k0_pay3 (outsAt0 m c t.val t.isLt).2.2.2 := by
  rw [scB m c t (by omega)]
  by_cases h2 : t.val / 4 % 4 = 0
  · rw [outsAt0_C m c t (by omega) h1 h2 (by omega)]
    unfold out0_C_4
    frame_out
    rw [scr]
  · rw [outsAt0_D m c t (by omega) h1 h2 (by omega)]
    unfold out0_D_4
    frame_out
    rw [scr]

theorem out5C (c : Dev nD) (t : Fin cfg0.N) (h1 : t.val % 4 = 3) (h2 : t.val / 4 % 4 = 0) : (outsAt0 m c t.val t.isLt).2.2.1 = k0_pay4 (outsAt0 m c t.val t.isLt).2.2.2 := by
  rw [scB m c t (by omega)]
  rw [outsAt0_C m c t (by omega) h1 h2 (by omega)]
  unfold out0_C_5
  frame_out
  rw [scr]

theorem out5D (c : Dev nD) (t : Fin cfg0.N) (h1 : t.val % 4 = 3) (h2 : ¬ t.val / 4 % 4 = 0) :
    (outsAt0 m c t.val t.isLt).2.2.1 = k0_pay5 (outsAt0 m c t.val t.isLt).2.2.2 (outsAt0 m c (t.val - 1) (by omega)).2.2.1 := by
  rw [scB m c t (by omega)]
  rw [outsAt0_D m c t (by omega) h1 h2 (by omega)]
  unfold out0_D_5
  frame_out
  rw [scr]

theorem out5k (c : Dev nD) (t : Fin cfg0.N) (h1 : ¬ t.val % 4 = 3) : (outsAt0 m c t.val t.isLt).2.2.1 = (outsAt0 m c (t.val - 1) (by omega)).2.2.1 := by
  by_cases h0 : t.val % 4 = 0
  · rw [outsAt0_A m c t h0 h1]
    rfl
  · rw [outsAt0_B m c t h0 h1]
    rfl

theorem step (c : Dev nD) (t : Fin cfg0.N) (q : FVec Ideal S1024x1024 .f32) (a b : Fin 1024) :
    (k0_pay2 (F := Ideal) q (iblk m c 0 t) (iblk m c 1 t) (ix2 a b) : EReal)
      = q (ix2 a b) + ∑ k : Fin 2816, gw m c ⟨1024 * (t.val / 16) + a, by have := tlt t; omega⟩ ⟨1024 * (t.val / 4 % 4) + b, by omega⟩ ⟨2816 * (t.val % 4) + k, by omega⟩ := by
  unfold gw
  exact (pay2_at _ _ _ a b).trans (congrArg₂ (fun a b : EReal => a + b) rfl (Finset.sum_congr rfl fun k _ => congrArg₂ (fun a b : EReal => a * b) (b0 m c t a k) (b1 m c t k b)))

theorem part_add (c : Dev nD) (r : Fin 16384) (l : Fin 4096) (n w : ℕ) (h : n + w ≤ 11264) : part m c r l (n + w) = part m c r l n + ∑ k : Fin w, gw m c r l ⟨n + k, by omega⟩ := by
  unfold part
  rw [psum_add _ _ _ h, add_assoc]

theorem sc (c : Dev nD) : ∀ (n : ℕ) (hn : n < cfg0.N) (a b : Fin 1024),
    ((outsAt0 m c n hn).2.2.2 (ix2 a b) : EReal)
      = part m c ⟨1024 * (n / 16) + a, by have := lt_of_lt_of_eq hn N_0; omega⟩ ⟨1024 * (n / 4 % 4) + b, by omega⟩ (2816 * (n % 4) + 2816)
  | n, hn, a, b => by
    have hN := lt_of_lt_of_eq hn N_0
    rw [part_add _ _ _ _ _ _ (by omega)]
    by_cases h0 : n % 4 = 0
    · refine (congrFun (scA m c ⟨n, hn⟩ h0) (ix2 a b)).trans ((step m c ⟨n, hn⟩ _ a b).trans (congrArg₂ (fun a b : EReal => a + b) ((b2 m c ⟨n, hn⟩ a b).trans ?_) rfl))
      unfold part
      rw [show 2816 * (n % 4) = 0 by omega, psum_zero, add_zero]
      rfl
    · refine (congrFun (scB m c ⟨n, hn⟩ h0) (ix2 a b)).trans ((step m c ⟨n, hn⟩ _ a b).trans (congrArg₂ (fun a b : EReal => a + b) ?_ rfl))
      refine (sc c (n - 1) (by omega) a b).trans ?_
      have e1 : 2816 * ((n - 1) % 4) + 2816 = 2816 * (n % 4) := by omega
      rw [e1]
      refine congrArg₂ (fun r l => part m c r l (2816 * (n % 4))) (Fin.ext ?_) (Fin.ext ?_)
      · show 1024 * ((n - 1) / 16) + (a : ℕ) = 1024 * (n / 16) + a
        omega
      · show 1024 * ((n - 1) / 4 % 4) + (b : ℕ) = 1024 * (n / 4 % 4) + b
        omega
  termination_by n => n
  decreasing_by omega

theorem sc3 (c : Dev nD) (t : Fin cfg0.N) (h1 : t.val % 4 = 3) (a b : Fin 1024) :
    ((outsAt0 m c t.val t.isLt).2.2.2 (ix2 a b) : EReal) = foM m c ⟨1024 * (t.val / 16) + a, by have := tlt t; omega⟩ ⟨1024 * (t.val / 4 % 4) + b, by omega⟩ := by
  refine (sc m c t.val t.isLt a b).trans ?_
  rw [show 2816 * (t.val % 4) + 2816 = 11264 by omega, part_full]

/-- A squared entry. -/
@[irreducible] def fsq (c : Dev nD) (r : Fin 16384) (l : Fin 4096) : EReal := foM m c r l * foM m c r l

theorem ssq_step (c : Dev nD) (t : Fin cfg0.N) (h1 : t.val % 4 = 3) (a : Fin 1024) (l : Fin 128) :
    (k0_pay4 (F := Ideal) (outsAt0 m c t.val t.isLt).2.2.2 (ix2 a l) : EReal)
      = ∑ k : Fin 1024, fsq m c ⟨1024 * (t.val / 16) + a, by have := tlt t; omega⟩ ⟨1024 * (t.val / 4 % 4) + k, by omega⟩ := by
  unfold fsq
  exact (pay4_at _ a l).trans (Finset.sum_congr rfl fun k _ => congrArg₂ (fun a b : EReal => a * b) (sc3 m c t h1 a k) (sc3 m c t h1 a k))

theorem out5 (c : Dev nD) : ∀ (n : ℕ) (hn : n < cfg0.N) (_ : 3 ≤ n % 16) (a : Fin 1024) (l : Fin 128),
    ((outsAt0 m c n hn).2.2.1 (ix2 a l) : EReal) = psum (fsq m c ⟨1024 * (n / 16) + a, by have := lt_of_lt_of_eq hn N_0; omega⟩) (1024 * ((n % 16 - 3) / 4) + 1024)
  | n, hn, h3, a, l => by
    have hN := lt_of_lt_of_eq hn N_0
    by_cases h1 : n % 4 = 3
    · have e0 : 1024 * ((n % 16 - 3) / 4) = 1024 * (n / 4 % 4) := by omega
      rw [e0, psum_add _ _ _ (by omega)]
      by_cases h2 : n / 4 % 4 = 0
      · refine (congrFun (out5C m c ⟨n, hn⟩ h1 h2) (ix2 a l)).trans ((ssq_step m c ⟨n, hn⟩ h1 a l).trans ?_)
        have z : psum (fsq m c ⟨1024 * (n / 16) + a, by omega⟩) (1024 * (n / 4 % 4)) = 0 := by
          rw [show 1024 * (n / 4 % 4) = 0 by omega, psum_zero]
        rw [z, zero_add]
      · refine (congrFun (out5D m c ⟨n, hn⟩ h1 h2) (ix2 a l)).trans ((pay5_at _ _ a l).trans ?_)
        refine congrArg₂ (fun a b : EReal => a + b) ?_ (ssq_step m c ⟨n, hn⟩ h1 a l)
        refine (out5 c (n - 1) (by omega) (by omega) a l).trans ?_
        have e1 : 1024 * (((n - 1) % 16 - 3) / 4) + 1024 = 1024 * (n / 4 % 4) := by omega
        rw [e1]
        refine congrArg (fun r => psum (fsq m c r) (1024 * (n / 4 % 4))) (Fin.ext ?_)
        show 1024 * ((n - 1) / 16) + (a : ℕ) = 1024 * (n / 16) + a
        omega
    · refine (congrFun (out5k m c ⟨n, hn⟩ h1) (ix2 a l)).trans ?_
      refine (out5 c (n - 1) (by omega) (by omega) a l).trans ?_
      have e1 : 1024 * (((n - 1) % 16 - 3) / 4) + 1024 = 1024 * ((n % 16 - 3) / 4) + 1024 := by omega
      rw [e1]
      refine congrArg (fun r => psum (fsq m c r) (1024 * ((n % 16 - 3) / 4) + 1024)) (Fin.ext ?_)
      show 1024 * ((n - 1) / 16) + (a : ℕ) = 1024 * (n / 16) + a
      omega
  termination_by n => n
  decreasing_by all_goals omega

theorem arr3 (c : Dev nD) (r : Fin 16384) (l : Fin 4096) :
    ((dats m 0 c).arrAt 3 cfg0.N : FVec Ideal S16384x4096 .f32) (ix2 r l) = foM m c r l := by
  refine congrFun ((dats m 0 c).arrAt_eq_of_covers 3 (fun y : S16384x4096.Idx => foM m c (y 0) (y 1)) (by decide +kernel) fun t hf y => ?_) (ix2 r l)
  have h1 := flush3 t hf
  rw [after0_3, out3 m c t h1]
  have ht := tlt t
  have e := sc3 m c t h1
  generalize (outsAt0 m c t.val t.isLt).2.2.2 = Z at e ⊢
  obtain ⟨a, b, rfl⟩ : ∃ (a b : Fin 1024), y = ix2 a b := ⟨y 0, y 1, eq_ix2 (n0 := 1024) (n1 := 1024) y⟩
  refine (e a b).trans ?_
  refine congrArg₂ (foM m c) (Fin.ext ?_) (Fin.ext ?_)
  · blk_simp [idx3 t]
    show 1024 * (t.val / 16) + (a : ℕ) = t.val / 16 * 1024 + (a : ℕ)
    omega
  · blk_simp [idx3 t]
    show 1024 * (t.val / 4 % 4) + (b : ℕ) = t.val / 4 % 4 * 1024 + (b : ℕ)
    omega

theorem arr4 (c : Dev nD) (r : Fin 16384) (l : Fin 4096) :
    ((dats m 0 c).arrAt 4 cfg0.N : FVec Ideal S16384x4096 .bf16) (ix2 r l) = foM m c r l := by
  refine congrFun ((dats m 0 c).arrAt_eq_of_covers 4 (fun y : S16384x4096.Idx => foM m c (y 0) (y 1)) (by decide +kernel) fun t hf y => ?_) (ix2 r l)
  have h1 := flush4 t hf
  rw [after0_4, out4 m c t h1]
  have ht := tlt t
  have e := fun a b => (trunc_at (outsAt0 m c t.val t.isLt).2.2.2 a b).trans (sc3 m c t h1 a b)
  generalize k0_pay3 (F := Ideal) (outsAt0 m c t.val t.isLt).2.2.2 = Z at e ⊢
  obtain ⟨a, b, rfl⟩ : ∃ (a b : Fin 1024), y = ix2 a b := ⟨y 0, y 1, eq_ix2 (n0 := 1024) (n1 := 1024) y⟩
  refine (e a b).trans ?_
  refine congrArg₂ (foM m c) (Fin.ext ?_) (Fin.ext ?_)
  · blk_simp [idx4 t]
    show 1024 * (t.val / 16) + (a : ℕ) = t.val / 16 * 1024 + (a : ℕ)
    omega
  · blk_simp [idx4 t]
    show 1024 * (t.val / 4 % 4) + (b : ℕ) = t.val / 4 % 4 * 1024 + (b : ℕ)
    omega

theorem arr5 (c : Dev nD) (r : Fin 16384) (l : Fin 128) :
    ((dats m 0 c).arrAt 5 cfg0.N : FVec Ideal S16384x128 .f32) (ix2 r l) = ∑ k : Fin 4096, foM m c r k * foM m c r k := by
  have e0 : (∑ k : Fin 4096, foM m c r k * foM m c r k : EReal) = psum (fsq m c r) 4096 := by
    rw [psum_full]
    unfold fsq
    rfl
  rw [e0]
  refine congrFun ((dats m 0 c).arrAt_eq_of_covers 5 (fun y : S16384x128.Idx => psum (fsq m c (y 0)) 4096) (by decide +kernel) fun t hf y => ?_) (ix2 r l)
  rw [after0_5]
  have ht := tlt t
  have h7 := flush5 t hf
  have e := out5 m c t.val t.isLt (by omega)
  generalize (outsAt0 m c t.val t.isLt).2.2.1 = Z at e ⊢
  obtain ⟨a, b, rfl⟩ : ∃ (a : Fin 1024) (b : Fin 128), y = ix2 a b := ⟨y 0, y 1, eq_ix2 (n0 := 1024) (n1 := 128) y⟩
  refine (e a b).trans ?_
  rw [show 1024 * ((t.val % 16 - 3) / 4) + 1024 = 4096 by omega]
  refine congrArg (fun r => psum (fsq m c r) 4096) (Fin.ext ?_)
  blk_simp [idx5 t]
  show 1024 * (t.val / 16) + (a : ℕ) = t.val / 16 * 1024 + (a : ℕ)
  omega
end Cert.FfnOutIdeal.Fo
end
-- ==== Proof.FoAlg.lean ====
/- The feed-forward's output projection: the kernel's results are the reference's. -/
module

public import proofs.«01_k».proof.Defs
public import proofs.«01_k».proof.Proof.FoArr
public import proofs.«01_k».proof.Proof.Gen.FfnOutRefIdeal.Run
public import proofs.«01_k».proof.Proof.Gen.FfnOutRefIdeal.Read
public import Idealize.ShloMosaic.Lib.KernelVsHost
public import Idealize.ShloMosaic.Adequacy
public import Idealize.ShloMosaic.Init

@[expose] public section
set_option maxRecDepth 16384
noncomputable section
open Idealize.ShloMosaic Idealize.ShloMosaic.TcCoe Idealize.SL.Sem

namespace Cert.FfnOutRefIdeal.Fo
open Cert.FfnOutRefIdeal Cert.FfnOutRefIdeal.Gen Cert.FfnOutRefIdeal.Read
open Cert.FfnOutIdeal.Fo (foAt)

abbrev T0 := (⟨S16384x11264, .bf16⟩ : BufTy).Contents (Elt Ideal)
abbrev T1 := (⟨S11264x4096, .bf16⟩ : BufTy).Contents (Elt Ideal)
abbrev T2 := (⟨S16384x4096, .f32⟩ : BufTy).Contents (Elt Ideal)

theorem r0 (x0 : T0) (R : Fin 16384) (k : Fin 11264) : (val_main_v0 (F := Ideal) x0 (ix2 R k) : EReal) = x0 (ix2 R k) := by
  pointwise [val_main_v0]

theorem r1 (x1 : T1) (k : Fin 11264) (l : Fin 4096) : (val_main_v1 (F := Ideal) x1 (ix2 k l) : EReal) = x1 (ix2 k l) := by
  pointwise [val_main_v1]

theorem r2 (x0 : T0) (x1 : T1) (R : Fin 16384) (l : Fin 4096) :
    (val_main_v2 (F := Ideal) x0 x1 (ix2 R l) : EReal) = ∑ k : Fin 11264, x0 (ix2 R k) * x1 (ix2 k l) := by
  rw [val_main_v2_apply]
  exact Finset.sum_congr rfl fun k _ => congrArg₂ (fun a b : EReal => a * b) ((congrArg (val_main_v0 (F := Ideal) x0) (by funext a; fin_cases a <;> rfl)).trans (r0 x0 R k))
    ((congrArg (val_main_v1 (F := Ideal) x1) (by funext a; fin_cases a <;> rfl)).trans (r1 x1 k l))

theorem r3 (x0 : T0) (x1 : T1) (x2 : T2) (R : Fin 16384) (l : Fin 4096) :
    (val_main_v3 (F := Ideal) x0 x1 x2 (ix2 R l) : EReal) = foAt x0 x1 x2 R l := by
  have e := r2 x0 x1 R l
  unfold foAt
  rw [← e]
  unfold val_main_v3
  generalize val_main_v2 (F := Ideal) x0 x1 = y
  pointwise

theorem r4 (x0 : T0) (x1 : T1) (x2 : T2) (R : Fin 16384) (l : Fin 4096) :
    (val_main_v4 (F := Ideal) x0 x1 x2 (ix2 R l) : EReal) = foAt x0 x1 x2 R l := by
  refine Eq.trans ?_ (r3 x0 x1 x2 R l)
  unfold val_main_v4
  generalize val_main_v3 (F := Ideal) x0 x1 x2 = y
  pointwise

theorem r8 (x0 : T0) (x1 : T1) (x2 : T2) (R : Fin 16384) (l : Fin 128) :
    (val_main_v8 (F := Ideal) x0 x1 x2 (ix2 R l) : EReal) = ∑ k : Fin 4096, foAt x0 x1 x2 R k * foAt x0 x1 x2 R k := by
  have e := r3 x0 x1 x2 R
  refine Eq.trans ?_ (Finset.sum_congr rfl fun k _ => congrArg₂ (fun a b : EReal => a * b) (e k) (e k))
  unfold val_main_v8 val_main_v7 val_main_v6 val_main_v5
  generalize val_main_v3 (F := Ideal) x0 x1 x2 = y
  pointwise
  refine (congrArg (fun z : EReal => z + ∑ k : Fin 4096, y (ix2 R k) * y (ix2 R k)) ?_).trans (zero_add _)
  show (Ideal.ofBits .f32 0x00000000#32 : EReal) = 0
  simp [Ideal.ofBits, Ideal.ieee]
end Cert.FfnOutRefIdeal.Fo

namespace Cert.Proof.Fo
open Cert.FfnOutRefIdeal.Fo (T0 T1 T2)
open Cert.FfnOutRefIdeal.Read (val_main_v3 val_main_v4 val_main_v8)

theorem frameRef : quiescent_FfnOutRefIdeal (hFfnOutRefIdeal := Cert.FfnOutRefIdeal.Gen.facts) := fun m g _ =>
  (θ_run (Cert.FfnOutRefIdeal.defs (F := Ideal)) (onTc (τ := Cert.FfnOutRefIdeal.τ) (Cert.FfnOutRefIdeal.main (F := Ideal))) _).mono
    (fun r h => And.intro (fun c => (h c).2.2.2) (sem_eq_zero_of_no_sems (by decide) r.2)) (Cert.FfnOutRefIdeal.Value.run m g)

abbrev M := (ℓ : Loc Cert.FfnOutIdeal.nD Cert.FfnOutIdeal.τ Cert.FfnOutIdeal.sig) → Buf (Elt Ideal) ℓ
/-- The arguments as launched. -/
abbrev a0 (m : M) (c : Dev Cert.FfnOutIdeal.nD) : T0 := m ((c.tc : Thread Cert.FfnOutIdeal.nD Cert.FfnOutIdeal.τ).loc Cert.FfnOutIdeal.main_arg0)
abbrev a1 (m : M) (c : Dev Cert.FfnOutIdeal.nD) : T1 := m ((c.tc : Thread Cert.FfnOutIdeal.nD Cert.FfnOutIdeal.τ).loc Cert.FfnOutIdeal.main_arg1)
abbrev a2 (m : M) (c : Dev Cert.FfnOutIdeal.nD) : T2 := m ((c.tc : Thread Cert.FfnOutIdeal.nD Cert.FfnOutIdeal.τ).loc Cert.FfnOutIdeal.main_arg2)

theorem foM_eq (m : M) (c : Dev Cert.FfnOutIdeal.nD) (r : Fin 16384) (l : Fin 4096) :
    Cert.FfnOutIdeal.Fo.foM m c r l = Cert.FfnOutIdeal.Fo.foAt (a0 m c) (a1 m c) (a2 m c) r l := by
  unfold Cert.FfnOutIdeal.Fo.foM
  rw [show Cert.FfnOutIdeal.Fo.A0 m c = a0 m c from Cert.FfnOutIdeal.Gen.V_main_arg0 m c, show Cert.FfnOutIdeal.Fo.A1 m c = a1 m c from Cert.FfnOutIdeal.Gen.V_main_arg1 m c,
    show Cert.FfnOutIdeal.Fo.A2 m c = a2 m c from Cert.FfnOutIdeal.Gen.V_main_arg2 m c]

theorem out_eq3 (m : M) (c : Dev Cert.FfnOutIdeal.nD) :
    ((Cert.FfnOutIdeal.Gen.dats m 0 c).arrAt 3 Cert.FfnOutIdeal.cfg0.N : FVec Ideal Cert.FfnOutIdeal.S16384x4096 .f32)
      = val_main_v3 (F := Ideal) (a0 m c) (a1 m c) (a2 m c) := by
  refine funext fun (i : (⟨2, ![16384, 4096]⟩ : Shape).Idx) => ?_
  rw [eq_ix2 i]
  exact ((Cert.FfnOutIdeal.Fo.arr3 m c (i 0) (i 1)).trans (foM_eq m c _ _)).trans (Cert.FfnOutRefIdeal.Fo.r3 _ _ _ (i 0) (i 1)).symm

theorem out_eq4 (m : M) (c : Dev Cert.FfnOutIdeal.nD) :
    ((Cert.FfnOutIdeal.Gen.dats m 0 c).arrAt 4 Cert.FfnOutIdeal.cfg0.N : FVec Ideal Cert.FfnOutIdeal.S16384x4096 .bf16)
      = val_main_v4 (F := Ideal) (a0 m c) (a1 m c) (a2 m c) := by
  refine funext fun (i : (⟨2, ![16384, 4096]⟩ : Shape).Idx) => ?_
  rw [eq_ix2 i]
  exact ((Cert.FfnOutIdeal.Fo.arr4 m c (i 0) (i 1)).trans (foM_eq m c _ _)).trans (Cert.FfnOutRefIdeal.Fo.r4 _ _ _ (i 0) (i 1)).symm

theorem out_eq5 (m : M) (c : Dev Cert.FfnOutIdeal.nD) :
    ((Cert.FfnOutIdeal.Gen.dats m 0 c).arrAt 5 Cert.FfnOutIdeal.cfg0.N : FVec Ideal Cert.FfnOutIdeal.S16384x128 .f32)
      = val_main_v8 (F := Ideal) (a0 m c) (a1 m c) (a2 m c) := by
  refine funext fun (i : (⟨2, ![16384, 128]⟩ : Shape).Idx) => ?_
  rw [eq_ix2 i]
  have e : (∑ k : Fin 4096, Cert.FfnOutIdeal.Fo.foM m c (i 0) k * Cert.FfnOutIdeal.Fo.foM m c (i 0) k : EReal)
      = ∑ k : Fin 4096, Cert.FfnOutIdeal.Fo.foAt (a0 m c) (a1 m c) (a2 m c) (i 0) k * Cert.FfnOutIdeal.Fo.foAt (a0 m c) (a1 m c) (a2 m c) (i 0) k :=
    Finset.sum_congr rfl fun k _ => congrArg₂ (fun a b : EReal => a * b) (foM_eq m c _ k) (foM_eq m c _ k)
  exact ((Cert.FfnOutIdeal.Fo.arr5 m c (i 0) (i 1)).trans e).trans (Cert.FfnOutRefIdeal.Fo.r8 _ _ _ (i 0) (i 1)).symm

theorem algebraic : algebraic_FfnOutIdeal_FfnOutRefIdeal (hFfnOutIdeal := Cert.FfnOutIdeal.Gen.facts) (hFfnOutRefIdeal := Cert.FfnOutRefIdeal.Gen.facts) := by
  intro m g m' g' _ harg
  refine ⟨fun c => val_main_v3 (F := Ideal) (a0 m c) (a1 m c) (a2 m c), fun c => val_main_v4 (F := Ideal) (a0 m c) (a1 m c) (a2 m c),
    fun c => val_main_v8 (F := Ideal) (a0 m c) (a1 m c) (a2 m c), ?_, ?_⟩
  · refine (θ_run _ _ _).mono (fun r h c => ?_) (θ_run_and (Cert.FfnOutIdeal.Gen.run_main m g) (Cert.FfnOutIdeal.Gen.unchanged m g))
    exact ⟨((h.1 c).1 3).trans (out_eq3 m c), ((h.1 c).1 4).trans (out_eq4 m c), ((h.1 c).1 5).trans (out_eq5 m c), h.2 c⟩
  · refine (θ_run _ _ _).mono (fun r h c => ?_) (Cert.FfnOutRefIdeal.Value.run m' g')
    obtain ⟨h0, h1, h2⟩ := harg c
    refine ⟨((h c).1).trans ((Cert.FfnOutRefIdeal.Read.val_main_v3_eq _ _ _).trans ?_), ((h c).2.1).trans ((Cert.FfnOutRefIdeal.Read.val_main_v4_eq _ _ _).trans ?_),
      ((h c).2.2.1).trans ((Cert.FfnOutRefIdeal.Read.val_main_v8_eq _ _ _).trans ?_), (h c).2.2.2⟩
    · exact congr (congrArg₂ (val_main_v3 (F := Ideal)) h0 h1) h2
    · exact congr (congrArg₂ (val_main_v4 (F := Ideal)) h0 h1) h2
    · exact congr (congrArg₂ (val_main_v8 (F := Ideal)) h0 h1) h2
end Cert.Proof.Fo
end
-- ==== Proof.InArr.lean ====
/- The input projection: what the kernel leaves and what the reference computes. -/
module

public import proofs.«01_k».proof.Proof.FfnAlg
public import proofs.«01_k».proof.Proof.Gen.InProjIdeal.Frame
public import proofs.«01_k».proof.Proof.Gen.InProjRefIdeal.Run
public import proofs.«01_k».proof.Proof.Gen.InProjRefIdeal.Read

@[expose] public section
set_option maxRecDepth 16384
noncomputable section
open Idealize.ShloMosaic Idealize.ShloMosaic.TcCoe Idealize.SL.Sem
open Idealize.ShloMosaic.Pipeline (Dat)

namespace Cert.InProjIdeal.Inp
open Cert.InProjIdeal Cert.InProjIdeal.Gen

/-- The scaled product of a row with a row of the weights. -/
@[irreducible] def inAt (X : FVec Ideal S16384x4096 .bf16) (Q : FVec Ideal S16384x128 .f32) (W : FVec Ideal S4x8192x4096 .bf16) (r : Fin 16384) (l : Fin 8192) : EReal :=
  (∑ k : Fin 4096, X (ix2 r k) * W (ix3 0 l k)) * Ideal.rsqrt (Q (ix2 r 0) * Ideal.ofBits .f32 0x39800000#32 + Ideal.ofBits .f32 0x358637BD#32)
/-- The output weights of the first layer. -/
@[irreducible] def woAt (W : FVec Ideal S4x4096x4096 .f32) (r l : Fin 4096) : EReal := W (ix3 0 r l)

theorem idx0 : ∀ t : Fin cfg0.N, win0_0.index t = ![t.val / 8, 0] := (by decide +kernel : ∀ t : Fin grid0.N, _)
theorem idx1 : ∀ t : Fin cfg0.N, win0_1.index t = ![0, t.val % 8, 0] := (by decide +kernel : ∀ t : Fin grid0.N, _)
theorem idx2 : ∀ t : Fin cfg0.N, win0_2.index t = ![t.val / 8, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![t.val / 8, t.val % 8] := (by decide +kernel : ∀ t : Fin grid0.N, _)
theorem idx5 : ∀ t : Fin cfg0.N, win0_5.index t = ![t.val, 0] := (by decide +kernel : ∀ t : Fin grid0.N, _)
theorem tlt (t : Fin cfg0.N) : t.val < 128 := lt_of_lt_of_eq t.isLt N_0

variable (m : (ℓ : Loc nD τ sig) → Buf (Elt Ideal) ℓ)

def A0 (c : Dev nD) : FVec Ideal S16384x4096 .bf16 := V m c main_arg0
def A1 (c : Dev nD) : FVec Ideal S16384x128 .f32 := V m c main_arg1
def A2 (c : Dev nD) : FVec Ideal S4x8192x4096 .bf16 := V m c main_arg2
def A3 (c : Dev nD) : FVec Ideal S4x4096x4096 .f32 := V m c main_arg3

theorem b0 (c : Dev nD) (t : Fin cfg0.N) (a : Fin 1024) (b : Fin 4096) :
    (iblk m c 0 t : FVec Ideal S1024x4096 .bf16) (ix2 a b) = (V m c main_arg0 : FVec Ideal S16384x4096 .bf16) (ix2 ⟨1024 * (t.val / 8) + a, by have := tlt t; omega⟩ b) := by
  have ht := tlt t
  blk_ext [iblk, idx0 t]
theorem b1 (c : Dev nD) (t : Fin cfg0.N) (a : Fin 1024) (b : Fin 4096) :
    (iblk m c 1 t : FVec Ideal S1x1024x4096 .bf16) (ix3 0 a b) = (V m c main_arg2 : FVec Ideal S4x8192x4096 .bf16) (ix3 0 ⟨1024 * (t.val % 8) + a, by have := tlt t; omega⟩ b) := by
  have ht := tlt t
  blk_ext [iblk, idx1 t]
theorem b2 (c : Dev nD) (t : Fin cfg0.N) (a : Fin 1024) (b : Fin 128) :
    (iblk m c 2 t : FVec Ideal S1024x128 .f32) (ix2 a b) = (V m c main_arg1 : FVec Ideal S16384x128 .f32) (ix2 ⟨1024 * (t.val / 8) + a, by have := tlt t; omega⟩ b) := by
  have ht := tlt t
  blk_ext [iblk, idx2 t]
theorem b3 (c : Dev nD) (t : Fin cfg0.N) (a : Fin 32) (b : Fin 4096) :
    (iblk m c 3 t : FVec Ideal S1x32x4096 .f32) (ix3 0 a b) = (V m c main_arg3 : FVec Ideal S4x4096x4096 .f32) (ix3 0 ⟨32 * t.val + a, by have := tlt t; omega⟩ b) := by
  have ht := tlt t
  blk_ext [iblk, idx3 t]

theorem pay1_at (s : FVec Ideal S1024x1 .f32) (u : FVec Ideal S1024x4096 .bf16) (w : FVec Ideal S1x1024x4096 .bf16) (r : Fin 1024) (l : Fin 1024) :
    (k0_pay1 (F := Ideal) s u w (ix2 r l) : EReal)
      = (∑ k : Fin 4096, u (ix2 r k) * w (ix3 0 l k)) * Ideal.rsqrt (s (ix2 r 0) * Ideal.ofBits .f32 0x39800000#32 + Ideal.ofBits .f32 0x358637BD#32) := by
  unfold k0_pay1
  pointwise

theorem pay2_at (w : FVec Ideal S1x32x4096 .f32) (r : Fin 32) (l : Fin 4096) : (k0_pay2 (F := Ideal) w (ix2 r l) : EReal) = w (ix3 0 r l) := by
  unfold k0_pay2
  pointwise

theorem ld_col (X : FVec Ideal S1024x128 .f32) (r : Fin 1024) :
    (View.ld (Val := Elt Ideal) (e' := .f32) X (Rect.unit (s := S1024x128) ![0, 0] ![1024, 1] inb_S1024x128_S1024x1_0_0) (ix2 r 0) : EReal) = X (ix2 r 0) := by
  refine congrArg X (funext fun a => Fin.ext ?_)
  match a with
  | 0 => show 0 + 1 * (r : ℕ) = r; omega
  | 1 => show 0 + 1 * 0 = 0; omega

theorem outv4 (c : Dev nD) (t : Fin cfg0.N) : out0_4 (iblk m c 0 t) (iblk m c 1 t) (iblk m c 2 t) (iblk m c 3 t) = k0_pay1 (View.ld (iblk m c 2 t) r0_0) (iblk m c 0 t) (iblk m c 1 t) := by
  unfold out0_4
  frame_out
  rfl
theorem outv5 (c : Dev nD) (t : Fin cfg0.N) : out0_5 (iblk m c 0 t) (iblk m c 1 t) (iblk m c 2 t) (iblk m c 3 t) = k0_pay2 (iblk m c 3 t) := by
  unfold out0_5
  frame_out

theorem out4_at (c : Dev nD) (t : Fin cfg0.N) (a : Fin 1024) (b : Fin 1024) :
    (out0_4 (iblk m c 0 t) (iblk m c 1 t) (iblk m c 2 t) (iblk m c 3 t) (ix2 a b) : EReal)
      = inAt (A0 m c) (A1 m c) (A2 m c) ⟨1024 * (t.val / 8) + a, by have := tlt t; omega⟩ ⟨1024 * (t.val % 8) + b, by have := tlt t; omega⟩ := by
  rw [outv4]
  refine (pay1_at _ _ _ a b).trans ?_
  unfold inAt
  exact congrArg₂ (fun p q : EReal => p * Ideal.rsqrt (q * Ideal.ofBits .f32 0x39800000#32 + Ideal.ofBits .f32 0x358637BD#32))
    (Finset.sum_congr rfl fun k _ => congrArg₂ (fun a b : EReal => a * b) (b0 m c t a k) (b1 m c t b k)) ((ld_col _ a).trans (b2 m c t a 0))

theorem out5_at (c : Dev nD) (t : Fin cfg0.N) (a : Fin 32) (b : Fin 4096) :
    (out0_5 (iblk m c 0 t) (iblk m c 1 t) (iblk m c 2 t) (iblk m c 3 t) (ix2 a b) : EReal) = woAt (A3 m c) ⟨32 * t.val + a, by have := tlt t; omega⟩ b := by
  rw [outv5]
  refine (pay2_at _ a b).trans ?_
  unfold woAt
  exact b3 m c t a b

theorem arr4 (c : Dev nD) (r : Fin 16384) (l : Fin 8192) :
    ((dats m 0 c).arrAt 4 cfg0.N : FVec Ideal S16384x8192 .bf16) (ix2 r l) = inAt (A0 m c) (A1 m c) (A2 m c) r l := by
  refine congrFun ((dats m 0 c).arrAt_eq_of_covers 4 (fun y : S16384x8192.Idx => inAt (A0 m c) (A1 m c) (A2 m c) (y 0) (y 1))
    (by decide +kernel) fun t hf y => ?_) (ix2 r l)
  rw [after0_4]
  have ht := tlt t
  have e := out4_at m c t
  generalize out0_4 (iblk m c 0 t) (iblk m c 1 t) (iblk m c 2 t) (iblk m c 3 t) = Z at e ⊢
  obtain ⟨a, b, rfl⟩ : ∃ (a : Fin 1024) (b : Fin 1024), y = ix2 a b := ⟨y 0, y 1, eq_ix2 (n0 := 1024) (n1 := 1024) y⟩
  refine (e a b).trans ?_
  refine congrArg₂ (inAt (A0 m c) (A1 m c) (A2 m c)) (Fin.ext ?_) (Fin.ext ?_)
  · blk_simp [idx4 t]
    show 1024 * (t.val / 8) + (a : ℕ) = t.val / 8 * 1024 + (a : ℕ)
    omega
  · blk_simp [idx4 t]
    show 1024 * (t.val % 8) + (b : ℕ) = t.val % 8 * 1024 + (b : ℕ)
    omega

theorem arr5 (c : Dev nD) (r l : Fin 4096) :
    ((dats m 0 c).arrAt 5 cfg0.N : FVec Ideal S4096x4096 .bf16) (ix2 r l) = woAt (A3 m c) r l := by
  refine congrFun ((dats m 0 c).arrAt_eq_of_covers 5 (fun y : S4096x4096.Idx => woAt (A3 m c) (y 0) (y 1))
    (by decide +kernel) fun t hf y => ?_) (ix2 r l)
  rw [after0_5]
  have ht := tlt t
  have e := out5_at m c t
  generalize out0_5 (iblk m c 0 t) (iblk m c 1 t) (iblk m c 2 t) (iblk m c 3 t) = Z at e ⊢
  obtain ⟨a, b, rfl⟩ : ∃ (a : Fin 32) (b : Fin 4096), y = ix2 a b := ⟨y 0, y 1, eq_ix2 (n0 := 32) (n1 := 4096) y⟩
  refine (e a b).trans ?_
  refine congrArg₂ (woAt (A3 m c)) (Fin.ext ?_) (Fin.ext ?_)
  · blk_simp [idx5 t]
    show 32 * t.val + (a : ℕ) = t.val * 32 + (a : ℕ)
    omega
  · blk_simp [idx5 t]
end Cert.InProjIdeal.Inp

namespace Cert.InProjRefIdeal.Inp
open Cert.InProjRefIdeal Cert.InProjRefIdeal.Gen Cert.InProjRefIdeal.Read
open Cert.InProjIdeal.Inp (inAt woAt)
open Cert.FfnInRefIdeal.Ffn (div_eq scale_real sum_mul_real)

abbrev T0 := (⟨S16384x4096, .bf16⟩ : BufTy).Contents (Elt Ideal)
abbrev T1 := (⟨S16384x128, .f32⟩ : BufTy).Contents (Elt Ideal)
abbrev T2 := (⟨S4x8192x4096, .bf16⟩ : BufTy).Contents (Elt Ideal)
abbrev T3 := (⟨S4x4096x4096, .f32⟩ : BufTy).Contents (Elt Ideal)

theorem r8 (x0 : T0) (x1 : T1) (R : Fin 16384) (k : Fin 4096) :
    (val_main_v8 (F := Ideal) x0 x1 (ix2 R k) : EReal)
      = x0 (ix2 R k) * Ideal.rsqrt (Ideal.div (x1 (ix2 R 0)) (Ideal.ofBits .f32 0x45800000#32) + Ideal.ofBits .f32 0x358637BD#32) := by
  pointwise [val_main_v8, val_main_v0, val_main_v7, val_main_v6, val_main_v5, val_main_v4, val_main_v3, val_main_v2, val_main_v1]
  rfl
theorem r12 (x2 : T2) (k : Fin 4096) (l : Fin 8192) :
    (val_main_v12 (F := Ideal) x2 (ix2 k l) : EReal) = x2 (ix3 0 l k) := by
  pointwise [val_main_v12, val_main_v11, val_main_v10, val_main_v9]

theorem prod_eq (x0 : T0) (x1 : T1) (x2 : T2) (h : ∀ R : Fin 16384, (0 : EReal) ≤ x1 (ix2 R 0)) (R : Fin 16384) (l : Fin 8192) :
    (∑ k : Fin 4096, (val_main_v8 (F := Ideal) x0 x1 (ix2 R k) : EReal) * x2 (ix3 0 l k)) = inAt x0 x1 x2 R l := by
  unfold inAt
  obtain ⟨c, hc, e⟩ := scale_real (x1 (ix2 R 0)) (h R)
  rw [e]
  refine Eq.trans ?_ (sum_mul_real Finset.univ (fun k => x0 (ix2 R k) * x2 (ix3 0 l k)) c hc).symm
  refine Finset.sum_congr rfl fun k _ => ?_
  rw [r8, div_eq]
  refine (congrArg (fun s : EReal => x0 (ix2 R k) * s * x2 (ix3 0 l k)) e).trans ?_
  exact mul_right_comm _ _ _

theorem r13 (x0 : T0) (x1 : T1) (x2 : T2) (h : ∀ R : Fin 16384, (0 : EReal) ≤ x1 (ix2 R 0)) (R : Fin 16384) (l : Fin 8192) :
    (val_main_v13 (F := Ideal) x0 x1 x2 (ix2 R l) : EReal) = inAt x0 x1 x2 R l := by
  rw [← prod_eq x0 x1 x2 h R l, val_main_v13_apply]
  exact Finset.sum_congr rfl fun k _ => congrArg₂ (fun a b : EReal => a * b) (congrArg (val_main_v8 (F := Ideal) x0 x1) (by funext a; fin_cases a <;> rfl))
    ((congrArg (val_main_v12 (F := Ideal) x2) (by funext a; fin_cases a <;> rfl)).trans (r12 x2 k l))

theorem r14 (x0 : T0) (x1 : T1) (x2 : T2) (h : ∀ R : Fin 16384, (0 : EReal) ≤ x1 (ix2 R 0)) (R : Fin 16384) (l : Fin 8192) :
    (val_main_v14 (F := Ideal) x0 x1 x2 (ix2 R l) : EReal) = inAt x0 x1 x2 R l := by
  refine Eq.trans ?_ (r13 x0 x1 x2 h R l)
  unfold val_main_v14
  generalize val_main_v13 (F := Ideal) x0 x1 x2 = y
  pointwise

theorem r17 (x3 : T3) (r l : Fin 4096) : (val_main_v17 (F := Ideal) x3 (ix2 r l) : EReal) = woAt x3 r l := by
  unfold woAt
  pointwise [val_main_v17, val_main_v16, val_main_v15]
end Cert.InProjRefIdeal.Inp

namespace Cert.Proof.Inp
open Cert.InProjRefIdeal.Inp (T0 T1 T2 T3)

theorem factsPre : Cert.Pre_nonneg_in.Facts where
  slices_S16384x128_S16384x1_0_0 := by decide
  bcast_S_S16384x1 := by decide

attribute [local instance] factsPre

theorem nonneg_at (x0 : T0) (x1 : T1) (x2 : T2) (x3 : T3) (h : Cert.Pre_nonneg_in.fn (F := Ideal) x0 x1 x2 x3 = (fun _ => 1#1)) (R : Fin 16384) :
    (0 : EReal) ≤ x1 (ix2 R 0) := by
  have e := congrFun h (ix2 R (0 : Fin 1))
  have e2 : Ideal.cmp .oge (extractStridedSlice (s := Cert.Pre_nonneg_in.S16384x128) Cert.Pre_nonneg_in.S16384x1 ![0, 0] x1 factsPre.slices_S16384x128_S16384x1_0_0 (ix2 R (0 : Fin 1)))
      (Ideal.ofBits .f32 0x00000000#32) = 1#1 := e
  rw [extractStridedSlice_apply (s := Cert.Pre_nonneg_in.S16384x128) ![0, 0] x1 factsPre.slices_S16384x128_S16384x1_0_0 _ (ix2 R (0 : Fin 128))
    (by intro a; fin_cases a <;> simp [ix2])] at e2
  exact Ffn.le_of_cmp _ _ (by simp [Ideal.ofBits, Ideal.ieee]) e2

theorem frameRef : quiescent_InProjRefIdeal (hInProjRefIdeal := Cert.InProjRefIdeal.Gen.facts) := fun m g _ =>
  (θ_run (Cert.InProjRefIdeal.defs (F := Ideal)) (onTc (τ := Cert.InProjRefIdeal.τ) (Cert.InProjRefIdeal.main (F := Ideal))) _).mono
    (fun r h => And.intro (fun c => (h c).2.2) (sem_eq_zero_of_no_sems (by decide) r.2)) (Cert.InProjRefIdeal.Value.run m g)

abbrev M := (ℓ : Loc Cert.InProjIdeal.nD Cert.InProjIdeal.τ Cert.InProjIdeal.sig) → Buf (Elt Ideal) ℓ
/-- The arguments as launched. -/
abbrev a0 (m : M) (c : Dev Cert.InProjIdeal.nD) : T0 := m ((c.tc : Thread Cert.InProjIdeal.nD Cert.InProjIdeal.τ).loc Cert.InProjIdeal.main_arg0)
abbrev a1 (m : M) (c : Dev Cert.InProjIdeal.nD) : T1 := m ((c.tc : Thread Cert.InProjIdeal.nD Cert.InProjIdeal.τ).loc Cert.InProjIdeal.main_arg1)
abbrev a2 (m : M) (c : Dev Cert.InProjIdeal.nD) : T2 := m ((c.tc : Thread Cert.InProjIdeal.nD Cert.InProjIdeal.τ).loc Cert.InProjIdeal.main_arg2)
abbrev a3 (m : M) (c : Dev Cert.InProjIdeal.nD) : T3 := m ((c.tc : Thread Cert.InProjIdeal.nD Cert.InProjIdeal.τ).loc Cert.InProjIdeal.main_arg3)

theorem out_eq4 (m : M) (h : Pre_InProjIdeal_nonneg_in (hPre_nonneg_in := factsPre) m) (c : Dev Cert.InProjIdeal.nD) :
    ((Cert.InProjIdeal.Gen.dats m 0 c).arrAt 4 Cert.InProjIdeal.cfg0.N : FVec Ideal Cert.InProjIdeal.S16384x8192 .bf16)
      = Cert.InProjRefIdeal.Read.val_main_v14 (F := Ideal) (a0 m c) (a1 m c) (a2 m c) := by
  refine funext fun (i : (⟨2, ![16384, 8192]⟩ : Shape).Idx) => ?_
  rw [eq_ix2 i]
  refine (Cert.InProjIdeal.Inp.arr4 m c (i 0) (i 1)).trans ?_
  refine Eq.trans ?_ (Cert.InProjRefIdeal.Inp.r14 _ _ _ (nonneg_at _ _ _ _ (h c)) (i 0) (i 1)).symm
  rw [show Cert.InProjIdeal.Inp.A0 m c = a0 m c from Cert.InProjIdeal.Gen.V_main_arg0 m c, show Cert.InProjIdeal.Inp.A1 m c = a1 m c from Cert.InProjIdeal.Gen.V_main_arg1 m c,
    show Cert.InProjIdeal.Inp.A2 m c = a2 m c from Cert.InProjIdeal.Gen.V_main_arg2 m c]

theorem out_eq5 (m : M) (c : Dev Cert.InProjIdeal.nD) :
    ((Cert.InProjIdeal.Gen.dats m 0 c).arrAt 5 Cert.InProjIdeal.cfg0.N : FVec Ideal Cert.InProjIdeal.S4096x4096 .bf16)
      = Cert.InProjRefIdeal.Read.val_main_v17 (F := Ideal) (a3 m c) := by
  refine funext fun (i : (⟨2, ![4096, 4096]⟩ : Shape).Idx) => ?_
  rw [eq_ix2 i]
  refine (Cert.InProjIdeal.Inp.arr5 m c (i 0) (i 1)).trans ?_
  refine Eq.trans ?_ (Cert.InProjRefIdeal.Inp.r17 _ (i 0) (i 1)).symm
  rw [show Cert.InProjIdeal.Inp.A3 m c = a3 m c from Cert.InProjIdeal.Gen.V_main_arg3 m c]

theorem algebraic : algebraic_InProjIdeal_InProjRefIdeal_pre_nonneg_in (hInProjIdeal := Cert.InProjIdeal.Gen.facts) (hInProjRefIdeal := Cert.InProjRefIdeal.Gen.facts) (hPre_nonneg_in := factsPre) := by
  intro m g m' g' hpre harg
  refine ⟨fun c => Cert.InProjRefIdeal.Read.val_main_v14 (F := Ideal) (a0 m c) (a1 m c) (a2 m c), fun c => Cert.InProjRefIdeal.Read.val_main_v17 (F := Ideal) (a3 m c), ?_, ?_⟩
  · refine (θ_run _ _ _).mono (fun r h c => ?_) (θ_run_and (Cert.InProjIdeal.Gen.run_main m g) (Cert.InProjIdeal.Gen.unchanged m g))
    exact ⟨((h.1 c).1 4).trans (out_eq4 m hpre c), ((h.1 c).1 5).trans (out_eq5 m c), h.2 c⟩
  · refine (θ_run _ _ _).mono (fun r h c => ?_) (Cert.InProjRefIdeal.Value.run m' g')
    obtain ⟨h0, h1, h2, h3⟩ := harg c
    refine ⟨((h c).1).trans ((Cert.InProjRefIdeal.Read.val_main_v14_eq _ _ _).trans ?_), ((h c).2.1).trans ((Cert.InProjRefIdeal.Read.val_main_v17_eq _).trans ?_), (h c).2.2⟩
    · exact congr (congrArg₂ (Cert.InProjRefIdeal.Read.val_main_v14 (F := Ideal)) h0 h1) h2
    · exact congrArg (Cert.InProjRefIdeal.Read.val_main_v17 (F := Ideal)) h3
end Cert.Proof.Inp
end
-- ==== Proof.MixArr.lean ====
/- The mixer's output projection: what the kernel leaves. -/
module

public import proofs.«01_k».proof.Proof.Gen.MixOutIdeal.Frame
public import Idealize.ShloMosaic.Lib.Pipeline.ValueKit
public import Idealize.ShloMosaic.Lib.Pointwise
public import Idealize.ShloMosaic.Lib.WritesUnit

@[expose] public section
set_option maxRecDepth 16384
noncomputable section
open Idealize.ShloMosaic Idealize.ShloMosaic.TcCoe Idealize.SL.Sem
open Idealize.ShloMosaic.Pipeline (Dat)

namespace Cert.MixOutIdeal.Mix
open Cert.MixOutIdeal Cert.MixOutIdeal.Gen

/-- The residual plus the three mixers' products. -/
@[irreducible] def mixAt (X0 X1 : FVec Ideal S16384x1024 .bf16) (X2 : FVec Ideal S16384x2048 .bf16) (W : FVec Ideal S4096x4096 .bf16) (H : FVec Ideal S16384x4096 .f32)
    (r : Fin 16384) (l : Fin 4096) : EReal :=
  H (ix2 r l) + ((∑ k : Fin 1024, X0 (ix2 r k) * W (ix2 ⟨k, by omega⟩ l)) + (∑ k : Fin 1024, X1 (ix2 r k) * W (ix2 ⟨1024 + k, by omega⟩ l))
    + ∑ k : Fin 2048, X2 (ix2 r k) * W (ix2 ⟨2048 + k, by omega⟩ l))

/-- A row's squares, summed over the first columns. -/
@[irreducible] def sq (f : Fin 4096 → EReal) (n : ℕ) : EReal := ∑ k ∈ Finset.range n, if h : k < 4096 then f ⟨k, h⟩ * f ⟨k, h⟩ else 0

theorem sq_zero (f : Fin 4096 → EReal) : sq f 0 = 0 := by unfold sq; simp
theorem sq_full (f : Fin 4096 → EReal) : sq f 4096 = ∑ k : Fin 4096, f k * f k := by
  unfold sq
  rw [Finset.sum_range]
  exact Finset.sum_congr rfl fun k _ => dif_pos k.isLt
theorem sq_add (f : Fin 4096 → EReal) (n w : ℕ) (h : n + w ≤ 4096) : sq f (n + w) = sq f n + ∑ k : Fin w, f ⟨n + k, by omega⟩ * f ⟨n + k, by omega⟩ := by
  unfold sq
  rw [Finset.sum_range_add, Finset.sum_range (n := w)]
  exact congrArg _ (Finset.sum_congr rfl fun k _ => dif_pos (by omega))

theorem idx0 : ∀ t : Fin cfg0.N, win0_0.index t = ![t.val / 8, 0] := (by decide +kernel : ∀ t : Fin grid0.N, _)
theorem idx1 : ∀ t : Fin cfg0.N, win0_1.index t = ![t.val / 8, 0] := (by decide +kernel : ∀ t : Fin grid0.N, _)
theorem idx2 : ∀ t : Fin cfg0.N, win0_2.index t = ![t.val / 8, 0] := (by decide +kernel : ∀ t : Fin grid0.N, _)
theorem idx3 : ∀ t : Fin cfg0.N, win0_3.index t = ![0, t.val % 8] := (by decide +kernel : ∀ t : Fin grid0.N, _)
theorem idx4 : ∀ t : Fin cfg0.N, win0_4.index t = ![1, t.val % 8] := (by decide +kernel : ∀ t : Fin grid0.N, _)
theorem idx5 : ∀ t : Fin cfg0.N, win0_5.index t = ![1, t.val % 8] := (by decide +kernel : ∀ t : Fin grid0.N, _)
theorem idx6 : ∀ t : Fin cfg0.N, win0_6.index t = ![t.val / 8, t.val % 8] := (by decide +kernel : ∀ t : Fin grid0.N, _)
theorem idx7 : ∀ t : Fin cfg0.N, win0_7.index t = ![t.val / 8, t.val % 8] := (by decide +kernel : ∀ t : Fin grid0.N, _)
theorem idx8 : ∀ t : Fin cfg0.N, win0_8.index t = ![t.val / 8, t.val % 8] := (by decide +kernel : ∀ t : Fin grid0.N, _)
theorem idx9 : ∀ t : Fin cfg0.N, win0_9.index t = ![t.val / 8, 0] := (by decide +kernel : ∀ t : Fin grid0.N, _)
theorem flush9 : ∀ t : Fin cfg0.N, (cfg0.win 9).flush t = true → t.val % 8 = 7 := (by decide +kernel : ∀ t : Fin grid0.N, (cfg0.win 9).flush t = true → _)
theorem tlt (t : Fin cfg0.N) : t.val < 128 := lt_of_lt_of_eq t.isLt N_0

variable (m : (ℓ : Loc nD τ sig) → Buf (Elt Ideal) ℓ)

def A0 (c : Dev nD) : FVec Ideal S16384x1024 .bf16 := V m c main_arg0
def A1 (c : Dev nD) : FVec Ideal S16384x1024 .bf16 := V m c main_arg1
def A2 (c : Dev nD) : FVec Ideal S16384x2048 .bf16 := V m c main_arg2
def A3 (c : Dev nD) : FVec Ideal S4096x4096 .bf16 := V m c main_arg3
def A4 (c : Dev nD) : FVec Ideal S16384x4096 .f32 := V m c main_arg4

/-- The sum at an entry. -/
def mixM (c : Dev nD) (r : Fin 16384) (l : Fin 4096) : EReal := mixAt (A0 m c) (A1 m c) (A2 m c) (A3 m c) (A4 m c) r l

theorem b0 (c : Dev nD) (t : Fin cfg0.N) (a b : Fin 1024) :
    (iblk m c 0 t : FVec Ideal S1024x1024 .bf16) (ix2 a b) = (V m c main_arg0 : FVec Ideal S16384x1024 .bf16) (ix2 ⟨1024 * (t.val / 8) + a, by have := tlt t; omega⟩ b) := by
  have ht := tlt t
  blk_ext [iblk, idx0 t]
theorem b1 (c : Dev nD) (t : Fin cfg0.N) (a b : Fin 1024) :
    (iblk m c 1 t : FVec Ideal S1024x1024 .bf16) (ix2 a b) = (V m c main_arg1 : FVec Ideal S16384x1024 .bf16) (ix2 ⟨1024 * (t.val / 8) + a, by have := tlt t; omega⟩ b) := by
  have ht := tlt t
  blk_ext [iblk, idx1 t]
theorem b2 (c : Dev nD) (t : Fin cfg0.N) (a : Fin 1024) (b : Fin 2048) :
    (iblk m c 2 t : FVec Ideal S1024x2048 .bf16) (ix2 a b) = (V m c main_arg2 : FVec Ideal S16384x2048 .bf16) (ix2 ⟨1024 * (t.val / 8) + a, by have := tlt t; omega⟩ b) := by
  have ht := tlt t
  blk_ext [iblk, idx2 t]
theorem b3 (c : Dev nD) (t : Fin cfg0.N) (a : Fin 1024) (b : Fin 512) :
    (iblk m c 3 t : FVec Ideal S1024x512 .bf16) (ix2 a b) = (V m c main_arg3 : FVec Ideal S4096x4096 .bf16) (ix2 ⟨a, by omega⟩ ⟨512 * (t.val % 8) + b, by omega⟩) := by
  have ht := tlt t
  blk_ext [iblk, idx3 t]
theorem b4 (c : Dev nD) (t : Fin cfg0.N) (a : Fin 1024) (b : Fin 512) :
    (iblk m c 4 t : FVec Ideal S1024x512 .bf16) (ix2 a b) = (V m c main_arg3 : FVec Ideal S4096x4096 .bf16) (ix2 ⟨1024 + a, by omega⟩ ⟨512 * (t.val % 8) + b, by omega⟩) := by
  have ht := tlt t
  blk_ext [iblk, idx4 t]
theorem b5 (c : Dev nD) (t : Fin cfg0.N) (a : Fin 2048) (b : Fin 512) :
    (iblk m c 5 t : FVec Ideal S2048x512 .bf16) (ix2 a b) = (V m c main_arg3 : FVec Ideal S4096x4096 .bf16) (ix2 ⟨2048 + a, by omega⟩ ⟨512 * (t.val % 8) + b, by omega⟩) := by
  have ht := tlt t
  blk_ext [iblk, idx5 t]
theorem b6 (c : Dev nD) (t : Fin cfg0.N) (a : Fin 1024) (b : Fin 512) :
    (iblk m c 6 t : FVec Ideal S1024x512 .f32) (ix2 a b) = (V m c main_arg4 : FVec Ideal S16384x4096 .f32) (ix2 ⟨1024 * (t.val / 8) + a, by have := tlt t; omega⟩ ⟨512 * (t.val % 8) + b, by omega⟩) := by
  have ht := tlt t
  blk_ext [iblk, idx6 t]

theorem pay1_at (x0 : FVec Ideal S1024x1024 .bf16) (w0 : FVec Ideal S1024x512 .bf16) (x1 : FVec Ideal S1024x1024 .bf16) (w1 : FVec Ideal S1024x512 .bf16)
    (x2 : FVec Ideal S1024x2048 .bf16) (w2 : FVec Ideal S2048x512 .bf16) (h : FVec Ideal S1024x512 .f32) (r : Fin 1024) (l : Fin 512) :
    (k0_pay1 (F := Ideal) x0 w0 x1 w1 x2 w2 h (ix2 r l) : EReal)
      = h (ix2 r l) + ((∑ k : Fin 1024, x0 (ix2 r k) * w0 (ix2 k l)) + (∑ k : Fin 1024, x1 (ix2 r k) * w1 (ix2 k l)) + ∑ k : Fin 2048, x2 (ix2 r k) * w2 (ix2 k l)) := by
  unfold k0_pay1
  pointwise

/-- The block a point leaves. -/
def P (c : Dev nD) (t : Fin cfg0.N) : FVec Ideal S1024x512 .f32 :=
  k0_pay1 (iblk m c 0 t) (iblk m c 3 t) (iblk m c 1 t) (iblk m c 4 t) (iblk m c 2 t) (iblk m c 5 t) (iblk m c 6 t)

theorem P_at (c : Dev nD) (t : Fin cfg0.N) (a : Fin 1024) (b : Fin 512) :
    (P m c t (ix2 a b) : EReal) = mixM m c ⟨1024 * (t.val / 8) + a, by have := tlt t; omega⟩ ⟨512 * (t.val % 8) + b, by omega⟩ := by
  refine (pay1_at _ _ _ _ _ _ _ a b).trans ?_
  unfold mixM mixAt
  exact congrArg₂ (fun a b : EReal => a + b) (b6 m c t a b)
    (congrArg₂ (fun a b : EReal => a + b)
      (congrArg₂ (fun a b : EReal => a + b)
        (Finset.sum_congr rfl fun k _ => congrArg₂ (fun a b : EReal => a * b) (b0 m c t a k) (b3 m c t k b))
        (Finset.sum_congr rfl fun k _ => congrArg₂ (fun a b : EReal => a * b) (b1 m c t a k) (b4 m c t k b)))
      (Finset.sum_congr rfl fun k _ => congrArg₂ (fun a b : EReal => a * b) (b2 m c t a k) (b5 m c t k b)))

theorem out7 (c : Dev nD) (t : Fin cfg0.N) : (outsAt0 m c t.val t.isLt).1 = P m c t := by
  unfold P
  by_cases h0 : t.val % 8 = 0
  · rw [outsAt0_A m c t h0 (by omega)]
    unfold out0_A_7
    frame_out
  · rw [outsAt0_B m c t h0 (by omega)]
    unfold out0_B_7
    frame_out

theorem out8 (c : Dev nD) (t : Fin cfg0.N) : (outsAt0 m c t.val t.isLt).2.1 = truncf .bf16 (P m c t) bitsLt_bf16_f32 := by
  unfold P
  by_cases h0 : t.val % 8 = 0
  · rw [outsAt0_A m c t h0 (by omega)]
    unfold out0_A_8
    frame_out
    rfl
  · rw [outsAt0_B m c t h0 (by omega)]
    unfold out0_B_8
    frame_out
    rfl

theorem outA9 (c : Dev nD) (t : Fin cfg0.N) (h0 : t.val % 8 = 0) :
    (outsAt0 m c t.val t.isLt).2.2 = k0_pay3 (iblk m c 0 t) (iblk m c 3 t) (iblk m c 1 t) (iblk m c 4 t) (iblk m c 2 t) (iblk m c 5 t) (iblk m c 6 t) := by
  rw [outsAt0_A m c t h0 (by omega)]
  unfold out0_A_9
  frame_out

theorem outB9 (c : Dev nD) (t : Fin cfg0.N) (h0 : ¬ t.val % 8 = 0) :
    (outsAt0 m c t.val t.isLt).2.2 = k0_pay4 (iblk m c 0 t) (iblk m c 3 t) (iblk m c 1 t) (iblk m c 4 t) (iblk m c 2 t) (iblk m c 5 t) (iblk m c 6 t)
      (outsAt0 m c (t.val - 1) (by omega)).2.2 := by
  rw [outsAt0_B m c t h0 (by omega)]
  unfold out0_B_9
  frame_out

theorem pay3_at (x0 : FVec Ideal S1024x1024 .bf16) (w0 : FVec Ideal S1024x512 .bf16) (x1 : FVec Ideal S1024x1024 .bf16) (w1 : FVec Ideal S1024x512 .bf16)
    (x2 : FVec Ideal S1024x2048 .bf16) (w2 : FVec Ideal S2048x512 .bf16) (h : FVec Ideal S1024x512 .f32) (r : Fin 1024) (l : Fin 128) :
    (k0_pay3 (F := Ideal) x0 w0 x1 w1 x2 w2 h (ix2 r l) : EReal)
      = ∑ k : Fin 512, (k0_pay1 (F := Ideal) x0 w0 x1 w1 x2 w2 h (ix2 r k) : EReal) * (k0_pay1 (F := Ideal) x0 w0 x1 w1 x2 w2 h (ix2 r k) : EReal) := by
  unfold k0_pay3
  generalize k0_pay1 (F := Ideal) x0 w0 x1 w1 x2 w2 h = y
  pointwise

theorem pay4_at (x0 : FVec Ideal S1024x1024 .bf16) (w0 : FVec Ideal S1024x512 .bf16) (x1 : FVec Ideal S1024x1024 .bf16) (w1 : FVec Ideal S1024x512 .bf16)
    (x2 : FVec Ideal S1024x2048 .bf16) (w2 : FVec Ideal S2048x512 .bf16) (h : FVec Ideal S1024x512 .f32) (q : FVec Ideal S1024x128 .f32) (r : Fin 1024) (l : Fin 128) :
    (k0_pay4 (F := Ideal) x0 w0 x1 w1 x2 w2 h q (ix2 r l) : EReal) = q (ix2 r l) + (k0_pay3 (F := Ideal) x0 w0 x1 w1 x2 w2 h (ix2 r l) : EReal) := by
  unfold k0_pay4
  generalize k0_pay3 (F := Ideal) x0 w0 x1 w1 x2 w2 h = y
  pointwise

theorem ssq_step (c : Dev nD) (t : Fin cfg0.N) (a : Fin 1024) (l : Fin 128) :
    (k0_pay3 (F := Ideal) (iblk m c 0 t) (iblk m c 3 t) (iblk m c 1 t) (iblk m c 4 t) (iblk m c 2 t) (iblk m c 5 t) (iblk m c 6 t) (ix2 a l) : EReal)
      = ∑ k : Fin 512, mixM m c ⟨1024 * (t.val / 8) + a, by have := tlt t; omega⟩ ⟨512 * (t.val % 8) + k, by omega⟩ * mixM m c ⟨1024 * (t.val / 8) + a, by have := tlt t; omega⟩ ⟨512 * (t.val % 8) + k, by omega⟩ :=
  (pay3_at _ _ _ _ _ _ _ a l).trans (Finset.sum_congr rfl fun k _ => congrArg₂ (fun a b : EReal => a * b) (P_at m c t a k) (P_at m c t a k))

theorem out9 (c : Dev nD) : ∀ (n : ℕ) (hn : n < cfg0.N) (a : Fin 1024) (l : Fin 128),
    ((outsAt0 m c n hn).2.2 (ix2 a l) : EReal) = sq (mixM m c ⟨1024 * (n / 8) + a, by have := lt_of_lt_of_eq hn N_0; omega⟩) (512 * (n % 8) + 512)
  | n, hn, a, l => by
    have hN := lt_of_lt_of_eq hn N_0
    rw [sq_add _ _ _ (by omega)]
    by_cases h0 : n % 8 = 0
    · refine (congrFun (outA9 m c ⟨n, hn⟩ h0) (ix2 a l)).trans ((ssq_step m c ⟨n, hn⟩ a l).trans ?_)
      have z : sq (mixM m c ⟨1024 * (n / 8) + a, by omega⟩) (512 * (n % 8)) = 0 := by
        rw [show 512 * (n % 8) = 0 by omega, sq_zero]
      rw [z, zero_add]
    · refine (congrFun (outB9 m c ⟨n, hn⟩ h0) (ix2 a l)).trans ((pay4_at _ _ _ _ _ _ _ _ a l).trans ?_)
      refine congrArg₂ (fun a b : EReal => a + b) ?_ (ssq_step m c ⟨n, hn⟩ a l)
      refine (out9 c (n - 1) (by omega) a l).trans ?_
      have e1 : 512 * ((n - 1) % 8) + 512 = 512 * (n % 8) := by omega
      rw [e1]
      refine congrArg (fun r => sq (mixM m c r) (512 * (n % 8))) (Fin.ext ?_)
      show 1024 * ((n - 1) / 8) + (a : ℕ) = 1024 * (n / 8) + a
      omega
  termination_by n => n
  decreasing_by omega

theorem arr7 (c : Dev nD) (r : Fin 16384) (l : Fin 4096) :
    ((dats m 0 c).arrAt 7 cfg0.N : FVec Ideal S16384x4096 .f32) (ix2 r l) = mixM m c r l := by
  refine congrFun ((dats m 0 c).arrAt_eq_of_covers 7 (fun y : S16384x4096.Idx => mixM m c (y 0) (y 1)) (by decide +kernel) fun t hf y => ?_) (ix2 r l)
  rw [after0_7, out7]
  have ht := tlt t
  have e := P_at m c t
  generalize P m c t = Z at e ⊢
  obtain ⟨a, b, rfl⟩ : ∃ (a : Fin 1024) (b : Fin 512), y = ix2 a b := ⟨y 0, y 1, eq_ix2 (n0 := 1024) (n1 := 512) y⟩
  refine (e a b).trans ?_
  refine congrArg₂ (mixM m c) (Fin.ext ?_) (Fin.ext ?_)
  · blk_simp [idx7 t]
    show 1024 * (t.val / 8) + (a : ℕ) = t.val / 8 * 1024 + (a : ℕ)
    omega
  · blk_simp [idx7 t]
    show 512 * (t.val % 8) + (b : ℕ) = t.val % 8 * 512 + (b : ℕ)
    omega

theorem trunc_at (Z : FVec Ideal S1024x512 .f32) (a : Fin 1024) (b : Fin 512) : (truncf (F := Ideal) .bf16 Z bitsLt_bf16_f32 (ix2 a b) : EReal) = Z (ix2 a b) := by
  pointwise

theorem arr8 (c : Dev nD) (r : Fin 16384) (l : Fin 4096) :
    ((dats m 0 c).arrAt 8 cfg0.N : FVec Ideal S16384x4096 .bf16) (ix2 r l) = mixM m c r l := by
  refine congrFun ((dats m 0 c).arrAt_eq_of_covers 8 (fun y : S16384x4096.Idx => mixM m c (y 0) (y 1)) (by decide +kernel) fun t hf y => ?_) (ix2 r l)
  rw [after0_8, out8]
  have ht := tlt t
  have e := fun a b => (trunc_at (P m c t) a b).trans (P_at m c t a b)
  generalize truncf (F := Ideal) .bf16 (P m c t) bitsLt_bf16_f32 = Z at e ⊢
  obtain ⟨a, b, rfl⟩ : ∃ (a : Fin 1024) (b : Fin 512), y = ix2 a b := ⟨y 0, y 1, eq_ix2 (n0 := 1024) (n1 := 512) y⟩
  refine (e a b).trans ?_
  refine congrArg₂ (mixM m c) (Fin.ext ?_) (Fin.ext ?_)
  · blk_simp [idx8 t]
    show 1024 * (t.val / 8) + (a : ℕ) = t.val / 8 * 1024 + (a : ℕ)
    omega
  · blk_simp [idx8 t]
    show 512 * (t.val % 8) + (b : ℕ) = t.val % 8 * 512 + (b : ℕ)
    omega

theorem arr9 (c : Dev nD) (r : Fin 16384) (l : Fin 128) :
    ((dats m 0 c).arrAt 9 cfg0.N : FVec Ideal S16384x128 .f32) (ix2 r l) = ∑ k : Fin 4096, mixM m c r k * mixM m c r k := by
  rw [← sq_full]
  refine congrFun ((dats m 0 c).arrAt_eq_of_covers 9 (fun y : S16384x128.Idx => sq (mixM m c (y 0)) 4096) (by decide +kernel) fun t hf y => ?_) (ix2 r l)
  rw [after0_9]
  have ht := tlt t
  have h7 := flush9 t hf
  have e := out9 m c t.val t.isLt
  generalize (outsAt0 m c t.val t.isLt).2.2 = Z at e ⊢
  obtain ⟨a, b, rfl⟩ : ∃ (a : Fin 1024) (b : Fin 128), y = ix2 a b := ⟨y 0, y 1, eq_ix2 (n0 := 1024) (n1 := 128) y⟩
  refine (e a b).trans ?_
  rw [show 512 * (t.val % 8) + 512 = 4096 by omega]
  refine congrArg (fun r => sq (mixM m c r) 4096) (Fin.ext ?_)
  blk_simp [idx9 t]
  show 1024 * (t.val / 8) + (a : ℕ) = t.val / 8 * 1024 + (a : ℕ)
  omega
end Cert.MixOutIdeal.Mix
end
-- ==== Proof.MixAlg.lean ====
/- The mixer's output projection: the kernel's results are the reference's. -/
module

public import proofs.«01_k».proof.Defs
public import proofs.«01_k».proof.Proof.MixArr
public import proofs.«01_k».proof.Proof.Gen.MixOutRefIdeal.Run
public import proofs.«01_k».proof.Proof.Gen.MixOutRefIdeal.Read
public import Idealize.ShloMosaic.Lib.KernelVsHost
public import Idealize.ShloMosaic.Adequacy
public import Idealize.ShloMosaic.Init

@[expose] public section
set_option maxRecDepth 16384
noncomputable section
open Idealize.ShloMosaic Idealize.ShloMosaic.TcCoe Idealize.SL.Sem

namespace Cert.MixOutRefIdeal.Mix
open Cert.MixOutRefIdeal Cert.MixOutRefIdeal.Gen Cert.MixOutRefIdeal.Read
open Cert.MixOutIdeal.Mix (mixAt)

abbrev T0 := (⟨S16384x1024, .bf16⟩ : BufTy).Contents (Elt Ideal)
abbrev T2 := (⟨S16384x2048, .bf16⟩ : BufTy).Contents (Elt Ideal)
abbrev T3 := (⟨S4096x4096, .bf16⟩ : BufTy).Contents (Elt Ideal)
abbrev T4 := (⟨S16384x4096, .f32⟩ : BufTy).Contents (Elt Ideal)

theorem r3 (x0 x1 : T0) (x2 : T2) (R : Fin 16384) (k : Fin 4096) :
    (val_main_v3 (F := Ideal) x0 x1 x2 (ix2 R k) : EReal)
      = if h : k.val < 1024 then x0 (ix2 R ⟨k, h⟩) else if h2 : k.val < 2048 then x1 (ix2 R ⟨k - 1024, by omega⟩) else x2 (ix2 R ⟨k - 2048, by omega⟩) := by
  pointwise [val_main_v3, val_main_v0, val_main_v1, val_main_v2]
  by_cases h : (k : ℕ) < 1024
  · rw [dif_pos h, dif_pos h]
  · rw [dif_neg h, dif_neg h]
    by_cases h2 : (k : ℕ) < 2048
    · rw [dif_pos h2, dif_pos (show (k : ℕ) - 1024 < 1024 by omega)]
    · rw [dif_neg h2, dif_neg (show ¬ (k : ℕ) - 1024 < 1024 by omega)]
      exact congrArg (fun j => x2 (ix2 R j)) (Fin.ext (show (k : ℕ) - 1024 - 1024 = k - 2048 by omega))

theorem sum_split (f : Fin 4096 → EReal) : ∑ k : Fin 4096, f k
    = (∑ k : Fin 1024, f ⟨k, by omega⟩) + (∑ k : Fin 1024, f ⟨1024 + k, by omega⟩) + ∑ k : Fin 2048, f ⟨2048 + k, by omega⟩ := by
  refine (Fin.sum_univ_add (a := 2048) (b := 2048) f).trans (congrArg₂ (fun a b : EReal => a + b) ?_ rfl)
  exact Fin.sum_univ_add (a := 1024) (b := 1024) fun k => f (Fin.castAdd 2048 k)

theorem r4 (x3 : T3) (k l : Fin 4096) : (val_main_v4 (F := Ideal) x3 (ix2 k l) : EReal) = x3 (ix2 k l) := by
  pointwise [val_main_v4]

theorem r5 (x0 x1 : T0) (x2 : T2) (x3 : T3) (R : Fin 16384) (l : Fin 4096) :
    (val_main_v5 (F := Ideal) x0 x1 x2 x3 (ix2 R l) : EReal) = (∑ k : Fin 1024, x0 (ix2 R k) * x3 (ix2 ⟨k, by omega⟩ l)) + (∑ k : Fin 1024, x1 (ix2 R k) * x3 (ix2 ⟨1024 + k, by omega⟩ l))
    + ∑ k : Fin 2048, x2 (ix2 R k) * x3 (ix2 ⟨2048 + k, by omega⟩ l) := by
  have e : (val_main_v5 (F := Ideal) x0 x1 x2 x3 (ix2 R l) : EReal) = ∑ k : Fin 4096, (val_main_v3 (F := Ideal) x0 x1 x2 (ix2 R k) : EReal) * x3 (ix2 k l) := by
    rw [val_main_v5_apply]
    exact Finset.sum_congr rfl fun k _ => congrArg₂ (fun a b : EReal => a * b) (congrArg (val_main_v3 (F := Ideal) x0 x1 x2) (by funext a; fin_cases a <;> rfl))
      ((congrArg (val_main_v4 (F := Ideal) x3) (by funext a; fin_cases a <;> rfl)).trans (r4 x3 k l))
  rw [e, sum_split]
  refine congrArg₂ (fun a b : EReal => a + b) (congrArg₂ (fun a b : EReal => a + b) ?_ ?_) ?_
  · refine Finset.sum_congr rfl fun k _ => congrArg (fun z : EReal => z * _) ?_
    rw [r3, dif_pos (show (k : ℕ) < 1024 from k.isLt)]
  · refine Finset.sum_congr rfl fun k _ => congrArg (fun z : EReal => z * _) ?_
    rw [r3, dif_neg (show ¬ 1024 + (k : ℕ) < 1024 by omega), dif_pos (show 1024 + (k : ℕ) < 2048 by omega)]
    exact congrArg (fun j => x1 (ix2 R j)) (Fin.ext (show 1024 + (k : ℕ) - 1024 = k by omega))
  · refine Finset.sum_congr rfl fun k _ => congrArg (fun z : EReal => z * _) ?_
    rw [r3, dif_neg (show ¬ 2048 + (k : ℕ) < 1024 by omega), dif_neg (show ¬ 2048 + (k : ℕ) < 2048 by omega)]
    exact congrArg (fun j => x2 (ix2 R j)) (Fin.ext (show 2048 + (k : ℕ) - 2048 = k by omega))

theorem r6 (x0 x1 : T0) (x2 : T2) (x3 : T3) (x4 : T4) (R : Fin 16384) (l : Fin 4096) :
    (val_main_v6 (F := Ideal) x0 x1 x2 x3 x4 (ix2 R l) : EReal) = mixAt x0 x1 x2 x3 x4 R l := by
  have e := r5 x0 x1 x2 x3 R l
  unfold mixAt
  rw [← e]
  unfold val_main_v6
  generalize val_main_v5 (F := Ideal) x0 x1 x2 x3 = y
  pointwise

theorem r7 (x0 x1 : T0) (x2 : T2) (x3 : T3) (x4 : T4) (R : Fin 16384) (l : Fin 4096) :
    (val_main_v7 (F := Ideal) x0 x1 x2 x3 x4 (ix2 R l) : EReal) = mixAt x0 x1 x2 x3 x4 R l := by
  refine Eq.trans ?_ (r6 x0 x1 x2 x3 x4 R l)
  unfold val_main_v7
  generalize val_main_v6 (F := Ideal) x0 x1 x2 x3 x4 = y
  pointwise

theorem r11 (x0 x1 : T0) (x2 : T2) (x3 : T3) (x4 : T4) (R : Fin 16384) (l : Fin 128) :
    (val_main_v11 (F := Ideal) x0 x1 x2 x3 x4 (ix2 R l) : EReal) = ∑ k : Fin 4096, mixAt x0 x1 x2 x3 x4 R k * mixAt x0 x1 x2 x3 x4 R k := by
  have e := r6 x0 x1 x2 x3 x4 R
  refine Eq.trans ?_ (Finset.sum_congr rfl fun k _ => congrArg₂ (fun a b : EReal => a * b) (e k) (e k))
  unfold val_main_v11 val_main_v10 val_main_v9 val_main_v8
  generalize val_main_v6 (F := Ideal) x0 x1 x2 x3 x4 = y
  pointwise
  refine (congrArg (fun z : EReal => z + ∑ k : Fin 4096, y (ix2 R k) * y (ix2 R k)) ?_).trans (zero_add _)
  show (Ideal.ofBits .f32 0x00000000#32 : EReal) = 0
  simp [Ideal.ofBits, Ideal.ieee]
end Cert.MixOutRefIdeal.Mix

namespace Cert.Proof.Mix
open Cert.MixOutRefIdeal.Mix (T0 T2 T3 T4)
open Cert.MixOutRefIdeal.Read (val_main_v6 val_main_v7 val_main_v11)

theorem frameRef : quiescent_MixOutRefIdeal (hMixOutRefIdeal := Cert.MixOutRefIdeal.Gen.facts) := fun m g _ =>
  (θ_run (Cert.MixOutRefIdeal.defs (F := Ideal)) (onTc (τ := Cert.MixOutRefIdeal.τ) (Cert.MixOutRefIdeal.main (F := Ideal))) _).mono
    (fun r h => And.intro (fun c => (h c).2.2.2) (sem_eq_zero_of_no_sems (by decide) r.2)) (Cert.MixOutRefIdeal.Value.run m g)

abbrev M := (ℓ : Loc Cert.MixOutIdeal.nD Cert.MixOutIdeal.τ Cert.MixOutIdeal.sig) → Buf (Elt Ideal) ℓ
/-- The arguments as launched. -/
abbrev a0 (m : M) (c : Dev Cert.MixOutIdeal.nD) : T0 := m ((c.tc : Thread Cert.MixOutIdeal.nD Cert.MixOutIdeal.τ).loc Cert.MixOutIdeal.main_arg0)
abbrev a1 (m : M) (c : Dev Cert.MixOutIdeal.nD) : T0 := m ((c.tc : Thread Cert.MixOutIdeal.nD Cert.MixOutIdeal.τ).loc Cert.MixOutIdeal.main_arg1)
abbrev a2 (m : M) (c : Dev Cert.MixOutIdeal.nD) : T2 := m ((c.tc : Thread Cert.MixOutIdeal.nD Cert.MixOutIdeal.τ).loc Cert.MixOutIdeal.main_arg2)
abbrev a3 (m : M) (c : Dev Cert.MixOutIdeal.nD) : T3 := m ((c.tc : Thread Cert.MixOutIdeal.nD Cert.MixOutIdeal.τ).loc Cert.MixOutIdeal.main_arg3)
abbrev a4 (m : M) (c : Dev Cert.MixOutIdeal.nD) : T4 := m ((c.tc : Thread Cert.MixOutIdeal.nD Cert.MixOutIdeal.τ).loc Cert.MixOutIdeal.main_arg4)

theorem mixM_eq (m : M) (c : Dev Cert.MixOutIdeal.nD) (r : Fin 16384) (l : Fin 4096) :
    Cert.MixOutIdeal.Mix.mixM m c r l = Cert.MixOutIdeal.Mix.mixAt (a0 m c) (a1 m c) (a2 m c) (a3 m c) (a4 m c) r l := by
  unfold Cert.MixOutIdeal.Mix.mixM
  rw [show Cert.MixOutIdeal.Mix.A0 m c = a0 m c from Cert.MixOutIdeal.Gen.V_main_arg0 m c, show Cert.MixOutIdeal.Mix.A1 m c = a1 m c from Cert.MixOutIdeal.Gen.V_main_arg1 m c,
    show Cert.MixOutIdeal.Mix.A2 m c = a2 m c from Cert.MixOutIdeal.Gen.V_main_arg2 m c, show Cert.MixOutIdeal.Mix.A3 m c = a3 m c from Cert.MixOutIdeal.Gen.V_main_arg3 m c,
    show Cert.MixOutIdeal.Mix.A4 m c = a4 m c from Cert.MixOutIdeal.Gen.V_main_arg4 m c]

theorem out_eq7 (m : M) (c : Dev Cert.MixOutIdeal.nD) :
    ((Cert.MixOutIdeal.Gen.dats m 0 c).arrAt 7 Cert.MixOutIdeal.cfg0.N : FVec Ideal Cert.MixOutIdeal.S16384x4096 .f32)
      = val_main_v6 (F := Ideal) (a0 m c) (a1 m c) (a2 m c) (a3 m c) (a4 m c) := by
  refine funext fun (i : (⟨2, ![16384, 4096]⟩ : Shape).Idx) => ?_
  rw [eq_ix2 i]
  exact ((Cert.MixOutIdeal.Mix.arr7 m c (i 0) (i 1)).trans (mixM_eq m c _ _)).trans (Cert.MixOutRefIdeal.Mix.r6 _ _ _ _ _ (i 0) (i 1)).symm

theorem out_eq8 (m : M) (c : Dev Cert.MixOutIdeal.nD) :
    ((Cert.MixOutIdeal.Gen.dats m 0 c).arrAt 8 Cert.MixOutIdeal.cfg0.N : FVec Ideal Cert.MixOutIdeal.S16384x4096 .bf16)
      = val_main_v7 (F := Ideal) (a0 m c) (a1 m c) (a2 m c) (a3 m c) (a4 m c) := by
  refine funext fun (i : (⟨2, ![16384, 4096]⟩ : Shape).Idx) => ?_
  rw [eq_ix2 i]
  exact ((Cert.MixOutIdeal.Mix.arr8 m c (i 0) (i 1)).trans (mixM_eq m c _ _)).trans (Cert.MixOutRefIdeal.Mix.r7 _ _ _ _ _ (i 0) (i 1)).symm

theorem out_eq9 (m : M) (c : Dev Cert.MixOutIdeal.nD) :
    ((Cert.MixOutIdeal.Gen.dats m 0 c).arrAt 9 Cert.MixOutIdeal.cfg0.N : FVec Ideal Cert.MixOutIdeal.S16384x128 .f32)
      = val_main_v11 (F := Ideal) (a0 m c) (a1 m c) (a2 m c) (a3 m c) (a4 m c) := by
  refine funext fun (i : (⟨2, ![16384, 128]⟩ : Shape).Idx) => ?_
  rw [eq_ix2 i]
  have e : (∑ k : Fin 4096, Cert.MixOutIdeal.Mix.mixM m c (i 0) k * Cert.MixOutIdeal.Mix.mixM m c (i 0) k : EReal) = ∑ k : Fin 4096, Cert.MixOutIdeal.Mix.mixAt (a0 m c) (a1 m c) (a2 m c) (a3 m c) (a4 m c) (i 0) k
      * Cert.MixOutIdeal.Mix.mixAt (a0 m c) (a1 m c) (a2 m c) (a3 m c) (a4 m c) (i 0) k :=
    Finset.sum_congr rfl fun k _ => congrArg₂ (fun a b : EReal => a * b) (mixM_eq m c _ k) (mixM_eq m c _ k)
  exact ((Cert.MixOutIdeal.Mix.arr9 m c (i 0) (i 1)).trans e).trans
    (Cert.MixOutRefIdeal.Mix.r11 _ _ _ _ _ (i 0) (i 1)).symm

theorem algebraic : algebraic_MixOutIdeal_MixOutRefIdeal (hMixOutIdeal := Cert.MixOutIdeal.Gen.facts) (hMixOutRefIdeal := Cert.MixOutRefIdeal.Gen.facts) := by
  intro m g m' g' _ harg
  refine ⟨fun c => val_main_v6 (F := Ideal) (a0 m c) (a1 m c) (a2 m c) (a3 m c) (a4 m c), fun c => val_main_v7 (F := Ideal) (a0 m c) (a1 m c) (a2 m c) (a3 m c) (a4 m c),
    fun c => val_main_v11 (F := Ideal) (a0 m c) (a1 m c) (a2 m c) (a3 m c) (a4 m c), ?_, ?_⟩
  · refine (θ_run _ _ _).mono (fun r h c => ?_) (θ_run_and (Cert.MixOutIdeal.Gen.run_main m g) (Cert.MixOutIdeal.Gen.unchanged m g))
    exact ⟨((h.1 c).1 7).trans (out_eq7 m c), ((h.1 c).1 8).trans (out_eq8 m c), ((h.1 c).1 9).trans (out_eq9 m c), h.2 c⟩
  · refine (θ_run _ _ _).mono (fun r h c => ?_) (Cert.MixOutRefIdeal.Value.run m' g')
    obtain ⟨h0, h1, h2, h3, h4⟩ := harg c
    refine ⟨((h c).1).trans ((Cert.MixOutRefIdeal.Read.val_main_v6_eq _ _ _ _ _).trans ?_), ((h c).2.1).trans ((Cert.MixOutRefIdeal.Read.val_main_v7_eq _ _ _ _ _).trans ?_),
      ((h c).2.2.1).trans ((Cert.MixOutRefIdeal.Read.val_main_v11_eq _ _ _ _ _).trans ?_), (h c).2.2.2⟩
    · exact congr (congr (congr (congrArg₂ (val_main_v6 (F := Ideal)) h0 h1) h2) h3) h4
    · exact congr (congr (congr (congrArg₂ (val_main_v7 (F := Ideal)) h0 h1) h2) h3) h4
    · exact congr (congr (congr (congrArg₂ (val_main_v11 (F := Ideal)) h0 h1) h2) h3) h4
end Cert.Proof.Mix
end
-- ==== Proof.NormArr.lean ====
/- The final norm: what the kernel leaves and what the reference computes. -/
module

public import proofs.«01_k».proof.Defs
public import proofs.«01_k».proof.Proof.Gen.FinalNormIdeal.Frame
public import proofs.«01_k».proof.Proof.Gen.FinalNormRefIdeal.Run
public import proofs.«01_k».proof.Proof.Gen.FinalNormRefIdeal.Read
public import Idealize.ShloMosaic.Lib.Pipeline.ValueKit
public import Idealize.ShloMosaic.Lib.Pointwise
public import Idealize.ShloMosaic.Lib.KernelVsHost
public import Idealize.ShloMosaic.Adequacy
public import Idealize.ShloMosaic.Init

@[expose] public section
set_option maxRecDepth 16384
noncomputable section
open Idealize.ShloMosaic Idealize.ShloMosaic.TcCoe Idealize.SL.Sem
open Idealize.ShloMosaic.Pipeline (Dat)

namespace Cert.FinalNormIdeal.Norm
open Cert.FinalNormIdeal Cert.FinalNormIdeal.Gen

/-- The normed row, times the gain. -/
@[irreducible] def normAt (X : FVec Ideal S16384x4096 .f32) (W : FVec Ideal S4096 .f32) (r : Fin 16384) (l : Fin 4096) : EReal :=
  X (ix2 r l) * Ideal.rsqrt (Ideal.div (∑ k : Fin 4096, X (ix2 r k) * X (ix2 r k)) (Ideal.ofBits .f32 0x45800000#32) + Ideal.ofBits .f32 0x358637BD#32) * W (ix1 l)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem tlt (t : Fin cfg0.N) : t.val < 32 := lt_of_lt_of_eq t.isLt N_0

variable (m : (ℓ : Loc nD τ sig) → Buf (Elt Ideal) ℓ)

def A0 (c : Dev nD) : FVec Ideal S16384x4096 .f32 := V m c main_arg0
def A1 (c : Dev nD) : FVec Ideal S4096 .f32 := V m c main_arg1

theorem b0 (c : Dev nD) (t : Fin cfg0.N) (a : Fin 512) (b : Fin 4096) :
    (iblk m c 0 t : FVec Ideal S512x4096 .f32) (ix2 a b) = (V m c main_arg0 : FVec Ideal S16384x4096 .f32) (ix2 ⟨512 * t.val + a, by have := tlt t; omega⟩ b) := by
  have ht := tlt t
  blk_ext [iblk, idx0 t]

theorem b1 (c : Dev nD) (t : Fin cfg0.N) (b : Fin 4096) :
    (iblk m c 1 t : FVec Ideal S1x4096 .f32) (ix2 0 b) = (V m c main_v0 : FVec Ideal S1x4096 .f32) (ix2 0 b) := by
  have ht := tlt t
  blk_ext [iblk, idx1 t]

theorem cast_at (x : FVec Ideal S4096 .f32) (h) (b : Fin 4096) : shapeCast S1x4096 x h (ix2 0 b) = x (ix1 b) := by
  pointwise

theorem v0_at (c : Dev nD) (b : Fin 4096) : (V m c main_v0 : FVec Ideal S1x4096 .f32) (ix2 0 b) = (V m c main_arg1 : FVec Ideal S4096 .f32) (ix1 b) := by
  rw [V_main_arg1]
  show (StableHlo.after hostOps0 (fun b => m (c, b))) main_v0 (ix2 0 b) = _
  entry_read
  exact cast_at _ _ b

theorem pay_at (X : FVec Ideal S512x4096 .f32) (W : FVec Ideal S1x4096 .f32) (r : Fin 512) (l : Fin 4096) :
    (k0_pay1 (F := Ideal) X W (ix2 r l) : EReal)
      = X (ix2 r l) * Ideal.rsqrt (Ideal.div (∑ k : Fin 4096, X (ix2 r k) * X (ix2 r k)) (Ideal.ofBits .f32 0x45800000#32) + Ideal.ofBits .f32 0x358637BD#32) * W (ix2 0 l) := by
  unfold k0_pay1
  pointwise

theorem outv (c : Dev nD) (t : Fin cfg0.N) : out0_2 (iblk m c 0 t) (iblk m c 1 t) = k0_pay1 (iblk m c 0 t) (iblk m c 1 t) := by
  unfold out0_2
  frame_out

theorem out_at (c : Dev nD) (t : Fin cfg0.N) (a : Fin 512) (b : Fin 4096) :
    (out0_2 (iblk m c 0 t) (iblk m c 1 t) (ix2 a b) : EReal) = normAt (A0 m c) (A1 m c) ⟨512 * t.val + a, by have := tlt t; omega⟩ b := by
  rw [outv]
  refine (pay_at _ _ a b).trans ?_
  unfold normAt
  have e := fun k => b0 m c t a k
  exact congrArg₂ (fun a b : EReal => a * b) (congrArg₂ (fun p q : EReal => p * Ideal.rsqrt (Ideal.div q (Ideal.ofBits .f32 0x45800000#32) + Ideal.ofBits .f32 0x358637BD#32)) (e b)
    (Finset.sum_congr rfl fun k _ => congrArg₂ (fun a b : EReal => a * b) (e k) (e k))) ((b1 m c t b).trans (v0_at m c b))

theorem arr2 (c : Dev nD) (r : Fin 16384) (l : Fin 4096) :
    ((dats m 0 c).arrAt 2 cfg0.N : FVec Ideal S16384x4096 .f32) (ix2 r l) = normAt (A0 m c) (A1 m c) r l := by
  refine congrFun ((dats m 0 c).arrAt_eq_of_covers 2 (fun y : S16384x4096.Idx => normAt (A0 m c) (A1 m c) (y 0) (y 1))
    (by decide +kernel) fun t hf y => ?_) (ix2 r l)
  rw [after0_2]
  have ht := tlt t
  have e := out_at m c t
  generalize out0_2 (iblk m c 0 t) (iblk m c 1 t) = Z at e ⊢
  obtain ⟨a, b, rfl⟩ : ∃ (a : Fin 512) (b : Fin 4096), y = ix2 a b := ⟨y 0, y 1, eq_ix2 (n0 := 512) (n1 := 4096) y⟩
  refine (e a b).trans ?_
  refine congrArg₂ (normAt (A0 m c) (A1 m c)) (Fin.ext ?_) (Fin.ext ?_)
  · blk_simp [idx2 t]
    show 512 * t.val + (a : ℕ) = t.val * 512 + (a : ℕ)
    omega
  · blk_simp [idx2 t]
end Cert.FinalNormIdeal.Norm

namespace Cert.FinalNormRefIdeal.Norm
open Cert.FinalNormRefIdeal Cert.FinalNormRefIdeal.Gen Cert.FinalNormRefIdeal.Read
open Cert.FinalNormIdeal.Norm (normAt)

theorem r1 (x0 : (⟨S16384x4096, .f32⟩ : BufTy).Contents (Elt Ideal)) (R : Fin 16384) :
    (val_main_v1 (F := Ideal) x0 (ix1 R) : EReal) = ∑ k : Fin 4096, x0 (ix2 R k) * x0 (ix2 R k) := by
  pointwise [val_main_v1, val_main_v0]
  refine (congrArg (fun z : EReal => z + ∑ k : Fin 4096, x0 (ix2 R k) * x0 (ix2 R k)) ?_).trans (zero_add _)
  show (Ideal.ofBits .f32 0x00000000#32 : EReal) = 0
  simp [Ideal.ofBits, Ideal.ieee]

theorem r12 (x0 : (⟨S16384x4096, .f32⟩ : BufTy).Contents (Elt Ideal)) (x1 : (⟨S4096, .f32⟩ : BufTy).Contents (Elt Ideal)) (R : Fin 16384) (l : Fin 4096) :
    (val_main_v12 (F := Ideal) x0 x1 (ix2 R l) : EReal) = normAt x0 x1 R l := by
  have e := r1 x0
  unfold normAt
  rw [← e]
  unfold val_main_v12 val_main_v9 val_main_v8 val_main_v7 val_main_v6 val_main_v4 val_main_v2
  generalize val_main_v1 (F := Ideal) x0 = y at e ⊢
  pointwise [val_main_v11, val_main_v10, val_main_v5, val_main_v3]
  rfl
end Cert.FinalNormRefIdeal.Norm

namespace Cert.Proof.Norm
theorem frameRef : quiescent_FinalNormRefIdeal (hFinalNormRefIdeal := Cert.FinalNormRefIdeal.Gen.facts) := fun m g _ =>
  (θ_run (Cert.FinalNormRefIdeal.defs (F := Ideal)) (onTc (τ := Cert.FinalNormRefIdeal.τ) (Cert.FinalNormRefIdeal.main (F := Ideal))) _).mono
    (fun r h => And.intro (fun c => (h c).2) (sem_eq_zero_of_no_sems (by decide) r.2)) (Cert.FinalNormRefIdeal.Value.run m g)

theorem out_eq (m : (ℓ : Loc Cert.FinalNormIdeal.nD Cert.FinalNormIdeal.τ Cert.FinalNormIdeal.sig) → Buf (Elt Ideal) ℓ) (c : Dev Cert.FinalNormIdeal.nD) :
    ((Cert.FinalNormIdeal.Gen.dats m 0 c).arrAt 2 Cert.FinalNormIdeal.cfg0.N : FVec Ideal Cert.FinalNormIdeal.S16384x4096 .f32)
      = Cert.FinalNormRefIdeal.Read.val_main_v12 (F := Ideal) (m ((c.tc : Thread Cert.FinalNormIdeal.nD Cert.FinalNormIdeal.τ).loc Cert.FinalNormIdeal.main_arg0)) (m ((c.tc : Thread Cert.FinalNormIdeal.nD Cert.FinalNormIdeal.τ).loc Cert.FinalNormIdeal.main_arg1)) := by
  refine funext fun (i : (⟨2, ![16384, 4096]⟩ : Shape).Idx) => ?_
  rw [eq_ix2 i]
  refine (Cert.FinalNormIdeal.Norm.arr2 m c (i 0) (i 1)).trans ?_
  refine Eq.trans ?_ (Cert.FinalNormRefIdeal.Norm.r12 _ _ (i 0) (i 1)).symm
  rw [show Cert.FinalNormIdeal.Norm.A0 m c = (m ((c.tc : Thread Cert.FinalNormIdeal.nD Cert.FinalNormIdeal.τ).loc Cert.FinalNormIdeal.main_arg0)) from Cert.FinalNormIdeal.Gen.V_main_arg0 m c, show Cert.FinalNormIdeal.Norm.A1 m c = (m ((c.tc : Thread Cert.FinalNormIdeal.nD Cert.FinalNormIdeal.τ).loc Cert.FinalNormIdeal.main_arg1)) from Cert.FinalNormIdeal.Gen.V_main_arg1 m c]

theorem algebraic : algebraic_FinalNormIdeal_FinalNormRefIdeal (hFinalNormIdeal := Cert.FinalNormIdeal.Gen.facts) (hFinalNormRefIdeal := Cert.FinalNormRefIdeal.Gen.facts) := by
  intro m g m' g' _ harg
  refine ⟨fun c => Cert.FinalNormRefIdeal.Read.val_main_v12 (F := Ideal) (m ((c.tc : Thread Cert.FinalNormIdeal.nD Cert.FinalNormIdeal.τ).loc Cert.FinalNormIdeal.main_arg0)) (m ((c.tc : Thread Cert.FinalNormIdeal.nD Cert.FinalNormIdeal.τ).loc Cert.FinalNormIdeal.main_arg1)), ?_, ?_⟩
  · refine (θ_run _ _ _).mono (fun r h c => ?_) (θ_run_and (Cert.FinalNormIdeal.Gen.run_main m g) (Cert.FinalNormIdeal.Gen.unchanged m g))
    exact ⟨((h.1 c).1 2).trans (out_eq m c), h.2 c⟩
  · refine (θ_run _ _ _).mono (fun r h c => ?_) (Cert.FinalNormRefIdeal.Value.run m' g')
    obtain ⟨h0, h1⟩ := harg c
    refine ⟨((h c).1).trans ((Cert.FinalNormRefIdeal.Read.val_main_v12_eq _ _).trans ?_), (h c).2⟩
    exact congrArg₂ (Cert.FinalNormRefIdeal.Read.val_main_v12 (F := Ideal)) h0 h1
end Cert.Proof.Norm
end
-- ==== Proof.ResArr.lean ====
/- The first residual: what the kernel leaves and what the reference computes. -/
module

public import proofs.«01_k».proof.Defs
public import proofs.«01_k».proof.Proof.Gen.ResPrepIdeal.Frame
public import proofs.«01_k».proof.Proof.Gen.ResPrepRefIdeal.Run
public import proofs.«01_k».proof.Proof.Gen.ResPrepRefIdeal.Read
public import Idealize.ShloMosaic.Lib.Pipeline.ValueKit
public import Idealize.ShloMosaic.Lib.Pointwise
public import Idealize.ShloMosaic.Lib.KernelVsHost
public import Idealize.ShloMosaic.Adequacy
public import Idealize.ShloMosaic.Init

@[expose] public section
set_option maxRecDepth 16384
noncomputable section
open Idealize.ShloMosaic Idealize.ShloMosaic.TcCoe Idealize.SL.Sem
open Idealize.ShloMosaic.Pipeline (Dat)

namespace Cert.ResPrepIdeal.Res
open Cert.ResPrepIdeal Cert.ResPrepIdeal.Gen

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem tlt (t : Fin cfg0.N) : t.val < 32 := lt_of_lt_of_eq t.isLt N_0

variable (m : (ℓ : Loc nD τ sig) → Buf (Elt Ideal) ℓ)

def A0 (c : Dev nD) : FVec Ideal S16384x4096 .f32 := V m c main_arg0
/-- An entry. -/
@[irreducible] def ent (X : FVec Ideal S16384x4096 .f32) (r : Fin 16384) (l : Fin 4096) : EReal := X (ix2 r l)
/-- A row's squares. -/
@[irreducible] def rowsq (X : FVec Ideal S16384x4096 .f32) (r : Fin 16384) : EReal := ∑ k : Fin 4096, X (ix2 r k) * X (ix2 r k)

theorem b0 (c : Dev nD) (t : Fin cfg0.N) (a : Fin 512) (b : Fin 4096) :
    (iblk m c 0 t : FVec Ideal S512x4096 .f32) (ix2 a b) = (V m c main_arg0 : FVec Ideal S16384x4096 .f32) (ix2 ⟨512 * t.val + a, by have := tlt t; omega⟩ b) := by
  have ht := tlt t
  blk_ext [iblk, idx0 t]

theorem pay1_at (X : FVec Ideal S512x4096 .f32) (r : Fin 512) (l : Fin 4096) : (k0_pay1 (F := Ideal) X (ix2 r l) : EReal) = X (ix2 r l) := by
  unfold k0_pay1
  pointwise

theorem pay2_at (X : FVec Ideal S512x4096 .f32) (r : Fin 512) (l : Fin 128) : (k0_pay2 (F := Ideal) X (ix2 r l) : EReal) = ∑ k : Fin 4096, X (ix2 r k) * X (ix2 r k) := by
  unfold k0_pay2
  pointwise

theorem outv1 (c : Dev nD) (t : Fin cfg0.N) : out0_1 (iblk m c 0 t) = k0_pay1 (iblk m c 0 t) := by
  unfold out0_1
  frame_out
theorem outv2 (c : Dev nD) (t : Fin cfg0.N) : out0_2 (iblk m c 0 t) = k0_pay2 (iblk m c 0 t) := by
  unfold out0_2
  frame_out

theorem out1_at (c : Dev nD) (t : Fin cfg0.N) (a : Fin 512) (b : Fin 4096) :
    (out0_1 (iblk m c 0 t) (ix2 a b) : EReal) = ent (A0 m c) ⟨512 * t.val + a, by have := tlt t; omega⟩ b := by
  rw [outv1]
  unfold ent
  exact (pay1_at _ a b).trans (b0 m c t a b)

theorem out2_at (c : Dev nD) (t : Fin cfg0.N) (a : Fin 512) (b : Fin 128) :
    (out0_2 (iblk m c 0 t) (ix2 a b) : EReal) = rowsq (A0 m c) ⟨512 * t.val + a, by have := tlt t; omega⟩ := by
  rw [outv2]
  unfold rowsq
  exact (pay2_at _ a b).trans (Finset.sum_congr rfl fun k _ => congrArg₂ (fun a b : EReal => a * b) (b0 m c t a k) (b0 m c t a k))

theorem arr1 (c : Dev nD) (r : Fin 16384) (l : Fin 4096) :
    ((dats m 0 c).arrAt 1 cfg0.N : FVec Ideal S16384x4096 .bf16) (ix2 r l) = ent (A0 m c) r l := by
  refine congrFun ((dats m 0 c).arrAt_eq_of_covers 1 (fun y : S16384x4096.Idx => ent (A0 m c) (y 0) (y 1))
    (by decide +kernel) fun t hf y => ?_) (ix2 r l)
  rw [after0_1]
  have ht := tlt t
  have e := out1_at m c t
  generalize out0_1 (iblk m c 0 t) = Z at e ⊢
  obtain ⟨a, b, rfl⟩ : ∃ (a : Fin 512) (b : Fin 4096), y = ix2 a b := ⟨y 0, y 1, eq_ix2 (n0 := 512) (n1 := 4096) y⟩
  refine (e a b).trans ?_
  refine congrArg₂ (ent (A0 m c)) (Fin.ext ?_) (Fin.ext ?_)
  · blk_simp [idx1 t]
    show 512 * t.val + (a : ℕ) = t.val * 512 + (a : ℕ)
    omega
  · blk_simp [idx1 t]

theorem arr2 (c : Dev nD) (r : Fin 16384) (l : Fin 128) :
    ((dats m 0 c).arrAt 2 cfg0.N : FVec Ideal S16384x128 .f32) (ix2 r l) = rowsq (A0 m c) r := by
  refine congrFun ((dats m 0 c).arrAt_eq_of_covers 2 (fun y : S16384x128.Idx => rowsq (A0 m c) (y 0))
    (by decide +kernel) fun t hf y => ?_) (ix2 r l)
  rw [after0_2]
  have ht := tlt t
  have e := out2_at m c t
  generalize out0_2 (iblk m c 0 t) = Z at e ⊢
  obtain ⟨a, b, rfl⟩ : ∃ (a : Fin 512) (b : Fin 128), y = ix2 a b := ⟨y 0, y 1, eq_ix2 (n0 := 512) (n1 := 128) y⟩
  refine (e a b).trans ?_
  refine congrArg (rowsq (A0 m c)) (Fin.ext ?_)
  blk_simp [idx2 t]
  show 512 * t.val + (a : ℕ) = t.val * 512 + (a : ℕ)
  omega
end Cert.ResPrepIdeal.Res

namespace Cert.ResPrepRefIdeal.Res
open Cert.ResPrepRefIdeal Cert.ResPrepRefIdeal.Gen Cert.ResPrepRefIdeal.Read
open Cert.ResPrepIdeal.Res (ent rowsq)

theorem r0 (x0 : (⟨S16384x4096, .f32⟩ : BufTy).Contents (Elt Ideal)) (R : Fin 16384) (l : Fin 4096) : (val_main_v0 (F := Ideal) x0 (ix2 R l) : EReal) = ent x0 R l := by
  unfold ent
  pointwise [val_main_v0]

theorem r4 (x0 : (⟨S16384x4096, .f32⟩ : BufTy).Contents (Elt Ideal)) (R : Fin 16384) (l : Fin 128) : (val_main_v4 (F := Ideal) x0 (ix2 R l) : EReal) = rowsq x0 R := by
  unfold rowsq
  pointwise [val_main_v4, val_main_v3, val_main_v2, val_main_v1]
  refine (congrArg (fun z : EReal => z + ∑ k : Fin 4096, x0 (ix2 R k) * x0 (ix2 R k)) ?_).trans (zero_add _)
  show (Ideal.ofBits .f32 0x00000000#32 : EReal) = 0
  simp [Ideal.ofBits, Ideal.ieee]
end Cert.ResPrepRefIdeal.Res

namespace Cert.Proof.Res
open Cert.ResPrepRefIdeal.Read (val_main_v0 val_main_v4)

theorem frameRef : quiescent_ResPrepRefIdeal (hResPrepRefIdeal := Cert.ResPrepRefIdeal.Gen.facts) := fun m g _ =>
  (θ_run (Cert.ResPrepRefIdeal.defs (F := Ideal)) (onTc (τ := Cert.ResPrepRefIdeal.τ) (Cert.ResPrepRefIdeal.main (F := Ideal))) _).mono
    (fun r h => And.intro (fun c => (h c).2.2) (sem_eq_zero_of_no_sems (by decide) r.2)) (Cert.ResPrepRefIdeal.Value.run m g)

abbrev M := (ℓ : Loc Cert.ResPrepIdeal.nD Cert.ResPrepIdeal.τ Cert.ResPrepIdeal.sig) → Buf (Elt Ideal) ℓ
/-- The argument as launched. -/
abbrev a0 (m : M) (c : Dev Cert.ResPrepIdeal.nD) : FVec Ideal Cert.ResPrepIdeal.S16384x4096 .f32 := m ((c.tc : Thread Cert.ResPrepIdeal.nD Cert.ResPrepIdeal.τ).loc Cert.ResPrepIdeal.main_arg0)

theorem out_eq1 (m : M) (c : Dev Cert.ResPrepIdeal.nD) :
    ((Cert.ResPrepIdeal.Gen.dats m 0 c).arrAt 1 Cert.ResPrepIdeal.cfg0.N : FVec Ideal Cert.ResPrepIdeal.S16384x4096 .bf16) = val_main_v0 (F := Ideal) (a0 m c) := by
  refine funext fun (i : (⟨2, ![16384, 4096]⟩ : Shape).Idx) => ?_
  rw [eq_ix2 i]
  refine (Cert.ResPrepIdeal.Res.arr1 m c (i 0) (i 1)).trans (Eq.trans ?_ (Cert.ResPrepRefIdeal.Res.r0 _ (i 0) (i 1)).symm)
  rw [show Cert.ResPrepIdeal.Res.A0 m c = a0 m c from Cert.ResPrepIdeal.Gen.V_main_arg0 m c]

theorem out_eq2 (m : M) (c : Dev Cert.ResPrepIdeal.nD) :
    ((Cert.ResPrepIdeal.Gen.dats m 0 c).arrAt 2 Cert.ResPrepIdeal.cfg0.N : FVec Ideal Cert.ResPrepIdeal.S16384x128 .f32) = val_main_v4 (F := Ideal) (a0 m c) := by
  refine funext fun (i : (⟨2, ![16384, 128]⟩ : Shape).Idx) => ?_
  rw [eq_ix2 i]
  refine (Cert.ResPrepIdeal.Res.arr2 m c (i 0) (i 1)).trans (Eq.trans ?_ (Cert.ResPrepRefIdeal.Res.r4 _ (i 0) (i 1)).symm)
  rw [show Cert.ResPrepIdeal.Res.A0 m c = a0 m c from Cert.ResPrepIdeal.Gen.V_main_arg0 m c]

theorem algebraic : algebraic_ResPrepIdeal_ResPrepRefIdeal (hResPrepIdeal := Cert.ResPrepIdeal.Gen.facts) (hResPrepRefIdeal := Cert.ResPrepRefIdeal.Gen.facts) := by
  intro m g m' g' _ harg
  refine ⟨fun c => val_main_v0 (F := Ideal) (a0 m c), fun c => val_main_v4 (F := Ideal) (a0 m c), ?_, ?_⟩
  · refine (θ_run _ _ _).mono (fun r h c => ?_) (θ_run_and (Cert.ResPrepIdeal.Gen.run_main m g) (Cert.ResPrepIdeal.Gen.unchanged m g))
    exact ⟨((h.1 c).1 1).trans (out_eq1 m c), ((h.1 c).1 2).trans (out_eq2 m c), h.2 c⟩
  · refine (θ_run _ _ _).mono (fun r h c => ?_) (Cert.ResPrepRefIdeal.Value.run m' g')
    refine ⟨((h c).1).trans ((Cert.ResPrepRefIdeal.Read.val_main_v0_eq _).trans ?_), ((h c).2.1).trans ((Cert.ResPrepRefIdeal.Read.val_main_v4_eq _).trans ?_), (h c).2.2⟩
    · exact congrArg (val_main_v0 (F := Ideal)) (harg c)
    · exact congrArg (val_main_v4 (F := Ideal)) (harg c)
end Cert.Proof.Res
end
-- ==== Proof.FpArr.lean ====
/- The prepared feed-forward weights: what the kernel leaves and what the reference computes. -/
module

public import proofs.«01_k».proof.Defs
public import proofs.«01_k».proof.Proof.Gen.FfnPrepIdeal.Frame
public import proofs.«01_k».proof.Proof.Gen.FfnPrepRefIdeal.Run
public import proofs.«01_k».proof.Proof.Gen.FfnPrepRefIdeal.Read
public import Idealize.ShloMosaic.Lib.Pipeline.ValueKit
public import Idealize.ShloMosaic.Lib.Pointwise
public import Idealize.ShloMosaic.Lib.KernelVsHost
public import Idealize.ShloMosaic.Adequacy
public import Idealize.ShloMosaic.Init

@[expose] public section
set_option maxRecDepth 16384
noncomputable section
open Idealize.ShloMosaic Idealize.ShloMosaic.TcCoe Idealize.SL.Sem
open Idealize.ShloMosaic.Pipeline (Dat)

namespace Cert.FfnPrepIdeal.Fp
open Cert.FfnPrepIdeal Cert.FfnPrepIdeal.Gen

theorem idx0 : ∀ t : Fin cfg0.N, win0_0.index t = ![t.val / 32, t.val / 2 % 16, t.val % 2] := (by decide +kernel : ∀ t : Fin grid0.N, _)
theorem idx1 : ∀ t : Fin cfg0.N, win0_1.index t = ![t.val / 32, t.val / 2 % 16, 0] := (by decide +kernel : ∀ t : Fin grid0.N, _)
theorem idx2 : ∀ t : Fin cfg0.N, win0_2.index t = ![t.val / 32, t.val / 2 % 16, t.val % 2] := (by decide +kernel : ∀ t : Fin grid0.N, _)
theorem tlt (t : Fin cfg0.N) : t.val < 128 := lt_of_lt_of_eq t.isLt N_0

variable (m : (ℓ : Loc nD τ sig) → Buf (Elt Ideal) ℓ)

def A0 (c : Dev nD) : FVec Ideal S4x4096x22016 .f32 := V m c main_arg0
def A1 (c : Dev nD) : FVec Ideal S4x4096 .f32 := V m c main_arg1

/-- A weight times its row's gain, or the padding. -/
@[irreducible] def prepAt (X : FVec Ideal S4x4096x22016 .f32) (G : FVec Ideal S4x4096 .f32) (L : Fin 4) (r : Fin 4096) (l : Fin 22528) : EReal :=
  if h : l.val % 11264 < 11008 then X (ix3 L r ⟨11008 * (l.val / 11264) + l.val % 11264, by omega⟩) * G (ix2 L r) else 0

theorem b0 (c : Dev nD) (t : Fin cfg0.N) (a : Fin 256) (b : Fin 11008) :
    (iblk m c 0 t : FVec Ideal S1x256x11008 .f32) (ix3 0 a b) = (V m c main_arg0 : FVec Ideal S4x4096x22016 .f32) (ix3 ⟨t.val / 32, by have := tlt t; omega⟩ ⟨256 * (t.val / 2 % 16) + a, by omega⟩ ⟨11008 * (t.val % 2) + b, by omega⟩) := by
  have ht := tlt t
  blk_ext [iblk, idx0 t]

theorem b1 (c : Dev nD) (t : Fin cfg0.N) (a : Fin 256) :
    (iblk m c 1 t : FVec Ideal S1x256x1 .f32) (ix3 0 a 0) = (V m c main_v0 : FVec Ideal S4x4096x1 .f32) (ix3 ⟨t.val / 32, by have := tlt t; omega⟩ ⟨256 * (t.val / 2 % 16) + a, by omega⟩ 0) := by
  have ht := tlt t
  blk_ext [iblk, idx1 t]

theorem cast_at (x : FVec Ideal S4x4096 .f32) (h) (a : Fin 4) (b : Fin 4096) : shapeCast S4x4096x1 x h (ix3 a b 0) = x (ix2 a b) := by
  pointwise

theorem v0_at (c : Dev nD) (a : Fin 4) (b : Fin 4096) : (V m c main_v0 : FVec Ideal S4x4096x1 .f32) (ix3 a b 0) = (V m c main_arg1 : FVec Ideal S4x4096 .f32) (ix2 a b) := by
  rw [V_main_arg1]
  show (StableHlo.after hostOps0 (fun b => m (c, b))) main_v0 (ix3 a b 0) = _
  entry_read
  exact cast_at _ _ a b

theorem pay1_at (X : FVec Ideal S1x256x11008 .f32) (G : FVec Ideal S1x256x1 .f32) (r : Fin 256) (l : Fin 11008) :
    (k0_pay1 (F := Ideal) X G (ix3 0 r l) : EReal) = X (ix3 0 r l) * G (ix3 0 r 0) := by
  unfold k0_pay1
  pointwise

theorem pay2_at (r l : Fin 256) : (k0_pay2 (F := Ideal) (ix3 0 r l) : EReal) = 0 := by
  unfold k0_pay2
  pointwise

/-- The scaled weights beside the padding. -/
def cat (P : FVec Ideal S1x256x11008 .bf16) (Q : FVec Ideal S1x256x256 .bf16) (a : Fin 256) (b : Fin 11264) : EReal :=
  if h : (b : ℕ) < 11008 then P (ix3 0 a ⟨b, h⟩) else Q (ix3 0 a ⟨b - 11008, by omega⟩)

theorem cover_cat (P : FVec Ideal S1x256x11008 .bf16) (Q : FVec Ideal S1x256x256 .bf16) (y : S1x256x11264.Idx) :
    ∃ p ∈ ([⟨Rect.unit (s := S1x256x11264) ![0, 0, 11008] S1x256x256.size inb_S1x256x11264_S1x256x256_0_0_11008, Q⟩,
      ⟨Rect.unit (s := S1x256x11264) ![0, 0, 0] S1x256x11008.size inb_S1x256x11264_S1x256x11008_0_0_0, P⟩] : List (View.Piece (Elt Ideal) S1x256x11264 .bf16)), y ∈ p.1.set := by
  have h0 : ((y 0 : Fin 1) : ℕ) < 1 := (y 0 : Fin 1).isLt
  have h1 : ((y 1 : Fin 256) : ℕ) < 256 := (y 1 : Fin 256).isLt
  have h2 : ((y 2 : Fin 11264) : ℕ) < 11264 := (y 2 : Fin 11264).isLt
  by_cases h : ((y 2 : Fin 11264) : ℕ) < 11008
  · refine ⟨_, List.mem_cons_of_mem _ List.mem_cons_self, (Rect.mem_set_unit (inb := inb_S1x256x11264_S1x256x11008_0_0_0)).mpr fun a => ?_⟩
    match a with
    | 0 => exact ⟨Nat.zero_le _, h0⟩
    | 1 => exact ⟨Nat.zero_le _, h1⟩
    | 2 => exact ⟨Nat.zero_le _, h⟩
  · refine ⟨_, List.mem_cons_self, (Rect.mem_set_unit (inb := inb_S1x256x11264_S1x256x256_0_0_11008)).mpr fun a => ?_⟩
    match a with
    | 0 => exact ⟨Nat.zero_le _, h0⟩
    | 1 => exact ⟨Nat.zero_le _, h1⟩
    | 2 => exact ⟨Nat.le_of_not_lt h, h2⟩

theorem canon_cat (P : FVec Ideal S1x256x11008 .bf16) (Q : FVec Ideal S1x256x256 .bf16) (y : S1x256x11264.Idx) :
    View.canon (Val := Elt Ideal) (e := .bf16) [⟨Rect.unit (s := S1x256x11264) ![0, 0, 11008] S1x256x256.size inb_S1x256x11264_S1x256x256_0_0_11008, Q⟩,
      ⟨Rect.unit (s := S1x256x11264) ![0, 0, 0] S1x256x11008.size inb_S1x256x11264_S1x256x11008_0_0_0, P⟩] y = cat P Q (y 1) (y 2) := by
  refine View.canon_apply_of_pieces (Val := Elt Ideal) (e := .bf16) (fun y : S1x256x11264.Idx => cat P Q (y 1) (y 2)) _ ?_ y (cover_cat P Q y)
  refine List.forall_mem_cons.mpr ⟨?_, List.forall_mem_cons.mpr ⟨?_, fun p hp => absurd hp List.not_mem_nil⟩⟩
  · intro x
    obtain ⟨q, r, c, rfl⟩ : ∃ (q : Fin 1) (r c : Fin 256), x = ix3 q r c := ⟨x 0, x 1, x 2, eq_ix3 (n0 := 1) (n1 := 256) (n2 := 256) x⟩
    have hq : q = 0 := by omega
    subst hq
    show Q (ix3 0 r c) = cat P Q ⟨0 + 1 * r, _⟩ ⟨11008 + 1 * c, _⟩
    have e1 : 0 + 1 * (r : ℕ) = r := by omega
    have e2 : 11008 + 1 * (c : ℕ) = c + 11008 := by omega
    simp only [cat, e1, e2, dif_neg (show ¬ (c : ℕ) + 11008 < 11008 by omega), Nat.add_sub_cancel]
  · intro x
    obtain ⟨q, r, c, rfl⟩ : ∃ (q : Fin 1) (r : Fin 256) (c : Fin 11008), x = ix3 q r c := ⟨x 0, x 1, x 2, eq_ix3 (n0 := 1) (n1 := 256) (n2 := 11008) x⟩
    have hq : q = 0 := by omega
    subst hq
    show P (ix3 0 r c) = cat P Q ⟨0 + 1 * r, _⟩ ⟨0 + 1 * c, _⟩
    have e1 : 0 + 1 * (r : ℕ) = r := by omega
    have e2 : 0 + 1 * (c : ℕ) = c := by omega
    simp only [cat, e1, e2, dif_pos c.isLt]

theorem outv (c : Dev nD) (t : Fin cfg0.N) (a : Fin 256) (b : Fin 11264) :
    (outsAt0 m c t (ix3 0 a b) : EReal) = cat (k0_pay1 (F := Ideal) (iblk m c 0 t) (iblk m c 1 t)) (k0_pay2 (F := Ideal)) a b := by
  unfold outsAt0 out0_A_2
  frame_out
  exact canon_cat _ _ (ix3 0 a b)

theorem out_at (c : Dev nD) (t : Fin cfg0.N) (a : Fin 256) (b : Fin 11264) :
    (outsAt0 m c t (ix3 0 a b) : EReal)
      = prepAt (A0 m c) (A1 m c) ⟨t.val / 32, by have := tlt t; omega⟩ ⟨256 * (t.val / 2 % 16) + a, by omega⟩ ⟨11264 * (t.val % 2) + b, by omega⟩ := by
  rw [outv]
  unfold cat prepAt
  have e1 : (11264 * (t.val % 2) + (b : ℕ)) % 11264 = b := by omega
  have e2 : (11264 * (t.val % 2) + (b : ℕ)) / 11264 = t.val % 2 := by omega
  by_cases h : (b : ℕ) < 11008
  · rw [dif_pos h, dif_pos (show (11264 * (t.val % 2) + (b : ℕ)) % 11264 < 11008 by omega)]
    refine (pay1_at _ _ a ⟨b, h⟩).trans (congrArg₂ (fun a b : EReal => a * b) ((b0 m c t a ⟨b, h⟩).trans ?_) ((b1 m c t a).trans (v0_at m c _ _)))
    refine congrArg (fun j => A0 m c (ix3 _ _ j)) (Fin.ext ?_)
    show 11008 * (t.val % 2) + (b : ℕ) = 11008 * ((11264 * (t.val % 2) + (b : ℕ)) / 11264) + (11264 * (t.val % 2) + (b : ℕ)) % 11264
    rw [e1, e2]
  · rw [dif_neg h, dif_neg (show ¬ (11264 * (t.val % 2) + (b : ℕ)) % 11264 < 11008 by omega)]
    exact pay2_at a _

theorem arr2 (c : Dev nD) (L : Fin 4) (r : Fin 4096) (l : Fin 22528) :
    ((dats m 0 c).arrAt 2 cfg0.N : FVec Ideal S4x4096x22528 .bf16) (ix3 L r l) = prepAt (A0 m c) (A1 m c) L r l := by
  refine congrFun ((dats m 0 c).arrAt_eq_of_covers 2 (fun y : S4x4096x22528.Idx => prepAt (A0 m c) (A1 m c) (y 0) (y 1) (y 2))
    (by decide +kernel) fun t hf y => ?_) (ix3 L r l)
  rw [after0_2]
  have ht := tlt t
  have e := out_at m c t
  generalize outsAt0 m c t = Z at e ⊢
  obtain ⟨q, a, b, rfl⟩ : ∃ (q : Fin 1) (a : Fin 256) (b : Fin 11264), y = ix3 q a b := ⟨y 0, y 1, y 2, eq_ix3 (n0 := 1) (n1 := 256) (n2 := 11264) y⟩
  have hq : q = 0 := by omega
  subst hq
  refine (e a b).trans ?_
  refine congr (congrArg₂ (prepAt (A0 m c) (A1 m c)) (Fin.ext ?_) (Fin.ext ?_)) (Fin.ext ?_)
  · blk_simp [idx2 t]
    exact (Nat.add_zero _).symm
  · blk_simp [idx2 t]
    show 256 * (t.val / 2 % 16) + (a : ℕ) = t.val / 2 % 16 * 256 + (a : ℕ)
    omega
  · blk_simp [idx2 t]
    show 11264 * (t.val % 2) + (b : ℕ) = t.val % 2 * 11264 + (b : ℕ)
    omega
end Cert.FfnPrepIdeal.Fp

namespace Cert.FfnPrepRefIdeal.Fp
open Cert.FfnPrepRefIdeal Cert.FfnPrepRefIdeal.Gen Cert.FfnPrepRefIdeal.Read
open Cert.FfnPrepIdeal.Fp (prepAt)

abbrev T0 := (⟨S4x4096x22016, .f32⟩ : BufTy).Contents (Elt Ideal)
abbrev T1 := (⟨S4x4096, .f32⟩ : BufTy).Contents (Elt Ideal)

theorem r3 (x0 : T0) (x1 : T1) (L : Fin 4) (r : Fin 4096) (l : Fin 22016) :
    (val_main_v3 (F := Ideal) x0 x1 (ix3 L r l) : EReal) = x0 (ix3 L r l) * x1 (ix2 L r) := by
  pointwise [val_main_v3, val_main_v2, val_main_v1, val_main_v0]

theorem r8 (x0 : T0) (x1 : T1) (L : Fin 4) (r : Fin 4096) (l : Fin 22528) :
    (val_main_v8 (F := Ideal) x0 x1 (ix3 L r l) : EReal) = prepAt x0 x1 L r l := by
  have e := r3 x0 x1 L r
  unfold prepAt val_main_v8 val_main_v7 val_main_v6 val_main_v5 val_main_v4
  generalize val_main_v3 (F := Ideal) x0 x1 = y at e ⊢
  pointwise [val_main_call0_v0, val_main_call1_v0, val_main_c, val_main_c_0]
  have z : (FloatOps.sitofp (F := Ideal) FTy.bf16 0#32 : EReal) = 0 := by
    show (((0#32 : BitVec 32).toInt : ℝ) : EReal) = 0
    simp
  have f : ∀ (k : ℕ) (hk : k < 22016), k = 11008 * (l / 11264) + l % 11264 → ∀ q, (y (ix3 L r ⟨k, hk⟩) : EReal) = x0 (ix3 L r ⟨11008 * (l / 11264) + l % 11264, q⟩) * x1 (ix2 L r) :=
    fun k hk h q => (e ⟨k, hk⟩).trans (congrArg (fun j => x0 (ix3 L r j) * x1 (ix2 L r)) (Fin.ext h))
  by_cases h1 : (l : ℕ) < 11264
  · by_cases h2 : (l : ℕ) < 11008
    · have h3 : (l : ℕ) % 11264 < 11008 := by omega
      rw [dif_pos h1, dif_pos h2, dif_pos h3]
      exact f _ _ (show (l : ℕ) = 11008 * (l / 11264) + l % 11264 by omega) _
    · have h3 : ¬ (l : ℕ) % 11264 < 11008 := by omega
      rw [dif_pos h1, dif_neg h2, dif_neg h3]
      exact z
  · by_cases h2 : (l : ℕ) - 11264 < 11008
    · have h3 : (l : ℕ) % 11264 < 11008 := by omega
      rw [dif_neg h1]
      refine (dif_pos h2).trans (Eq.trans ?_ (dif_pos h3).symm)
      refine f _ _ ?_ _
      omega
    · have h3 : ¬ (l : ℕ) % 11264 < 11008 := by omega
      rw [dif_neg h1]
      refine (dif_neg h2).trans (Eq.trans ?_ (dif_neg h3).symm)
      exact z
end Cert.FfnPrepRefIdeal.Fp

namespace Cert.Proof.Fp
open Cert.FfnPrepRefIdeal.Fp (T0 T1)
open Cert.FfnPrepRefIdeal.Read (val_main_v8)

theorem frameRef : quiescent_FfnPrepRefIdeal (hFfnPrepRefIdeal := Cert.FfnPrepRefIdeal.Gen.facts) := fun m g _ =>
  (θ_run (Cert.FfnPrepRefIdeal.defs (F := Ideal)) (onTc (τ := Cert.FfnPrepRefIdeal.τ) (Cert.FfnPrepRefIdeal.main (F := Ideal))) _).mono
    (fun r h => And.intro (fun c => (h c).2) (sem_eq_zero_of_no_sems (by decide) r.2)) (Cert.FfnPrepRefIdeal.Value.run m g)

abbrev M := (ℓ : Loc Cert.FfnPrepIdeal.nD Cert.FfnPrepIdeal.τ Cert.FfnPrepIdeal.sig) → Buf (Elt Ideal) ℓ
/-- The arguments as launched. -/
abbrev a0 (m : M) (c : Dev Cert.FfnPrepIdeal.nD) : T0 := m ((c.tc : Thread Cert.FfnPrepIdeal.nD Cert.FfnPrepIdeal.τ).loc Cert.FfnPrepIdeal.main_arg0)
abbrev a1 (m : M) (c : Dev Cert.FfnPrepIdeal.nD) : T1 := m ((c.tc : Thread Cert.FfnPrepIdeal.nD Cert.FfnPrepIdeal.τ).loc Cert.FfnPrepIdeal.main_arg1)

theorem out_eq (m : M) (c : Dev Cert.FfnPrepIdeal.nD) :
    ((Cert.FfnPrepIdeal.Gen.dats m 0 c).arrAt 2 Cert.FfnPrepIdeal.cfg0.N : FVec Ideal Cert.FfnPrepIdeal.S4x4096x22528 .bf16) = val_main_v8 (F := Ideal) (a0 m c) (a1 m c) := by
  refine funext fun (i : (⟨3, ![4, 4096, 22528]⟩ : Shape).Idx) => ?_
  rw [eq_ix3 i]
  refine (Cert.FfnPrepIdeal.Fp.arr2 m c (i 0) (i 1) (i 2)).trans (Eq.trans ?_ (Cert.FfnPrepRefIdeal.Fp.r8 _ _ (i 0) (i 1) (i 2)).symm)
  rw [show Cert.FfnPrepIdeal.Fp.A0 m c = a0 m c from Cert.FfnPrepIdeal.Gen.V_main_arg0 m c, show Cert.FfnPrepIdeal.Fp.A1 m c = a1 m c from Cert.FfnPrepIdeal.Gen.V_main_arg1 m c]

theorem algebraic : algebraic_FfnPrepIdeal_FfnPrepRefIdeal (hFfnPrepIdeal := Cert.FfnPrepIdeal.Gen.facts) (hFfnPrepRefIdeal := Cert.FfnPrepRefIdeal.Gen.facts) := by
  intro m g m' g' _ harg
  refine ⟨fun c => val_main_v8 (F := Ideal) (a0 m c) (a1 m c), ?_, ?_⟩
  · refine (θ_run _ _ _).mono (fun r h c => ?_) (θ_run_and (Cert.FfnPrepIdeal.Gen.run_main m g) (Cert.FfnPrepIdeal.Gen.unchanged m g))
    exact ⟨((h.1 c).1 2).trans (out_eq m c), h.2 c⟩
  · refine (θ_run _ _ _).mono (fun r h c => ?_) (Cert.FfnPrepRefIdeal.Value.run m' g')
    obtain ⟨h0, h1⟩ := harg c
    refine ⟨((h c).1).trans ((Cert.FfnPrepRefIdeal.Read.val_main_v8_eq _ _).trans ?_), (h c).2⟩
    exact congrArg₂ (val_main_v8 (F := Ideal)) h0 h1
end Cert.Proof.Fp
end
-- ==== Proof.IpArr.lean ====
/- The prepared input-projection weights: what the kernel leaves and what the reference computes. -/
module

public import proofs.«01_k».proof.Defs
public import proofs.«01_k».proof.Proof.Gen.InPrepIdeal.Frame
public import proofs.«01_k».proof.Proof.Gen.InPrepRefIdeal.Run
public import proofs.«01_k».proof.Proof.Gen.InPrepRefIdeal.Read
public import Idealize.ShloMosaic.Lib.Pipeline.ValueKit
public import Idealize.ShloMosaic.Lib.Pointwise
public import Idealize.ShloMosaic.Lib.KernelVsHost
public import Idealize.ShloMosaic.Adequacy
public import Idealize.ShloMosaic.Init

@[expose] public section
set_option maxRecDepth 16384
noncomputable section
open Idealize.ShloMosaic Idealize.ShloMosaic.TcCoe Idealize.SL.Sem
open Idealize.ShloMosaic.Pipeline (Dat)

namespace Cert.InPrepIdeal.Ip
open Cert.InPrepIdeal Cert.InPrepIdeal.Gen

/-- Where the rows of a block come from. -/
def off (j : ℕ) : ℕ :=
  if j < 8 then 5408 + 256 * j else if j < 28 then 256 * (j - 8) else if j < 30 then 7456 + 256 * (j - 28) else if j < 31 then 5120 else 5376
/-- Where a row comes from. -/
def srow (r : ℕ) : ℕ :=
  if r < 2048 then 5408 + r else if r < 7168 then r - 2048 else if r < 7680 then r + 288 else r - 2560
theorem off_row (j a : ℕ) (hj : j < 32) (ha : a < 256) : off j + a = srow (256 * j + a) := by
  unfold off srow
  split_ifs <;> omega
theorem off_lt (j a : ℕ) (hj : j < 32) (ha : a < 256) : off j + a < 7968 := by
  unfold off
  split_ifs <;> omega
theorem srow_lt (r : ℕ) (h : r < 7968) : srow r < 7968 := by
  unfold srow
  split_ifs <;> omega

theorem idx0 : ∀ t : Fin cfg0.N, win0_0.index t = ![t.val / 32, off (t.val % 32), 0] := (by decide +kernel : ∀ t : Fin grid0.N, _)
theorem idx1 : ∀ t : Fin cfg0.N, win0_1.index t = ![t.val / 32, 0, 0] := (by decide +kernel : ∀ t : Fin grid0.N, _)
theorem idx2 : ∀ t : Fin cfg0.N, win0_2.index t = ![t.val / 32, t.val % 32, 0] := (by decide +kernel : ∀ t : Fin grid0.N, _)
theorem tlt (t : Fin cfg0.N) : t.val < 128 := lt_of_lt_of_eq t.isLt N_0

/-- How many rows of a block are kept. -/
def vld (arg1 v57 : BitVec 32) (v58 : BitVec 1) (c : BitVec 32) : BitVec 32 :=
  Scalar.select (Scalar.cmpi .eq arg1 31#32) 32#32 (Scalar.select (Scalar.cmpi .eq arg1 30#32) 256#32 (Scalar.select (Scalar.cmpi .eq arg1 29#32) 256#32
    (Scalar.select (Scalar.cmpi .eq arg1 28#32) 256#32 (Scalar.select (Scalar.cmpi .eq arg1 27#32) 256#32 (Scalar.select (Scalar.cmpi .eq arg1 26#32) 256#32
      (Scalar.select v58 c v57))))))
def chain (j : BitVec 32) : ℕ → BitVec 32
  | 0 => Scalar.select (Scalar.cmpi .eq j 0#32) 256#32 0#32
  | n + 1 => Scalar.select (Scalar.cmpi .eq j (BitVec.ofNat 32 (n + 1))) 256#32 (chain j n)
theorem vld_at : ∀ t : Fin cfg0.N, vld (BitVec.ofNat 32 (grid0.coords t 1).val) (chain (BitVec.ofNat 32 (grid0.coords t 1).val) 24)
    (Scalar.cmpi .eq (BitVec.ofNat 32 (grid0.coords t 1).val) 25#32) 256#32 = if t.val % 32 < 31 then 256#32 else 32#32 :=
  (by decide +kernel : ∀ t : Fin grid0.N, _)

variable (m : (ℓ : Loc nD τ sig) → Buf (Elt Ideal) ℓ)

def A0 (c : Dev nD) : FVec Ideal S4x4096x7968 .f32 := V m c main_arg0
def A1 (c : Dev nD) : FVec Ideal S4x4096 .f32 := V m c main_arg1

/-- A weight times its column's gain, or the padding. -/
@[irreducible] def prepAt (X : FVec Ideal S4x4096x7968 .f32) (G : FVec Ideal S4x4096 .f32) (L : Fin 4) (r : Fin 8192) (l : Fin 4096) : EReal :=
  if h : (r : ℕ) < 7968 then X (ix3 L l ⟨srow r, srow_lt r h⟩) * G (ix2 L l) else 0

theorem emb0 (t : Fin cfg0.N) (y : S1x256x4096.Idx) (a : Fin 3) :
    ((((View.whole main_v0).slice (win0_0.rect t)).emb y a : Fin (S4x7968x4096.size a)) : ℕ) = win0_0.index t a + 1 * (y a : Fin (S1x256x4096.size a)) := rfl

theorem b0 (c : Dev nD) (t : Fin cfg0.N) (a : Fin 256) (b : Fin 4096) :
    (iblk m c 0 t : FVec Ideal S1x256x4096 .f32) (ix3 0 a b) = (V m c main_v0 : FVec Ideal S4x7968x4096 .f32) (ix3 ⟨t.val / 32, by have := tlt t; omega⟩ ⟨off (t.val % 32) + a, off_lt _ _ (by omega) (by omega)⟩ b) := by
  have ht := tlt t
  have e := emb0 t (ix3 0 a b)
  rw [idx0 t] at e
  blk_ext [iblk, idx0 t]
  · exact (e 0).trans (by show t.val / 32 + 1 * 0 = t.val / 32; omega)
  · exact (e 1).trans (by show off (t.val % 32) + 1 * (a : ℕ) = off (t.val % 32) + a; omega)
  · exact (e 2).trans (by show 0 + 1 * (b : ℕ) = b; omega)

theorem b1 (c : Dev nD) (t : Fin cfg0.N) (b : Fin 4096) :
    (iblk m c 1 t : FVec Ideal S1x1x4096 .f32) (ix3 0 0 b) = (V m c main_v1 : FVec Ideal S4x1x4096 .f32) (ix3 ⟨t.val / 32, by have := tlt t; omega⟩ 0 b) := by
  have ht := tlt t
  blk_ext [iblk, idx1 t]

theorem cast_at (x : FVec Ideal S4x4096 .f32) (h) (a : Fin 4) (b : Fin 4096) : shapeCast S4x1x4096 x h (ix3 a 0 b) = x (ix2 a b) := by
  pointwise

theorem tr_at (x : FVec Ideal S4x4096x7968 .f32) (h) (a : Fin 4) (b : Fin 7968) (d : Fin 4096) : transpose S4x7968x4096 [0, 2, 1] x h (ix3 a b d) = x (ix3 a d b) := by
  pointwise

theorem v0_at (c : Dev nD) (a : Fin 4) (b : Fin 7968) (d : Fin 4096) : (V m c main_v0 : FVec Ideal S4x7968x4096 .f32) (ix3 a b d) = A0 m c (ix3 a d b) := by
  unfold A0
  rw [V_main_arg0]
  show (StableHlo.after hostOps0 (fun b => m (c, b))) main_v0 (ix3 a b d) = _
  entry_read
  exact tr_at _ _ a b d

theorem v1_at (c : Dev nD) (a : Fin 4) (b : Fin 4096) : (V m c main_v1 : FVec Ideal S4x1x4096 .f32) (ix3 a 0 b) = A1 m c (ix2 a b) := by
  unfold A1
  rw [V_main_arg1]
  show (StableHlo.after hostOps0 (fun b => m (c, b))) main_v1 (ix3 a 0 b) = _
  entry_read
  exact cast_at _ _ a b

theorem pay2_at (X : FVec Ideal S1x256x4096 .f32) (G : FVec Ideal S1x1x4096 .f32) (r : Fin 256) (l : Fin 4096) :
    (k0_pay2 (F := Ideal) X G (ix2 r l) : EReal) = X (ix3 0 r l) * G (ix3 0 0 l) := by
  unfold k0_pay2
  pointwise

theorem pay1_at (g : BitVec 32) (X : FVec Ideal S256x4096 .bf16) (p : BitVec 32) (q : BitVec 1) (k : BitVec 32) (r : Fin 256) (l : Fin 4096) :
    (k0_pay1 (F := Ideal) g X (iota .tc S256x4096 32 [0] iota_S256x4096_d0_w32) p q k (ix3 0 r l) : EReal)
      = if (BitVec.ofNat 32 r).slt (vld g p q k) then X (ix2 r l) else 0 := by
  have s : ∀ (v w : BitVec 32) (A B : EReal), Scalar.select (IntOp.cmpi CmpIPredicate.slt v w) A B = if v.slt w then A else B := fun v w A B => by
    show (if BitVec.ofBool (v.slt w) = 1#1 then A else B) = _
    cases v.slt w <;> rfl
  unfold k0_pay1 vld
  pointwise
  exact s _ _ _ _

theorem keep (k : ℕ) (r : Fin 256) : (BitVec.ofNat 32 r).slt (if k < 31 then 256#32 else 32#32) = decide ((r : ℕ) < if k < 31 then 256 else 32) := by
  by_cases h : k < 31
  · rw [if_pos h, if_pos h]
    exact (by decide +kernel : ∀ r : Fin 256, (BitVec.ofNat 32 r).slt 256#32 = decide ((r : ℕ) < 256)) r
  · rw [if_neg h, if_neg h]
    exact (by decide +kernel : ∀ r : Fin 256, (BitVec.ofNat 32 r).slt 32#32 = decide ((r : ℕ) < 32)) r

theorem outv (c : Dev nD) (t : Fin cfg0.N) (a : Fin 256) (b : Fin 4096) :
    (out0_2 (grid0.coords t) (iblk m c 0 t) (iblk m c 1 t) (ix3 0 a b) : EReal)
      = if (a : ℕ) < (if t.val % 32 < 31 then 256 else 32) then k0_pay2 (F := Ideal) (iblk m c 0 t) (iblk m c 1 t) (ix2 a b) else 0 := by
  have e := vld_at t
  have k := keep (t.val % 32) a
  rw [← e] at k
  unfold out0_2
  frame_out
  refine (pay1_at _ _ _ _ _ a b).trans ?_
  refine (if_congr (Bool.eq_iff_iff.mp k) rfl rfl).trans ?_
  exact if_congr (decide_eq_true_iff) rfl rfl

theorem out_at (c : Dev nD) (t : Fin cfg0.N) (a : Fin 256) (b : Fin 4096) :
    (out0_2 (grid0.coords t) (iblk m c 0 t) (iblk m c 1 t) (ix3 0 a b) : EReal)
      = prepAt (A0 m c) (A1 m c) ⟨t.val / 32, by have := tlt t; omega⟩ ⟨256 * (t.val % 32) + a, by omega⟩ b := by
  rw [outv]
  unfold prepAt
  by_cases h : 256 * (t.val % 32) + (a : ℕ) < 7968
  · have h' : (a : ℕ) < (if t.val % 32 < 31 then 256 else 32) := by split_ifs <;> omega
    rw [if_pos h', dif_pos h]
    refine (pay2_at _ _ a b).trans (congrArg₂ (fun a b : EReal => a * b) ((b0 m c t a b).trans ((v0_at m c _ _ _).trans ?_)) ((b1 m c t b).trans (v1_at m c _ _)))
    exact congrArg (fun j => A0 m c (ix3 _ b j)) (Fin.ext (off_row _ _ (by omega) (by omega)))
  · have h' : ¬ (a : ℕ) < (if t.val % 32 < 31 then 256 else 32) := by split_ifs <;> omega
    rw [if_neg h', dif_neg h]

/-- What a point leaves in the output block. -/
@[irreducible] def blkOut (c : Dev nD) (t : Fin cfg0.N) : FVec Ideal S1x256x4096 .bf16 := out0_2 (grid0.coords t) (iblk m c 0 t) (iblk m c 1 t)
theorem after_blk (c : Dev nD) (t : Fin cfg0.N) : (dats m 0 c).after 2 t = blkOut m c t := by
  rw [after0_2]
  unfold blkOut
  rfl
theorem blk_at (c : Dev nD) (t : Fin cfg0.N) (a : Fin 256) (b : Fin 4096) :
    (blkOut m c t (ix3 0 a b) : EReal)
      = prepAt (A0 m c) (A1 m c) ⟨t.val / 32, by have := tlt t; omega⟩ ⟨256 * (t.val % 32) + a, by omega⟩ b := by
  unfold blkOut
  exact out_at m c t a b

theorem arr2 (c : Dev nD) (L : Fin 4) (r : Fin 8192) (l : Fin 4096) :
    ((dats m 0 c).arrAt 2 cfg0.N : FVec Ideal S4x8192x4096 .bf16) (ix3 L r l) = prepAt (A0 m c) (A1 m c) L r l := by
  refine congrFun ((dats m 0 c).arrAt_eq_of_covers 2 (fun y : S4x8192x4096.Idx => prepAt (A0 m c) (A1 m c) (y 0) (y 1) (y 2))
    (by decide +kernel) fun t hf y => ?_) (ix3 L r l)
  rw [after_blk]
  have ht := tlt t
  have e := blk_at m c t
  generalize blkOut m c t = Z at e ⊢
  obtain ⟨q, a, b, rfl⟩ : ∃ (q : Fin 1) (a : Fin 256) (b : Fin 4096), y = ix3 q a b := ⟨y 0, y 1, y 2, eq_ix3 (n0 := 1) (n1 := 256) (n2 := 4096) y⟩
  have hq : q = 0 := by omega
  subst hq
  refine (e a b).trans ?_
  refine congr (congrArg₂ (prepAt (A0 m c) (A1 m c)) (Fin.ext ?_) (Fin.ext ?_)) (Fin.ext ?_)
  · blk_simp [idx2 t]
    exact (Nat.add_zero _).symm
  · blk_simp [idx2 t]
    show 256 * (t.val % 32) + (a : ℕ) = t.val % 32 * 256 + (a : ℕ)
    omega
  · blk_simp [idx2 t]

end Cert.InPrepIdeal.Ip

namespace Cert.InPrepRefIdeal.Ip
open Cert.InPrepRefIdeal Cert.InPrepRefIdeal.Read
abbrev T0 := (⟨S4x4096x7968, .f32⟩ : BufTy).Contents (Elt Ideal)
abbrev T1 := (⟨S4x4096, .f32⟩ : BufTy).Contents (Elt Ideal)
variable (x0 : T0) (x1 : T1)
open Cert.InPrepIdeal.Ip (prepAt srow srow_lt)

theorem r4 (L : Fin 4) (r : Fin 7968) (l : Fin 4096) :
    (val_main_v4 (F := Ideal) x0 x1 (ix3 L r l) : EReal) = x0 (ix3 L l r) * x1 (ix2 L l) := by
  unfold val_main_v4 val_main_v3 val_main_v2 val_main_v1 val_main_v0
  pointwise

theorem r10 (L : Fin 4) (r : Fin 8192) (l : Fin 4096) :
    (val_main_v10 (F := Ideal) x0 x1 (ix3 L r l) : EReal) = prepAt x0 x1 L r l := by
  have e := r4 x0 x1 L
  unfold prepAt val_main_v10 val_main_v9 val_main_v8 val_main_v7 val_main_v6 val_main_v5
  generalize val_main_v4 (F := Ideal) x0 x1 = y at e ⊢
  pointwise [val_main_call0_v0, val_main_c]
  have z : (FloatOps.sitofp (F := Ideal) FTy.bf16 0#32 : EReal) = 0 := by
    show (((0#32 : BitVec 32).toInt : ℝ) : EReal) = 0
    simp
  have f : ∀ (k : ℕ) (hk : k < 7968), k = srow r → ∀ q, (y (ix3 L ⟨k, hk⟩ l) : EReal) = x0 (ix3 L l ⟨srow r, q⟩) * x1 (ix2 L l) :=
    fun k hk h q => (e ⟨k, hk⟩ l).trans (congrArg (fun j => x0 (ix3 L l j) * x1 (ix2 L l)) (Fin.ext h))
  by_cases h : (r : ℕ) < 7968
  · rw [dif_pos h]
    refine Eq.trans ?_ (dif_pos h).symm
    by_cases h1 : (r : ℕ) < 2048
    · refine (dif_pos h1).trans (f _ _ ?_ _)
      unfold srow
      rw [if_pos h1]
    · refine (dif_neg h1).trans ?_
      by_cases h2 : (r : ℕ) - 2048 < 5120
      · refine (dif_pos h2).trans (f _ _ ?_ _)
        unfold srow
        split_ifs <;> omega
      · refine (dif_neg h2).trans ?_
        by_cases h3 : (r : ℕ) - 2048 - 5120 < 512
        · refine (dif_pos h3).trans (f _ _ ?_ _)
          unfold srow
          split_ifs <;> omega
        · refine (dif_neg h3).trans (f _ _ ?_ _)
          unfold srow
          split_ifs <;> omega
  · rw [dif_neg h]
    refine Eq.trans ?_ (dif_neg h).symm
    exact z
end Cert.InPrepRefIdeal.Ip

namespace Cert.Proof.Ip
open Cert.InPrepRefIdeal.Ip (T0 T1)
open Cert.InPrepRefIdeal.Read (val_main_v10)

theorem frameRef : quiescent_InPrepRefIdeal (hInPrepRefIdeal := Cert.InPrepRefIdeal.Gen.facts) := fun m g _ =>
  (θ_run (Cert.InPrepRefIdeal.defs (F := Ideal)) (onTc (τ := Cert.InPrepRefIdeal.τ) (Cert.InPrepRefIdeal.main (F := Ideal))) _).mono
    (fun r h => And.intro (fun c => (h c).2) (sem_eq_zero_of_no_sems (by decide) r.2)) (Cert.InPrepRefIdeal.Value.run m g)

abbrev M := (ℓ : Loc Cert.InPrepIdeal.nD Cert.InPrepIdeal.τ Cert.InPrepIdeal.sig) → Buf (Elt Ideal) ℓ
/-- The arguments as launched. -/
abbrev a0 (m : M) (c : Dev Cert.InPrepIdeal.nD) : T0 := m ((c.tc : Thread Cert.InPrepIdeal.nD Cert.InPrepIdeal.τ).loc Cert.InPrepIdeal.main_arg0)
abbrev a1 (m : M) (c : Dev Cert.InPrepIdeal.nD) : T1 := m ((c.tc : Thread Cert.InPrepIdeal.nD Cert.InPrepIdeal.τ).loc Cert.InPrepIdeal.main_arg1)

theorem out_eq (m : M) (c : Dev Cert.InPrepIdeal.nD) :
    ((Cert.InPrepIdeal.Gen.dats m 0 c).arrAt 2 Cert.InPrepIdeal.cfg0.N : FVec Ideal Cert.InPrepIdeal.S4x8192x4096 .bf16) = val_main_v10 (F := Ideal) (a0 m c) (a1 m c) := by
  refine funext fun (i : (⟨3, ![4, 8192, 4096]⟩ : Shape).Idx) => ?_
  rw [eq_ix3 i]
  refine (Cert.InPrepIdeal.Ip.arr2 m c (i 0) (i 1) (i 2)).trans (Eq.trans ?_ (Cert.InPrepRefIdeal.Ip.r10 _ _ (i 0) (i 1) (i 2)).symm)
  rw [show Cert.InPrepIdeal.Ip.A0 m c = a0 m c from Cert.InPrepIdeal.Gen.V_main_arg0 m c, show Cert.InPrepIdeal.Ip.A1 m c = a1 m c from Cert.InPrepIdeal.Gen.V_main_arg1 m c]

theorem algebraic : algebraic_InPrepIdeal_InPrepRefIdeal (hInPrepIdeal := Cert.InPrepIdeal.Gen.facts) (hInPrepRefIdeal := Cert.InPrepRefIdeal.Gen.facts) := by
  intro m g m' g' _ harg
  refine ⟨fun c => val_main_v10 (F := Ideal) (a0 m c) (a1 m c), ?_, ?_⟩
  · refine (θ_run _ _ _).mono (fun r h c => ?_) (θ_run_and (Cert.InPrepIdeal.Gen.run_main m g) (Cert.InPrepIdeal.Gen.unchanged m g))
    exact ⟨((h.1 c).1 2).trans (out_eq m c), h.2 c⟩
  · refine (θ_run _ _ _).mono (fun r h c => ?_) (Cert.InPrepRefIdeal.Value.run m' g')
    obtain ⟨h0, h1⟩ := harg c
    refine ⟨((h c).1).trans ((Cert.InPrepRefIdeal.Read.val_main_v10_eq _ _).trans ?_), (h c).2⟩
    exact congrArg₂ (val_main_v10 (F := Ideal)) h0 h1
end Cert.Proof.Ip
end
-- ==== Proof.CfRead.lean ====
/- The Conformer convolution: what the kernel leaves and what the reference computes. -/
module

public import proofs.«01_k».proof.Defs
public import proofs.«01_k».proof.Proof.Gen.ConfIdeal.Frame
public import proofs.«01_k».proof.Proof.Gen.ConfRefIdeal.Run
public import proofs.«01_k».proof.Proof.Gen.ConfRefIdeal.Read
public import Idealize.ShloMosaic.Lib.Pipeline.ValueKit
public import Idealize.ShloMosaic.Lib.Pointwise
public import Idealize.ShloMosaic.Lib.KernelVsHost
public import Idealize.ShloMosaic.Lib.ValueLayout
public import Idealize.ShloMosaic.Adequacy
public import Idealize.ShloMosaic.Init

@[expose] public section
set_option maxRecDepth 16384
noncomputable section
open Idealize.ShloMosaic Idealize.ShloMosaic.TcCoe Idealize.SL.Sem
open Idealize.ShloMosaic.Pipeline (Dat)

namespace Cert.ConfIdeal.Cf
open Cert.ConfIdeal Cert.ConfIdeal.Gen

/-- A rank-2 array at natural indices. -/
def at2 {a b : ℕ} (X : FVec Ideal ⟨2, ![a, b]⟩ .f32) (r l : ℕ) : EReal := if h : r < a ∧ l < b then X (ix2 ⟨r, h.1⟩ ⟨l, h.2⟩) else 0

theorem at2_ix {a b : ℕ} (X : FVec Ideal ⟨2, ![a, b]⟩ .f32) (r : Fin a) (l : Fin b) : at2 X r l = X (ix2 r l) :=
  dif_pos ⟨r.isLt, l.isLt⟩

/-- The rows in front, then the block's own rows. -/
@[irreducible] def hAt (P : FVec Ideal S32x1024 .f32) (Q : FVec Ideal S256x1024 .f32) (r l : ℕ) : EReal :=
  if r < 32 then at2 P r l else at2 Q (r - 32) l

/-- The bias plus the thirty-one products. -/
@[irreducible] def convAt (E : ℕ → EReal) (D : ℕ → ℕ → EReal) (H : ℕ → ℕ → EReal) (R C : ℕ) : EReal :=
  E C + D 30 C * H (R + 32) C + D 29 C * H (R + 31) C + D 28 C * H (R + 30) C + D 27 C * H (R + 29) C + D 26 C * H (R + 28) C + D 25 C * H (R + 27) C + D 24 C * H (R + 26) C + D 23 C * H (R + 25) C + D 22 C * H (R + 24) C + D 21 C * H (R + 23) C + D 20 C * H (R + 22) C + D 19 C * H (R + 21) C + D 18 C * H (R + 20) C + D 17 C * H (R + 19) C + D 16 C * H (R + 18) C + D 15 C * H (R + 17) C + D 14 C * H (R + 16) C + D 13 C * H (R + 15) C + D 12 C * H (R + 14) C + D 11 C * H (R + 13) C + D 10 C * H (R + 12) C + D 9 C * H (R + 11) C + D 8 C * H (R + 10) C + D 7 C * H (R + 9) C + D 6 C * H (R + 8) C + D 5 C * H (R + 7) C + D 4 C * H (R + 6) C + D 3 C * H (R + 5) C + D 2 C * H (R + 4) C + D 1 C * H (R + 3) C + D 0 C * H (R + 2) C

theorem cover0 (P : FVec Ideal S32x1024 .f32) (Q : FVec Ideal S256x1024 .f32) (y : S288x1024.Idx) :
    ∃ p ∈ ([⟨Rect.unit (s := S288x1024) ![32, 0] S256x1024.size inb_S288x1024_S256x1024_32_0, Q⟩,
      ⟨Rect.unit (s := S288x1024) ![0, 0] S32x1024.size inb_S288x1024_S32x1024_0_0, P⟩] : List (View.Piece (Elt Ideal) S288x1024 .f32)), y ∈ p.1.set := by
  have h0 : ((y 0 : Fin 288) : ℕ) < 288 := (y 0 : Fin 288).isLt
  have h1 : ((y 1 : Fin 1024) : ℕ) < 1024 := (y 1 : Fin 1024).isLt
  by_cases h : ((y 0 : Fin 288) : ℕ) < 32
  · refine ⟨_, List.mem_cons_of_mem _ List.mem_cons_self, (Rect.mem_set_unit (inb := inb_S288x1024_S32x1024_0_0)).mpr fun a => ?_⟩
    match a with
    | 0 => exact ⟨Nat.zero_le _, h⟩
    | 1 => exact ⟨Nat.zero_le _, h1⟩
  · refine ⟨_, List.mem_cons_self, (Rect.mem_set_unit (inb := inb_S288x1024_S256x1024_32_0)).mpr fun a => ?_⟩
    match a with
    | 0 => exact ⟨Nat.le_of_not_lt h, h0⟩
    | 1 => exact ⟨Nat.zero_le _, h1⟩

theorem canon0 (P : FVec Ideal S32x1024 .f32) (Q : FVec Ideal S256x1024 .f32) (y : S288x1024.Idx) :
    View.canon (Val := Elt Ideal) (e := .f32) [⟨Rect.unit (s := S288x1024) ![32, 0] S256x1024.size inb_S288x1024_S256x1024_32_0, Q⟩,
      ⟨Rect.unit (s := S288x1024) ![0, 0] S32x1024.size inb_S288x1024_S32x1024_0_0, P⟩] y = hAt P Q (y 0 : Fin 288) (y 1 : Fin 1024) := by
  refine View.canon_apply_of_pieces (Val := Elt Ideal) (e := .f32) (fun y : S288x1024.Idx => hAt P Q (y 0 : Fin 288) (y 1 : Fin 1024)) _ ?_ y (cover0 P Q y)
  refine List.forall_mem_cons.mpr ⟨?_, List.forall_mem_cons.mpr ⟨?_, fun p hp => absurd hp List.not_mem_nil⟩⟩
  · intro x
    obtain ⟨r, c, rfl⟩ : ∃ (r : Fin 256) (c : Fin 1024), x = ix2 r c := ⟨x 0, x 1, eq_ix2 (n0 := 256) (n1 := 1024) x⟩
    show Q (ix2 r c) = hAt P Q (32 + 1 * r) (0 + 1 * c)
    unfold hAt
    rw [if_neg (by omega), show 32 + 1 * (r : ℕ) - 32 = r by omega, show 0 + 1 * (c : ℕ) = c by omega]
    exact (at2_ix Q r c).symm
  · intro x
    obtain ⟨r, c, rfl⟩ : ∃ (r : Fin 32) (c : Fin 1024), x = ix2 r c := ⟨x 0, x 1, eq_ix2 (n0 := 32) (n1 := 1024) x⟩
    show P (ix2 r c) = hAt P Q (0 + 1 * r) (0 + 1 * c)
    unfold hAt
    rw [if_pos (by omega), show 0 + 1 * (r : ℕ) = r by omega, show 0 + 1 * (c : ℕ) = c by omega]
    exact (at2_ix P r c).symm

theorem rd0 (L : List (View.Piece (Elt Ideal) S288x1024 .f32)) (H : ℕ → ℕ → EReal)
    (h : ∀ y : S288x1024.Idx, View.canon L y = H (y 0 : Fin 288) (y 1 : Fin 1024)) (o q a b : ℕ) (i) :
    View.readCov (Val := Elt Ideal) (View.whole cc0_scratch0) L (Rect.unit (s := S288x1024) ![o, q] ![a, b] i).toLoadRect
      = fun x : (⟨2, ![a, b]⟩ : Shape).Idx => H ((x 0 : Fin a) + o) ((x 1 : Fin b) + q) := by
  rw [View.readCov_eq_canon']
  funext x
  refine (h _).trans (congrArg₂ H ?_ ?_)
  · show o + 1 * ((x 0 : Fin a) : ℕ) = (x 0 : Fin a) + o; omega
  · show q + 1 * ((x 1 : Fin b) : ℕ) = (x 1 : Fin b) + q; omega

theorem rd2 (L : List (View.Piece (Elt Ideal) S7x288x1024 .f32)) (H : ℕ → ℕ → EReal)
    (h : ∀ y : S7x288x1024.Idx, 8 ≤ ((y 1 : Fin 288) : ℕ) → View.canon L y = H ((y 1 : Fin 288) - ((y 0 : Fin 7) + 1)) (y 2 : Fin 1024))
    (k o q : ℕ) (ho : 8 ≤ o) (hk : k < 7) (i j p1 p2 p3 hR) :
    LoadRect.valAlong (lr := (Rect.unit (s := S288x1024) ![o, q] ![32, 512] j).toLoadRect) hR
      (View.readCov (Val := Elt Ideal) (View.whole cc0_scratch2) L ((Rect.unit (s := S7x288x1024) ![k, 0, 0] ![1, 288, 1024] i).withinL
        (LoadRect.consLift (Rect.unit (s := S288x1024) ![o, q] ![32, 512] j).toLoadRect ![1, 288, 1024] p1 p2) p3))
      = fun x : S32x512.Idx => H ((x 0 : Fin 32) + (o - (k + 1))) ((x 1 : Fin 512) + q) := by
  rw [View.readCov_eq_canon']
  funext x
  obtain ⟨r, c, rfl⟩ : ∃ (r : Fin 32) (c : Fin 512), x = ix2 r c := ⟨x 0, x 1, eq_ix2 (n0 := 32) (n1 := 512) x⟩
  show View.canon L (LoadRect.idx _ (Shape.reshapeEquiv hR (ix2 r c))) = _
  have e : Shape.reshapeEquiv hR (ix2 r c) = ix3 0 r c := ValueIdx.reshapeEquiv_ix2_1ab _ _ _
  rw [e]
  refine (h _ ?_).trans (congrArg₂ H ?_ ?_)
  · show 8 ≤ 0 + o + 1 * (r : ℕ); omega
  · show 0 + o + 1 * (r : ℕ) - (k + 0 + 1 * 0 + 1) = r + (o - (k + 1)); omega
  · show 0 + q + 1 * (c : ℕ) = c + q; omega

theorem rdr {n : ℕ} (X : FVec Ideal ⟨2, ![n, 1024]⟩ .f32) (o q : ℕ) (i) :
    View.ld (Val := Elt Ideal) (e' := .f32) X (Rect.unit (s := ⟨2, ![n, 1024]⟩) ![o, q] ![1, 512] i) = fun x : S1x512.Idx => at2 X o ((x 1 : Fin 512) + q) := by
  funext x
  obtain ⟨r, c, rfl⟩ : ∃ (r : Fin 1) (c : Fin 512), x = ix2 r c := ⟨x 0, x 1, eq_ix2 (n0 := 1) (n1 := 512) x⟩
  have hr : r = 0 := by omega
  subst hr
  obtain ⟨r, c', e⟩ : ∃ (r : Fin n) (c' : Fin 1024), (Rect.unit (s := ⟨2, ![n, 1024]⟩) ![o, q] ![1, 512] i).emb (ix2 0 c) = ix2 r c' := ⟨_, _, eq_ix2 (n0 := n) (n1 := 1024) _⟩
  have e0 : o + 1 * 0 = (r : ℕ) := congrArg (fun z : (⟨2, ![n, 1024]⟩ : Shape).Idx => ((z 0 : Fin n) : ℕ)) e
  have e1 : q + 1 * (c : ℕ) = (c' : ℕ) := congrArg (fun z : (⟨2, ![n, 1024]⟩ : Shape).Idx => ((z 1 : Fin 1024) : ℕ)) e
  refine (congrArg X e).trans ((at2_ix X r c').symm.trans ?_)
  refine congrArg₂ (at2 X) (by omega) ?_
  show (c' : ℕ) = c + q
  omega
theorem cover2 (w0 w1 w2 w3 w4 w5 w6 : FVec Ideal S1x280x1024 .f32) (i0 i1 i2 i3 i4 i5 i6) (y : S7x288x1024.Idx) (hy : 8 ≤ ((y 1 : Fin 288) : ℕ)) :
    ∃ p ∈ ([⟨Rect.unit (s := S7x288x1024) ![6, 8, 0] ![1, 280, 1024] i6, w6⟩,
      ⟨Rect.unit (s := S7x288x1024) ![5, 8, 0] ![1, 280, 1024] i5, w5⟩,
      ⟨Rect.unit (s := S7x288x1024) ![4, 8, 0] ![1, 280, 1024] i4, w4⟩,
      ⟨Rect.unit (s := S7x288x1024) ![3, 8, 0] ![1, 280, 1024] i3, w3⟩,
      ⟨Rect.unit (s := S7x288x1024) ![2, 8, 0] ![1, 280, 1024] i2, w2⟩,
      ⟨Rect.unit (s := S7x288x1024) ![1, 8, 0] ![1, 280, 1024] i1, w1⟩,
      ⟨Rect.unit (s := S7x288x1024) ![0, 8, 0] ![1, 280, 1024] i0, w0⟩] : List (View.Piece (Elt Ideal) S7x288x1024 .f32)), y ∈ p.1.set := by
  have h1 : ((y 1 : Fin 288) : ℕ) < 288 := (y 1 : Fin 288).isLt
  have h2 : ((y 2 : Fin 1024) : ℕ) < 1024 := (y 2 : Fin 1024).isLt
  have hc : ((y 0 : Fin 7) : ℕ) = 0 ∨ ((y 0 : Fin 7) : ℕ) = 1 ∨ ((y 0 : Fin 7) : ℕ) = 2 ∨ ((y 0 : Fin 7) : ℕ) = 3 ∨ ((y 0 : Fin 7) : ℕ) = 4
      ∨ ((y 0 : Fin 7) : ℕ) = 5 ∨ ((y 0 : Fin 7) : ℕ) = 6 := by
    have h0 : ((y 0 : Fin 7) : ℕ) < 7 := (y 0 : Fin 7).isLt
    omega
  rcases hc with h | h | h | h | h | h | h
  · refine ⟨_, List.mem_cons_of_mem _ (List.mem_cons_of_mem _ (List.mem_cons_of_mem _ (List.mem_cons_of_mem _ (List.mem_cons_of_mem _ (List.mem_cons_of_mem _ (List.mem_cons_self)))))), (Rect.mem_set_unit (inb := i0)).mpr fun a => ?_⟩
    match a with
    | 0 => exact ⟨h.ge, by show ((y 0 : Fin 7) : ℕ) < 0 + 1; omega⟩
    | 1 => exact ⟨hy, h1⟩
    | 2 => exact ⟨Nat.zero_le _, h2⟩
  · refine ⟨_, List.mem_cons_of_mem _ (List.mem_cons_of_mem _ (List.mem_cons_of_mem _ (List.mem_cons_of_mem _ (List.mem_cons_of_mem _ (List.mem_cons_self))))), (Rect.mem_set_unit (inb := i1)).mpr fun a => ?_⟩
    match a with
    | 0 => exact ⟨h.ge, by show ((y 0 : Fin 7) : ℕ) < 1 + 1; omega⟩
    | 1 => exact ⟨hy, h1⟩
    | 2 => exact ⟨Nat.zero_le _, h2⟩
  · refine ⟨_, List.mem_cons_of_mem _ (List.mem_cons_of_mem _ (List.mem_cons_of_mem _ (List.mem_cons_of_mem _ (List.mem_cons_self)))), (Rect.mem_set_unit (inb := i2)).mpr fun a => ?_⟩
    match a with
    | 0 => exact ⟨h.ge, by show ((y 0 : Fin 7) : ℕ) < 2 + 1; omega⟩
    | 1 => exact ⟨hy, h1⟩
    | 2 => exact ⟨Nat.zero_le _, h2⟩
  · refine ⟨_, List.mem_cons_of_mem _ (List.mem_cons_of_mem _ (List.mem_cons_of_mem _ (List.mem_cons_self))), (Rect.mem_set_unit (inb := i3)).mpr fun a => ?_⟩
    match a with
    | 0 => exact ⟨h.ge, by show ((y 0 : Fin 7) : ℕ) < 3 + 1; omega⟩
    | 1 => exact ⟨hy, h1⟩
    | 2 => exact ⟨Nat.zero_le _, h2⟩
  · refine ⟨_, List.mem_cons_of_mem _ (List.mem_cons_of_mem _ (List.mem_cons_self)), (Rect.mem_set_unit (inb := i4)).mpr fun a => ?_⟩
    match a with
    | 0 => exact ⟨h.ge, by show ((y 0 : Fin 7) : ℕ) < 4 + 1; omega⟩
    | 1 => exact ⟨hy, h1⟩
    | 2 => exact ⟨Nat.zero_le _, h2⟩
  · refine ⟨_, List.mem_cons_of_mem _ (List.mem_cons_self), (Rect.mem_set_unit (inb := i5)).mpr fun a => ?_⟩
    match a with
    | 0 => exact ⟨h.ge, by show ((y 0 : Fin 7) : ℕ) < 5 + 1; omega⟩
    | 1 => exact ⟨hy, h1⟩
    | 2 => exact ⟨Nat.zero_le _, h2⟩
  · refine ⟨_, List.mem_cons_self, (Rect.mem_set_unit (inb := i6)).mpr fun a => ?_⟩
    match a with
    | 0 => exact ⟨h.ge, by show ((y 0 : Fin 7) : ℕ) < 6 + 1; omega⟩
    | 1 => exact ⟨hy, h1⟩
    | 2 => exact ⟨Nat.zero_le _, h2⟩

theorem canon2 (w0 w1 w2 w3 w4 w5 w6 : FVec Ideal S1x280x1024 .f32) (i0 i1 i2 i3 i4 i5 i6) (H : ℕ → ℕ → EReal)
    (h0 : ∀ (r : Fin 280) (c : Fin 1024), w0 (ix3 0 r c) = H (r + 7) c)
    (h1 : ∀ (r : Fin 280) (c : Fin 1024), w1 (ix3 0 r c) = H (r + 6) c)
    (h2 : ∀ (r : Fin 280) (c : Fin 1024), w2 (ix3 0 r c) = H (r + 5) c)
    (h3 : ∀ (r : Fin 280) (c : Fin 1024), w3 (ix3 0 r c) = H (r + 4) c)
    (h4 : ∀ (r : Fin 280) (c : Fin 1024), w4 (ix3 0 r c) = H (r + 3) c)
    (h5 : ∀ (r : Fin 280) (c : Fin 1024), w5 (ix3 0 r c) = H (r + 2) c)
    (h6 : ∀ (r : Fin 280) (c : Fin 1024), w6 (ix3 0 r c) = H (r + 1) c)
    (y : S7x288x1024.Idx) (hy : 8 ≤ ((y 1 : Fin 288) : ℕ)) :
    View.canon (Val := Elt Ideal) (e := .f32) [⟨Rect.unit (s := S7x288x1024) ![6, 8, 0] ![1, 280, 1024] i6, w6⟩,
      ⟨Rect.unit (s := S7x288x1024) ![5, 8, 0] ![1, 280, 1024] i5, w5⟩,
      ⟨Rect.unit (s := S7x288x1024) ![4, 8, 0] ![1, 280, 1024] i4, w4⟩,
      ⟨Rect.unit (s := S7x288x1024) ![3, 8, 0] ![1, 280, 1024] i3, w3⟩,
      ⟨Rect.unit (s := S7x288x1024) ![2, 8, 0] ![1, 280, 1024] i2, w2⟩,
      ⟨Rect.unit (s := S7x288x1024) ![1, 8, 0] ![1, 280, 1024] i1, w1⟩,
      ⟨Rect.unit (s := S7x288x1024) ![0, 8, 0] ![1, 280, 1024] i0, w0⟩] y = H ((y 1 : Fin 288) - ((y 0 : Fin 7) + 1)) (y 2 : Fin 1024) := by
  refine View.canon_apply_of_pieces (Val := Elt Ideal) (e := .f32) (fun y : S7x288x1024.Idx => H ((y 1 : Fin 288) - ((y 0 : Fin 7) + 1)) (y 2 : Fin 1024)) _ ?_ y (cover2 w0 w1 w2 w3 w4 w5 w6 i0 i1 i2 i3 i4 i5 i6 y hy)
  refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun p hp => absurd hp List.not_mem_nil⟩⟩⟩⟩⟩⟩⟩
  · intro x
    obtain ⟨q, r, c, rfl⟩ : ∃ (q : Fin 1) (r : Fin 280) (c : Fin 1024), x = ix3 q r c := ⟨x 0, x 1, x 2, eq_ix3 (n0 := 1) (n1 := 280) (n2 := 1024) x⟩
    have hq : q = 0 := by omega
    subst hq
    refine (h6 r c).trans (congrArg₂ H ?_ ?_)
    · show (r : ℕ) + 1 = 8 + 1 * (r : ℕ) - (6 + 1 * 0 + 1); omega
    · show (c : ℕ) = 0 + 1 * (c : ℕ); omega
  · intro x
    obtain ⟨q, r, c, rfl⟩ : ∃ (q : Fin 1) (r : Fin 280) (c : Fin 1024), x = ix3 q r c := ⟨x 0, x 1, x 2, eq_ix3 (n0 := 1) (n1 := 280) (n2 := 1024) x⟩
    have hq : q = 0 := by omega
    subst hq
    refine (h5 r c).trans (congrArg₂ H ?_ ?_)
    · show (r : ℕ) + 2 = 8 + 1 * (r : ℕ) - (5 + 1 * 0 + 1); omega
    · show (c : ℕ) = 0 + 1 * (c : ℕ); omega
  · intro x
    obtain ⟨q, r, c, rfl⟩ : ∃ (q : Fin 1) (r : Fin 280) (c : Fin 1024), x = ix3 q r c := ⟨x 0, x 1, x 2, eq_ix3 (n0 := 1) (n1 := 280) (n2 := 1024) x⟩
    have hq : q = 0 := by omega
    subst hq
    refine (h4 r c).trans (congrArg₂ H ?_ ?_)
    · show (r : ℕ) + 3 = 8 + 1 * (r : ℕ) - (4 + 1 * 0 + 1); omega
    · show (c : ℕ) = 0 + 1 * (c : ℕ); omega
  · intro x
    obtain ⟨q, r, c, rfl⟩ : ∃ (q : Fin 1) (r : Fin 280) (c : Fin 1024), x = ix3 q r c := ⟨x 0, x 1, x 2, eq_ix3 (n0 := 1) (n1 := 280) (n2 := 1024) x⟩
    have hq : q = 0 := by omega
    subst hq
    refine (h3 r c).trans (congrArg₂ H ?_ ?_)
    · show (r : ℕ) + 4 = 8 + 1 * (r : ℕ) - (3 + 1 * 0 + 1); omega
    · show (c : ℕ) = 0 + 1 * (c : ℕ); omega
  · intro x
    obtain ⟨q, r, c, rfl⟩ : ∃ (q : Fin 1) (r : Fin 280) (c : Fin 1024), x = ix3 q r c := ⟨x 0, x 1, x 2, eq_ix3 (n0 := 1) (n1 := 280) (n2 := 1024) x⟩
    have hq : q = 0 := by omega
    subst hq
    refine (h2 r c).trans (congrArg₂ H ?_ ?_)
    · show (r : ℕ) + 5 = 8 + 1 * (r : ℕ) - (2 + 1 * 0 + 1); omega
    · show (c : ℕ) = 0 + 1 * (c : ℕ); omega
  · intro x
    obtain ⟨q, r, c, rfl⟩ : ∃ (q : Fin 1) (r : Fin 280) (c : Fin 1024), x = ix3 q r c := ⟨x 0, x 1, x 2, eq_ix3 (n0 := 1) (n1 := 280) (n2 := 1024) x⟩
    have hq : q = 0 := by omega
    subst hq
    refine (h1 r c).trans (congrArg₂ H ?_ ?_)
    · show (r : ℕ) + 6 = 8 + 1 * (r : ℕ) - (1 + 1 * 0 + 1); omega
    · show (c : ℕ) = 0 + 1 * (c : ℕ); omega
  · intro x
    obtain ⟨q, r, c, rfl⟩ : ∃ (q : Fin 1) (r : Fin 280) (c : Fin 1024), x = ix3 q r c := ⟨x 0, x 1, x 2, eq_ix3 (n0 := 1) (n1 := 280) (n2 := 1024) x⟩
    have hq : q = 0 := by omega
    subst hq
    refine (h0 r c).trans (congrArg₂ H ?_ ?_)
    · show (r : ℕ) + 7 = 8 + 1 * (r : ℕ) - (0 + 1 * 0 + 1); omega
    · show (c : ℕ) = 0 + 1 * (c : ℕ); omega

theorem sq_at (X : FVec Ideal S280x1024 .f32) (h) (r : Fin 280) (c : Fin 1024) : shapeCast S1x280x1024 X h (ix3 0 r c) = X (ix2 r c) := by
  pointwise
theorem close_conv (E : ℕ → EReal) (D H : ℕ → ℕ → EReal) (R C : ℕ) (x0 x1 x2 x3 x4 x5 x6 x7 x8 x9 x10 x11 x12 x13 x14 x15 x16 x17 x18 x19 x20 x21 x22 x23 x24 x25 x26 x27 x28 x29 x30 : EReal)
    (h0 : x0 = H (R + 32) C)
    (h1 : x1 = H (R + 31) C)
    (h2 : x2 = H (R + 30) C)
    (h3 : x3 = H (R + 29) C)
    (h4 : x4 = H (R + 28) C)
    (h5 : x5 = H (R + 27) C)
    (h6 : x6 = H (R + 26) C)
    (h7 : x7 = H (R + 25) C)
    (h8 : x8 = H (R + 24) C)
    (h9 : x9 = H (R + 23) C)
    (h10 : x10 = H (R + 22) C)
    (h11 : x11 = H (R + 21) C)
    (h12 : x12 = H (R + 20) C)
    (h13 : x13 = H (R + 19) C)
    (h14 : x14 = H (R + 18) C)
    (h15 : x15 = H (R + 17) C)
    (h16 : x16 = H (R + 16) C)
    (h17 : x17 = H (R + 15) C)
    (h18 : x18 = H (R + 14) C)
    (h19 : x19 = H (R + 13) C)
    (h20 : x20 = H (R + 12) C)
    (h21 : x21 = H (R + 11) C)
    (h22 : x22 = H (R + 10) C)
    (h23 : x23 = H (R + 9) C)
    (h24 : x24 = H (R + 8) C)
    (h25 : x25 = H (R + 7) C)
    (h26 : x26 = H (R + 6) C)
    (h27 : x27 = H (R + 5) C)
    (h28 : x28 = H (R + 4) C)
    (h29 : x29 = H (R + 3) C)
    (h30 : x30 = H (R + 2) C) :
    E C + D 30 C * x0 + D 29 C * x1 + D 28 C * x2 + D 27 C * x3 + D 26 C * x4 + D 25 C * x5 + D 24 C * x6 + D 23 C * x7 + D 22 C * x8 + D 21 C * x9 + D 20 C * x10 + D 19 C * x11 + D 18 C * x12 + D 17 C * x13 + D 16 C * x14 + D 15 C * x15 + D 14 C * x16 + D 13 C * x17 + D 12 C * x18 + D 11 C * x19 + D 10 C * x20 + D 9 C * x21 + D 8 C * x22 + D 7 C * x23 + D 6 C * x24 + D 5 C * x25 + D 4 C * x26 + D 3 C * x27 + D 2 C * x28 + D 1 C * x29 + D 0 C * x30 = convAt E D H R C := by
  unfold convAt
  rw [h0, h1, h2, h3, h4, h5, h6, h7, h8, h9, h10, h11, h12, h13, h14, h15, h16, h17, h18, h19, h20, h21, h22, h23, h24, h25, h26, h27, h28, h29, h30]

end Cert.ConfIdeal.Cf
end
-- ==== Proof.CfBody.lean ====
/- The Conformer convolution: what the kernel leaves and what the reference computes. -/
module

public import proofs.«01_k».proof.Defs
public import proofs.«01_k».proof.Proof.CfRead
public import proofs.«01_k».proof.Proof.Gen.ConfIdeal.Frame
public import proofs.«01_k».proof.Proof.Gen.ConfRefIdeal.Run
public import proofs.«01_k».proof.Proof.Gen.ConfRefIdeal.Read
public import Idealize.ShloMosaic.Lib.Pipeline.ValueKit
public import Idealize.ShloMosaic.Lib.Pointwise
public import Idealize.ShloMosaic.Lib.KernelVsHost
public import Idealize.ShloMosaic.Adequacy
public import Idealize.ShloMosaic.Init

@[expose] public section
set_option maxRecDepth 16384
noncomputable section
open Idealize.ShloMosaic Idealize.ShloMosaic.TcCoe Idealize.SL.Sem
open Idealize.ShloMosaic.Pipeline (Dat)

namespace Cert.ConfIdeal.Cf
open Cert.ConfIdeal Cert.ConfIdeal.Gen

variable (m : (ℓ : Loc nD τ sig) → Buf (Elt Ideal) ℓ)

/-- The convolution of a block. -/
def convBlk (c : Dev nD) (t : Fin cfg0.N) : FVec Ideal S256x1024 .f32 := fun y =>
  convAt (at2 (iblk m c 5 t : FVec Ideal S1x1024 .f32) 0) (at2 (iblk m c 4 t : FVec Ideal S32x1024 .f32))
    (hAt (k0_pay2 (F := Ideal) (grid0.coords t) (iblk m c 2 t) (iblk m c 3 t)) (k0_pay3 (F := Ideal) (iblk m c 0 t) (iblk m c 1 t))) (y 0 : Fin 256) (y 1 : Fin 1024)

theorem cb (c : Dev nD) (t : Fin cfg0.N) (H : ℕ → ℕ → EReal)
    (hH : H = hAt (k0_pay2 (F := Ideal) (grid0.coords t) (iblk m c 2 t) (iblk m c 3 t)) (k0_pay3 (F := Ideal) (iblk m c 0 t) (iblk m c 1 t)))
    (y : S256x1024.Idx) (R C : ℕ) (h0 : ((y 0 : Fin 256) : ℕ) = R) (h1 : ((y 1 : Fin 1024) : ℕ) = C) :
    convAt (at2 (iblk m c 5 t : FVec Ideal S1x1024 .f32) 0) (at2 (iblk m c 4 t : FVec Ideal S32x1024 .f32)) H R C = convBlk m c t y := by
  subst hH h0 h1
  rfl

set_option maxHeartbeats 20000000 in
theorem outv (c : Dev nD) (t : Fin cfg0.N) (a : Fin 256) (b : Fin 1024) :
    (outsAt0 m c t (ix2 a b) : EReal) = k0_pay1 (F := Ideal) (k0_pay234 (convBlk m c t)) (k0_pay235 (convBlk m c t)) k0_pay236 (iblk m c 6 t) (iblk m c 7 t) (iblk m c 8 t) (iblk m c 9 t) (ix2 a b) := by
  unfold outsAt0 out0_A_10
  frame_out
  generalize hL2 : List.cons (α := View.Piece (Elt Ideal) S7x288x1024 .f32) _ _ = L2
  generalize hL0 : List.cons (α := View.Piece (Elt Ideal) S288x1024 .f32) _ _ = L0 at hL2 ⊢
  obtain ⟨H, hH⟩ : ∃ H, H = hAt (k0_pay2 (F := Ideal) (grid0.coords t) (iblk m c 2 t) (iblk m c 3 t)) (k0_pay3 (F := Ideal) (iblk m c 0 t) (iblk m c 1 t)) := ⟨_, rfl⟩
  have h0 : ∀ y : S288x1024.Idx, View.canon L0 y = H (y 0 : Fin 288) (y 1 : Fin 1024) := by
    intro y
    rw [← hL0, hH]
    exact canon0 _ _ y
  have h2 : ∀ y : S7x288x1024.Idx, 8 ≤ ((y 1 : Fin 288) : ℕ) → View.canon L2 y = H ((y 1 : Fin 288) - ((y 0 : Fin 7) + 1)) (y 2 : Fin 1024) := by
    intro y hy
    rw [← hL2]
    refine canon2 _ _ _ _ _ _ _ _ _ _ _ _ _ _ H ?_ ?_ ?_ ?_ ?_ ?_ ?_ y hy
    all_goals
      intro r c
      try unfold k0_pay4
      try unfold k0_pay5
      refine (sq_at _ _ r c).trans ?_
      rw [rd0 L0 H h0]
      rfl
  clear hL2 hL0
  have e : ∀ L1 : List (View.Piece (Elt Ideal) S256x1024 .f32), (∀ p ∈ L1, ∀ x : p.1.shape.Idx, p.2 x = convBlk m c t (p.1.emb x)) →
      (∀ y, ∃ p ∈ L1, y ∈ p.1.set) → View.readCov (Val := Elt Ideal) (View.whole cc0_scratch1) L1 (Rect.unit (s := S256x1024) ![0, 0] ![256, 1024] inb_S256x1024_S256x1024_0_0).toLoadRect = convBlk m c t := by
    intro L1 h1 hc
    rw [View.readCov_eq_canon']
    funext x
    refine (View.canon_apply_of_pieces (Val := Elt Ideal) (e := .f32) (convBlk m c t) L1 h1 _ (hc _)).trans ?_
    refine congrArg (convBlk m c t) (funext fun a => Fin.ext ?_)
    match a with
    | 0 => show 0 + 1 * ((x 0 : Fin 256) : ℕ) = (x 0 : Fin 256); omega
    | 1 => show 0 + 1 * ((x 1 : Fin 1024) : ℕ) = (x 1 : Fin 1024); omega
  rw [e]
  · refine List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, List.forall_mem_cons.mpr ⟨?_, fun p hp => absurd hp List.not_mem_nil⟩⟩⟩⟩⟩⟩⟩⟩⟩⟩⟩⟩⟩⟩⟩⟩
    · intro x
      obtain ⟨r, l, rfl⟩ : ∃ (r : Fin 32) (l : Fin 512), x = ix2 r l := ⟨x 0, x 1, eq_ix2 (n0 := 32) (n1 := 512) x⟩
      dsimp only
      simp only [rd0 L0 H h0, rdr]
      pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233]
      refine Eq.trans ?_ (cb m c t H hH _ (r + 224) (l + 512) (by show 224 + 1 * (r : ℕ) = r + 224; omega) (by show 512 + 1 * (l : ℕ) = l + 512; omega))
      refine close_conv _ _ _ _ _ _ _ _ _ _ _ _ _ _ _ _ _ _ _ _ _ _ _ _ _ _ _ _ _ _ _ _ _ _ _ _ rfl ?_ ?_ ?_ ?_ ?_ ?_ ?_ rfl ?_ ?_ ?_ ?_ ?_ ?_ ?_ rfl ?_ ?_ ?_ ?_ ?_ ?_ ?_ rfl ?_ ?_ ?_ ?_ ?_ ?_
      all_goals exact congrFun (rd2 L2 H h2 _ _ _ (by norm_num) (by norm_num) _ _ _ _ _ _) (ix2 r l)
    · intro x
      obtain ⟨r, l, rfl⟩ : ∃ (r : Fin 32) (l : Fin 512), x = ix2 r l := ⟨x 0, x 1, eq_ix2 (n0 := 32) (n1 := 512) x⟩
      dsimp only
      simp only [rd0 L0 H h0, rdr]
      pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233]
      refine Eq.trans ?_ (cb m c t H hH _ (r + 224) (l + 0) (by show 224 + 1 * (r : ℕ) = r + 224; omega) (by show 0 + 1 * (l : ℕ) = l + 0; omega))
      refine close_conv _ _ _ _ _ _ _ _ _ _ _ _ _ _ _ _ _ _ _ _ _ _ _ _ _ _ _ _ _ _ _ _ _ _ _ _ rfl ?_ ?_ ?_ ?_ ?_ ?_ ?_ rfl ?_ ?_ ?_ ?_ ?_ ?_ ?_ rfl ?_ ?_ ?_ ?_ ?_ ?_ ?_ rfl ?_ ?_ ?_ ?_ ?_ ?_
      all_goals exact congrFun (rd2 L2 H h2 _ _ _ (by norm_num) (by norm_num) _ _ _ _ _ _) (ix2 r l)
    · intro x
      obtain ⟨r, l, rfl⟩ : ∃ (r : Fin 32) (l : Fin 512), x = ix2 r l := ⟨x 0, x 1, eq_ix2 (n0 := 32) (n1 := 512) x⟩
      dsimp only
      simp only [rd0 L0 H h0, rdr]
      pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233]
      refine Eq.trans ?_ (cb m c t H hH _ (r + 192) (l + 512) (by show 192 + 1 * (r : ℕ) = r + 192; omega) (by show 512 + 1 * (l : ℕ) = l + 512; omega))
      refine close_conv _ _ _ _ _ _ _ _ _ _ _ _ _ _ _ _ _ _ _ _ _ _ _ _ _ _ _ _ _ _ _ _ _ _ _ _ rfl ?_ ?_ ?_ ?_ ?_ ?_ ?_ rfl ?_ ?_ ?_ ?_ ?_ ?_ ?_ rfl ?_ ?_ ?_ ?_ ?_ ?_ ?_ rfl ?_ ?_ ?_ ?_ ?_ ?_
      all_goals exact congrFun (rd2 L2 H h2 _ _ _ (by norm_num) (by norm_num) _ _ _ _ _ _) (ix2 r l)
    · intro x
      obtain ⟨r, l, rfl⟩ : ∃ (r : Fin 32) (l : Fin 512), x = ix2 r l := ⟨x 0, x 1, eq_ix2 (n0 := 32) (n1 := 512) x⟩
      dsimp only
      simp only [rd0 L0 H h0, rdr]
      pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233]
      refine Eq.trans ?_ (cb m c t H hH _ (r + 192) (l + 0) (by show 192 + 1 * (r : ℕ) = r + 192; omega) (by show 0 + 1 * (l : ℕ) = l + 0; omega))
      refine close_conv _ _ _ _ _ _ _ _ _ _ _ _ _ _ _ _ _ _ _ _ _ _ _ _ _ _ _ _ _ _ _ _ _ _ _ _ rfl ?_ ?_ ?_ ?_ ?_ ?_ ?_ rfl ?_ ?_ ?_ ?_ ?_ ?_ ?_ rfl ?_ ?_ ?_ ?_ ?_ ?_ ?_ rfl ?_ ?_ ?_ ?_ ?_ ?_
      all_goals exact congrFun (rd2 L2 H h2 _ _ _ (by norm_num) (by norm_num) _ _ _ _ _ _) (ix2 r l)
    · intro x
      obtain ⟨r, l, rfl⟩ : ∃ (r : Fin 32) (l : Fin 512), x = ix2 r l := ⟨x 0, x 1, eq_ix2 (n0 := 32) (n1 := 512) x⟩
      dsimp only
      simp only [rd0 L0 H h0, rdr]
      pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233]
      refine Eq.trans ?_ (cb m c t H hH _ (r + 160) (l + 512) (by show 160 + 1 * (r : ℕ) = r + 160; omega) (by show 512 + 1 * (l : ℕ) = l + 512; omega))
      refine close_conv _ _ _ _ _ _ _ _ _ _ _ _ _ _ _ _ _ _ _ _ _ _ _ _ _ _ _ _ _ _ _ _ _ _ _ _ rfl ?_ ?_ ?_ ?_ ?_ ?_ ?_ rfl ?_ ?_ ?_ ?_ ?_ ?_ ?_ rfl ?_ ?_ ?_ ?_ ?_ ?_ ?_ rfl ?_ ?_ ?_ ?_ ?_ ?_
      all_goals exact congrFun (rd2 L2 H h2 _ _ _ (by norm_num) (by norm_num) _ _ _ _ _ _) (ix2 r l)
    · intro x
      obtain ⟨r, l, rfl⟩ : ∃ (r : Fin 32) (l : Fin 512), x = ix2 r l := ⟨x 0, x 1, eq_ix2 (n0 := 32) (n1 := 512) x⟩
      dsimp only
      simp only [rd0 L0 H h0, rdr]
      pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233]
      refine Eq.trans ?_ (cb m c t H hH _ (r + 160) (l + 0) (by show 160 + 1 * (r : ℕ) = r + 160; omega) (by show 0 + 1 * (l : ℕ) = l + 0; omega))
      refine close_conv _ _ _ _ _ _ _ _ _ _ _ _ _ _ _ _ _ _ _ _ _ _ _ _ _ _ _ _ _ _ _ _ _ _ _ _ rfl ?_ ?_ ?_ ?_ ?_ ?_ ?_ rfl ?_ ?_ ?_ ?_ ?_ ?_ ?_ rfl ?_ ?_ ?_ ?_ ?_ ?_ ?_ rfl ?_ ?_ ?_ ?_ ?_ ?_
      all_goals exact congrFun (rd2 L2 H h2 _ _ _ (by norm_num) (by norm_num) _ _ _ _ _ _) (ix2 r l)
    · intro x
      obtain ⟨r, l, rfl⟩ : ∃ (r : Fin 32) (l : Fin 512), x = ix2 r l := ⟨x 0, x 1, eq_ix2 (n0 := 32) (n1 := 512) x⟩
      dsimp only
      simp only [rd0 L0 H h0, rdr]
      pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233]
      refine Eq.trans ?_ (cb m c t H hH _ (r + 128) (l + 512) (by show 128 + 1 * (r : ℕ) = r + 128; omega) (by show 512 + 1 * (l : ℕ) = l + 512; omega))
      refine close_conv _ _ _ _ _ _ _ _ _ _ _ _ _ _ _ _ _ _ _ _ _ _ _ _ _ _ _ _ _ _ _ _ _ _ _ _ rfl ?_ ?_ ?_ ?_ ?_ ?_ ?_ rfl ?_ ?_ ?_ ?_ ?_ ?_ ?_ rfl ?_ ?_ ?_ ?_ ?_ ?_ ?_ rfl ?_ ?_ ?_ ?_ ?_ ?_
      all_goals exact congrFun (rd2 L2 H h2 _ _ _ (by norm_num) (by norm_num) _ _ _ _ _ _) (ix2 r l)
    · intro x
      obtain ⟨r, l, rfl⟩ : ∃ (r : Fin 32) (l : Fin 512), x = ix2 r l := ⟨x 0, x 1, eq_ix2 (n0 := 32) (n1 := 512) x⟩
      dsimp only
      simp only [rd0 L0 H h0, rdr]
      pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233]
      refine Eq.trans ?_ (cb m c t H hH _ (r + 128) (l + 0) (by show 128 + 1 * (r : ℕ) = r + 128; omega) (by show 0 + 1 * (l : ℕ) = l + 0; omega))
      refine close_conv _ _ _ _ _ _ _ _ _ _ _ _ _ _ _ _ _ _ _ _ _ _ _ _ _ _ _ _ _ _ _ _ _ _ _ _ rfl ?_ ?_ ?_ ?_ ?_ ?_ ?_ rfl ?_ ?_ ?_ ?_ ?_ ?_ ?_ rfl ?_ ?_ ?_ ?_ ?_ ?_ ?_ rfl ?_ ?_ ?_ ?_ ?_ ?_
      all_goals exact congrFun (rd2 L2 H h2 _ _ _ (by norm_num) (by norm_num) _ _ _ _ _ _) (ix2 r l)
    · intro x
      obtain ⟨r, l, rfl⟩ : ∃ (r : Fin 32) (l : Fin 512), x = ix2 r l := ⟨x 0, x 1, eq_ix2 (n0 := 32) (n1 := 512) x⟩
      dsimp only
      simp only [rd0 L0 H h0, rdr]
      pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233]
      refine Eq.trans ?_ (cb m c t H hH _ (r + 96) (l + 512) (by show 96 + 1 * (r : ℕ) = r + 96; omega) (by show 512 + 1 * (l : ℕ) = l + 512; omega))
      refine close_conv _ _ _ _ _ _ _ _ _ _ _ _ _ _ _ _ _ _ _ _ _ _ _ _ _ _ _ _ _ _ _ _ _ _ _ _ rfl ?_ ?_ ?_ ?_ ?_ ?_ ?_ rfl ?_ ?_ ?_ ?_ ?_ ?_ ?_ rfl ?_ ?_ ?_ ?_ ?_ ?_ ?_ rfl ?_ ?_ ?_ ?_ ?_ ?_
      all_goals exact congrFun (rd2 L2 H h2 _ _ _ (by norm_num) (by norm_num) _ _ _ _ _ _) (ix2 r l)
    · intro x
      obtain ⟨r, l, rfl⟩ : ∃ (r : Fin 32) (l : Fin 512), x = ix2 r l := ⟨x 0, x 1, eq_ix2 (n0 := 32) (n1 := 512) x⟩
      dsimp only
      simp only [rd0 L0 H h0, rdr]
      pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233]
      refine Eq.trans ?_ (cb m c t H hH _ (r + 96) (l + 0) (by show 96 + 1 * (r : ℕ) = r + 96; omega) (by show 0 + 1 * (l : ℕ) = l + 0; omega))
      refine close_conv _ _ _ _ _ _ _ _ _ _ _ _ _ _ _ _ _ _ _ _ _ _ _ _ _ _ _ _ _ _ _ _ _ _ _ _ rfl ?_ ?_ ?_ ?_ ?_ ?_ ?_ rfl ?_ ?_ ?_ ?_ ?_ ?_ ?_ rfl ?_ ?_ ?_ ?_ ?_ ?_ ?_ rfl ?_ ?_ ?_ ?_ ?_ ?_
      all_goals exact congrFun (rd2 L2 H h2 _ _ _ (by norm_num) (by norm_num) _ _ _ _ _ _) (ix2 r l)
    · intro x
      obtain ⟨r, l, rfl⟩ : ∃ (r : Fin 32) (l : Fin 512), x = ix2 r l := ⟨x 0, x 1, eq_ix2 (n0 := 32) (n1 := 512) x⟩
      dsimp only
      simp only [rd0 L0 H h0, rdr]
      pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233]
      refine Eq.trans ?_ (cb m c t H hH _ (r + 64) (l + 512) (by show 64 + 1 * (r : ℕ) = r + 64; omega) (by show 512 + 1 * (l : ℕ) = l + 512; omega))
      refine close_conv _ _ _ _ _ _ _ _ _ _ _ _ _ _ _ _ _ _ _ _ _ _ _ _ _ _ _ _ _ _ _ _ _ _ _ _ rfl ?_ ?_ ?_ ?_ ?_ ?_ ?_ rfl ?_ ?_ ?_ ?_ ?_ ?_ ?_ rfl ?_ ?_ ?_ ?_ ?_ ?_ ?_ rfl ?_ ?_ ?_ ?_ ?_ ?_
      all_goals exact congrFun (rd2 L2 H h2 _ _ _ (by norm_num) (by norm_num) _ _ _ _ _ _) (ix2 r l)
    · intro x
      obtain ⟨r, l, rfl⟩ : ∃ (r : Fin 32) (l : Fin 512), x = ix2 r l := ⟨x 0, x 1, eq_ix2 (n0 := 32) (n1 := 512) x⟩
      dsimp only
      simp only [rd0 L0 H h0, rdr]
      pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233]
      refine Eq.trans ?_ (cb m c t H hH _ (r + 64) (l + 0) (by show 64 + 1 * (r : ℕ) = r + 64; omega) (by show 0 + 1 * (l : ℕ) = l + 0; omega))
      refine close_conv _ _ _ _ _ _ _ _ _ _ _ _ _ _ _ _ _ _ _ _ _ _ _ _ _ _ _ _ _ _ _ _ _ _ _ _ rfl ?_ ?_ ?_ ?_ ?_ ?_ ?_ rfl ?_ ?_ ?_ ?_ ?_ ?_ ?_ rfl ?_ ?_ ?_ ?_ ?_ ?_ ?_ rfl ?_ ?_ ?_ ?_ ?_ ?_
      all_goals exact congrFun (rd2 L2 H h2 _ _ _ (by norm_num) (by norm_num) _ _ _ _ _ _) (ix2 r l)
    · intro x
      obtain ⟨r, l, rfl⟩ : ∃ (r : Fin 32) (l : Fin 512), x = ix2 r l := ⟨x 0, x 1, eq_ix2 (n0 := 32) (n1 := 512) x⟩
      dsimp only
      simp only [rd0 L0 H h0, rdr]
      pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233]
      refine Eq.trans ?_ (cb m c t H hH _ (r + 32) (l + 512) (by show 32 + 1 * (r : ℕ) = r + 32; omega) (by show 512 + 1 * (l : ℕ) = l + 512; omega))
      refine close_conv _ _ _ _ _ _ _ _ _ _ _ _ _ _ _ _ _ _ _ _ _ _ _ _ _ _ _ _ _ _ _ _ _ _ _ _ rfl ?_ ?_ ?_ ?_ ?_ ?_ ?_ rfl ?_ ?_ ?_ ?_ ?_ ?_ ?_ rfl ?_ ?_ ?_ ?_ ?_ ?_ ?_ rfl ?_ ?_ ?_ ?_ ?_ ?_
      all_goals exact congrFun (rd2 L2 H h2 _ _ _ (by norm_num) (by norm_num) _ _ _ _ _ _) (ix2 r l)
    · intro x
      obtain ⟨r, l, rfl⟩ : ∃ (r : Fin 32) (l : Fin 512), x = ix2 r l := ⟨x 0, x 1, eq_ix2 (n0 := 32) (n1 := 512) x⟩
      dsimp only
      simp only [rd0 L0 H h0, rdr]
      pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233]
      refine Eq.trans ?_ (cb m c t H hH _ (r + 32) (l + 0) (by show 32 + 1 * (r : ℕ) = r + 32; omega) (by show 0 + 1 * (l : ℕ) = l + 0; omega))
      refine close_conv _ _ _ _ _ _ _ _ _ _ _ _ _ _ _ _ _ _ _ _ _ _ _ _ _ _ _ _ _ _ _ _ _ _ _ _ rfl ?_ ?_ ?_ ?_ ?_ ?_ ?_ rfl ?_ ?_ ?_ ?_ ?_ ?_ ?_ rfl ?_ ?_ ?_ ?_ ?_ ?_ ?_ rfl ?_ ?_ ?_ ?_ ?_ ?_
      all_goals exact congrFun (rd2 L2 H h2 _ _ _ (by norm_num) (by norm_num) _ _ _ _ _ _) (ix2 r l)
    · intro x
      obtain ⟨r, l, rfl⟩ : ∃ (r : Fin 32) (l : Fin 512), x = ix2 r l := ⟨x 0, x 1, eq_ix2 (n0 := 32) (n1 := 512) x⟩
      dsimp only
      simp only [rd0 L0 H h0, rdr]
      pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233]
      refine Eq.trans ?_ (cb m c t H hH _ (r + 0) (l + 512) (by show 0 + 1 * (r : ℕ) = r + 0; omega) (by show 512 + 1 * (l : ℕ) = l + 512; omega))
      refine close_conv _ _ _ _ _ _ _ _ _ _ _ _ _ _ _ _ _ _ _ _ _ _ _ _ _ _ _ _ _ _ _ _ _ _ _ _ rfl ?_ ?_ ?_ ?_ ?_ ?_ ?_ rfl ?_ ?_ ?_ ?_ ?_ ?_ ?_ rfl ?_ ?_ ?_ ?_ ?_ ?_ ?_ rfl ?_ ?_ ?_ ?_ ?_ ?_
      all_goals exact congrFun (rd2 L2 H h2 _ _ _ (by norm_num) (by norm_num) _ _ _ _ _ _) (ix2 r l)
    · intro x
      obtain ⟨r, l, rfl⟩ : ∃ (r : Fin 32) (l : Fin 512), x = ix2 r l := ⟨x 0, x 1, eq_ix2 (n0 := 32) (n1 := 512) x⟩
      dsimp only
      simp only [rd0 L0 H h0, rdr]
      pointwise [k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233]
      refine Eq.trans ?_ (cb m c t H hH _ (r + 0) (l + 0) (by show 0 + 1 * (r : ℕ) = r + 0; omega) (by show 0 + 1 * (l : ℕ) = l + 0; omega))
      refine close_conv _ _ _ _ _ _ _ _ _ _ _ _ _ _ _ _ _ _ _ _ _ _ _ _ _ _ _ _ _ _ _ _ _ _ _ _ rfl ?_ ?_ ?_ ?_ ?_ ?_ ?_ rfl ?_ ?_ ?_ ?_ ?_ ?_ ?_ rfl ?_ ?_ ?_ ?_ ?_ ?_ ?_ rfl ?_ ?_ ?_ ?_ ?_ ?_
      all_goals exact congrFun (rd2 L2 H h2 _ _ _ (by norm_num) (by norm_num) _ _ _ _ _ _) (ix2 r l)
  · intro y
    exact View.cover_of_tiledL (s := S256x1024) _ S32x512.size (by sl_kernel_rfl) y
end Cert.ConfIdeal.Cf
end
-- ==== Proof.CfMath.lean ====
/- The Conformer convolution: what the kernel leaves and what the reference computes. -/
module

public import proofs.«01_k».proof.Defs
public import proofs.«01_k».proof.Proof.CfRead
public import proofs.«01_k».proof.Proof.Gen.ConfIdeal.Frame
public import proofs.«01_k».proof.Proof.Gen.ConfRefIdeal.Run
public import proofs.«01_k».proof.Proof.Gen.ConfRefIdeal.Read
public import Idealize.ShloMosaic.Lib.Pipeline.ValueKit
public import Idealize.ShloMosaic.Lib.Pointwise
public import Idealize.ShloMosaic.Lib.KernelVsHost
public import Idealize.ShloMosaic.Adequacy
public import Idealize.ShloMosaic.Init

@[expose] public section
set_option maxRecDepth 16384
noncomputable section
open Idealize.ShloMosaic Idealize.ShloMosaic.TcCoe Idealize.SL.Sem
open Idealize.ShloMosaic.Pipeline (Dat)

namespace Cert.ConfIdeal.Cf
open Cert.ConfIdeal Cert.ConfIdeal.Gen

/-- A row's mean. -/
def mean (Y : Fin 1024 → EReal) : EReal := Ideal.div (∑ k, Y k) (Ideal.ofBits .f32 0x44800000#32)
/-- A row, normalized. -/
def lnAt (Y : Fin 1024 → EReal) (w b : Fin 1024 → EReal) (k : Fin 1024) : EReal :=
  (Y k - mean Y) * Ideal.rsqrt (Ideal.div (∑ j, (Y j - mean Y) * (Y j - mean Y)) (Ideal.ofBits .f32 0x44800000#32) + Ideal.ofBits .f32 0x3727C5AC#32) * w k + b k
/-- A row through its activation and its matrix. -/
def projAt (z : Fin 1024 → EReal) (W : Fin 1024 → EReal) (b : EReal) : EReal := (∑ k, z k * Ideal.logistic (z k) * W k) + b

/-- A gated row. -/
def gluAt (X : FVec Ideal S16384x8192 .bf16) (r l : ℕ) : EReal :=
  if h : r < 16384 ∧ l < 1024 then X (ix2 ⟨r, h.1⟩ ⟨2048 + l, by omega⟩) * Ideal.logistic (X (ix2 ⟨r, h.1⟩ ⟨3072 + l, by omega⟩)) else 0
/-- The gated rows behind thirty-two empty ones. -/
def padAt (X : FVec Ideal S16384x8192 .bf16) (n l : ℕ) : EReal := if n < 32 then 0 else gluAt X (n - 32) l

theorem sum_comm (p0 p1 p2 p3 p4 p5 p6 p7 p8 p9 p10 p11 p12 p13 p14 p15 p16 p17 p18 p19 p20 p21 p22 p23 p24 p25 p26 p27 p28 p29 p30 e : EReal) : e + p30 + p29 + p28 + p27 + p26 + p25 + p24 + p23 + p22 + p21 + p20 + p19 + p18 + p17 + p16 + p15 + p14 + p13 + p12 + p11 + p10 + p9 + p8 + p7 + p6 + p5 + p4 + p3 + p2 + p1 + p0 = (0 : EReal) + p0 + p1 + p2 + p3 + p4 + p5 + p6 + p7 + p8 + p9 + p10 + p11 + p12 + p13 + p14 + p15 + p16 + p17 + p18 + p19 + p20 + p21 + p22 + p23 + p24 + p25 + p26 + p27 + p28 + p29 + p30 + e := by
  abel

theorem conv_ref (E : ℕ → EReal) (D H : ℕ → ℕ → EReal) (R C : ℕ) : convAt E D H R C = (0 : EReal) + D 0 C * H (R + 2) C + D 1 C * H (R + 3) C + D 2 C * H (R + 4) C + D 3 C * H (R + 5) C + D 4 C * H (R + 6) C + D 5 C * H (R + 7) C + D 6 C * H (R + 8) C + D 7 C * H (R + 9) C + D 8 C * H (R + 10) C + D 9 C * H (R + 11) C + D 10 C * H (R + 12) C + D 11 C * H (R + 13) C + D 12 C * H (R + 14) C + D 13 C * H (R + 15) C + D 14 C * H (R + 16) C + D 15 C * H (R + 17) C + D 16 C * H (R + 18) C + D 17 C * H (R + 19) C + D 18 C * H (R + 20) C + D 19 C * H (R + 21) C + D 20 C * H (R + 22) C + D 21 C * H (R + 23) C + D 22 C * H (R + 24) C + D 23 C * H (R + 25) C + D 24 C * H (R + 26) C + D 25 C * H (R + 27) C + D 26 C * H (R + 28) C + D 27 C * H (R + 29) C + D 28 C * H (R + 30) C + D 29 C * H (R + 31) C + D 30 C * H (R + 32) C + E C := by
  unfold convAt
  exact sum_comm _ _ _ _ _ _ _ _ _ _ _ _ _ _ _ _ _ _ _ _ _ _ _ _ _ _ _ _ _ _ _ _

theorem conv_shift (E E' : ℕ → EReal) (D D' H G : ℕ → ℕ → EReal) (R R' C : ℕ) (he : E C = E' C) (hd : ∀ j, j < 31 → D j C = D' j C) (h : ∀ s, s < 33 → H (R + s) C = G (R' + s) C) : convAt E D H R C = convAt E' D' G R' C := by
  unfold convAt
  rw [he, hd 0 (by omega), hd 1 (by omega), hd 2 (by omega), hd 3 (by omega), hd 4 (by omega), hd 5 (by omega), hd 6 (by omega), hd 7 (by omega), hd 8 (by omega), hd 9 (by omega), hd 10 (by omega), hd 11 (by omega), hd 12 (by omega), hd 13 (by omega), hd 14 (by omega), hd 15 (by omega), hd 16 (by omega), hd 17 (by omega), hd 18 (by omega), hd 19 (by omega), hd 20 (by omega), hd 21 (by omega), hd 22 (by omega), hd 23 (by omega), hd 24 (by omega), hd 25 (by omega), hd 26 (by omega), hd 27 (by omega), hd 28 (by omega), hd 29 (by omega), hd 30 (by omega), h 2 (by omega), h 3 (by omega), h 4 (by omega), h 5 (by omega), h 6 (by omega), h 7 (by omega), h 8 (by omega), h 9 (by omega), h 10 (by omega), h 11 (by omega), h 12 (by omega), h 13 (by omega), h 14 (by omega), h 15 (by omega), h 16 (by omega), h 17 (by omega), h 18 (by omega), h 19 (by omega), h 20 (by omega), h 21 (by omega), h 22 (by omega), h 23 (by omega), h 24 (by omega), h 25 (by omega), h 26 (by omega), h 27 (by omega), h 28 (by omega), h 29 (by omega), h 30 (by omega), h 31 (by omega), h 32 (by omega)]

theorem pay234_at (Y : FVec Ideal S256x1024 .f32) (r : Fin 256) (k : Fin 1024) :
    (k0_pay234 (F := Ideal) Y (ix2 r k) : EReal) = Y (ix2 r k) - mean fun j => Y (ix2 r j) := by
  unfold k0_pay234 mean
  pointwise

theorem pay235_at (Y : FVec Ideal S256x1024 .f32) (r : Fin 256) :
    (k0_pay235 (F := Ideal) Y (ix2 r 0) : EReal) = Ideal.div (∑ j : Fin 1024, (Y (ix2 r j) - mean fun j => Y (ix2 r j)) * (Y (ix2 r j) - mean fun j => Y (ix2 r j))) (Ideal.ofBits .f32 0x44800000#32) := by
  have e := pay234_at Y r
  unfold k0_pay235
  simp only [← e]
  generalize k0_pay234 (F := Ideal) Y = Z
  pointwise

theorem pay1_at (A : FVec Ideal S256x1024 .f32) (B : FVec Ideal S256x1 .f32) (w b : FVec Ideal S1x1024 .f32) (W : FVec Ideal S1024x1024 .bf16) (pb : FVec Ideal S1x1024 .f32) (r : Fin 256) (l : Fin 1024) :
    (k0_pay1 (F := Ideal) A B k0_pay236 w b W pb (ix2 r l) : EReal)
      = projAt (fun k => A (ix2 r k) * Ideal.rsqrt (B (ix2 r 0) + Ideal.ofBits .f32 0x3727C5AC#32) * w (ix2 0 k) + b (ix2 0 k)) (fun k => W (ix2 k l)) (pb (ix2 0 l)) := by
  unfold projAt k0_pay1
  pointwise [k0_pay236]

theorem front : ∀ t : Fin cfg0.N, Scalar.cmpi .sgt (BitVec.ofNat 32 (grid0.coords t 0).val) 0#32 = if 0 < t.val then 1#1 else 0#1 :=
  (by decide +kernel : ∀ t : Fin grid0.N, _)

theorem sel_at (p : Prop) [Decidable p] (c : BitVec 1) (h : c = if p then 1#1 else 0#1) (A B : EReal) : Scalar.select c A B = if p then A else B := by
  subst h
  by_cases hp : p
  · rw [if_pos hp, if_pos hp]; rfl
  · rw [if_neg hp, if_neg hp]; rfl

theorem pay2_at (t : Fin cfg0.N) (V G : FVec Ideal S32x1024 .bf16) (r : Fin 32) (k : Fin 1024) :
    (k0_pay2 (F := Ideal) (grid0.coords t) V G (ix2 r k) : EReal) = if 0 < t.val then V (ix2 r k) * Ideal.logistic (G (ix2 r k)) else 0 := by
  unfold k0_pay2
  pointwise
  exact sel_at _ _ (front t) _ _

theorem pay3_at (V G : FVec Ideal S256x1024 .bf16) (r : Fin 256) (k : Fin 1024) :
    (k0_pay3 (F := Ideal) V G (ix2 r k) : EReal) = V (ix2 r k) * Ideal.logistic (G (ix2 r k)) := by
  unfold k0_pay3
  pointwise
end Cert.ConfIdeal.Cf
end
-- ==== Proof.CfArr.lean ====
/- The Conformer convolution: what the kernel leaves and what the reference computes. -/
module

public import proofs.«01_k».proof.Defs
public import proofs.«01_k».proof.Proof.CfBody
public import proofs.«01_k».proof.Proof.CfMath
public import proofs.«01_k».proof.Proof.Gen.ConfIdeal.Frame
public import proofs.«01_k».proof.Proof.Gen.ConfRefIdeal.Run
public import proofs.«01_k».proof.Proof.Gen.ConfRefIdeal.Read
public import Idealize.ShloMosaic.Lib.Pipeline.ValueKit
public import Idealize.ShloMosaic.Lib.Pointwise
public import Idealize.ShloMosaic.Lib.KernelVsHost
public import Idealize.ShloMosaic.Adequacy
public import Idealize.ShloMosaic.Init

@[expose] public section
set_option maxRecDepth 16384
noncomputable section
open Idealize.ShloMosaic Idealize.ShloMosaic.TcCoe Idealize.SL.Sem
open Idealize.ShloMosaic.Pipeline (Dat)

namespace Cert.ConfIdeal.Cf
open Cert.ConfIdeal Cert.ConfIdeal.Gen

theorem idx0 : ∀ t : Fin cfg0.N, win0_0.index t = ![t.val, 2] := (by decide +kernel : ∀ t : Fin grid0.N, _)
theorem idx1 : ∀ t : Fin cfg0.N, win0_1.index t = ![t.val, 3] := (by decide +kernel : ∀ t : Fin grid0.N, _)
theorem idx2 : ∀ t : Fin cfg0.N, win0_2.index t = ![8 * t.val - 1, 2] := (by decide +kernel : ∀ t : Fin grid0.N, _)
theorem idx3 : ∀ t : Fin cfg0.N, win0_3.index t = ![8 * t.val - 1, 3] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![t.val, 0] := (by decide +kernel : ∀ t : Fin grid0.N, _)
theorem tlt (t : Fin cfg0.N) : t.val < 64 := lt_of_lt_of_eq t.isLt N_0

variable (m : (ℓ : Loc nD τ sig) → Buf (Elt Ideal) ℓ)

theorem b0 (c : Dev nD) (t : Fin cfg0.N) (a : Fin 256) (b : Fin 1024) :
    (iblk m c 0 t : FVec Ideal S256x1024 .bf16) (ix2 a b) = (V m c main_arg0 : FVec Ideal S16384x8192 .bf16) (ix2 ⟨256 * t.val + a, by have := tlt t; omega⟩ ⟨2048 + b, by omega⟩) := by
  have ht := tlt t
  blk_ext [iblk, idx0 t]

theorem b1 (c : Dev nD) (t : Fin cfg0.N) (a : Fin 256) (b : Fin 1024) :
    (iblk m c 1 t : FVec Ideal S256x1024 .bf16) (ix2 a b) = (V m c main_arg0 : FVec Ideal S16384x8192 .bf16) (ix2 ⟨256 * t.val + a, by have := tlt t; omega⟩ ⟨3072 + b, by omega⟩) := by
  have ht := tlt t
  blk_ext [iblk, idx1 t]

theorem b2 (c : Dev nD) (t : Fin cfg0.N) (a : Fin 32) (b : Fin 1024) :
    (iblk m c 2 t : FVec Ideal S32x1024 .bf16) (ix2 a b) = (V m c main_arg0 : FVec Ideal S16384x8192 .bf16) (ix2 ⟨256 * t.val - 32 + a, by have := tlt t; omega⟩ ⟨2048 + b, by omega⟩) := by
  have ht := tlt t
  blk_ext [iblk, idx2 t]

theorem b3 (c : Dev nD) (t : Fin cfg0.N) (a : Fin 32) (b : Fin 1024) :
    (iblk m c 3 t : FVec Ideal S32x1024 .bf16) (ix2 a b) = (V m c main_arg0 : FVec Ideal S16384x8192 .bf16) (ix2 ⟨256 * t.val - 32 + a, by have := tlt t; omega⟩ ⟨3072 + b, by omega⟩) := by
  have ht := tlt t
  blk_ext [iblk, idx3 t]

theorem b4 (c : Dev nD) (t : Fin cfg0.N) (a : Fin 32) (b : Fin 1024) :
    (iblk m c 4 t : FVec Ideal S32x1024 .f32) (ix2 a b) = (V m c main_v0 : FVec Ideal S32x1024 .f32) (ix2 a b) := by
  have ht := tlt t
  blk_ext [iblk, idx4 t]

theorem b5 (c : Dev nD) (t : Fin cfg0.N) (a : Fin 1) (b : Fin 1024) :
    (iblk m c 5 t : FVec Ideal S1x1024 .f32) (ix2 a b) = (V m c main_v1 : FVec Ideal S1x1024 .f32) (ix2 a b) := by
  have ht := tlt t
  blk_ext [iblk, idx5 t]

theorem b6 (c : Dev nD) (t : Fin cfg0.N) (a : Fin 1) (b : Fin 1024) :
    (iblk m c 6 t : FVec Ideal S1x1024 .f32) (ix2 a b) = (V m c main_v2 : FVec Ideal S1x1024 .f32) (ix2 a b) := by
  have ht := tlt t
  blk_ext [iblk, idx6 t]

theorem b7 (c : Dev nD) (t : Fin cfg0.N) (a : Fin 1) (b : Fin 1024) :
    (iblk m c 7 t : FVec Ideal S1x1024 .f32) (ix2 a b) = (V m c main_v3 : FVec Ideal S1x1024 .f32) (ix2 a b) := by
  have ht := tlt t
  blk_ext [iblk, idx7 t]

theorem b8 (c : Dev nD) (t : Fin cfg0.N) (a : Fin 1024) (b : Fin 1024) :
    (iblk m c 8 t : FVec Ideal S1024x1024 .bf16) (ix2 a b) = (V m c main_v4 : FVec Ideal S1024x1024 .bf16) (ix2 a b) := by
  have ht := tlt t
  blk_ext [iblk, idx8 t]

theorem b9 (c : Dev nD) (t : Fin cfg0.N) (a : Fin 1) (b : Fin 1024) :
    (iblk m c 9 t : FVec Ideal S1x1024 .f32) (ix2 a b) = (V m c main_v5 : FVec Ideal S1x1024 .f32) (ix2 a b) := by
  have ht := tlt t
  blk_ext [iblk, idx9 t]

theorem cast_at (x : FVec Ideal S1024 .f32) (h) (b : Fin 1024) : shapeCast S1x1024 x h (ix2 0 b) = x (ix1 b) := by
  pointwise

theorem v1_at (c : Dev nD) (b : Fin 1024) : (V m c main_v1 : FVec Ideal S1x1024 .f32) (ix2 0 b) = (V m c main_arg2 : FVec Ideal S1024 .f32) (ix1 b) := by
  rw [V_main_arg2]
  show (StableHlo.after hostOps0_2 (StableHlo.after hostOps0_1 (StableHlo.after hostOps0 (fun b => m (c, b))))) main_v1 (ix2 0 b) = _
  entry_read
  exact cast_at _ _ b

theorem v2_at (c : Dev nD) (b : Fin 1024) : (V m c main_v2 : FVec Ideal S1x1024 .f32) (ix2 0 b) = (V m c main_arg3 : FVec Ideal S1024 .f32) (ix1 b) := by
  rw [V_main_arg3]
  show (StableHlo.after hostOps0_2 (StableHlo.after hostOps0_1 (StableHlo.after hostOps0 (fun b => m (c, b))))) main_v2 (ix2 0 b) = _
  entry_read
  exact cast_at _ _ b

theorem v3_at (c : Dev nD) (b : Fin 1024) : (V m c main_v3 : FVec Ideal S1x1024 .f32) (ix2 0 b) = (V m c main_arg4 : FVec Ideal S1024 .f32) (ix1 b) := by
  rw [V_main_arg4]
  show (StableHlo.after hostOps0_2 (StableHlo.after hostOps0_1 (StableHlo.after hostOps0 (fun b => m (c, b))))) main_v3 (ix2 0 b) = _
  entry_read
  exact cast_at _ _ b

theorem v5_at (c : Dev nD) (b : Fin 1024) : (V m c main_v5 : FVec Ideal S1x1024 .f32) (ix2 0 b) = (V m c main_arg6 : FVec Ideal S1024 .f32) (ix1 b) := by
  rw [V_main_arg6]
  show (StableHlo.after hostOps0_2 (StableHlo.after hostOps0_1 (StableHlo.after hostOps0 (fun b => m (c, b))))) main_v5 (ix2 0 b) = _
  entry_read
  exact cast_at _ _ b

theorem v4_at (c : Dev nD) (a b : Fin 1024) : (V m c main_v4 : FVec Ideal S1024x1024 .bf16) (ix2 a b) = (V m c main_arg5 : FVec Ideal S1024x1024 .f32) (ix2 a b) := by
  rw [V_main_arg5]
  show (StableHlo.after hostOps0_2 (StableHlo.after hostOps0_1 (StableHlo.after hostOps0 (fun b => m (c, b))))) main_v4 (ix2 a b) = _
  entry_read
  rfl

theorem pad_in (X : FVec Ideal S31x1024 .f32) (v : FVec Ideal S_ .f32) (a : Fin 32) (b : Fin 1024) (h : a.val < 31) :
    pad S32x1024 ![0, 0] ![1, 0] ![0, 0] X v pads_S31x1024_S32x1024_010_000 h_S_ (ix2 a b) = X (ix2 ⟨a, h⟩ b) :=
  pad_apply_of_inside (s := S31x1024) (t := S32x1024) ![0, 0] ![1, 0] ![0, 0] X v pads_S31x1024_S32x1024_010_000 h_S_ (ix2 a b) (ix2 ⟨a, h⟩ b) (fun q => match q with
    | ⟨0, _⟩ => by show (a : ℕ) = 0 + (a : ℕ) * (0 + 1); omega
    | ⟨1, _⟩ => by show (b : ℕ) = 0 + (b : ℕ) * (0 + 1); omega)

theorem v0_at (c : Dev nD) (a : Fin 32) (b : Fin 1024) (h : a.val < 31) : (V m c main_v0 : FVec Ideal S32x1024 .f32) (ix2 a b) = (V m c main_arg1 : FVec Ideal S31x1024 .f32) (ix2 ⟨a, h⟩ b) := by
  rw [V_main_arg1]
  show (StableHlo.after hostOps0_2 (StableHlo.after hostOps0_1 (StableHlo.after hostOps0 (fun b => m (c, b))))) main_v0 (ix2 a b) = _
  entry_read
  exact pad_in _ _ a b h

def A0 (c : Dev nD) : FVec Ideal S16384x8192 .bf16 := V m c main_arg0
def A1 (c : Dev nD) : FVec Ideal S31x1024 .f32 := V m c main_arg1
def A2 (c : Dev nD) : FVec Ideal S1024 .f32 := V m c main_arg2
def A3 (c : Dev nD) : FVec Ideal S1024 .f32 := V m c main_arg3
def A4 (c : Dev nD) : FVec Ideal S1024 .f32 := V m c main_arg4
def A5 (c : Dev nD) : FVec Ideal S1024x1024 .f32 := V m c main_arg5
def A6 (c : Dev nD) : FVec Ideal S1024 .f32 := V m c main_arg6

theorem gluAt_of (X : FVec Ideal S16384x8192 .bf16) (r l n : ℕ) (hn : n = r) (h : r < 16384) (h' : l < 1024) :
    gluAt X n l = X (ix2 ⟨r, h⟩ ⟨2048 + l, by omega⟩) * Ideal.logistic (X (ix2 ⟨r, h⟩ ⟨3072 + l, by omega⟩)) := by
  subst hn
  exact dif_pos ⟨h, h'⟩

theorem hAt_eq (c : Dev nD) (t : Fin cfg0.N) (s l : ℕ) (hs : s < 288) (hl : l < 1024) :
    hAt (k0_pay2 (F := Ideal) (grid0.coords t) (iblk m c 2 t) (iblk m c 3 t)) (k0_pay3 (F := Ideal) (iblk m c 0 t) (iblk m c 1 t)) s l
      = padAt (A0 m c) (256 * t.val + s) l := by
  have ht := tlt t
  unfold hAt padAt
  by_cases h : s < 32
  · rw [if_pos h]
    refine (at2_ix _ ⟨s, h⟩ ⟨l, hl⟩).trans ((pay2_at t _ _ ⟨s, h⟩ ⟨l, hl⟩).trans ?_)
    by_cases h0 : 0 < t.val
    · rw [if_pos h0, if_neg (by omega)]
      refine (congrArg₂ (fun a b : EReal => a * Ideal.logistic b) (b2 m c t ⟨s, h⟩ ⟨l, hl⟩) (b3 m c t ⟨s, h⟩ ⟨l, hl⟩)).trans ?_
      exact (gluAt_of _ (256 * t.val - 32 + s) l _ (by omega) (by omega) hl).symm
    · rw [if_neg h0, if_pos (by omega)]
  · rw [if_neg h, if_neg (by omega)]
    have hq : s - 32 < 256 := by omega
    refine (at2_ix _ ⟨s - 32, hq⟩ ⟨l, hl⟩).trans ((pay3_at _ _ ⟨s - 32, hq⟩ ⟨l, hl⟩).trans ?_)
    refine (congrArg₂ (fun a b : EReal => a * Ideal.logistic b) (b0 m c t ⟨s - 32, hq⟩ ⟨l, hl⟩) (b1 m c t ⟨s - 32, hq⟩ ⟨l, hl⟩)).trans ?_
    exact (gluAt_of _ (256 * t.val + (s - 32)) l _ (by omega) (by omega) hl).symm

/-- A one-dimensional array at natural indices. -/
def at1 (X : FVec Ideal S1024 .f32) (l : ℕ) : EReal := if h : l < 1024 then X (ix1 ⟨l, h⟩) else 0

/-- The convolution of a row. -/
def convRow (X : FVec Ideal S16384x8192 .bf16) (D : FVec Ideal S31x1024 .f32) (E : FVec Ideal S1024 .f32) (R : Fin 16384) (k : Fin 1024) : EReal :=
  convAt (at1 E) (at2 D) (padAt X) R k

theorem conv_eq (c : Dev nD) (t : Fin cfg0.N) (a : Fin 256) (k : Fin 1024) :
    (convBlk m c t (ix2 a k) : EReal) = convRow (A0 m c) (A1 m c) (A2 m c) ⟨256 * t.val + a, by have := tlt t; omega⟩ k := by
  refine conv_shift _ _ _ _ _ _ (a : ℕ) (256 * t.val + a) (k : ℕ) ?_ ?_ ?_
  · refine (at2_ix _ 0 k).trans ((b5 m c t 0 k).trans ((v1_at m c k).trans ?_))
    exact (show at1 (A2 m c) k = _ from dif_pos k.isLt).symm
  · intro j hj
    refine (at2_ix _ ⟨j, by omega⟩ k).trans ((b4 m c t _ k).trans ((v0_at m c ⟨j, by omega⟩ k hj).trans ?_))
    exact (at2_ix (A1 m c) ⟨j, hj⟩ k).symm
  · intro s hs
    refine (hAt_eq m c t (a + s) k (by omega) k.isLt).trans ?_
    rw [Nat.add_assoc]

/-- The whole block, at an entry. -/
@[irreducible] def cfAt (X : FVec Ideal S16384x8192 .bf16) (D : FVec Ideal S31x1024 .f32) (E w b : FVec Ideal S1024 .f32) (W : FVec Ideal S1024x1024 .f32) (pb : FVec Ideal S1024 .f32)
    (R : Fin 16384) (l : Fin 1024) : EReal :=
  projAt (lnAt (convRow X D E R) (fun k => w (ix1 k)) (fun k => b (ix1 k))) (fun k => W (ix2 k l)) (pb (ix1 l))

theorem out_at (c : Dev nD) (t : Fin cfg0.N) (a : Fin 256) (b : Fin 1024) :
    (outsAt0 m c t (ix2 a b) : EReal) = cfAt (A0 m c) (A1 m c) (A2 m c) (A3 m c) (A4 m c) (A5 m c) (A6 m c) ⟨256 * t.val + a, by have := tlt t; omega⟩ b := by
  refine (outv m c t a b).trans ((pay1_at _ _ _ _ _ _ a b).trans ?_)
  unfold cfAt
  have ec : (fun j => (convBlk m c t (ix2 a j) : EReal)) = convRow (A0 m c) (A1 m c) (A2 m c) ⟨256 * t.val + a, by have := tlt t; omega⟩ := funext (conv_eq m c t a)
  have ez : (fun k => (k0_pay234 (F := Ideal) (convBlk m c t) (ix2 a k) : EReal) * Ideal.rsqrt ((k0_pay235 (F := Ideal) (convBlk m c t) (ix2 a 0) : EReal) + Ideal.ofBits .f32 0x3727C5AC#32) * (iblk m c 6 t : FVec Ideal S1x1024 .f32) (ix2 0 k) + (iblk m c 7 t : FVec Ideal S1x1024 .f32) (ix2 0 k))
      = lnAt (convRow (A0 m c) (A1 m c) (A2 m c) ⟨256 * t.val + a, by have := tlt t; omega⟩) (fun k => A3 m c (ix1 k)) (fun k => A4 m c (ix1 k)) := by
    rw [← ec]
    funext k
    rw [pay234_at, pay235_at]
    unfold lnAt
    rw [b6 m c t 0 k, b7 m c t 0 k, v2_at, v3_at]
    rfl
  have eW : (fun k => ((iblk m c 8 t : FVec Ideal S1024x1024 .bf16) (ix2 k b) : EReal)) = fun k => A5 m c (ix2 k b) := funext fun k => (b8 m c t k b).trans (v4_at m c k b)
  rw [ez]
  refine congrArg₂ (projAt _) eW ((b9 m c t 0 b).trans (v5_at m c b))

theorem arr10 (c : Dev nD) (r : Fin 16384) (l : Fin 1024) :
    ((dats m 0 c).arrAt 10 cfg0.N : FVec Ideal S16384x1024 .bf16) (ix2 r l) = cfAt (A0 m c) (A1 m c) (A2 m c) (A3 m c) (A4 m c) (A5 m c) (A6 m c) r l := by
  refine congrFun ((dats m 0 c).arrAt_eq_of_covers 10 (fun y : S16384x1024.Idx => cfAt (A0 m c) (A1 m c) (A2 m c) (A3 m c) (A4 m c) (A5 m c) (A6 m c) (y 0) (y 1))
    (by decide +kernel) fun t hf y => ?_) (ix2 r l)
  rw [after0_10]
  have ht := tlt t
  have e := out_at m c t
  generalize outsAt0 m c t = Z at e ⊢
  obtain ⟨a, b, rfl⟩ : ∃ (a : Fin 256) (b : Fin 1024), y = ix2 a b := ⟨y 0, y 1, eq_ix2 (n0 := 256) (n1 := 1024) y⟩
  refine (e a b).trans ?_
  refine congrArg₂ (cfAt (A0 m c) (A1 m c) (A2 m c) (A3 m c) (A4 m c) (A5 m c) (A6 m c)) (Fin.ext ?_) (Fin.ext ?_)
  · blk_simp [idx10 t]
    show 256 * t.val + (a : ℕ) = t.val * 256 + (a : ℕ)
    omega
  · blk_simp [idx10 t]
end Cert.ConfIdeal.Cf
end
-- ==== Proof.CfRef.lean ====
/- The Conformer convolution: what the kernel leaves and what the reference computes. -/
module

public import proofs.«01_k».proof.Defs
public import proofs.«01_k».proof.Proof.CfArr
public import proofs.«01_k».proof.Proof.CfMath
public import proofs.«01_k».proof.Proof.Gen.ConfIdeal.Frame
public import proofs.«01_k».proof.Proof.Gen.ConfRefIdeal.Run
public import proofs.«01_k».proof.Proof.Gen.ConfRefIdeal.Read
public import Idealize.ShloMosaic.Lib.Pipeline.ValueKit
public import Idealize.ShloMosaic.Lib.IdealHost
public import Idealize.ShloMosaic.Lib.Pointwise
public import Idealize.ShloMosaic.Lib.KernelVsHost
public import Idealize.ShloMosaic.Adequacy
public import Idealize.ShloMosaic.Init

@[expose] public section
set_option maxRecDepth 16384
noncomputable section
open Idealize.ShloMosaic Idealize.ShloMosaic.TcCoe Idealize.SL.Sem
open Idealize.ShloMosaic.Pipeline (Dat)

namespace Cert.ConfRefIdeal.Cf
open Cert.ConfRefIdeal Cert.ConfRefIdeal.Gen Cert.ConfRefIdeal.Read
open Cert.ConfIdeal.Cf (at1 at2 at2_ix gluAt gluAt_of padAt convAt conv_ref convRow mean lnAt projAt cfAt)

abbrev T0 := (⟨S16384x8192, .bf16⟩ : BufTy).Contents (Elt Ideal)
abbrev T1 := (⟨S31x1024, .f32⟩ : BufTy).Contents (Elt Ideal)
abbrev T2 := (⟨S1024, .f32⟩ : BufTy).Contents (Elt Ideal)
abbrev T5 := (⟨S1024x1024, .f32⟩ : BufTy).Contents (Elt Ideal)

theorem one_bits : (Ideal.ofBits .f32 0x3F800000#32 : EReal) = 1 := Ideal.ofBits_one_f32
theorem logistic_eq (x : EReal) : Ideal.div 1 (1 + Ideal.exp (-x)) = Ideal.logistic x := rfl

theorem r10 (x0 : T0) (R : Fin 16384) (l : Fin 1024) : (val_main_v10 (F := Ideal) x0 (ix2 R l) : EReal) = gluAt x0 R l := by
  refine Eq.trans ?_ (gluAt_of x0 R l R rfl R.isLt l.isLt).symm
  have e0 : (val_main_v0 (F := Ideal) x0 (ix2 R l) : EReal) = x0 (ix2 R ⟨2048 + l, by omega⟩) := (val_main_v0_apply x0 (ix2 R l)).trans (congrArg x0 (by funext a; fin_cases a <;> rfl))
  have e2 : (val_main_v2 (F := Ideal) x0 (ix2 R l) : EReal) = x0 (ix2 R ⟨3072 + l, by omega⟩) := (val_main_v2_apply x0 (ix2 R l)).trans (congrArg x0 (by funext a; fin_cases a <;> rfl))
  refine congrArg₂ (fun a b : EReal => a * b) e0 ?_
  refine Eq.trans ?_ (logistic_eq _)
  rw [← e2, ← one_bits]
  generalize x0 = y
  unfold val_main_v9 val_main_v7 val_main_v5 val_main_v4 val_main_v3
  generalize val_main_v2 (F := Ideal) y = z
  pointwise [val_main_v8, val_main_v6, val_main_cst_0, val_main_cst]

theorem r11 (x0 : T0) (i : S16414x1024.Idx) (n l : ℕ) (hn : (i 0).val + 2 = n) (hl : (i 1).val = l) :
    (val_main_v11 (F := Ideal) x0 i : EReal) = padAt x0 n l := by
  have h1 : (i 1).val < 1024 := (i 1).isLt
  have h0 : (i 0).val < 16414 := (i 0).isLt
  subst hn hl
  unfold padAt val_main_v11
  by_cases h : (i 0).val < 30
  · rw [if_pos (by omega)]
    refine (pad_apply_of_not_inside (s := S16384x1024) (t := S16414x1024) _ _ _ _ _ _ _ i (0 : Fin 2) (fun q => absurd (show 30 ≤ (i 0).val from q.1) (by omega))).trans ?_
    show (((0#32 : BitVec 32).toInt : ℝ) : EReal) = 0
    simp
  · rw [if_neg (by omega)]
    have hq : (i 0).val - 30 < 16384 := by omega
    refine (pad_apply_of_inside (s := S16384x1024) (t := S16414x1024) _ _ _ _ _ _ _ i (ix2 ⟨(i 0).val - 30, hq⟩ ⟨(i 1).val, h1⟩) (fun q => match q with
      | ⟨0, _⟩ => by show (i 0).val = 30 + ((i 0).val - 30) * (0 + 1); omega
      | ⟨1, _⟩ => by show (i 1).val = 0 + (i 1).val * (0 + 1); omega)).trans ((r10 x0 _ _).trans ?_)
    rw [show (i 0).val + 2 - 32 = (i 0).val - 30 by omega]

/-- The running sum of products. -/
def acc (D H : ℕ → ℕ → EReal) (R C : ℕ) : ℕ → EReal
  | 0 => 0
  | j + 1 => acc D H R C j + D j C * H (R + (j + 2)) C

theorem row_ix (x1 : T1) (i : S31x1024.Idx) (n : ℕ) (l : Fin 1024) (hn : (i 0).val = n) (hl : (i 1).val = l.val % 1024) : (x1 i : EReal) = at2 x1 n l := by
  have h0 : (i 0).val < 31 := (i 0).isLt
  subst hn
  refine Eq.trans (congrArg x1 ?_) (at2_ix x1 ⟨(i 0).val, h0⟩ l).symm
  funext a
  fin_cases a
  · rfl
  · exact Fin.ext (hl.trans (Nat.mod_eq_of_lt l.isLt))

theorem zero_at (R : Fin 16384) (l : Fin 1024) : (val_main_v18 (F := Ideal) (ix2 R l) : EReal) = 0 := by
  refine (val_main_v18_apply (F := Ideal) (ix2 R l)).trans ?_
  show (Ideal.ofBits .f32 0x00000000#32 : EReal) = 0
  simp [Ideal.ofBits, Ideal.ieee]

theorem s0 (x0 : T0) (x1 : T1) (R : Fin 16384) (l : Fin 1024) : (val_main_v19 (F := Ideal) x0 x1 (ix2 R l) : EReal) = acc (at2 x1) (padAt x0) R l 1 := by
  refine congrArg₂ (fun a b : EReal => a + b) (zero_at R l) (congrArg₂ (fun a b : EReal => a * b) ?_ ?_)
  · rw [val_main_v16_apply, val_main_v15_apply, val_main_v13_apply, val_main_v12_apply]
    exact row_ix x1 _ 0 l rfl rfl
  · rw [val_main_v14_apply]
    exact r11 x0 _ _ _ rfl rfl
theorem s1 (x0 : T0) (x1 : T1) (R : Fin 16384) (l : Fin 1024) : (val_main_v26 (F := Ideal) x0 x1 (ix2 R l) : EReal) = acc (at2 x1) (padAt x0) R l 2 := by
  refine congrArg₂ (fun a b : EReal => a + b) (s0 x0 x1 R l) (congrArg₂ (fun a b : EReal => a * b) ?_ ?_)
  · rw [val_main_v24_apply, val_main_v23_apply, val_main_v21_apply, val_main_v20_apply]
    exact row_ix x1 _ 1 l rfl rfl
  · rw [val_main_v22_apply]
    exact r11 x0 _ _ _ (by show 1 + (R : ℕ) + 2 = (R : ℕ) + (1 + 2); omega) rfl
theorem s2 (x0 : T0) (x1 : T1) (R : Fin 16384) (l : Fin 1024) : (val_main_v33 (F := Ideal) x0 x1 (ix2 R l) : EReal) = acc (at2 x1) (padAt x0) R l 3 := by
  refine congrArg₂ (fun a b : EReal => a + b) (s1 x0 x1 R l) (congrArg₂ (fun a b : EReal => a * b) ?_ ?_)
  · rw [val_main_v31_apply, val_main_v30_apply, val_main_v28_apply, val_main_v27_apply]
    exact row_ix x1 _ 2 l rfl rfl
  · rw [val_main_v29_apply]
    exact r11 x0 _ _ _ (by show 2 + (R : ℕ) + 2 = (R : ℕ) + (2 + 2); omega) rfl
theorem s3 (x0 : T0) (x1 : T1) (R : Fin 16384) (l : Fin 1024) : (val_main_v40 (F := Ideal) x0 x1 (ix2 R l) : EReal) = acc (at2 x1) (padAt x0) R l 4 := by
  refine congrArg₂ (fun a b : EReal => a + b) (s2 x0 x1 R l) (congrArg₂ (fun a b : EReal => a * b) ?_ ?_)
  · rw [val_main_v38_apply, val_main_v37_apply, val_main_v35_apply, val_main_v34_apply]
    exact row_ix x1 _ 3 l rfl rfl
  · rw [val_main_v36_apply]
    exact r11 x0 _ _ _ (by show 3 + (R : ℕ) + 2 = (R : ℕ) + (3 + 2); omega) rfl
theorem s4 (x0 : T0) (x1 : T1) (R : Fin 16384) (l : Fin 1024) : (val_main_v47 (F := Ideal) x0 x1 (ix2 R l) : EReal) = acc (at2 x1) (padAt x0) R l 5 := by
  refine congrArg₂ (fun a b : EReal => a + b) (s3 x0 x1 R l) (congrArg₂ (fun a b : EReal => a * b) ?_ ?_)
  · rw [val_main_v45_apply, val_main_v44_apply, val_main_v42_apply, val_main_v41_apply]
    exact row_ix x1 _ 4 l rfl rfl
  · rw [val_main_v43_apply]
    exact r11 x0 _ _ _ (by show 4 + (R : ℕ) + 2 = (R : ℕ) + (4 + 2); omega) rfl
theorem s5 (x0 : T0) (x1 : T1) (R : Fin 16384) (l : Fin 1024) : (val_main_v54 (F := Ideal) x0 x1 (ix2 R l) : EReal) = acc (at2 x1) (padAt x0) R l 6 := by
  refine congrArg₂ (fun a b : EReal => a + b) (s4 x0 x1 R l) (congrArg₂ (fun a b : EReal => a * b) ?_ ?_)
  · rw [val_main_v52_apply, val_main_v51_apply, val_main_v49_apply, val_main_v48_apply]
    exact row_ix x1 _ 5 l rfl rfl
  · rw [val_main_v50_apply]
    exact r11 x0 _ _ _ (by show 5 + (R : ℕ) + 2 = (R : ℕ) + (5 + 2); omega) rfl
theorem s6 (x0 : T0) (x1 : T1) (R : Fin 16384) (l : Fin 1024) : (val_main_v61 (F := Ideal) x0 x1 (ix2 R l) : EReal) = acc (at2 x1) (padAt x0) R l 7 := by
  refine congrArg₂ (fun a b : EReal => a + b) (s5 x0 x1 R l) (congrArg₂ (fun a b : EReal => a * b) ?_ ?_)
  · rw [val_main_v59_apply, val_main_v58_apply, val_main_v56_apply, val_main_v55_apply]
    exact row_ix x1 _ 6 l rfl rfl
  · rw [val_main_v57_apply]
    exact r11 x0 _ _ _ (by show 6 + (R : ℕ) + 2 = (R : ℕ) + (6 + 2); omega) rfl
theorem s7 (x0 : T0) (x1 : T1) (R : Fin 16384) (l : Fin 1024) : (val_main_v68 (F := Ideal) x0 x1 (ix2 R l) : EReal) = acc (at2 x1) (padAt x0) R l 8 := by
  refine congrArg₂ (fun a b : EReal => a + b) (s6 x0 x1 R l) (congrArg₂ (fun a b : EReal => a * b) ?_ ?_)
  · rw [val_main_v66_apply, val_main_v65_apply, val_main_v63_apply, val_main_v62_apply]
    exact row_ix x1 _ 7 l rfl rfl
  · rw [val_main_v64_apply]
    exact r11 x0 _ _ _ (by show 7 + (R : ℕ) + 2 = (R : ℕ) + (7 + 2); omega) rfl
theorem s8 (x0 : T0) (x1 : T1) (R : Fin 16384) (l : Fin 1024) : (val_main_v75 (F := Ideal) x0 x1 (ix2 R l) : EReal) = acc (at2 x1) (padAt x0) R l 9 := by
  refine congrArg₂ (fun a b : EReal => a + b) (s7 x0 x1 R l) (congrArg₂ (fun a b : EReal => a * b) ?_ ?_)
  · rw [val_main_v73_apply, val_main_v72_apply, val_main_v70_apply, val_main_v69_apply]
    exact row_ix x1 _ 8 l rfl rfl
  · rw [val_main_v71_apply]
    exact r11 x0 _ _ _ (by show 8 + (R : ℕ) + 2 = (R : ℕ) + (8 + 2); omega) rfl
theorem s9 (x0 : T0) (x1 : T1) (R : Fin 16384) (l : Fin 1024) : (val_main_v82 (F := Ideal) x0 x1 (ix2 R l) : EReal) = acc (at2 x1) (padAt x0) R l 10 := by
  refine congrArg₂ (fun a b : EReal => a + b) (s8 x0 x1 R l) (congrArg₂ (fun a b : EReal => a * b) ?_ ?_)
  · rw [val_main_v80_apply, val_main_v79_apply, val_main_v77_apply, val_main_v76_apply]
    exact row_ix x1 _ 9 l rfl rfl
  · rw [val_main_v78_apply]
    exact r11 x0 _ _ _ (by show 9 + (R : ℕ) + 2 = (R : ℕ) + (9 + 2); omega) rfl
theorem s10 (x0 : T0) (x1 : T1) (R : Fin 16384) (l : Fin 1024) : (val_main_v89 (F := Ideal) x0 x1 (ix2 R l) : EReal) = acc (at2 x1) (padAt x0) R l 11 := by
  refine congrArg₂ (fun a b : EReal => a + b) (s9 x0 x1 R l) (congrArg₂ (fun a b : EReal => a * b) ?_ ?_)
  · rw [val_main_v87_apply, val_main_v86_apply, val_main_v84_apply, val_main_v83_apply]
    exact row_ix x1 _ 10 l rfl rfl
  · rw [val_main_v85_apply]
    exact r11 x0 _ _ _ (by show 10 + (R : ℕ) + 2 = (R : ℕ) + (10 + 2); omega) rfl
theorem s11 (x0 : T0) (x1 : T1) (R : Fin 16384) (l : Fin 1024) : (val_main_v96 (F := Ideal) x0 x1 (ix2 R l) : EReal) = acc (at2 x1) (padAt x0) R l 12 := by
  refine congrArg₂ (fun a b : EReal => a + b) (s10 x0 x1 R l) (congrArg₂ (fun a b : EReal => a * b) ?_ ?_)
  · rw [val_main_v94_apply, val_main_v93_apply, val_main_v91_apply, val_main_v90_apply]
    exact row_ix x1 _ 11 l rfl rfl
  · rw [val_main_v92_apply]
    exact r11 x0 _ _ _ (by show 11 + (R : ℕ) + 2 = (R : ℕ) + (11 + 2); omega) rfl
theorem s12 (x0 : T0) (x1 : T1) (R : Fin 16384) (l : Fin 1024) : (val_main_v103 (F := Ideal) x0 x1 (ix2 R l) : EReal) = acc (at2 x1) (padAt x0) R l 13 := by
  refine congrArg₂ (fun a b : EReal => a + b) (s11 x0 x1 R l) (congrArg₂ (fun a b : EReal => a * b) ?_ ?_)
  · rw [val_main_v101_apply, val_main_v100_apply, val_main_v98_apply, val_main_v97_apply]
    exact row_ix x1 _ 12 l rfl rfl
  · rw [val_main_v99_apply]
    exact r11 x0 _ _ _ (by show 12 + (R : ℕ) + 2 = (R : ℕ) + (12 + 2); omega) rfl
theorem s13 (x0 : T0) (x1 : T1) (R : Fin 16384) (l : Fin 1024) : (val_main_v110 (F := Ideal) x0 x1 (ix2 R l) : EReal) = acc (at2 x1) (padAt x0) R l 14 := by
  refine congrArg₂ (fun a b : EReal => a + b) (s12 x0 x1 R l) (congrArg₂ (fun a b : EReal => a * b) ?_ ?_)
  · rw [val_main_v108_apply, val_main_v107_apply, val_main_v105_apply, val_main_v104_apply]
    exact row_ix x1 _ 13 l rfl rfl
  · rw [val_main_v106_apply]
    exact r11 x0 _ _ _ (by show 13 + (R : ℕ) + 2 = (R : ℕ) + (13 + 2); omega) rfl
theorem s14 (x0 : T0) (x1 : T1) (R : Fin 16384) (l : Fin 1024) : (val_main_v117 (F := Ideal) x0 x1 (ix2 R l) : EReal) = acc (at2 x1) (padAt x0) R l 15 := by
  refine congrArg₂ (fun a b : EReal => a + b) (s13 x0 x1 R l) (congrArg₂ (fun a b : EReal => a * b) ?_ ?_)
  · rw [val_main_v115_apply, val_main_v114_apply, val_main_v112_apply, val_main_v111_apply]
    exact row_ix x1 _ 14 l rfl rfl
  · rw [val_main_v113_apply]
    exact r11 x0 _ _ _ (by show 14 + (R : ℕ) + 2 = (R : ℕ) + (14 + 2); omega) rfl
theorem s15 (x0 : T0) (x1 : T1) (R : Fin 16384) (l : Fin 1024) : (val_main_v124 (F := Ideal) x0 x1 (ix2 R l) : EReal) = acc (at2 x1) (padAt x0) R l 16 := by
  refine congrArg₂ (fun a b : EReal => a + b) (s14 x0 x1 R l) (congrArg₂ (fun a b : EReal => a * b) ?_ ?_)
  · rw [val_main_v122_apply, val_main_v121_apply, val_main_v119_apply, val_main_v118_apply]
    exact row_ix x1 _ 15 l rfl rfl
  · rw [val_main_v120_apply]
    exact r11 x0 _ _ _ (by show 15 + (R : ℕ) + 2 = (R : ℕ) + (15 + 2); omega) rfl
theorem s16 (x0 : T0) (x1 : T1) (R : Fin 16384) (l : Fin 1024) : (val_main_v131 (F := Ideal) x0 x1 (ix2 R l) : EReal) = acc (at2 x1) (padAt x0) R l 17 := by
  refine congrArg₂ (fun a b : EReal => a + b) (s15 x0 x1 R l) (congrArg₂ (fun a b : EReal => a * b) ?_ ?_)
  · rw [val_main_v129_apply, val_main_v128_apply, val_main_v126_apply, val_main_v125_apply]
    exact row_ix x1 _ 16 l rfl rfl
  · rw [val_main_v127_apply]
    exact r11 x0 _ _ _ (by show 16 + (R : ℕ) + 2 = (R : ℕ) + (16 + 2); omega) rfl
theorem s17 (x0 : T0) (x1 : T1) (R : Fin 16384) (l : Fin 1024) : (val_main_v138 (F := Ideal) x0 x1 (ix2 R l) : EReal) = acc (at2 x1) (padAt x0) R l 18 := by
  refine congrArg₂ (fun a b : EReal => a + b) (s16 x0 x1 R l) (congrArg₂ (fun a b : EReal => a * b) ?_ ?_)
  · rw [val_main_v136_apply, val_main_v135_apply, val_main_v133_apply, val_main_v132_apply]
    exact row_ix x1 _ 17 l rfl rfl
  · rw [val_main_v134_apply]
    exact r11 x0 _ _ _ (by show 17 + (R : ℕ) + 2 = (R : ℕ) + (17 + 2); omega) rfl
theorem s18 (x0 : T0) (x1 : T1) (R : Fin 16384) (l : Fin 1024) : (val_main_v145 (F := Ideal) x0 x1 (ix2 R l) : EReal) = acc (at2 x1) (padAt x0) R l 19 := by
  refine congrArg₂ (fun a b : EReal => a + b) (s17 x0 x1 R l) (congrArg₂ (fun a b : EReal => a * b) ?_ ?_)
  · rw [val_main_v143_apply, val_main_v142_apply, val_main_v140_apply, val_main_v139_apply]
    exact row_ix x1 _ 18 l rfl rfl
  · rw [val_main_v141_apply]
    exact r11 x0 _ _ _ (by show 18 + (R : ℕ) + 2 = (R : ℕ) + (18 + 2); omega) rfl
theorem s19 (x0 : T0) (x1 : T1) (R : Fin 16384) (l : Fin 1024) : (val_main_v152 (F := Ideal) x0 x1 (ix2 R l) : EReal) = acc (at2 x1) (padAt x0) R l 20 := by
  refine congrArg₂ (fun a b : EReal => a + b) (s18 x0 x1 R l) (congrArg₂ (fun a b : EReal => a * b) ?_ ?_)
  · rw [val_main_v150_apply, val_main_v149_apply, val_main_v147_apply, val_main_v146_apply]
    exact row_ix x1 _ 19 l rfl rfl
  · rw [val_main_v148_apply]
    exact r11 x0 _ _ _ (by show 19 + (R : ℕ) + 2 = (R : ℕ) + (19 + 2); omega) rfl
theorem s20 (x0 : T0) (x1 : T1) (R : Fin 16384) (l : Fin 1024) : (val_main_v159 (F := Ideal) x0 x1 (ix2 R l) : EReal) = acc (at2 x1) (padAt x0) R l 21 := by
  refine congrArg₂ (fun a b : EReal => a + b) (s19 x0 x1 R l) (congrArg₂ (fun a b : EReal => a * b) ?_ ?_)
  · rw [val_main_v157_apply, val_main_v156_apply, val_main_v154_apply, val_main_v153_apply]
    exact row_ix x1 _ 20 l rfl rfl
  · rw [val_main_v155_apply]
    exact r11 x0 _ _ _ (by show 20 + (R : ℕ) + 2 = (R : ℕ) + (20 + 2); omega) rfl
theorem s21 (x0 : T0) (x1 : T1) (R : Fin 16384) (l : Fin 1024) : (val_main_v166 (F := Ideal) x0 x1 (ix2 R l) : EReal) = acc (at2 x1) (padAt x0) R l 22 := by
  refine congrArg₂ (fun a b : EReal => a + b) (s20 x0 x1 R l) (congrArg₂ (fun a b : EReal => a * b) ?_ ?_)
  · rw [val_main_v164_apply, val_main_v163_apply, val_main_v161_apply, val_main_v160_apply]
    exact row_ix x1 _ 21 l rfl rfl
  · rw [val_main_v162_apply]
    exact r11 x0 _ _ _ (by show 21 + (R : ℕ) + 2 = (R : ℕ) + (21 + 2); omega) rfl
theorem s22 (x0 : T0) (x1 : T1) (R : Fin 16384) (l : Fin 1024) : (val_main_v173 (F := Ideal) x0 x1 (ix2 R l) : EReal) = acc (at2 x1) (padAt x0) R l 23 := by
  refine congrArg₂ (fun a b : EReal => a + b) (s21 x0 x1 R l) (congrArg₂ (fun a b : EReal => a * b) ?_ ?_)
  · rw [val_main_v171_apply, val_main_v170_apply, val_main_v168_apply, val_main_v167_apply]
    exact row_ix x1 _ 22 l rfl rfl
  · rw [val_main_v169_apply]
    exact r11 x0 _ _ _ (by show 22 + (R : ℕ) + 2 = (R : ℕ) + (22 + 2); omega) rfl
theorem s23 (x0 : T0) (x1 : T1) (R : Fin 16384) (l : Fin 1024) : (val_main_v180 (F := Ideal) x0 x1 (ix2 R l) : EReal) = acc (at2 x1) (padAt x0) R l 24 := by
  refine congrArg₂ (fun a b : EReal => a + b) (s22 x0 x1 R l) (congrArg₂ (fun a b : EReal => a * b) ?_ ?_)
  · rw [val_main_v178_apply, val_main_v177_apply, val_main_v175_apply, val_main_v174_apply]
    exact row_ix x1 _ 23 l rfl rfl
  · rw [val_main_v176_apply]
    exact r11 x0 _ _ _ (by show 23 + (R : ℕ) + 2 = (R : ℕ) + (23 + 2); omega) rfl
theorem s24 (x0 : T0) (x1 : T1) (R : Fin 16384) (l : Fin 1024) : (val_main_v187 (F := Ideal) x0 x1 (ix2 R l) : EReal) = acc (at2 x1) (padAt x0) R l 25 := by
  refine congrArg₂ (fun a b : EReal => a + b) (s23 x0 x1 R l) (congrArg₂ (fun a b : EReal => a * b) ?_ ?_)
  · rw [val_main_v185_apply, val_main_v184_apply, val_main_v182_apply, val_main_v181_apply]
    exact row_ix x1 _ 24 l rfl rfl
  · rw [val_main_v183_apply]
    exact r11 x0 _ _ _ (by show 24 + (R : ℕ) + 2 = (R : ℕ) + (24 + 2); omega) rfl
theorem s25 (x0 : T0) (x1 : T1) (R : Fin 16384) (l : Fin 1024) : (val_main_v194 (F := Ideal) x0 x1 (ix2 R l) : EReal) = acc (at2 x1) (padAt x0) R l 26 := by
  refine congrArg₂ (fun a b : EReal => a + b) (s24 x0 x1 R l) (congrArg₂ (fun a b : EReal => a * b) ?_ ?_)
  · rw [val_main_v192_apply, val_main_v191_apply, val_main_v189_apply, val_main_v188_apply]
    exact row_ix x1 _ 25 l rfl rfl
  · rw [val_main_v190_apply]
    exact r11 x0 _ _ _ (by show 25 + (R : ℕ) + 2 = (R : ℕ) + (25 + 2); omega) rfl
theorem s26 (x0 : T0) (x1 : T1) (R : Fin 16384) (l : Fin 1024) : (val_main_v201 (F := Ideal) x0 x1 (ix2 R l) : EReal) = acc (at2 x1) (padAt x0) R l 27 := by
  refine congrArg₂ (fun a b : EReal => a + b) (s25 x0 x1 R l) (congrArg₂ (fun a b : EReal => a * b) ?_ ?_)
  · rw [val_main_v199_apply, val_main_v198_apply, val_main_v196_apply, val_main_v195_apply]
    exact row_ix x1 _ 26 l rfl rfl
  · rw [val_main_v197_apply]
    exact r11 x0 _ _ _ (by show 26 + (R : ℕ) + 2 = (R : ℕ) + (26 + 2); omega) rfl
theorem s27 (x0 : T0) (x1 : T1) (R : Fin 16384) (l : Fin 1024) : (val_main_v208 (F := Ideal) x0 x1 (ix2 R l) : EReal) = acc (at2 x1) (padAt x0) R l 28 := by
  refine congrArg₂ (fun a b : EReal => a + b) (s26 x0 x1 R l) (congrArg₂ (fun a b : EReal => a * b) ?_ ?_)
  · rw [val_main_v206_apply, val_main_v205_apply, val_main_v203_apply, val_main_v202_apply]
    exact row_ix x1 _ 27 l rfl rfl
  · rw [val_main_v204_apply]
    exact r11 x0 _ _ _ (by show 27 + (R : ℕ) + 2 = (R : ℕ) + (27 + 2); omega) rfl
theorem s28 (x0 : T0) (x1 : T1) (R : Fin 16384) (l : Fin 1024) : (val_main_v215 (F := Ideal) x0 x1 (ix2 R l) : EReal) = acc (at2 x1) (padAt x0) R l 29 := by
  refine congrArg₂ (fun a b : EReal => a + b) (s27 x0 x1 R l) (congrArg₂ (fun a b : EReal => a * b) ?_ ?_)
  · rw [val_main_v213_apply, val_main_v212_apply, val_main_v210_apply, val_main_v209_apply]
    exact row_ix x1 _ 28 l rfl rfl
  · rw [val_main_v211_apply]
    exact r11 x0 _ _ _ (by show 28 + (R : ℕ) + 2 = (R : ℕ) + (28 + 2); omega) rfl
theorem s29 (x0 : T0) (x1 : T1) (R : Fin 16384) (l : Fin 1024) : (val_main_v222 (F := Ideal) x0 x1 (ix2 R l) : EReal) = acc (at2 x1) (padAt x0) R l 30 := by
  refine congrArg₂ (fun a b : EReal => a + b) (s28 x0 x1 R l) (congrArg₂ (fun a b : EReal => a * b) ?_ ?_)
  · rw [val_main_v220_apply, val_main_v219_apply, val_main_v217_apply, val_main_v216_apply]
    exact row_ix x1 _ 29 l rfl rfl
  · rw [val_main_v218_apply]
    exact r11 x0 _ _ _ (by show 29 + (R : ℕ) + 2 = (R : ℕ) + (29 + 2); omega) rfl
theorem s30 (x0 : T0) (x1 : T1) (R : Fin 16384) (l : Fin 1024) : (val_main_v229 (F := Ideal) x0 x1 (ix2 R l) : EReal) = acc (at2 x1) (padAt x0) R l 31 := by
  refine congrArg₂ (fun a b : EReal => a + b) (s29 x0 x1 R l) (congrArg₂ (fun a b : EReal => a * b) ?_ ?_)
  · rw [val_main_v227_apply, val_main_v226_apply, val_main_v224_apply, val_main_v223_apply]
    exact row_ix x1 _ 30 l rfl rfl
  · rw [val_main_v225_apply]
    exact r11 x0 _ _ _ (by show 30 + (R : ℕ) + 2 = (R : ℕ) + (30 + 2); omega) rfl

theorem r232 (x0 : T0) (x1 : T1) (x2 : T2) (R : Fin 16384) (l : Fin 1024) : (val_main_v232 (F := Ideal) x0 x1 x2 (ix2 R l) : EReal) = convRow x0 x1 x2 R l := by
  refine Eq.trans ?_ (conv_ref (at1 x2) (at2 x1) (padAt x0) R l).symm
  refine congrArg₂ (fun a b : EReal => a + b) (s30 x0 x1 R l) ?_
  rw [val_main_v231_apply, val_main_v230_apply]
  refine Eq.trans (congrArg x2 ?_) (show at1 x2 l = _ from dif_pos l.isLt).symm
  funext a
  fin_cases a
  rfl

theorem r236 (x0 : T0) (x1 : T1) (x2 : T2) (R : Fin 16384) : (val_main_v236 (F := Ideal) x0 x1 x2 (ix2 R 0) : EReal) = mean fun k => convRow x0 x1 x2 R k := by
  have e := r232 x0 x1 x2 R
  unfold val_main_v236 val_main_v234 val_main_v233 mean
  simp only [← e]
  generalize val_main_v232 (F := Ideal) x0 x1 x2 = y
  pointwise [val_main_v235, val_main_cst_3, val_main_cst_2]

theorem r238 (x0 : T0) (x1 : T1) (x2 : T2) (R : Fin 16384) (l : Fin 1024) : (val_main_v238 (F := Ideal) x0 x1 x2 (ix2 R l) : EReal) = convRow x0 x1 x2 R l - mean (convRow x0 x1 x2 R) := by
  refine congrArg₂ (fun a b : EReal => a - b) (r232 x0 x1 x2 R l) ?_
  rw [val_main_v237_apply]
  exact (congrArg (val_main_v236 (F := Ideal) x0 x1 x2) (by funext a; fin_cases a <;> rfl)).trans (r236 x0 x1 x2 R)

theorem r245 (x0 : T0) (x1 : T1) (x2 : T2) (R : Fin 16384) (l : Fin 1024) : (val_main_v245 (F := Ideal) x0 x1 x2 (ix2 R l) : EReal) = convRow x0 x1 x2 R l - mean (convRow x0 x1 x2 R) := by
  refine congrArg₂ (fun a b : EReal => a - b) (r232 x0 x1 x2 R l) ?_
  rw [val_main_v244_apply]
  exact (congrArg (val_main_v236 (F := Ideal) x0 x1 x2) (by funext a; fin_cases a <;> rfl)).trans (r236 x0 x1 x2 R)

theorem r243 (x0 : T0) (x1 : T1) (x2 : T2) (R : Fin 16384) : (val_main_v243 (F := Ideal) x0 x1 x2 (ix2 R 0) : EReal)
    = Ideal.div (∑ j, (convRow x0 x1 x2 R j - mean (convRow x0 x1 x2 R)) * (convRow x0 x1 x2 R j - mean (convRow x0 x1 x2 R))) (Ideal.ofBits .f32 0x44800000#32) := by
  have e := r238 x0 x1 x2 R
  unfold val_main_v243 val_main_v241 val_main_v240 val_main_v239
  simp only [← e]
  generalize val_main_v238 (F := Ideal) x0 x1 x2 = y
  pointwise [val_main_v242, val_main_cst_5, val_main_cst_4]

theorem r256 (x0 : T0) (x1 : T1) (x2 x3 x4 : T2) (R : Fin 16384) (l : Fin 1024) : (val_main_v256 (F := Ideal) x0 x1 x2 x3 x4 (ix2 R l) : EReal)
    = lnAt (convRow x0 x1 x2 R) (fun k => x3 (ix1 k)) (fun k => x4 (ix1 k)) l := by
  have e := r245 x0 x1 x2 R l
  have e' := r243 x0 x1 x2 R
  unfold lnAt
  rw [← e, ← e']
  unfold val_main_v256 val_main_v253 val_main_v250 val_main_v249 val_main_v248 val_main_v247
  generalize val_main_v245 (F := Ideal) x0 x1 x2 = y
  generalize val_main_v243 (F := Ideal) x0 x1 x2 = z
  pointwise [val_main_v255, val_main_v254, val_main_v252, val_main_v251, val_main_v246, val_main_cst_6]

theorem r257 (x0 : T0) (x1 : T1) (x2 x3 x4 : T2) (R : Fin 16384) (l : Fin 1024) : (val_main_v257 (F := Ideal) x0 x1 x2 x3 x4 (ix2 R l) : EReal)
    = lnAt (convRow x0 x1 x2 R) (fun k => x3 (ix1 k)) (fun k => x4 (ix1 k)) l * Ideal.logistic (lnAt (convRow x0 x1 x2 R) (fun k => x3 (ix1 k)) (fun k => x4 (ix1 k)) l) := by
  rw [← r256, ← logistic_eq, ← one_bits]
  unfold val_main_v257 val_main_call1_v5 val_main_call1_v3 val_main_call1_v1 val_main_call1_v0
  generalize val_main_v256 (F := Ideal) x0 x1 x2 x3 x4 = z
  pointwise [val_main_call1_v4, val_main_call1_v2, val_main_call1_cst_0, val_main_call1_cst]

theorem r262 (x0 : T0) (x1 : T1) (x2 x3 x4 : T2) (x5 : T5) (x6 : T2) (R : Fin 16384) (l : Fin 1024) : (val_main_v262 (F := Ideal) x0 x1 x2 x3 x4 x5 x6 (ix2 R l) : EReal)
    = cfAt x0 x1 x2 x3 x4 x5 x6 R l := by
  unfold cfAt projAt
  refine congrArg₂ (fun a b : EReal => a + b) ?_ ?_
  · refine (val_main_v258_apply x0 x1 x2 x3 x4 x5 (ix2 R l)).trans (Finset.sum_congr rfl fun k _ => congrArg₂ (fun a b : EReal => a * b) ?_ ?_)
    · exact (congrArg (val_main_v257 (F := Ideal) x0 x1 x2 x3 x4) (by funext a; fin_cases a <;> rfl)).trans (r257 x0 x1 x2 x3 x4 R k)
    · exact congrArg x5 (by funext a; fin_cases a <;> rfl)
  · rw [val_main_v260_apply, val_main_v259_apply]
    exact congrArg x6 (by funext a; fin_cases a; rfl)
end Cert.ConfRefIdeal.Cf
end
-- ==== Proof.CfAlg.lean ====
/- The Conformer convolution: what the kernel leaves and what the reference computes. -/
module

public import proofs.«01_k».proof.Defs
public import proofs.«01_k».proof.Proof.CfRef
public import proofs.«01_k».proof.Proof.Gen.ConfIdeal.Frame
public import proofs.«01_k».proof.Proof.Gen.ConfRefIdeal.Run
public import proofs.«01_k».proof.Proof.Gen.ConfRefIdeal.Read
public import Idealize.ShloMosaic.Lib.Pipeline.ValueKit
public import Idealize.ShloMosaic.Lib.IdealHost
public import Idealize.ShloMosaic.Lib.Pointwise
public import Idealize.ShloMosaic.Lib.KernelVsHost
public import Idealize.ShloMosaic.Adequacy
public import Idealize.ShloMosaic.Init

@[expose] public section
set_option maxRecDepth 16384
noncomputable section
open Idealize.ShloMosaic Idealize.ShloMosaic.TcCoe Idealize.SL.Sem
open Idealize.ShloMosaic.Pipeline (Dat)

namespace Cert.Proof.Cf
open Cert.ConfRefIdeal.Cf (T0 T1 T2 T5)
open Cert.ConfRefIdeal.Read (val_main_v262)

theorem frameRef : quiescent_ConfRefIdeal (hConfRefIdeal := Cert.ConfRefIdeal.Gen.facts) := fun m g _ =>
  (θ_run (Cert.ConfRefIdeal.defs (F := Ideal)) (onTc (τ := Cert.ConfRefIdeal.τ) (Cert.ConfRefIdeal.main (F := Ideal))) _).mono
    (fun r h => And.intro (fun c => (h c).2) (sem_eq_zero_of_no_sems (by decide) r.2)) (Cert.ConfRefIdeal.Value.run m g)

abbrev M := (ℓ : Loc Cert.ConfIdeal.nD Cert.ConfIdeal.τ Cert.ConfIdeal.sig) → Buf (Elt Ideal) ℓ
/-- The arguments as launched. -/
abbrev a0 (m : M) (c : Dev Cert.ConfIdeal.nD) : T0 := m ((c.tc : Thread Cert.ConfIdeal.nD Cert.ConfIdeal.τ).loc Cert.ConfIdeal.main_arg0)
abbrev a1 (m : M) (c : Dev Cert.ConfIdeal.nD) : T1 := m ((c.tc : Thread Cert.ConfIdeal.nD Cert.ConfIdeal.τ).loc Cert.ConfIdeal.main_arg1)
abbrev a2 (m : M) (c : Dev Cert.ConfIdeal.nD) : T2 := m ((c.tc : Thread Cert.ConfIdeal.nD Cert.ConfIdeal.τ).loc Cert.ConfIdeal.main_arg2)
abbrev a3 (m : M) (c : Dev Cert.ConfIdeal.nD) : T2 := m ((c.tc : Thread Cert.ConfIdeal.nD Cert.ConfIdeal.τ).loc Cert.ConfIdeal.main_arg3)
abbrev a4 (m : M) (c : Dev Cert.ConfIdeal.nD) : T2 := m ((c.tc : Thread Cert.ConfIdeal.nD Cert.ConfIdeal.τ).loc Cert.ConfIdeal.main_arg4)
abbrev a5 (m : M) (c : Dev Cert.ConfIdeal.nD) : T5 := m ((c.tc : Thread Cert.ConfIdeal.nD Cert.ConfIdeal.τ).loc Cert.ConfIdeal.main_arg5)
abbrev a6 (m : M) (c : Dev Cert.ConfIdeal.nD) : T2 := m ((c.tc : Thread Cert.ConfIdeal.nD Cert.ConfIdeal.τ).loc Cert.ConfIdeal.main_arg6)

theorem out_eq (m : M) (c : Dev Cert.ConfIdeal.nD) :
    ((Cert.ConfIdeal.Gen.dats m 0 c).arrAt 10 Cert.ConfIdeal.cfg0.N : FVec Ideal Cert.ConfIdeal.S16384x1024 .bf16) = val_main_v262 (F := Ideal) (a0 m c) (a1 m c) (a2 m c) (a3 m c) (a4 m c) (a5 m c) (a6 m c) := by
  refine funext fun (i : (⟨2, ![16384, 1024]⟩ : Shape).Idx) => ?_
  rw [eq_ix2 i]
  refine (Cert.ConfIdeal.Cf.arr10 m c (i 0) (i 1)).trans (Eq.trans ?_ (Cert.ConfRefIdeal.Cf.r262 _ _ _ _ _ _ _ (i 0) (i 1)).symm)
  rw [show Cert.ConfIdeal.Cf.A0 m c = a0 m c from Cert.ConfIdeal.Gen.V_main_arg0 m c,
    show Cert.ConfIdeal.Cf.A1 m c = a1 m c from Cert.ConfIdeal.Gen.V_main_arg1 m c,
    show Cert.ConfIdeal.Cf.A2 m c = a2 m c from Cert.ConfIdeal.Gen.V_main_arg2 m c,
    show Cert.ConfIdeal.Cf.A3 m c = a3 m c from Cert.ConfIdeal.Gen.V_main_arg3 m c,
    show Cert.ConfIdeal.Cf.A4 m c = a4 m c from Cert.ConfIdeal.Gen.V_main_arg4 m c,
    show Cert.ConfIdeal.Cf.A5 m c = a5 m c from Cert.ConfIdeal.Gen.V_main_arg5 m c,
    show Cert.ConfIdeal.Cf.A6 m c = a6 m c from Cert.ConfIdeal.Gen.V_main_arg6 m c]

theorem algebraic : algebraic_ConfIdeal_ConfRefIdeal (hConfIdeal := Cert.ConfIdeal.Gen.facts) (hConfRefIdeal := Cert.ConfRefIdeal.Gen.facts) := by
  intro m g m' g' _ harg
  refine ⟨fun c => val_main_v262 (F := Ideal) (a0 m c) (a1 m c) (a2 m c) (a3 m c) (a4 m c) (a5 m c) (a6 m c), ?_, ?_⟩
  · refine (θ_run _ _ _).mono (fun r h c => ?_) (θ_run_and (Cert.ConfIdeal.Gen.run_main m g) (Cert.ConfIdeal.Gen.unchanged m g))
    exact ⟨((h.1 c).1 10).trans (out_eq m c), h.2 c⟩
  · refine (θ_run _ _ _).mono (fun r h c => ?_) (Cert.ConfRefIdeal.Value.run m' g')
    obtain ⟨h0, h1, h2, h3, h4, h5, h6⟩ := harg c
    refine ⟨((h c).1).trans ((Cert.ConfRefIdeal.Read.val_main_v262_eq _).trans ?_), (h c).2⟩
    exact congr (congr (congr (congr (congr (congrArg₂ (val_main_v262 (F := Ideal)) h0 h1) h2) h3) h4) h5) h6
end Cert.Proof.Cf
end
-- ==== Proof.AttBody.lean ====
/- The attention body on one pair of heads: what it stores, read at an index. -/
module

public import proofs.«01_k».proof.Proof.Gen.KernelIdeal.Frame
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.KernelIdeal.Att

open Cert.KernelIdeal Cert.KernelIdeal.Gen

/-- Minus infinity as the program writes it. -/
abbrev negInf : EReal := Ideal.ofBits .f32 0xFF800000#32

/-- One row of attention with a sink: logits `l`, sink `s`, values `v`; the division last. -/
def att1 (l : Fin 256 → EReal) (s : EReal) (v : Fin 256 → EReal) : EReal :=
  Ideal.div (∑ n, Ideal.exp (l n - max (Finset.univ.fold max negInf l) s) * v n)
    ((∑ n, Ideal.exp (l n - max (Finset.univ.fold max negInf l) s)) + Ideal.exp (s - max (Finset.univ.fold max negInf l) s))

/-- One head's half of the body: queries `qm` (masked to their half of the lanes), keys `kk`, bias `b`, sink `s`,
    values `vv`, the mask of allowed keys `ok`. -/
def HALF (ok : IVec S128x256 1) (qm : FVec Ideal S128x128 .bf16) (kk : FVec Ideal S256x128 .bf16)
    (b : FVec Ideal S1x128x256 .f32) (s : Elt Ideal .f32) (vv : FVec Ideal S256x128 .bf16) : FVec Ideal S128x128 .f32 :=
  have l : FVec Ideal S128x256 .f32 := select ok (addf (matmul dot_S128x128_S256x128_S128x256_1_1_0_0_n_n none qm kk
      (constant S128x256 .f32 0x00000000#32)) (shapeCast S128x256 b shapeCasts_S1x128x256_S128x256))
    (broadcast S128x256 (Scalar.ofBits .f32 0xFF800000#32))
  have mx : FVec Ideal S128x1 .f32 := maximumf (shapeCast S128x1 (multiReduction .maximumf [1] S128 l 0xFF800000#32
      reduces_S128x256_S128 (.inl rfl) rfl) shapeCasts_S128_S128x1) (broadcast S128x1 s)
  have p : FVec Ideal S128x256 .f32 := exp (subf l (broadcastTo S128x256 mx broadcasts_S128x1_S128x256))
  have den : FVec Ideal S128x1 .f32 := addf (shapeCast S128x1 (multiReduction .add [1] S128 p 0x00000000#32
      reduces_S128x256_S128 (.inl rfl) rfl) shapeCasts_S128_S128x1) (exp (subf (broadcast S128x1 s) mx))
  divf (matmul dot_S128x256_S256x128_S128x128_1_0_0_1_n_n none (truncf .bf16 p bitsLt_bf16_f32) vv
      (constant S128x128 .f32 0x00000000#32)) (broadcastTo S128x128 den broadcasts_S128x1_S128x128)

theorem HALF_at (ok : IVec S128x256 1) (qm : FVec Ideal S128x128 .bf16) (kk : FVec Ideal S256x128 .bf16)
    (b : FVec Ideal S1x128x256 .f32) (s : Elt Ideal .f32) (vv : FVec Ideal S256x128 .bf16) (r c : Fin 128) :
    HALF ok qm kk b s vv (ix2 r c)
      = att1 (fun n => Scalar.select (ok (ix2 r n)) ((∑ d : Fin 128, qm (ix2 r d) * kk (ix2 n d)) + b (ix3 0 r n)) negInf) s
          (fun n => vv (ix2 n c)) := by
  pointwise [HALF, att1]

/-- What one pair of heads stores: the even head in the low half of the lanes, the odd one in the high half. -/
def PAIR (ok : IVec S128x256 1) (q : FVec Ideal S128x128 .bf16)
    (kA : FVec Ideal S256x128 .bf16) (bA : FVec Ideal S1x128x256 .f32) (sA : Elt Ideal .f32) (vA : FVec Ideal S256x128 .bf16)
    (kB : FVec Ideal S256x128 .bf16) (bB : FVec Ideal S1x128x256 .f32) (sB : Elt Ideal .f32) (vB : FVec Ideal S256x128 .bf16) :
    FVec Ideal S128x128 .bf16 :=
  truncf .bf16 (select k1_pay2
    (HALF ok (select k1_pay2 (mulf q (broadcast S128x128 (Scalar.ofBits .bf16 0x3E00#16)))
      (broadcast S128x128 (Scalar.ofBits .bf16 0x0000#16))) kA bA sA vA)
    (HALF ok (select (xori k1_pay2 (constantI S128x128 1 1#1)) (mulf q (broadcast S128x128 (Scalar.ofBits .bf16 0x3E00#16)))
      (broadcast S128x128 (Scalar.ofBits .bf16 0x0000#16))) kB bB sB vB)) bitsLt_bf16_f32

theorem low_at (r d : Fin 128) : k1_pay2 (ix2 r d) = if (d : ℕ) < 64 then 1#1 else 0#1 := by
  pointwise [k1_pay2]
  have h : ∀ d : Fin 128, IntOp.cmpi CmpIPredicate.slt (BitVec.ofNat 32 (d : ℕ)) 64#32 = if (d : ℕ) < 64 then 1#1 else 0#1 := by
    decide +kernel
  exact h d

theorem nlow_at (r d : Fin 128) : xori k1_pay2 (constantI S128x128 1 1#1) (ix2 r d) = if (d : ℕ) < 64 then 0#1 else 1#1 := by
  pointwise []
  rw [low_at]
  split <;> rfl

/-- The attention of one block of 512 queries, from the queries `Q`, the window `K`, `V` of the 128 keys before the
    block and its own 512, the bias `B` and the sinks `S`; `ok k n`: may the queries of the `k`-th sub-block read the
    `n`-th of their 256 keys. -/
def attBlk (ok : ℕ → Fin 256 → BitVec 1) (Q : FVec Ideal S512x2048 .bf16) (K V : FVec Ideal S640x256 .bf16)
    (B : FVec Ideal S32x128x256 .f32) (S : FVec Ideal S32 .f32) (y0 : Fin 512) (y1 : Fin 2048) : EReal :=
  att1 (fun n => Scalar.select (ok (y0 / 128) n)
      ((∑ e : Fin 64, Q (ix2 y0 ⟨64 * (y1 / 64) + e, by omega⟩) * Ideal.ofBits .bf16 0x3E00#16
          * K (ix2 ⟨128 * (y0 / 128) + n, by omega⟩ ⟨64 * (y1 / 512) + e, by omega⟩))
        + B (ix3 ⟨y1 / 64, by omega⟩ ⟨y0 % 128, by omega⟩ n)) negInf)
    (S (ix1 ⟨y1 / 64, by omega⟩))
    (fun n => V (ix2 ⟨128 * (y0 / 128) + n, by omega⟩ ⟨64 * (y1 / 512) + y1 % 64, by omega⟩))

theorem PAIR_G (okv : IVec S128x256 1) (q : FVec Ideal S128x128 .bf16)
    (kA : FVec Ideal S256x128 .bf16) (bA : FVec Ideal S1x128x256 .f32) (sA : Elt Ideal .f32) (vA : FVec Ideal S256x128 .bf16)
    (kB : FVec Ideal S256x128 .bf16) (bB : FVec Ideal S1x128x256 .f32) (sB : Elt Ideal .f32) (vB : FVec Ideal S256x128 .bf16)
    (ok : ℕ → Fin 256 → BitVec 1) (Q : FVec Ideal S512x2048 .bf16) (K V : FVec Ideal S640x256 .bf16)
    (B : FVec Ideal S32x128x256 .f32) (S : FVec Ideal S32 .f32) (k : Fin 4) (p : Fin 16)
    (hok : ∀ r n, okv (ix2 r n) = ok k n)
    (hq : ∀ r d : Fin 128, q (ix2 r d) = Q (ix2 ⟨128 * k + r, by omega⟩ ⟨128 * p + d, by omega⟩))
    (hkA : ∀ (n : Fin 256) (e : Fin 64), kA (ix2 n ⟨e, by omega⟩) = K (ix2 ⟨128 * k + n, by omega⟩ ⟨64 * (p / 4) + e, by omega⟩))
    (hkB : ∀ (n : Fin 256) (e : Fin 64), kB (ix2 n ⟨64 + e, by omega⟩) = K (ix2 ⟨128 * k + n, by omega⟩ ⟨64 * (p / 4) + e, by omega⟩))
    (hvA : ∀ (n : Fin 256) (e : Fin 64), vA (ix2 n ⟨e, by omega⟩) = V (ix2 ⟨128 * k + n, by omega⟩ ⟨64 * (p / 4) + e, by omega⟩))
    (hvB : ∀ (n : Fin 256) (e : Fin 64), vB (ix2 n ⟨64 + e, by omega⟩) = V (ix2 ⟨128 * k + n, by omega⟩ ⟨64 * (p / 4) + e, by omega⟩))
    (hbA : ∀ (r : Fin 128) (n : Fin 256), bA (ix3 0 r n) = B (ix3 ⟨2 * p, by omega⟩ r n))
    (hbB : ∀ (r : Fin 128) (n : Fin 256), bB (ix3 0 r n) = B (ix3 ⟨2 * p + 1, by omega⟩ r n))
    (hsA : sA = S (ix1 ⟨2 * p, by omega⟩)) (hsB : sB = S (ix1 ⟨2 * p + 1, by omega⟩))
    (r c : Fin 128) : PAIR okv q kA bA sA vA kB bB sB vB (ix2 r c)
      = attBlk ok Q K V B S ⟨128 * k + r, by omega⟩ ⟨128 * p + c, by omega⟩ := by
  pointwise [PAIR, HALF_at, low_at, nlow_at]
  simp only [Finset.sum_const_zero, add_zero, zero_add, hok, hq, hkA, hkB, hbA, hbB, hsA, hsB]
  unfold attBlk
  have hk : (128 * (k : ℕ) + r) / 128 = k := by omega
  have hr : (128 * (k : ℕ) + r) % 128 = r := by omega
  by_cases hc : (c : ℕ) < 64
  · have e1 : (128 * (p : ℕ) + c) / 64 = 2 * p := by omega
    have e2 : (128 * (p : ℕ) + c) / 512 = p / 4 := by omega
    have e3 : (128 * (p : ℕ) + c) % 64 = c := by omega
    have hv : ∀ n, vA (ix2 n c) = V (ix2 ⟨128 * k + n, by omega⟩ ⟨64 * (p / 4) + c, by omega⟩) := fun n => hvA n ⟨c, hc⟩
    have hQ : ∀ x : Fin 64, 64 * (2 * (p : ℕ)) + x = 128 * p + x := fun x => by omega
    simp only [if_pos hc, hk, hr, e1, e2, e3, hv, hQ, Scalar.select, if_true]
    rfl
  · have e1 : (128 * (p : ℕ) + c) / 64 = 2 * p + 1 := by omega
    have e2 : (128 * (p : ℕ) + c) / 512 = p / 4 := by omega
    have e3 : (128 * (p : ℕ) + c) % 64 = c - 64 := by omega
    have hc' : (⟨64 + (c - 64), by omega⟩ : Fin 128) = c := Fin.ext (by simp only []; omega)
    have hv : ∀ n, vB (ix2 n c) = V (ix2 ⟨128 * k + n, by omega⟩ ⟨64 * (p / 4) + (c - 64), by omega⟩) := fun n => by
      have := hvB n ⟨c - 64, by omega⟩
      rwa [hc'] at this
    have hQ : ∀ x : Fin 64, 64 * (2 * (p : ℕ) + 1) + x = 128 * p + (64 + x) := fun x => by omega
    simp only [if_neg hc, hk, hr, e1, e2, e3, hv, hQ, Scalar.select]
    rfl

end Cert.KernelIdeal.Att

end

end
-- ==== Proof.AttTrip.lean ====
module

public import proofs.«01_k».proof.Proof.AttBody

@[expose] public section
set_option maxRecDepth 16384
noncomputable section
open Idealize.ShloMosaic Idealize.ShloMosaic.TcCoe Idealize.SL.Sem
open Idealize.ShloMosaic.Pipeline (Dat)
namespace Cert.KernelIdeal.Att
open Cert.KernelIdeal Cert.KernelIdeal.Gen

/-- A load of a box of a window reads the window at the box's place. -/
theorem ld_win (mm : Memref sig .tc .vmem S640x256 .bf16) (X : BufTy.Contents (Elt Ideal) mm.view.ty) (off : Fin 2 → ℕ)
    (inb : ∀ a, off a + S256x128.size a ≤ S640x256.size a) (k b : ℕ) (h0 : off 0 = 128 * k) (h1 : off 1 = b)
    (hk : k < 4) (hb : b ≤ 128) (n : Fin 256) (e : Fin 128) :
    View.readAt (Elt Ideal) mm.view (Rect.unit (s := S640x256) off S256x128.size inb).toLoadRect X (ix2 n e)
      = mm.view.read (Elt Ideal) X (ix2 ⟨128 * k + n, by omega⟩ ⟨b + e, by omega⟩) := by
  rw [View.readAt_apply]
  congr 1
  funext a
  refine Fin.ext ?_
  match a with
  | 0 => show off 0 + 1 * (n : ℕ) = 128 * k + n; omega
  | 1 => show off 1 + 1 * (e : ℕ) = b + e; omega

theorem ld_q (mm : Memref sig .tc .vmem S512x2048 .bf16) (X : BufTy.Contents (Elt Ideal) mm.view.ty) (off : Fin 2 → ℕ)
    (inb : ∀ a, off a + S128x128.size a ≤ S512x2048.size a) (k b : ℕ) (h0 : off 0 = 128 * k) (h1 : off 1 = b)
    (hk : k < 4) (hb : b ≤ 1920) (n : Fin 128) (e : Fin 128) :
    View.readAt (Elt Ideal) mm.view (Rect.unit (s := S512x2048) off S128x128.size inb).toLoadRect X (ix2 n e)
      = mm.view.read (Elt Ideal) X (ix2 ⟨128 * k + n, by omega⟩ ⟨b + e, by omega⟩) := by
  rw [View.readAt_apply]
  congr 1
  funext a
  refine Fin.ext ?_
  match a with
  | 0 => show off 0 + 1 * (n : ℕ) = 128 * k + n; omega
  | 1 => show off 1 + 1 * (e : ℕ) = b + e; omega

theorem ld_dir (mm : Memref sig .tc .vmem S640x256 .bf16) (X : BufTy.Contents (Elt Ideal) mm.view.ty) (off : Fin 2 → ℕ)
    (inb : ∀ a, off a + S256x128.size a ≤ S640x256.size a) (k b : ℕ) (h0 : off 0 = 128 * k) (h1 : off 1 = b)
    (hk : k < 4) (hb : b ≤ 128) (n : Fin 256) (e : Fin 128) (z : Fin 256) (hz : b + (e : ℕ) = z) :
    View.readAt (Elt Ideal) mm.view (Rect.unit (s := S640x256) off S256x128.size inb).toLoadRect X (ix2 n e)
      = mm.view.read (Elt Ideal) X (ix2 ⟨128 * k + n, by omega⟩ z) := by
  rw [ld_win mm X off inb k b h0 h1 hk hb]
  simp only [hz]

theorem ld_rol (mm : Memref sig .tc .vmem S640x256 .bf16) (X : BufTy.Contents (Elt Ideal) mm.view.ty) (W : FVec Ideal S640x256 .bf16)
    (hR : ∀ (r : Fin 640) (c : Fin 256), mm.view.read (Elt Ideal) X (ix2 r c) = W (ix2 r ⟨(c + 192) % 256, by omega⟩)) (off : Fin 2 → ℕ)
    (inb : ∀ a, off a + S256x128.size a ≤ S640x256.size a) (k b : ℕ) (h0 : off 0 = 128 * k) (h1 : off 1 = b)
    (hk : k < 4) (hb : b ≤ 128) (n : Fin 256) (e : Fin 128) (z : Fin 256) (hz : (b + (e : ℕ) + 192) % 256 = z) :
    View.readAt (Elt Ideal) mm.view (Rect.unit (s := S640x256) off S256x128.size inb).toLoadRect X (ix2 n e)
      = W (ix2 ⟨128 * k + n, by omega⟩ z) := by
  rw [ld_win mm X off inb k b h0 h1 hk hb, hR]
  simp only [hz]

theorem ld_b (mm : Memref sig .tc .vmem S32x128x256 .f32) (X : BufTy.Contents (Elt Ideal) mm.view.ty) (h : Fin 32)
    (inb : ∀ a, (![(h : ℕ), 0, 0] : Fin 3 → ℕ) a + S1x128x256.size a ≤ S32x128x256.size a) (r : Fin 128) (n : Fin 256) :
    View.readAt (Elt Ideal) mm.view (Rect.unit (s := S32x128x256) ![(h : ℕ), 0, 0] S1x128x256.size inb).toLoadRect X (ix3 0 r n)
      = mm.view.read (Elt Ideal) X (ix3 h r n) := by
  rw [View.readAt_apply]
  congr 1
  funext a
  refine Fin.ext ?_
  match a with
  | 0 => show (h : ℕ) + 1 * 0 = h; omega
  | 1 => show 0 + 1 * (r : ℕ) = r; omega
  | 2 => show 0 + 1 * (n : ℕ) = n; omega

theorem ld_s (mm : Memref sig .tc .smem S32 .f32) (X : BufTy.Contents (Elt Ideal) mm.view.ty) (h : Fin 32)
    (inb : ∀ a, (![(h : ℕ)] : Fin 1 → ℕ) a + S1.size a ≤ S32.size a) (x : (Rect.unit (s := S32) ![(h : ℕ)] S1.size inb).toLoadRect.shape.Idx) :
    View.readAt (Elt Ideal) mm.view (Rect.unit (s := S32) ![(h : ℕ)] S1.size inb).toLoadRect X x
      = mm.view.read (Elt Ideal) X (ix1 h) := by
  rw [View.readAt_apply]
  congr 1
  funext a
  refine Fin.ext ?_
  match a with
  | 0 =>
    have hx : ((x 0 : Fin 1) : ℕ) = 0 := Nat.lt_one_iff.mp (x 0).isLt
    show (h : ℕ) + 1 * ((x 0 : Fin 1) : ℕ) = h
    omega

theorem emb_at (off : Fin 2 → ℕ) (inb : ∀ a, off a + S128x128.size a ≤ S512x2048.size a) (k b : ℕ) (h0 : off 0 = 128 * k) (h1 : off 1 = b)
    (hk : k < 4) (hb : b ≤ 1920) (r c : Fin 128) (f : Fin 512 → Fin 2048 → EReal) :
    (fun y : S512x2048.Idx => f (y 0) (y 1)) ((Rect.unit (s := S512x2048) off S128x128.size inb).emb (ix2 r c)) = f ⟨128 * k + r, by omega⟩ ⟨b + c, by omega⟩ := by
  refine congrArg₂ f (Fin.ext ?_) (Fin.ext ?_)
  · show off 0 + 1 * (r : ℕ) = 128 * k + r
    omega
  · show off 1 + 1 * (c : ℕ) = b + c
    omega

theorem off_at : ∀ k : Fin k1_t1_loop.trips, (k1_off2 k 0 = 128 * k.val ∧ k1_off2 k 1 = 0) ∧ (k1_off7 k 0 = 128 * k.val ∧ k1_off7 k 1 = 128) ∧
(k1_off1 k 0 = 128 * k.val ∧ k1_off1 k 1 = 0) ∧
    (k1_off3 k 0 = 128 * k.val ∧ k1_off3 k 1 = 128) ∧
    (k1_off4 k 0 = 128 * k.val ∧ k1_off4 k 1 = 256) ∧
    (k1_off5 k 0 = 128 * k.val ∧ k1_off5 k 1 = 384) ∧
    (k1_off6 k 0 = 128 * k.val ∧ k1_off6 k 1 = 512) ∧
    (k1_off8 k 0 = 128 * k.val ∧ k1_off8 k 1 = 640) ∧
    (k1_off9 k 0 = 128 * k.val ∧ k1_off9 k 1 = 768) ∧
    (k1_off10 k 0 = 128 * k.val ∧ k1_off10 k 1 = 896) ∧
    (k1_off11 k 0 = 128 * k.val ∧ k1_off11 k 1 = 1024) ∧
    (k1_off12 k 0 = 128 * k.val ∧ k1_off12 k 1 = 1152) ∧
    (k1_off13 k 0 = 128 * k.val ∧ k1_off13 k 1 = 1280) ∧
    (k1_off14 k 0 = 128 * k.val ∧ k1_off14 k 1 = 1408) ∧
    (k1_off15 k 0 = 128 * k.val ∧ k1_off15 k 1 = 1536) ∧
    (k1_off16 k 0 = 128 * k.val ∧ k1_off16 k 1 = 1664) ∧
    (k1_off17 k 0 = 128 * k.val ∧ k1_off17 k 1 = 1792) ∧
    (k1_off18 k 0 = 128 * k.val ∧ k1_off18 k 1 = 1920) := by
  decide +kernel

theorem trip_G (c : Dev nD) (i : grid1.Coords) (arg1 : Memref sig .tc .vmem S512x2048 .bf16) (harg1 : arg1.IsWhole) (arg2 : Memref sig .tc .vmem S512x256 .bf16) (harg2 : arg2.IsWhole) (arg3 : Memref sig .tc .vmem S512x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S32x128x256 .f32) (harg6 : arg6.IsWhole) (arg7 : Memref sig .tc .smem S32 .f32) (harg7 : arg7.IsWhole) (arg8 : Memref sig .tc .vmem S512x2048 .bf16) (harg8 : arg8.IsWhole) (arg9 : Memref sig .tc .vmem S640x256 .bf16) (harg9 : arg9.IsWhole) (arg10 : Memref sig .tc .vmem S640x256 .bf16) (harg10 : arg10.IsWhole) (arg11 : Memref sig .tc .vmem S640x256 .bf16) (harg11 : arg11.IsWhole) (arg12 : Memref sig .tc .vmem S640x256 .bf16) (harg12 : arg12.IsWhole)
    (arg0 : BitVec 32) (X1 : BufTy.Contents (Elt Ideal) arg1.view.ty) (X6 : BufTy.Contents (Elt Ideal) arg6.view.ty) (X7 : BufTy.Contents (Elt Ideal) arg7.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty) (k : Fin k1_t1_loop.trips)
    (ok : ℕ → Fin 256 → BitVec 1)
    (hok : ∀ (r : Fin 128) n, k1_pay5 arg0 k1_pay3 0#32 1#32 k (ix2 r n) = ok k n)
    (hK : ∀ (r : Fin 640) (c : Fin 256), arg11.view.read (Elt Ideal) X11 (ix2 r c) = arg9.view.read (Elt Ideal) X9 (ix2 r ⟨(c + 192) % 256, by omega⟩))
    (hV : ∀ (r : Fin 640) (c : Fin 256), arg12.view.read (Elt Ideal) X12 (ix2 r c) = arg10.view.read (Elt Ideal) X10 (ix2 r ⟨(c + 192) % 256, by omega⟩)) :
  ∀ pc ∈ (tripL_k1_t1 (F := Ideal) Variants.none c none i arg1 harg1 arg2 harg2 arg3 harg3 arg4 harg4 arg5 harg5 arg6 harg6 arg7 harg7 arg8 harg8 arg9 harg9 arg10 harg10 arg11 harg11 arg12 harg12 arg0 X1 X6 X7 X9 X10 X11 X12 k), ∀ x, pc.2 x = (fun y : S512x2048.Idx => attBlk ok (arg1.view.read (Elt Ideal) X1) (arg9.view.read (Elt Ideal) X9) (arg10.view.read (Elt Ideal) X10) (arg6.view.read (Elt Ideal) X6) (arg7.view.read (Elt Ideal) X7) (y 0) (y 1)) (pc.1.emb x) := by
  obtain ⟨⟨a0, a1⟩, ⟨b0, b1⟩, ⟨c0, d0⟩, ⟨c1, d1⟩, ⟨c2, d2⟩, ⟨c3, d3⟩, ⟨c4, d4⟩, ⟨c5, d5⟩, ⟨c6, d6⟩, ⟨c7, d7⟩, ⟨c8, d8⟩, ⟨c9, d9⟩, ⟨c10, d10⟩, ⟨c11, d11⟩, ⟨c12, d12⟩, ⟨c13, d13⟩, ⟨c14, d14⟩, ⟨c15, d15⟩⟩ := off_at k
  have hk4 : k.val < 4 := Nat.lt_of_lt_of_le k.isLt k1_t1_abs.2.1
  unfold tripL_k1_t1 trip_k1_t1
  refine List.forall_mem_cons.mpr ⟨?_, ?_⟩
  · intro x
    obtain ⟨r, c, rfl⟩ : ∃ r c : Fin 128, x = ix2 r c := ⟨x 0, x 1, eq_ix2 (n0 := 128) (n1 := 128) x⟩
    refine Eq.trans (congrFun (g := (PAIR (k1_pay5 arg0 k1_pay3 0#32 1#32 k) (View.readAt (Elt Ideal) arg1.view (Rect.unit (s := S512x2048) (k1_off18 k) S128x128.size (k1_off18_inb k)).toLoadRect X1)
        (View.readAt (Elt Ideal) arg11.view (Rect.unit (s := S640x256) (k1_off2 k) S256x128.size (k1_off2_inb k)).toLoadRect X11)
        (View.readAt (Elt Ideal) arg6.view (Rect.unit (s := S32x128x256) ![30, 0, 0] S1x128x256.size inb_S32x128x256_S1x128x256_30_0_0).toLoadRect X6)
        (View.readAt (Elt Ideal) arg7.view (Rect.unit (s := S32) ![30] S1.size inb_S32_S1_30).toLoadRect X7 (Shape.Idx.first (by show 0 < S1.numel; rw [numel1_S1]; exact Nat.one_pos)))
        (View.readAt (Elt Ideal) arg12.view (Rect.unit (s := S640x256) (k1_off2 k) S256x128.size (k1_off2_inb k)).toLoadRect X12)
        (View.readAt (Elt Ideal) arg9.view (Rect.unit (s := S640x256) (k1_off7 k) S256x128.size (k1_off7_inb k)).toLoadRect X9)
        (View.readAt (Elt Ideal) arg6.view (Rect.unit (s := S32x128x256) ![31, 0, 0] S1x128x256.size inb_S32x128x256_S1x128x256_31_0_0).toLoadRect X6)
        (View.readAt (Elt Ideal) arg7.view (Rect.unit (s := S32) ![31] S1.size inb_S32_S1_31).toLoadRect X7 (Shape.Idx.first (by show 0 < S1.numel; rw [numel1_S1]; exact Nat.one_pos)))
        (View.readAt (Elt Ideal) arg10.view (Rect.unit (s := S640x256) (k1_off7 k) S256x128.size (k1_off7_inb k)).toLoadRect X10))) (by with_unfolding_all rfl) (ix2 r c)) ?_
    refine Eq.trans (PAIR_G _ _ _ _ _ _ _ _ _ _ ok (arg1.view.read (Elt Ideal) X1) (arg9.view.read (Elt Ideal) X9) (arg10.view.read (Elt Ideal) X10)
      (arg6.view.read (Elt Ideal) X6) (arg7.view.read (Elt Ideal) X7) ⟨k.val, hk4⟩ ⟨15, by omega⟩ hok
      (fun r d => ld_q _ _ _ _ _ _ c15 d15 hk4 (by omega) r d)
      (fun n e => ld_rol _ _ _ hK _ _ _ _ a0 a1 hk4 (by omega) n ⟨e, by omega⟩ _ (by dsimp only <;> omega))
      (fun n e => ld_dir _ _ _ _ _ _ b0 b1 hk4 (by omega) n ⟨64 + e, by omega⟩ _ (by dsimp only <;> omega))
      (fun n e => ld_rol _ _ _ hV _ _ _ _ a0 a1 hk4 (by omega) n ⟨e, by omega⟩ _ (by dsimp only <;> omega))
      (fun n e => ld_dir _ _ _ _ _ _ b0 b1 hk4 (by omega) n ⟨64 + e, by omega⟩ _ (by dsimp only <;> omega))
      (fun r n => ld_b _ _ ⟨30, by omega⟩ inb_S32x128x256_S1x128x256_30_0_0 r n) (fun r n => ld_b _ _ ⟨31, by omega⟩ inb_S32x128x256_S1x128x256_31_0_0 r n)
      (ld_s _ _ ⟨30, by omega⟩ inb_S32_S1_30 _) (ld_s _ _ ⟨31, by omega⟩ inb_S32_S1_31 _) r c) ?_
    exact (emb_at _ (k1_off18_inb k) _ _ c15 d15 hk4 (by omega) r c (fun y0 y1 => attBlk ok (arg1.view.read (Elt Ideal) X1) (arg9.view.read (Elt Ideal) X9) (arg10.view.read (Elt Ideal) X10) (arg6.view.read (Elt Ideal) X6) (arg7.view.read (Elt Ideal) X7) y0 y1)).symm
  refine List.forall_mem_cons.mpr ⟨?_, ?_⟩
  · intro x
    obtain ⟨r, c, rfl⟩ : ∃ r c : Fin 128, x = ix2 r c := ⟨x 0, x 1, eq_ix2 (n0 := 128) (n1 := 128) x⟩
    refine Eq.trans (congrFun (g := (PAIR (k1_pay5 arg0 k1_pay3 0#32 1#32 k) (View.readAt (Elt Ideal) arg1.view (Rect.unit (s := S512x2048) (k1_off17 k) S128x128.size (k1_off17_inb k)).toLoadRect X1)
        (View.readAt (Elt Ideal) arg11.view (Rect.unit (s := S640x256) (k1_off2 k) S256x128.size (k1_off2_inb k)).toLoadRect X11)
        (View.readAt (Elt Ideal) arg6.view (Rect.unit (s := S32x128x256) ![28, 0, 0] S1x128x256.size inb_S32x128x256_S1x128x256_28_0_0).toLoadRect X6)
        (View.readAt (Elt Ideal) arg7.view (Rect.unit (s := S32) ![28] S1.size inb_S32_S1_28).toLoadRect X7 (Shape.Idx.first (by show 0 < S1.numel; rw [numel1_S1]; exact Nat.one_pos)))
        (View.readAt (Elt Ideal) arg12.view (Rect.unit (s := S640x256) (k1_off2 k) S256x128.size (k1_off2_inb k)).toLoadRect X12)
        (View.readAt (Elt Ideal) arg9.view (Rect.unit (s := S640x256) (k1_off7 k) S256x128.size (k1_off7_inb k)).toLoadRect X9)
        (View.readAt (Elt Ideal) arg6.view (Rect.unit (s := S32x128x256) ![29, 0, 0] S1x128x256.size inb_S32x128x256_S1x128x256_29_0_0).toLoadRect X6)
        (View.readAt (Elt Ideal) arg7.view (Rect.unit (s := S32) ![29] S1.size inb_S32_S1_29).toLoadRect X7 (Shape.Idx.first (by show 0 < S1.numel; rw [numel1_S1]; exact Nat.one_pos)))
        (View.readAt (Elt Ideal) arg10.view (Rect.unit (s := S640x256) (k1_off7 k) S256x128.size (k1_off7_inb k)).toLoadRect X10))) (by with_unfolding_all rfl) (ix2 r c)) ?_
    refine Eq.trans (PAIR_G _ _ _ _ _ _ _ _ _ _ ok (arg1.view.read (Elt Ideal) X1) (arg9.view.read (Elt Ideal) X9) (arg10.view.read (Elt Ideal) X10)
      (arg6.view.read (Elt Ideal) X6) (arg7.view.read (Elt Ideal) X7) ⟨k.val, hk4⟩ ⟨14, by omega⟩ hok
      (fun r d => ld_q _ _ _ _ _ _ c14 d14 hk4 (by omega) r d)
      (fun n e => ld_rol _ _ _ hK _ _ _ _ a0 a1 hk4 (by omega) n ⟨e, by omega⟩ _ (by dsimp only <;> omega))
      (fun n e => ld_dir _ _ _ _ _ _ b0 b1 hk4 (by omega) n ⟨64 + e, by omega⟩ _ (by dsimp only <;> omega))
      (fun n e => ld_rol _ _ _ hV _ _ _ _ a0 a1 hk4 (by omega) n ⟨e, by omega⟩ _ (by dsimp only <;> omega))
      (fun n e => ld_dir _ _ _ _ _ _ b0 b1 hk4 (by omega) n ⟨64 + e, by omega⟩ _ (by dsimp only <;> omega))
      (fun r n => ld_b _ _ ⟨28, by omega⟩ inb_S32x128x256_S1x128x256_28_0_0 r n) (fun r n => ld_b _ _ ⟨29, by omega⟩ inb_S32x128x256_S1x128x256_29_0_0 r n)
      (ld_s _ _ ⟨28, by omega⟩ inb_S32_S1_28 _) (ld_s _ _ ⟨29, by omega⟩ inb_S32_S1_29 _) r c) ?_
    exact (emb_at _ (k1_off17_inb k) _ _ c14 d14 hk4 (by omega) r c (fun y0 y1 => attBlk ok (arg1.view.read (Elt Ideal) X1) (arg9.view.read (Elt Ideal) X9) (arg10.view.read (Elt Ideal) X10) (arg6.view.read (Elt Ideal) X6) (arg7.view.read (Elt Ideal) X7) y0 y1)).symm
  refine List.forall_mem_cons.mpr ⟨?_, ?_⟩
  · intro x
    obtain ⟨r, c, rfl⟩ : ∃ r c : Fin 128, x = ix2 r c := ⟨x 0, x 1, eq_ix2 (n0 := 128) (n1 := 128) x⟩
    refine Eq.trans (congrFun (g := (PAIR (k1_pay5 arg0 k1_pay3 0#32 1#32 k) (View.readAt (Elt Ideal) arg1.view (Rect.unit (s := S512x2048) (k1_off16 k) S128x128.size (k1_off16_inb k)).toLoadRect X1)
        (View.readAt (Elt Ideal) arg11.view (Rect.unit (s := S640x256) (k1_off2 k) S256x128.size (k1_off2_inb k)).toLoadRect X11)
        (View.readAt (Elt Ideal) arg6.view (Rect.unit (s := S32x128x256) ![26, 0, 0] S1x128x256.size inb_S32x128x256_S1x128x256_26_0_0).toLoadRect X6)
        (View.readAt (Elt Ideal) arg7.view (Rect.unit (s := S32) ![26] S1.size inb_S32_S1_26).toLoadRect X7 (Shape.Idx.first (by show 0 < S1.numel; rw [numel1_S1]; exact Nat.one_pos)))
        (View.readAt (Elt Ideal) arg12.view (Rect.unit (s := S640x256) (k1_off2 k) S256x128.size (k1_off2_inb k)).toLoadRect X12)
        (View.readAt (Elt Ideal) arg9.view (Rect.unit (s := S640x256) (k1_off7 k) S256x128.size (k1_off7_inb k)).toLoadRect X9)
        (View.readAt (Elt Ideal) arg6.view (Rect.unit (s := S32x128x256) ![27, 0, 0] S1x128x256.size inb_S32x128x256_S1x128x256_27_0_0).toLoadRect X6)
        (View.readAt (Elt Ideal) arg7.view (Rect.unit (s := S32) ![27] S1.size inb_S32_S1_27).toLoadRect X7 (Shape.Idx.first (by show 0 < S1.numel; rw [numel1_S1]; exact Nat.one_pos)))
        (View.readAt (Elt Ideal) arg10.view (Rect.unit (s := S640x256) (k1_off7 k) S256x128.size (k1_off7_inb k)).toLoadRect X10))) (by with_unfolding_all rfl) (ix2 r c)) ?_
    refine Eq.trans (PAIR_G _ _ _ _ _ _ _ _ _ _ ok (arg1.view.read (Elt Ideal) X1) (arg9.view.read (Elt Ideal) X9) (arg10.view.read (Elt Ideal) X10)
      (arg6.view.read (Elt Ideal) X6) (arg7.view.read (Elt Ideal) X7) ⟨k.val, hk4⟩ ⟨13, by omega⟩ hok
      (fun r d => ld_q _ _ _ _ _ _ c13 d13 hk4 (by omega) r d)
      (fun n e => ld_rol _ _ _ hK _ _ _ _ a0 a1 hk4 (by omega) n ⟨e, by omega⟩ _ (by dsimp only <;> omega))
      (fun n e => ld_dir _ _ _ _ _ _ b0 b1 hk4 (by omega) n ⟨64 + e, by omega⟩ _ (by dsimp only <;> omega))
      (fun n e => ld_rol _ _ _ hV _ _ _ _ a0 a1 hk4 (by omega) n ⟨e, by omega⟩ _ (by dsimp only <;> omega))
      (fun n e => ld_dir _ _ _ _ _ _ b0 b1 hk4 (by omega) n ⟨64 + e, by omega⟩ _ (by dsimp only <;> omega))
      (fun r n => ld_b _ _ ⟨26, by omega⟩ inb_S32x128x256_S1x128x256_26_0_0 r n) (fun r n => ld_b _ _ ⟨27, by omega⟩ inb_S32x128x256_S1x128x256_27_0_0 r n)
      (ld_s _ _ ⟨26, by omega⟩ inb_S32_S1_26 _) (ld_s _ _ ⟨27, by omega⟩ inb_S32_S1_27 _) r c) ?_
    exact (emb_at _ (k1_off16_inb k) _ _ c13 d13 hk4 (by omega) r c (fun y0 y1 => attBlk ok (arg1.view.read (Elt Ideal) X1) (arg9.view.read (Elt Ideal) X9) (arg10.view.read (Elt Ideal) X10) (arg6.view.read (Elt Ideal) X6) (arg7.view.read (Elt Ideal) X7) y0 y1)).symm
  refine List.forall_mem_cons.mpr ⟨?_, ?_⟩
  · intro x
    obtain ⟨r, c, rfl⟩ : ∃ r c : Fin 128, x = ix2 r c := ⟨x 0, x 1, eq_ix2 (n0 := 128) (n1 := 128) x⟩
    refine Eq.trans (congrFun (g := (PAIR (k1_pay5 arg0 k1_pay3 0#32 1#32 k) (View.readAt (Elt Ideal) arg1.view (Rect.unit (s := S512x2048) (k1_off15 k) S128x128.size (k1_off15_inb k)).toLoadRect X1)
        (View.readAt (Elt Ideal) arg11.view (Rect.unit (s := S640x256) (k1_off2 k) S256x128.size (k1_off2_inb k)).toLoadRect X11)
        (View.readAt (Elt Ideal) arg6.view (Rect.unit (s := S32x128x256) ![24, 0, 0] S1x128x256.size inb_S32x128x256_S1x128x256_24_0_0).toLoadRect X6)
        (View.readAt (Elt Ideal) arg7.view (Rect.unit (s := S32) ![24] S1.size inb_S32_S1_24).toLoadRect X7 (Shape.Idx.first (by show 0 < S1.numel; rw [numel1_S1]; exact Nat.one_pos)))
        (View.readAt (Elt Ideal) arg12.view (Rect.unit (s := S640x256) (k1_off2 k) S256x128.size (k1_off2_inb k)).toLoadRect X12)
        (View.readAt (Elt Ideal) arg9.view (Rect.unit (s := S640x256) (k1_off7 k) S256x128.size (k1_off7_inb k)).toLoadRect X9)
        (View.readAt (Elt Ideal) arg6.view (Rect.unit (s := S32x128x256) ![25, 0, 0] S1x128x256.size inb_S32x128x256_S1x128x256_25_0_0).toLoadRect X6)
        (View.readAt (Elt Ideal) arg7.view (Rect.unit (s := S32) ![25] S1.size inb_S32_S1_25).toLoadRect X7 (Shape.Idx.first (by show 0 < S1.numel; rw [numel1_S1]; exact Nat.one_pos)))
        (View.readAt (Elt Ideal) arg10.view (Rect.unit (s := S640x256) (k1_off7 k) S256x128.size (k1_off7_inb k)).toLoadRect X10))) (by with_unfolding_all rfl) (ix2 r c)) ?_
    refine Eq.trans (PAIR_G _ _ _ _ _ _ _ _ _ _ ok (arg1.view.read (Elt Ideal) X1) (arg9.view.read (Elt Ideal) X9) (arg10.view.read (Elt Ideal) X10)
      (arg6.view.read (Elt Ideal) X6) (arg7.view.read (Elt Ideal) X7) ⟨k.val, hk4⟩ ⟨12, by omega⟩ hok
      (fun r d => ld_q _ _ _ _ _ _ c12 d12 hk4 (by omega) r d)
      (fun n e => ld_rol _ _ _ hK _ _ _ _ a0 a1 hk4 (by omega) n ⟨e, by omega⟩ _ (by dsimp only <;> omega))
      (fun n e => ld_dir _ _ _ _ _ _ b0 b1 hk4 (by omega) n ⟨64 + e, by omega⟩ _ (by dsimp only <;> omega))
      (fun n e => ld_rol _ _ _ hV _ _ _ _ a0 a1 hk4 (by omega) n ⟨e, by omega⟩ _ (by dsimp only <;> omega))
      (fun n e => ld_dir _ _ _ _ _ _ b0 b1 hk4 (by omega) n ⟨64 + e, by omega⟩ _ (by dsimp only <;> omega))
      (fun r n => ld_b _ _ ⟨24, by omega⟩ inb_S32x128x256_S1x128x256_24_0_0 r n) (fun r n => ld_b _ _ ⟨25, by omega⟩ inb_S32x128x256_S1x128x256_25_0_0 r n)
      (ld_s _ _ ⟨24, by omega⟩ inb_S32_S1_24 _) (ld_s _ _ ⟨25, by omega⟩ inb_S32_S1_25 _) r c) ?_
    exact (emb_at _ (k1_off15_inb k) _ _ c12 d12 hk4 (by omega) r c (fun y0 y1 => attBlk ok (arg1.view.read (Elt Ideal) X1) (arg9.view.read (Elt Ideal) X9) (arg10.view.read (Elt Ideal) X10) (arg6.view.read (Elt Ideal) X6) (arg7.view.read (Elt Ideal) X7) y0 y1)).symm
  refine List.forall_mem_cons.mpr ⟨?_, ?_⟩
  · intro x
    obtain ⟨r, c, rfl⟩ : ∃ r c : Fin 128, x = ix2 r c := ⟨x 0, x 1, eq_ix2 (n0 := 128) (n1 := 128) x⟩
    refine Eq.trans (congrFun (g := (PAIR (k1_pay5 arg0 k1_pay3 0#32 1#32 k) (View.readAt (Elt Ideal) arg1.view (Rect.unit (s := S512x2048) (k1_off14 k) S128x128.size (k1_off14_inb k)).toLoadRect X1)
        (View.readAt (Elt Ideal) arg9.view (Rect.unit (s := S640x256) (k1_off7 k) S256x128.size (k1_off7_inb k)).toLoadRect X9)
        (View.readAt (Elt Ideal) arg6.view (Rect.unit (s := S32x128x256) ![22, 0, 0] S1x128x256.size inb_S32x128x256_S1x128x256_22_0_0).toLoadRect X6)
        (View.readAt (Elt Ideal) arg7.view (Rect.unit (s := S32) ![22] S1.size inb_S32_S1_22).toLoadRect X7 (Shape.Idx.first (by show 0 < S1.numel; rw [numel1_S1]; exact Nat.one_pos)))
        (View.readAt (Elt Ideal) arg10.view (Rect.unit (s := S640x256) (k1_off7 k) S256x128.size (k1_off7_inb k)).toLoadRect X10)
        (View.readAt (Elt Ideal) arg11.view (Rect.unit (s := S640x256) (k1_off7 k) S256x128.size (k1_off7_inb k)).toLoadRect X11)
        (View.readAt (Elt Ideal) arg6.view (Rect.unit (s := S32x128x256) ![23, 0, 0] S1x128x256.size inb_S32x128x256_S1x128x256_23_0_0).toLoadRect X6)
        (View.readAt (Elt Ideal) arg7.view (Rect.unit (s := S32) ![23] S1.size inb_S32_S1_23).toLoadRect X7 (Shape.Idx.first (by show 0 < S1.numel; rw [numel1_S1]; exact Nat.one_pos)))
        (View.readAt (Elt Ideal) arg12.view (Rect.unit (s := S640x256) (k1_off7 k) S256x128.size (k1_off7_inb k)).toLoadRect X12))) (by with_unfolding_all rfl) (ix2 r c)) ?_
    refine Eq.trans (PAIR_G _ _ _ _ _ _ _ _ _ _ ok (arg1.view.read (Elt Ideal) X1) (arg9.view.read (Elt Ideal) X9) (arg10.view.read (Elt Ideal) X10)
      (arg6.view.read (Elt Ideal) X6) (arg7.view.read (Elt Ideal) X7) ⟨k.val, hk4⟩ ⟨11, by omega⟩ hok
      (fun r d => ld_q _ _ _ _ _ _ c11 d11 hk4 (by omega) r d)
      (fun n e => ld_dir _ _ _ _ _ _ b0 b1 hk4 (by omega) n ⟨e, by omega⟩ _ (by dsimp only <;> omega))
      (fun n e => ld_rol _ _ _ hK _ _ _ _ b0 b1 hk4 (by omega) n ⟨64 + e, by omega⟩ _ (by dsimp only <;> omega))
      (fun n e => ld_dir _ _ _ _ _ _ b0 b1 hk4 (by omega) n ⟨e, by omega⟩ _ (by dsimp only <;> omega))
      (fun n e => ld_rol _ _ _ hV _ _ _ _ b0 b1 hk4 (by omega) n ⟨64 + e, by omega⟩ _ (by dsimp only <;> omega))
      (fun r n => ld_b _ _ ⟨22, by omega⟩ inb_S32x128x256_S1x128x256_22_0_0 r n) (fun r n => ld_b _ _ ⟨23, by omega⟩ inb_S32x128x256_S1x128x256_23_0_0 r n)
      (ld_s _ _ ⟨22, by omega⟩ inb_S32_S1_22 _) (ld_s _ _ ⟨23, by omega⟩ inb_S32_S1_23 _) r c) ?_
    exact (emb_at _ (k1_off14_inb k) _ _ c11 d11 hk4 (by omega) r c (fun y0 y1 => attBlk ok (arg1.view.read (Elt Ideal) X1) (arg9.view.read (Elt Ideal) X9) (arg10.view.read (Elt Ideal) X10) (arg6.view.read (Elt Ideal) X6) (arg7.view.read (Elt Ideal) X7) y0 y1)).symm
  refine List.forall_mem_cons.mpr ⟨?_, ?_⟩
  · intro x
    obtain ⟨r, c, rfl⟩ : ∃ r c : Fin 128, x = ix2 r c := ⟨x 0, x 1, eq_ix2 (n0 := 128) (n1 := 128) x⟩
    refine Eq.trans (congrFun (g := (PAIR (k1_pay5 arg0 k1_pay3 0#32 1#32 k) (View.readAt (Elt Ideal) arg1.view (Rect.unit (s := S512x2048) (k1_off13 k) S128x128.size (k1_off13_inb k)).toLoadRect X1)
        (View.readAt (Elt Ideal) arg9.view (Rect.unit (s := S640x256) (k1_off7 k) S256x128.size (k1_off7_inb k)).toLoadRect X9)
        (View.readAt (Elt Ideal) arg6.view (Rect.unit (s := S32x128x256) ![20, 0, 0] S1x128x256.size inb_S32x128x256_S1x128x256_20_0_0).toLoadRect X6)
        (View.readAt (Elt Ideal) arg7.view (Rect.unit (s := S32) ![20] S1.size inb_S32_S1_20).toLoadRect X7 (Shape.Idx.first (by show 0 < S1.numel; rw [numel1_S1]; exact Nat.one_pos)))
        (View.readAt (Elt Ideal) arg10.view (Rect.unit (s := S640x256) (k1_off7 k) S256x128.size (k1_off7_inb k)).toLoadRect X10)
        (View.readAt (Elt Ideal) arg11.view (Rect.unit (s := S640x256) (k1_off7 k) S256x128.size (k1_off7_inb k)).toLoadRect X11)
        (View.readAt (Elt Ideal) arg6.view (Rect.unit (s := S32x128x256) ![21, 0, 0] S1x128x256.size inb_S32x128x256_S1x128x256_21_0_0).toLoadRect X6)
        (View.readAt (Elt Ideal) arg7.view (Rect.unit (s := S32) ![21] S1.size inb_S32_S1_21).toLoadRect X7 (Shape.Idx.first (by show 0 < S1.numel; rw [numel1_S1]; exact Nat.one_pos)))
        (View.readAt (Elt Ideal) arg12.view (Rect.unit (s := S640x256) (k1_off7 k) S256x128.size (k1_off7_inb k)).toLoadRect X12))) (by with_unfolding_all rfl) (ix2 r c)) ?_
    refine Eq.trans (PAIR_G _ _ _ _ _ _ _ _ _ _ ok (arg1.view.read (Elt Ideal) X1) (arg9.view.read (Elt Ideal) X9) (arg10.view.read (Elt Ideal) X10)
      (arg6.view.read (Elt Ideal) X6) (arg7.view.read (Elt Ideal) X7) ⟨k.val, hk4⟩ ⟨10, by omega⟩ hok
      (fun r d => ld_q _ _ _ _ _ _ c10 d10 hk4 (by omega) r d)
      (fun n e => ld_dir _ _ _ _ _ _ b0 b1 hk4 (by omega) n ⟨e, by omega⟩ _ (by dsimp only <;> omega))
      (fun n e => ld_rol _ _ _ hK _ _ _ _ b0 b1 hk4 (by omega) n ⟨64 + e, by omega⟩ _ (by dsimp only <;> omega))
      (fun n e => ld_dir _ _ _ _ _ _ b0 b1 hk4 (by omega) n ⟨e, by omega⟩ _ (by dsimp only <;> omega))
      (fun n e => ld_rol _ _ _ hV _ _ _ _ b0 b1 hk4 (by omega) n ⟨64 + e, by omega⟩ _ (by dsimp only <;> omega))
      (fun r n => ld_b _ _ ⟨20, by omega⟩ inb_S32x128x256_S1x128x256_20_0_0 r n) (fun r n => ld_b _ _ ⟨21, by omega⟩ inb_S32x128x256_S1x128x256_21_0_0 r n)
      (ld_s _ _ ⟨20, by omega⟩ inb_S32_S1_20 _) (ld_s _ _ ⟨21, by omega⟩ inb_S32_S1_21 _) r c) ?_
    exact (emb_at _ (k1_off13_inb k) _ _ c10 d10 hk4 (by omega) r c (fun y0 y1 => attBlk ok (arg1.view.read (Elt Ideal) X1) (arg9.view.read (Elt Ideal) X9) (arg10.view.read (Elt Ideal) X10) (arg6.view.read (Elt Ideal) X6) (arg7.view.read (Elt Ideal) X7) y0 y1)).symm
  refine List.forall_mem_cons.mpr ⟨?_, ?_⟩
  · intro x
    obtain ⟨r, c, rfl⟩ : ∃ r c : Fin 128, x = ix2 r c := ⟨x 0, x 1, eq_ix2 (n0 := 128) (n1 := 128) x⟩
    refine Eq.trans (congrFun (g := (PAIR (k1_pay5 arg0 k1_pay3 0#32 1#32 k) (View.readAt (Elt Ideal) arg1.view (Rect.unit (s := S512x2048) (k1_off12 k) S128x128.size (k1_off12_inb k)).toLoadRect X1)
        (View.readAt (Elt Ideal) arg9.view (Rect.unit (s := S640x256) (k1_off7 k) S256x128.size (k1_off7_inb k)).toLoadRect X9)
        (View.readAt (Elt Ideal) arg6.view (Rect.unit (s := S32x128x256) ![18, 0, 0] S1x128x256.size inb_S32x128x256_S1x128x256_18_0_0).toLoadRect X6)
        (View.readAt (Elt Ideal) arg7.view (Rect.unit (s := S32) ![18] S1.size inb_S32_S1_18).toLoadRect X7 (Shape.Idx.first (by show 0 < S1.numel; rw [numel1_S1]; exact Nat.one_pos)))
        (View.readAt (Elt Ideal) arg10.view (Rect.unit (s := S640x256) (k1_off7 k) S256x128.size (k1_off7_inb k)).toLoadRect X10)
        (View.readAt (Elt Ideal) arg11.view (Rect.unit (s := S640x256) (k1_off7 k) S256x128.size (k1_off7_inb k)).toLoadRect X11)
        (View.readAt (Elt Ideal) arg6.view (Rect.unit (s := S32x128x256) ![19, 0, 0] S1x128x256.size inb_S32x128x256_S1x128x256_19_0_0).toLoadRect X6)
        (View.readAt (Elt Ideal) arg7.view (Rect.unit (s := S32) ![19] S1.size inb_S32_S1_19).toLoadRect X7 (Shape.Idx.first (by show 0 < S1.numel; rw [numel1_S1]; exact Nat.one_pos)))
        (View.readAt (Elt Ideal) arg12.view (Rect.unit (s := S640x256) (k1_off7 k) S256x128.size (k1_off7_inb k)).toLoadRect X12))) (by with_unfolding_all rfl) (ix2 r c)) ?_
    refine Eq.trans (PAIR_G _ _ _ _ _ _ _ _ _ _ ok (arg1.view.read (Elt Ideal) X1) (arg9.view.read (Elt Ideal) X9) (arg10.view.read (Elt Ideal) X10)
      (arg6.view.read (Elt Ideal) X6) (arg7.view.read (Elt Ideal) X7) ⟨k.val, hk4⟩ ⟨9, by omega⟩ hok
      (fun r d => ld_q _ _ _ _ _ _ c9 d9 hk4 (by omega) r d)
      (fun n e => ld_dir _ _ _ _ _ _ b0 b1 hk4 (by omega) n ⟨e, by omega⟩ _ (by dsimp only <;> omega))
      (fun n e => ld_rol _ _ _ hK _ _ _ _ b0 b1 hk4 (by omega) n ⟨64 + e, by omega⟩ _ (by dsimp only <;> omega))
      (fun n e => ld_dir _ _ _ _ _ _ b0 b1 hk4 (by omega) n ⟨e, by omega⟩ _ (by dsimp only <;> omega))
      (fun n e => ld_rol _ _ _ hV _ _ _ _ b0 b1 hk4 (by omega) n ⟨64 + e, by omega⟩ _ (by dsimp only <;> omega))
      (fun r n => ld_b _ _ ⟨18, by omega⟩ inb_S32x128x256_S1x128x256_18_0_0 r n) (fun r n => ld_b _ _ ⟨19, by omega⟩ inb_S32x128x256_S1x128x256_19_0_0 r n)
      (ld_s _ _ ⟨18, by omega⟩ inb_S32_S1_18 _) (ld_s _ _ ⟨19, by omega⟩ inb_S32_S1_19 _) r c) ?_
    exact (emb_at _ (k1_off12_inb k) _ _ c9 d9 hk4 (by omega) r c (fun y0 y1 => attBlk ok (arg1.view.read (Elt Ideal) X1) (arg9.view.read (Elt Ideal) X9) (arg10.view.read (Elt Ideal) X10) (arg6.view.read (Elt Ideal) X6) (arg7.view.read (Elt Ideal) X7) y0 y1)).symm
  refine List.forall_mem_cons.mpr ⟨?_, ?_⟩
  · intro x
    obtain ⟨r, c, rfl⟩ : ∃ r c : Fin 128, x = ix2 r c := ⟨x 0, x 1, eq_ix2 (n0 := 128) (n1 := 128) x⟩
    refine Eq.trans (congrFun (g := (PAIR (k1_pay5 arg0 k1_pay3 0#32 1#32 k) (View.readAt (Elt Ideal) arg1.view (Rect.unit (s := S512x2048) (k1_off11 k) S128x128.size (k1_off11_inb k)).toLoadRect X1)
        (View.readAt (Elt Ideal) arg9.view (Rect.unit (s := S640x256) (k1_off7 k) S256x128.size (k1_off7_inb k)).toLoadRect X9)
        (View.readAt (Elt Ideal) arg6.view (Rect.unit (s := S32x128x256) ![16, 0, 0] S1x128x256.size inb_S32x128x256_S1x128x256_16_0_0).toLoadRect X6)
        (View.readAt (Elt Ideal) arg7.view (Rect.unit (s := S32) ![16] S1.size inb_S32_S1_16).toLoadRect X7 (Shape.Idx.first (by show 0 < S1.numel; rw [numel1_S1]; exact Nat.one_pos)))
        (View.readAt (Elt Ideal) arg10.view (Rect.unit (s := S640x256) (k1_off7 k) S256x128.size (k1_off7_inb k)).toLoadRect X10)
        (View.readAt (Elt Ideal) arg11.view (Rect.unit (s := S640x256) (k1_off7 k) S256x128.size (k1_off7_inb k)).toLoadRect X11)
        (View.readAt (Elt Ideal) arg6.view (Rect.unit (s := S32x128x256) ![17, 0, 0] S1x128x256.size inb_S32x128x256_S1x128x256_17_0_0).toLoadRect X6)
        (View.readAt (Elt Ideal) arg7.view (Rect.unit (s := S32) ![17] S1.size inb_S32_S1_17).toLoadRect X7 (Shape.Idx.first (by show 0 < S1.numel; rw [numel1_S1]; exact Nat.one_pos)))
        (View.readAt (Elt Ideal) arg12.view (Rect.unit (s := S640x256) (k1_off7 k) S256x128.size (k1_off7_inb k)).toLoadRect X12))) (by with_unfolding_all rfl) (ix2 r c)) ?_
    refine Eq.trans (PAIR_G _ _ _ _ _ _ _ _ _ _ ok (arg1.view.read (Elt Ideal) X1) (arg9.view.read (Elt Ideal) X9) (arg10.view.read (Elt Ideal) X10)
      (arg6.view.read (Elt Ideal) X6) (arg7.view.read (Elt Ideal) X7) ⟨k.val, hk4⟩ ⟨8, by omega⟩ hok
      (fun r d => ld_q _ _ _ _ _ _ c8 d8 hk4 (by omega) r d)
      (fun n e => ld_dir _ _ _ _ _ _ b0 b1 hk4 (by omega) n ⟨e, by omega⟩ _ (by dsimp only <;> omega))
      (fun n e => ld_rol _ _ _ hK _ _ _ _ b0 b1 hk4 (by omega) n ⟨64 + e, by omega⟩ _ (by dsimp only <;> omega))
      (fun n e => ld_dir _ _ _ _ _ _ b0 b1 hk4 (by omega) n ⟨e, by omega⟩ _ (by dsimp only <;> omega))
      (fun n e => ld_rol _ _ _ hV _ _ _ _ b0 b1 hk4 (by omega) n ⟨64 + e, by omega⟩ _ (by dsimp only <;> omega))
      (fun r n => ld_b _ _ ⟨16, by omega⟩ inb_S32x128x256_S1x128x256_16_0_0 r n) (fun r n => ld_b _ _ ⟨17, by omega⟩ inb_S32x128x256_S1x128x256_17_0_0 r n)
      (ld_s _ _ ⟨16, by omega⟩ inb_S32_S1_16 _) (ld_s _ _ ⟨17, by omega⟩ inb_S32_S1_17 _) r c) ?_
    exact (emb_at _ (k1_off11_inb k) _ _ c8 d8 hk4 (by omega) r c (fun y0 y1 => attBlk ok (arg1.view.read (Elt Ideal) X1) (arg9.view.read (Elt Ideal) X9) (arg10.view.read (Elt Ideal) X10) (arg6.view.read (Elt Ideal) X6) (arg7.view.read (Elt Ideal) X7) y0 y1)).symm
  refine List.forall_mem_cons.mpr ⟨?_, ?_⟩
  · intro x
    obtain ⟨r, c, rfl⟩ : ∃ r c : Fin 128, x = ix2 r c := ⟨x 0, x 1, eq_ix2 (n0 := 128) (n1 := 128) x⟩
    refine Eq.trans (congrFun (g := (PAIR (k1_pay5 arg0 k1_pay3 0#32 1#32 k) (View.readAt (Elt Ideal) arg1.view (Rect.unit (s := S512x2048) (k1_off10 k) S128x128.size (k1_off10_inb k)).toLoadRect X1)
        (View.readAt (Elt Ideal) arg11.view (Rect.unit (s := S640x256) (k1_off7 k) S256x128.size (k1_off7_inb k)).toLoadRect X11)
        (View.readAt (Elt Ideal) arg6.view (Rect.unit (s := S32x128x256) ![14, 0, 0] S1x128x256.size inb_S32x128x256_S1x128x256_14_0_0).toLoadRect X6)
        (View.readAt (Elt Ideal) arg7.view (Rect.unit (s := S32) ![14] S1.size inb_S32_S1_14).toLoadRect X7 (Shape.Idx.first (by show 0 < S1.numel; rw [numel1_S1]; exact Nat.one_pos)))
        (View.readAt (Elt Ideal) arg12.view (Rect.unit (s := S640x256) (k1_off7 k) S256x128.size (k1_off7_inb k)).toLoadRect X12)
        (View.readAt (Elt Ideal) arg9.view (Rect.unit (s := S640x256) (k1_off2 k) S256x128.size (k1_off2_inb k)).toLoadRect X9)
        (View.readAt (Elt Ideal) arg6.view (Rect.unit (s := S32x128x256) ![15, 0, 0] S1x128x256.size inb_S32x128x256_S1x128x256_15_0_0).toLoadRect X6)
        (View.readAt (Elt Ideal) arg7.view (Rect.unit (s := S32) ![15] S1.size inb_S32_S1_15).toLoadRect X7 (Shape.Idx.first (by show 0 < S1.numel; rw [numel1_S1]; exact Nat.one_pos)))
        (View.readAt (Elt Ideal) arg10.view (Rect.unit (s := S640x256) (k1_off2 k) S256x128.size (k1_off2_inb k)).toLoadRect X10))) (by with_unfolding_all rfl) (ix2 r c)) ?_
    refine Eq.trans (PAIR_G _ _ _ _ _ _ _ _ _ _ ok (arg1.view.read (Elt Ideal) X1) (arg9.view.read (Elt Ideal) X9) (arg10.view.read (Elt Ideal) X10)
      (arg6.view.read (Elt Ideal) X6) (arg7.view.read (Elt Ideal) X7) ⟨k.val, hk4⟩ ⟨7, by omega⟩ hok
      (fun r d => ld_q _ _ _ _ _ _ c7 d7 hk4 (by omega) r d)
      (fun n e => ld_rol _ _ _ hK _ _ _ _ b0 b1 hk4 (by omega) n ⟨e, by omega⟩ _ (by dsimp only <;> omega))
      (fun n e => ld_dir _ _ _ _ _ _ a0 a1 hk4 (by omega) n ⟨64 + e, by omega⟩ _ (by dsimp only <;> omega))
      (fun n e => ld_rol _ _ _ hV _ _ _ _ b0 b1 hk4 (by omega) n ⟨e, by omega⟩ _ (by dsimp only <;> omega))
      (fun n e => ld_dir _ _ _ _ _ _ a0 a1 hk4 (by omega) n ⟨64 + e, by omega⟩ _ (by dsimp only <;> omega))
      (fun r n => ld_b _ _ ⟨14, by omega⟩ inb_S32x128x256_S1x128x256_14_0_0 r n) (fun r n => ld_b _ _ ⟨15, by omega⟩ inb_S32x128x256_S1x128x256_15_0_0 r n)
      (ld_s _ _ ⟨14, by omega⟩ inb_S32_S1_14 _) (ld_s _ _ ⟨15, by omega⟩ inb_S32_S1_15 _) r c) ?_
    exact (emb_at _ (k1_off10_inb k) _ _ c7 d7 hk4 (by omega) r c (fun y0 y1 => attBlk ok (arg1.view.read (Elt Ideal) X1) (arg9.view.read (Elt Ideal) X9) (arg10.view.read (Elt Ideal) X10) (arg6.view.read (Elt Ideal) X6) (arg7.view.read (Elt Ideal) X7) y0 y1)).symm
  refine List.forall_mem_cons.mpr ⟨?_, ?_⟩
  · intro x
    obtain ⟨r, c, rfl⟩ : ∃ r c : Fin 128, x = ix2 r c := ⟨x 0, x 1, eq_ix2 (n0 := 128) (n1 := 128) x⟩
    refine Eq.trans (congrFun (g := (PAIR (k1_pay5 arg0 k1_pay3 0#32 1#32 k) (View.readAt (Elt Ideal) arg1.view (Rect.unit (s := S512x2048) (k1_off9 k) S128x128.size (k1_off9_inb k)).toLoadRect X1)
        (View.readAt (Elt Ideal) arg11.view (Rect.unit (s := S640x256) (k1_off7 k) S256x128.size (k1_off7_inb k)).toLoadRect X11)
        (View.readAt (Elt Ideal) arg6.view (Rect.unit (s := S32x128x256) ![12, 0, 0] S1x128x256.size inb_S32x128x256_S1x128x256_12_0_0).toLoadRect X6)
        (View.readAt (Elt Ideal) arg7.view (Rect.unit (s := S32) ![12] S1.size inb_S32_S1_12).toLoadRect X7 (Shape.Idx.first (by show 0 < S1.numel; rw [numel1_S1]; exact Nat.one_pos)))
        (View.readAt (Elt Ideal) arg12.view (Rect.unit (s := S640x256) (k1_off7 k) S256x128.size (k1_off7_inb k)).toLoadRect X12)
        (View.readAt (Elt Ideal) arg9.view (Rect.unit (s := S640x256) (k1_off2 k) S256x128.size (k1_off2_inb k)).toLoadRect X9)
        (View.readAt (Elt Ideal) arg6.view (Rect.unit (s := S32x128x256) ![13, 0, 0] S1x128x256.size inb_S32x128x256_S1x128x256_13_0_0).toLoadRect X6)
        (View.readAt (Elt Ideal) arg7.view (Rect.unit (s := S32) ![13] S1.size inb_S32_S1_13).toLoadRect X7 (Shape.Idx.first (by show 0 < S1.numel; rw [numel1_S1]; exact Nat.one_pos)))
        (View.readAt (Elt Ideal) arg10.view (Rect.unit (s := S640x256) (k1_off2 k) S256x128.size (k1_off2_inb k)).toLoadRect X10))) (by with_unfolding_all rfl) (ix2 r c)) ?_
    refine Eq.trans (PAIR_G _ _ _ _ _ _ _ _ _ _ ok (arg1.view.read (Elt Ideal) X1) (arg9.view.read (Elt Ideal) X9) (arg10.view.read (Elt Ideal) X10)
      (arg6.view.read (Elt Ideal) X6) (arg7.view.read (Elt Ideal) X7) ⟨k.val, hk4⟩ ⟨6, by omega⟩ hok
      (fun r d => ld_q _ _ _ _ _ _ c6 d6 hk4 (by omega) r d)
      (fun n e => ld_rol _ _ _ hK _ _ _ _ b0 b1 hk4 (by omega) n ⟨e, by omega⟩ _ (by dsimp only <;> omega))
      (fun n e => ld_dir _ _ _ _ _ _ a0 a1 hk4 (by omega) n ⟨64 + e, by omega⟩ _ (by dsimp only <;> omega))
      (fun n e => ld_rol _ _ _ hV _ _ _ _ b0 b1 hk4 (by omega) n ⟨e, by omega⟩ _ (by dsimp only <;> omega))
      (fun n e => ld_dir _ _ _ _ _ _ a0 a1 hk4 (by omega) n ⟨64 + e, by omega⟩ _ (by dsimp only <;> omega))
      (fun r n => ld_b _ _ ⟨12, by omega⟩ inb_S32x128x256_S1x128x256_12_0_0 r n) (fun r n => ld_b _ _ ⟨13, by omega⟩ inb_S32x128x256_S1x128x256_13_0_0 r n)
      (ld_s _ _ ⟨12, by omega⟩ inb_S32_S1_12 _) (ld_s _ _ ⟨13, by omega⟩ inb_S32_S1_13 _) r c) ?_
    exact (emb_at _ (k1_off9_inb k) _ _ c6 d6 hk4 (by omega) r c (fun y0 y1 => attBlk ok (arg1.view.read (Elt Ideal) X1) (arg9.view.read (Elt Ideal) X9) (arg10.view.read (Elt Ideal) X10) (arg6.view.read (Elt Ideal) X6) (arg7.view.read (Elt Ideal) X7) y0 y1)).symm
  refine List.forall_mem_cons.mpr ⟨?_, ?_⟩
  · intro x
    obtain ⟨r, c, rfl⟩ : ∃ r c : Fin 128, x = ix2 r c := ⟨x 0, x 1, eq_ix2 (n0 := 128) (n1 := 128) x⟩
    refine Eq.trans (congrFun (g := (PAIR (k1_pay5 arg0 k1_pay3 0#32 1#32 k) (View.readAt (Elt Ideal) arg1.view (Rect.unit (s := S512x2048) (k1_off8 k) S128x128.size (k1_off8_inb k)).toLoadRect X1)
        (View.readAt (Elt Ideal) arg11.view (Rect.unit (s := S640x256) (k1_off7 k) S256x128.size (k1_off7_inb k)).toLoadRect X11)
        (View.readAt (Elt Ideal) arg6.view (Rect.unit (s := S32x128x256) ![10, 0, 0] S1x128x256.size inb_S32x128x256_S1x128x256_10_0_0).toLoadRect X6)
        (View.readAt (Elt Ideal) arg7.view (Rect.unit (s := S32) ![10] S1.size inb_S32_S1_10).toLoadRect X7 (Shape.Idx.first (by show 0 < S1.numel; rw [numel1_S1]; exact Nat.one_pos)))
        (View.readAt (Elt Ideal) arg12.view (Rect.unit (s := S640x256) (k1_off7 k) S256x128.size (k1_off7_inb k)).toLoadRect X12)
        (View.readAt (Elt Ideal) arg9.view (Rect.unit (s := S640x256) (k1_off2 k) S256x128.size (k1_off2_inb k)).toLoadRect X9)
        (View.readAt (Elt Ideal) arg6.view (Rect.unit (s := S32x128x256) ![11, 0, 0] S1x128x256.size inb_S32x128x256_S1x128x256_11_0_0).toLoadRect X6)
        (View.readAt (Elt Ideal) arg7.view (Rect.unit (s := S32) ![11] S1.size inb_S32_S1_11).toLoadRect X7 (Shape.Idx.first (by show 0 < S1.numel; rw [numel1_S1]; exact Nat.one_pos)))
        (View.readAt (Elt Ideal) arg10.view (Rect.unit (s := S640x256) (k1_off2 k) S256x128.size (k1_off2_inb k)).toLoadRect X10))) (by with_unfolding_all rfl) (ix2 r c)) ?_
    refine Eq.trans (PAIR_G _ _ _ _ _ _ _ _ _ _ ok (arg1.view.read (Elt Ideal) X1) (arg9.view.read (Elt Ideal) X9) (arg10.view.read (Elt Ideal) X10)
      (arg6.view.read (Elt Ideal) X6) (arg7.view.read (Elt Ideal) X7) ⟨k.val, hk4⟩ ⟨5, by omega⟩ hok
      (fun r d => ld_q _ _ _ _ _ _ c5 d5 hk4 (by omega) r d)
      (fun n e => ld_rol _ _ _ hK _ _ _ _ b0 b1 hk4 (by omega) n ⟨e, by omega⟩ _ (by dsimp only <;> omega))
      (fun n e => ld_dir _ _ _ _ _ _ a0 a1 hk4 (by omega) n ⟨64 + e, by omega⟩ _ (by dsimp only <;> omega))
      (fun n e => ld_rol _ _ _ hV _ _ _ _ b0 b1 hk4 (by omega) n ⟨e, by omega⟩ _ (by dsimp only <;> omega))
      (fun n e => ld_dir _ _ _ _ _ _ a0 a1 hk4 (by omega) n ⟨64 + e, by omega⟩ _ (by dsimp only <;> omega))
      (fun r n => ld_b _ _ ⟨10, by omega⟩ inb_S32x128x256_S1x128x256_10_0_0 r n) (fun r n => ld_b _ _ ⟨11, by omega⟩ inb_S32x128x256_S1x128x256_11_0_0 r n)
      (ld_s _ _ ⟨10, by omega⟩ inb_S32_S1_10 _) (ld_s _ _ ⟨11, by omega⟩ inb_S32_S1_11 _) r c) ?_
    exact (emb_at _ (k1_off8_inb k) _ _ c5 d5 hk4 (by omega) r c (fun y0 y1 => attBlk ok (arg1.view.read (Elt Ideal) X1) (arg9.view.read (Elt Ideal) X9) (arg10.view.read (Elt Ideal) X10) (arg6.view.read (Elt Ideal) X6) (arg7.view.read (Elt Ideal) X7) y0 y1)).symm
  refine List.forall_mem_cons.mpr ⟨?_, ?_⟩
  · intro x
    obtain ⟨r, c, rfl⟩ : ∃ r c : Fin 128, x = ix2 r c := ⟨x 0, x 1, eq_ix2 (n0 := 128) (n1 := 128) x⟩
    refine Eq.trans (congrFun (g := (PAIR (k1_pay5 arg0 k1_pay3 0#32 1#32 k) (View.readAt (Elt Ideal) arg1.view (Rect.unit (s := S512x2048) (k1_off6 k) S128x128.size (k1_off6_inb k)).toLoadRect X1)
        (View.readAt (Elt Ideal) arg11.view (Rect.unit (s := S640x256) (k1_off7 k) S256x128.size (k1_off7_inb k)).toLoadRect X11)
        (View.readAt (Elt Ideal) arg6.view (Rect.unit (s := S32x128x256) ![8, 0, 0] S1x128x256.size inb_S32x128x256_S1x128x256_8_0_0).toLoadRect X6)
        (View.readAt (Elt Ideal) arg7.view (Rect.unit (s := S32) ![8] S1.size inb_S32_S1_8).toLoadRect X7 (Shape.Idx.first (by show 0 < S1.numel; rw [numel1_S1]; exact Nat.one_pos)))
        (View.readAt (Elt Ideal) arg12.view (Rect.unit (s := S640x256) (k1_off7 k) S256x128.size (k1_off7_inb k)).toLoadRect X12)
        (View.readAt (Elt Ideal) arg9.view (Rect.unit (s := S640x256) (k1_off2 k) S256x128.size (k1_off2_inb k)).toLoadRect X9)
        (View.readAt (Elt Ideal) arg6.view (Rect.unit (s := S32x128x256) ![9, 0, 0] S1x128x256.size inb_S32x128x256_S1x128x256_9_0_0).toLoadRect X6)
        (View.readAt (Elt Ideal) arg7.view (Rect.unit (s := S32) ![9] S1.size inb_S32_S1_9).toLoadRect X7 (Shape.Idx.first (by show 0 < S1.numel; rw [numel1_S1]; exact Nat.one_pos)))
        (View.readAt (Elt Ideal) arg10.view (Rect.unit (s := S640x256) (k1_off2 k) S256x128.size (k1_off2_inb k)).toLoadRect X10))) (by with_unfolding_all rfl) (ix2 r c)) ?_
    refine Eq.trans (PAIR_G _ _ _ _ _ _ _ _ _ _ ok (arg1.view.read (Elt Ideal) X1) (arg9.view.read (Elt Ideal) X9) (arg10.view.read (Elt Ideal) X10)
      (arg6.view.read (Elt Ideal) X6) (arg7.view.read (Elt Ideal) X7) ⟨k.val, hk4⟩ ⟨4, by omega⟩ hok
      (fun r d => ld_q _ _ _ _ _ _ c4 d4 hk4 (by omega) r d)
      (fun n e => ld_rol _ _ _ hK _ _ _ _ b0 b1 hk4 (by omega) n ⟨e, by omega⟩ _ (by dsimp only <;> omega))
      (fun n e => ld_dir _ _ _ _ _ _ a0 a1 hk4 (by omega) n ⟨64 + e, by omega⟩ _ (by dsimp only <;> omega))
      (fun n e => ld_rol _ _ _ hV _ _ _ _ b0 b1 hk4 (by omega) n ⟨e, by omega⟩ _ (by dsimp only <;> omega))
      (fun n e => ld_dir _ _ _ _ _ _ a0 a1 hk4 (by omega) n ⟨64 + e, by omega⟩ _ (by dsimp only <;> omega))
      (fun r n => ld_b _ _ ⟨8, by omega⟩ inb_S32x128x256_S1x128x256_8_0_0 r n) (fun r n => ld_b _ _ ⟨9, by omega⟩ inb_S32x128x256_S1x128x256_9_0_0 r n)
      (ld_s _ _ ⟨8, by omega⟩ inb_S32_S1_8 _) (ld_s _ _ ⟨9, by omega⟩ inb_S32_S1_9 _) r c) ?_
    exact (emb_at _ (k1_off6_inb k) _ _ c4 d4 hk4 (by omega) r c (fun y0 y1 => attBlk ok (arg1.view.read (Elt Ideal) X1) (arg9.view.read (Elt Ideal) X9) (arg10.view.read (Elt Ideal) X10) (arg6.view.read (Elt Ideal) X6) (arg7.view.read (Elt Ideal) X7) y0 y1)).symm
  refine List.forall_mem_cons.mpr ⟨?_, ?_⟩
  · intro x
    obtain ⟨r, c, rfl⟩ : ∃ r c : Fin 128, x = ix2 r c := ⟨x 0, x 1, eq_ix2 (n0 := 128) (n1 := 128) x⟩
    refine Eq.trans (congrFun (g := (PAIR (k1_pay5 arg0 k1_pay3 0#32 1#32 k) (View.readAt (Elt Ideal) arg1.view (Rect.unit (s := S512x2048) (k1_off5 k) S128x128.size (k1_off5_inb k)).toLoadRect X1)
        (View.readAt (Elt Ideal) arg9.view (Rect.unit (s := S640x256) (k1_off2 k) S256x128.size (k1_off2_inb k)).toLoadRect X9)
        (View.readAt (Elt Ideal) arg6.view (Rect.unit (s := S32x128x256) ![6, 0, 0] S1x128x256.size inb_S32x128x256_S1x128x256_6_0_0).toLoadRect X6)
        (View.readAt (Elt Ideal) arg7.view (Rect.unit (s := S32) ![6] S1.size inb_S32_S1_6).toLoadRect X7 (Shape.Idx.first (by show 0 < S1.numel; rw [numel1_S1]; exact Nat.one_pos)))
        (View.readAt (Elt Ideal) arg10.view (Rect.unit (s := S640x256) (k1_off2 k) S256x128.size (k1_off2_inb k)).toLoadRect X10)
        (View.readAt (Elt Ideal) arg11.view (Rect.unit (s := S640x256) (k1_off2 k) S256x128.size (k1_off2_inb k)).toLoadRect X11)
        (View.readAt (Elt Ideal) arg6.view (Rect.unit (s := S32x128x256) ![7, 0, 0] S1x128x256.size inb_S32x128x256_S1x128x256_7_0_0).toLoadRect X6)
        (View.readAt (Elt Ideal) arg7.view (Rect.unit (s := S32) ![7] S1.size inb_S32_S1_7).toLoadRect X7 (Shape.Idx.first (by show 0 < S1.numel; rw [numel1_S1]; exact Nat.one_pos)))
        (View.readAt (Elt Ideal) arg12.view (Rect.unit (s := S640x256) (k1_off2 k) S256x128.size (k1_off2_inb k)).toLoadRect X12))) (by with_unfolding_all rfl) (ix2 r c)) ?_
    refine Eq.trans (PAIR_G _ _ _ _ _ _ _ _ _ _ ok (arg1.view.read (Elt Ideal) X1) (arg9.view.read (Elt Ideal) X9) (arg10.view.read (Elt Ideal) X10)
      (arg6.view.read (Elt Ideal) X6) (arg7.view.read (Elt Ideal) X7) ⟨k.val, hk4⟩ ⟨3, by omega⟩ hok
      (fun r d => ld_q _ _ _ _ _ _ c3 d3 hk4 (by omega) r d)
      (fun n e => ld_dir _ _ _ _ _ _ a0 a1 hk4 (by omega) n ⟨e, by omega⟩ _ (by dsimp only <;> omega))
      (fun n e => ld_rol _ _ _ hK _ _ _ _ a0 a1 hk4 (by omega) n ⟨64 + e, by omega⟩ _ (by dsimp only <;> omega))
      (fun n e => ld_dir _ _ _ _ _ _ a0 a1 hk4 (by omega) n ⟨e, by omega⟩ _ (by dsimp only <;> omega))
      (fun n e => ld_rol _ _ _ hV _ _ _ _ a0 a1 hk4 (by omega) n ⟨64 + e, by omega⟩ _ (by dsimp only <;> omega))
      (fun r n => ld_b _ _ ⟨6, by omega⟩ inb_S32x128x256_S1x128x256_6_0_0 r n) (fun r n => ld_b _ _ ⟨7, by omega⟩ inb_S32x128x256_S1x128x256_7_0_0 r n)
      (ld_s _ _ ⟨6, by omega⟩ inb_S32_S1_6 _) (ld_s _ _ ⟨7, by omega⟩ inb_S32_S1_7 _) r c) ?_
    exact (emb_at _ (k1_off5_inb k) _ _ c3 d3 hk4 (by omega) r c (fun y0 y1 => attBlk ok (arg1.view.read (Elt Ideal) X1) (arg9.view.read (Elt Ideal) X9) (arg10.view.read (Elt Ideal) X10) (arg6.view.read (Elt Ideal) X6) (arg7.view.read (Elt Ideal) X7) y0 y1)).symm
  refine List.forall_mem_cons.mpr ⟨?_, ?_⟩
  · intro x
    obtain ⟨r, c, rfl⟩ : ∃ r c : Fin 128, x = ix2 r c := ⟨x 0, x 1, eq_ix2 (n0 := 128) (n1 := 128) x⟩
    refine Eq.trans (congrFun (g := (PAIR (k1_pay5 arg0 k1_pay3 0#32 1#32 k) (View.readAt (Elt Ideal) arg1.view (Rect.unit (s := S512x2048) (k1_off4 k) S128x128.size (k1_off4_inb k)).toLoadRect X1)
        (View.readAt (Elt Ideal) arg9.view (Rect.unit (s := S640x256) (k1_off2 k) S256x128.size (k1_off2_inb k)).toLoadRect X9)
        (View.readAt (Elt Ideal) arg6.view (Rect.unit (s := S32x128x256) ![4, 0, 0] S1x128x256.size inb_S32x128x256_S1x128x256_4_0_0).toLoadRect X6)
        (View.readAt (Elt Ideal) arg7.view (Rect.unit (s := S32) ![4] S1.size inb_S32_S1_4).toLoadRect X7 (Shape.Idx.first (by show 0 < S1.numel; rw [numel1_S1]; exact Nat.one_pos)))
        (View.readAt (Elt Ideal) arg10.view (Rect.unit (s := S640x256) (k1_off2 k) S256x128.size (k1_off2_inb k)).toLoadRect X10)
        (View.readAt (Elt Ideal) arg11.view (Rect.unit (s := S640x256) (k1_off2 k) S256x128.size (k1_off2_inb k)).toLoadRect X11)
        (View.readAt (Elt Ideal) arg6.view (Rect.unit (s := S32x128x256) ![5, 0, 0] S1x128x256.size inb_S32x128x256_S1x128x256_5_0_0).toLoadRect X6)
        (View.readAt (Elt Ideal) arg7.view (Rect.unit (s := S32) ![5] S1.size inb_S32_S1_5).toLoadRect X7 (Shape.Idx.first (by show 0 < S1.numel; rw [numel1_S1]; exact Nat.one_pos)))
        (View.readAt (Elt Ideal) arg12.view (Rect.unit (s := S640x256) (k1_off2 k) S256x128.size (k1_off2_inb k)).toLoadRect X12))) (by with_unfolding_all rfl) (ix2 r c)) ?_
    refine Eq.trans (PAIR_G _ _ _ _ _ _ _ _ _ _ ok (arg1.view.read (Elt Ideal) X1) (arg9.view.read (Elt Ideal) X9) (arg10.view.read (Elt Ideal) X10)
      (arg6.view.read (Elt Ideal) X6) (arg7.view.read (Elt Ideal) X7) ⟨k.val, hk4⟩ ⟨2, by omega⟩ hok
      (fun r d => ld_q _ _ _ _ _ _ c2 d2 hk4 (by omega) r d)
      (fun n e => ld_dir _ _ _ _ _ _ a0 a1 hk4 (by omega) n ⟨e, by omega⟩ _ (by dsimp only <;> omega))
      (fun n e => ld_rol _ _ _ hK _ _ _ _ a0 a1 hk4 (by omega) n ⟨64 + e, by omega⟩ _ (by dsimp only <;> omega))
      (fun n e => ld_dir _ _ _ _ _ _ a0 a1 hk4 (by omega) n ⟨e, by omega⟩ _ (by dsimp only <;> omega))
      (fun n e => ld_rol _ _ _ hV _ _ _ _ a0 a1 hk4 (by omega) n ⟨64 + e, by omega⟩ _ (by dsimp only <;> omega))
      (fun r n => ld_b _ _ ⟨4, by omega⟩ inb_S32x128x256_S1x128x256_4_0_0 r n) (fun r n => ld_b _ _ ⟨5, by omega⟩ inb_S32x128x256_S1x128x256_5_0_0 r n)
      (ld_s _ _ ⟨4, by omega⟩ inb_S32_S1_4 _) (ld_s _ _ ⟨5, by omega⟩ inb_S32_S1_5 _) r c) ?_
    exact (emb_at _ (k1_off4_inb k) _ _ c2 d2 hk4 (by omega) r c (fun y0 y1 => attBlk ok (arg1.view.read (Elt Ideal) X1) (arg9.view.read (Elt Ideal) X9) (arg10.view.read (Elt Ideal) X10) (arg6.view.read (Elt Ideal) X6) (arg7.view.read (Elt Ideal) X7) y0 y1)).symm
  refine List.forall_mem_cons.mpr ⟨?_, ?_⟩
  · intro x
    obtain ⟨r, c, rfl⟩ : ∃ r c : Fin 128, x = ix2 r c := ⟨x 0, x 1, eq_ix2 (n0 := 128) (n1 := 128) x⟩
    refine Eq.trans (congrFun (g := (PAIR (k1_pay5 arg0 k1_pay3 0#32 1#32 k) (View.readAt (Elt Ideal) arg1.view (Rect.unit (s := S512x2048) (k1_off3 k) S128x128.size (k1_off3_inb k)).toLoadRect X1)
        (View.readAt (Elt Ideal) arg9.view (Rect.unit (s := S640x256) (k1_off2 k) S256x128.size (k1_off2_inb k)).toLoadRect X9)
        (View.readAt (Elt Ideal) arg6.view (Rect.unit (s := S32x128x256) ![2, 0, 0] S1x128x256.size inb_S32x128x256_S1x128x256_2_0_0).toLoadRect X6)
        (View.readAt (Elt Ideal) arg7.view (Rect.unit (s := S32) ![2] S1.size inb_S32_S1_2).toLoadRect X7 (Shape.Idx.first (by show 0 < S1.numel; rw [numel1_S1]; exact Nat.one_pos)))
        (View.readAt (Elt Ideal) arg10.view (Rect.unit (s := S640x256) (k1_off2 k) S256x128.size (k1_off2_inb k)).toLoadRect X10)
        (View.readAt (Elt Ideal) arg11.view (Rect.unit (s := S640x256) (k1_off2 k) S256x128.size (k1_off2_inb k)).toLoadRect X11)
        (View.readAt (Elt Ideal) arg6.view (Rect.unit (s := S32x128x256) ![3, 0, 0] S1x128x256.size inb_S32x128x256_S1x128x256_3_0_0).toLoadRect X6)
        (View.readAt (Elt Ideal) arg7.view (Rect.unit (s := S32) ![3] S1.size inb_S32_S1_3).toLoadRect X7 (Shape.Idx.first (by show 0 < S1.numel; rw [numel1_S1]; exact Nat.one_pos)))
        (View.readAt (Elt Ideal) arg12.view (Rect.unit (s := S640x256) (k1_off2 k) S256x128.size (k1_off2_inb k)).toLoadRect X12))) (by with_unfolding_all rfl) (ix2 r c)) ?_
    refine Eq.trans (PAIR_G _ _ _ _ _ _ _ _ _ _ ok (arg1.view.read (Elt Ideal) X1) (arg9.view.read (Elt Ideal) X9) (arg10.view.read (Elt Ideal) X10)
      (arg6.view.read (Elt Ideal) X6) (arg7.view.read (Elt Ideal) X7) ⟨k.val, hk4⟩ ⟨1, by omega⟩ hok
      (fun r d => ld_q _ _ _ _ _ _ c1 d1 hk4 (by omega) r d)
      (fun n e => ld_dir _ _ _ _ _ _ a0 a1 hk4 (by omega) n ⟨e, by omega⟩ _ (by dsimp only <;> omega))
      (fun n e => ld_rol _ _ _ hK _ _ _ _ a0 a1 hk4 (by omega) n ⟨64 + e, by omega⟩ _ (by dsimp only <;> omega))
      (fun n e => ld_dir _ _ _ _ _ _ a0 a1 hk4 (by omega) n ⟨e, by omega⟩ _ (by dsimp only <;> omega))
      (fun n e => ld_rol _ _ _ hV _ _ _ _ a0 a1 hk4 (by omega) n ⟨64 + e, by omega⟩ _ (by dsimp only <;> omega))
      (fun r n => ld_b _ _ ⟨2, by omega⟩ inb_S32x128x256_S1x128x256_2_0_0 r n) (fun r n => ld_b _ _ ⟨3, by omega⟩ inb_S32x128x256_S1x128x256_3_0_0 r n)
      (ld_s _ _ ⟨2, by omega⟩ inb_S32_S1_2 _) (ld_s _ _ ⟨3, by omega⟩ inb_S32_S1_3 _) r c) ?_
    exact (emb_at _ (k1_off3_inb k) _ _ c1 d1 hk4 (by omega) r c (fun y0 y1 => attBlk ok (arg1.view.read (Elt Ideal) X1) (arg9.view.read (Elt Ideal) X9) (arg10.view.read (Elt Ideal) X10) (arg6.view.read (Elt Ideal) X6) (arg7.view.read (Elt Ideal) X7) y0 y1)).symm
  refine List.forall_mem_cons.mpr ⟨?_, ?_⟩
  · intro x
    obtain ⟨r, c, rfl⟩ : ∃ r c : Fin 128, x = ix2 r c := ⟨x 0, x 1, eq_ix2 (n0 := 128) (n1 := 128) x⟩
    refine Eq.trans (congrFun (g := (PAIR (k1_pay5 arg0 k1_pay3 0#32 1#32 k) (View.readAt (Elt Ideal) arg1.view (Rect.unit (s := S512x2048) (k1_off1 k) S128x128.size (k1_off1_inb k)).toLoadRect X1)
        (View.readAt (Elt Ideal) arg9.view (Rect.unit (s := S640x256) (k1_off2 k) S256x128.size (k1_off2_inb k)).toLoadRect X9)
        (View.readAt (Elt Ideal) arg6.view (Rect.unit (s := S32x128x256) ![0, 0, 0] S1x128x256.size inb_S32x128x256_S1x128x256_0_0_0).toLoadRect X6)
        (View.readAt (Elt Ideal) arg7.view (Rect.unit (s := S32) ![0] S1.size inb_S32_S1_0).toLoadRect X7 (Shape.Idx.first (by show 0 < S1.numel; rw [numel1_S1]; exact Nat.one_pos)))
        (View.readAt (Elt Ideal) arg10.view (Rect.unit (s := S640x256) (k1_off2 k) S256x128.size (k1_off2_inb k)).toLoadRect X10)
        (View.readAt (Elt Ideal) arg11.view (Rect.unit (s := S640x256) (k1_off2 k) S256x128.size (k1_off2_inb k)).toLoadRect X11)
        (View.readAt (Elt Ideal) arg6.view (Rect.unit (s := S32x128x256) ![1, 0, 0] S1x128x256.size inb_S32x128x256_S1x128x256_1_0_0).toLoadRect X6)
        (View.readAt (Elt Ideal) arg7.view (Rect.unit (s := S32) ![1] S1.size inb_S32_S1_1).toLoadRect X7 (Shape.Idx.first (by show 0 < S1.numel; rw [numel1_S1]; exact Nat.one_pos)))
        (View.readAt (Elt Ideal) arg12.view (Rect.unit (s := S640x256) (k1_off2 k) S256x128.size (k1_off2_inb k)).toLoadRect X12))) (by with_unfolding_all rfl) (ix2 r c)) ?_
    refine Eq.trans (PAIR_G _ _ _ _ _ _ _ _ _ _ ok (arg1.view.read (Elt Ideal) X1) (arg9.view.read (Elt Ideal) X9) (arg10.view.read (Elt Ideal) X10)
      (arg6.view.read (Elt Ideal) X6) (arg7.view.read (Elt Ideal) X7) ⟨k.val, hk4⟩ ⟨0, by omega⟩ hok
      (fun r d => ld_q _ _ _ _ _ _ c0 d0 hk4 (by omega) r d)
      (fun n e => ld_dir _ _ _ _ _ _ a0 a1 hk4 (by omega) n ⟨e, by omega⟩ _ (by dsimp only <;> omega))
      (fun n e => ld_rol _ _ _ hK _ _ _ _ a0 a1 hk4 (by omega) n ⟨64 + e, by omega⟩ _ (by dsimp only <;> omega))
      (fun n e => ld_dir _ _ _ _ _ _ a0 a1 hk4 (by omega) n ⟨e, by omega⟩ _ (by dsimp only <;> omega))
      (fun n e => ld_rol _ _ _ hV _ _ _ _ a0 a1 hk4 (by omega) n ⟨64 + e, by omega⟩ _ (by dsimp only <;> omega))
      (fun r n => ld_b _ _ ⟨0, by omega⟩ inb_S32x128x256_S1x128x256_0_0_0 r n) (fun r n => ld_b _ _ ⟨1, by omega⟩ inb_S32x128x256_S1x128x256_1_0_0 r n)
      (ld_s _ _ ⟨0, by omega⟩ inb_S32_S1_0 _) (ld_s _ _ ⟨1, by omega⟩ inb_S32_S1_1 _) r c) ?_
    exact (emb_at _ (k1_off1_inb k) _ _ c0 d0 hk4 (by omega) r c (fun y0 y1 => attBlk ok (arg1.view.read (Elt Ideal) X1) (arg9.view.read (Elt Ideal) X9) (arg10.view.read (Elt Ideal) X10) (arg6.view.read (Elt Ideal) X6) (arg7.view.read (Elt Ideal) X7) y0 y1)).symm
  intro pc hpc
  exact absurd hpc List.not_mem_nil

end Cert.KernelIdeal.Att
end
end
-- ==== Proof.AttBlock.lean ====
module

public import proofs.«01_k».proof.Proof.AttTrip

@[expose] public section
set_option maxRecDepth 16384
noncomputable section
open Idealize.ShloMosaic Idealize.ShloMosaic.TcCoe Idealize.SL.Sem
open Idealize.ShloMosaic.Pipeline (Dat)
namespace Cert.KernelIdeal.Att
open Cert.KernelIdeal Cert.KernelIdeal.Gen

/-- All the pieces the loop writes read the block function. -/
theorem pb_G (c : Dev nD) (i : grid1.Coords) (arg1 : Memref sig .tc .vmem S512x2048 .bf16) (harg1 : arg1.IsWhole) (arg2 : Memref sig .tc .vmem S512x256 .bf16) (harg2 : arg2.IsWhole) (arg3 : Memref sig .tc .vmem S512x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S32x128x256 .f32) (harg6 : arg6.IsWhole) (arg7 : Memref sig .tc .smem S32 .f32) (harg7 : arg7.IsWhole) (arg8 : Memref sig .tc .vmem S512x2048 .bf16) (harg8 : arg8.IsWhole) (arg9 : Memref sig .tc .vmem S640x256 .bf16) (harg9 : arg9.IsWhole) (arg10 : Memref sig .tc .vmem S640x256 .bf16) (harg10 : arg10.IsWhole) (arg11 : Memref sig .tc .vmem S640x256 .bf16) (harg11 : arg11.IsWhole) (arg12 : Memref sig .tc .vmem S640x256 .bf16) (harg12 : arg12.IsWhole)
    (arg0 : BitVec 32) (X1 : BufTy.Contents (Elt Ideal) arg1.view.ty) (X6 : BufTy.Contents (Elt Ideal) arg6.view.ty) (X7 : BufTy.Contents (Elt Ideal) arg7.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty)
    (ok : ℕ → Fin 256 → BitVec 1)
    (hok : ∀ (k : Fin k1_t1_loop.trips) (r : Fin 128) n, k1_pay5 arg0 k1_pay3 0#32 1#32 k (ix2 r n) = ok k n)
    (hK : ∀ (r : Fin 640) (c : Fin 256), arg11.view.read (Elt Ideal) X11 (ix2 r c) = arg9.view.read (Elt Ideal) X9 (ix2 r ⟨(c + 192) % 256, by omega⟩))
    (hV : ∀ (r : Fin 640) (c : Fin 256), arg12.view.read (Elt Ideal) X12 (ix2 r c) = arg10.view.read (Elt Ideal) X10 (ix2 r ⟨(c + 192) % 256, by omega⟩)) :
    ∀ n : ℕ, n ≤ k1_t1_loop.trips → ∀ pc ∈ pb_k1_t1 (F := Ideal) Variants.none c none i arg1 harg1 arg2 harg2 arg3 harg3 arg4 harg4 arg5 harg5 arg6 harg6 arg7 harg7 arg8 harg8 arg9 harg9 arg10 harg10 arg11 harg11 arg12 harg12 arg0 X1 X6 X7 X9 X10 X11 X12 n, ∀ x, pc.2 x = (fun y : S512x2048.Idx => attBlk ok (arg1.view.read (Elt Ideal) X1) (arg9.view.read (Elt Ideal) X9) (arg10.view.read (Elt Ideal) X10) (arg6.view.read (Elt Ideal) X6) (arg7.view.read (Elt Ideal) X7) (y 0) (y 1)) (pc.1.emb x)
  | 0, _ => fun pc hpc => absurd hpc List.not_mem_nil
  | n + 1, hn => by
    intro pc hpc
    rw [pb_k1_t1_succ (F := Ideal) Variants.none c none i arg1 harg1 arg2 harg2 arg3 harg3 arg4 harg4 arg5 harg5 arg6 harg6 arg7 harg7 arg8 harg8 arg9 harg9 arg10 harg10 arg11 harg11 arg12 harg12 arg0 X1 X6 X7 X9 X10 X11 X12 ⟨n, hn⟩] at hpc
    rcases List.mem_append.mp hpc with h | h
    · exact trip_G c i arg1 harg1 arg2 harg2 arg3 harg3 arg4 harg4 arg5 harg5 arg6 harg6 arg7 harg7 arg8 harg8 arg9 harg9 arg10 harg10 arg11 harg11 arg12 harg12 arg0 X1 X6 X7 X9 X10 X11 X12 ⟨n, hn⟩ ok (hok _) hK hV pc h
    · exact pb_G c i arg1 harg1 arg2 harg2 arg3 harg3 arg4 harg4 arg5 harg5 arg6 harg6 arg7 harg7 arg8 harg8 arg9 harg9 arg10 harg10 arg11 harg11 arg12 harg12 arg0 X1 X6 X7 X9 X10 X11 X12 ok hok hK hV n (Nat.le_of_succ_le hn) pc h

theorem canon_pb (c : Dev nD) (i : grid1.Coords) (arg1 : Memref sig .tc .vmem S512x2048 .bf16) (harg1 : arg1.IsWhole) (arg2 : Memref sig .tc .vmem S512x256 .bf16) (harg2 : arg2.IsWhole) (arg3 : Memref sig .tc .vmem S512x256 .bf16) (harg3 : arg3.IsWhole) (arg4 : Memref sig .tc .vmem S128x256 .bf16) (harg4 : arg4.IsWhole) (arg5 : Memref sig .tc .vmem S128x256 .bf16) (harg5 : arg5.IsWhole) (arg6 : Memref sig .tc .vmem S32x128x256 .f32) (harg6 : arg6.IsWhole) (arg7 : Memref sig .tc .smem S32 .f32) (harg7 : arg7.IsWhole) (arg8 : Memref sig .tc .vmem S512x2048 .bf16) (harg8 : arg8.IsWhole) (arg9 : Memref sig .tc .vmem S640x256 .bf16) (harg9 : arg9.IsWhole) (arg10 : Memref sig .tc .vmem S640x256 .bf16) (harg10 : arg10.IsWhole) (arg11 : Memref sig .tc .vmem S640x256 .bf16) (harg11 : arg11.IsWhole) (arg12 : Memref sig .tc .vmem S640x256 .bf16) (harg12 : arg12.IsWhole)
    (arg0 : BitVec 32) (X1 : BufTy.Contents (Elt Ideal) arg1.view.ty) (X6 : BufTy.Contents (Elt Ideal) arg6.view.ty) (X7 : BufTy.Contents (Elt Ideal) arg7.view.ty) (X9 : BufTy.Contents (Elt Ideal) arg9.view.ty) (X10 : BufTy.Contents (Elt Ideal) arg10.view.ty) (X11 : BufTy.Contents (Elt Ideal) arg11.view.ty) (X12 : BufTy.Contents (Elt Ideal) arg12.view.ty)
    (ok : ℕ → Fin 256 → BitVec 1)
    (hok : ∀ (k : Fin k1_t1_loop.trips) (r : Fin 128) n, k1_pay5 arg0 k1_pay3 0#32 1#32 k (ix2 r n) = ok k n)
    (hK : ∀ (r : Fin 640) (c : Fin 256), arg11.view.read (Elt Ideal) X11 (ix2 r c) = arg9.view.read (Elt Ideal) X9 (ix2 r ⟨(c + 192) % 256, by omega⟩))
    (hV : ∀ (r : Fin 640) (c : Fin 256), arg12.view.read (Elt Ideal) X12 (ix2 r c) = arg10.view.read (Elt Ideal) X10 (ix2 r ⟨(c + 192) % 256, by omega⟩))
    (n : ℕ) (hn : n ≤ k1_t1_loop.trips) (y : S512x2048.Idx)
    (hc : ∃ pc ∈ pb_k1_t1 (F := Ideal) Variants.none c none i arg1 harg1 arg2 harg2 arg3 harg3 arg4 harg4 arg5 harg5 arg6 harg6 arg7 harg7 arg8 harg8 arg9 harg9 arg10 harg10 arg11 harg11 arg12 harg12 arg0 X1 X6 X7 X9 X10 X11 X12 n, y ∈ pc.1.set) :
    View.canon (pb_k1_t1 (F := Ideal) Variants.none c none i arg1 harg1 arg2 harg2 arg3 harg3 arg4 harg4 arg5 harg5 arg6 harg6 arg7 harg7 arg8 harg8 arg9 harg9 arg10 harg10 arg11 harg11 arg12 harg12 arg0 X1 X6 X7 X9 X10 X11 X12 n) y = (fun y : S512x2048.Idx => attBlk ok (arg1.view.read (Elt Ideal) X1) (arg9.view.read (Elt Ideal) X9) (arg10.view.read (Elt Ideal) X10) (arg6.view.read (Elt Ideal) X6) (arg7.view.read (Elt Ideal) X7) (y 0) (y 1)) y :=
  View.canon_apply_of_pieces (Val := Elt Ideal) (e := .bf16) (fun y : S512x2048.Idx => attBlk ok (arg1.view.read (Elt Ideal) X1) (arg9.view.read (Elt Ideal) X9) (arg10.view.read (Elt Ideal) X10) (arg6.view.read (Elt Ideal) X6) (arg7.view.read (Elt Ideal) X7) (y 0) (y 1)) _ (pb_G c i arg1 harg1 arg2 harg2 arg3 harg3 arg4 harg4 arg5 harg5 arg6 harg6 arg7 harg7 arg8 harg8 arg9 harg9 arg10 harg10 arg11 harg11 arg12 harg12 arg0 X1 X6 X7 X9 X10 X11 X12 ok hok hK hV n hn) y hc

/-- Which keys of trip `k` of point `T` there are: all but the halo of the first block. -/
def okAt (T : ℕ) (k : ℕ) (n : Fin 256) : BitVec 1 := if 0 < 4 * T + k ∨ 128 ≤ (n : ℕ) then 1#1 else 0#1

theorem okA : ∀ (T : Fin 32) (k : Fin k1_t1_loop.trips),
    Scalar.cmpi .sgt (Scalar.addi (Scalar.muli (BitVec.ofNat 32 T) 4#32) (Scf.iv 0#32 1#32 k)) 0#32 = if 0 < 4 * (T : ℕ) + k then 1#1 else 0#1 := by
  decide +kernel

theorem okB : ∀ n : Fin 256, Scalar.cmpi .sge (BitVec.ofNat 32 n) 128#32 = if 128 ≤ (n : ℕ) then 1#1 else 0#1 := by
  decide +kernel

theorem ok_at (T : Fin 32) (k : Fin k1_t1_loop.trips) (r : Fin 128) (n : Fin 256) :
    k1_pay5 (BitVec.ofNat 32 T) k1_pay3 0#32 1#32 k (ix2 r n) = okAt T k n := by
  have e : k1_pay5 (BitVec.ofNat 32 T) k1_pay3 0#32 1#32 k (ix2 r n)
      = IntOp.ori (Scalar.cmpi .sgt (Scalar.addi (Scalar.muli (BitVec.ofNat 32 T) 4#32) (Scf.iv 0#32 1#32 k)) 0#32)
        (Scalar.cmpi .sge (BitVec.ofNat 32 n) 128#32) := by
    unfold k1_pay5 k1_pay3
    pointwise
    rfl
  rw [e, okA, okB]
  unfold okAt
  by_cases h1 : 0 < 4 * (T : ℕ) + k <;> by_cases h2 : 128 ≤ (n : ℕ) <;> simp only [h1, h2, if_true, if_false, or_self, or_true, true_or] <;> decide

/-- The rows of a key or value block, the halo in front. -/
def catRows (h : FVec Ideal S128x256 .bf16) (b : FVec Ideal S512x256 .bf16) (r : Fin 640) (c : Fin 256) : EReal :=
  if hr : (r : ℕ) < 128 then h (ix2 ⟨r, hr⟩ c) else b (ix2 ⟨r - 128, by omega⟩ c)

theorem cover_cat (H : FVec Ideal S128x256 .bf16) (B : FVec Ideal S512x256 .bf16) (y : S640x256.Idx) :
    ∃ p ∈ ([⟨Rect.unit (s := S640x256) ![128, 0] S512x256.size inb_S640x256_S512x256_128_0, B⟩,
      ⟨Rect.unit (s := S640x256) ![0, 0] S128x256.size inb_S640x256_S128x256_0_0, H⟩] : List (View.Piece (Elt Ideal) S640x256 .bf16)), y ∈ p.1.set := by
  have h0 : ((y 0 : Fin 640) : ℕ) < 640 := (y 0 : Fin 640).isLt
  have h1 : ((y 1 : Fin 256) : ℕ) < 256 := (y 1 : Fin 256).isLt
  by_cases h : ((y 0 : Fin 640) : ℕ) < 128
  · refine ⟨_, List.mem_cons_of_mem _ List.mem_cons_self, (Rect.mem_set_unit (inb := inb_S640x256_S128x256_0_0)).mpr fun a => ?_⟩
    match a with
    | 0 => exact ⟨Nat.zero_le _, h⟩
    | 1 => exact ⟨Nat.zero_le _, h1⟩
  · refine ⟨_, List.mem_cons_self, (Rect.mem_set_unit (inb := inb_S640x256_S512x256_128_0)).mpr fun a => ?_⟩
    match a with
    | 0 => exact ⟨Nat.le_of_not_lt h, h0⟩
    | 1 => exact ⟨Nat.zero_le _, h1⟩

theorem canon_cat (H : FVec Ideal S128x256 .bf16) (B : FVec Ideal S512x256 .bf16) (y : S640x256.Idx) :
    View.canon (Val := Elt Ideal) (e := .bf16) [⟨Rect.unit (s := S640x256) ![128, 0] S512x256.size inb_S640x256_S512x256_128_0, B⟩,
      ⟨Rect.unit (s := S640x256) ![0, 0] S128x256.size inb_S640x256_S128x256_0_0, H⟩] y = catRows H B (y 0) (y 1) := by
  refine View.canon_apply_of_pieces (Val := Elt Ideal) (e := .bf16) (fun y : S640x256.Idx => catRows H B (y 0) (y 1)) _ ?_ y (cover_cat H B y)
  refine List.forall_mem_cons.mpr ⟨?_, List.forall_mem_cons.mpr ⟨?_, fun p hp => absurd hp List.not_mem_nil⟩⟩
  · intro x
    obtain ⟨r, c, rfl⟩ : ∃ (r : Fin 512) (c : Fin 256), x = ix2 r c := ⟨x 0, x 1, eq_ix2 (n0 := 512) (n1 := 256) x⟩
    show B (ix2 r c) = catRows H B ⟨128 + 1 * r, _⟩ ⟨0 + 1 * c, _⟩
    have e1 : 128 + 1 * (r : ℕ) = r + 128 := by omega
    have e2 : 0 + 1 * (c : ℕ) = c := by omega
    simp only [catRows, e1, e2, dif_neg (show ¬ (r : ℕ) + 128 < 128 by omega), Nat.add_sub_cancel]
  · intro x
    obtain ⟨r, c, rfl⟩ : ∃ (r : Fin 128) (c : Fin 256), x = ix2 r c := ⟨x 0, x 1, eq_ix2 (n0 := 128) (n1 := 256) x⟩
    show H (ix2 r c) = catRows H B ⟨0 + 1 * r, _⟩ ⟨0 + 1 * c, _⟩
    have e1 : 0 + 1 * (r : ℕ) = r := by omega
    have e2 : 0 + 1 * (c : ℕ) = c := by omega
    simp only [catRows, e1, e2, dif_pos r.isLt]

/-- What a scratch buffer holds after a halo and a block are stored in it. -/
theorem read_cat (v : View sig .tc .vmem S640x256 .bf16) (f : BufTy.Contents (Elt Ideal) v.ty) (H : FVec Ideal S128x256 .bf16) (B : FVec Ideal S512x256 .bf16) :
    v.read (Elt Ideal) (v.writes (Elt Ideal) f [⟨Rect.unit (s := S640x256) ![128, 0] S512x256.size inb_S640x256_S512x256_128_0, B⟩,
      ⟨Rect.unit (s := S640x256) ![0, 0] S128x256.size inb_S640x256_S128x256_0_0, H⟩]) = fun y => catRows H B (y 0) (y 1) := by
  rw [View.read_writes_eq_canon v f _ (cover_cat H B)]
  funext y
  exact canon_cat H B y

theorem readCov_cat (v : View sig .tc .vmem S640x256 .bf16) (H : FVec Ideal S128x256 .bf16) (B : FVec Ideal S512x256 .bf16) :
    v.readCov (Val := Elt Ideal) [⟨Rect.unit (s := S640x256) ![128, 0] S512x256.size inb_S640x256_S512x256_128_0, B⟩,
      ⟨Rect.unit (s := S640x256) ![0, 0] S128x256.size inb_S640x256_S128x256_0_0, H⟩]
      (Rect.unit (s := S640x256) ![0, 0] S640x256.size inb_S640x256_S640x256_0_0).toLoadRect = (fun y : S640x256.Idx => catRows H B (y 0) (y 1) : FVec Ideal S640x256 .bf16) := by
  rw [View.readCov_eq_canon']
  funext y
  refine (canon_cat H B _).trans ?_
  refine congrArg₂ (catRows H B) (Fin.ext ?_) (Fin.ext ?_)
  · show 0 + 1 * ((y 0 : Fin 640) : ℕ) = (y 0 : Fin 640); omega
  · show 0 + 1 * ((y 1 : Fin 256) : ℕ) = (y 1 : Fin 256); omega

theorem read_full (v : View sig .tc .vmem S640x256 .bf16) (f : BufTy.Contents (Elt Ideal) v.ty) (W : FVec Ideal S640x256 .bf16) (y : S640x256.Idx) :
    v.read (Elt Ideal) (v.writes (Elt Ideal) f [⟨Rect.unit (s := S640x256) ![0, 0] S640x256.size inb_S640x256_S640x256_0_0, W⟩]) y = W y := by
  rw [View.read_writes_eq_canon v f _ (View.cover_of_tiledL _ S640x256.size (by sl_kernel_rfl))]
  refine View.canon_apply_of_pieces (Val := Elt Ideal) (e := .bf16) W _ ?_ y (View.cover_of_tiledL _ S640x256.size (by sl_kernel_rfl) y)
  refine List.forall_mem_cons.mpr ⟨?_, fun p hp => absurd hp List.not_mem_nil⟩
  intro x
  refine congrArg W (funext fun a => Fin.ext ?_)
  match a with
  | 0 => show ((x 0 : Fin 640) : ℕ) = 0 + 1 * ((x 0 : Fin 640) : ℕ); omega
  | 1 => show ((x 1 : Fin 256) : ℕ) = 0 + 1 * ((x 1 : Fin 256) : ℕ); omega

theorem rot_k (W : FVec Ideal S640x256 .bf16) (r : Fin 640) (c : Fin 256) : k1_pay107 W (ix2 r c) = W (ix2 r ⟨(c + 192) % 256, by omega⟩) := by
  unfold k1_pay107
  pointwise
  rfl
theorem rot_v (W : FVec Ideal S640x256 .bf16) (r : Fin 640) (c : Fin 256) : k1_pay1 (k1_pay108 W) (ix2 r c) = W (ix2 r ⟨(c + 192) % 256, by omega⟩) := by
  unfold k1_pay1 k1_pay108
  pointwise
  rfl
theorem p103 (W : FVec Ideal S128x256 .bf16) : k1_pay103 W = W := by
  unfold k1_pay103; funext y; pointwise
theorem p104 (W : FVec Ideal S512x256 .bf16) : k1_pay104 W = W := by
  unfold k1_pay104; funext y; pointwise
theorem p105 (W : FVec Ideal S128x256 .bf16) : k1_pay105 W = W := by
  unfold k1_pay105; funext y; pointwise
theorem p106 (W : FVec Ideal S512x256 .bf16) : k1_pay106 W = W := by
  unfold k1_pay106; funext y; pointwise

theorem coords1 : ∀ t : Fin cfg1.N, ((grid1.coords t 0 : Fin _) : ℕ) = t := (by decide +kernel : ∀ t : Fin grid1.N, _)

variable (V : (c : Dev nD) → (b : Ref sig .tc) → Buf (Elt Ideal) ((c : Thread nD τ).loc b))

theorem outsAt1_G (c : Dev nD) (t : Fin cfg1.N) (y : S512x2048.Idx) :
    outsAt1 V c t y = attBlk (okAt t) (iblk1 V c 0 t) (fun y => catRows (iblk1 V c 3 t) (iblk1 V c 1 t) (y 0) (y 1))
      (fun y => catRows (iblk1 V c 4 t) (iblk1 V c 2 t) (y 0) (y 1)) (iblk1 V c 5 t) (iblk1 V c 6 t) (y 0) (y 1) := by
  unfold outsAt1 out1_A_7
  frame_out
  refine (canon_pb _ _ _ _ _ _ _ _ _ _ _ _ _ _ _ _ _ _ _ _ _ _ _ _ _ _ _ _ _ _ _ _ _ _ (okAt t) ?_ ?_ ?_ _ (le_of_eq rfl) y ?_).trans ?_
  · intro k r n
    rw [coords1 t]
    exact ok_at t k r n
  · intro r c
    refine (read_full _ _ _ _).trans ?_
    rw [rot_k, readCov_cat]
    exact (congrFun (read_cat _ _ _ _) _).symm
  · intro r c
    refine (read_full _ _ _ _).trans ?_
    rw [rot_v, readCov_cat]
    exact (congrFun (read_cat _ _ _ _) _).symm
  · exact View.cover_of_tiledL (s := S512x2048) _ S128x128.size (by sl_kernel_rfl) y
  · have e0 : View.read (Elt Ideal) (ms1_0 t).view ((hs1_0 t).unread (iblk1 V c 0 t)) = iblk1 V c 0 t := (hs1_0 t).read_unread _
    have e5 : View.read (Elt Ideal) (ms1_5 t).view ((hs1_5 t).unread (iblk1 V c 5 t)) = iblk1 V c 5 t := (hs1_5 t).read_unread _
    have e6 : View.read (Elt Ideal) (ms1_6 t).view ((hs1_6 t).unread (iblk1 V c 6 t)) = iblk1 V c 6 t := (hs1_6 t).read_unread _
    simp only [e0, e5, e6, p103, p104, p105, p106]
    exact congrArg₂ (fun a b => attBlk (okAt t) (iblk1 V c 0 t) a b (iblk1 V c 5 t) (iblk1 V c 6 t) (y 0) (y 1))
      (read_cat scM1_0.view _ _ _) (read_cat scM1_1.view _ _ _)

end Cert.KernelIdeal.Att
end
end
-- ==== Proof.AttArr.lean ====
module

public import proofs.«01_k».proof.Proof.AttBlock

@[expose] public section
set_option maxRecDepth 16384
noncomputable section
open Idealize.ShloMosaic Idealize.ShloMosaic.TcCoe Idealize.SL.Sem
open Idealize.ShloMosaic.Pipeline (Dat)
namespace Cert.KernelIdeal.Att
open Cert.KernelIdeal Cert.KernelIdeal.Gen

/-- The row of the projections that key `n` of block `b` is read from. -/
def kvRow (b : ℕ) (n : ℕ) : ℕ := if b = 0 ∧ n < 128 then n else 128 * b + n - 128

theorem kvRow_lt (b : ℕ) (n : ℕ) (hb : b < 128) (hn : n < 256) : kvRow b n < 16384 := by
  unfold kvRow; split <;> omega

/-- Which keys of block `b` there are. -/
def okB' (b : ℕ) (n : Fin 256) : BitVec 1 := if 0 < b ∨ 128 ≤ (n : ℕ) then 1#1 else 0#1

/-- The attention over the projections `P`, the biases `B` and the sinks `S`, at row `r` and lane `c`. -/
def attArr (P : FVec Ideal S16384x8192 .bf16) (B : FVec Ideal S32x128x256 .f32) (S : FVec Ideal S32 .f32) (r : Fin 16384) (c : Fin 2048) : EReal :=
  att1 (fun n => Scalar.select (okB' (r / 128) n)
      ((∑ e : Fin 64, P (ix2 r ⟨64 * (c / 64) + e, by omega⟩) * Ideal.ofBits .bf16 0x3E00#16
          * P (ix2 ⟨kvRow (r / 128) n, kvRow_lt _ _ (by omega) n.isLt⟩ ⟨7168 + 64 * (c / 512) + e, by omega⟩))
        + B (ix3 ⟨c / 64, by omega⟩ ⟨r % 128, by omega⟩ n)) negInf)
    (S (ix1 ⟨c / 64, by omega⟩))
    (fun n => P (ix2 ⟨kvRow (r / 128) n, kvRow_lt _ _ (by omega) n.isLt⟩ ⟨7424 + 64 * (c / 512) + c % 64, by omega⟩))

variable (V : (c : Dev nD) → (b : Ref sig .tc) → Buf (Elt Ideal) ((c : Thread nD τ).loc b))

theorem idx1_0 : ∀ t : Fin cfg1.N, win1_0.index t = ![t.val, 0] := (by decide +kernel : ∀ t : Fin grid1.N, _)
theorem idx1_1 : ∀ t : Fin cfg1.N, win1_1.index t = ![t.val, 28] := (by decide +kernel : ∀ t : Fin grid1.N, _)
theorem idx1_2 : ∀ t : Fin cfg1.N, win1_2.index t = ![t.val, 29] := (by decide +kernel : ∀ t : Fin grid1.N, _)
theorem idx1_3 : ∀ t : Fin cfg1.N, win1_3.index t = ![4 * t.val - 1, 28] := (by decide +kernel : ∀ t : Fin grid1.N, _)
theorem idx1_4 : ∀ t : Fin cfg1.N, win1_4.index t = ![4 * t.val - 1, 29] := (by decide +kernel : ∀ t : Fin grid1.N, _)
theorem idx1_5 : ∀ t : Fin cfg1.N, win1_5.index t = ![0, 0, 0] := (by decide +kernel : ∀ t : Fin grid1.N, _)
theorem idx1_6 : ∀ t : Fin cfg1.N, win1_6.index t = ![0] := (by decide +kernel : ∀ t : Fin grid1.N, _)
theorem idx1_7 : ∀ t : Fin cfg1.N, win1_7.index t = ![t.val, 0] := (by decide +kernel : ∀ t : Fin grid1.N, _)

theorem b0 (c : Dev nD) (t : Fin cfg1.N) (a : Fin 512) (b : Fin 2048) :
    (iblk1 V c 0 t : FVec Ideal S512x2048 .bf16) (ix2 a b) = (V c main_arg0 : FVec Ideal S16384x8192 .bf16) (ix2 ⟨512 * t + a, by have : t.val < 32 := t.isLt; omega⟩ ⟨b, by omega⟩) := by
  have ht : t.val < 32 := t.isLt
  blk_ext [iblk1, idx1_0 t]

theorem b1 (c : Dev nD) (t : Fin cfg1.N) (a : Fin 512) (b : Fin 256) :
    (iblk1 V c 1 t : FVec Ideal S512x256 .bf16) (ix2 a b) = (V c main_arg0 : FVec Ideal S16384x8192 .bf16) (ix2 ⟨512 * t + a, by have : t.val < 32 := t.isLt; omega⟩ ⟨7168 + b, by omega⟩) := by
  have ht : t.val < 32 := t.isLt
  blk_ext [iblk1, idx1_1 t]

theorem b2 (c : Dev nD) (t : Fin cfg1.N) (a : Fin 512) (b : Fin 256) :
    (iblk1 V c 2 t : FVec Ideal S512x256 .bf16) (ix2 a b) = (V c main_arg0 : FVec Ideal S16384x8192 .bf16) (ix2 ⟨512 * t + a, by have : t.val < 32 := t.isLt; omega⟩ ⟨7424 + b, by omega⟩) := by
  have ht : t.val < 32 := t.isLt
  blk_ext [iblk1, idx1_2 t]

theorem b3 (c : Dev nD) (t : Fin cfg1.N) (a : Fin 128) (b : Fin 256) :
    (iblk1 V c 3 t : FVec Ideal S128x256 .bf16) (ix2 a b) = (V c main_arg0 : FVec Ideal S16384x8192 .bf16) (ix2 ⟨128 * (4 * t - 1) + a, by have : t.val < 32 := t.isLt; omega⟩ ⟨7168 + b, by omega⟩) := by
  have ht : t.val < 32 := t.isLt
  blk_ext [iblk1, idx1_3 t]

theorem b4 (c : Dev nD) (t : Fin cfg1.N) (a : Fin 128) (b : Fin 256) :
    (iblk1 V c 4 t : FVec Ideal S128x256 .bf16) (ix2 a b) = (V c main_arg0 : FVec Ideal S16384x8192 .bf16) (ix2 ⟨128 * (4 * t - 1) + a, by have : t.val < 32 := t.isLt; omega⟩ ⟨7424 + b, by omega⟩) := by
  have ht : t.val < 32 := t.isLt
  blk_ext [iblk1, idx1_4 t]

theorem b5 (c : Dev nD) (t : Fin cfg1.N) (h : Fin 32) (a : Fin 128) (b : Fin 256) :
    (iblk1 V c 5 t : FVec Ideal S32x128x256 .f32) (ix3 h a b) = (V c main_v35 : FVec Ideal S32x128x256 .f32) (ix3 h a b) := by
  have ht : t.val < 32 := t.isLt
  blk_ext [iblk1, idx1_5 t]

theorem b6 (c : Dev nD) (t : Fin cfg1.N) (h : Fin 32) :
    (iblk1 V c 6 t : FVec Ideal S32 .f32) (ix1 h) = (V c main_arg2 : FVec Ideal S32 .f32) (ix1 h) := by
  have ht : t.val < 32 := t.isLt
  blk_ext [iblk1, idx1_6 t]

theorem cat_k (c : Dev nD) (t : Fin cfg1.N) (k : ℕ) (hk : k < 4) (n : Fin 256) (l : Fin 256) :
    catRows (iblk1 V c 3 t) (iblk1 V c 1 t) ⟨128 * k + n, by omega⟩ l
      = (V c main_arg0 : FVec Ideal S16384x8192 .bf16) (ix2 ⟨kvRow (4 * t + k) n, kvRow_lt _ _ (by have : t.val < 32 := t.isLt; omega) n.isLt⟩ ⟨7168 + l, by omega⟩) := by
  unfold catRows kvRow
  have ht : t.val < 32 := t.isLt
  split
  · rename_i h
    simp only [] at h
    rw [b3]
    refine congrArg (V c main_arg0 : FVec Ideal S16384x8192 .bf16) (congrArg₂ ix2 (Fin.ext ?_) rfl)
    simp only []
    split <;> omega
  · rename_i h
    simp only [] at h
    rw [b1]
    refine congrArg (V c main_arg0 : FVec Ideal S16384x8192 .bf16) (congrArg₂ ix2 (Fin.ext ?_) rfl)
    simp only []
    split <;> omega

theorem cat_v (c : Dev nD) (t : Fin cfg1.N) (k : ℕ) (hk : k < 4) (n : Fin 256) (l : Fin 256) :
    catRows (iblk1 V c 4 t) (iblk1 V c 2 t) ⟨128 * k + n, by omega⟩ l
      = (V c main_arg0 : FVec Ideal S16384x8192 .bf16) (ix2 ⟨kvRow (4 * t + k) n, kvRow_lt _ _ (by have : t.val < 32 := t.isLt; omega) n.isLt⟩ ⟨7424 + l, by omega⟩) := by
  unfold catRows kvRow
  have ht : t.val < 32 := t.isLt
  split
  · rename_i h
    simp only [] at h
    rw [b4]
    refine congrArg (V c main_arg0 : FVec Ideal S16384x8192 .bf16) (congrArg₂ ix2 (Fin.ext ?_) rfl)
    simp only []
    split <;> omega
  · rename_i h
    simp only [] at h
    rw [b2]
    refine congrArg (V c main_arg0 : FVec Ideal S16384x8192 .bf16) (congrArg₂ ix2 (Fin.ext ?_) rfl)
    simp only []
    split <;> omega

theorem att_blk (c : Dev nD) (t : Fin cfg1.N) (y0 : Fin 512) (y1 : Fin 2048) :
    attBlk (okAt t) (iblk1 V c 0 t) (fun y => catRows (iblk1 V c 3 t) (iblk1 V c 1 t) (y 0) (y 1))
      (fun y => catRows (iblk1 V c 4 t) (iblk1 V c 2 t) (y 0) (y 1)) (iblk1 V c 5 t) (iblk1 V c 6 t) y0 y1
    = attArr (V c main_arg0) (V c main_v35) (V c main_arg2) ⟨512 * t + y0, by have : t.val < 32 := t.isLt; omega⟩ y1 := by
  have ht : t.val < 32 := t.isLt
  unfold attBlk attArr
  have e1 : (512 * (t : ℕ) + y0) / 128 = 4 * t + y0 / 128 := by omega
  have e2 : (512 * (t : ℕ) + y0) % 128 = y0 % 128 := by omega
  simp only [ix2_0, ix2_1, b0, b5, b6, e1, e2]
  have hk : (y0 : ℕ) / 128 < 4 := by omega
  simp only [cat_k V c t _ hk, cat_v V c t _ hk, okAt, okB']
  simp only [Nat.add_assoc]

theorem arr7 (c : Dev nD) (r : Fin 16384) (l : Fin 2048) :
    ((dat1 V c).arrAt 7 cfg1.N : FVec Ideal S16384x2048 .bf16) (ix2 r l) = attArr (V c main_arg0) (V c main_v35) (V c main_arg2) r l := by
  refine congrFun ((dat1 V c).arrAt_eq_of_covers 7 (fun y : S16384x2048.Idx => attArr (V c main_arg0) (V c main_v35) (V c main_arg2) (y 0) (y 1)) (by decide +kernel) fun t hf y => ?_) (ix2 r l)
  rw [after1_7]
  refine (outsAt1_G V c t y).trans ?_
  refine (att_blk V c t _ _).trans ?_
  refine congrArg₂ (attArr (V c main_arg0) (V c main_v35) (V c main_arg2)) (Fin.ext ?_) (Fin.ext ?_)
  · blk_simp [idx1_7 t]
    simp <;> omega
  · blk_simp [idx1_7 t]

end Cert.KernelIdeal.Att
end
end
-- ==== Proof.AttBias.lean ====
module

public import proofs.«01_k».proof.Proof.AttArr

@[expose] public section
set_option maxRecDepth 16384
noncomputable section
open Idealize.ShloMosaic Idealize.ShloMosaic.TcCoe Idealize.SL.Sem
open Idealize.ShloMosaic.Pipeline (Dat)
namespace Cert.KernelIdeal.Att
open Cert.KernelIdeal Cert.KernelIdeal.Gen
variable (V : (c : Dev nD) → (b : Ref sig .tc) → Buf (Elt Ideal) ((c : Thread nD τ).loc b))
theorem idx0_0 : ∀ t : Fin cfg0.N, win0_0.index t = ![0, 0] := (by decide +kernel : ∀ t : Fin grid0.N, _)
theorem idx0_1 : ∀ t : Fin cfg0.N, win0_1.index t = ![0, 0] := (by decide +kernel : ∀ t : Fin grid0.N, _)
theorem idx0_2 : ∀ t : Fin cfg0.N, win0_2.index t = ![t.val, 0, 0] := (by decide +kernel : ∀ t : Fin grid0.N, _)
/-- The bias a bucket word `w` selects among the 32 values `f`, minus infinity where it is negative. -/
def biasSel (w : BitVec 32) (f : Fin 32 → EReal) : EReal :=
  Scalar.select (IntOp.cmpi .slt w 0#32) negInf
    (Scalar.select (IntOp.cmpi .eq w 31#32) (f ⟨31, by omega⟩)
    (Scalar.select (IntOp.cmpi .eq w 30#32) (f ⟨30, by omega⟩)
    (Scalar.select (IntOp.cmpi .eq w 29#32) (f ⟨29, by omega⟩)
    (Scalar.select (IntOp.cmpi .eq w 28#32) (f ⟨28, by omega⟩)
    (Scalar.select (IntOp.cmpi .eq w 27#32) (f ⟨27, by omega⟩)
    (Scalar.select (IntOp.cmpi .eq w 26#32) (f ⟨26, by omega⟩)
    (Scalar.select (IntOp.cmpi .eq w 25#32) (f ⟨25, by omega⟩)
    (Scalar.select (IntOp.cmpi .eq w 24#32) (f ⟨24, by omega⟩)
    (Scalar.select (IntOp.cmpi .eq w 23#32) (f ⟨23, by omega⟩)
    (Scalar.select (IntOp.cmpi .eq w 22#32) (f ⟨22, by omega⟩)
    (Scalar.select (IntOp.cmpi .eq w 21#32) (f ⟨21, by omega⟩)
    (Scalar.select (IntOp.cmpi .eq w 20#32) (f ⟨20, by omega⟩)
    (Scalar.select (IntOp.cmpi .eq w 19#32) (f ⟨19, by omega⟩)
    (Scalar.select (IntOp.cmpi .eq w 18#32) (f ⟨18, by omega⟩)
    (Scalar.select (IntOp.cmpi .eq w 17#32) (f ⟨17, by omega⟩)
    (Scalar.select (IntOp.cmpi .eq w 16#32) (f ⟨16, by omega⟩)
    (Scalar.select (IntOp.cmpi .eq w 15#32) (f ⟨15, by omega⟩)
    (Scalar.select (IntOp.cmpi .eq w 14#32) (f ⟨14, by omega⟩)
    (Scalar.select (IntOp.cmpi .eq w 13#32) (f ⟨13, by omega⟩)
    (Scalar.select (IntOp.cmpi .eq w 12#32) (f ⟨12, by omega⟩)
    (Scalar.select (IntOp.cmpi .eq w 11#32) (f ⟨11, by omega⟩)
    (Scalar.select (IntOp.cmpi .eq w 10#32) (f ⟨10, by omega⟩)
    (Scalar.select (IntOp.cmpi .eq w 9#32) (f ⟨9, by omega⟩)
    (Scalar.select (IntOp.cmpi .eq w 8#32) (f ⟨8, by omega⟩)
    (Scalar.select (IntOp.cmpi .eq w 7#32) (f ⟨7, by omega⟩)
    (Scalar.select (IntOp.cmpi .eq w 6#32) (f ⟨6, by omega⟩)
    (Scalar.select (IntOp.cmpi .eq w 5#32) (f ⟨5, by omega⟩)
    (Scalar.select (IntOp.cmpi .eq w 4#32) (f ⟨4, by omega⟩)
    (Scalar.select (IntOp.cmpi .eq w 3#32) (f ⟨3, by omega⟩)
    (Scalar.select (IntOp.cmpi .eq w 2#32) (f ⟨2, by omega⟩)
    (Scalar.select (IntOp.cmpi .eq w 1#32) (f ⟨1, by omega⟩)
    (Scalar.select (IntOp.cmpi .eq w 0#32) (f ⟨0, by omega⟩)
    (0 : EReal)))))))))))))))))))))))))))))))))

theorem biasSel_of (b : Fin 32) (f : Fin 32 → EReal) : biasSel (BitVec.ofNat 32 b) f = f b := by
  unfold biasSel
  fin_cases b <;> rfl

theorem biasSel_neg (f : Fin 32 → EReal) : biasSel (-1#32) f = negInf := rfl

theorem k0_off_at : ∀ t : Fin grid0.N, (k0_off1 (grid0.coords t) 0 = 0 ∧ k0_off1 (grid0.coords t) 1 = t.val) ∧ (k0_off2 (grid0.coords t) 0 = 1 ∧ k0_off2 (grid0.coords t) 1 = t.val) ∧ (k0_off3 (grid0.coords t) 0 = 2 ∧ k0_off3 (grid0.coords t) 1 = t.val) ∧ (k0_off4 (grid0.coords t) 0 = 3 ∧ k0_off4 (grid0.coords t) 1 = t.val) ∧ (k0_off5 (grid0.coords t) 0 = 4 ∧ k0_off5 (grid0.coords t) 1 = t.val) ∧ (k0_off6 (grid0.coords t) 0 = 5 ∧ k0_off6 (grid0.coords t) 1 = t.val) ∧ (k0_off7 (grid0.coords t) 0 = 6 ∧ k0_off7 (grid0.coords t) 1 = t.val) ∧ (k0_off8 (grid0.coords t) 0 = 7 ∧ k0_off8 (grid0.coords t) 1 = t.val) ∧ (k0_off9 (grid0.coords t) 0 = 8 ∧ k0_off9 (grid0.coords t) 1 = t.val) ∧ (k0_off10 (grid0.coords t) 0 = 9 ∧ k0_off10 (grid0.coords t) 1 = t.val) ∧ (k0_off11 (grid0.coords t) 0 = 10 ∧ k0_off11 (grid0.coords t) 1 = t.val) ∧ (k0_off12 (grid0.coords t) 0 = 11 ∧ k0_off12 (grid0.coords t) 1 = t.val) ∧ (k0_off13 (grid0.coords t) 0 = 12 ∧ k0_off13 (grid0.coords t) 1 = t.val) ∧ (k0_off14 (grid0.coords t) 0 = 13 ∧ k0_off14 (grid0.coords t) 1 = t.val) ∧ (k0_off15 (grid0.coords t) 0 = 14 ∧ k0_off15 (grid0.coords t) 1 = t.val) ∧ (k0_off16 (grid0.coords t) 0 = 15 ∧ k0_off16 (grid0.coords t) 1 = t.val) ∧ (k0_off17 (grid0.coords t) 0 = 16 ∧ k0_off17 (grid0.coords t) 1 = t.val) ∧ (k0_off18 (grid0.coords t) 0 = 17 ∧ k0_off18 (grid0.coords t) 1 = t.val) ∧ (k0_off19 (grid0.coords t) 0 = 18 ∧ k0_off19 (grid0.coords t) 1 = t.val) ∧ (k0_off20 (grid0.coords t) 0 = 19 ∧ k0_off20 (grid0.coords t) 1 = t.val) ∧ (k0_off21 (grid0.coords t) 0 = 20 ∧ k0_off21 (grid0.coords t) 1 = t.val) ∧ (k0_off22 (grid0.coords t) 0 = 21 ∧ k0_off22 (grid0.coords t) 1 = t.val) ∧ (k0_off23 (grid0.coords t) 0 = 22 ∧ k0_off23 (grid0.coords t) 1 = t.val) ∧ (k0_off24 (grid0.coords t) 0 = 23 ∧ k0_off24 (grid0.coords t) 1 = t.val) ∧ (k0_off25 (grid0.coords t) 0 = 24 ∧ k0_off25 (grid0.coords t) 1 = t.val) ∧ (k0_off26 (grid0.coords t) 0 = 25 ∧ k0_off26 (grid0.coords t) 1 = t.val) ∧ (k0_off27 (grid0.coords t) 0 = 26 ∧ k0_off27 (grid0.coords t) 1 = t.val) ∧ (k0_off28 (grid0.coords t) 0 = 27 ∧ k0_off28 (grid0.coords t) 1 = t.val) ∧ (k0_off29 (grid0.coords t) 0 = 28 ∧ k0_off29 (grid0.coords t) 1 = t.val) ∧ (k0_off30 (grid0.coords t) 0 = 29 ∧ k0_off30 (grid0.coords t) 1 = t.val) ∧ (k0_off31 (grid0.coords t) 0 = 30 ∧ k0_off31 (grid0.coords t) 1 = t.val) ∧ (k0_off32 (grid0.coords t) 0 = 31 ∧ k0_off32 (grid0.coords t) 1 = t.val) := by
  decide +kernel

theorem out0 (c : Dev nD) (t : Fin cfg0.N) (y : S1x128x256.Idx) :
    outsAt0 V c t y = biasSel ((iblk0 V c 0 t : IVec S128x256 32) (ix2 (y 1) (y 2))) (fun b => (iblk0 V c 1 t : FVec Ideal S32x32 .f32) (ix2 b ⟨t.val, t.isLt⟩)) := by
  obtain ⟨⟨c0, d0⟩, ⟨c1, d1⟩, ⟨c2, d2⟩, ⟨c3, d3⟩, ⟨c4, d4⟩, ⟨c5, d5⟩, ⟨c6, d6⟩, ⟨c7, d7⟩, ⟨c8, d8⟩, ⟨c9, d9⟩, ⟨c10, d10⟩, ⟨c11, d11⟩, ⟨c12, d12⟩, ⟨c13, d13⟩, ⟨c14, d14⟩, ⟨c15, d15⟩, ⟨c16, d16⟩, ⟨c17, d17⟩, ⟨c18, d18⟩, ⟨c19, d19⟩, ⟨c20, d20⟩, ⟨c21, d21⟩, ⟨c22, d22⟩, ⟨c23, d23⟩, ⟨c24, d24⟩, ⟨c25, d25⟩, ⟨c26, d26⟩, ⟨c27, d27⟩, ⟨c28, d28⟩, ⟨c29, d29⟩, ⟨c30, d30⟩, ⟨c31, d31⟩⟩ := k0_off_at t
  unfold outsAt0 out0_A_2 biasSel
  frame_out
  open_payloads
  pointwise
  simp only [c0, d0, c1, d1, c2, d2, c3, d3, c4, d4, c5, d5, c6, d6, c7, d7, c8, d8, c9, d9, c10, d10, c11, d11, c12, d12, c13, d13, c14, d14, c15, d15, c16, d16, c17, d17, c18, d18, c19, d19, c20, d20, c21, d21, c22, d22, c23, d23, c24, d24, c25, d25, c26, d26, c27, d27, c28, d28, c29, d29, c30, d30, c31, d31]
  rfl

theorem i0 (c : Dev nD) (t : Fin cfg0.N) (a : Fin 128) (b : Fin 256) : (iblk0 V c 0 t : IVec S128x256 32) (ix2 a b) = (V c main_v34 : IVec S128x256 32) (ix2 a b) := by
  blk_ext [iblk0, idx0_0 t]
theorem i1 (c : Dev nD) (t : Fin cfg0.N) (a : Fin 32) (b : Fin 32) : (iblk0 V c 1 t : FVec Ideal S32x32 .f32) (ix2 a b) = (V c main_arg1 : FVec Ideal S32x32 .f32) (ix2 a b) := by
  blk_ext [iblk0, idx0_1 t]

/-- The bias array from the bucket table `T` and the embedding `R`, at head `h`, query `r` and key `n`. -/
def biasArr (T : IVec S128x256 32) (R : FVec Ideal S32x32 .f32) (h : Fin 32) (r : Fin 128) (n : Fin 256) : EReal :=
  biasSel (T (ix2 r n)) (fun b => R (ix2 b h))

theorem out0_arr (c : Dev nD) (t : Fin cfg0.N) (y : S1x128x256.Idx) :
    outsAt0 V c t y = biasArr (V c main_v34) (V c main_arg1) ⟨t.val, t.isLt⟩ (y 1) (y 2) := by
  rw [out0]
  unfold biasArr
  exact congrArg₂ biasSel (i0 V c t (y 1) (y 2)) (funext fun b => i1 V c t b ⟨t.val, t.isLt⟩)

theorem out0_fun (c : Dev nD) (t : Fin cfg0.N) :
    outsAt0 V c t = fun y : S1x128x256.Idx => biasArr (V c main_v34) (V c main_arg1) ⟨t.val, t.isLt⟩ (y 1) (y 2) := funext fun y => out0_arr V c t y

attribute [irreducible] biasArr

theorem arr0 (c : Dev nD) (h : Fin 32) (r : Fin 128) (n : Fin 256) :
    ((dat0 V c).arrAt 2 cfg0.N : FVec Ideal S32x128x256 .f32) (ix3 h r n) = biasArr (V c main_v34) (V c main_arg1) h r n := by
  refine congrFun ((dat0 V c).arrAt_eq_of_covers 2 (fun y : S32x128x256.Idx => biasArr (V c main_v34) (V c main_arg1) (y 0) (y 1) (y 2)) (by decide +kernel) fun t hf y => ?_) (ix3 h r n)
  rw [after0_2, out0_fun]
  show biasArr (V c main_v34) (V c main_arg1) ⟨t.val, t.isLt⟩ (y 1) (y 2) = biasArr (V c main_v34) (V c main_arg1) (((cfg0.win 2).blk t).view.emb y 0) (((cfg0.win 2).blk t).view.emb y 1) (((cfg0.win 2).blk t).view.emb y 2)
  refine (congr (congrArg₂ (biasArr (V c main_v34) (V c main_arg1)) (Fin.ext ?_) (Fin.ext ?_)) (Fin.ext ?_))
  · blk_simp [idx0_2 t]
  · blk_simp [idx0_2 t]
  · blk_simp [idx0_2 t]

end Cert.KernelIdeal.Att
end
end
-- ==== Proof.AttTab.lean ====
module

public import proofs.«01_k».proof.Proof.AttBias

@[expose] public section
set_option maxRecDepth 16384
noncomputable section
open Idealize.ShloMosaic Idealize.ShloMosaic.TcCoe Idealize.SL.Sem
open Idealize.ShloMosaic.Pipeline (Dat)
namespace Cert.KernelIdeal.Att
open Cert.KernelIdeal Cert.KernelIdeal.Gen

/-- The distance of a key from a query, as the program computes it. -/
def distW (q n : Nat) : BitVec 32 := IntOp.subi (IntOp.addi (BitVec.ofNat 32 q) 128#32) (BitVec.ofNat 32 n)
/-- Whether a key is inside the window of a query. -/
def inW (q n : Nat) : BitVec 1 := IntOp.andi (IntOp.cmpi .sge (distW q n) 0#32) (IntOp.cmpi .slt (distW q n) 128#32)
/-- The relative-position bucket of a distance. -/
def bucketW (d : BitVec 32) : BitVec 32 :=
  Scalar.select (IntOp.cmpi .slt (IntOp.maxsi d 0#32) 16#32) (IntOp.maxsi d 0#32)
    (IntOp.minsi (IntOp.addi (16#32) (Ideal.fptosi 32
      (Ideal.div (Ideal.log (Ideal.div ((((IntOp.maxsi (IntOp.maxsi d 0#32) 1#32).toInt : ℝ) : EReal)) (Ideal.ofBits .f32 0x41800000#32)))
        (Ideal.ofBits .f32 0x40051592#32) * Ideal.ofBits .f32 0x41800000#32))) 31#32)
/-- The table the host prepares: the bucket inside the window, all ones outside it. -/
def tabW (q n : Nat) : BitVec 32 := Scalar.select (inW q n) (bucketW (distW q n)) (4294967295#32)

theorem tab (m : (ℓ : Loc nD τ sig) → Buf (Elt Ideal) ℓ) (ρ : Dev nD → PrngReg) (c : Dev nD) (q : Fin 128) (n : Fin 256) :
    (V4 m ρ c main_v34 : IVec S128x256 32) (ix2 q n) = tabW q.val n.val := by
  show (StableHlo.after hostOps0_3 (StableHlo.after hostOps0_2 (StableHlo.after hostOps0_1 (StableHlo.after hostOps0 (W0 m ρ c)))) main_v34 : IVec S128x256 32) (ix2 q n) = _
  entry_read
  simp only [StableHlo.TRef.toBuf, StableHlo.TRef.ofBuf, cast_eq]
  pointwise
  rfl

theorem toInt_small (d : Nat) (hd : d < 2147483648) : (BitVec.ofNat 32 d).toInt = (d : Int) := by
  rw [BitVec.toInt_eq_toNat_of_lt (by rw [BitVec.toNat_ofNat]; omega), BitVec.toNat_ofNat]; omega

/-- A finite set of distances: in the window exactly the 128 up to the query. -/
theorem inW_eq (q : Fin 128) (n : Fin 256) :
    inW q.val n.val = if n.val ≤ q.val + 128 ∧ q.val < n.val then 1#1 else 0#1 := by
  have hd : distW q.val n.val = BitVec.ofInt 32 ((q.val : Int) + 128 - n.val) := by
    unfold distW IntOp.subi IntOp.addi
    apply BitVec.eq_of_toInt_eq
    have h1 : (BitVec.ofNat 32 q.val).toInt = (q.val : Int) := toInt_small _ (by omega)
    have h2 : (BitVec.ofNat 32 n.val).toInt = (n.val : Int) := toInt_small _ (by omega)
    simp [BitVec.toInt_ofInt, BitVec.toInt_sub, BitVec.toInt_add, h1, h2]
  have hi : (BitVec.ofInt 32 ((q.val : Int) + 128 - n.val)).toInt = (q.val : Int) + 128 - n.val := by
    rw [BitVec.toInt_ofInt]; have := q.isLt; have := n.isLt
    simp only [Int.bmod]; omega
  unfold inW IntOp.andi IntOp.cmpi
  rw [hd]
  simp only [BitVec.slt, BitVec.sle, hi]
  have h0 : (0#32 : BitVec 32).toInt = 0 := by decide
  have h1 : (128#32 : BitVec 32).toInt = 128 := by decide
  rw [h0, h1]
  by_cases h : n.val ≤ q.val + 128 ∧ q.val < n.val
  · rw [if_pos h, decide_eq_true (by omega), decide_eq_true (by omega)]; decide
  · rw [if_neg h]
    by_cases h2 : (0 : Int) ≤ (q.val : Int) + 128 - n.val
    · rw [decide_eq_true h2, decide_eq_false (by omega)]; decide
    · rw [decide_eq_false h2]; exact (by decide : ∀ b : Bool, BitVec.ofBool false &&& BitVec.ofBool b = 0#1) _

theorem dist_in (q : Fin 128) (n : Fin 256) (h : inW q.val n.val = 1#1) :
    ∃ d : Nat, d < 128 ∧ distW q.val n.val = BitVec.ofNat 32 d := by
  rw [inW_eq] at h
  have hh : n.val ≤ q.val + 128 ∧ q.val < n.val := by
    by_contra hc; rw [if_neg hc] at h; exact absurd h (by decide)
  refine ⟨q.val + 128 - n.val, by omega, ?_⟩
  unfold distW IntOp.subi IntOp.addi
  apply BitVec.eq_of_toNat_eq
  have := q.isLt; have := n.isLt
  simp [BitVec.toNat_sub, BitVec.toNat_add, BitVec.toNat_ofNat]; omega

theorem w16 : Ideal.ofBits .f32 0x41800000#32 = ((16 : ℝ) : EReal) := by
  simp [Ideal.ofBits, Ideal.ieee]; rw [← EReal.coe_mul]; norm_num
theorem wlog : ∃ x : ℝ, 1 ≤ x ∧ Ideal.ofBits .f32 0x40051592#32 = ((x : ℝ) : EReal) := by
  refine ⟨_, ?_, by simp [Ideal.ofBits, Ideal.ieee]; rfl⟩
  norm_num

/-- A distance inside the window has one of the 32 buckets. -/
theorem bucket_lt (d : Nat) (hd : d < 128) : ∃ b : Fin 32, bucketW (BitVec.ofNat 32 d) = BitVec.ofNat 32 b.val := by
  have e0 : IntOp.maxsi (BitVec.ofNat 32 d) 0#32 = BitVec.ofNat 32 d := by
    revert hd; revert d; decide
  by_cases h16 : d < 16
  · refine ⟨⟨d, by omega⟩, ?_⟩
    unfold bucketW; rw [e0]
    have : IntOp.cmpi .slt (BitVec.ofNat 32 d) 16#32 = 1#1 := by revert h16; clear hd e0; revert d; decide
    rw [this]; rfl
  have e1 : IntOp.maxsi (BitVec.ofNat 32 d) 1#32 = BitVec.ofNat 32 d := by
    have : ∀ d < 128, ¬ d < 16 → IntOp.maxsi (BitVec.ofNat 32 d) 1#32 = BitVec.ofNat 32 d := by decide
    exact this d hd h16
  have e2 : IntOp.cmpi .slt (BitVec.ofNat 32 d) 16#32 = 0#1 := by
    have : ∀ d < 128, ¬ d < 16 → IntOp.cmpi .slt (BitVec.ofNat 32 d) 16#32 = 0#1 := by decide
    exact this d hd h16
  have e3 : (BitVec.ofNat 32 d).toInt = (d : Int) := by
    exact toInt_small d (by omega)
  obtain ⟨x, hx1, hx⟩ := wlog
  have hx0 : x ≠ 0 := by linarith
  unfold bucketW
  rw [e0, e1, e2, e3, w16, hx]
  have hdR : (16 : ℝ) ≤ (d : ℝ) := by exact_mod_cast (not_lt.mp h16)
  have hdU : (d : ℝ) < 128 := by exact_mod_cast hd
  have a1 : Ideal.div ((((d : Int) : ℝ) : EReal)) ((16 : ℝ) : EReal) = (((d : ℝ) / 16 : ℝ) : EReal) := by
    rw [Ideal.div_coe (by norm_num), ← EReal.coe_mul]; congr 1; push_cast; ring
  have a2 : Ideal.log ((((d : ℝ) / 16 : ℝ) : EReal)) = ((Real.log ((d : ℝ) / 16) : ℝ) : EReal) := by
    show (if (d : ℝ) / 16 ≤ 0 then ⊥ else _) = _
    rw [if_neg (by have : 1 ≤ (d:ℝ)/16 := by rw [le_div_iff₀ (by norm_num)]; linarith
                   linarith)]
  have a3 : Ideal.div ((Real.log ((d : ℝ) / 16) : ℝ) : EReal) ((x : ℝ) : EReal) = ((Real.log ((d : ℝ) / 16) / x : ℝ) : EReal) := by
    rw [Ideal.div_coe hx0, ← EReal.coe_mul]; congr 1; ring
  rw [a1, a2, a3, ← EReal.coe_mul]
  have l0 : 0 ≤ Real.log ((d : ℝ) / 16) := Real.log_nonneg (by rw [le_div_iff₀ (by norm_num)]; linarith)
  have l1 : Real.log ((d : ℝ) / 16) ≤ 7 := by
    have := Real.log_le_sub_one_of_pos (x := (d : ℝ) / 16) (by positivity)
    have h8 : (d : ℝ) / 16 ≤ 8 := by rw [div_le_iff₀ (by norm_num)]; linarith
    linarith
  have b0 : 0 ≤ Real.log ((d : ℝ) / 16) / x * 16 := by positivity
  have b1 : Real.log ((d : ℝ) / 16) / x * 16 ≤ 112 := by
    have : Real.log ((d : ℝ) / 16) / x ≤ 7 := by
      rw [div_le_iff₀ (by linarith)]; nlinarith
    linarith
  generalize Real.log ((d : ℝ) / 16) / x * 16 = y at b0 b1
  have hf : ∃ k : Nat, k ≤ 112 ∧ Ideal.fptosi 32 ((y : ℝ) : EReal) = BitVec.ofNat 32 k := by
    refine ⟨⌊y⌋.toNat, ?_, ?_⟩
    · have : ⌊y⌋ ≤ 112 := by
        have := (Int.floor_le y).trans b1
        exact_mod_cast this
      omega
    · have h0 : (0:Int) ≤ ⌊y⌋ := Int.floor_nonneg.mpr b0
      have h1 : ⌊y⌋ ≤ 112 := by
        have := (Int.floor_le y).trans b1
        exact_mod_cast this
      rw [Ideal.fptosi, Ideal.toIntClamped_coe, if_pos b0]
      have : max (-((2 ^ (32 - 1) : Nat) : Int)) (min (((2 ^ (32 - 1) : Nat) : Int) - 1) ⌊y⌋) = (⌊y⌋.toNat : Int) := by
        norm_num; omega
      rw [this, BitVec.ofInt_natCast]
  obtain ⟨k, hk, hf⟩ := hf
  rw [hf]
  have fin : ∀ k ≤ 112, ∃ b : Fin 32, Scalar.select (0#1) (BitVec.ofNat 32 d) (IntOp.minsi (IntOp.addi 16#32 (BitVec.ofNat 32 k)) 31#32) = BitVec.ofNat 32 b.val := by
    intro k hk
    show ∃ b : Fin 32, IntOp.minsi (IntOp.addi 16#32 (BitVec.ofNat 32 k)) 31#32 = BitVec.ofNat 32 b.val
    have : ∀ k < 113, IntOp.minsi (IntOp.addi 16#32 (BitVec.ofNat 32 k)) 31#32 = BitVec.ofNat 32 (min (16 + k) 31) := by decide
    exact ⟨⟨min (16 + k) 31, by omega⟩, this k (by omega)⟩
  exact fin k hk

end Cert.KernelIdeal.Att
end
end
-- ==== Proof.AttRef.lean ====
module

public import proofs.«01_k».proof.Proof.AttTab
public import proofs.«01_k».proof.Proof.Gen.ReferenceIdeal.Run
public import proofs.«01_k».proof.Proof.Gen.ReferenceIdeal.Read
public import Idealize.ShloMosaic.Lib.ValueIdxRank6
public import Idealize.ShloMosaic.Lib.KernelVsHost

@[expose] public section
set_option maxRecDepth 16384
noncomputable section
open Idealize.ShloMosaic Idealize.ShloMosaic.TcCoe Idealize.SL.Sem
namespace Cert.ReferenceIdeal.Att
open Cert.ReferenceIdeal Cert.ReferenceIdeal.Gen Cert.ReferenceIdeal.Read
open Cert.KernelIdeal.Att (kvRow kvRow_lt negInf att1 distW inW bucketW)

abbrev TP := (⟨S16384x8192, .bf16⟩ : BufTy).Contents (Elt Ideal)
abbrev TR := (⟨S32x32, .f32⟩ : BufTy).Contents (Elt Ideal)
abbrev TS := (⟨S32, .f32⟩ : BufTy).Contents (Elt Ideal)

/-- The queries, block by block. -/
theorem r9 (x : TP) (i : S1x128x128x4x8x64.Idx) (r c : Nat) (hr : r < 16384) (hc : c < 8192)
    (er : r = 128 * (i 1).val + (i 2).val) (ec : c = 512 * (i 3).val + 64 * (i 4).val + (i 5).val) :
    val_main_v9 (F := Ideal) x i = x (ix2 ⟨r, hr⟩ ⟨c, hc⟩) := by
  have h0 : (i 0).val < 1 := (i 0).isLt
  have h1 : (i 1).val < 128 := (i 1).isLt
  have h2 : (i 2).val < 128 := (i 2).isLt
  have h3 : (i 3).val < 4 := (i 3).isLt
  have h4 : (i 4).val < 8 := (i 4).isLt
  have h5 : (i 5).val < 64 := (i 5).isLt
  unfold val_main_v9
  rw [shapeCast_apply (val_main_v2 (F := Ideal) x) shapeCasts_S1x16384x32x64_S1x128x128x4x8x64 i
    (ix4 ⟨0, by omega⟩ ⟨r, hr⟩ ⟨8 * (i 3).val + (i 4).val, by omega⟩ ⟨(i 5).val, h5⟩)
    (by rewrite [Shape.rowMajor_val_four, Shape.rowMajor_val_six]
        show ((0 * 16384 + r) * 32 + (8 * (i 3).val + (i 4).val)) * 64 + (i 5).val
          = (((((i 0).val * 128 + (i 1).val) * 128 + (i 2).val) * 4 + (i 3).val) * 8 + (i 4).val) * 64 + (i 5).val
        omega)]
  simp only [val_main_v2_apply, val_main_v1_apply, val_main_v0_apply]
  refine congrArg x ?_
  funext a
  match a with
  | ⟨0, _⟩ => refine Fin.ext ?_; show _ = r; simp; omega
  | ⟨1, _⟩ => refine Fin.ext ?_; show _ = c; simp; omega

/-- The keys, block by block. -/
theorem r10 (x : TP) (i : S1x128x128x4x64.Idx) (r c : Nat) (hr : r < 16384) (hc : c < 8192)
    (er : r = 128 * (i 1).val + (i 2).val) (ec : c = 7168 + 64 * (i 3).val + (i 4).val) :
    val_main_v10 (F := Ideal) x i = x (ix2 ⟨r, hr⟩ ⟨c, hc⟩) := by
  have h0 : (i 0).val < 1 := (i 0).isLt
  have h1 : (i 1).val < 128 := (i 1).isLt
  have h2 : (i 2).val < 128 := (i 2).isLt
  have h3 : (i 3).val < 4 := (i 3).isLt
  have h4 : (i 4).val < 64 := (i 4).isLt
  simp only [val_main_v10_apply, val_main_v5_apply, val_main_v4_apply, val_main_v3_apply]
  refine congrArg x ?_
  funext a
  match a with
  | ⟨0, _⟩ => refine Fin.ext ?_; show _ = r; simp; omega
  | ⟨1, _⟩ => refine Fin.ext ?_; show _ = c; simp; omega

/-- The keys of a block and the block before it. -/
theorem r13 (x : TP) (i : S1x128x256x4x64.Idx) (c : Nat) (hc : c < 8192)
    (ec : c = 7168 + 64 * (i 3).val + (i 4).val) (b : Fin 128) (hb : b.val = (i 1).val) (n : Fin 256) (hn : n.val = (i 2).val)
    (hv : 0 < b.val ∨ 128 ≤ n.val) :
    val_main_v13 (F := Ideal) x i = x (ix2 ⟨kvRow b.val n.val, kvRow_lt _ _ b.isLt n.isLt⟩ ⟨c, hc⟩) := by
  have h0 : (i 0).val < 1 := (i 0).isLt
  have h1 : (i 1).val < 128 := (i 1).isLt
  have h2 : (i 2).val < 256 := (i 2).isLt
  have h3 : (i 3).val < 4 := (i 3).isLt
  have h4 : (i 4).val < 64 := (i 4).isLt
  have hk : kvRow b.val n.val = 128 * (i 1).val + (i 2).val - 128 := by
    unfold kvRow; rw [if_neg (by omega), hb, hn]
  unfold val_main_v13
  by_cases hlt : (i 2).val < 128
  · rw [concatenate_pair_apply_left (s₁ := S1x128x128x4x64) (s₂ := S1x128x128x4x64) 2 _ _ _ i rfl (fun a => match a with
      | ⟨0, _⟩ => ⟨0, Nat.one_pos⟩
      | ⟨1, _⟩ => ⟨(i 1).val, h1⟩
      | ⟨2, _⟩ => ⟨(i 2).val, hlt⟩
      | ⟨3, _⟩ => ⟨(i 3).val, h3⟩
      | ⟨4, _⟩ => ⟨(i 4).val, h4⟩ : S1x128x128x4x64.Idx) (fun a => match a with
      | ⟨0, _⟩ => by show 0 = (i 0).val; omega
      | ⟨1, _⟩ => rfl | ⟨2, _⟩ => rfl | ⟨3, _⟩ => rfl | ⟨4, _⟩ => rfl)]
    rw [val_main_v12_apply]
    unfold val_main_v11
    rw [pad_apply_of_inside (s := S1x128x128x4x64) _ _ _ _ _ _ _ _ (fun a => match a with
      | ⟨0, _⟩ => ⟨0, Nat.one_pos⟩
      | ⟨1, _⟩ => ⟨(i 1).val - 1, by show _ < 128; omega⟩
      | ⟨2, _⟩ => ⟨(i 2).val, hlt⟩
      | ⟨3, _⟩ => ⟨(i 3).val, h3⟩
      | ⟨4, _⟩ => ⟨(i 4).val, h4⟩ : S1x128x128x4x64.Idx) (fun a => match a with
      | ⟨0, _⟩ => rfl
      | ⟨1, _⟩ => by show (i 1).val = 1 + ((i 1).val - 1) * (0 + 1); omega
      | ⟨2, _⟩ => by show (i 2).val = 0 + (i 2).val * (0 + 1); omega
      | ⟨3, _⟩ => by show (i 3).val = 0 + (i 3).val * (0 + 1); omega
      | ⟨4, _⟩ => by show (i 4).val = 0 + (i 4).val * (0 + 1); omega)]
    exact r10 x _ _ c (kvRow_lt _ _ b.isLt n.isLt) hc (by rw [hk]; show _ = 128 * ((i 1).val - 1) + (i 2).val; omega) ec
  · rw [concatenate_pair_apply_right (s₁ := S1x128x128x4x64) (s₂ := S1x128x128x4x64) 2 _ _ _ i rfl rfl (fun a => match a with
      | ⟨0, _⟩ => ⟨0, Nat.one_pos⟩
      | ⟨1, _⟩ => ⟨(i 1).val, h1⟩
      | ⟨2, _⟩ => ⟨(i 2).val - 128, by show _ < 128; omega⟩
      | ⟨3, _⟩ => ⟨(i 3).val, h3⟩
      | ⟨4, _⟩ => ⟨(i 4).val, h4⟩ : S1x128x128x4x64.Idx) (fun a => match a with
      | ⟨0, _⟩ => fun _ => by show 0 = (i 0).val; omega
      | ⟨1, _⟩ => fun _ => rfl | ⟨2, _⟩ => fun h => absurd rfl h | ⟨3, _⟩ => fun _ => rfl | ⟨4, _⟩ => fun _ => rfl)
      (by show (i 2).val - 128 + 128 = (i 2).val; omega)]
    exact r10 x _ _ c (kvRow_lt _ _ b.isLt n.isLt) hc (by rw [hk]; show _ = 128 * (i 1).val + ((i 2).val - 128); omega) ec

/-- The values, block by block. -/
theorem r14 (x : TP) (i : S1x128x128x4x64.Idx) (r c : Nat) (hr : r < 16384) (hc : c < 8192)
    (er : r = 128 * (i 1).val + (i 2).val) (ec : c = 7424 + 64 * (i 3).val + (i 4).val) :
    val_main_v14 (F := Ideal) x i = x (ix2 ⟨r, hr⟩ ⟨c, hc⟩) := by
  have h0 : (i 0).val < 1 := (i 0).isLt
  have h1 : (i 1).val < 128 := (i 1).isLt
  have h2 : (i 2).val < 128 := (i 2).isLt
  have h3 : (i 3).val < 4 := (i 3).isLt
  have h4 : (i 4).val < 64 := (i 4).isLt
  simp only [val_main_v14_apply, val_main_v8_apply, val_main_v7_apply, val_main_v6_apply]
  refine congrArg x ?_
  funext a
  match a with
  | ⟨0, _⟩ => refine Fin.ext ?_; show _ = r; simp; omega
  | ⟨1, _⟩ => refine Fin.ext ?_; show _ = c; simp; omega

/-- The values of a block and the block before it. -/
theorem r17 (x : TP) (i : S1x128x256x4x64.Idx) (c : Nat) (hc : c < 8192)
    (ec : c = 7424 + 64 * (i 3).val + (i 4).val) (b : Fin 128) (hb : b.val = (i 1).val) (n : Fin 256) (hn : n.val = (i 2).val)
    (hv : 0 < b.val ∨ 128 ≤ n.val) :
    val_main_v17 (F := Ideal) x i = x (ix2 ⟨kvRow b.val n.val, kvRow_lt _ _ b.isLt n.isLt⟩ ⟨c, hc⟩) := by
  have h0 : (i 0).val < 1 := (i 0).isLt
  have h1 : (i 1).val < 128 := (i 1).isLt
  have h2 : (i 2).val < 256 := (i 2).isLt
  have h3 : (i 3).val < 4 := (i 3).isLt
  have h4 : (i 4).val < 64 := (i 4).isLt
  have hk : kvRow b.val n.val = 128 * (i 1).val + (i 2).val - 128 := by
    unfold kvRow; rw [if_neg (by omega), hb, hn]
  unfold val_main_v17
  by_cases hlt : (i 2).val < 128
  · rw [concatenate_pair_apply_left (s₁ := S1x128x128x4x64) (s₂ := S1x128x128x4x64) 2 _ _ _ i rfl (fun a => match a with
      | ⟨0, _⟩ => ⟨0, Nat.one_pos⟩
      | ⟨1, _⟩ => ⟨(i 1).val, h1⟩
      | ⟨2, _⟩ => ⟨(i 2).val, hlt⟩
      | ⟨3, _⟩ => ⟨(i 3).val, h3⟩
      | ⟨4, _⟩ => ⟨(i 4).val, h4⟩ : S1x128x128x4x64.Idx) (fun a => match a with
      | ⟨0, _⟩ => by show 0 = (i 0).val; omega
      | ⟨1, _⟩ => rfl | ⟨2, _⟩ => rfl | ⟨3, _⟩ => rfl | ⟨4, _⟩ => rfl)]
    rw [val_main_v16_apply]
    unfold val_main_v15
    rw [pad_apply_of_inside (s := S1x128x128x4x64) _ _ _ _ _ _ _ _ (fun a => match a with
      | ⟨0, _⟩ => ⟨0, Nat.one_pos⟩
      | ⟨1, _⟩ => ⟨(i 1).val - 1, by show _ < 128; omega⟩
      | ⟨2, _⟩ => ⟨(i 2).val, hlt⟩
      | ⟨3, _⟩ => ⟨(i 3).val, h3⟩
      | ⟨4, _⟩ => ⟨(i 4).val, h4⟩ : S1x128x128x4x64.Idx) (fun a => match a with
      | ⟨0, _⟩ => rfl
      | ⟨1, _⟩ => by show (i 1).val = 1 + ((i 1).val - 1) * (0 + 1); omega
      | ⟨2, _⟩ => by show (i 2).val = 0 + (i 2).val * (0 + 1); omega
      | ⟨3, _⟩ => by show (i 3).val = 0 + (i 3).val * (0 + 1); omega
      | ⟨4, _⟩ => by show (i 4).val = 0 + (i 4).val * (0 + 1); omega)]
    exact r14 x _ _ c (kvRow_lt _ _ b.isLt n.isLt) hc (by rw [hk]; show _ = 128 * ((i 1).val - 1) + (i 2).val; omega) ec
  · rw [concatenate_pair_apply_right (s₁ := S1x128x128x4x64) (s₂ := S1x128x128x4x64) 2 _ _ _ i rfl rfl (fun a => match a with
      | ⟨0, _⟩ => ⟨0, Nat.one_pos⟩
      | ⟨1, _⟩ => ⟨(i 1).val, h1⟩
      | ⟨2, _⟩ => ⟨(i 2).val - 128, by show _ < 128; omega⟩
      | ⟨3, _⟩ => ⟨(i 3).val, h3⟩
      | ⟨4, _⟩ => ⟨(i 4).val, h4⟩ : S1x128x128x4x64.Idx) (fun a => match a with
      | ⟨0, _⟩ => fun _ => by show 0 = (i 0).val; omega
      | ⟨1, _⟩ => fun _ => rfl | ⟨2, _⟩ => fun h => absurd rfl h | ⟨3, _⟩ => fun _ => rfl | ⟨4, _⟩ => fun _ => rfl)
      (by show (i 2).val - 128 + 128 = (i 2).val; omega)]
    exact r14 x _ _ c (kvRow_lt _ _ b.isLt n.isLt) hc (by rw [hk]; show _ = 128 * (i 1).val + ((i 2).val - 128); omega) ec

/-- The distance of key `n` from query `q`. -/
theorem r30 (i : S128x256.Idx) : val_main_v30 (F := Ideal) i = distW (i 0).val (i 1).val := by
  simp only [val_main_v30_apply, val_main_v28_apply, val_main_v29_apply, val_main_v27_apply, val_main_v25_apply, val_main_v24_apply,
    val_main_v26_apply, val_main_c_1_apply, val_main_v23_apply, val_main_v22_apply]
  rfl
theorem r35 (i : S128x256.Idx) : val_main_v35 (F := Ideal) i = inW (i 0).val (i 1).val := by
  simp only [val_main_v35_apply, val_main_v32_apply, val_main_v34_apply, r30, val_main_v31_apply, val_main_v33_apply,
    val_main_c_2_apply, val_main_c_3_apply]
  rfl
theorem r71 (i : S128x256.Idx) : val_main_v71 (F := Ideal) i = bucketW (distW (i 0).val (i 1).val) := by
  simp only [val_main_v71_apply, val_main_v68_apply, val_main_v53_apply, val_main_v70_apply, r30, val_main_v52_apply, val_main_c_7_apply,
    val_main_v67_apply, val_main_c_13_apply, val_main_v66_apply, val_main_v69_apply, val_main_c_14_apply, val_main_v65_apply,
    val_main_c_12_apply, val_main_v64_apply, val_main_v63_apply, val_main_v62_apply, val_main_cst_11_apply, val_main_v61_apply,
    val_main_v60_apply, val_main_cst_10_apply, val_main_v59_apply, val_main_v58_apply, val_main_v57_apply, val_main_cst_9_apply,
    val_main_v56_apply, val_main_v55_apply, val_main_v54_apply, val_main_c_8_apply]
  rfl
/-- A bucket below 32 is not wrapped. -/
theorem r77 (i : S128x256x1.Idx) (b : Fin 32) (hb : bucketW (distW (i 0).val (i 1).val) = BitVec.ofNat 32 b.val) :
    val_main_v77 (F := Ideal) i = BitVec.ofNat 32 b.val := by
  simp only [val_main_v77_apply, val_main_v76_apply, val_main_v73_apply, val_main_v72_apply, val_main_c_15_apply, r71]
  have e : bucketW (distW ((idx_main_v77 i) 0).val ((idx_main_v77 i) 1).val) = BitVec.ofNat 32 b.val := hb
  rw [e]
  have : IntOp.cmpi .slt (BitVec.ofNat 32 b.val) 0#32 = 0#1 := (by decide : ∀ b : Fin 32, IntOp.cmpi .slt (BitVec.ofNat 32 b.val) 0#32 = 0#1) b
  rw [this]; rfl
/-- The gather reads the bucket's row. -/
theorem r78 (R : TR) (q : Fin 128) (n : Fin 256) (h : Fin 32) (b : Fin 32)
    (hb : bucketW (distW q.val n.val) = BitVec.ofNat 32 b.val) :
    val_main_v78 (F := Ideal) R (ix3 q n h) = R (ix2 b h) := by
  have hi := r77 (ix3 q n ⟨0, Nat.one_pos⟩) b hb
  unfold val_main_v78
  generalize val_main_v77 (F := Ideal) = idx at hi
  let d := gather_S32x32_S128x256x1_S128x256x32_2_0_n_n_0_2_132
  show Host.gather d R idx (ix3 q n h) = _
  unfold Host.gather
  refine congrArg R (funext fun a => Fin.ext ?_)
  match a with
  | ⟨0, _⟩ =>
    have hm : (0 : Fin 2) ∈ d.startIndexMap := List.mem_singleton.mpr rfl
    show d.start (ix3 q n h) idx 0 + d.batchCoord (ix3 q n h) 0 + d.offCoord (ix3 q n h) 0 = b.val
    rw [d.batchCoord_eq_zero _ _ List.not_mem_nil, d.offCoord_eq_zero _ _ (fun h => ((d.mem_sKept _).mp h).1 (List.mem_singleton.mpr rfl))]
    simp only [Nat.add_zero]
    unfold GatherDims.start
    rw [dif_pos hm]
    have hsi : d.siIdx (ix3 q n h) ⟨d.startIndexMap.idxOf 0, List.idxOf_lt_length_iff.2 hm⟩ = ix3 q n ⟨0, Nat.one_pos⟩ := by
      funext b'; refine Fin.ext ?_
      match b' with
      | ⟨0, _⟩ => rfl
      | ⟨1, _⟩ => rfl
      | ⟨2, _⟩ => rfl
    rw [hsi, hi]
    show min (BitVec.ofNat 32 b.val).toInt.toNat (32 - 1) = b.val
    rw [Cert.KernelIdeal.Att.toInt_small _ (by omega)]; omega
  | ⟨1, _⟩ =>
    show d.start (ix3 q n h) idx 1 + d.batchCoord (ix3 q n h) 1 + d.offCoord (ix3 q n h) 1 = h.val
    rw [d.batchCoord_eq_zero _ _ List.not_mem_nil]
    have h1 : d.start (ix3 q n h) idx 1 = 0 := by
      unfold GatherDims.start; rw [dif_neg (by decide)]
    have h2 : d.offCoord (ix3 q n h) 1 = h.val := rfl
    rw [h1, h2]; omega

/-- Whether a key's position is not before the sequence. -/
def posOK (b n : Nat) : BitVec 1 :=
  IntOp.cmpi .sge (IntOp.addi (IntOp.subi (IntOp.muli (BitVec.ofNat 32 b) 128#32) 128#32) (BitVec.ofNat 32 n)) 0#32
theorem r48 (i : S128x1x256.Idx) : val_main_v48 (F := Ideal) i = posOK (i 0).val (i 2).val := by
  simp only [val_main_v48_apply, val_main_v47_apply, val_main_c_6_apply, val_main_v45_apply, val_main_v43_apply, val_main_v44_apply,
    val_main_v41_apply, val_main_v39_apply, val_main_v40_apply, val_main_c_5_apply, val_main_v37_apply, val_main_v36_apply,
    val_main_v38_apply, val_main_c_4_apply, val_main_v42_apply, val_main_v25_apply, val_main_v24_apply]
  rfl
theorem rvalid (i : S1x128x4x8x128x256.Idx) :
    val_main_call3_v1 (F := Ideal) i = IntOp.andi (inW (i 4).val (i 5).val) (posOK (i 1).val (i 5).val) := by
  simp only [val_main_call3_v1_apply, val_main_v81_apply, val_main_v51_apply, val_main_v49_apply, val_main_v46_apply, r35,
    val_main_v50_apply, r48]
theorem posOK_eq (b : Fin 128) (n : Fin 256) : posOK b.val n.val = if 0 < b.val ∨ 128 ≤ n.val then 1#1 else 0#1 := by
  have hb := b.isLt
  have hn := n.isLt
  have e : IntOp.addi (IntOp.subi (IntOp.muli (BitVec.ofNat 32 b.val) 128#32) 128#32) (BitVec.ofNat 32 n.val)
      = BitVec.ofInt 32 ((b.val : Int) * 128 - 128 + n.val) := by
    unfold IntOp.addi IntOp.subi IntOp.muli
    apply BitVec.eq_of_toInt_eq
    have h1 : (BitVec.ofNat 32 b.val).toInt = (b.val : Int) := Cert.KernelIdeal.Att.toInt_small _ (by omega)
    have h2 : (BitVec.ofNat 32 n.val).toInt = (n.val : Int) := Cert.KernelIdeal.Att.toInt_small _ (by omega)
    simp [BitVec.toInt_ofInt, BitVec.toInt_sub, BitVec.toInt_add, BitVec.toInt_mul, h1, h2]
  have hi : (BitVec.ofInt 32 ((b.val : Int) * 128 - 128 + n.val)).toInt = (b.val : Int) * 128 - 128 + n.val := by
    rw [BitVec.toInt_ofInt]; simp only [Int.bmod]; omega
  unfold posOK IntOp.cmpi
  rw [e]
  simp only [BitVec.sle, hi]
  have h0 : (0#32 : BitVec 32).toInt = 0 := by decide
  rw [h0]
  by_cases h : 0 < b.val ∨ 128 ≤ n.val
  · rw [if_pos h, decide_eq_true (by omega)]; rfl
  · rw [if_neg h, decide_eq_false (by omega)]; rfl

/-- The scaled products of a query with the keys. -/
theorem r21 (x : TP) (i : S1x128x4x8x128x256.Idx) :
    val_main_v21 (F := Ideal) x i = (∑ e : Fin 64,
      val_main_v13 (F := Ideal) x (fun a => match a with
        | ⟨0, _⟩ => ⟨(i 0).val, (i 0).isLt⟩ | ⟨1, _⟩ => ⟨(i 1).val, (i 1).isLt⟩ | ⟨2, _⟩ => ⟨(i 5).val, (i 5).isLt⟩
        | ⟨3, _⟩ => ⟨(i 2).val, (i 2).isLt⟩ | ⟨4, _⟩ => ⟨e.val, e.isLt⟩)
      * val_main_v9 (F := Ideal) x (fun a => match a with
        | ⟨0, _⟩ => ⟨(i 0).val, (i 0).isLt⟩ | ⟨1, _⟩ => ⟨(i 1).val, (i 1).isLt⟩ | ⟨2, _⟩ => ⟨(i 4).val, (i 4).isLt⟩
        | ⟨3, _⟩ => ⟨(i 2).val, (i 2).isLt⟩ | ⟨4, _⟩ => ⟨(i 3).val, (i 3).isLt⟩ | ⟨5, _⟩ => ⟨e.val, e.isLt⟩))
      * Ideal.ofBits .f32 0x3E000000#32 := by
  simp only [val_main_v21_apply, val_main_v20_apply, val_main_cst_apply, val_main_v19_apply, val_main_v18_apply]
  rfl
theorem r83 (R : TR) (i : S1x128x4x8x128x256.Idx) (h : Fin 32) (hh : h.val = 8 * (i 2).val + (i 3).val) (b : Fin 32)
    (hb : bucketW (distW (i 4).val (i 5).val) = BitVec.ofNat 32 b.val) :
    val_main_v83 (F := Ideal) R i = R (ix2 b h) := by
  have h2 : (i 2).val < 4 := (i 2).isLt
  have h3 : (i 3).val < 8 := (i 3).isLt
  have h4 : (i 4).val < 128 := (i 4).isLt
  have h5 : (i 5).val < 256 := (i 5).isLt
  simp only [val_main_v83_apply, val_main_v82_apply, val_main_v80_apply, val_main_v79_apply]
  rw [← r78 R ⟨(i 4).val, h4⟩ ⟨(i 5).val, h5⟩ h b hb]
  refine congrArg (val_main_v78 (F := Ideal) R) ?_
  funext a
  match a with
  | ⟨0, _⟩ => refine Fin.ext ?_; show _ = (i 4).val; simp; omega
  | ⟨1, _⟩ => refine Fin.ext ?_; show _ = (i 5).val; simp; omega
  | ⟨2, _⟩ => refine Fin.ext ?_; show _ = h.val; simp; omega

/-- The sink of a head. -/
theorem r86 (S : TS) (i : S4x8x1x1.Idx) (h : Fin 32) (hh : h.val = 8 * (i 0).val + (i 1).val) :
    val_main_v86 (F := Ideal) S i = S (ix1 h) := by
  have h2 : (i 2).val < 1 := (i 2).isLt
  have h3 : (i 3).val < 1 := (i 3).isLt
  rw [val_main_v86_apply]
  refine congrArg S ?_
  funext a
  match a with
  | ⟨0, _⟩ => refine Fin.ext ?_; show _ = h.val; simp; omega

/-- The index of a logit: block, key head, query head within it, query, key. -/
abbrev i6 (b : Fin 128) (h : Fin 4) (g : Fin 8) (q : Fin 128) (n : Fin 256) : S1x128x4x8x128x256.Idx := fun a => match a with
  | ⟨0, _⟩ => ⟨0, Nat.one_pos⟩ | ⟨1, _⟩ => ⟨b.val, b.isLt⟩ | ⟨2, _⟩ => ⟨h.val, h.isLt⟩ | ⟨3, _⟩ => ⟨g.val, g.isLt⟩
  | ⟨4, _⟩ => ⟨q.val, q.isLt⟩ | ⟨5, _⟩ => ⟨n.val, n.isLt⟩
abbrev i5 (b : Fin 128) (h : Fin 4) (g : Fin 8) (q : Fin 128) : S1x128x4x8x128.Idx := fun a => match a with
  | ⟨0, _⟩ => ⟨0, Nat.one_pos⟩ | ⟨1, _⟩ => ⟨b.val, b.isLt⟩ | ⟨2, _⟩ => ⟨h.val, h.isLt⟩ | ⟨3, _⟩ => ⟨g.val, g.isLt⟩
  | ⟨4, _⟩ => ⟨q.val, q.isLt⟩
abbrev i61 (b : Fin 128) (h : Fin 4) (g : Fin 8) (q : Fin 128) : S1x128x4x8x128x1.Idx := fun a => match a with
  | ⟨0, _⟩ => ⟨0, Nat.one_pos⟩ | ⟨1, _⟩ => ⟨b.val, b.isLt⟩ | ⟨2, _⟩ => ⟨h.val, h.isLt⟩ | ⟨3, _⟩ => ⟨g.val, g.isLt⟩
  | ⟨4, _⟩ => ⟨q.val, q.isLt⟩ | ⟨5, _⟩ => ⟨0, Nat.one_pos⟩

theorem r87 (P : TP) (R : TR) (b : Fin 128) (h : Fin 4) (g : Fin 8) (q : Fin 128) :
    val_main_v87 (F := Ideal) P R (i5 b h g q)
      = Finset.univ.fold max negInf (fun n : Fin 256 => (val_main_v85 (F := Ideal) P R (i6 b h g q n) : EReal)) := by
  unfold val_main_v87
  generalize val_main_v85 (F := Ideal) P R = y
  rw [Host.reduce_eq_fold_single (FloatOps.maximumf (F := Ideal) (φ := .f32)) y _ reducesTo_S1x128x4x8x128x256_S1x128x4x8x128_d5 (by decide)]
  refine congrArg (Finset.univ.fold max negInf) (funext fun n => congrArg y (funext fun a => Fin.ext ?_))
  match a with | ⟨0, _⟩ => rfl | ⟨1, _⟩ => rfl | ⟨2, _⟩ => rfl | ⟨3, _⟩ => rfl | ⟨4, _⟩ => rfl | ⟨5, _⟩ => rfl

/-- The maximum of a row and its sink. -/
def rowMax (l : Fin 256 → EReal) (s : EReal) : EReal := max (Finset.univ.fold max negInf l) s

theorem r91 (P : TP) (R : TR) (S : TS) (b : Fin 128) (h : Fin 4) (g : Fin 8) (q : Fin 128) (hd : Fin 32) (hh : hd.val = 8 * h.val + g.val)
    (j : S1x128x4x8x128x1.Idx) (hj : j = i61 b h g q) :
    val_main_v91 (F := Ideal) P R S j
      = rowMax (fun n : Fin 256 => (val_main_v85 (F := Ideal) P R (i6 b h g q n) : EReal)) (S (ix1 hd)) := by
  subst hj
  rw [val_main_v91_apply, val_main_v88_apply, val_main_v90_apply, val_main_v89_apply, r86 S _ hd hh]
  exact congrArg (fun t : EReal => max t (S (ix1 hd))) (r87 P R b h g q)

theorem r94 (P : TP) (R : TR) (S : TS) (b : Fin 128) (h : Fin 4) (g : Fin 8) (q : Fin 128) (hd : Fin 32) (hh : hd.val = 8 * h.val + g.val)
    (n : Fin 256) (j : S1x128x4x8x128x256.Idx) (hj : j = i6 b h g q n) :
    val_main_v94 (F := Ideal) P R S j
      = Ideal.exp ((val_main_v85 (F := Ideal) P R (i6 b h g q n) : EReal)
        - rowMax (fun n : Fin 256 => (val_main_v85 (F := Ideal) P R (i6 b h g q n) : EReal)) (S (ix1 hd))) := by
  subst hj
  rw [val_main_v94_apply, val_main_v93_apply, val_main_v92_apply, r91 P R S b h g q hd hh _ (by
    funext a
    match a with | ⟨0, _⟩ => rfl | ⟨1, _⟩ => rfl | ⟨2, _⟩ => rfl | ⟨3, _⟩ => rfl | ⟨4, _⟩ => rfl | ⟨5, _⟩ => rfl)]
  rfl

theorem r101 (P : TP) (R : TR) (S : TS) (b : Fin 128) (h : Fin 4) (g : Fin 8) (q : Fin 128) (hd : Fin 32) (hh : hd.val = 8 * h.val + g.val)
    (j : S1x128x4x8x128x1.Idx) (hj : j = i61 b h g q) :
    val_main_v101 (F := Ideal) P R S j
      = (∑ n : Fin 256, Ideal.exp ((val_main_v85 (F := Ideal) P R (i6 b h g q n) : EReal)
        - rowMax (fun n : Fin 256 => (val_main_v85 (F := Ideal) P R (i6 b h g q n) : EReal)) (S (ix1 hd))))
        + Ideal.exp ((S (ix1 hd) : EReal) - rowMax (fun n : Fin 256 => (val_main_v85 (F := Ideal) P R (i6 b h g q n) : EReal)) (S (ix1 hd))) := by
  rw [val_main_v101_apply, val_main_v96_apply, val_main_v100_apply, val_main_v99_apply, val_main_v98_apply, val_main_v97_apply,
    r91 P R S b h g q hd hh j hj, val_main_v95_apply, val_main_cst_19_apply, r86 S _ hd (by subst hj; exact hh)]
  refine congrArg₂ (fun s t : EReal => s + t) ?_ rfl
  rw [show (FloatOps.ofBits .f32 0x00000000#32 : Ideal .f32) = (0 : EReal) from Ideal.ofBits_zero_f32, zero_add]
  refine Finset.sum_congr rfl fun n _ => ?_
  exact r94 P R S b h g q hd hh n _ (by
    subst hj
    funext a
    match a with | ⟨0, _⟩ => rfl | ⟨1, _⟩ => rfl | ⟨2, _⟩ => rfl | ⟨3, _⟩ => rfl | ⟨4, _⟩ => rfl | ⟨5, _⟩ => rfl)

/-- One row of attention with a sink, the weights divided before they are summed against the values. -/
def att2 (l : Fin 256 → EReal) (s : EReal) (v : Fin 256 → EReal) : EReal :=
  ∑ n, v n * Ideal.div (Ideal.exp (l n - rowMax l s)) ((∑ n, Ideal.exp (l n - rowMax l s)) + Ideal.exp (s - rowMax l s))

abbrev iv (b : Fin 128) (n : Fin 256) (h : Fin 4) (e : Fin 64) : S1x128x256x4x64.Idx := fun a => match a with
  | ⟨0, _⟩ => ⟨0, Nat.one_pos⟩ | ⟨1, _⟩ => ⟨b.val, b.isLt⟩ | ⟨2, _⟩ => ⟨n.val, n.isLt⟩ | ⟨3, _⟩ => ⟨h.val, h.isLt⟩ | ⟨4, _⟩ => ⟨e.val, e.isLt⟩

theorem r107 (P : TP) (R : TR) (S : TS) (r : Fin 16384) (c : Fin 2048) (b : Fin 128) (h : Fin 4) (g : Fin 8) (q : Fin 128) (e : Fin 64)
    (hd : Fin 32) (hh : hd.val = 8 * h.val + g.val) (er : r.val = 128 * b.val + q.val) (ec : c.val = 512 * h.val + 64 * g.val + e.val) :
    val_main_v107 (F := Ideal) P R S (ix2 r c)
      = att2 (fun n : Fin 256 => (val_main_v85 (F := Ideal) P R (i6 b h g q n) : EReal)) (S (ix1 hd))
        (fun n => (val_main_v17 (F := Ideal) P (iv b n h e) : EReal)) := by
  rw [val_main_v107_apply]
  unfold val_main_v106
  rw [shapeCast_apply (val_main_v105 (F := Ideal) P R S) shapeCasts_S1x128x128x4x8x64_S16384x2048 (ix2 r c)
    (fun a => match a with
      | ⟨0, _⟩ => ⟨0, Nat.one_pos⟩ | ⟨1, _⟩ => ⟨b.val, b.isLt⟩ | ⟨2, _⟩ => ⟨q.val, q.isLt⟩ | ⟨3, _⟩ => ⟨h.val, h.isLt⟩
      | ⟨4, _⟩ => ⟨g.val, g.isLt⟩ | ⟨5, _⟩ => ⟨e.val, e.isLt⟩)
    (by rewrite [Shape.rowMajor_val_two, Shape.rowMajor_val_six]
        show ((((0 * 128 + b.val) * 128 + q.val) * 4 + h.val) * 8 + g.val) * 64 + e.val = r.val * 2048 + c.val
        omega)]
  rw [val_main_v105_apply, val_main_v104_apply]
  show (∑ n : Fin 256, _ : EReal) = _
  unfold att2
  refine Finset.sum_congr rfl fun n _ => ?_
  refine congrArg₂ (fun s t : EReal => s * t) (congrArg (val_main_v17 (F := Ideal) P) (funext fun a => by
    match a with | ⟨0, _⟩ => rfl | ⟨1, _⟩ => rfl | ⟨2, _⟩ => rfl | ⟨3, _⟩ => rfl | ⟨4, _⟩ => rfl)) ?_
  rw [val_main_v103_apply, val_main_v102_apply, r94 P R S b h g q hd hh n _ (by
    funext a
    match a with | ⟨0, _⟩ => rfl | ⟨1, _⟩ => rfl | ⟨2, _⟩ => rfl | ⟨3, _⟩ => rfl | ⟨4, _⟩ => rfl | ⟨5, _⟩ => rfl),
    r101 P R S b h g q hd hh _ (by
    funext a
    match a with | ⟨0, _⟩ => rfl | ⟨1, _⟩ => rfl | ⟨2, _⟩ => rfl | ⟨3, _⟩ => rfl | ⟨4, _⟩ => rfl | ⟨5, _⟩ => rfl)]
  rfl

end Cert.ReferenceIdeal.Att
end
end
-- ==== Proof.AttMath.lean ====
module

public import proofs.«01_k».proof.Proof.AttRef

@[expose] public section
set_option maxRecDepth 16384
noncomputable section
open Idealize.ShloMosaic Idealize.ShloMosaic.TcCoe Idealize.SL.Sem
namespace Cert.Proof.Att
open Cert.KernelIdeal.Att Cert.ReferenceIdeal.Att

theorem negInf_eq : negInf = (⊥ : EReal) := by
  simp [negInf, Ideal.ofBits, Ideal.ieee]

theorem exp_real (x : ℝ) : Ideal.exp ((x : ℝ) : EReal) = ((Real.exp x : ℝ) : EReal) := rfl
theorem exp_bot : Ideal.exp ⊥ = 0 := rfl

/-- The exponential of a value below the top is a real number that is not negative. -/
theorem exp_lt (x : EReal) (hx : x < ⊤) : ∃ r : ℝ, 0 ≤ r ∧ Ideal.exp x = ((r : ℝ) : EReal) := by
  induction x using EReal.rec with
  | bot => exact ⟨0, le_refl _, by rw [exp_bot]; rfl⟩
  | coe r => exact ⟨Real.exp r, (Real.exp_pos r).le, rfl⟩
  | top => exact absurd hx (lt_irrefl _)

theorem sum_mul_real (s : Finset (Fin 256)) (f : Fin 256 → EReal) (c : ℝ) (hc : 0 ≤ c) :
    (∑ n ∈ s, f n) * (c : EReal) = ∑ n ∈ s, f n * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

theorem sum_mul_real64 (s : Finset (Fin 64)) (f : Fin 64 → EReal) (c : ℝ) (hc : 0 ≤ c) :
    (∑ n ∈ s, f n) * (c : EReal) = ∑ n ∈ s, f n * (c : EReal) := by
  classical
  induction s using Finset.induction_on with
  | empty => simp
  | insert a s ha ih =>
    rw [Finset.sum_insert ha, Finset.sum_insert ha, ← ih,
      EReal.right_distrib_of_nonneg_of_ne_top (by exact_mod_cast hc) (EReal.coe_ne_top c)]

/-- Dividing the sum or dividing the weights: the same, when no logit is the top and the sink is a number. -/
theorem att_eq (l l' : Fin 256 → EReal) (s : ℝ) (v v' : Fin 256 → EReal) (hl : ∀ n, l n = l' n) (ht : ∀ n, l n < ⊤)
    (hv : ∀ n, l n = ⊥ ∨ v n = v' n) : att1 l (s : EReal) v = att2 l' (s : EReal) v' := by
  obtain rfl : l = l' := funext hl
  unfold att1 att2
  change Ideal.div (∑ n, Ideal.exp (l n - rowMax l s) * v n) ((∑ n, Ideal.exp (l n - rowMax l s)) + Ideal.exp ((s : EReal) - rowMax l s)) = _
  obtain ⟨m, hm⟩ : ∃ m : ℝ, rowMax l (s : EReal) = (m : EReal) := by
    have h1 : rowMax l (s : EReal) ≠ ⊤ := by
      unfold rowMax
      refine ne_of_lt (max_lt ?_ (EReal.coe_lt_top s))
      rw [Finset.fold_max_lt]
      exact ⟨by rw [negInf_eq]; exact bot_lt_top, fun n _ => ht n⟩
    have h2 : rowMax l (s : EReal) ≠ ⊥ := by
      unfold rowMax
      exact ne_of_gt (lt_of_lt_of_le (EReal.bot_lt_coe s) (le_max_right _ _))
    exact ⟨(rowMax l (s : EReal)).toReal, (EReal.coe_toReal h1 h2).symm⟩
  rw [hm]
  have hp : ∀ n, ∃ r : ℝ, 0 ≤ r ∧ Ideal.exp (l n - (m : EReal)) = (r : EReal) := fun n => by
    apply exp_lt
    have := ht n
    generalize l n = z at this ⊢
    induction z using EReal.rec with
    | bot => rw [EReal.bot_sub]; exact bot_lt_top
    | coe r => rw [← EReal.coe_sub]; exact EReal.coe_lt_top _
    | top => exact absurd this (lt_irrefl _)
  choose p hp0 hp using hp
  have hz : ∀ n, l n = ⊥ → p n = 0 := fun n h => by
    have := hp n
    rw [h, EReal.bot_sub, exp_bot] at this
    exact_mod_cast this.symm
  have hs : Ideal.exp ((s : EReal) - (m : EReal)) = ((Real.exp (s - m) : ℝ) : EReal) := by
    rw [← EReal.coe_sub]; rfl
  simp only [hp, hs]
  have hD : (∑ n, ((p n : ℝ) : EReal)) + ((Real.exp (s - m) : ℝ) : EReal) = (((∑ n, p n) + Real.exp (s - m) : ℝ) : EReal) := by
    rw [EReal.coe_add]; congr 1
  rw [hD]
  have hpos : 0 < (∑ n, p n) + Real.exp (s - m) := by
    have := Finset.sum_nonneg (fun n (_ : n ∈ (Finset.univ : Finset (Fin 256))) => hp0 n)
    have := Real.exp_pos (s - m)
    linarith
  generalize (∑ n, p n) + Real.exp (s - m) = D at hpos
  rw [Ideal.div_coe hpos.ne', sum_mul_real _ _ _ (by positivity)]
  refine Finset.sum_congr rfl fun n _ => ?_
  rw [Ideal.div_coe hpos.ne']
  rcases hv n with h | h
  · rw [hz n h]; simp
  · rw [h]; rw [mul_comm ((p n : ℝ) : EReal), mul_assoc]

theorem w8b : Ideal.ofBits .bf16 0x3E00#16 = ((1/8 : ℝ) : EReal) := by
  simp [Ideal.ofBits, Ideal.ieee]; rw [← EReal.coe_mul]; norm_num
theorem w8f : Ideal.ofBits .f32 0x3E000000#32 = ((1/8 : ℝ) : EReal) := by
  simp [Ideal.ofBits, Ideal.ieee]; rw [← EReal.coe_mul]; norm_num

/-- A logit: scaled product plus bias inside the window and the sequence, the bottom elsewhere. -/
def logit (P : TP) (R : TR) (b : Fin 128) (h : Fin 4) (g : Fin 8) (q : Fin 128) (n : Fin 256) : EReal :=
  Cert.ReferenceIdeal.Read.val_main_v85 (F := Ideal) P R (i6 b h g q n)

theorem ok_cases (b : Fin 128) (q : Fin 128) (n : Fin 256) :
    (posOK b.val n.val = 0#1 ∧ okB' b.val n = 0#1) ∨ (inW q.val n.val = 0#1 ∧ okB' b.val n = 1#1)
      ∨ (inW q.val n.val = 1#1 ∧ posOK b.val n.val = 1#1 ∧ okB' b.val n = 1#1 ∧ (0 < b.val ∨ 128 ≤ n.val)) := by
  have h1 := posOK_eq b n
  have h2 := inW_eq q n
  unfold okB'
  by_cases hp : 0 < b.val ∨ 128 ≤ n.val
  · rw [if_pos hp] at h1 ⊢
    by_cases hw : n.val ≤ q.val + 128 ∧ q.val < n.val
    · rw [if_pos hw] at h2; exact Or.inr (Or.inr ⟨h2, h1, rfl, hp⟩)
    · rw [if_neg hw] at h2; exact Or.inr (Or.inl ⟨h2, rfl⟩)
  · rw [if_neg hp] at h1 ⊢; exact Or.inl ⟨h1, rfl⟩

/-- The reference's logit, read: the bottom outside, the scaled product plus the bias inside. -/
theorem logit_out (P : TP) (R : TR) (b : Fin 128) (h : Fin 4) (g : Fin 8) (q : Fin 128) (n : Fin 256)
    (ho : IntOp.andi (inW q.val n.val) (posOK b.val n.val) = 0#1) : logit P R b h g q n = ⊥ := by
  unfold logit
  rw [Cert.ReferenceIdeal.Read.val_main_v85_apply, rvalid]
  rw [show IntOp.andi (inW ((i6 b h g q n) 4).val ((i6 b h g q n) 5).val) (posOK ((i6 b h g q n) 1).val ((i6 b h g q n) 5).val) = 0#1 from ho]
  rw [Cert.ReferenceIdeal.Read.val_main_call3_v2_apply, Cert.ReferenceIdeal.Read.val_main_call3_v0_apply, Cert.ReferenceIdeal.Read.val_main_cst_17_apply]
  exact negInf_eq

theorem logit_in (P : TP) (R : TR) (b : Fin 128) (h : Fin 4) (g : Fin 8) (q : Fin 128) (n : Fin 256)
    (hw : inW q.val n.val = 1#1) (hp : posOK b.val n.val = 1#1) (hv : 0 < b.val ∨ 128 ≤ n.val)
    (r : Nat) (hr : r < 16384) (er : r = 128 * b.val + q.val) (hd : Fin 32) (hh : hd.val = 8 * h.val + g.val)
    (u : Fin 32) (hu : bucketW (distW q.val n.val) = BitVec.ofNat 32 u.val) :
    logit P R b h g q n = (∑ e : Fin 64, (P (ix2 ⟨kvRow b.val n.val, kvRow_lt _ _ b.isLt n.isLt⟩ ⟨7168 + 64 * h.val + e.val, by omega⟩) : EReal)
      * P (ix2 ⟨r, hr⟩ ⟨64 * hd.val + e.val, by omega⟩)) * ((1/8 : ℝ) : EReal) + R (ix2 u hd) := by
  unfold logit
  rw [Cert.ReferenceIdeal.Read.val_main_v85_apply, rvalid]
  rw [show IntOp.andi (inW ((i6 b h g q n) 4).val ((i6 b h g q n) 5).val) (posOK ((i6 b h g q n) 1).val ((i6 b h g q n) 5).val) = 1#1 from by
    show IntOp.andi (inW q.val n.val) (posOK b.val n.val) = 1#1
    rw [hw, hp]; rfl]
  show (Cert.ReferenceIdeal.Read.val_main_v84 (F := Ideal) P R (i6 b h g q n) : EReal) = _
  rw [Cert.ReferenceIdeal.Read.val_main_v84_apply, r21, r83 R (i6 b h g q n) hd hh u hu, w8f]
  refine congrArg₂ (fun s t : EReal => s + t) (congrArg (fun s : EReal => s * ((1/8 : ℝ) : EReal)) ?_) rfl
  refine Finset.sum_congr rfl fun e _ => ?_
  exact congrArg₂ (fun s t : EReal => s * t)
    (r13 P _ (7168 + 64 * h.val + e.val) (by omega) rfl b rfl n rfl hv)
    (r9 P _ r (64 * hd.val + e.val) hr (by omega) er (by show _ = 512 * h.val + 64 * g.val + e.val; omega))

/-- The kernel's logit is the reference's. -/
theorem logit_eq (P : TP) (R : TR) (b : Fin 128) (h : Fin 4) (g : Fin 8) (q : Fin 128) (n : Fin 256)
    (r : Nat) (hr : r < 16384) (er : r = 128 * b.val + q.val) (hd : Fin 32) (hh : hd.val = 8 * h.val + g.val) :
    Scalar.select (okB' b.val n) ((∑ e : Fin 64, (P (ix2 ⟨r, hr⟩ ⟨64 * hd.val + e.val, by omega⟩) : EReal) * Ideal.ofBits .bf16 0x3E00#16
      * P (ix2 ⟨kvRow b.val n.val, kvRow_lt _ _ b.isLt n.isLt⟩ ⟨7168 + 64 * h.val + e.val, by omega⟩))
      + biasSel (tabW q.val n.val) (fun u => (R (ix2 u hd) : EReal))) negInf = logit P R b h g q n := by
  rcases ok_cases b q n with ⟨hp, ho⟩ | ⟨hw, ho⟩ | ⟨hw, hp, ho, hv⟩
  · rw [ho, logit_out P R b h g q n (by rw [hp]; unfold IntOp.andi; generalize inW q.val n.val = w; revert w; decide)]
    exact negInf_eq
  · rw [ho, logit_out P R b h g q n (by rw [hw]; unfold IntOp.andi; generalize posOK b.val n.val = w; revert w; decide)]
    have : tabW q.val n.val = -1#32 := by unfold tabW; rw [hw]; rfl
    rw [this, biasSel_neg, negInf_eq]
    show _ + (⊥ : EReal) = ⊥
    rw [EReal.add_bot]
  · obtain ⟨d, hd1, hd2⟩ := dist_in q n hw
    obtain ⟨u, hu⟩ := bucket_lt d hd1
    rw [← hd2] at hu
    rw [ho, logit_in P R b h g q n hw hp hv r hr er hd hh u hu]
    have : tabW q.val n.val = BitVec.ofNat 32 u.val := by unfold tabW; rw [hw, hu]; exact if_pos rfl
    rw [this, biasSel_of]
    show _ + (R (ix2 u hd) : EReal) = _
    refine congrArg (fun s : EReal => s + (R (ix2 u hd) : EReal)) ?_
    rw [sum_mul_real64 _ _ _ (by norm_num), w8b]
    refine Finset.sum_congr rfl fun e _ => ?_
    rw [mul_right_comm, mul_comm (P (ix2 ⟨r, hr⟩ ⟨64 * hd.val + e.val, _⟩) : EReal)]

/-- With finite queries, keys and biases no logit is the top. -/
theorem logit_lt (P : TP) (R : TR) (b : Fin 128) (h : Fin 4) (g : Fin 8) (q : Fin 128) (n : Fin 256)
    (hq : ∀ r c, (hc : c < 2048) → ∃ x : ℝ, (P (ix2 r ⟨c, by omega⟩) : EReal) = (x : EReal))
    (hk : ∀ r c, (hc : c < 256) → ∃ x : ℝ, (P (ix2 r ⟨7168 + c, by omega⟩) : EReal) = (x : EReal))
    (hR : ∀ u k, ∃ x : ℝ, (R (ix2 u k) : EReal) = (x : EReal)) : logit P R b h g q n < ⊤ := by
  rcases ok_cases b q n with ⟨hp, ho⟩ | ⟨hw, ho⟩ | ⟨hw, hp, ho, hv⟩
  · rw [logit_out P R b h g q n (by rw [hp]; unfold IntOp.andi; generalize inW q.val n.val = w; revert w; decide)]
    exact bot_lt_top
  · rw [logit_out P R b h g q n (by rw [hw]; unfold IntOp.andi; generalize posOK b.val n.val = w; revert w; decide)]
    exact bot_lt_top
  · obtain ⟨d, hd1, hd2⟩ := dist_in q n hw
    obtain ⟨u, hu⟩ := bucket_lt d hd1
    rw [← hd2] at hu
    rw [logit_in P R b h g q n hw hp hv (128 * b.val + q.val) (by omega) rfl ⟨8 * h.val + g.val, by omega⟩ rfl u hu]
    have h1 : ∀ e : Fin 64, ∃ x : ℝ, (P (ix2 ⟨kvRow b.val n.val, kvRow_lt _ _ b.isLt n.isLt⟩ ⟨7168 + 64 * h.val + e.val, by omega⟩) : EReal) = (x : EReal) :=
      fun e => by
        have := hk ⟨kvRow b.val n.val, kvRow_lt _ _ b.isLt n.isLt⟩ (64 * h.val + e.val) (by omega)
        simpa only [Nat.add_assoc] using this
    have h2 : ∀ e : Fin 64, ∃ x : ℝ, (P (ix2 ⟨128 * b.val + q.val, by omega⟩ ⟨64 * (8 * h.val + g.val) + e.val, by omega⟩) : EReal) = (x : EReal) :=
      fun e => hq _ _ (by omega)
    choose x hx using h1
    choose y hy using h2
    obtain ⟨z, hz⟩ := hR u ⟨8 * h.val + g.val, by omega⟩
    rw [hz]
    simp only [hx, hy]
    have : (∑ e : Fin 64, ((x e : ℝ) : EReal) * ((y e : ℝ) : EReal)) = ((∑ e, x e * y e : ℝ) : EReal) := by
      simp only [← EReal.coe_mul]
      exact (map_sum (⟨⟨Real.toEReal, rfl⟩, EReal.coe_add⟩ : ℝ →+ EReal) (fun e => x e * y e) Finset.univ).symm
    rw [this, ← EReal.coe_mul, ← EReal.coe_add]
    exact EReal.coe_lt_top _

/-- The kernel's array is the reference's. -/
theorem value_eq (P : TP) (R : TR) (S : TS) (B : (⟨3, ![32, 128, 256]⟩ : Shape).Idx → EReal)
    (hB : ∀ (k : Fin 32) (q : Fin 128) (n : Fin 256), B (ix3 k q n) = biasSel (tabW q.val n.val) (fun u => (R (ix2 u k) : EReal)))
    (hq : ∀ r c, (hc : c < 2048) → ∃ x : ℝ, (P (ix2 r ⟨c, by omega⟩) : EReal) = (x : EReal))
    (hk : ∀ r c, (hc : c < 256) → ∃ x : ℝ, (P (ix2 r ⟨7168 + c, by omega⟩) : EReal) = (x : EReal))
    (hR : ∀ u k, ∃ x : ℝ, (R (ix2 u k) : EReal) = (x : EReal))
    (hS : ∀ k, ∃ x : ℝ, (S (ix1 k) : EReal) = (x : EReal)) (r : Fin 16384) (c : Fin 2048) :
    attArr P B S r c = Cert.ReferenceIdeal.Read.val_main_v107 (F := Ideal) P R S (ix2 r c) := by
  have hr := r.isLt
  have hc := c.isLt
  obtain ⟨s, hs⟩ := hS ⟨c.val / 64, by omega⟩
  rw [r107 P R S r c ⟨r.val / 128, by omega⟩ ⟨c.val / 512, by omega⟩ ⟨c.val / 64 % 8, by omega⟩ ⟨r.val % 128, by omega⟩ ⟨c.val % 64, by omega⟩
    ⟨c.val / 64, by omega⟩ (by show c.val / 64 = 8 * (c.val / 512) + c.val / 64 % 8; omega)
    (by show r.val = 128 * (r.val / 128) + r.val % 128; omega)
    (by show c.val = 512 * (c.val / 512) + 64 * (c.val / 64 % 8) + c.val % 64; omega)]
  unfold attArr
  rw [hs]
  have hl : ∀ n : Fin 256, Scalar.select (okB' (r.val / 128) n)
      ((∑ e : Fin 64, (P (ix2 r ⟨64 * (c.val / 64) + e.val, by omega⟩) : EReal) * Ideal.ofBits .bf16 0x3E00#16
          * P (ix2 ⟨kvRow (r.val / 128) n, kvRow_lt _ _ (by omega) n.isLt⟩ ⟨7168 + 64 * (c.val / 512) + e.val, by omega⟩))
        + B (ix3 ⟨c.val / 64, by omega⟩ ⟨r.val % 128, by omega⟩ n)) negInf
      = logit P R ⟨r.val / 128, by omega⟩ ⟨c.val / 512, by omega⟩ ⟨c.val / 64 % 8, by omega⟩ ⟨r.val % 128, by omega⟩ n := fun n => by
    rw [hB]
    exact logit_eq P R ⟨r.val / 128, by omega⟩ ⟨c.val / 512, by omega⟩ ⟨c.val / 64 % 8, by omega⟩ ⟨r.val % 128, by omega⟩ n r.val hr
      (by show r.val = 128 * (r.val / 128) + r.val % 128; omega) ⟨c.val / 64, by omega⟩
      (by show c.val / 64 = 8 * (c.val / 512) + c.val / 64 % 8; omega)
  refine att_eq _ _ s _ _ (fun n => hl n) (fun n => ?_) (fun n => ?_)
  · refine lt_of_eq_of_lt (hl n) (logit_lt P R _ _ _ _ n hq hk hR)
  · by_cases hv : 0 < r.val / 128 ∨ 128 ≤ n.val
    · right
      exact (r17 P _ (7424 + 64 * (c.val / 512) + c.val % 64) (by omega) rfl ⟨r.val / 128, by omega⟩ rfl n rfl hv).symm
    · left
      refine (hl n).trans (logit_out P R _ _ _ _ n ?_)
      have h1 := posOK_eq ⟨r.val / 128, by omega⟩ n
      rw [if_neg hv] at h1
      rw [h1]; unfold IntOp.andi; generalize inW (r.val % 128) n.val = w; revert w; decide

end Cert.Proof.Att
end
end
-- ==== Proof.AttRun.lean ====
module

public import proofs.«01_k».proof.Proof.AttMath

@[expose] public section
-- membership in a rectangle of production extents (`View.cover_of_tiled`): the elaborator's structural look
-- recurses once per coordinate of the long axes
set_option maxRecDepth 16384

noncomputable section

namespace Cert.KernelIdeal.Att
open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- The kernel's run: the result ends with the last segment's contents, and the arguments end unchanged. -/
theorem run_W6 : θ_run defs (onTc (τ := τ) (main (F := F))) ⟨m, fun _ => 0, ρ⟩ (fun r => (∀ c : Dev nD,
      r.2.mem ((c.tc : Thread nD τ).loc main_v36) = W6 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨(fun c =>
      ⟨(h c _ (mem_uc main_v36 (by decide))),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c)⟩), funext fun g => hz g (.inr (no_unscoped g.2))⟩)

/-- The kernel's result, at the arguments as launched. -/
theorem W6_out (m : (ℓ : Loc nD τ sig) → Buf (Elt Ideal) ℓ) (ρ : Dev nD → PrngReg) (c : Dev nD) (r : Fin 16384) (l : Fin 2048) :
    (W6 m ρ c (Proc.devRef .tc main_v36) : FVec Ideal S16384x2048 .bf16) (ix2 r l)
      = attArr (m ((c : Thread nD τ).loc main_arg0)) (W5 m ρ c (Proc.devRef .tc main_v35)) (m ((c : Thread nD τ).loc main_arg2)) r l := by
  have h := arr7 (V5 m ρ) c r l
  rw [show V5 m ρ c main_arg0 = m ((c : Thread nD τ).loc main_arg0) from W5_args m ρ c main_arg0 (by decide),
    show V5 m ρ c main_arg2 = m ((c : Thread nD τ).loc main_arg2) from W5_args m ρ c main_arg2 (by decide)] at h
  exact (congrFun (W6_arr m ρ c 7) (ix2 r l)).trans h

/-- The bias the first call leaves, from the relative biases as launched. -/
theorem W5_bias (m : (ℓ : Loc nD τ sig) → Buf (Elt Ideal) ℓ) (ρ : Dev nD → PrngReg) (c : Dev nD) (k : Fin 32) (q : Fin 128) (n : Fin 256) :
    (W5 m ρ c (Proc.devRef .tc main_v35) : FVec Ideal S32x128x256 .f32) (ix3 k q n)
      = biasSel (tabW q.val n.val) (fun u => (m ((c : Thread nD τ).loc main_arg1) : FVec Ideal S32x32 .f32) (ix2 u k)) := by
  have h := arr0 (V4 m ρ) c k q n
  unfold biasArr at h
  rw [show V4 m ρ c main_arg1 = m ((c : Thread nD τ).loc main_arg1) from W4_args m ρ c main_arg1 (by decide), tab m ρ c q n] at h
  exact (congrFun (W5_arr m ρ c 2) (ix3 k q n)).trans h

end Cert.KernelIdeal.Att
end
-- ==== Proof.AttPre.lean ====
module

public import proofs.«01_k».proof.Defs
public import proofs.«01_k».proof.Proof.AttMath

@[expose] public section
set_option maxRecDepth 16384
noncomputable section
open Idealize.ShloMosaic Idealize.ShloMosaic.TcCoe Idealize.SL.Sem
namespace Cert.Proof.Att
open Cert.ReferenceIdeal.Att

theorem factsPre : Cert.Pre_finite.Facts where
  slices_S16384x8192_S16384x2048_0_0 := by decide
  slices_S16384x8192_S16384x256_0_7168 := by decide
  bcast_S_S16384x2048 := by decide
  bcast_S_S16384x256 := by decide
  bcast_S_S32x32 := by decide
  bcast_S_S32 := by decide

/-- A value whose absolute value is below the top is a real number. -/
theorem real_of_abs (x t : EReal) (ht : t = ⊤) (h : Ideal.cmp .olt (max x (-x)) t = 1#1) : ∃ r : ℝ, x = r := by
  subst ht
  have h' : max x (-x) < ⊤ := by
    by_contra hn
    revert h
    simp [Ideal.cmp, hn]
  induction x with
  | bot => simp at h'
  | top => simp at h'
  | coe r => exact ⟨r, rfl⟩

theorem topB : (Ideal.ofBits .bf16 0x7F80#16 : EReal) = ⊤ := by simp [Ideal.ofBits, Ideal.ieee]
theorem topF : (Ideal.ofBits .f32 0x7F800000#32 : EReal) = ⊤ := by simp [Ideal.ofBits, Ideal.ieee]

attribute [local instance] factsPre

/-- The queries are real numbers. -/
theorem real_q (P : TP) (R : TR) (S : TS) (h : (Cert.Pre_finite.fn (F := Ideal) P R S).1 = (fun _ => 1#1)) (r : Fin 16384) (c : ℕ) (hc : c < 2048) :
    ∃ x : ℝ, P (ix2 r ⟨c, by omega⟩) = x := by
  have e := congrFun h (ix2 r ⟨c, hc⟩)
  have e2 : Ideal.cmp .olt (max (extractStridedSlice (s := Cert.Pre_finite.S16384x8192) Cert.Pre_finite.S16384x2048 ![0, 0] P factsPre.slices_S16384x8192_S16384x2048_0_0 (ix2 r (⟨c, hc⟩ : Fin 2048)))
      (-(extractStridedSlice (s := Cert.Pre_finite.S16384x8192) Cert.Pre_finite.S16384x2048 ![0, 0] P factsPre.slices_S16384x8192_S16384x2048_0_0 (ix2 r (⟨c, hc⟩ : Fin 2048))))) (Ideal.ofBits .bf16 0x7F80#16) = 1#1 := e
  rw [extractStridedSlice_apply (s := Cert.Pre_finite.S16384x8192) ![0, 0] P factsPre.slices_S16384x8192_S16384x2048_0_0 _ (ix2 r (⟨c, by omega⟩ : Fin 8192))
    (by intro a; fin_cases a <;> simp [ix2])] at e2
  exact real_of_abs _ _ topB e2

/-- The keys are real numbers. -/
theorem real_k (P : TP) (R : TR) (S : TS) (h : (Cert.Pre_finite.fn (F := Ideal) P R S).2.1 = (fun _ => 1#1)) (r : Fin 16384) (c : ℕ) (hc : c < 256) :
    ∃ x : ℝ, P (ix2 r ⟨7168 + c, by omega⟩) = x := by
  have e := congrFun h (ix2 r ⟨c, hc⟩)
  have e2 : Ideal.cmp .olt (max (extractStridedSlice (s := Cert.Pre_finite.S16384x8192) Cert.Pre_finite.S16384x256 ![0, 7168] P factsPre.slices_S16384x8192_S16384x256_0_7168 (ix2 r (⟨c, hc⟩ : Fin 256)))
      (-(extractStridedSlice (s := Cert.Pre_finite.S16384x8192) Cert.Pre_finite.S16384x256 ![0, 7168] P factsPre.slices_S16384x8192_S16384x256_0_7168 (ix2 r (⟨c, hc⟩ : Fin 256))))) (Ideal.ofBits .bf16 0x7F80#16) = 1#1 := e
  rw [extractStridedSlice_apply (s := Cert.Pre_finite.S16384x8192) ![0, 7168] P factsPre.slices_S16384x8192_S16384x256_0_7168 _ (ix2 r (⟨7168 + c, by omega⟩ : Fin 8192))
    (by intro a; fin_cases a <;> simp [ix2])] at e2
  exact real_of_abs _ _ topB e2

/-- The relative biases are real numbers. -/
theorem real_R (P : TP) (R : TR) (S : TS) (h : (Cert.Pre_finite.fn (F := Ideal) P R S).2.2.1 = (fun _ => 1#1)) (u k : Fin 32) :
    ∃ x : ℝ, R (ix2 u k) = x := by
  have e : Ideal.cmp .olt (max (R (ix2 u k)) (-(R (ix2 u k)))) (Ideal.ofBits .f32 0x7F800000#32) = 1#1 := congrFun h (ix2 u k)
  exact real_of_abs _ _ topF e

/-- The sinks are real numbers. -/
theorem real_S (P : TP) (R : TR) (S : TS) (h : (Cert.Pre_finite.fn (F := Ideal) P R S).2.2.2 = (fun _ => 1#1)) (k : Fin 32) :
    ∃ x : ℝ, S (ix1 k) = x := by
  have e : Ideal.cmp .olt (max (S (ix1 k)) (-(S (ix1 k)))) (Ideal.ofBits .f32 0x7F800000#32) = 1#1 := congrFun h (ix1 k)
  exact real_of_abs _ _ topF e

end Cert.Proof.Att
end
-- ==== Proof.lean ====
module

public import proofs.«01_k».proof.Proof.FfnAlg
public import proofs.«01_k».proof.Proof.FoAlg
public import proofs.«01_k».proof.Proof.InArr
public import proofs.«01_k».proof.Proof.MixAlg
public import proofs.«01_k».proof.Proof.NormArr
public import proofs.«01_k».proof.Proof.Gen.FfnIn
public import proofs.«01_k».proof.Proof.Gen.FfnIn.Frame
public import proofs.«01_k».proof.Proof.Gen.FfnInIdeal
public import proofs.«01_k».proof.Proof.Gen.FfnInIdeal.Frame
public import proofs.«01_k».proof.Proof.Gen.FfnInRefIdeal
public import proofs.«01_k».proof.Proof.Gen.FfnInRefIdeal.Run
public import proofs.«01_k».proof.Proof.Gen.FfnInRefIdeal.Read
public import proofs.«01_k».proof.Proof.Gen.FfnOut
public import proofs.«01_k».proof.Proof.Gen.FfnOut.Frame
public import proofs.«01_k».proof.Proof.Gen.FfnOutIdeal.Frame
public import proofs.«01_k».proof.Proof.Gen.FfnOutIdeal.Value
public import proofs.«01_k».proof.Proof.Gen.FfnOutRefIdeal.Run
public import proofs.«01_k».proof.Proof.Gen.FfnOutRefIdeal.Read
public import proofs.«01_k».proof.Proof.Gen.InProj
public import proofs.«01_k».proof.Proof.Gen.InProj.Frame
public import proofs.«01_k».proof.Proof.Gen.InProjIdeal.Frame
public import proofs.«01_k».proof.Proof.Gen.InProjIdeal.Value
public import proofs.«01_k».proof.Proof.Gen.InProjRefIdeal.Run
public import proofs.«01_k».proof.Proof.Gen.InProjRefIdeal.Read
public import proofs.«01_k».proof.Proof.Gen.MixOut
public import proofs.«01_k».proof.Proof.Gen.MixOut.Frame
public import proofs.«01_k».proof.Proof.Gen.MixOutIdeal.Frame
public import proofs.«01_k».proof.Proof.Gen.MixOutIdeal.Value
public import proofs.«01_k».proof.Proof.Gen.MixOutRefIdeal.Run
public import proofs.«01_k».proof.Proof.Gen.MixOutRefIdeal.Read
public import proofs.«01_k».proof.Proof.Gen.FinalNorm
public import proofs.«01_k».proof.Proof.Gen.FinalNorm.Frame
public import proofs.«01_k».proof.Proof.Gen.FinalNormIdeal.Frame
public import proofs.«01_k».proof.Proof.Gen.FinalNormIdeal.Value
public import proofs.«01_k».proof.Proof.Gen.FinalNormRefIdeal.Run
public import proofs.«01_k».proof.Proof.Gen.FinalNormRefIdeal.Read
public import proofs.«01_k».proof.Proof.Gen.ResPrep
public import proofs.«01_k».proof.Proof.Gen.ResPrep.Frame
public import proofs.«01_k».proof.Proof.Gen.ResPrepIdeal.Frame
public import proofs.«01_k».proof.Proof.Gen.ResPrepIdeal.Value
public import proofs.«01_k».proof.Proof.Gen.ResPrepRefIdeal.Run
public import proofs.«01_k».proof.Proof.Gen.ResPrepRefIdeal.Read
public import proofs.«01_k».proof.Proof.Gen.FfnPrep
public import proofs.«01_k».proof.Proof.Gen.FfnPrep.Frame
public import proofs.«01_k».proof.Proof.Gen.FfnPrepIdeal.Frame
public import proofs.«01_k».proof.Proof.Gen.FfnPrepIdeal.Value
public import proofs.«01_k».proof.Proof.Gen.FfnPrepRefIdeal.Run
public import proofs.«01_k».proof.Proof.Gen.FfnPrepRefIdeal.Read
public import proofs.«01_k».proof.Proof.Gen.InPrep
public import proofs.«01_k».proof.Proof.Gen.InPrep.Frame
public import proofs.«01_k».proof.Proof.Gen.InPrepIdeal.Frame
public import proofs.«01_k».proof.Proof.Gen.InPrepIdeal.Value
public import proofs.«01_k».proof.Proof.Gen.InPrepRefIdeal.Run
public import proofs.«01_k».proof.Proof.Gen.InPrepRefIdeal.Read
public import proofs.«01_k».proof.Proof.Gen.Conf
public import proofs.«01_k».proof.Proof.Gen.Conf.Frame
public import proofs.«01_k».proof.Proof.Gen.ConfIdeal.Frame
public import proofs.«01_k».proof.Proof.Gen.ConfIdeal.Value
public import proofs.«01_k».proof.Proof.Gen.ConfRefIdeal.Run
public import proofs.«01_k».proof.Proof.Gen.ConfRefIdeal.Read
public import proofs.«01_k».proof.Proof.ResArr
public import proofs.«01_k».proof.Proof.FpArr
public import proofs.«01_k».proof.Proof.IpArr
public import proofs.«01_k».proof.Proof.CfAlg
public import proofs.«01_k».proof.Proof.AttRun
public import proofs.«01_k».proof.Proof.AttPre
public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init

@[expose] public section

noncomputable section

namespace Cert.Proof

open Idealize.ShloMosaic Idealize.SL.Sem Cert.Kernel

/-- The reference runs, its arguments end unchanged, and it has no semaphore. -/
theorem frameRef : quiescent_ReferenceIdeal (hReferenceIdeal := Cert.ReferenceIdeal.Gen.facts) := fun m g _ =>
  (θ_run (Cert.ReferenceIdeal.defs (F := Ideal)) (onTc (τ := Cert.ReferenceIdeal.τ) (Cert.ReferenceIdeal.main (F := Ideal))) _).mono
    (fun r h => And.intro (fun c => (h c).2) (sem_eq_zero_of_no_sems (by decide) r.2)) (Cert.ReferenceIdeal.Value.run m g)

/-- The kernel's result is the reference's, where the precondition holds. -/
theorem out_eq (m : (ℓ : Loc Cert.KernelIdeal.nD Cert.KernelIdeal.τ Cert.KernelIdeal.sig) → Buf (Elt Ideal) ℓ)
    (g : Dev Cert.KernelIdeal.nD → PrngReg) (h : Pre_KernelIdeal_finite (hPre_finite := Att.factsPre) m) (c : Dev Cert.KernelIdeal.nD) :
    Cert.KernelIdeal.Gen.W6 m g c (Proc.devRef .tc Cert.KernelIdeal.main_v36)
      = Cert.ReferenceIdeal.Read.val_main_v107 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)) := by
  obtain ⟨hq, hk, hR, hS⟩ := h c
  refine funext fun (i : (⟨2, ![16384, 2048]⟩ : Shape).Idx) => ?_
  rw [eq_ix2 i]
  exact (Cert.KernelIdeal.Att.W6_out m g c (i 0) (i 1)).trans
    (Att.value_eq _ (m ((c.tc : Thread Cert.KernelIdeal.nD Cert.KernelIdeal.τ).loc Cert.KernelIdeal.main_arg1)) _ _ (Cert.KernelIdeal.Att.W5_bias m g c)
      (Att.real_q _ _ _ hq) (Att.real_k _ _ _ hk) (Att.real_R _ _ _ hR) (Att.real_S _ _ _ hS) (i 0) (i 1))

theorem algebraic : algebraic_KernelIdeal_ReferenceIdeal_pre_finite (hKernelIdeal := Cert.KernelIdeal.Gen.facts)
    (hReferenceIdeal := Cert.ReferenceIdeal.Gen.facts) (hPre_finite := Att.factsPre) := by
  intro m g m' g' hpre harg
  refine ⟨fun c => Cert.ReferenceIdeal.Read.val_main_v107 (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2)), ?_, ?_⟩
  · refine (θ_run _ _ _).mono (fun r h c => ?_) (Cert.KernelIdeal.Att.run_W6 m g)
    exact ⟨((h.1 c).1).trans (out_eq m g hpre c), (h.1 c).2⟩
  · refine (θ_run _ _ _).mono (fun r h c => ?_) (Cert.ReferenceIdeal.Value.run m' g')
    refine ⟨((h c).1).trans ((Cert.ReferenceIdeal.Read.val_main_v107_eq m' c).trans ?_), (h c).2⟩
    obtain ⟨h0, h1, h2⟩ := harg c
    exact congr (congrArg₂ (Cert.ReferenceIdeal.Read.val_main_v107 (F := Ideal)) h0 h1) h2

theorem claim : Cert.Claim :=
  ⟨Cert.Kernel.Gen.facts, Cert.KernelIdeal.Gen.facts, Cert.ReferenceIdeal.Gen.facts, Cert.FfnIn.Gen.facts, Cert.FfnInIdeal.Gen.facts, Cert.FfnInRefIdeal.Gen.facts, Cert.FfnOut.Gen.facts, Cert.FfnOutIdeal.Gen.facts, Cert.FfnOutRefIdeal.Gen.facts, Cert.InProj.Gen.facts, Cert.InProjIdeal.Gen.facts, Cert.InProjRefIdeal.Gen.facts, Cert.MixOut.Gen.facts, Cert.MixOutIdeal.Gen.facts, Cert.MixOutRefIdeal.Gen.facts, Cert.FinalNorm.Gen.facts, Cert.FinalNormIdeal.Gen.facts, Cert.FinalNormRefIdeal.Gen.facts,
    Cert.ResPrep.Gen.facts, Cert.ResPrepIdeal.Gen.facts, Cert.ResPrepRefIdeal.Gen.facts,
    Cert.FfnPrep.Gen.facts, Cert.FfnPrepIdeal.Gen.facts, Cert.FfnPrepRefIdeal.Gen.facts,
    Cert.InPrep.Gen.facts, Cert.InPrepIdeal.Gen.facts, Cert.InPrepRefIdeal.Gen.facts,
    Cert.Conf.Gen.facts, Cert.ConfIdeal.Gen.facts, Cert.ConfRefIdeal.Gen.facts,
    Att.factsPre, Ffn.factsPre, Inp.factsPre,
    fun m ρ _ => Cert.Kernel.Gen.frame m ρ, fun m ρ _ => Cert.KernelIdeal.Gen.frame m ρ, fun m ρ _ => Cert.KernelIdeal.Gen.frame m ρ, frameRef, fun m ρ _ => frameRef m ρ trivial,
    fun m ρ _ => Cert.FfnIn.Gen.frame m ρ, fun m ρ _ => Cert.FfnInIdeal.Gen.frame m ρ, fun m ρ _ => Cert.FfnInIdeal.Gen.frame m ρ, Ffn.frameRef, fun m ρ _ => Ffn.frameRef m ρ trivial,
    fun m ρ _ => Cert.FfnOut.Gen.frame m ρ, fun m ρ _ => Cert.FfnOutIdeal.Gen.frame m ρ, Fo.frameRef,
    fun m ρ _ => Cert.InProj.Gen.frame m ρ, fun m ρ _ => Cert.InProjIdeal.Gen.frame m ρ, fun m ρ _ => Cert.InProjIdeal.Gen.frame m ρ, Inp.frameRef, fun m ρ _ => Inp.frameRef m ρ trivial,
    fun m ρ _ => Cert.MixOut.Gen.frame m ρ, fun m ρ _ => Cert.MixOutIdeal.Gen.frame m ρ, Mix.frameRef,
    fun m ρ _ => Cert.FinalNorm.Gen.frame m ρ, fun m ρ _ => Cert.FinalNormIdeal.Gen.frame m ρ, Norm.frameRef,
    fun m ρ _ => Cert.ResPrep.Gen.frame m ρ, fun m ρ _ => Cert.ResPrepIdeal.Gen.frame m ρ, Res.frameRef,
    fun m ρ _ => Cert.FfnPrep.Gen.frame m ρ, fun m ρ _ => Cert.FfnPrepIdeal.Gen.frame m ρ, Fp.frameRef,
    fun m ρ _ => Cert.InPrep.Gen.frame m ρ, fun m ρ _ => Cert.InPrepIdeal.Gen.frame m ρ, Ip.frameRef,
    fun m ρ _ => Cert.Conf.Gen.frame m ρ, fun m ρ _ => Cert.ConfIdeal.Gen.frame m ρ, Cf.frameRef,
    trivial, algebraic, trivial, Ffn.algebraic, trivial, Fo.algebraic, trivial, Inp.algebraic, trivial, Mix.algebraic, trivial, Norm.algebraic, trivial, Res.algebraic, trivial, Fp.algebraic, trivial, Ip.algebraic, trivial, Cf.algebraic⟩

end Cert.Proof

end
